-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)) (v3 : (c : Dev Cert.Kernel5Ideal.nD) → Buf (Elt Ideal) ((c.tc : Thread Cert.Kernel5Ideal.nD Cert.Kernel5Ideal.τ).loc Cert.Kernel5Ideal.main_v1_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_v1_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v38) = v2 c
          ∧ r.2.mem ((c.tc : Thread Cert.Reference5Ideal.nD Cert.Reference5Ideal.τ).loc Cert.Reference5Ideal.main_v40) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v4)) (v1 : (c : Dev Cert.Kernel6Ideal.nD) → Buf (Elt Ideal) ((c.tc : Thread Cert.Kernel6Ideal.nD Cert.Kernel6Ideal.τ).loc Cert.Kernel6Ideal.main_v5)) (v2 : (c : Dev Cert.Kernel6Ideal.nD) → Buf (Elt Ideal) ((c.tc : Thread Cert.Kernel6Ideal.nD Cert.Kernel6Ideal.τ).loc Cert.Kernel6Ideal.main_v9)) (v3 : (c : Dev Cert.Kernel6Ideal.nD) → Buf (Elt Ideal) ((c.tc : Thread Cert.Kernel6Ideal.nD Cert.Kernel6Ideal.τ).loc Cert.Kernel6Ideal.main_v7)) (v4 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_v5) = v1 c
          ∧ r.2.mem ((c.tc : Thread Cert.Kernel6Ideal.nD Cert.Kernel6Ideal.τ).loc Cert.Kernel6Ideal.main_v9) = v2 c
          ∧ r.2.mem ((c.tc : Thread Cert.Kernel6Ideal.nD Cert.Kernel6Ideal.τ).loc Cert.Kernel6Ideal.main_v7) = v3 c
          ∧ r.2.mem ((c.tc : Thread Cert.Kernel6Ideal.nD Cert.Kernel6Ideal.τ).loc Cert.Kernel6Ideal.main_v8) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_v23) = v3 c
          ∧ r.2.mem ((c.tc : Thread Cert.Reference6Ideal.nD Cert.Reference6Ideal.τ).loc Cert.Reference6Ideal.main_v21) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)) (v1 : (c : Dev Cert.Kernel7Ideal.nD) → Buf (Elt Ideal) ((c.tc : Thread Cert.Kernel7Ideal.nD Cert.Kernel7Ideal.τ).loc Cert.Kernel7Ideal.main_v2)) (v2 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_v2) = v1 c
          ∧ r.2.mem ((c.tc : Thread Cert.Kernel7Ideal.nD Cert.Kernel7Ideal.τ).loc Cert.Kernel7Ideal.main_v4) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)) (v1 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_v5) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_v8) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v50) = v0 c
          ∧ r.2.mem ((c.tc : Thread Cert.Reference13Ideal.nD Cert.Reference13Ideal.τ).loc Cert.Reference13Ideal.main_v51) = v1 c
          ∧ r.2.mem ((c.tc : Thread Cert.Reference13Ideal.nD Cert.Reference13Ideal.τ).loc Cert.Reference13Ideal.main_v52) = v2 c
          ∧ r.2.mem ((c.tc : Thread Cert.Reference13Ideal.nD Cert.Reference13Ideal.τ).loc Cert.Reference13Ideal.main_v53) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v5_0)) (v1 : (c : Dev Cert.Kernel17Ideal.nD) → Buf (Elt Ideal) ((c.tc : Thread Cert.Kernel17Ideal.nD Cert.Kernel17Ideal.τ).loc Cert.Kernel17Ideal.main_v5_1)) (v2 : (c : Dev Cert.Kernel17Ideal.nD) → Buf (Elt Ideal) ((c.tc : Thread Cert.Kernel17Ideal.nD Cert.Kernel17Ideal.τ).loc Cert.Kernel17Ideal.main_v5_2)) (v3 : (c : Dev Cert.Kernel17Ideal.nD) → Buf (Elt Ideal) ((c.tc : Thread Cert.Kernel17Ideal.nD Cert.Kernel17Ideal.τ).loc Cert.Kernel17Ideal.main_v5_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5_0) = v0 c
          ∧ r.2.mem ((c.tc : Thread Cert.Kernel17Ideal.nD Cert.Kernel17Ideal.τ).loc Cert.Kernel17Ideal.main_v5_1) = v1 c
          ∧ r.2.mem ((c.tc : Thread Cert.Kernel17Ideal.nD Cert.Kernel17Ideal.τ).loc Cert.Kernel17Ideal.main_v5_2) = v2 c
          ∧ r.2.mem ((c.tc : Thread Cert.Kernel17Ideal.nD Cert.Kernel17Ideal.τ).loc Cert.Kernel17Ideal.main_v5_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v5_0)) (v1 : (c : Dev Cert.Kernel18Ideal.nD) → Buf (Elt Ideal) ((c.tc : Thread Cert.Kernel18Ideal.nD Cert.Kernel18Ideal.τ).loc Cert.Kernel18Ideal.main_v5_1)) (v2 : (c : Dev Cert.Kernel18Ideal.nD) → Buf (Elt Ideal) ((c.tc : Thread Cert.Kernel18Ideal.nD Cert.Kernel18Ideal.τ).loc Cert.Kernel18Ideal.main_v5_2)) (v3 : (c : Dev Cert.Kernel18Ideal.nD) → Buf (Elt Ideal) ((c.tc : Thread Cert.Kernel18Ideal.nD Cert.Kernel18Ideal.τ).loc Cert.Kernel18Ideal.main_v5_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5_0) = v0 c
          ∧ r.2.mem ((c.tc : Thread Cert.Kernel18Ideal.nD Cert.Kernel18Ideal.τ).loc Cert.Kernel18Ideal.main_v5_1) = v1 c
          ∧ r.2.mem ((c.tc : Thread Cert.Kernel18Ideal.nD Cert.Kernel18Ideal.τ).loc Cert.Kernel18Ideal.main_v5_2) = v2 c
          ∧ r.2.mem ((c.tc : Thread Cert.Kernel18Ideal.nD Cert.Kernel18Ideal.τ).loc Cert.Kernel18Ideal.main_v5_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_v11) = v2 c
          ∧ r.2.mem ((c.tc : Thread Cert.Reference18Ideal.nD Cert.Reference18Ideal.τ).loc Cert.Reference18Ideal.main_v17) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v12)) (v1 : (c : Dev Cert.Kernel19Ideal.nD) → Buf (Elt Ideal) ((c.tc : Thread Cert.Kernel19Ideal.nD Cert.Kernel19Ideal.τ).loc Cert.Kernel19Ideal.main_v14)) (v2 : (c : Dev Cert.Kernel19Ideal.nD) → Buf (Elt Ideal) ((c.tc : Thread Cert.Kernel19Ideal.nD Cert.Kernel19Ideal.τ).loc Cert.Kernel19Ideal.main_v16)) (v3 : (c : Dev Cert.Kernel19Ideal.nD) → Buf (Elt Ideal) ((c.tc : Thread Cert.Kernel19Ideal.nD Cert.Kernel19Ideal.τ).loc Cert.Kernel19Ideal.main_v18)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v12) = v0 c
          ∧ r.2.mem ((c.tc : Thread Cert.Kernel19Ideal.nD Cert.Kernel19Ideal.τ).loc Cert.Kernel19Ideal.main_v14) = v1 c
          ∧ r.2.mem ((c.tc : Thread Cert.Kernel19Ideal.nD Cert.Kernel19Ideal.τ).loc Cert.Kernel19Ideal.main_v16) = v2 c
          ∧ r.2.mem ((c.tc : Thread Cert.Kernel19Ideal.nD Cert.Kernel19Ideal.τ).loc Cert.Kernel19Ideal.main_v18) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_v31) = v1 c
          ∧ r.2.mem ((c.tc : Thread Cert.Reference19Ideal.nD Cert.Reference19Ideal.τ).loc Cert.Reference19Ideal.main_v12) = v2 c
          ∧ r.2.mem ((c.tc : Thread Cert.Reference19Ideal.nD Cert.Reference19Ideal.τ).loc Cert.Reference19Ideal.main_v18) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v6)) (v1 : (c : Dev Cert.Kernel20Ideal.nD) → Buf (Elt Ideal) ((c.tc : Thread Cert.Kernel20Ideal.nD Cert.Kernel20Ideal.τ).loc Cert.Kernel20Ideal.main_v7)) (v2 : (c : Dev Cert.Kernel20Ideal.nD) → Buf (Elt Ideal) ((c.tc : Thread Cert.Kernel20Ideal.nD Cert.Kernel20Ideal.τ).loc Cert.Kernel20Ideal.main_v8)) (v3 : (c : Dev Cert.Kernel20Ideal.nD) → Buf (Elt Ideal) ((c.tc : Thread Cert.Kernel20Ideal.nD Cert.Kernel20Ideal.τ).loc Cert.Kernel20Ideal.main_v9)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6) = v0 c
          ∧ r.2.mem ((c.tc : Thread Cert.Kernel20Ideal.nD Cert.Kernel20Ideal.τ).loc Cert.Kernel20Ideal.main_v7) = v1 c
          ∧ r.2.mem ((c.tc : Thread Cert.Kernel20Ideal.nD Cert.Kernel20Ideal.τ).loc Cert.Kernel20Ideal.main_v8) = v2 c
          ∧ r.2.mem ((c.tc : Thread Cert.Kernel20Ideal.nD Cert.Kernel20Ideal.τ).loc Cert.Kernel20Ideal.main_v9) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v33) = v1 c
          ∧ r.2.mem ((c.tc : Thread Cert.Reference20Ideal.nD Cert.Reference20Ideal.τ).loc Cert.Reference20Ideal.main_v14) = v2 c
          ∧ r.2.mem ((c.tc : Thread Cert.Reference20Ideal.nD Cert.Reference20Ideal.τ).loc Cert.Reference20Ideal.main_v20) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)) →
    ∃ (v0 : (c : Dev Cert.Kernel21Ideal.nD) → Buf (Elt Ideal) ((c.tc : Thread Cert.Kernel21Ideal.nD Cert.Kernel21Ideal.τ).loc Cert.Kernel21Ideal.main_v5_0)) (v1 : (c : Dev Cert.Kernel21Ideal.nD) → Buf (Elt Ideal) ((c.tc : Thread Cert.Kernel21Ideal.nD Cert.Kernel21Ideal.τ).loc Cert.Kernel21Ideal.main_v5_1)) (v2 : (c : Dev Cert.Kernel21Ideal.nD) → Buf (Elt Ideal) ((c.tc : Thread Cert.Kernel21Ideal.nD Cert.Kernel21Ideal.τ).loc Cert.Kernel21Ideal.main_v5_2)) (v3 : (c : Dev Cert.Kernel21Ideal.nD) → Buf (Elt Ideal) ((c.tc : Thread Cert.Kernel21Ideal.nD Cert.Kernel21Ideal.τ).loc Cert.Kernel21Ideal.main_v5_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5_0) = v0 c
          ∧ r.2.mem ((c.tc : Thread Cert.Kernel21Ideal.nD Cert.Kernel21Ideal.τ).loc Cert.Kernel21Ideal.main_v5_1) = v1 c
          ∧ r.2.mem ((c.tc : Thread Cert.Kernel21Ideal.nD Cert.Kernel21Ideal.τ).loc Cert.Kernel21Ideal.main_v5_2) = v2 c
          ∧ r.2.mem ((c.tc : Thread Cert.Kernel21Ideal.nD Cert.Kernel21Ideal.τ).loc Cert.Kernel21Ideal.main_v5_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v35) = v0 c
          ∧ r.2.mem ((c.tc : Thread Cert.Reference21Ideal.nD Cert.Reference21Ideal.τ).loc Cert.Reference21Ideal.main_v37) = v1 c
          ∧ r.2.mem ((c.tc : Thread Cert.Reference21Ideal.nD Cert.Reference21Ideal.τ).loc Cert.Reference21Ideal.main_v39) = v2 c
          ∧ r.2.mem ((c.tc : Thread Cert.Reference21Ideal.nD Cert.Reference21Ideal.τ).loc Cert.Reference21Ideal.main_v41) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v6)) (v1 : (c : Dev Cert.Kernel22Ideal.nD) → Buf (Elt Ideal) ((c.tc : Thread Cert.Kernel22Ideal.nD Cert.Kernel22Ideal.τ).loc Cert.Kernel22Ideal.main_v7)) (v2 : (c : Dev Cert.Kernel22Ideal.nD) → Buf (Elt Ideal) ((c.tc : Thread Cert.Kernel22Ideal.nD Cert.Kernel22Ideal.τ).loc Cert.Kernel22Ideal.main_v8)) (v3 : (c : Dev Cert.Kernel22Ideal.nD) → Buf (Elt Ideal) ((c.tc : Thread Cert.Kernel22Ideal.nD Cert.Kernel22Ideal.τ).loc Cert.Kernel22Ideal.main_v9)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v6) = v0 c
          ∧ r.2.mem ((c.tc : Thread Cert.Kernel22Ideal.nD Cert.Kernel22Ideal.τ).loc Cert.Kernel22Ideal.main_v7) = v1 c
          ∧ r.2.mem ((c.tc : Thread Cert.Kernel22Ideal.nD Cert.Kernel22Ideal.τ).loc Cert.Kernel22Ideal.main_v8) = v2 c
          ∧ r.2.mem ((c.tc : Thread Cert.Kernel22Ideal.nD Cert.Kernel22Ideal.τ).loc Cert.Kernel22Ideal.main_v9) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v33) = v1 c
          ∧ r.2.mem ((c.tc : Thread Cert.Reference22Ideal.nD Cert.Reference22Ideal.τ).loc Cert.Reference22Ideal.main_v14) = v2 c
          ∧ r.2.mem ((c.tc : Thread Cert.Reference22Ideal.nD Cert.Reference22Ideal.τ).loc Cert.Reference22Ideal.main_v20) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)) →
    ∃ (v0 : (c : Dev Cert.Kernel23Ideal.nD) → Buf (Elt Ideal) ((c.tc : Thread Cert.Kernel23Ideal.nD Cert.Kernel23Ideal.τ).loc Cert.Kernel23Ideal.main_v5_0)) (v1 : (c : Dev Cert.Kernel23Ideal.nD) → Buf (Elt Ideal) ((c.tc : Thread Cert.Kernel23Ideal.nD Cert.Kernel23Ideal.τ).loc Cert.Kernel23Ideal.main_v5_1)) (v2 : (c : Dev Cert.Kernel23Ideal.nD) → Buf (Elt Ideal) ((c.tc : Thread Cert.Kernel23Ideal.nD Cert.Kernel23Ideal.τ).loc Cert.Kernel23Ideal.main_v5_2)) (v3 : (c : Dev Cert.Kernel23Ideal.nD) → Buf (Elt Ideal) ((c.tc : Thread Cert.Kernel23Ideal.nD Cert.Kernel23Ideal.τ).loc Cert.Kernel23Ideal.main_v5_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v5_0) = v0 c
          ∧ r.2.mem ((c.tc : Thread Cert.Kernel23Ideal.nD Cert.Kernel23Ideal.τ).loc Cert.Kernel23Ideal.main_v5_1) = v1 c
          ∧ r.2.mem ((c.tc : Thread Cert.Kernel23Ideal.nD Cert.Kernel23Ideal.τ).loc Cert.Kernel23Ideal.main_v5_2) = v2 c
          ∧ r.2.mem ((c.tc : Thread Cert.Kernel23Ideal.nD Cert.Kernel23Ideal.τ).loc Cert.Kernel23Ideal.main_v5_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v35) = v0 c
          ∧ r.2.mem ((c.tc : Thread Cert.Reference23Ideal.nD Cert.Reference23Ideal.τ).loc Cert.Reference23Ideal.main_v37) = v1 c
          ∧ r.2.mem ((c.tc : Thread Cert.Reference23Ideal.nD Cert.Reference23Ideal.τ).loc Cert.Reference23Ideal.main_v39) = v2 c
          ∧ r.2.mem ((c.tc : Thread Cert.Reference23Ideal.nD Cert.Reference23Ideal.τ).loc Cert.Reference23Ideal.main_v41) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S4096x3072 : Shape := ⟨2, ![4096, 3072]⟩
abbrev S4096x128 : Shape := ⟨2, ![4096, 128]⟩
abbrev S64x8x64x64 : Shape := ⟨4, ![64, 8, 64, 64]⟩
abbrev S64x8x128x128 : Shape := ⟨4, ![64, 8, 128, 128]⟩
abbrev S4096x1024 : Shape := ⟨2, ![4096, 1024]⟩
abbrev S_ : Shape := ⟨0, ![]⟩
abbrev S1 : Shape := ⟨1, ![1]⟩
abbrev S5 : Shape := ⟨1, ![5]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S64x8x64x64 : S_.BroadcastsInDim S64x8x64x64 (![] : Fin 0 → Fin S64x8x64x64.rank)
  reducesTo_S64x8x64x64_S_d0_1_2_3 : S64x8x64x64.ReducesTo [0, 1, 2, 3] S_
  bcast_S_S64x8x128x128 : S_.BroadcastsInDim S64x8x128x128 (![] : Fin 0 → Fin S64x8x128x128.rank)
  reducesTo_S64x8x128x128_S_d0_1_2_3 : S64x8x128x128.ReducesTo [0, 1, 2, 3] S_
  bcast_S_S4096x1024 : S_.BroadcastsInDim S4096x1024 (![] : Fin 0 → Fin S4096x1024.rank)
  reducesTo_S4096x1024_S_d0_1 : S4096x1024.ReducesTo [0, 1] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S4096x1024 .f32) (main_v3 : IVec S_ 1) (main_v7 : IVec S_ 1) (main_v11 : IVec S_ 1) (main_v15 : IVec S_ 1) : IVec S5 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S4096x3072 .f32) (main_arg1 : FVec F S4096x128 .f32) (main_arg2 : FVec F S64x8x64x64 .f32) (main_arg3 : FVec F S64x8x128x128 .f32) (main_arg4 : FVec F S4096x1024 .f32) : IVec S5 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : FVec F S64x8x64x64 .f32 := Host.absf main_arg2
  let main_cst_2 : FVec F S_ .f32 := constant S_ .f32 0x7F800000#32
  let main_v9 : FVec F S64x8x64x64 .f32 := broadcastInDim S64x8x64x64 ![] bcast_S_S64x8x64x64 main_cst_2
  let main_v10 : IVec S64x8x64x64 1 := cmpf .olt main_v8 main_v9
  let main_c_3 : IVec S_ 1 := constantI S_ 1 1#1
  let main_v11 : IVec S_ 1 := (fun x v => Host.reduce IntOp.andi x v reducesTo_S64x8x64x64_S_d0_1_2_3 h_S_) main_v10 main_c_3
  let main_v12 : FVec F S64x8x128x128 .f32 := Host.absf main_arg3
  let main_cst_4 : FVec F S_ .f32 := constant S_ .f32 0x7F800000#32
  let main_v13 : FVec F S64x8x128x128 .f32 := broadcastInDim S64x8x128x128 ![] bcast_S_S64x8x128x128 main_cst_4
  let main_v14 : IVec S64x8x128x128 1 := cmpf .olt main_v12 main_v13
  let main_c_5 : IVec S_ 1 := constantI S_ 1 1#1
  let main_v15 : IVec S_ 1 := (fun x v => Host.reduce IntOp.andi x v reducesTo_S64x8x128x128_S_d0_1_2_3 h_S_) main_v14 main_c_5
  fn_part1 (F := F) main_arg4 main_v3 main_v7 main_v11 main_v15
-- ==== Kernel.lean ====
abbrev S4096x3072 : Shape := ⟨2, ![4096, 3072]⟩
abbrev S4096x128 : Shape := ⟨2, ![4096, 128]⟩
abbrev S64x8x64x64 : Shape := ⟨4, ![64, 8, 64, 64]⟩
abbrev S64x8x128x128 : Shape := ⟨4, ![64, 8, 128, 128]⟩
abbrev S4096x1024 : Shape := ⟨2, ![4096, 1024]⟩
abbrev S64x1024 : Shape := ⟨2, ![64, 1024]⟩
abbrev S64x128 : Shape := ⟨2, ![64, 128]⟩
abbrev S1x8x64x64 : Shape := ⟨4, ![1, 8, 64, 64]⟩
abbrev S1x8x128x128 : Shape := ⟨4, ![1, 8, 128, 128]⟩
abbrev S64x3072 : Shape := ⟨2, ![64, 3072]⟩
abbrev S8x128x128 : Shape := ⟨3, ![8, 128, 128]⟩
abbrev S1x64x128 : Shape := ⟨3, ![1, 64, 128]⟩
abbrev S8x64x128 : Shape := ⟨3, ![8, 64, 128]⟩
abbrev S64x1 : Shape := ⟨2, ![64, 1]⟩
abbrev S1x64x1 : Shape := ⟨3, ![1, 64, 1]⟩
abbrev S8x64x1 : Shape := ⟨3, ![8, 64, 1]⟩
abbrev S8x64x64 : Shape := ⟨3, ![8, 64, 64]⟩
abbrev S64x64 : Shape := ⟨2, ![64, 64]⟩
abbrev S1x64x64 : Shape := ⟨3, ![1, 64, 64]⟩
abbrev S8x64 : Shape := ⟨2, ![8, 64]⟩
abbrev S8x1x64 : Shape := ⟨3, ![8, 1, 64]⟩
abbrev S8x64x256 : Shape := ⟨3, ![8, 64, 256]⟩
abbrev S8x1x1 : Shape := ⟨3, ![8, 1, 1]⟩
abbrev S8 : Shape := ⟨1, ![8]⟩
abbrev S8x1 : Shape := ⟨2, ![8, 1]⟩
abbrev S8x63x1 : Shape := ⟨3, ![8, 63, 1]⟩

abbrev nBuf : Space → Nat
  | .hbm => 7
  | .vmem => 19
  | .smem => 0
  | _ => 0

abbrev bufTy : (tb : Table) → Fin (tcTables nBuf tb) → BufTy
  | .hbm, ⟨0, _⟩ => ⟨S4096x3072, .f32⟩
  | .hbm, ⟨1, _⟩ => ⟨S4096x128, .f32⟩
  | .hbm, ⟨2, _⟩ => ⟨S64x8x64x64, .f32⟩
  | .hbm, ⟨3, _⟩ => ⟨S64x8x128x128, .f32⟩
  | .hbm, ⟨4, _⟩ => ⟨S4096x1024, .f32⟩
  | .hbm, ⟨5, _⟩ => ⟨S4096x3072, .f32⟩
  | .hbm, ⟨6, _⟩ => ⟨S4096x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x128, .f32⟩
  | .local _ .vmem, ⟨7, _⟩ => ⟨S64x128, .f32⟩
  | .local _ .vmem, ⟨8, _⟩ => ⟨S1x8x64x64, .f32⟩
  | .local _ .vmem, ⟨9, _⟩ => ⟨S1x8x64x64, .f32⟩
  | .local _ .vmem, ⟨10, _⟩ => ⟨S1x8x128x128, .f32⟩
  | .local _ .vmem, ⟨11, _⟩ => ⟨S1x8x128x128, .f32⟩
  | .local _ .vmem, ⟨12, _⟩ => ⟨S64x1024, .f32⟩
  | .local _ .vmem, ⟨13, _⟩ => ⟨S64x1024, .f32⟩
  | .local _ .vmem, ⟨14, _⟩ => ⟨S64x3072, .f32⟩
  | .local _ .vmem, ⟨15, _⟩ => ⟨S64x3072, .f32⟩
  | .local _ .vmem, ⟨16, _⟩ => ⟨S64x128, .f32⟩
  | .local _ .vmem, ⟨17, _⟩ => ⟨S64x128, .f32⟩
  | .local _ .vmem, ⟨18, _⟩ => ⟨S8x128x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x3072 : Shape := ⟨2, ![4096, 3072]⟩
abbrev S4096x128 : Shape := ⟨2, ![4096, 128]⟩
abbrev S64x8x64x64 : Shape := ⟨4, ![64, 8, 64, 64]⟩
abbrev S64x8x128x128 : Shape := ⟨4, ![64, 8, 128, 128]⟩
abbrev S4096x1024 : Shape := ⟨2, ![4096, 1024]⟩
abbrev S64x64x3072 : Shape := ⟨3, ![64, 64, 3072]⟩
abbrev S64x64x128 : Shape := ⟨3, ![64, 64, 128]⟩
abbrev S64x64x1024 : Shape := ⟨3, ![64, 64, 1024]⟩
abbrev S_ : Shape := ⟨0, ![]⟩
abbrev S8x128x128 : Shape := ⟨3, ![8, 128, 128]⟩
abbrev S1x64x3072 : Shape := ⟨3, ![1, 64, 3072]⟩
abbrev S64x3072 : Shape := ⟨2, ![64, 3072]⟩
abbrev S1x64x128 : Shape := ⟨3, ![1, 64, 128]⟩
abbrev S64x128 : Shape := ⟨2, ![64, 128]⟩
abbrev S1x8x64x64 : Shape := ⟨4, ![1, 8, 64, 64]⟩
abbrev S8x64x64 : Shape := ⟨3, ![8, 64, 64]⟩
abbrev S1x8x128x128 : Shape := ⟨4, ![1, 8, 128, 128]⟩
abbrev S1x64x1024 : Shape := ⟨3, ![1, 64, 1024]⟩
abbrev S64x1024 : Shape := ⟨2, ![64, 1024]⟩
abbrev S64x8x128 : Shape := ⟨3, ![64, 8, 128]⟩
abbrev S8x64x128 : Shape := ⟨3, ![8, 64, 128]⟩
abbrev S64x8 : Shape := ⟨2, ![64, 8]⟩
abbrev S8x64 : Shape := ⟨2, ![8, 64]⟩
abbrev S64x64 : Shape := ⟨2, ![64, 64]⟩
abbrev S8x64x1 : Shape := ⟨3, ![8, 64, 1]⟩
abbrev S8x1x64 : Shape := ⟨3, ![8, 1, 64]⟩
abbrev S1x64x64 : Shape := ⟨3, ![1, 64, 64]⟩
abbrev S8x64x256 : Shape := ⟨3, ![8, 64, 256]⟩
abbrev S8x1 : Shape := ⟨2, ![8, 1]⟩
abbrev S8 : Shape := ⟨1, ![8]⟩
abbrev S8x1x1 : Shape := ⟨3, ![8, 1, 1]⟩
abbrev S8x128x64 : Shape := ⟨3, ![8, 128, 64]⟩

abbrev nBuf : Space → Nat
  | .hbm => 330
  | .vmem => 0
  | .smem => 0
  | _ => 0

abbrev hbmTy0_0 (i : Nat) : BufTy := match i % 128 with
  | 0 => ⟨S4096x3072, .f32⟩
  | 1 => ⟨S4096x128, .f32⟩
  | 2 => ⟨S64x8x64x64, .f32⟩
  | 3 => ⟨S64x8x128x128, .f32⟩
  | 4 => ⟨S4096x1024, .f32⟩
  | 5 => ⟨S64x64x3072, .f32⟩
  | 6 => ⟨S64x64x128, .f32⟩
  | 7 => ⟨S64x64x1024, .f32⟩
  | 8 => ⟨S_, .f32⟩
  | 9 => ⟨S8x128x128, .f32⟩
  | 10 => ⟨S_, .f32⟩
  | 11 => ⟨S64x64x3072, .f32⟩
  | 12 => ⟨S_, .f32⟩
  | 13 => ⟨S64x64x128, .f32⟩
  | 14 => ⟨S_, .i32⟩
  | 15 => ⟨S64x64x3072, .f32⟩
  | 16 => ⟨S64x64x128, .f32⟩
  | 17 => ⟨S64x8x64x64, .f32⟩
  | 18 => ⟨S64x8x128x128, .f32⟩
  | 19 => ⟨S64x64x1024, .f32⟩
  | 20 => ⟨S_, .i32⟩
  | 21 => ⟨S8x128x128, .f32⟩
  | 22 => ⟨S64x64x3072, .f32⟩
  | 23 => ⟨S64x64x128, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S1x64x3072, .f32⟩
  | 33 => ⟨S64x3072, .f32⟩
  | 34 => ⟨S_, .i32⟩
  | 35 => ⟨S_, .i32⟩
  | 36 => ⟨S1x64x128, .f32⟩
  | 37 => ⟨S64x128, .f32⟩
  | 38 => ⟨S_, .i32⟩
  | 39 => ⟨S_, .i32⟩
  | 40 => ⟨S_, .i32⟩
  | 41 => ⟨S1x8x64x64, .f32⟩
  | 42 => ⟨S8x64x64, .f32⟩
  | 43 => ⟨S_, .i32⟩
  | 44 => ⟨S_, .i32⟩
  | 45 => ⟨S_, .i32⟩
  | 46 => ⟨S1x8x128x128, .f32⟩
  | 47 => ⟨S8x128x128, .f32⟩
  | 48 => ⟨S_, .i32⟩
  | 49 => ⟨S_, .i32⟩
  | 50 => ⟨S1x64x1024, .f32⟩
  | 51 => ⟨S64x1024, .f32⟩
  | 52 => ⟨S64x1024, .f32⟩
  | 53 => ⟨S64x8x128, .f32⟩
  | 54 => ⟨S8x64x128, .f32⟩
  | 55 => ⟨S_, .f32⟩
  | 56 => ⟨S8x64x128, .f32⟩
  | 57 => ⟨S8x64x128, .f32⟩
  | 58 => ⟨S64x1024, .f32⟩
  | 59 => ⟨S64x8x128, .f32⟩
  | 60 => ⟨S8x64x128, .f32⟩
  | 61 => ⟨S64x1024, .f32⟩
  | 62 => ⟨S64x8x128, .f32⟩
  | 63 => ⟨S8x64x128, .f32⟩
  | 64 => ⟨S64x8, .f32⟩
  | 65 => ⟨S8x64, .f32⟩
  | 66 => ⟨S64x8, .f32⟩
  | 67 => ⟨S8x64, .f32⟩
  | 68 => ⟨S_, .i1⟩
  | 69 => ⟨S64x64, .i1⟩
  | 70 => ⟨S64x64, .i32⟩
  | 71 => ⟨S_, .i32⟩
  | 72 => ⟨S64x64, .i32⟩
  | 73 => ⟨S64x64, .i32⟩
  | 74 => ⟨S64x64, .i32⟩
  | 75 => ⟨S64x64, .i1⟩
  | 76 => ⟨S_, .i1⟩
  | 77 => ⟨S64x64, .i1⟩
  | 78 => ⟨S64x64, .i1⟩
  | 79 => ⟨S_, .i1⟩
  | 80 => ⟨S64x64, .i1⟩
  | 81 => ⟨S64x64, .i32⟩
  | 82 => ⟨S_, .i32⟩
  | 83 => ⟨S64x64, .i32⟩
  | 84 => ⟨S64x64, .i32⟩
  | 85 => ⟨S64x64, .i32⟩
  | 86 => ⟨S64x64, .i1⟩
  | 87 => ⟨S_, .i1⟩
  | 88 => ⟨S64x64, .i1⟩
  | 89 => ⟨S64x64, .i1⟩
  | 90 => ⟨S64x64, .i32⟩
  | 91 => ⟨S64x64, .i32⟩
  | 92 => ⟨S_, .i32⟩
  | 93 => ⟨S64x64, .i32⟩
  | 94 => ⟨S64x64, .i32⟩
  | 95 => ⟨S64x64, .i1⟩
  | 96 => ⟨S64x64, .f32⟩
  | 97 => ⟨S8x64x1, .f32⟩
  | 98 => ⟨S8x1x64, .f32⟩
  | 99 => ⟨S8x64x64, .f32⟩
  | 100 => ⟨S8x64x64, .f32⟩
  | 101 => ⟨S8x64x64, .f32⟩
  | 102 => ⟨S_, .f32⟩
  | 103 => ⟨S_, .f32⟩
  | 104 => ⟨S8x64x64, .i1⟩
  | 105 => ⟨S8x64x64, .f32⟩
  | 106 => ⟨S8x64x64, .f32⟩
  | 107 => ⟨S_, .f32⟩
  | 108 => ⟨S8x64x64, .f32⟩
  | 109 => ⟨S8x64x64, .f32⟩
  | 110 => ⟨S8x64x1, .f32⟩
  | 111 => ⟨S8x64x128, .f32⟩
  | 112 => ⟨S8x64x128, .f32⟩
  | 113 => ⟨S8x64x1, .f32⟩
  | 114 => ⟨S8x64x128, .f32⟩
  | 115 => ⟨S8x64x128, .f32⟩
  | 116 => ⟨S8x64x64, .f32⟩
  | 117 => ⟨S8x64x64, .f32⟩
  | 118 => ⟨S_, .f32⟩
  | 119 => ⟨S_, .f32⟩
  | 120 => ⟨S8x64x64, .i1⟩
  | 121 => ⟨S8x64x64, .f32⟩
  | 122 => ⟨S8x64x64, .f32⟩
  | 123 => ⟨S_, .f32⟩
  | 124 => ⟨S8x64x64, .f32⟩
  | 125 => ⟨S1x64x64, .f32⟩
  | 126 => ⟨S8x64x64, .f32⟩
  | 127 => ⟨S8x64x64, .f32⟩
  | _ => ⟨S4096x3072, .f32⟩

abbrev hbmTy0_1 (i : Nat) : BufTy := match i % 128 with
  | 0 => ⟨S8x64, .f32⟩
  | 1 => ⟨S8x64x1, .f32⟩
  | 2 => ⟨S8x64x128, .f32⟩
  | 3 => ⟨S8x64x128, .f32⟩
  | 4 => ⟨S8x64x256, .f32⟩
  | 5 => ⟨S8x64x256, .f32⟩
  | 6 => ⟨S8x64x256, .f32⟩
  | 7 => ⟨S8x64x128, .f32⟩
  | 8 => ⟨S8x64x128, .f32⟩
  | 9 => ⟨S8x64x64, .f32⟩
  | 10 => ⟨S8x64x64, .f32⟩
  | 11 => ⟨S8x64, .f32⟩
  | 12 => ⟨S8x64x1, .f32⟩
  | 13 => ⟨S8x64x128, .f32⟩
  | 14 => ⟨S8x64x128, .f32⟩
  | 15 => ⟨S8x1, .f32⟩
  | 16 => ⟨S8x64, .f32⟩
  | 17 => ⟨S8x64, .f32⟩
  | 18 => ⟨S8x64, .f32⟩
  | 19 => ⟨S8x64x1, .f32⟩
  | 20 => ⟨S8x64x128, .f32⟩
  | 21 => ⟨S8x64x128, .f32⟩
  | 22 => ⟨S8x1, .f32⟩
  | 23 => ⟨S8, .f32⟩
  | 24 => ⟨S8, .f32⟩
  | 25 => ⟨S8x64x128, .f32⟩
  | 26 => ⟨S8x64x128, .f32⟩
  | 27 => ⟨S8x64x128, .f32⟩
  | 28 => ⟨S8x64x128, .f32⟩
  | 29 => ⟨S8x64x128, .f32⟩
  | 30 => ⟨S8x1x1, .f32⟩
  | 31 => ⟨S8x128x128, .f32⟩
  | 32 => ⟨S8x128x128, .f32⟩
  | 33 => ⟨S8x128x128, .f32⟩
  | 34 => ⟨S8x128x128, .f32⟩
  | 35 => ⟨S64x8x128, .f32⟩
  | 36 => ⟨S64x1024, .f32⟩
  | 37 => ⟨S64x8x128, .f32⟩
  | 38 => ⟨S8x64x128, .f32⟩
  | 39 => ⟨S8x128x64, .f32⟩
  | 40 => ⟨S8x64x128, .f32⟩
  | 41 => ⟨S8x128x64, .f32⟩
  | 42 => ⟨S8x64x128, .f32⟩
  | 43 => ⟨S8x128x128, .f32⟩
  | 44 => ⟨S_, .f32⟩
  | 45 => ⟨S8, .f32⟩
  | 46 => ⟨S8x1x1, .f32⟩
  | 47 => ⟨S8x128x128, .f32⟩
  | 48 => ⟨S8x128x128, .f32⟩
  | 49 => ⟨S_, .f32⟩
  | 50 => ⟨S8, .f32⟩
  | 51 => ⟨S8x128x64, .f32⟩
  | 52 => ⟨S8x64x128, .f32⟩
  | 53 => ⟨S8x64x128, .f32⟩
  | 54 => ⟨S8x64x64, .f32⟩
  | 55 => ⟨S8x128x128, .f32⟩
  | 56 => ⟨S8x128x128, .f32⟩
  | 57 => ⟨S8x128x128, .f32⟩
  | 58 => ⟨S8x64x128, .f32⟩
  | 59 => ⟨S8x64x128, .f32⟩
  | 60 => ⟨S8x128x128, .f32⟩
  | 61 => ⟨S8x128x128, .f32⟩
  | 62 => ⟨S8x128x128, .f32⟩
  | 63 => ⟨S8x64x128, .f32⟩
  | 64 => ⟨S8, .f32⟩
  | 65 => ⟨S8x1, .f32⟩
  | 66 => ⟨S_, .f32⟩
  | 67 => ⟨S8x64, .f32⟩
  | 68 => ⟨S8x64x128, .f32⟩
  | 69 => ⟨S_, .f32⟩
  | 70 => ⟨S8x64, .f32⟩
  | 71 => ⟨S8x64x1, .f32⟩
  | 72 => ⟨S8x64x128, .f32⟩
  | 73 => ⟨S8x64x128, .f32⟩
  | 74 => ⟨S_, .f32⟩
  | 75 => ⟨S8x64, .f32⟩
  | 76 => ⟨S8x64, .f32⟩
  | 77 => ⟨S_, .f32⟩
  | 78 => ⟨S8, .f32⟩
  | 79 => ⟨S8x1, .f32⟩
  | 80 => ⟨S8x64, .f32⟩
  | 81 => ⟨S8x64, .f32⟩
  | 82 => ⟨S_, .f32⟩
  | 83 => ⟨S8x64, .f32⟩
  | 84 => ⟨S8x64, .f32⟩
  | 85 => ⟨S8x64x128, .f32⟩
  | 86 => ⟨S_, .f32⟩
  | 87 => ⟨S8x64, .f32⟩
  | 88 => ⟨S8x64x1, .f32⟩
  | 89 => ⟨S8x64x128, .f32⟩
  | 90 => ⟨S8x64x128, .f32⟩
  | 91 => ⟨S_, .f32⟩
  | 92 => ⟨S8x64, .f32⟩
  | 93 => ⟨S8x64, .f32⟩
  | 94 => ⟨S8x64, .f32⟩
  | 95 => ⟨S8x64x64, .f32⟩
  | 96 => ⟨S8x64x64, .f32⟩
  | 97 => ⟨S8x64x128, .f32⟩
  | 98 => ⟨S8x64x128, .f32⟩
  | 99 => ⟨S8x64x128, .f32⟩
  | 100 => ⟨S8x64x128, .f32⟩
  | 101 => ⟨S_, .f32⟩
  | 102 => ⟨S8x64x256, .f32⟩
  | 103 => ⟨S_, .f32⟩
  | 104 => ⟨S8x64x256, .f32⟩
  | 105 => ⟨S8x64x256, .f32⟩
  | 106 => ⟨S8x64x256, .f32⟩
  | 107 => ⟨S8x64x256, .f32⟩
  | 108 => ⟨S8x64x64, .f32⟩
  | 109 => ⟨S8x64x128, .f32⟩
  | 110 => ⟨S8x64x128, .f32⟩
  | 111 => ⟨S8x64x128, .f32⟩
  | 112 => ⟨S_, .f32⟩
  | 113 => ⟨S8x64, .f32⟩
  | 114 => ⟨S8x64x1, .f32⟩
  | 115 => ⟨S8x64x128, .f32⟩
  | 116 => ⟨S8x64x128, .f32⟩
  | 117 => ⟨S_, .f32⟩
  | 118 => ⟨S8x64, .f32⟩
  | 119 => ⟨S8x64, .f32⟩
  | 120 => ⟨S8x64, .f32⟩
  | 121 => ⟨S_, .f32⟩
  | 122 => ⟨S8x64x64, .f32⟩
  | 123 => ⟨S8x64x64, .f32⟩
  | 124 => ⟨S8x64x64, .f32⟩
  | 125 => ⟨S8x64x64, .f32⟩
  | 126 => ⟨S8x64x64, .f32⟩
  | 127 => ⟨S8x64x128, .f32⟩
  | _ => ⟨S4096x3072, .f32⟩

abbrev hbmTy0_2 (i : Nat) : BufTy := match i % 128 with
  | 0 => ⟨S8x64x128, .f32⟩
  | 1 => ⟨S8x64x128, .f32⟩
  | 2 => ⟨S8x64x128, .f32⟩
  | 3 => ⟨S8x64x128, .f32⟩
  | 4 => ⟨S_, .f32⟩
  | 5 => ⟨S8x64, .f32⟩
  | 6 => ⟨S8x64x1, .f32⟩
  | 7 => ⟨S8x64x128, .f32⟩
  | 8 => ⟨S8x64x128, .f32⟩
  | 9 => ⟨S_, .f32⟩
  | 10 => ⟨S8x64, .f32⟩
  | 11 => ⟨S8x64x128, .f32⟩
  | 12 => ⟨S_, .f32⟩
  | 13 => ⟨S8x64, .f32⟩
  | 14 => ⟨S8x64x1, .f32⟩
  | 15 => ⟨S8x64x128, .f32⟩
  | 16 => ⟨S8x64x128, .f32⟩
  | 17 => ⟨S8x64x128, .f32⟩
  | 18 => ⟨S_, .f32⟩
  | 19 => ⟨S8x64, .f32⟩
  | 20 => ⟨S8x64, .f32⟩
  | 21 => ⟨S8x64x64, .f32⟩
  | 22 => ⟨S_, .f32⟩
  | 23 => ⟨S8x64x64, .f32⟩
  | 24 => ⟨S8x64x64, .f32⟩
  | 25 => ⟨S_, .f32⟩
  | 26 => ⟨S8x64, .f32⟩
  | 27 => ⟨S8x64x1, .f32⟩
  | 28 => ⟨S8x64x64, .f32⟩
  | 29 => ⟨S_, .f32⟩
  | 30 => ⟨S8x64, .f32⟩
  | 31 => ⟨S8x1x64, .f32⟩
  | 32 => ⟨S_, .f32⟩
  | 33 => ⟨S8x64, .f32⟩
  | 34 => ⟨S8x64, .f32⟩
  | 35 => ⟨S_, .f32⟩
  | 36 => ⟨S8x64, .f32⟩
  | 37 => ⟨S8x64, .f32⟩
  | 38 => ⟨S64x8, .f32⟩
  | 39 => ⟨S_, .f32⟩
  | 40 => ⟨S64x128, .f32⟩
  | 41 => ⟨S64x8, .f32⟩
  | 42 => ⟨S_, .f32⟩
  | 43 => ⟨S64x128, .f32⟩
  | 44 => ⟨S64x128, .f32⟩
  | 45 => ⟨S64x8x128, .f32⟩
  | 46 => ⟨S64x1024, .f32⟩
  | 47 => ⟨S_, .f32⟩
  | 48 => ⟨S64x3072, .f32⟩
  | 49 => ⟨S64x8x128, .f32⟩
  | 50 => ⟨S64x1024, .f32⟩
  | 51 => ⟨S_, .f32⟩
  | 52 => ⟨S64x3072, .f32⟩
  | 53 => ⟨S64x3072, .f32⟩
  | 54 => ⟨S_, .f32⟩
  | 55 => ⟨S8x64x128, .f32⟩
  | 56 => ⟨S8x64x128, .f32⟩
  | 57 => ⟨S64x8x128, .f32⟩
  | 58 => ⟨S64x1024, .f32⟩
  | 59 => ⟨S_, .f32⟩
  | 60 => ⟨S64x3072, .f32⟩
  | 61 => ⟨S64x3072, .f32⟩
  | 62 => ⟨S1x64x3072, .f32⟩
  | 63 => ⟨S_, .i32⟩
  | 64 => ⟨S_, .i32⟩
  | 65 => ⟨S64x64x3072, .f32⟩
  | 66 => ⟨S1x64x128, .f32⟩
  | 67 => ⟨S_, .i32⟩
  | 68 => ⟨S_, .i32⟩
  | 69 => ⟨S64x64x128, .f32⟩
  | 70 => ⟨S_, .i32⟩
  | 71 => ⟨S_, .i32⟩
  | 72 => ⟨S4096x3072, .f32⟩
  | 73 => ⟨S4096x128, .f32⟩
  | _ => ⟨S4096x3072, .f32⟩

abbrev hbmTy (i : Nat) : BufTy := match i / 128 with
  | 0 => hbmTy0_0 i
  | 1 => hbmTy0_1 i
  | 2 => hbmTy0_2 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_c : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev main_v6_8 : Ref sig .tc := ⟨.hbm, 23, rfl⟩
abbrev main_while0c_c_10 : Ref sig .tc := ⟨.hbm, 24, rfl⟩
abbrev main_while0c_v9 : Ref sig .tc := ⟨.hbm, 25, rfl⟩
abbrev main_while0b_c_10 : Ref sig .tc := ⟨.hbm, 26, rfl⟩
abbrev main_while0b_v9 : Ref sig .tc := ⟨.hbm, 27, rfl⟩
abbrev main_while0b_c_11 : Ref sig .tc := ⟨.hbm, 28, rfl⟩
abbrev main_while0b_v10 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v11 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v12 : Ref sig .tc := ⟨.hbm, 37, rfl⟩
abbrev main_while0b_call2_c : Ref sig .tc := ⟨.hbm, 38, rfl⟩
abbrev main_while0b_call2_c_0 : Ref sig .tc := ⟨.hbm, 39, rfl⟩
abbrev main_while0b_call2_c_1 : Ref sig .tc := ⟨.hbm, 40, rfl⟩
abbrev main_while0b_call2_v0 : Ref sig .tc := ⟨.hbm, 41, rfl⟩
abbrev main_while0b_v13 : Ref sig .tc := ⟨.hbm, 42, rfl⟩
abbrev main_while0b_call3_c : Ref sig .tc := ⟨.hbm, 43, rfl⟩
abbrev main_while0b_call3_c_0 : Ref sig .tc := ⟨.hbm, 44, rfl⟩
abbrev main_while0b_call3_c_1 : Ref sig .tc := ⟨.hbm, 45, rfl⟩
abbrev main_while0b_call3_v0 : Ref sig .tc := ⟨.hbm, 46, rfl⟩
abbrev main_while0b_v14 : Ref sig .tc := ⟨.hbm, 47, rfl⟩
abbrev main_while0b_call4_c : Ref sig .tc := ⟨.hbm, 48, rfl⟩
abbrev main_while0b_call4_c_0 : Ref sig .tc := ⟨.hbm, 49, rfl⟩
abbrev main_while0b_call4_v0 : Ref sig .tc := ⟨.hbm, 50, rfl⟩
abbrev main_while0b_v15 : Ref sig .tc := ⟨.hbm, 51, rfl⟩
abbrev main_while0b_v16 : Ref sig .tc := ⟨.hbm, 52, rfl⟩
abbrev main_while0b_v17 : Ref sig .tc := ⟨.hbm, 53, rfl⟩
abbrev main_while0b_v18 : Ref sig .tc := ⟨.hbm, 54, rfl⟩
abbrev main_while0b_cst_12 : Ref sig .tc := ⟨.hbm, 55, rfl⟩
abbrev main_while0b_v19 : Ref sig .tc := ⟨.hbm, 56, rfl⟩
abbrev main_while0b_v20 : Ref sig .tc := ⟨.hbm, 57, rfl⟩
abbrev main_while0b_v21 : Ref sig .tc := ⟨.hbm, 58, rfl⟩
abbrev main_while0b_v22 : Ref sig .tc := ⟨.hbm, 59, rfl⟩
abbrev main_while0b_v23 : Ref sig .tc := ⟨.hbm, 60, rfl⟩
abbrev main_while0b_v24 : Ref sig .tc := ⟨.hbm, 61, rfl⟩
abbrev main_while0b_v25 : Ref sig .tc := ⟨.hbm, 62, rfl⟩
abbrev main_while0b_v26 : Ref sig .tc := ⟨.hbm, 63, rfl⟩
abbrev main_while0b_v27 : Ref sig .tc := ⟨.hbm, 64, rfl⟩
abbrev main_while0b_v28 : Ref sig .tc := ⟨.hbm, 65, rfl⟩
abbrev main_while0b_v29 : Ref sig .tc := ⟨.hbm, 66, rfl⟩
abbrev main_while0b_v30 : Ref sig .tc := ⟨.hbm, 67, rfl⟩
abbrev main_while0b_c_13 : Ref sig .tc := ⟨.hbm, 68, rfl⟩
abbrev main_while0b_v31 : Ref sig .tc := ⟨.hbm, 69, rfl⟩
abbrev main_while0b_call5_v0 : Ref sig .tc := ⟨.hbm, 70, rfl⟩
abbrev main_while0b_call5_c : Ref sig .tc := ⟨.hbm, 71, rfl⟩
abbrev main_while0b_call5_v1 : Ref sig .tc := ⟨.hbm, 72, rfl⟩
abbrev main_while0b_call5_v2 : Ref sig .tc := ⟨.hbm, 73, rfl⟩
abbrev main_while0b_call5_v3 : Ref sig .tc := ⟨.hbm, 74, rfl⟩
abbrev main_while0b_call5_v4 : Ref sig .tc := ⟨.hbm, 75, rfl⟩
abbrev main_while0b_call5_c_0 : Ref sig .tc := ⟨.hbm, 76, rfl⟩
abbrev main_while0b_call5_v5 : Ref sig .tc := ⟨.hbm, 77, rfl⟩
abbrev main_while0b_v32 : Ref sig .tc := ⟨.hbm, 78, rfl⟩
abbrev main_while0b_c_14 : Ref sig .tc := ⟨.hbm, 79, rfl⟩
abbrev main_while0b_v33 : Ref sig .tc := ⟨.hbm, 80, rfl⟩
abbrev main_while0b_call6_v0 : Ref sig .tc := ⟨.hbm, 81, rfl⟩
abbrev main_while0b_call6_c : Ref sig .tc := ⟨.hbm, 82, rfl⟩
abbrev main_while0b_call6_v1 : Ref sig .tc := ⟨.hbm, 83, rfl⟩
abbrev main_while0b_call6_v2 : Ref sig .tc := ⟨.hbm, 84, rfl⟩
abbrev main_while0b_call6_v3 : Ref sig .tc := ⟨.hbm, 85, rfl⟩
abbrev main_while0b_call6_v4 : Ref sig .tc := ⟨.hbm, 86, rfl⟩
abbrev main_while0b_call6_c_0 : Ref sig .tc := ⟨.hbm, 87, rfl⟩
abbrev main_while0b_call6_v5 : Ref sig .tc := ⟨.hbm, 88, rfl⟩
abbrev main_while0b_v34 : Ref sig .tc := ⟨.hbm, 89, rfl⟩
abbrev main_while0b_v35 : Ref sig .tc := ⟨.hbm, 90, rfl⟩
abbrev main_while0b_v36 : Ref sig .tc := ⟨.hbm, 91, rfl⟩
abbrev main_while0b_c_15 : Ref sig .tc := ⟨.hbm, 92, rfl⟩
abbrev main_while0b_v37 : Ref sig .tc := ⟨.hbm, 93, rfl⟩
abbrev main_while0b_v38 : Ref sig .tc := ⟨.hbm, 94, rfl⟩
abbrev main_while0b_v39 : Ref sig .tc := ⟨.hbm, 95, rfl⟩
abbrev main_while0b_v40 : Ref sig .tc := ⟨.hbm, 96, rfl⟩
abbrev main_while0b_v41 : Ref sig .tc := ⟨.hbm, 97, rfl⟩
abbrev main_while0b_v42 : Ref sig .tc := ⟨.hbm, 98, rfl⟩
abbrev main_while0b_v43 : Ref sig .tc := ⟨.hbm, 99, rfl⟩
abbrev main_while0b_v44 : Ref sig .tc := ⟨.hbm, 100, rfl⟩
abbrev main_while0b_v45 : Ref sig .tc := ⟨.hbm, 101, rfl⟩
abbrev main_while0b_cst_16 : Ref sig .tc := ⟨.hbm, 102, rfl⟩
abbrev main_while0b_call7_v0 : Ref sig .tc := ⟨.hbm, 103, rfl⟩
abbrev main_while0b_v46_1 : Ref sig .tc := ⟨.hbm, 104, rfl⟩
abbrev main_while0b_call7_v2 : Ref sig .tc := ⟨.hbm, 105, rfl⟩
abbrev main_while0b_v46_0 : Ref sig .tc := ⟨.hbm, 106, rfl⟩
abbrev main_while0b_call7_cst : Ref sig .tc := ⟨.hbm, 107, rfl⟩
abbrev main_while0b_v46_2 : Ref sig .tc := ⟨.hbm, 108, rfl⟩
abbrev main_while0b_v47 : Ref sig .tc := ⟨.hbm, 109, rfl⟩
abbrev main_while0b_v48 : Ref sig .tc := ⟨.hbm, 110, rfl⟩
abbrev main_while0b_v49 : Ref sig .tc := ⟨.hbm, 111, rfl⟩
abbrev main_while0b_v50 : Ref sig .tc := ⟨.hbm, 112, rfl⟩
abbrev main_while0b_v51 : Ref sig .tc := ⟨.hbm, 113, rfl⟩
abbrev main_while0b_v52 : Ref sig .tc := ⟨.hbm, 114, rfl⟩
abbrev main_while0b_v53 : Ref sig .tc := ⟨.hbm, 115, rfl⟩
abbrev main_while0b_v54 : Ref sig .tc := ⟨.hbm, 116, rfl⟩
abbrev main_while0b_v55 : Ref sig .tc := ⟨.hbm, 117, rfl⟩
abbrev main_while0b_cst_17 : Ref sig .tc := ⟨.hbm, 118, rfl⟩
abbrev main_while0b_call8_v0 : Ref sig .tc := ⟨.hbm, 119, rfl⟩
abbrev main_while0b_v56_1 : Ref sig .tc := ⟨.hbm, 120, rfl⟩
abbrev main_while0b_call8_v2 : Ref sig .tc := ⟨.hbm, 121, rfl⟩
abbrev main_while0b_v56_0 : Ref sig .tc := ⟨.hbm, 122, rfl⟩
abbrev main_while0b_call8_cst : Ref sig .tc := ⟨.hbm, 123, rfl⟩
abbrev main_while0b_v56_2 : Ref sig .tc := ⟨.hbm, 124, rfl⟩
abbrev main_while0b_v57 : Ref sig .tc := ⟨.hbm, 125, rfl⟩
abbrev main_while0b_v58 : Ref sig .tc := ⟨.hbm, 126, rfl⟩
abbrev main_while0b_v59 : Ref sig .tc := ⟨.hbm, 127, rfl⟩
abbrev main_while0b_v60 : Ref sig .tc := ⟨.hbm, 128, rfl⟩
abbrev main_while0b_v61 : Ref sig .tc := ⟨.hbm, 129, rfl⟩
abbrev main_while0b_v62 : Ref sig .tc := ⟨.hbm, 130, rfl⟩
abbrev main_while0b_v63 : Ref sig .tc := ⟨.hbm, 131, rfl⟩
abbrev main_while0b_v64 : Ref sig .tc := ⟨.hbm, 132, rfl⟩
abbrev main_while0b_v65 : Ref sig .tc := ⟨.hbm, 133, rfl⟩
abbrev main_while0b_v66 : Ref sig .tc := ⟨.hbm, 134, rfl⟩
abbrev main_while0b_v67 : Ref sig .tc := ⟨.hbm, 135, rfl⟩
abbrev main_while0b_v68 : Ref sig .tc := ⟨.hbm, 136, rfl⟩
abbrev main_while0b_v69 : Ref sig .tc := ⟨.hbm, 137, rfl⟩
abbrev main_while0b_v70 : Ref sig .tc := ⟨.hbm, 138, rfl⟩
abbrev main_while0b_v71 : Ref sig .tc := ⟨.hbm, 139, rfl⟩
abbrev main_while0b_v72 : Ref sig .tc := ⟨.hbm, 140, rfl⟩
abbrev main_while0b_v73 : Ref sig .tc := ⟨.hbm, 141, rfl⟩
abbrev main_while0b_v74 : Ref sig .tc := ⟨.hbm, 142, rfl⟩
abbrev main_while0b_v75 : Ref sig .tc := ⟨.hbm, 143, rfl⟩
abbrev main_while0b_v76 : Ref sig .tc := ⟨.hbm, 144, rfl⟩
abbrev main_while0b_v77 : Ref sig .tc := ⟨.hbm, 145, rfl⟩
abbrev main_while0b_v78 : Ref sig .tc := ⟨.hbm, 146, rfl⟩
abbrev main_while0b_v79 : Ref sig .tc := ⟨.hbm, 147, rfl⟩
abbrev main_while0b_v80 : Ref sig .tc := ⟨.hbm, 148, rfl⟩
abbrev main_while0b_v81 : Ref sig .tc := ⟨.hbm, 149, rfl⟩
abbrev main_while0b_v82 : Ref sig .tc := ⟨.hbm, 150, rfl⟩
abbrev main_while0b_v83 : Ref sig .tc := ⟨.hbm, 151, rfl⟩
abbrev main_while0b_v84 : Ref sig .tc := ⟨.hbm, 152, rfl⟩
abbrev main_while0b_v85 : Ref sig .tc := ⟨.hbm, 153, rfl⟩
abbrev main_while0b_v86 : Ref sig .tc := ⟨.hbm, 154, rfl⟩
abbrev main_while0b_v87 : Ref sig .tc := ⟨.hbm, 155, rfl⟩
abbrev main_while0b_v88 : Ref sig .tc := ⟨.hbm, 156, rfl⟩
abbrev main_while0b_v89 : Ref sig .tc := ⟨.hbm, 157, rfl⟩
abbrev main_while0b_v90 : Ref sig .tc := ⟨.hbm, 158, rfl⟩
abbrev main_while0b_v91 : Ref sig .tc := ⟨.hbm, 159, rfl⟩
abbrev main_while0b_v92 : Ref sig .tc := ⟨.hbm, 160, rfl⟩
abbrev main_while0b_v93 : Ref sig .tc := ⟨.hbm, 161, rfl⟩
abbrev main_while0b_v94 : Ref sig .tc := ⟨.hbm, 162, rfl⟩
abbrev main_while0b_v95 : Ref sig .tc := ⟨.hbm, 163, rfl⟩
abbrev main_while0b_v96 : Ref sig .tc := ⟨.hbm, 164, rfl⟩
abbrev main_while0b_v97 : Ref sig .tc := ⟨.hbm, 165, rfl⟩
abbrev main_while0b_v98 : Ref sig .tc := ⟨.hbm, 166, rfl⟩
abbrev main_while0b_v99 : Ref sig .tc := ⟨.hbm, 167, rfl⟩
abbrev main_while0b_v100 : Ref sig .tc := ⟨.hbm, 168, rfl⟩
abbrev main_while0b_v101 : Ref sig .tc := ⟨.hbm, 169, rfl⟩
abbrev main_while0b_v102 : Ref sig .tc := ⟨.hbm, 170, rfl⟩
abbrev main_while0b_v103 : Ref sig .tc := ⟨.hbm, 171, rfl⟩
abbrev main_while0b_cst_18 : Ref sig .tc := ⟨.hbm, 172, rfl⟩
abbrev main_while0b_v104 : Ref sig .tc := ⟨.hbm, 173, rfl⟩
abbrev main_while0b_v105 : Ref sig .tc := ⟨.hbm, 174, rfl⟩
abbrev main_while0b_v106 : Ref sig .tc := ⟨.hbm, 175, rfl⟩
abbrev main_while0b_v107 : Ref sig .tc := ⟨.hbm, 176, rfl⟩
abbrev main_while0b_cst_19 : Ref sig .tc := ⟨.hbm, 177, rfl⟩
abbrev main_while0b_v108 : Ref sig .tc := ⟨.hbm, 178, rfl⟩
abbrev main_while0b_v109 : Ref sig .tc := ⟨.hbm, 179, rfl⟩
abbrev main_while0b_v110 : Ref sig .tc := ⟨.hbm, 180, rfl⟩
abbrev main_while0b_v111 : Ref sig .tc := ⟨.hbm, 181, rfl⟩
abbrev main_while0b_v112 : Ref sig .tc := ⟨.hbm, 182, rfl⟩
abbrev main_while0b_v113 : Ref sig .tc := ⟨.hbm, 183, rfl⟩
abbrev main_while0b_v114 : Ref sig .tc := ⟨.hbm, 184, rfl⟩
abbrev main_while0b_v115 : Ref sig .tc := ⟨.hbm, 185, rfl⟩
abbrev main_while0b_v116 : Ref sig .tc := ⟨.hbm, 186, rfl⟩
abbrev main_while0b_v117 : Ref sig .tc := ⟨.hbm, 187, rfl⟩
abbrev main_while0b_v118 : Ref sig .tc := ⟨.hbm, 188, rfl⟩
abbrev main_while0b_v119 : Ref sig .tc := ⟨.hbm, 189, rfl⟩
abbrev main_while0b_v120 : Ref sig .tc := ⟨.hbm, 190, rfl⟩
abbrev main_while0b_v121 : Ref sig .tc := ⟨.hbm, 191, rfl⟩
abbrev main_while0b_v122 : Ref sig .tc := ⟨.hbm, 192, rfl⟩
abbrev main_while0b_v123 : Ref sig .tc := ⟨.hbm, 193, rfl⟩
abbrev main_while0b_cst_20 : Ref sig .tc := ⟨.hbm, 194, rfl⟩
abbrev main_while0b_v124 : Ref sig .tc := ⟨.hbm, 195, rfl⟩
abbrev main_while0b_v125 : Ref sig .tc := ⟨.hbm, 196, rfl⟩
abbrev main_while0b_cst_21 : Ref sig .tc := ⟨.hbm, 197, rfl⟩
abbrev main_while0b_v126 : Ref sig .tc := ⟨.hbm, 198, rfl⟩
abbrev main_while0b_v127 : Ref sig .tc := ⟨.hbm, 199, rfl⟩
abbrev main_while0b_v128 : Ref sig .tc := ⟨.hbm, 200, rfl⟩
abbrev main_while0b_v129 : Ref sig .tc := ⟨.hbm, 201, rfl⟩
abbrev main_while0b_cst_22 : Ref sig .tc := ⟨.hbm, 202, rfl⟩
abbrev main_while0b_v130 : Ref sig .tc := ⟨.hbm, 203, rfl⟩
abbrev main_while0b_v131 : Ref sig .tc := ⟨.hbm, 204, rfl⟩
abbrev main_while0b_cst_23 : Ref sig .tc := ⟨.hbm, 205, rfl⟩
abbrev main_while0b_v132 : Ref sig .tc := ⟨.hbm, 206, rfl⟩
abbrev main_while0b_v133 : Ref sig .tc := ⟨.hbm, 207, rfl⟩
abbrev main_while0b_v134 : Ref sig .tc := ⟨.hbm, 208, rfl⟩
abbrev main_while0b_v135 : Ref sig .tc := ⟨.hbm, 209, rfl⟩
abbrev main_while0b_cst_24 : Ref sig .tc := ⟨.hbm, 210, rfl⟩
abbrev main_while0b_v136 : Ref sig .tc := ⟨.hbm, 211, rfl⟩
abbrev main_while0b_v137 : Ref sig .tc := ⟨.hbm, 212, rfl⟩
abbrev main_while0b_v138 : Ref sig .tc := ⟨.hbm, 213, rfl⟩
abbrev main_while0b_cst_25 : Ref sig .tc := ⟨.hbm, 214, rfl⟩
abbrev main_while0b_v139 : Ref sig .tc := ⟨.hbm, 215, rfl⟩
abbrev main_while0b_v140 : Ref sig .tc := ⟨.hbm, 216, rfl⟩
abbrev main_while0b_v141 : Ref sig .tc := ⟨.hbm, 217, rfl⟩
abbrev main_while0b_v142 : Ref sig .tc := ⟨.hbm, 218, rfl⟩
abbrev main_while0b_cst_26 : Ref sig .tc := ⟨.hbm, 219, rfl⟩
abbrev main_while0b_v143 : Ref sig .tc := ⟨.hbm, 220, rfl⟩
abbrev main_while0b_v144 : Ref sig .tc := ⟨.hbm, 221, rfl⟩
abbrev main_while0b_v145 : Ref sig .tc := ⟨.hbm, 222, rfl⟩
abbrev main_while0b_v146 : Ref sig .tc := ⟨.hbm, 223, rfl⟩
abbrev main_while0b_v147 : Ref sig .tc := ⟨.hbm, 224, rfl⟩
abbrev main_while0b_v148 : Ref sig .tc := ⟨.hbm, 225, rfl⟩
abbrev main_while0b_v149 : Ref sig .tc := ⟨.hbm, 226, rfl⟩
abbrev main_while0b_v150 : Ref sig .tc := ⟨.hbm, 227, rfl⟩
abbrev main_while0b_v151 : Ref sig .tc := ⟨.hbm, 228, rfl⟩
abbrev main_while0b_cst_27 : Ref sig .tc := ⟨.hbm, 229, rfl⟩
abbrev main_while0b_v152 : Ref sig .tc := ⟨.hbm, 230, rfl⟩
abbrev main_while0b_cst_28 : Ref sig .tc := ⟨.hbm, 231, rfl⟩
abbrev main_while0b_v153 : Ref sig .tc := ⟨.hbm, 232, rfl⟩
abbrev main_while0b_v154 : Ref sig .tc := ⟨.hbm, 233, rfl⟩
abbrev main_while0b_v155 : Ref sig .tc := ⟨.hbm, 234, rfl⟩
abbrev main_while0b_v156 : Ref sig .tc := ⟨.hbm, 235, rfl⟩
abbrev main_while0b_v157 : Ref sig .tc := ⟨.hbm, 236, rfl⟩
abbrev main_while0b_v158 : Ref sig .tc := ⟨.hbm, 237, rfl⟩
abbrev main_while0b_v159 : Ref sig .tc := ⟨.hbm, 238, rfl⟩
abbrev main_while0b_v160 : Ref sig .tc := ⟨.hbm, 239, rfl⟩
abbrev main_while0b_cst_29 : Ref sig .tc := ⟨.hbm, 240, rfl⟩
abbrev main_while0b_v161 : Ref sig .tc := ⟨.hbm, 241, rfl⟩
abbrev main_while0b_v162 : Ref sig .tc := ⟨.hbm, 242, rfl⟩
abbrev main_while0b_v163 : Ref sig .tc := ⟨.hbm, 243, rfl⟩
abbrev main_while0b_v164 : Ref sig .tc := ⟨.hbm, 244, rfl⟩
abbrev main_while0b_cst_30 : Ref sig .tc := ⟨.hbm, 245, rfl⟩
abbrev main_while0b_v165 : Ref sig .tc := ⟨.hbm, 246, rfl⟩
abbrev main_while0b_v166 : Ref sig .tc := ⟨.hbm, 247, rfl⟩
abbrev main_while0b_v167 : Ref sig .tc := ⟨.hbm, 248, rfl⟩
abbrev main_while0b_call9_cst : Ref sig .tc := ⟨.hbm, 249, rfl⟩
abbrev main_while0b_call9_v0 : Ref sig .tc := ⟨.hbm, 250, rfl⟩
abbrev main_while0b_v168 : Ref sig .tc := ⟨.hbm, 251, rfl⟩
abbrev main_while0b_v169 : Ref sig .tc := ⟨.hbm, 252, rfl⟩
abbrev main_while0b_v170 : Ref sig .tc := ⟨.hbm, 253, rfl⟩
abbrev main_while0b_v171 : Ref sig .tc := ⟨.hbm, 254, rfl⟩
abbrev main_while0b_v172 : Ref sig .tc := ⟨.hbm, 255, rfl⟩
abbrev main_while0b_v173 : Ref sig .tc := ⟨.hbm, 256, rfl⟩
abbrev main_while0b_v174 : Ref sig .tc := ⟨.hbm, 257, rfl⟩
abbrev main_while0b_v175 : Ref sig .tc := ⟨.hbm, 258, rfl⟩
abbrev main_while0b_v176 : Ref sig .tc := ⟨.hbm, 259, rfl⟩
abbrev main_while0b_cst_31 : Ref sig .tc := ⟨.hbm, 260, rfl⟩
abbrev main_while0b_v177 : Ref sig .tc := ⟨.hbm, 261, rfl⟩
abbrev main_while0b_v178 : Ref sig .tc := ⟨.hbm, 262, rfl⟩
abbrev main_while0b_v179 : Ref sig .tc := ⟨.hbm, 263, rfl⟩
abbrev main_while0b_v180 : Ref sig .tc := ⟨.hbm, 264, rfl⟩
abbrev main_while0b_cst_32 : Ref sig .tc := ⟨.hbm, 265, rfl⟩
abbrev main_while0b_v181 : Ref sig .tc := ⟨.hbm, 266, rfl⟩
abbrev main_while0b_v182 : Ref sig .tc := ⟨.hbm, 267, rfl⟩
abbrev main_while0b_cst_33 : Ref sig .tc := ⟨.hbm, 268, rfl⟩
abbrev main_while0b_v183 : Ref sig .tc := ⟨.hbm, 269, rfl⟩
abbrev main_while0b_v184 : Ref sig .tc := ⟨.hbm, 270, rfl⟩
abbrev main_while0b_v185 : Ref sig .tc := ⟨.hbm, 271, rfl⟩
abbrev main_while0b_v186 : Ref sig .tc := ⟨.hbm, 272, rfl⟩
abbrev main_while0b_v187 : Ref sig .tc := ⟨.hbm, 273, rfl⟩
abbrev main_while0b_cst_34 : Ref sig .tc := ⟨.hbm, 274, rfl⟩
abbrev main_while0b_v188 : Ref sig .tc := ⟨.hbm, 275, rfl⟩
abbrev main_while0b_v189 : Ref sig .tc := ⟨.hbm, 276, rfl⟩
abbrev main_while0b_v190 : Ref sig .tc := ⟨.hbm, 277, rfl⟩
abbrev main_while0b_call10_cst : Ref sig .tc := ⟨.hbm, 278, rfl⟩
abbrev main_while0b_call10_v0 : Ref sig .tc := ⟨.hbm, 279, rfl⟩
abbrev main_while0b_v191 : Ref sig .tc := ⟨.hbm, 280, rfl⟩
abbrev main_while0b_cst_35 : Ref sig .tc := ⟨.hbm, 281, rfl⟩
abbrev main_while0b_v192 : Ref sig .tc := ⟨.hbm, 282, rfl⟩
abbrev main_while0b_v193 : Ref sig .tc := ⟨.hbm, 283, rfl⟩
abbrev main_while0b_v194 : Ref sig .tc := ⟨.hbm, 284, rfl⟩
abbrev main_while0b_cst_36 : Ref sig .tc := ⟨.hbm, 285, rfl⟩
abbrev main_while0b_v195 : Ref sig .tc := ⟨.hbm, 286, rfl⟩
abbrev main_while0b_v196 : Ref sig .tc := ⟨.hbm, 287, rfl⟩
abbrev main_while0b_cst_37 : Ref sig .tc := ⟨.hbm, 288, rfl⟩
abbrev main_while0b_v197 : Ref sig .tc := ⟨.hbm, 289, rfl⟩
abbrev main_while0b_v198 : Ref sig .tc := ⟨.hbm, 290, rfl⟩
abbrev main_while0b_cst_38 : Ref sig .tc := ⟨.hbm, 291, rfl⟩
abbrev main_while0b_v199 : Ref sig .tc := ⟨.hbm, 292, rfl⟩
abbrev main_while0b_v200 : Ref sig .tc := ⟨.hbm, 293, rfl⟩
abbrev main_while0b_v201 : Ref sig .tc := ⟨.hbm, 294, rfl⟩
abbrev main_while0b_cst_39 : Ref sig .tc := ⟨.hbm, 295, rfl⟩
abbrev main_while0b_v202 : Ref sig .tc := ⟨.hbm, 296, rfl⟩
abbrev main_while0b_v203 : Ref sig .tc := ⟨.hbm, 297, rfl⟩
abbrev main_while0b_cst_40 : Ref sig .tc := ⟨.hbm, 298, rfl⟩
abbrev main_while0b_v204 : Ref sig .tc := ⟨.hbm, 299, rfl⟩
abbrev main_while0b_v205 : Ref sig .tc := ⟨.hbm, 300, rfl⟩
abbrev main_while0b_v206 : Ref sig .tc := ⟨.hbm, 301, rfl⟩
abbrev main_while0b_v207 : Ref sig .tc := ⟨.hbm, 302, rfl⟩
abbrev main_while0b_cst_41 : Ref sig .tc := ⟨.hbm, 303, rfl⟩
abbrev main_while0b_v208 : Ref sig .tc := ⟨.hbm, 304, rfl⟩
abbrev main_while0b_v209 : Ref sig .tc := ⟨.hbm, 305, rfl⟩
abbrev main_while0b_v210 : Ref sig .tc := ⟨.hbm, 306, rfl⟩
abbrev main_while0b_cst_42 : Ref sig .tc := ⟨.hbm, 307, rfl⟩
abbrev main_while0b_v211 : Ref sig .tc := ⟨.hbm, 308, rfl⟩
abbrev main_while0b_v212 : Ref sig .tc := ⟨.hbm, 309, rfl⟩
abbrev main_while0b_cst_43 : Ref sig .tc := ⟨.hbm, 310, rfl⟩
abbrev main_while0b_v213 : Ref sig .tc := ⟨.hbm, 311, rfl⟩
abbrev main_while0b_v214 : Ref sig .tc := ⟨.hbm, 312, rfl⟩
abbrev main_while0b_v215 : Ref sig .tc := ⟨.hbm, 313, rfl⟩
abbrev main_while0b_v216 : Ref sig .tc := ⟨.hbm, 314, rfl⟩
abbrev main_while0b_cst_44 : Ref sig .tc := ⟨.hbm, 315, rfl⟩
abbrev main_while0b_v217 : Ref sig .tc := ⟨.hbm, 316, rfl⟩
abbrev main_while0b_v218 : Ref sig .tc := ⟨.hbm, 317, rfl⟩
abbrev main_while0b_call11_v0 : Ref sig .tc := ⟨.hbm, 318, rfl⟩
abbrev main_while0b_call11_c : Ref sig .tc := ⟨.hbm, 319, rfl⟩
abbrev main_while0b_call11_c_0 : Ref sig .tc := ⟨.hbm, 320, rfl⟩
abbrev main_while0b_v219 : Ref sig .tc := ⟨.hbm, 321, rfl⟩
abbrev main_while0b_call12_v0 : Ref sig .tc := ⟨.hbm, 322, rfl⟩
abbrev main_while0b_call12_c : Ref sig .tc := ⟨.hbm, 323, rfl⟩
abbrev main_while0b_call12_c_0 : Ref sig .tc := ⟨.hbm, 324, rfl⟩
abbrev main_while0b_v220 : Ref sig .tc := ⟨.hbm, 325, rfl⟩
abbrev main_while0b_c_45 : Ref sig .tc := ⟨.hbm, 326, rfl⟩
abbrev main_while0b_v221 : Ref sig .tc := ⟨.hbm, 327, rfl⟩
abbrev main_v7 : Ref sig .tc := ⟨.hbm, 328, rfl⟩
abbrev main_v8 : Ref sig .tc := ⟨.hbm, 329, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x2048 : Shape := ⟨2, ![4096, 2048]⟩
abbrev S2048 : Shape := ⟨1, ![2048]⟩
abbrev S8x2048x1024 : Shape := ⟨3, ![8, 2048, 1024]⟩
abbrev S8x1024x2048 : Shape := ⟨3, ![8, 1024, 2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S4096x1024 : Shape := ⟨2, ![4096, 1024]⟩
abbrev S1x1024x1024 : Shape := ⟨3, ![1, 1024, 1024]⟩

abbrev nBuf : Space → Nat
  | .hbm => 15
  | .vmem => 33
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S8x2048x1024, .bf16⟩
  | .hbm, ⟨3, _⟩ => ⟨S8x1024x2048, .bf16⟩
  | .hbm, ⟨4, _⟩ => ⟨S4096x2048, .f32⟩
  | .hbm, ⟨5, _⟩ => ⟨S1x2048, .f32⟩
  | .hbm, ⟨6, _⟩ => ⟨S8192x2048, .bf16⟩
  | .hbm, ⟨7, _⟩ => ⟨S4096x2048, .bf16⟩
  | .hbm, ⟨8, _⟩ => ⟨S4096x2048, .bf16⟩
  | .hbm, ⟨9, _⟩ => ⟨S4096x8192, .bf16⟩
  | .hbm, ⟨10, _⟩ => ⟨S4096x8192, .bf16⟩
  | .hbm, ⟨11, _⟩ => ⟨S4096x8192, .bf16⟩
  | .hbm, ⟨12, _⟩ => ⟨S8192x2048, .f32⟩
  | .hbm, ⟨13, _⟩ => ⟨S8x2048x1024, .f32⟩
  | .hbm, ⟨14, _⟩ => ⟨S8x1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S4096x1024, .bf16⟩
  | .local _ .vmem, ⟨22, _⟩ => ⟨S4096x1024, .bf16⟩
  | .local _ .vmem, ⟨23, _⟩ => ⟨S4096x1024, .bf16⟩
  | .local _ .vmem, ⟨24, _⟩ => ⟨S4096x1024, .bf16⟩
  | .local _ .vmem, ⟨25, _⟩ => ⟨S1024x1024, .f32⟩
  | .local _ .vmem, ⟨26, _⟩ => ⟨S1024x1024, .f32⟩
  | .local _ .vmem, ⟨27, _⟩ => ⟨S4096x1024, .bf16⟩
  | .local _ .vmem, ⟨28, _⟩ => ⟨S4096x1024, .bf16⟩
  | .local _ .vmem, ⟨29, _⟩ => ⟨S4096x1024, .bf16⟩
  | .local _ .vmem, ⟨30, _⟩ => ⟨S4096x1024, .bf16⟩
  | .local _ .vmem, ⟨31, _⟩ => ⟨S1x1024x1024, .f32⟩
  | .local _ .vmem, ⟨32, _⟩ => ⟨S1x1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference2Ideal.lean ====
abbrev S4096x2048 : Shape := ⟨2, ![4096, 2048]⟩
abbrev S2048 : Shape := ⟨1, ![2048]⟩
abbrev S8x2048x1024 : Shape := ⟨3, ![8, 2048, 1024]⟩
abbrev S8x1024x2048 : Shape := ⟨3, ![8, 1024, 2048]⟩
abbrev S2048x8x1024 : Shape := ⟨3, ![2048, 8, 1024]⟩
abbrev S2048x8192 : Shape := ⟨2, ![2048, 8192]⟩
abbrev S8192x2048 : Shape := ⟨2, ![8192, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x8192 : Shape := ⟨2, ![4096, 8192]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S8x2048x1024, .bf16⟩
  | .hbm, ⟨3, _⟩ => ⟨S8x1024x2048, .bf16⟩
  | .hbm, ⟨4, _⟩ => ⟨S4096x2048, .f32⟩
  | .hbm, ⟨5, _⟩ => ⟨S8x2048x1024, .f32⟩
  | .hbm, ⟨6, _⟩ => ⟨S8x1024x2048, .f32⟩
  | .hbm, ⟨7, _⟩ => ⟨S2048x8x1024, .f32⟩
  | .hbm, ⟨8, _⟩ => ⟨S2048x8192, .f32⟩
  | .hbm, ⟨9, _⟩ => ⟨S8192x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x8192, .f32⟩
  | .hbm, ⟨27, _⟩ => ⟨S_, .f32⟩
  | .hbm, ⟨28, _⟩ => ⟨S4096x8192, .f32⟩
  | .hbm, ⟨29, _⟩ => ⟨S4096x8192, .f32⟩
  | .hbm, ⟨30, _⟩ => ⟨S_, .f32⟩
  | .hbm, ⟨31, _⟩ => ⟨S4096x8192, .f32⟩
  | .hbm, ⟨32, _⟩ => ⟨S4096x8192, .i1⟩
  | .hbm, ⟨33, _⟩ => ⟨S_, .f32⟩
  | .hbm, ⟨34, _⟩ => ⟨S4096x8192, .f32⟩
  | .hbm, ⟨35, _⟩ => ⟨S4096x8192, .f32⟩
  | .hbm, ⟨36, _⟩ => ⟨S4096x2048, .f32⟩
  | .hbm, ⟨37, _⟩ => ⟨S4096x2048, .f32⟩
  | .hbm, ⟨38, _⟩ => ⟨S2048x8192, .f32⟩
  | .hbm, ⟨39, _⟩ => ⟨S8192x2048, .f32⟩
  | .hbm, ⟨40, _⟩ => ⟨S4096x8192, .f32⟩
  | .hbm, ⟨41, _⟩ => ⟨S4096x8192, .f32⟩
  | .hbm, ⟨42, _⟩ => ⟨S4096x8192, .f32⟩
  | .hbm, ⟨43, _⟩ => ⟨S4096x8192, .f32⟩
  | .hbm, ⟨44, _⟩ => ⟨S_, .f32⟩
  | .hbm, ⟨45, _⟩ => ⟨S4096x8192, .f32⟩
  | .hbm, ⟨46, _⟩ => ⟨S4096x8192, .f32⟩
  | .hbm, ⟨47, _⟩ => ⟨S8192x2048, .f32⟩
  | .hbm, ⟨48, _⟩ => ⟨S2048x8192, .f32⟩
  | .hbm, ⟨49, _⟩ => ⟨S8x1024x2048, .f32⟩
  | .hbm, ⟨50, _⟩ => ⟨S2048x8x1024, .f32⟩
  | .hbm, ⟨51, _⟩ => ⟨S8x2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel3.lean ====
abbrev S4096x8192 : Shape := ⟨2, ![4096, 8192]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x2048 : Shape := ⟨2, ![4096, 2048]⟩
abbrev S1024x4096 : Shape := ⟨2, ![1024, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S2048x8192, .f32⟩
  | .hbm, ⟨5, _⟩ => ⟨S_, .f32⟩
  | .hbm, ⟨6, _⟩ => ⟨S4096x2048, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x8192 : Shape := ⟨2, ![4096, 8192]⟩
abbrev S8x1024x2048 : Shape := ⟨3, ![8, 1024, 2048]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8x1024x2048, .bf16⟩
  | .hbm, ⟨2, _⟩ => ⟨S4096x2048, .f32⟩
  | .hbm, ⟨3, _⟩ => ⟨S8192x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x8192 : Shape := ⟨2, ![4096, 8192]⟩
abbrev S8x1024x2048 : Shape := ⟨3, ![8, 1024, 2048]⟩
abbrev S4096x2048 : Shape := ⟨2, ![4096, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x1024x2048, .bf16⟩
  | .hbm, ⟨2, _⟩ => ⟨S4096x2048, .f32⟩
  | .hbm, ⟨3, _⟩ => ⟨S4096x8192, .f32⟩
  | .hbm, ⟨4, _⟩ => ⟨S8192x2048, .bf16⟩
  | .hbm, ⟨5, _⟩ => ⟨S8192x2048, .f32⟩
  | .hbm, ⟨6, _⟩ => ⟨S4096x2048, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_19 : BitVec 32 := 0#32
  let v46 : BitVec 1 := Scalar.cmpi .ne v45 c0_i32_19
  v46

def k0_cond2 (i : grid0.Coords) : BitVec 1 :=
  let arg0 : BitVec 32 := BitVec.ofNat 32 (i 0).val
  let c0_i32 : BitVec 32 := 0#32
  let v44 : BitVec 1 := Scalar.cmpi .eq arg0 c0_i32
  let v_true : BitVec 1 := 1#1
  let v47 : BitVec 1 := Scalar.xori v44 v_true
  let v48 : BitVec 32 := Scalar.extui v47
  let c0_i32_20 : BitVec 32 := 0#32
  let v49 : BitVec 1 := Scalar.cmpi .ne v48 c0_i32_20
  v49

def k0_cond3 (i : grid0.Coords) : BitVec 1 :=
  let arg0 : BitVec 32 := BitVec.ofNat 32 (i 0).val
  let c0_i32 : BitVec 32 := 0#32
  let v44 : BitVec 1 := Scalar.cmpi .eq arg0 c0_i32
  let v50 : BitVec 32 := Scalar.extui v44
  let c0_i32_21 : BitVec 32 := 0#32
  let v51 : BitVec 1 := Scalar.cmpi .ne v50 c0_i32_21
  v51

def k0_cond4 (i : grid0.Coords) : BitVec 1 :=
  let arg0 : BitVec 32 := BitVec.ofNat 32 (i 0).val
  let c0_i32 : BitVec 32 := 0#32
  let v44 : BitVec 1 := Scalar.cmpi .eq arg0 c0_i32
  let true_22 : BitVec 1 := 1#1
  let v52 : BitVec 1 := Scalar.xori v44 true_22
  let v53 : BitVec 32 := Scalar.extui v52
  let c0_i32_23 : BitVec 32 := 0#32
  let v54 : BitVec 1 := Scalar.cmpi .ne v53 c0_i32_23
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | .hbm, ⟨52, _⟩ => ⟨S_, .f32⟩
  | .hbm, ⟨53, _⟩ => ⟨S2048, .f32⟩
  | .hbm, ⟨54, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel6.lean ====
abbrev S4096x2048 : Shape := ⟨2, ![4096, 2048]⟩
abbrev S8x256x2048 : Shape := ⟨3, ![8, 256, 2048]⟩
abbrev S2048 : Shape := ⟨1, ![2048]⟩
abbrev S4096x4096 : Shape := ⟨2, ![4096, 4096]⟩
abbrev S8x2048x512 : Shape := ⟨3, ![8, 2048, 512]⟩
abbrev S2048x8x512 : Shape := ⟨3, ![2048, 8, 512]⟩
abbrev S2048x4096 : Shape := ⟨2, ![2048, 4096]⟩
abbrev S2048x2048 : Shape := ⟨2, ![2048, 2048]⟩
abbrev S1x2048 : Shape := ⟨2, ![1, 2048]⟩
abbrev S512x2048 : Shape := ⟨2, ![512, 2048]⟩
abbrev S1024x2048 : Shape := ⟨2, ![1024, 2048]⟩
abbrev S1024x1024 : Shape := ⟨2, ![1024, 1024]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩
abbrev S1024x4096 : Shape := ⟨2, ![1024, 4096]⟩

abbrev nBuf : Space → Nat
  | .hbm => 18
  | .vmem => 32
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S4096x4096, .bf16⟩
  | .hbm, ⟨7, _⟩ => ⟨S8x2048x512, .bf16⟩
  | .hbm, ⟨8, _⟩ => ⟨S2048x8x512, .bf16⟩
  | .hbm, ⟨9, _⟩ => ⟨S2048x4096, .bf16⟩
  | .hbm, ⟨10, _⟩ => ⟨S2048x2048, .bf16⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S2048x2048, .f32⟩
  | .hbm, ⟨15, _⟩ => ⟨S8x2048x512, .f32⟩
  | .hbm, ⟨16, _⟩ => ⟨S4096x2048, .f32⟩
  | .hbm, ⟨17, _⟩ => ⟨S8x256x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .f32⟩
  | .local _ .vmem, ⟨13, _⟩ => ⟨S1024x1024, .f32⟩
  | .local _ .vmem, ⟨14, _⟩ => ⟨S4096x1024, .bf16⟩
  | .local _ .vmem, ⟨15, _⟩ => ⟨S4096x1024, .bf16⟩
  | .local _ .vmem, ⟨16, _⟩ => ⟨S4096x1024, .bf16⟩
  | .local _ .vmem, ⟨17, _⟩ => ⟨S4096x1024, .bf16⟩
  | .local _ .vmem, ⟨18, _⟩ => ⟨S1024x1024, .f32⟩
  | .local _ .vmem, ⟨19, _⟩ => ⟨S1024x1024, .f32⟩
  | .local _ .vmem, ⟨20, _⟩ => ⟨S4096x1024, .bf16⟩
  | .local _ .vmem, ⟨21, _⟩ => ⟨S4096x1024, .bf16⟩
  | .local _ .vmem, ⟨22, _⟩ => ⟨S4096x512, .bf16⟩
  | .local _ .vmem, ⟨23, _⟩ => ⟨S4096x512, .bf16⟩
  | .local _ .vmem, ⟨24, _⟩ => ⟨S1x1024x512, .f32⟩
  | .local _ .vmem, ⟨25, _⟩ => ⟨S1x1024x512, .f32⟩
  | .local _ .vmem, ⟨26, _⟩ => ⟨S1024x4096, .bf16⟩
  | .local _ .vmem, ⟨27, _⟩ => ⟨S1024x4096, .bf16⟩
  | .local _ .vmem, ⟨28, _⟩ => ⟨S1024x4096, .bf16⟩
  | .local _ .vmem, ⟨29, _⟩ => ⟨S1024x4096, .bf16⟩
  | .local _ .vmem, ⟨30, _⟩ => ⟨S1024x1024, .f32⟩
  | .local _ .vmem, ⟨31, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference6Ideal.lean ====
abbrev S4096x2048 : Shape := ⟨2, ![4096, 2048]⟩
abbrev S8x256x2048 : Shape := ⟨3, ![8, 256, 2048]⟩
abbrev S2048 : Shape := ⟨1, ![2048]⟩
abbrev S4096x4096 : Shape := ⟨2, ![4096, 4096]⟩
abbrev S8x2048x512 : Shape := ⟨3, ![8, 2048, 512]⟩
abbrev S2048x2048 : Shape := ⟨2, ![2048, 2048]⟩
abbrev S1x2048 : Shape := ⟨2, ![1, 2048]⟩
abbrev S2048x8x512 : Shape := ⟨3, ![2048, 8, 512]⟩
abbrev S2048x4096 : Shape := ⟨2, ![2048, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S4096x4096, .bf16⟩
  | .hbm, ⟨7, _⟩ => ⟨S8x2048x512, .bf16⟩
  | .hbm, ⟨8, _⟩ => ⟨S4096x2048, .f32⟩
  | .hbm, ⟨9, _⟩ => ⟨S8x256x2048, .f32⟩
  | .hbm, ⟨10, _⟩ => ⟨S2048x2048, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S2048x2048, .f32⟩
  | .hbm, ⟨18, _⟩ => ⟨S2048x2048, .f32⟩
  | .hbm, ⟨19, _⟩ => ⟨S4096x2048, .f32⟩
  | .hbm, ⟨20, _⟩ => ⟨S8x256x2048, .f32⟩
  | .hbm, ⟨21, _⟩ => ⟨S4096x2048, .f32⟩
  | .hbm, ⟨22, _⟩ => ⟨S8x2048x512, .f32⟩
  | .hbm, ⟨23, _⟩ => ⟨S2048x8x512, .f32⟩
  | .hbm, ⟨24, _⟩ => ⟨S2048x4096, .f32⟩
  | .hbm, ⟨25, _⟩ => ⟨S4096x4096, .f32⟩
  | .hbm, ⟨26, _⟩ => ⟨S4096x4096, .f32⟩
  | .hbm, ⟨27, _⟩ => ⟨S4096x2048, .f32⟩
  | .hbm, ⟨28, _⟩ => ⟨S2048x4096, .f32⟩
  | .hbm, ⟨29, _⟩ => ⟨S4096x2048, .f32⟩
  | .hbm, ⟨30, _⟩ => ⟨S2048x8x512, .f32⟩
  | .hbm, ⟨31, _⟩ => ⟨S8x2048x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel7.lean ====
abbrev S4096x2048 : Shape := ⟨2, ![4096, 2048]⟩
abbrev S8x256x2048 : Shape := ⟨3, ![8, 256, 2048]⟩
abbrev S2048x2048 : Shape := ⟨2, ![2048, 2048]⟩
abbrev S512x2048 : Shape := ⟨2, ![512, 2048]⟩
abbrev S1024x2048 : Shape := ⟨2, ![1024, 2048]⟩
abbrev S1024x1024 : Shape := ⟨2, ![1024, 1024]⟩
abbrev S4096x1024 : Shape := ⟨2, ![4096, 1024]⟩

abbrev nBuf : Space → Nat
  | .hbm => 9
  | .vmem => 19
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S8x256x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x1024, .f32⟩
  | .local _ .vmem, ⟨12, _⟩ => ⟨S1024x1024, .f32⟩
  | .local _ .vmem, ⟨13, _⟩ => ⟨S4096x1024, .bf16⟩
  | .local _ .vmem, ⟨14, _⟩ => ⟨S4096x1024, .bf16⟩
  | .local _ .vmem, ⟨15, _⟩ => ⟨S4096x1024, .bf16⟩
  | .local _ .vmem, ⟨16, _⟩ => ⟨S4096x1024, .bf16⟩
  | .local _ .vmem, ⟨17, _⟩ => ⟨S1024x1024, .f32⟩
  | .local _ .vmem, ⟨18, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference7Ideal.lean ====
abbrev S4096x2048 : Shape := ⟨2, ![4096, 2048]⟩
abbrev S8x256x2048 : Shape := ⟨3, ![8, 256, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S8x256x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S2048x2048, .f32⟩
  | .hbm, ⟨12, _⟩ => ⟨S4096x2048, .f32⟩
  | .hbm, ⟨13, _⟩ => ⟨S8x256x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S4096x2048 : Shape := ⟨2, ![4096, 2048]⟩
abbrev S4096x3072 : Shape := ⟨2, ![4096, 3072]⟩
abbrev S4096x1024 : Shape := ⟨2, ![4096, 1024]⟩
abbrev S4096x128 : Shape := ⟨2, ![4096, 128]⟩
abbrev S3072x2048 : Shape := ⟨2, ![3072, 2048]⟩
abbrev S1024x1024 : Shape := ⟨2, ![1024, 1024]⟩
abbrev S1024x2048 : Shape := ⟨2, ![1024, 2048]⟩
abbrev S128x2048 : Shape := ⟨2, ![128, 2048]⟩
abbrev S128x1024 : Shape := ⟨2, ![128, 1024]⟩
abbrev S2048x2048 : Shape := ⟨2, ![2048, 2048]⟩
abbrev S16x2048 : Shape := ⟨2, ![16, 2048]⟩
abbrev S6160x2048 : Shape := ⟨2, ![6160, 2048]⟩
abbrev S8x770x2048 : Shape := ⟨3, ![8, 770, 2048]⟩

abbrev nBuf : Space → Nat
  | .hbm => 12
  | .vmem => 22
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x1024, .bf16⟩
  | .hbm, ⟨3, _⟩ => ⟨S4096x128, .bf16⟩
  | .hbm, ⟨4, _⟩ => ⟨S4096x2048, .bf16⟩
  | .hbm, ⟨5, _⟩ => ⟨S3072x2048, .f32⟩
  | .hbm, ⟨6, _⟩ => ⟨S1024x2048, .f32⟩
  | .hbm, ⟨7, _⟩ => ⟨S128x2048, .f32⟩
  | .hbm, ⟨8, _⟩ => ⟨S2048x2048, .f32⟩
  | .hbm, ⟨9, _⟩ => ⟨S16x2048, .f32⟩
  | .hbm, ⟨10, _⟩ => ⟨S6160x2048, .f32⟩
  | .hbm, ⟨11, _⟩ => ⟨S8x770x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S4096x1024, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .f32⟩
  | .local _ .vmem, ⟨10, _⟩ => ⟨S1024x1024, .f32⟩
  | .local _ .vmem, ⟨11, _⟩ => ⟨S4096x128, .bf16⟩
  | .local _ .vmem, ⟨12, _⟩ => ⟨S4096x1024, .bf16⟩
  | .local _ .vmem, ⟨13, _⟩ => ⟨S4096x1024, .bf16⟩
  | .local _ .vmem, ⟨14, _⟩ => ⟨S128x1024, .f32⟩
  | .local _ .vmem, ⟨15, _⟩ => ⟨S128x1024, .f32⟩
  | .local _ .vmem, ⟨16, _⟩ => ⟨S4096x1024, .bf16⟩
  | .local _ .vmem, ⟨17, _⟩ => ⟨S4096x1024, .bf16⟩
  | .local _ .vmem, ⟨18, _⟩ => ⟨S4096x1024, .bf16⟩
  | .local _ .vmem, ⟨19, _⟩ => ⟨S4096x1024, .bf16⟩
  | .local _ .vmem, ⟨20, _⟩ => ⟨S1024x1024, .f32⟩
  | .local _ .vmem, ⟨21, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference8Ideal.lean ====
abbrev S4096x2048 : Shape := ⟨2, ![4096, 2048]⟩
abbrev S4096x3072 : Shape := ⟨2, ![4096, 3072]⟩
abbrev S4096x1024 : Shape := ⟨2, ![4096, 1024]⟩
abbrev S4096x128 : Shape := ⟨2, ![4096, 128]⟩
abbrev S_ : Shape := ⟨0, ![]⟩
abbrev S8x770x2048 : Shape := ⟨3, ![8, 770, 2048]⟩
abbrev S6160x2048 : Shape := ⟨2, ![6160, 2048]⟩
abbrev S2048x6160 : Shape := ⟨2, ![2048, 6160]⟩
abbrev S4096x6160 : Shape := ⟨2, ![4096, 6160]⟩
abbrev S4096x16 : Shape := ⟨2, ![4096, 16]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x1024, .bf16⟩
  | .hbm, ⟨3, _⟩ => ⟨S4096x128, .bf16⟩
  | .hbm, ⟨4, _⟩ => ⟨S4096x2048, .bf16⟩
  | .hbm, ⟨5, _⟩ => ⟨S_, .f32⟩
  | .hbm, ⟨6, _⟩ => ⟨S8x770x2048, .f32⟩
  | .hbm, ⟨7, _⟩ => ⟨S4096x2048, .f32⟩
  | .hbm, ⟨8, _⟩ => ⟨S6160x2048, .f32⟩
  | .hbm, ⟨9, _⟩ => ⟨S2048x6160, .f32⟩
  | .hbm, ⟨10, _⟩ => ⟨S4096x6160, .f32⟩
  | .hbm, ⟨11, _⟩ => ⟨S4096x3072, .f32⟩
  | .hbm, ⟨12, _⟩ => ⟨S4096x1024, .f32⟩
  | .hbm, ⟨13, _⟩ => ⟨S4096x16, .f32⟩
  | .hbm, ⟨14, _⟩ => ⟨S4096x2048, .f32⟩
  | .hbm, ⟨15, _⟩ => ⟨S4096x16, .bf16⟩
  | .hbm, ⟨16, _⟩ => ⟨S4096x3072, .f32⟩
  | .hbm, ⟨17, _⟩ => ⟨S4096x1024, .f32⟩
  | .hbm, ⟨18, _⟩ => ⟨S4096x16, .f32⟩
  | .hbm, ⟨19, _⟩ => ⟨S4096x2048, .f32⟩
  | .hbm, ⟨20, _⟩ => ⟨S4096x6160, .f32⟩
  | .hbm, ⟨21, _⟩ => ⟨S6160x2048, .f32⟩
  | .hbm, ⟨22, _⟩ => ⟨S2048x6160, .f32⟩
  | .hbm, ⟨23, _⟩ => ⟨S6160x2048, .f32⟩
  | .hbm, ⟨24, _⟩ => ⟨S8x770x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel9.lean ====
abbrev S8x770x2048 : Shape := ⟨3, ![8, 770, 2048]⟩
abbrev S4096x3072 : Shape := ⟨2, ![4096, 3072]⟩
abbrev S4096x1024 : Shape := ⟨2, ![4096, 1024]⟩
abbrev S4096x128 : Shape := ⟨2, ![4096, 128]⟩
abbrev S4096x2048 : Shape := ⟨2, ![4096, 2048]⟩
abbrev S6160x2048 : Shape := ⟨2, ![6160, 2048]⟩
abbrev S16x2048 : Shape := ⟨2, ![16, 2048]⟩
abbrev S_ : Shape := ⟨0, ![]⟩
abbrev S128x2048 : Shape := ⟨2, ![128, 2048]⟩
abbrev S2048x2048 : Shape := ⟨2, ![2048, 2048]⟩
abbrev S512x3072 : Shape := ⟨2, ![512, 3072]⟩
abbrev S3072x1024 : Shape := ⟨2, ![3072, 1024]⟩
abbrev S512x1024 : Shape := ⟨2, ![512, 1024]⟩
abbrev S1024x1024 : Shape := ⟨2, ![1024, 1024]⟩
abbrev S512x128 : Shape := ⟨2, ![512, 128]⟩
abbrev S128x1024 : Shape := ⟨2, ![128, 1024]⟩
abbrev S512x2048 : Shape := ⟨2, ![512, 2048]⟩
abbrev S2048x1024 : Shape := ⟨2, ![2048, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8x770x2048, .bf16⟩
  | .hbm, ⟨1, _⟩ => ⟨S4096x3072, .bf16⟩
  | .hbm, ⟨2, _⟩ => ⟨S4096x1024, .bf16⟩
  | .hbm, ⟨3, _⟩ => ⟨S4096x128, .bf16⟩
  | .hbm, ⟨4, _⟩ => ⟨S4096x2048, .bf16⟩
  | .hbm, ⟨5, _⟩ => ⟨S6160x2048, .bf16⟩
  | .hbm, ⟨6, _⟩ => ⟨S16x2048, .bf16⟩
  | .hbm, ⟨7, _⟩ => ⟨S_, .i32⟩
  | .hbm, ⟨8, _⟩ => ⟨S_, .bf16⟩
  | .hbm, ⟨9, _⟩ => ⟨S128x2048, .bf16⟩
  | .hbm, ⟨10, _⟩ => ⟨S2048x2048, .bf16⟩
  | .hbm, ⟨11, _⟩ => ⟨S4096x2048, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S3072x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x128, .bf16⟩
  | .local _ .vmem, ⟨9, _⟩ => ⟨S512x128, .bf16⟩
  | .local _ .vmem, ⟨10, _⟩ => ⟨S128x1024, .bf16⟩
  | .local _ .vmem, ⟨11, _⟩ => ⟨S128x1024, .bf16⟩
  | .local _ .vmem, ⟨12, _⟩ => ⟨S512x2048, .bf16⟩
  | .local _ .vmem, ⟨13, _⟩ => ⟨S512x2048, .bf16⟩
  | .local _ .vmem, ⟨14, _⟩ => ⟨S2048x1024, .bf16⟩
  | .local _ .vmem, ⟨15, _⟩ => ⟨S2048x1024, .bf16⟩
  | .local _ .vmem, ⟨16, _⟩ => ⟨S512x1024, .f32⟩
  | .local _ .vmem, ⟨17, _⟩ => ⟨S512x1024, .f32⟩
  | _, _ => ⟨S8x770x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S8x770x2048 : Shape := ⟨3, ![8, 770, 2048]⟩
abbrev S4096x3072 : Shape := ⟨2, ![4096, 3072]⟩
abbrev S4096x1024 : Shape := ⟨2, ![4096, 1024]⟩
abbrev S4096x128 : Shape := ⟨2, ![4096, 128]⟩
abbrev S4096x2048 : Shape := ⟨2, ![4096, 2048]⟩
abbrev S_ : Shape := ⟨0, ![]⟩
abbrev S6160x2048 : Shape := ⟨2, ![6160, 2048]⟩
abbrev S2048x6160 : Shape := ⟨2, ![2048, 6160]⟩
abbrev S4096x6160 : Shape := ⟨2, ![4096, 6160]⟩
abbrev S4096x16 : Shape := ⟨2, ![4096, 16]⟩

abbrev nBuf : Space → Nat
  | .hbm => 22
  | .vmem => 0
  | .smem => 0
  | _ => 0

abbrev bufTy : (tb : Table) → Fin (tcTables nBuf tb) → BufTy
  | .hbm, ⟨0, _⟩ => ⟨S8x770x2048, .bf16⟩
  | .hbm, ⟨1, _⟩ => ⟨S4096x3072, .bf16⟩
  | .hbm, ⟨2, _⟩ => ⟨S4096x1024, .bf16⟩
  | .hbm, ⟨3, _⟩ => ⟨S4096x128, .bf16⟩
  | .hbm, ⟨4, _⟩ => ⟨S4096x2048, .bf16⟩
  | .hbm, ⟨5, _⟩ => ⟨S_, .f32⟩
  | .hbm, ⟨6, _⟩ => ⟨S4096x2048, .f32⟩
  | .hbm, ⟨7, _⟩ => ⟨S8x770x2048, .f32⟩
  | .hbm, ⟨8, _⟩ => ⟨S6160x2048, .f32⟩
  | .hbm, ⟨9, _⟩ => ⟨S2048x6160, .f32⟩
  | .hbm, ⟨10, _⟩ => ⟨S4096x6160, .f32⟩
  | .hbm, ⟨11, _⟩ => ⟨S4096x3072, .f32⟩
  | .hbm, ⟨12, _⟩ => ⟨S4096x1024, .f32⟩
  | .hbm, ⟨13, _⟩ => ⟨S4096x16, .f32⟩
  | .hbm, ⟨14, _⟩ => ⟨S4096x2048, .f32⟩
  | .hbm, ⟨15, _⟩ => ⟨S4096x16, .bf16⟩
  | .hbm, ⟨16, _⟩ => ⟨S4096x3072, .f32⟩
  | .hbm, ⟨17, _⟩ => ⟨S4096x1024, .f32⟩
  | .hbm, ⟨18, _⟩ => ⟨S4096x16, .f32⟩
  | .hbm, ⟨19, _⟩ => ⟨S4096x2048, .f32⟩
  | .hbm, ⟨20, _⟩ => ⟨S4096x6160, .f32⟩
  | .hbm, ⟨21, _⟩ => ⟨S4096x2048, .f32⟩
  | _, _ => ⟨S8x770x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S4096x2048 : Shape := ⟨2, ![4096, 2048]⟩
abbrev S8x770x2048 : Shape := ⟨3, ![8, 770, 2048]⟩
abbrev S6160x2048 : Shape := ⟨2, ![6160, 2048]⟩
abbrev S4096x3072 : Shape := ⟨2, ![4096, 3072]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x770x2048, .bf16⟩
  | .hbm, ⟨2, _⟩ => ⟨S6160x2048, .bf16⟩
  | .hbm, ⟨3, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S8x770x2048 : Shape := ⟨3, ![8, 770, 2048]⟩
abbrev S6160x2048 : Shape := ⟨2, ![6160, 2048]⟩
abbrev S2048x6160 : Shape := ⟨2, ![2048, 6160]⟩
abbrev S4096x6160 : Shape := ⟨2, ![4096, 6160]⟩
abbrev S4096x3072 : Shape := ⟨2, ![4096, 3072]⟩
abbrev S4096x1024 : Shape := ⟨2, ![4096, 1024]⟩
abbrev S4096x16 : Shape := ⟨2, ![4096, 16]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x770x2048, .bf16⟩
  | .hbm, ⟨2, _⟩ => ⟨S4096x2048, .f32⟩
  | .hbm, ⟨3, _⟩ => ⟨S8x770x2048, .f32⟩
  | .hbm, ⟨4, _⟩ => ⟨S6160x2048, .f32⟩
  | .hbm, ⟨5, _⟩ => ⟨S2048x6160, .f32⟩
  | .hbm, ⟨6, _⟩ => ⟨S4096x6160, .f32⟩
  | .hbm, ⟨7, _⟩ => ⟨S4096x3072, .f32⟩
  | .hbm, ⟨8, _⟩ => ⟨S4096x1024, .f32⟩
  | .hbm, ⟨9, _⟩ => ⟨S4096x16, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel11.lean ====
abbrev S4096x2048 : Shape := ⟨2, ![4096, 2048]⟩
abbrev S8x770x2048 : Shape := ⟨3, ![8, 770, 2048]⟩
abbrev S6160x2048 : Shape := ⟨2, ![6160, 2048]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S8x770x2048, .bf16⟩
  | .hbm, ⟨2, _⟩ => ⟨S6160x2048, .bf16⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S8x770x2048 : Shape := ⟨3, ![8, 770, 2048]⟩
abbrev S6160x2048 : Shape := ⟨2, ![6160, 2048]⟩
abbrev S2048x6160 : Shape := ⟨2, ![2048, 6160]⟩
abbrev S4096x6160 : Shape := ⟨2, ![4096, 6160]⟩
abbrev S4096x3072 : Shape := ⟨2, ![4096, 3072]⟩
abbrev S4096x1024 : Shape := ⟨2, ![4096, 1024]⟩
abbrev S4096x16 : Shape := ⟨2, ![4096, 16]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x770x2048, .bf16⟩
  | .hbm, ⟨2, _⟩ => ⟨S4096x2048, .f32⟩
  | .hbm, ⟨3, _⟩ => ⟨S8x770x2048, .f32⟩
  | .hbm, ⟨4, _⟩ => ⟨S6160x2048, .f32⟩
  | .hbm, ⟨5, _⟩ => ⟨S2048x6160, .f32⟩
  | .hbm, ⟨6, _⟩ => ⟨S4096x6160, .f32⟩
  | .hbm, ⟨7, _⟩ => ⟨S4096x3072, .f32⟩
  | .hbm, ⟨8, _⟩ => ⟨S4096x1024, .f32⟩
  | .hbm, ⟨9, _⟩ => ⟨S4096x16, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel12.lean ====
abbrev S4096x2048 : Shape := ⟨2, ![4096, 2048]⟩
abbrev S8x770x2048 : Shape := ⟨3, ![8, 770, 2048]⟩
abbrev S6160x2048 : Shape := ⟨2, ![6160, 2048]⟩
abbrev S16x2048 : Shape := ⟨2, ![16, 2048]⟩
abbrev S_ : Shape := ⟨0, ![]⟩
abbrev S128x2048 : Shape := ⟨2, ![128, 2048]⟩
abbrev S2048x2048 : Shape := ⟨2, ![2048, 2048]⟩
abbrev S4096x128 : Shape := ⟨2, ![4096, 128]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S8x770x2048, .bf16⟩
  | .hbm, ⟨2, _⟩ => ⟨S6160x2048, .bf16⟩
  | .hbm, ⟨3, _⟩ => ⟨S16x2048, .bf16⟩
  | .hbm, ⟨4, _⟩ => ⟨S_, .i32⟩
  | .hbm, ⟨5, _⟩ => ⟨S_, .bf16⟩
  | .hbm, ⟨6, _⟩ => ⟨S128x2048, .bf16⟩
  | .hbm, ⟨7, _⟩ => ⟨S2048x2048, .bf16⟩
  | .hbm, ⟨8, _⟩ => ⟨S4096x128, .f32⟩
  | .hbm, ⟨9, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x1024, .f32⟩
  | .local _ .vmem, ⟨10, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference12Ideal.lean ====
abbrev S4096x2048 : Shape := ⟨2, ![4096, 2048]⟩
abbrev S8x770x2048 : Shape := ⟨3, ![8, 770, 2048]⟩
abbrev S6160x2048 : Shape := ⟨2, ![6160, 2048]⟩
abbrev S2048x6160 : Shape := ⟨2, ![2048, 6160]⟩
abbrev S4096x6160 : Shape := ⟨2, ![4096, 6160]⟩
abbrev S4096x3072 : Shape := ⟨2, ![4096, 3072]⟩
abbrev S4096x1024 : Shape := ⟨2, ![4096, 1024]⟩
abbrev S4096x16 : Shape := ⟨2, ![4096, 16]⟩
abbrev S_ : Shape := ⟨0, ![]⟩
abbrev S4096x128 : Shape := ⟨2, ![4096, 128]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x770x2048, .bf16⟩
  | .hbm, ⟨2, _⟩ => ⟨S4096x2048, .f32⟩
  | .hbm, ⟨3, _⟩ => ⟨S8x770x2048, .f32⟩
  | .hbm, ⟨4, _⟩ => ⟨S6160x2048, .f32⟩
  | .hbm, ⟨5, _⟩ => ⟨S2048x6160, .f32⟩
  | .hbm, ⟨6, _⟩ => ⟨S4096x6160, .f32⟩
  | .hbm, ⟨7, _⟩ => ⟨S4096x3072, .f32⟩
  | .hbm, ⟨8, _⟩ => ⟨S4096x1024, .f32⟩
  | .hbm, ⟨9, _⟩ => ⟨S4096x16, .f32⟩
  | .hbm, ⟨10, _⟩ => ⟨S4096x2048, .f32⟩
  | .hbm, ⟨11, _⟩ => ⟨S_, .i32⟩
  | .hbm, ⟨12, _⟩ => ⟨S_, .f32⟩
  | .hbm, ⟨13, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel13.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x1, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x1, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_25 : BitVec 32 := 0#32
  let v72 : BitVec 1 := Scalar.cmpi .ne v71 c0_i32_25
  v72

def k0_cond2 (i : grid0.Coords) : BitVec 1 :=
  let arg0 : BitVec 32 := BitVec.ofNat 32 (i 0).val
  let c0_i32 : BitVec 32 := 0#32
  let v70 : BitVec 1 := Scalar.cmpi .eq arg0 c0_i32
  let v_true : BitVec 1 := 1#1
  let v73 : BitVec 1 := Scalar.xori v70 v_true
  let v74 : BitVec 32 := Scalar.extui v73
  let c0_i32_26 : BitVec 32 := 0#32
  let v75 : BitVec 1 := Scalar.cmpi .ne v74 c0_i32_26
  v75

def k0_cond3 (i : grid0.Coords) : BitVec 1 :=
  let arg0 : BitVec 32 := BitVec.ofNat 32 (i 0).val
  let c0_i32 : BitVec 32 := 0#32
  let v70 : BitVec 1 := Scalar.cmpi .eq arg0 c0_i32
  let v76 : BitVec 32 := Scalar.extui v70
  let c0_i32_27 : BitVec 32 := 0#32
  let v77 : BitVec 1 := Scalar.cmpi .ne v76 c0_i32_27
  v77

def k0_cond4 (i : grid0.Coords) : BitVec 1 :=
  let arg0 : BitVec 32 := BitVec.ofNat 32 (i 0).val
  let c0_i32 : BitVec 32 := 0#32
  let v70 : BitVec 1 := Scalar.cmpi .eq arg0 c0_i32
  let true_28 : BitVec 1 := 1#1
  let v78 : BitVec 1 := Scalar.xori v70 true_28
  let v79 : BitVec 32 := Scalar.extui v78
  let c0_i32_29 : BitVec 32 := 0#32
  let v80 : BitVec 1 := Scalar.cmpi .ne v79 c0_i32_29
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S1x1, .f32⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel14.lean ====
abbrev S1280x128 : Shape := ⟨2, ![1280, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1280x128, .f32⟩
  | .hbm, ⟨6, _⟩ => ⟨S1280x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1280x128 : Shape := ⟨2, ![1280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S_, .f32⟩
  | .hbm, ⟨5, _⟩ => ⟨S1280x128, .f32⟩
  | .hbm, ⟨6, _⟩ => ⟨S1280x128, .f32⟩
  | .hbm, ⟨7, _⟩ => ⟨S_, .f32⟩
  | .hbm, ⟨8, _⟩ => ⟨S1280x128, .f32⟩
  | .hbm, ⟨9, _⟩ => ⟨S1280x128, .f32⟩
  | .hbm, ⟨10, _⟩ => ⟨S1280x128, .f32⟩
  | .hbm, ⟨11, _⟩ => ⟨S_, .f32⟩
  | .hbm, ⟨12, _⟩ => ⟨S1280x128, .f32⟩
  | .hbm, ⟨13, _⟩ => ⟨S1280x128, .f32⟩
  | .hbm, ⟨14, _⟩ => ⟨S1280x128, .f32⟩
  | .hbm, ⟨15, _⟩ => ⟨S_, .f32⟩
  | .hbm, ⟨16, _⟩ => ⟨S1280x128, .f32⟩
  | .hbm, ⟨17, _⟩ => ⟨S1280x128, .f32⟩
  | .hbm, ⟨18, _⟩ => ⟨S1280x128, .f32⟩
  | .hbm, ⟨19, _⟩ => ⟨S_, .f32⟩
  | .hbm, ⟨20, _⟩ => ⟨S1280x128, .f32⟩
  | .hbm, ⟨21, _⟩ => ⟨S1280x128, .f32⟩
  | .hbm, ⟨22, _⟩ => ⟨S_, .f32⟩
  | .hbm, ⟨23, _⟩ => ⟨S1280x128, .f32⟩
  | .hbm, ⟨24, _⟩ => ⟨S1280x128, .f32⟩
  | .hbm, ⟨25, _⟩ => ⟨S1280x128, .f32⟩
  | .hbm, ⟨26, _⟩ => ⟨S_, .f32⟩
  | .hbm, ⟨27, _⟩ => ⟨S1280x128, .f32⟩
  | .hbm, ⟨28, _⟩ => ⟨S1280x128, .f32⟩
  | .hbm, ⟨29, _⟩ => ⟨S1280x128, .f32⟩
  | .hbm, ⟨30, _⟩ => ⟨S_, .f32⟩
  | .hbm, ⟨31, _⟩ => ⟨S1280x128, .f32⟩
  | .hbm, ⟨32, _⟩ => ⟨S1280x128, .f32⟩
  | .hbm, ⟨33, _⟩ => ⟨S1280x128, .f32⟩
  | .hbm, ⟨34, _⟩ => ⟨S_, .f32⟩
  | .hbm, ⟨35, _⟩ => ⟨S1280x128, .f32⟩
  | .hbm, ⟨36, _⟩ => ⟨S1280x128, .f32⟩
  | _, _ => ⟨S1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S8x2048x128 : Shape := ⟨3, ![8, 2048, 128]⟩
abbrev S2048x128 : Shape := ⟨2, ![2048, 128]⟩
abbrev S1x256x128 : Shape := ⟨3, ![1, 256, 128]⟩
abbrev S256x128 : Shape := ⟨2, ![256, 128]⟩

abbrev nBuf : Space → Nat
  | .hbm => 2
  | .vmem => 18
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S256x128, .f32⟩
  | .local _ .vmem, ⟨17, _⟩ => ⟨S256x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S8x2048x128 : Shape := ⟨3, ![8, 2048, 128]⟩
abbrev S_ : Shape := ⟨0, ![]⟩
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S_, .f32⟩
  | .hbm, ⟨2, _⟩ => ⟨S2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 9
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference16Ideal.lean ====
abbrev S8x16x128 : Shape := ⟨3, ![8, 16, 128]⟩
abbrev S_ : Shape := ⟨0, ![]⟩
abbrev S16x128 : Shape := ⟨2, ![16, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S_, .f32⟩
  | .hbm, ⟨2, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S4x2048x512 : Shape := ⟨3, ![4, 2048, 512]⟩
abbrev S3x2048x512 : Shape := ⟨3, ![3, 2048, 512]⟩
abbrev S1x2048x512 : Shape := ⟨3, ![1, 2048, 512]⟩
abbrev S_ : Shape := ⟨0, ![]⟩
abbrev S1 : Shape := ⟨1, ![1]⟩
abbrev S2 : Shape := ⟨1, ![2]⟩
abbrev S8192x512 : Shape := ⟨2, ![8192, 512]⟩
abbrev S256x512 : Shape := ⟨2, ![256, 512]⟩
abbrev S1x256x512 : Shape := ⟨3, ![1, 256, 512]⟩

abbrev nBuf : Space → Nat
  | .hbm => 15
  | .vmem => 22
  | .smem => 1
  | _ => 0

abbrev bufTy : (tb : Table) → Fin (tcTables nBuf tb) → BufTy
  | .hbm, ⟨0, _⟩ => ⟨S4x2048x512, .bf16⟩
  | .hbm, ⟨1, _⟩ => ⟨S3x2048x512, .bf16⟩
  | .hbm, ⟨2, _⟩ => ⟨S1x2048x512, .f32⟩
  | .hbm, ⟨3, _⟩ => ⟨S1x2048x512, .f32⟩
  | .hbm, ⟨4, _⟩ => ⟨S1x2048x512, .f32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S8192x512, .bf16⟩
  | .hbm, ⟨11, _⟩ => ⟨S1x2048x512, .f32⟩
  | .hbm, ⟨12, _⟩ => ⟨S1x2048x512, .f32⟩
  | .hbm, ⟨13, _⟩ => ⟨S1x2048x512, .f32⟩
  | .hbm, ⟨14, _⟩ => ⟨S1x2048x512, .f32⟩
  | .local _ .vmem, ⟨0, _⟩ => ⟨S256x512, .bf16⟩
  | .local _ .vmem, ⟨1, _⟩ => ⟨S256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .smem, ⟨0, _⟩ => ⟨S2, .i32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference17Ideal.lean ====
abbrev S4x2048x512 : Shape := ⟨3, ![4, 2048, 512]⟩
abbrev S3x2048x512 : Shape := ⟨3, ![3, 2048, 512]⟩
abbrev S1x2048x512 : Shape := ⟨3, ![1, 2048, 512]⟩
abbrev S2048x512 : Shape := ⟨2, ![2048, 512]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S3x2048x512, .bf16⟩
  | .hbm, ⟨2, _⟩ => ⟨S1x2048x512, .f32⟩
  | .hbm, ⟨3, _⟩ => ⟨S1x2048x512, .f32⟩
  | .hbm, ⟨4, _⟩ => ⟨S1x2048x512, .f32⟩
  | .hbm, ⟨5, _⟩ => ⟨S1x2048x512, .bf16⟩
  | .hbm, ⟨6, _⟩ => ⟨S2048x512, .bf16⟩
  | .hbm, ⟨7, _⟩ => ⟨S2048x512, .f32⟩
  | .hbm, ⟨8, _⟩ => ⟨S3x2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S1x2048x512, .f32⟩
  | .hbm, ⟨13, _⟩ => ⟨S_, .f32⟩
  | .hbm, ⟨14, _⟩ => ⟨S1x2048x512, .f32⟩
  | .hbm, ⟨15, _⟩ => ⟨S1x2048x512, .f32⟩
  | .hbm, ⟨16, _⟩ => ⟨S_, .f32⟩
  | .hbm, ⟨17, _⟩ => ⟨S1x2048x512, .f32⟩
  | .hbm, ⟨18, _⟩ => ⟨S1x2048x512, .f32⟩
  | .hbm, ⟨19, _⟩ => ⟨S1x2048x512, .f32⟩
  | .hbm, ⟨20, _⟩ => ⟨S_, .f32⟩
  | .hbm, ⟨21, _⟩ => ⟨S1x2048x512, .f32⟩
  | .hbm, ⟨22, _⟩ => ⟨S1x2048x512, .f32⟩
  | .hbm, ⟨23, _⟩ => ⟨S1x2048x512, .f32⟩
  | .hbm, ⟨24, _⟩ => ⟨S_, .f32⟩
  | .hbm, ⟨25, _⟩ => ⟨S1x2048x512, .f32⟩
  | .hbm, ⟨26, _⟩ => ⟨S1x2048x512, .f32⟩
  | .hbm, ⟨27, _⟩ => ⟨S1x2048x512, .f32⟩
  | .hbm, ⟨28, _⟩ => ⟨S_, .f32⟩
  | .hbm, ⟨29, _⟩ => ⟨S1x2048x512, .f32⟩
  | .hbm, ⟨30, _⟩ => ⟨S1x2048x512, .f32⟩
  | .hbm, ⟨31, _⟩ => ⟨S_, .f32⟩
  | .hbm, ⟨32, _⟩ => ⟨S1x2048x512, .f32⟩
  | .hbm, ⟨33, _⟩ => ⟨S1x2048x512, .f32⟩
  | .hbm, ⟨34, _⟩ => ⟨S1x2048x512, .f32⟩
  | .hbm, ⟨35, _⟩ => ⟨S_, .f32⟩
  | .hbm, ⟨36, _⟩ => ⟨S1x2048x512, .f32⟩
  | .hbm, ⟨37, _⟩ => ⟨S1x2048x512, .f32⟩
  | .hbm, ⟨38, _⟩ => ⟨S1x2048x512, .f32⟩
  | .hbm, ⟨39, _⟩ => ⟨S_, .f32⟩
  | .hbm, ⟨40, _⟩ => ⟨S1x2048x512, .f32⟩
  | .hbm, ⟨41, _⟩ => ⟨S1x2048x512, .f32⟩
  | .hbm, ⟨42, _⟩ => ⟨S1x2048x512, .f32⟩
  | .hbm, ⟨43, _⟩ => ⟨S_, .f32⟩
  | .hbm, ⟨44, _⟩ => ⟨S1x2048x512, .f32⟩
  | .hbm, ⟨45, _⟩ => ⟨S1x2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel18.lean ====
abbrev S4x256x2048 : Shape := ⟨3, ![4, 256, 2048]⟩
abbrev S3x256x2048 : Shape := ⟨3, ![3, 256, 2048]⟩
abbrev S1x256x2048 : Shape := ⟨3, ![1, 256, 2048]⟩
abbrev S_ : Shape := ⟨0, ![]⟩
abbrev S1 : Shape := ⟨1, ![1]⟩
abbrev S2 : Shape := ⟨1, ![2]⟩
abbrev S1024x2048 : Shape := ⟨2, ![1024, 2048]⟩
abbrev S256x2048 : Shape := ⟨2, ![256, 2048]⟩

abbrev nBuf : Space → Nat
  | .hbm => 15
  | .vmem => 11
  | .smem => 1
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S1024x2048, .bf16⟩
  | .hbm, ⟨11, _⟩ => ⟨S1x256x2048, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .local _ .vmem, ⟨0, _⟩ => ⟨S256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .smem, ⟨0, _⟩ => ⟨S2, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference18Ideal.lean ====
abbrev S4x256x2048 : Shape := ⟨3, ![4, 256, 2048]⟩
abbrev S3x256x2048 : Shape := ⟨3, ![3, 256, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .bf16⟩
  | .hbm, ⟨6, _⟩ => ⟨S256x2048, .bf16⟩
  | .hbm, ⟨7, _⟩ => ⟨S256x2048, .f32⟩
  | .hbm, ⟨8, _⟩ => ⟨S3x256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S1x256x2048, .f32⟩
  | .hbm, ⟨13, _⟩ => ⟨S_, .f32⟩
  | .hbm, ⟨14, _⟩ => ⟨S1x256x2048, .f32⟩
  | .hbm, ⟨15, _⟩ => ⟨S1x256x2048, .f32⟩
  | .hbm, ⟨16, _⟩ => ⟨S_, .f32⟩
  | .hbm, ⟨17, _⟩ => ⟨S1x256x2048, .f32⟩
  | .hbm, ⟨18, _⟩ => ⟨S1x256x2048, .f32⟩
  | .hbm, ⟨19, _⟩ => ⟨S1x256x2048, .f32⟩
  | .hbm, ⟨20, _⟩ => ⟨S_, .f32⟩
  | .hbm, ⟨21, _⟩ => ⟨S1x256x2048, .f32⟩
  | .hbm, ⟨22, _⟩ => ⟨S1x256x2048, .f32⟩
  | .hbm, ⟨23, _⟩ => ⟨S1x256x2048, .f32⟩
  | .hbm, ⟨24, _⟩ => ⟨S_, .f32⟩
  | .hbm, ⟨25, _⟩ => ⟨S1x256x2048, .f32⟩
  | .hbm, ⟨26, _⟩ => ⟨S1x256x2048, .f32⟩
  | .hbm, ⟨27, _⟩ => ⟨S1x256x2048, .f32⟩
  | .hbm, ⟨28, _⟩ => ⟨S_, .f32⟩
  | .hbm, ⟨29, _⟩ => ⟨S1x256x2048, .f32⟩
  | .hbm, ⟨30, _⟩ => ⟨S1x256x2048, .f32⟩
  | .hbm, ⟨31, _⟩ => ⟨S_, .f32⟩
  | .hbm, ⟨32, _⟩ => ⟨S1x256x2048, .f32⟩
  | .hbm, ⟨33, _⟩ => ⟨S1x256x2048, .f32⟩
  | .hbm, ⟨34, _⟩ => ⟨S1x256x2048, .f32⟩
  | .hbm, ⟨35, _⟩ => ⟨S_, .f32⟩
  | .hbm, ⟨36, _⟩ => ⟨S1x256x2048, .f32⟩
  | .hbm, ⟨37, _⟩ => ⟨S1x256x2048, .f32⟩
  | .hbm, ⟨38, _⟩ => ⟨S1x256x2048, .f32⟩
  | .hbm, ⟨39, _⟩ => ⟨S_, .f32⟩
  | .hbm, ⟨40, _⟩ => ⟨S1x256x2048, .f32⟩
  | .hbm, ⟨41, _⟩ => ⟨S1x256x2048, .f32⟩
  | .hbm, ⟨42, _⟩ => ⟨S1x256x2048, .f32⟩
  | .hbm, ⟨43, _⟩ => ⟨S_, .f32⟩
  | .hbm, ⟨44, _⟩ => ⟨S1x256x2048, .f32⟩
  | .hbm, ⟨45, _⟩ => ⟨S1x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel19.lean ====
abbrev S4x770x2048 : Shape := ⟨3, ![4, 770, 2048]⟩
abbrev S3x770x2048 : Shape := ⟨3, ![3, 770, 2048]⟩
abbrev S1x2048x770 : Shape := ⟨3, ![1, 2048, 770]⟩
abbrev S_ : Shape := ⟨0, ![]⟩
abbrev S1 : Shape := ⟨1, ![1]⟩
abbrev S2 : Shape := ⟨1, ![2]⟩
abbrev S2048x770 : Shape := ⟨2, ![2048, 770]⟩
abbrev S770x2048 : Shape := ⟨2, ![770, 2048]⟩
abbrev S1x770x512 : Shape := ⟨3, ![1, 770, 512]⟩
abbrev S770x512 : Shape := ⟨2, ![770, 512]⟩

abbrev nBuf : Space → Nat
  | .hbm => 28
  | .vmem => 22
  | .smem => 1
  | _ => 0

abbrev bufTy : (tb : Table) → Fin (tcTables nBuf tb) → BufTy
  | .hbm, ⟨0, _⟩ => ⟨S4x770x2048, .bf16⟩
  | .hbm, ⟨1, _⟩ => ⟨S3x770x2048, .bf16⟩
  | .hbm, ⟨2, _⟩ => ⟨S1x2048x770, .f32⟩
  | .hbm, ⟨3, _⟩ => ⟨S1x2048x770, .f32⟩
  | .hbm, ⟨4, _⟩ => ⟨S1x2048x770, .f32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S2048x770, .f32⟩
  | .hbm, ⟨11, _⟩ => ⟨S770x2048, .f32⟩
  | .hbm, ⟨12, _⟩ => ⟨S2048x770, .f32⟩
  | .hbm, ⟨13, _⟩ => ⟨S770x2048, .f32⟩
  | .hbm, ⟨14, _⟩ => ⟨S2048x770, .f32⟩
  | .hbm, ⟨15, _⟩ => ⟨S770x2048, .f32⟩
  | .hbm, ⟨16, _⟩ => ⟨S770x2048, .f32⟩
  | .hbm, ⟨17, _⟩ => ⟨S770x2048, .f32⟩
  | .hbm, ⟨18, _⟩ => ⟨S770x2048, .f32⟩
  | .hbm, ⟨19, _⟩ => ⟨S770x2048, .f32⟩
  | .hbm, ⟨20, _⟩ => ⟨S2048x770, .f32⟩
  | .hbm, ⟨21, _⟩ => ⟨S1x2048x770, .f32⟩
  | .hbm, ⟨22, _⟩ => ⟨S2048x770, .f32⟩
  | .hbm, ⟨23, _⟩ => ⟨S1x2048x770, .f32⟩
  | .hbm, ⟨24, _⟩ => ⟨S2048x770, .f32⟩
  | .hbm, ⟨25, _⟩ => ⟨S1x2048x770, .f32⟩
  | .hbm, ⟨26, _⟩ => ⟨S2048x770, .f32⟩
  | .hbm, ⟨27, _⟩ => ⟨S1x2048x770, .f32⟩
  | .local _ .vmem, ⟨0, _⟩ => ⟨S1x770x512, .bf16⟩
  | .local _ .vmem, ⟨1, _⟩ => ⟨S1x770x512, .bf16⟩
  | .local _ .vmem, ⟨2, _⟩ => ⟨S1x770x512, .bf16⟩
  | .local _ .vmem, ⟨3, _⟩ => ⟨S1x770x512, .bf16⟩
  | .local _ .vmem, ⟨4, _⟩ => ⟨S1x770x512, .bf16⟩
  | .local _ .vmem, ⟨5, _⟩ => ⟨S1x770x512, .bf16⟩
  | .local _ .vmem, ⟨6, _⟩ => ⟨S1x770x512, .bf16⟩
  | .local _ .vmem, ⟨7, _⟩ => ⟨S1x770x512, .bf16⟩
  | .local _ .vmem, ⟨8, _⟩ => ⟨S770x512, .f32⟩
  | .local _ .vmem, ⟨9, _⟩ => ⟨S770x512, .f32⟩
  | .local _ .vmem, ⟨10, _⟩ => ⟨S770x512, .f32⟩
  | .local _ .vmem, ⟨11, _⟩ => ⟨S770x512, .f32⟩
  | .local _ .vmem, ⟨12, _⟩ => ⟨S770x512, .f32⟩
  | .local _ .vmem, ⟨13, _⟩ => ⟨S770x512, .f32⟩
  | .local _ .vmem, ⟨14, _⟩ => ⟨S770x512, .f32⟩
  | .local _ .vmem, ⟨15, _⟩ => ⟨S770x512, .f32⟩
  | .local _ .vmem, ⟨16, _⟩ => ⟨S770x512, .f32⟩
  | .local _ .vmem, ⟨17, _⟩ => ⟨S770x512, .f32⟩
  | .local _ .vmem, ⟨18, _⟩ => ⟨S770x512, .f32⟩
  | .local _ .vmem, ⟨19, _⟩ => ⟨S770x512, .f32⟩
  | .local _ .vmem, ⟨20, _⟩ => ⟨S770x512, .f32⟩
  | .local _ .vmem, ⟨21, _⟩ => ⟨S770x512, .f32⟩
  | .local _ .smem, ⟨0, _⟩ => ⟨S2, .i32⟩
  | _, _ => ⟨S4x770x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1x770x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x770x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x770x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x770x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S770x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S770x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S770x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S770x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S770x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S770x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S770x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== Reference19Ideal.lean ====
abbrev S4x770x2048 : Shape := ⟨3, ![4, 770, 2048]⟩
abbrev S3x770x2048 : Shape := ⟨3, ![3, 770, 2048]⟩
abbrev S1x2048x770 : Shape := ⟨3, ![1, 2048, 770]⟩
abbrev S1x770x2048 : Shape := ⟨3, ![1, 770, 2048]⟩
abbrev S770x2048 : Shape := ⟨2, ![770, 2048]⟩
abbrev S_ : Shape := ⟨0, ![]⟩
abbrev S2048x770 : Shape := ⟨2, ![2048, 770]⟩

abbrev nBuf : Space → Nat
  | .hbm => 47
  | .vmem => 0
  | .smem => 0
  | _ => 0

abbrev bufTy : (tb : Table) → Fin (tcTables nBuf tb) → BufTy
  | .hbm, ⟨0, _⟩ => ⟨S4x770x2048, .bf16⟩
  | .hbm, ⟨1, _⟩ => ⟨S3x770x2048, .bf16⟩
  | .hbm, ⟨2, _⟩ => ⟨S1x2048x770, .f32⟩
  | .hbm, ⟨3, _⟩ => ⟨S1x2048x770, .f32⟩
  | .hbm, ⟨4, _⟩ => ⟨S1x2048x770, .f32⟩
  | .hbm, ⟨5, _⟩ => ⟨S1x770x2048, .bf16⟩
  | .hbm, ⟨6, _⟩ => ⟨S770x2048, .bf16⟩
  | .hbm, ⟨7, _⟩ => ⟨S770x2048, .f32⟩
  | .hbm, ⟨8, _⟩ => ⟨S3x770x2048, .f32⟩
  | .hbm, ⟨9, _⟩ => ⟨S_, .f32⟩
  | .hbm, ⟨10, _⟩ => ⟨S770x2048, .f32⟩
  | .hbm, ⟨11, _⟩ => ⟨S770x2048, .f32⟩
  | .hbm, ⟨12, _⟩ => ⟨S2048x770, .f32⟩
  | .hbm, ⟨13, _⟩ => ⟨S1x2048x770, .f32⟩
  | .hbm, ⟨14, _⟩ => ⟨S_, .f32⟩
  | .hbm, ⟨15, _⟩ => ⟨S1x2048x770, .f32⟩
  | .hbm, ⟨16, _⟩ => ⟨S1x2048x770, .f32⟩
  | .hbm, ⟨17, _⟩ => ⟨S_, .f32⟩
  | .hbm, ⟨18, _⟩ => ⟨S1x2048x770, .f32⟩
  | .hbm, ⟨19, _⟩ => ⟨S1x2048x770, .f32⟩
  | .hbm, ⟨20, _⟩ => ⟨S1x2048x770, .f32⟩
  | .hbm, ⟨21, _⟩ => ⟨S_, .f32⟩
  | .hbm, ⟨22, _⟩ => ⟨S1x2048x770, .f32⟩
  | .hbm, ⟨23, _⟩ => ⟨S1x2048x770, .f32⟩
  | .hbm, ⟨24, _⟩ => ⟨S1x2048x770, .f32⟩
  | .hbm, ⟨25, _⟩ => ⟨S_, .f32⟩
  | .hbm, ⟨26, _⟩ => ⟨S1x2048x770, .f32⟩
  | .hbm, ⟨27, _⟩ => ⟨S1x2048x770, .f32⟩
  | .hbm, ⟨28, _⟩ => ⟨S1x2048x770, .f32⟩
  | .hbm, ⟨29, _⟩ => ⟨S_, .f32⟩
  | .hbm, ⟨30, _⟩ => ⟨S1x2048x770, .f32⟩
  | .hbm, ⟨31, _⟩ => ⟨S1x2048x770, .f32⟩
  | .hbm, ⟨32, _⟩ => ⟨S_, .f32⟩
  | .hbm, ⟨33, _⟩ => ⟨S1x2048x770, .f32⟩
  | .hbm, ⟨34, _⟩ => ⟨S1x2048x770, .f32⟩
  | .hbm, ⟨35, _⟩ => ⟨S1x2048x770, .f32⟩
  | .hbm, ⟨36, _⟩ => ⟨S_, .f32⟩
  | .hbm, ⟨37, _⟩ => ⟨S1x2048x770, .f32⟩
  | .hbm, ⟨38, _⟩ => ⟨S1x2048x770, .f32⟩
  | .hbm, ⟨39, _⟩ => ⟨S1x2048x770, .f32⟩
  | .hbm, ⟨40, _⟩ => ⟨S_, .f32⟩
  | .hbm, ⟨41, _⟩ => ⟨S1x2048x770, .f32⟩
  | .hbm, ⟨42, _⟩ => ⟨S1x2048x770, .f32⟩
  | .hbm, ⟨43, _⟩ => ⟨S1x2048x770, .f32⟩
  | .hbm, ⟨44, _⟩ => ⟨S_, .f32⟩
  | .hbm, ⟨45, _⟩ => ⟨S1x2048x770, .f32⟩
  | .hbm, ⟨46, _⟩ => ⟨S1x2048x770, .f32⟩
  | _, _ => ⟨S4x770x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel20.lean ====
abbrev S4x2048x1024 : Shape := ⟨3, ![4, 2048, 1024]⟩
abbrev S3x2048x1024 : Shape := ⟨3, ![3, 2048, 1024]⟩
abbrev S2x2048x1024 : Shape := ⟨3, ![2, 2048, 1024]⟩
abbrev S_ : Shape := ⟨0, ![]⟩
abbrev S1 : Shape := ⟨1, ![1]⟩
abbrev S2 : Shape := ⟨1, ![2]⟩
abbrev S8192x1024 : Shape := ⟨2, ![8192, 1024]⟩
abbrev S256x1024 : Shape := ⟨2, ![256, 1024]⟩
abbrev S1x256x1024 : Shape := ⟨3, ![1, 256, 1024]⟩
abbrev S1x2048x1024 : Shape := ⟨3, ![1, 2048, 1024]⟩

abbrev nBuf : Space → Nat
  | .hbm => 19
  | .vmem => 22
  | .smem => 1
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S8192x1024, .bf16⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S1x2048x1024, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .local _ .vmem, ⟨0, _⟩ => ⟨S256x1024, .bf16⟩
  | .local _ .vmem, ⟨1, _⟩ => ⟨S256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .smem, ⟨0, _⟩ => ⟨S2, .i32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference20Ideal.lean ====
abbrev S4x2048x1024 : Shape := ⟨3, ![4, 2048, 1024]⟩
abbrev S3x2048x1024 : Shape := ⟨3, ![3, 2048, 1024]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S1x2048x1024, .bf16⟩
  | .hbm, ⟨6, _⟩ => ⟨S2048x1024, .bf16⟩
  | .hbm, ⟨7, _⟩ => ⟨S2048x1024, .f32⟩
  | .hbm, ⟨8, _⟩ => ⟨S3x2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S1x2048x1024, .f32⟩
  | .hbm, ⟨16, _⟩ => ⟨S_, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S_, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1x2048x1024, .f32⟩
  | .hbm, ⟨40, _⟩ => ⟨S1x2048x1024, .f32⟩
  | .hbm, ⟨41, _⟩ => ⟨S1x2048x1024, .f32⟩
  | .hbm, ⟨42, _⟩ => ⟨S_, .f32⟩
  | .hbm, ⟨43, _⟩ => ⟨S1x2048x1024, .f32⟩
  | .hbm, ⟨44, _⟩ => ⟨S1x2048x1024, .f32⟩
  | .hbm, ⟨45, _⟩ => ⟨S1x2048x1024, .f32⟩
  | .hbm, ⟨46, _⟩ => ⟨S_, .f32⟩
  | .hbm, ⟨47, _⟩ => ⟨S1x2048x1024, .f32⟩
  | .hbm, ⟨48, _⟩ => ⟨S1x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel21.lean ====
abbrev S4x2048x1024 : Shape := ⟨3, ![4, 2048, 1024]⟩
abbrev S3x2048x1024 : Shape := ⟨3, ![3, 2048, 1024]⟩
abbrev S2x2048x1024 : Shape := ⟨3, ![2, 2048, 1024]⟩
abbrev S_ : Shape := ⟨0, ![]⟩
abbrev S1 : Shape := ⟨1, ![1]⟩
abbrev S2 : Shape := ⟨1, ![2]⟩
abbrev S8192x1024 : Shape := ⟨2, ![8192, 1024]⟩
abbrev S256x1024 : Shape := ⟨2, ![256, 1024]⟩
abbrev S1x256x1024 : Shape := ⟨3, ![1, 256, 1024]⟩

abbrev nBuf : Space → Nat
  | .hbm => 19
  | .vmem => 22
  | .smem => 1
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S2, .i32⟩
  | .hbm, ⟨14, _⟩ => ⟨S8192x1024, .bf16⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .local _ .vmem, ⟨0, _⟩ => ⟨S256x1024, .bf16⟩
  | .local _ .vmem, ⟨1, _⟩ => ⟨S256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .smem, ⟨0, _⟩ => ⟨S2, .i32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference21Ideal.lean ====
abbrev S4x2048x1024 : Shape := ⟨3, ![4, 2048, 1024]⟩
abbrev S3x2048x1024 : Shape := ⟨3, ![3, 2048, 1024]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S1x2048x1024, .bf16⟩
  | .hbm, ⟨10, _⟩ => ⟨S2048x1024, .bf16⟩
  | .hbm, ⟨11, _⟩ => ⟨S2048x1024, .f32⟩
  | .hbm, ⟨12, _⟩ => ⟨S3x2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S1x2048x1024, .f32⟩
  | .hbm, ⟨20, _⟩ => ⟨S_, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S_, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1x2048x1024, .f32⟩
  | .hbm, ⟨40, _⟩ => ⟨S1x2048x1024, .f32⟩
  | .hbm, ⟨41, _⟩ => ⟨S1x2048x1024, .f32⟩
  | .hbm, ⟨42, _⟩ => ⟨S_, .f32⟩
  | .hbm, ⟨43, _⟩ => ⟨S1x2048x1024, .f32⟩
  | .hbm, ⟨44, _⟩ => ⟨S1x2048x1024, .f32⟩
  | .hbm, ⟨45, _⟩ => ⟨S1x2048x1024, .f32⟩
  | .hbm, ⟨46, _⟩ => ⟨S_, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S_, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S2x2048x1024, .f32⟩
  | .hbm, ⟨55, _⟩ => ⟨S1x2048x1024, .f32⟩
  | .hbm, ⟨56, _⟩ => ⟨S2x2048x1024, .f32⟩
  | .hbm, ⟨57, _⟩ => ⟨S1x2048x1024, .f32⟩
  | .hbm, ⟨58, _⟩ => ⟨S2x2048x1024, .f32⟩
  | .hbm, ⟨59, _⟩ => ⟨S1x2048x1024, .f32⟩
  | .hbm, ⟨60, _⟩ => ⟨S2x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel22.lean ====
abbrev S4x1024x2048 : Shape := ⟨3, ![4, 1024, 2048]⟩
abbrev S3x1024x2048 : Shape := ⟨3, ![3, 1024, 2048]⟩
abbrev S2x1024x2048 : Shape := ⟨3, ![2, 1024, 2048]⟩
abbrev S_ : Shape := ⟨0, ![]⟩
abbrev S1 : Shape := ⟨1, ![1]⟩
abbrev S2 : Shape := ⟨1, ![2]⟩
abbrev S4096x2048 : Shape := ⟨2, ![4096, 2048]⟩
abbrev S256x2048 : Shape := ⟨2, ![256, 2048]⟩
abbrev S1x256x2048 : Shape := ⟨3, ![1, 256, 2048]⟩
abbrev S1x1024x2048 : Shape := ⟨3, ![1, 1024, 2048]⟩

abbrev nBuf : Space → Nat
  | .hbm => 19
  | .vmem => 22
  | .smem => 1
  | _ => 0

abbrev bufTy : (tb : Table) → Fin (tcTables nBuf tb) → BufTy
  | .hbm, ⟨0, _⟩ => ⟨S4x1024x2048, .bf16⟩
  | .hbm, ⟨1, _⟩ => ⟨S3x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S4096x2048, .bf16⟩
  | .hbm, ⟨11, _⟩ => ⟨S2x1024x2048, .f32⟩
  | .hbm, ⟨12, _⟩ => ⟨S2x1024x2048, .f32⟩
  | .hbm, ⟨13, _⟩ => ⟨S2x1024x2048, .f32⟩
  | .hbm, ⟨14, _⟩ => ⟨S2x1024x2048, .f32⟩
  | .hbm, ⟨15, _⟩ => ⟨S1x1024x2048, .f32⟩
  | .hbm, ⟨16, _⟩ => ⟨S1x1024x2048, .f32⟩
  | .hbm, ⟨17, _⟩ => ⟨S1x1024x2048, .f32⟩
  | .hbm, ⟨18, _⟩ => ⟨S1x1024x2048, .f32⟩
  | .local _ .vmem, ⟨0, _⟩ => ⟨S256x2048, .bf16⟩
  | .local _ .vmem, ⟨1, _⟩ => ⟨S256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x2048, .f32⟩
  | .local _ .vmem, ⟨21, _⟩ => ⟨S1x256x2048, .f32⟩
  | .local _ .smem, ⟨0, _⟩ => ⟨S2, .i32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference22Ideal.lean ====
abbrev S4x1024x2048 : Shape := ⟨3, ![4, 1024, 2048]⟩
abbrev S3x1024x2048 : Shape := ⟨3, ![3, 1024, 2048]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S3x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S1x1024x2048, .bf16⟩
  | .hbm, ⟨6, _⟩ => ⟨S1024x2048, .bf16⟩
  | .hbm, ⟨7, _⟩ => ⟨S1024x2048, .f32⟩
  | .hbm, ⟨8, _⟩ => ⟨S3x1024x2048, .f32⟩
  | .hbm, ⟨9, _⟩ => ⟨S_, .f32⟩
  | .hbm, ⟨10, _⟩ => ⟨S1024x2048, .f32⟩
  | .hbm, ⟨11, _⟩ => ⟨S1024x2048, .f32⟩
  | .hbm, ⟨12, _⟩ => ⟨S1x1024x2048, .f32⟩
  | .hbm, ⟨13, _⟩ => ⟨S1x1024x2048, .f32⟩
  | .hbm, ⟨14, _⟩ => ⟨S1x1024x2048, .f32⟩
  | .hbm, ⟨15, _⟩ => ⟨S1x1024x2048, .f32⟩
  | .hbm, ⟨16, _⟩ => ⟨S_, .f32⟩
  | .hbm, ⟨17, _⟩ => ⟨S1x1024x2048, .f32⟩
  | .hbm, ⟨18, _⟩ => ⟨S1x1024x2048, .f32⟩
  | .hbm, ⟨19, _⟩ => ⟨S_, .f32⟩
  | .hbm, ⟨20, _⟩ => ⟨S1x1024x2048, .f32⟩
  | .hbm, ⟨21, _⟩ => ⟨S1x1024x2048, .f32⟩
  | .hbm, ⟨22, _⟩ => ⟨S1x1024x2048, .f32⟩
  | .hbm, ⟨23, _⟩ => ⟨S_, .f32⟩
  | .hbm, ⟨24, _⟩ => ⟨S1x1024x2048, .f32⟩
  | .hbm, ⟨25, _⟩ => ⟨S1x1024x2048, .f32⟩
  | .hbm, ⟨26, _⟩ => ⟨S1x1024x2048, .f32⟩
  | .hbm, ⟨27, _⟩ => ⟨S_, .f32⟩
  | .hbm, ⟨28, _⟩ => ⟨S1x1024x2048, .f32⟩
  | .hbm, ⟨29, _⟩ => ⟨S1x1024x2048, .f32⟩
  | .hbm, ⟨30, _⟩ => ⟨S1x1024x2048, .f32⟩
  | .hbm, ⟨31, _⟩ => ⟨S_, .f32⟩
  | .hbm, ⟨32, _⟩ => ⟨S1x1024x2048, .f32⟩
  | .hbm, ⟨33, _⟩ => ⟨S1x1024x2048, .f32⟩
  | .hbm, ⟨34, _⟩ => ⟨S_, .f32⟩
  | .hbm, ⟨35, _⟩ => ⟨S1x1024x2048, .f32⟩
  | .hbm, ⟨36, _⟩ => ⟨S1x1024x2048, .f32⟩
  | .hbm, ⟨37, _⟩ => ⟨S1x1024x2048, .f32⟩
  | .hbm, ⟨38, _⟩ => ⟨S_, .f32⟩
  | .hbm, ⟨39, _⟩ => ⟨S1x1024x2048, .f32⟩
  | .hbm, ⟨40, _⟩ => ⟨S1x1024x2048, .f32⟩
  | .hbm, ⟨41, _⟩ => ⟨S1x1024x2048, .f32⟩
  | .hbm, ⟨42, _⟩ => ⟨S_, .f32⟩
  | .hbm, ⟨43, _⟩ => ⟨S1x1024x2048, .f32⟩
  | .hbm, ⟨44, _⟩ => ⟨S1x1024x2048, .f32⟩
  | .hbm, ⟨45, _⟩ => ⟨S1x1024x2048, .f32⟩
  | .hbm, ⟨46, _⟩ => ⟨S_, .f32⟩
  | .hbm, ⟨47, _⟩ => ⟨S1x1024x2048, .f32⟩
  | .hbm, ⟨48, _⟩ => ⟨S1x1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel23.lean ====
abbrev S4x1024x2048 : Shape := ⟨3, ![4, 1024, 2048]⟩
abbrev S3x1024x2048 : Shape := ⟨3, ![3, 1024, 2048]⟩
abbrev S2x1024x2048 : Shape := ⟨3, ![2, 1024, 2048]⟩
abbrev S_ : Shape := ⟨0, ![]⟩
abbrev S1 : Shape := ⟨1, ![1]⟩
abbrev S2 : Shape := ⟨1, ![2]⟩
abbrev S4096x2048 : Shape := ⟨2, ![4096, 2048]⟩
abbrev S256x2048 : Shape := ⟨2, ![256, 2048]⟩
abbrev S1x256x2048 : Shape := ⟨3, ![1, 256, 2048]⟩

abbrev nBuf : Space → Nat
  | .hbm => 19
  | .vmem => 22
  | .smem => 1
  | _ => 0

abbrev bufTy : (tb : Table) → Fin (tcTables nBuf tb) → BufTy
  | .hbm, ⟨0, _⟩ => ⟨S4x1024x2048, .bf16⟩
  | .hbm, ⟨1, _⟩ => ⟨S3x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S2, .i32⟩
  | .hbm, ⟨14, _⟩ => ⟨S4096x2048, .bf16⟩
  | .hbm, ⟨15, _⟩ => ⟨S2x1024x2048, .f32⟩
  | .hbm, ⟨16, _⟩ => ⟨S2x1024x2048, .f32⟩
  | .hbm, ⟨17, _⟩ => ⟨S2x1024x2048, .f32⟩
  | .hbm, ⟨18, _⟩ => ⟨S2x1024x2048, .f32⟩
  | .local _ .vmem, ⟨0, _⟩ => ⟨S256x2048, .bf16⟩
  | .local _ .vmem, ⟨1, _⟩ => ⟨S256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x2048, .f32⟩
  | .local _ .vmem, ⟨21, _⟩ => ⟨S1x256x2048, .f32⟩
  | .local _ .smem, ⟨0, _⟩ => ⟨S2, .i32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference23Ideal.lean ====
abbrev S4x1024x2048 : Shape := ⟨3, ![4, 1024, 2048]⟩
abbrev S3x1024x2048 : Shape := ⟨3, ![3, 1024, 2048]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S3x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S1x1024x2048, .bf16⟩
  | .hbm, ⟨10, _⟩ => ⟨S1024x2048, .bf16⟩
  | .hbm, ⟨11, _⟩ => ⟨S1024x2048, .f32⟩
  | .hbm, ⟨12, _⟩ => ⟨S3x1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1x1024x2048, .f32⟩
  | .hbm, ⟨17, _⟩ => ⟨S1x1024x2048, .f32⟩
  | .hbm, ⟨18, _⟩ => ⟨S1x1024x2048, .f32⟩
  | .hbm, ⟨19, _⟩ => ⟨S1x1024x2048, .f32⟩
  | .hbm, ⟨20, _⟩ => ⟨S_, .f32⟩
  | .hbm, ⟨21, _⟩ => ⟨S1x1024x2048, .f32⟩
  | .hbm, ⟨22, _⟩ => ⟨S1x1024x2048, .f32⟩
  | .hbm, ⟨23, _⟩ => ⟨S_, .f32⟩
  | .hbm, ⟨24, _⟩ => ⟨S1x1024x2048, .f32⟩
  | .hbm, ⟨25, _⟩ => ⟨S1x1024x2048, .f32⟩
  | .hbm, ⟨26, _⟩ => ⟨S1x1024x2048, .f32⟩
  | .hbm, ⟨27, _⟩ => ⟨S_, .f32⟩
  | .hbm, ⟨28, _⟩ => ⟨S1x1024x2048, .f32⟩
  | .hbm, ⟨29, _⟩ => ⟨S1x1024x2048, .f32⟩
  | .hbm, ⟨30, _⟩ => ⟨S1x1024x2048, .f32⟩
  | .hbm, ⟨31, _⟩ => ⟨S_, .f32⟩
  | .hbm, ⟨32, _⟩ => ⟨S1x1024x2048, .f32⟩
  | .hbm, ⟨33, _⟩ => ⟨S1x1024x2048, .f32⟩
  | .hbm, ⟨34, _⟩ => ⟨S1x1024x2048, .f32⟩
  | .hbm, ⟨35, _⟩ => ⟨S_, .f32⟩
  | .hbm, ⟨36, _⟩ => ⟨S1x1024x2048, .f32⟩
  | .hbm, ⟨37, _⟩ => ⟨S1x1024x2048, .f32⟩
  | .hbm, ⟨38, _⟩ => ⟨S_, .f32⟩
  | .hbm, ⟨39, _⟩ => ⟨S1x1024x2048, .f32⟩
  | .hbm, ⟨40, _⟩ => ⟨S1x1024x2048, .f32⟩
  | .hbm, ⟨41, _⟩ => ⟨S1x1024x2048, .f32⟩
  | .hbm, ⟨42, _⟩ => ⟨S_, .f32⟩
  | .hbm, ⟨43, _⟩ => ⟨S1x1024x2048, .f32⟩
  | .hbm, ⟨44, _⟩ => ⟨S1x1024x2048, .f32⟩
  | .hbm, ⟨45, _⟩ => ⟨S1x1024x2048, .f32⟩
  | .hbm, ⟨46, _⟩ => ⟨S_, .f32⟩
  | .hbm, ⟨47, _⟩ => ⟨S1x1024x2048, .f32⟩
  | .hbm, ⟨48, _⟩ => ⟨S1x1024x2048, .f32⟩
  | .hbm, ⟨49, _⟩ => ⟨S1x1024x2048, .f32⟩
  | .hbm, ⟨50, _⟩ => ⟨S_, .f32⟩
  | .hbm, ⟨51, _⟩ => ⟨S1x1024x2048, .f32⟩
  | .hbm, ⟨52, _⟩ => ⟨S1x1024x2048, .f32⟩
  | .hbm, ⟨53, _⟩ => ⟨S1x1024x2048, .f32⟩
  | .hbm, ⟨54, _⟩ => ⟨S2x1024x2048, .f32⟩
  | .hbm, ⟨55, _⟩ => ⟨S1x1024x2048, .f32⟩
  | .hbm, ⟨56, _⟩ => ⟨S2x1024x2048, .f32⟩
  | .hbm, ⟨57, _⟩ => ⟨S1x1024x2048, .f32⟩
  | .hbm, ⟨58, _⟩ => ⟨S2x1024x2048, .f32⟩
  | .hbm, ⟨59, _⟩ => ⟨S1x1024x2048, .f32⟩
  | .hbm, ⟨60, _⟩ => ⟨S2x1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Proof.Delta.Math.lean ====
module

public import Idealize.ShloMosaic.Lib.Pointwise

@[expose] public section

noncomputable section

/-! One chunk of the backward pass of the gated delta rule, written over real numbers: the head's
rows of query, key, value, rate and log decay, the forward intermediates, and the gradients. -/

namespace Cert.Delta

open Idealize.ShloMosaic

/-- The real number that the word of the query scale stands for. -/
def sc : ℝ := (Ideal.ofBits .f32 0x3DB504F3#32).toReal

/-- What one chunk reads: its rows of the packed projections and gates, the saved inverse and entry
state of every head, the cotangent of its output and the cotangent of its exit state. -/
structure Chunk where
  X : Fin 64 → Fin 3072 → ℝ
  B : Fin 64 → Fin 128 → ℝ
  xi : Fin 8 → Fin 64 → Fin 64 → ℝ
  s : Fin 8 → Fin 128 → Fin 128 → ℝ
  Y : Fin 64 → Fin 1024 → ℝ
  ds : Fin 8 → Fin 128 → Fin 128 → ℝ

namespace Chunk

variable (C : Chunk)

def q (h : Fin 8) (i : Fin 64) (d : Fin 128) : ℝ := C.X i ⟨h.val * 128 + d.val, by omega⟩
def k (h : Fin 8) (i : Fin 64) (d : Fin 128) : ℝ := C.X i ⟨1024 + (h.val * 128 + d.val), by omega⟩
def v (h : Fin 8) (i : Fin 64) (d : Fin 128) : ℝ := C.X i ⟨2048 + (h.val * 128 + d.val), by omega⟩
def b (h : Fin 8) (i : Fin 64) : ℝ := C.B i ⟨h.val, by omega⟩
def g (h : Fin 8) (i : Fin 64) : ℝ := C.B i ⟨8 + h.val, by omega⟩
def o (h : Fin 8) (i : Fin 64) (d : Fin 128) : ℝ := C.Y i ⟨h.val * 128 + d.val, by omega⟩

def qs (h : Fin 8) (i : Fin 64) (d : Fin 128) : ℝ := C.q h i d * sc
def E (h : Fin 8) (i j : Fin 64) : ℝ := if j ≤ i then Real.exp (C.g h i - C.g h j) else 0
def kb (h : Fin 8) (i : Fin 64) (d : Fin 128) : ℝ := C.k h i d * C.b h i
def kk (h : Fin 8) (i j : Fin 64) : ℝ := ∑ d, C.kb h i d * C.k h j d
def eg (h : Fin 8) (i : Fin 64) : ℝ := Real.exp (C.g h i)
def qk (h : Fin 8) (i j : Fin 64) : ℝ := ∑ d, C.qs h i d * C.k h j d
def qd (h : Fin 8) (i : Fin 64) (d : Fin 128) : ℝ := C.qs h i d * C.eg h i
def el (h : Fin 8) (i : Fin 64) : ℝ := Real.exp (C.g h 63 - C.g h i)
def egl (h : Fin 8) : ℝ := Real.exp (C.g h 63)

def rhs (h : Fin 8) (i : Fin 64) (e : Fin 256) : ℝ :=
  if he : e.val < 128 then C.v h i ⟨e.val, he⟩ * C.b h i
  else C.kb h i ⟨e.val - 128, by omega⟩ * C.eg h i
def sol (h : Fin 8) (i : Fin 64) (e : Fin 256) : ℝ := ∑ j, C.xi h i j * C.rhs h j e
def u (h : Fin 8) (i : Fin 64) (d : Fin 128) : ℝ := C.sol h i ⟨d.val, by omega⟩
def w (h : Fin 8) (i : Fin 64) (d : Fin 128) : ℝ := C.sol h i ⟨128 + d.val, by omega⟩
def vn (h : Fin 8) (i : Fin 64) (e : Fin 128) : ℝ := C.u h i e - ∑ d, C.w h i d * C.s h d e
def kd (h : Fin 8) (i : Fin 64) (d : Fin 128) : ℝ := C.k h i d * C.el h i
def at' (h : Fin 8) (i j : Fin 64) : ℝ := C.qk h i j * C.E h i j

def dkt (h : Fin 8) (i : Fin 64) (d : Fin 128) : ℝ := ∑ e, C.vn h i e * C.ds h d e
def dvn1 (h : Fin 8) (i : Fin 64) (e : Fin 128) : ℝ := ∑ d, C.kd h i d * C.ds h d e
def dvn (h : Fin 8) (i : Fin 64) (e : Fin 128) : ℝ := C.dvn1 h i e + ∑ j, C.at' h j i * C.o h j e
def dat (h : Fin 8) (i j : Fin 64) : ℝ := ∑ d, C.o h i d * C.vn h j d
def dqd (h : Fin 8) (i : Fin 64) (d : Fin 128) : ℝ := ∑ e, C.o h i e * C.s h d e
def sds (h : Fin 8) : ℝ := ∑ d, ∑ e, C.s h d e * C.ds h d e
/-- The cotangent of the chunk's entry state. -/
def ds' (h : Fin 8) (d e : Fin 128) : ℝ :=
  C.ds h d e * C.egl h + ∑ i, C.qd h i d * C.o h i e + ∑ i, C.w h i d * -C.dvn h i e
def dsw (h : Fin 8) (i : Fin 64) (d : Fin 128) : ℝ := ∑ e, -C.dvn h i e * C.s h d e
def dsol (h : Fin 8) (i : Fin 64) (e : Fin 256) : ℝ :=
  if he : e.val < 128 then C.dvn h i ⟨e.val, he⟩ else C.dsw h i ⟨e.val - 128, by omega⟩
def drhs (h : Fin 8) (i : Fin 64) (e : Fin 256) : ℝ := ∑ j, C.xi h j i * C.dsol h j e
def dru (h : Fin 8) (i : Fin 64) (d : Fin 128) : ℝ := C.drhs h i ⟨d.val, by omega⟩
def drw (h : Fin 8) (i : Fin 64) (d : Fin 128) : ℝ := C.drhs h i ⟨128 + d.val, by omega⟩
def da (h : Fin 8) (i j : Fin 64) : ℝ := if j < i then -∑ e, C.drhs h i e * C.sol h j e else 0
def dd (h : Fin 8) (i j : Fin 64) : ℝ := C.qk h i j * C.dat h i j + C.kk h i j * C.da h i j
def ddE (h : Fin 8) (i j : Fin 64) : ℝ := C.dd h i j * C.E h i j
def datE (h : Fin 8) (i j : Fin 64) : ℝ := C.dat h i j * C.E h i j
def daE (h : Fin 8) (i j : Fin 64) : ℝ := C.da h i j * C.E h i j
def drwg (h : Fin 8) (i : Fin 64) (d : Fin 128) : ℝ := C.drw h i d * C.eg h i
def dkb (h : Fin 8) (i : Fin 64) (d : Fin 128) : ℝ := C.drwg h i d + ∑ j, C.daE h i j * C.k h j d
def dqs (h : Fin 8) (i : Fin 64) (d : Fin 128) : ℝ :=
  C.dqd h i d * C.eg h i + ∑ j, C.datE h i j * C.k h j d
/-- The gradients of the query, key, value, rate and log decay rows. -/
def dq (h : Fin 8) (i : Fin 64) (d : Fin 128) : ℝ := C.dqs h i d * sc
def dk1 (h : Fin 8) (i : Fin 64) (d : Fin 128) : ℝ :=
  C.dkt h i d * C.el h i + ∑ j, C.datE h j i * C.qs h j d
def dk (h : Fin 8) (i : Fin 64) (d : Fin 128) : ℝ :=
  C.dk1 h i d + (∑ j, C.daE h j i * C.kb h j d) + C.dkb h i d * C.b h i
def dv (h : Fin 8) (i : Fin 64) (d : Fin 128) : ℝ := C.dru h i d * C.b h i
def db (h : Fin 8) (i : Fin 64) : ℝ := (∑ d, C.v h i d * C.dru h i d) + ∑ d, C.k h i d * C.dkb h i d
def dl (h : Fin 8) (i : Fin 64) : ℝ := (∑ d, C.k h i d * C.dkt h i d) * C.el h i
def dg1 (h : Fin 8) (i : Fin 64) : ℝ :=
  -C.dl h i + (if i = 63 then C.sds h * C.egl h + ∑ j, C.dl h j else 0)
    + ((∑ d, C.qs h i d * C.dqd h i d) + ∑ d, C.kb h i d * C.drw h i d) * C.eg h i
def dg (h : Fin 8) (i : Fin 64) : ℝ :=
  C.dg1 h i + (∑ j, C.ddE h i j) + ∑ j, -C.ddE h j i

/-- The chunk's rows of the gradient of the packed projections. -/
def outX (i : Fin 64) (e : Fin 3072) : ℝ :=
  if e.val < 1024 then C.dq ⟨e.val / 128 % 8, by omega⟩ i ⟨e.val % 128, by omega⟩
  else if e.val < 2048 then C.dk ⟨e.val / 128 % 8, by omega⟩ i ⟨e.val % 128, by omega⟩
  else C.dv ⟨e.val / 128 % 8, by omega⟩ i ⟨e.val % 128, by omega⟩
/-- The chunk's rows of the gradient of the packed gates. -/
def outB (i : Fin 64) (e : Fin 128) : ℝ :=
  if e.val < 8 then C.db ⟨e.val % 8, by omega⟩ i
  else if e.val < 16 then C.dg ⟨e.val % 8, by omega⟩ i else 0

end Chunk

end Cert.Delta
-- ==== Proof.Delta.Up.lean ====
module

public import proofs.«01_k».proof.Proof.Delta.Math

@[expose] public section

noncomputable section

/-! Arrays of extended reals whose entries are real numbers. -/

namespace Cert.Delta

open Idealize.ShloMosaic

def up1 {a : ℕ} (f : Fin a → ℝ) : (⟨1, ![a]⟩ : Shape).Idx → EReal := fun i => ((f (i 0) : ℝ) : EReal)
def up2 {a b : ℕ} (f : Fin a → Fin b → ℝ) : (⟨2, ![a, b]⟩ : Shape).Idx → EReal :=
  fun i => ((f (i 0) (i 1) : ℝ) : EReal)
def up3 {a b c : ℕ} (f : Fin a → Fin b → Fin c → ℝ) : (⟨3, ![a, b, c]⟩ : Shape).Idx → EReal :=
  fun i => ((f (i 0) (i 1) (i 2) : ℝ) : EReal)
def up4 {a b c d : ℕ} (f : Fin a → Fin b → Fin c → Fin d → ℝ) : (⟨4, ![a, b, c, d]⟩ : Shape).Idx → EReal :=
  fun i => ((f (i 0) (i 1) (i 2) (i 3) : ℝ) : EReal)

theorem up1_at {a : ℕ} (f : Fin a → ℝ) (i : Fin a) : up1 f (ix1 i) = ((f i : ℝ) : EReal) := rfl
theorem up2_at {a b : ℕ} (f : Fin a → Fin b → ℝ) (i : Fin a) (j : Fin b) :
    up2 f (ix2 i j) = ((f i j : ℝ) : EReal) := rfl
theorem up3_at {a b c : ℕ} (f : Fin a → Fin b → Fin c → ℝ) (i : Fin a) (j : Fin b) (k : Fin c) :
    up3 f (ix3 i j k) = ((f i j k : ℝ) : EReal) := rfl
theorem up4_at {a b c d : ℕ} (f : Fin a → Fin b → Fin c → Fin d → ℝ) (i : Fin a) (j : Fin b) (k : Fin c)
    (l : Fin d) : up4 f (ix4 i j k l) = ((f i j k l : ℝ) : EReal) := rfl

/-- A finite sum of real numbers is the same number as their sum among the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_ite' (p : Prop) [Decidable p] (x y : ℝ) :
    (if p then (x : EReal) else (y : EReal)) = ((if p then x else y : ℝ) : EReal) := by
  split <;> rfl

theorem coe_dite' (p : Prop) [Decidable p] (x : p → ℝ) (y : ¬p → ℝ) :
    (if h : p then ((x h : ℝ) : EReal) else ((y h : ℝ) : EReal))
      = ((if h : p then x h else y h : ℝ) : EReal) := by
  split <;> rfl

end Cert.Delta
-- ==== Proof.Delta.Seq.lean ====
module

public import proofs.«01_k».proof.Proof.Delta.Up

@[expose] public section

noncomputable section

namespace Cert.Delta

/-! The chunks of a whole sequence, taken from the last to the first. -/

/-- The five arrays of a whole sequence, as real numbers. -/
structure Args where
  /-- The packed queries, keys and values. -/
  X : Fin 4096 → Fin 3072 → ℝ
  /-- The packed gates. -/
  B : Fin 4096 → Fin 128 → ℝ
  /-- Each chunk's inverse. -/
  xi : Fin 64 → Fin 8 → Fin 64 → Fin 64 → ℝ
  /-- Each chunk's entry state. -/
  s : Fin 64 → Fin 8 → Fin 128 → Fin 128 → ℝ
  /-- The cotangent of the outputs. -/
  Y : Fin 4096 → Fin 1024 → ℝ

namespace Args

variable (A : Args)

/-- Chunk `n` with a given cotangent of its exit state. -/
def chunk (n : Fin 64) (ds : Fin 8 → Fin 128 → Fin 128 → ℝ) : Chunk where
  X i e := A.X ⟨64 * n.val + i.val, by omega⟩ e
  B i e := A.B ⟨64 * n.val + i.val, by omega⟩ e
  xi := A.xi n
  s := A.s n
  Y i e := A.Y ⟨64 * n.val + i.val, by omega⟩ e
  ds := ds

/-- The chunk taken at step `k`. -/
def rev (k : ℕ) : Fin 64 := ⟨63 - k, by omega⟩

/-- The cotangent of the exit state of the chunk taken at step `k`. -/
def DS : ℕ → Fin 8 → Fin 128 → Fin 128 → ℝ
  | 0 => 0
  | k + 1 => (A.chunk (rev k) (DS k)).ds'

/-- The chunk taken at step `k`, complete. -/
def C (k : ℕ) : Chunk := A.chunk (rev k) (A.DS k)

theorem DS_succ (k : ℕ) : A.DS (k + 1) = (A.C k).ds' := rfl

/-- The gradient of the packed projections. -/
def gX (r : Fin 4096) (e : Fin 3072) : ℝ := (A.C (63 - r.val / 64)).outX ⟨r.val % 64, by omega⟩ e
/-- The gradient of the packed gates. -/
def gB (r : Fin 4096) (e : Fin 128) : ℝ := (A.C (63 - r.val / 64)).outB ⟨r.val % 64, by omega⟩ e

end Args

end Cert.Delta
-- ==== Proof.Delta.Words.lean ====
module

public import proofs.«01_k».proof.Proof.Delta.Up

@[expose] public section

set_option maxRecDepth 16384

noncomputable section

/-! Comparisons of positions in a chunk, the words of constants, and sums that a comparison cuts down. -/

namespace Cert.Delta

open Idealize.ShloMosaic

theorem sc_coe : Ideal.ofBits .f32 0x3DB504F3#32 = ((sc : ℝ) : EReal) := by
  rw [sc]
  simp [Ideal.ofBits, Ideal.ieee, -EReal.coe_mul]

theorem sge_at (i j : Fin 64) : IntOp.cmpi .sge (BitVec.ofNat 32 i.val) (BitVec.ofNat 32 j.val)
    = BitVec.ofBool (decide (j ≤ i)) := by
  revert i j; decide +kernel
theorem sgt_at (i j : Fin 64) : IntOp.cmpi .sgt (BitVec.ofNat 32 i.val) (BitVec.ofNat 32 j.val)
    = BitVec.ofBool (decide (j < i)) := by
  revert i j; decide +kernel
theorem eq_at (i j : Fin 64) : IntOp.cmpi .eq (BitVec.ofNat 32 i.val) (BitVec.ofNat 32 j.val)
    = BitVec.ofBool (decide (i = j)) := by
  revert i j; decide +kernel

theorem sel_ofBool {α : Type} (p : Prop) [Decidable p] (x y : α) :
    Scalar.select (BitVec.ofBool (decide p)) x y = if p then x else y := by
  by_cases h : p <;> simp [h, Scalar.select]

/-- A sum in which one index alone survives a test of equality. -/
theorem sum_pick {M : Type} [AddCommMonoid M] (j : Fin 64) (f : Fin 64 → M) : (∑ x, if x = j then f x else 0) = f j := by
  rw [Finset.sum_ite_eq' Finset.univ j f, if_pos (Finset.mem_univ j)]
theorem sum_pick' {M : Type} [AddCommMonoid M] (j : Fin 64) (f : Fin 64 → M) : (∑ x, if j = x then f x else 0) = f j := by
  rw [Finset.sum_ite_eq Finset.univ j f, if_pos (Finset.mem_univ j)]

theorem ite_zero (p : Prop) [Decidable p] (x : ℝ) :
    (if p then (x : EReal) else 0) = ((if p then x else 0 : ℝ) : EReal) := by
  split <;> simp

end Cert.Delta
-- ==== Proof.Delta.Pay.lean ====
module

public import proofs.«01_k».proof.Proof.Gen.KernelIdeal.Skeleton
public import proofs.«01_k».proof.Proof.Delta.Words

@[expose] public section

set_option maxRecDepth 16384

noncomputable section

/-! What the kernel's named values are on a chunk of real numbers. -/

namespace Cert.Delta

open Idealize.ShloMosaic Cert.KernelIdeal
open Cert.KernelIdeal.Gen

/-- A column of one number per head and row, and a single number per head, as the kernel shapes them. -/
abbrev col (f : Fin 8 → Fin 64 → ℝ) : S8x64x1.Idx → EReal := up3 fun h i (_ : Fin 1) => f h i
abbrev one (f : Fin 8 → ℝ) : S8x1x1.Idx → EReal := up3 fun h (_ _ : Fin 1) => f h
abbrev zero : S8x64x128.Idx → EReal := constant (F := Ideal) S8x64x128 .f32 0x00000000#32

variable (C : Chunk)

theorem pay23 : k0_pay23 (F := Ideal) (col C.g)
    = up3 (fun h i j => Real.exp (if j ≤ i then C.g h i - C.g h j else 0)) := by
  funext j
  idx_vars j
  pointwise [k0_pay23, k0_pay22, k0_pay21, k0_pay19]
  simp only [sge_at, eq_at, sel_ofBool, up3_at, ite_zero, coe_sum, ← EReal.coe_sub, sum_pick, Ideal.exp_coe]

theorem pay25 : k0_pay25 (F := Ideal) (col C.g) = up3 C.E := by
  funext j
  idx_vars j
  unfold k0_pay25
  rw [pay23]
  pointwise [k0_pay24, k0_pay19]
  simp only [sge_at, sel_ofBool, up3_at, ite_zero, Chunk.E]
  split <;> rfl

theorem pay20 : k0_pay20 (F := Ideal) (up3 C.q) = up3 C.qs := by
  funext j
  idx_vars j
  pointwise [k0_pay20]
  simp only [sc_coe, up3_at, ← EReal.coe_mul]
  rfl

theorem pay26 : k0_pay26 (F := Ideal) (up3 C.k) (col C.b) = up3 C.kb := by
  funext j
  idx_vars j
  pointwise [k0_pay26]
  simp only [up3_at, ← EReal.coe_mul]
  rfl

theorem pay27 : k0_pay27 (F := Ideal) (up3 C.k) (col C.b) = up3 C.kk := by
  funext j
  idx_vars j
  unfold k0_pay27
  rw [pay26]
  pointwise
  simp only [up3_at, ← EReal.coe_mul, coe_sum]
  rfl

theorem pay29 : k0_pay29 (F := Ideal) (col C.g) = col C.eg := by
  funext j
  idx_vars j
  pointwise [k0_pay29]
  simp only [up3_at, Ideal.exp_coe]
  rfl

theorem pay30 : k0_pay30 (F := Ideal) (up3 C.k) (up3 C.v) (col C.b) (col C.g) = up3 C.rhs := by
  funext j
  idx_vars j
  unfold k0_pay30
  rw [pay26, pay29]
  pointwise
  simp only [up3_at, ← EReal.coe_mul, coe_dite']
  rfl

theorem pay31 : k0_pay31 (F := Ideal) (up3 C.q) (up3 C.k) = up3 C.qk := by
  funext j
  idx_vars j
  unfold k0_pay31
  rw [pay20]
  pointwise
  simp only [up3_at, ← EReal.coe_mul, coe_sum]
  rfl

theorem pay32 : k0_pay32 (F := Ideal) (up3 C.qs) (col C.eg) = up3 C.qd := by
  funext j
  idx_vars j
  pointwise [k0_pay32]
  simp only [up3_at, ← EReal.coe_mul]
  rfl

theorem pay34 : k0_pay34 (F := Ideal) (col C.g) = col C.el := by
  funext j
  idx_vars j
  pointwise [k0_pay34, k0_pay33]
  simp only [up3_at, ← EReal.coe_sub, Ideal.exp_coe]
  rfl

theorem pay35 : k0_pay35 (F := Ideal) (col C.g) = one C.egl := by
  funext j
  idx_vars j
  pointwise [k0_pay35, k0_pay33]
  simp only [up3_at, Ideal.exp_coe]
  rfl

theorem pay36 : k0_pay36 (F := Ideal) (up3 C.xi) (up3 C.rhs) = up3 C.sol := by
  funext j
  idx_vars j
  pointwise [k0_pay36]
  simp only [up3_at, ← EReal.coe_mul, ← EReal.coe_sub, ← EReal.coe_add, coe_sum, sub_self, mul_zero, zero_mul,
    Finset.sum_const_zero, add_zero]
  rfl

theorem pay37 : k0_pay37 (F := Ideal) (up3 C.xi) (up3 C.rhs) = up3 C.w := by
  funext j
  idx_vars j
  unfold k0_pay37
  rw [pay36]
  pointwise
  simp only [up3_at]
  rfl

theorem pay38 : k0_pay38 (F := Ideal) (up3 C.s) (up3 C.xi) (up3 C.rhs) = up3 C.vn := by
  funext j
  idx_vars j
  unfold k0_pay38
  rw [pay36, pay37]
  pointwise
  simp only [up3_at, ← EReal.coe_mul, coe_sum, ← EReal.coe_sub]
  rfl

theorem pay41 : k0_pay41 (F := Ideal) (up3 C.s) (up3 C.xi) (up3 C.rhs) (up3 C.ds) = up3 C.dkt := by
  funext j
  idx_vars j
  unfold k0_pay41
  rw [pay38]
  pointwise [k0_pay40]
  simp only [up3_at, ← EReal.coe_mul, coe_sum]
  rfl

theorem pay42 : k0_pay42 (F := Ideal) (up3 C.k) (col C.g) (up3 C.ds) = up3 C.dvn1 := by
  funext j
  idx_vars j
  unfold k0_pay42
  rw [pay34]
  pointwise [k0_pay40]
  simp only [up3_at, ← EReal.coe_mul, coe_sum]
  rfl

theorem pay43 : k0_pay43 (F := Ideal) (up3 C.s) (up3 C.ds) = one C.sds := by
  funext j
  idx_vars j
  pointwise [k0_pay43, k0_pay39]
  simp only [up3_at, ← EReal.coe_mul, coe_sum]
  rfl

theorem pay44 : k0_pay44 (F := Ideal) (col C.g) (up3 C.ds) = up3 fun h d e => C.ds h d e * C.egl h := by
  funext j
  idx_vars j
  unfold k0_pay44
  rw [pay35]
  pointwise [k0_pay39]
  simp only [up3_at, ← EReal.coe_mul]

theorem pay45 : k0_pay45 (F := Ideal) (up3 C.o) (up3 C.s) (up3 C.xi) (up3 C.rhs) = up3 C.dat := by
  funext j
  idx_vars j
  unfold k0_pay45
  rw [pay38]
  pointwise
  simp only [up3_at, ← EReal.coe_mul, coe_sum]
  rfl

theorem pay46 : k0_pay46 (F := Ideal) (up3 C.E) (up3 C.qk) = up3 C.at' := by
  funext j
  idx_vars j
  pointwise [k0_pay46]
  simp only [up3_at, ← EReal.coe_mul]
  rfl

theorem pay47 : k0_pay47 (F := Ideal) (up3 C.o) = up3 C.o := by
  funext j
  idx_vars j
  pointwise [k0_pay47]

theorem pay48 : k0_pay48 (F := Ideal) (up3 C.dvn1) (up3 C.at') (up3 C.o) zero = up3 C.dvn := by
  funext j
  idx_vars j
  pointwise [k0_pay48]
  simp only [up3_at, ← EReal.coe_mul, coe_sum, ← EReal.coe_add]
  rfl

theorem pay49 : k0_pay49 (F := Ideal) (up3 C.o) (up3 C.s) = up3 C.dqd := by
  funext j
  idx_vars j
  pointwise [k0_pay49]
  simp only [up3_at, ← EReal.coe_mul, coe_sum]
  rfl

theorem pay50 : k0_pay50 (F := Ideal) (up3 C.dvn1) (up3 C.at') (up3 C.o) zero
    = up3 fun h i e => -C.dvn h i e := by
  funext j
  idx_vars j
  unfold k0_pay50
  rw [pay48]
  pointwise
  simp only [up3_at, zero_sub, EReal.coe_neg]

theorem pay51 : k0_pay51 (F := Ideal) (up3 C.o) (up3 C.qd) (up3 C.w) (up3 C.dvn1)
    (up3 fun h d e => C.ds h d e * C.egl h) (up3 C.at') (up3 C.o) zero = up3 C.ds' := by
  funext j
  idx_vars j
  unfold k0_pay51
  rw [pay50]
  pointwise
  simp only [up3_at, ← EReal.coe_mul, coe_sum, ← EReal.coe_add]
  rfl

theorem pay52 : k0_pay52 (F := Ideal) (up3 C.s) (up3 C.xi) (up3 C.dvn1) (up3 C.at') (up3 C.o) zero
    = up3 C.drhs := by
  funext j
  idx_vars j
  unfold k0_pay52
  rw [pay50, pay48]
  have e : ∀ (h : Fin 8) (i : Fin 64) (e : Fin 256),
      (if he : e.val < 128 then (0 : EReal) else ((∑ d, -C.dvn h i d * C.s h ⟨e.val - 128, by omega⟩ d : ℝ) : EReal))
        + (if he : e.val < 128 then ((C.dvn h i ⟨e.val, he⟩ : ℝ) : EReal) else 0) = ((C.dsol h i e : ℝ) : EReal) := by
    intro h i e
    unfold Chunk.dsol
    by_cases he : e.val < 128
    · simp only [dif_pos he, zero_add]
    · simp only [dif_neg he, add_zero]; rfl
  pointwise
  simp only [up3_at, ← EReal.coe_mul, coe_sum, e, ← EReal.coe_sub, ← EReal.coe_add, sub_self, mul_zero, zero_mul,
    Finset.sum_const_zero, add_zero]
  rfl

theorem pay53 : k0_pay53 (F := Ideal) (up3 C.s) (up3 C.xi) (up3 C.dvn1) (up3 C.at') (up3 C.o) zero
    = up3 C.drhs := by
  unfold k0_pay53
  rw [pay52]
  funext j
  pointwise

theorem pay54 : k0_pay54 (F := Ideal) (up3 C.sol) = up3 C.sol := by
  funext j
  pointwise [k0_pay54]

theorem pay55 : k0_pay55 (F := Ideal) (up3 C.s) (up3 C.xi) (up3 C.sol) (up3 C.dvn1) (up3 C.at') (up3 C.o) zero
    = up3 fun h i j => ∑ e, C.drhs h i e * C.sol h j e := by
  funext j
  idx_vars j
  unfold k0_pay55
  rw [pay53, pay54]
  pointwise
  simp only [up3_at, ← EReal.coe_mul, coe_sum]

theorem pay56 : k0_pay56 (F := Ideal) (up3 C.s) (up3 C.xi) (up3 C.sol) (up3 C.dvn1) (up3 C.at') (up3 C.o) zero
    = up3 fun _ _ _ => 0 := by
  funext j
  idx_vars j
  unfold k0_pay56
  rw [pay53, pay54]
  pointwise
  simp only [up3_at, ← EReal.coe_mul, coe_sum, ← EReal.coe_sub, sub_self, mul_zero, Finset.sum_const_zero]

theorem pay57 : k0_pay57 (F := Ideal) (up3 C.s) (up3 C.xi) (up3 C.sol) (up3 C.dvn1) (up3 C.at') (up3 C.o) zero
    = up3 fun _ _ _ => 0 := by
  funext j
  idx_vars j
  unfold k0_pay57
  rw [pay53, pay54, pay52]
  pointwise
  simp only [up3_at, ← EReal.coe_mul, coe_sum, ← EReal.coe_sub, sub_self, zero_mul, Finset.sum_const_zero]

theorem pay58 : k0_pay58 (F := Ideal) (up3 C.E) (up3 C.dat) = up3 C.datE := by
  funext j
  idx_vars j
  pointwise [k0_pay58]
  simp only [up3_at, ← EReal.coe_mul]
  rfl

theorem pay59 : k0_pay59 (F := Ideal) (up3 C.k) (up3 C.E) (col C.eg) (up3 C.dat) (up3 C.dqd) = up3 C.dqs := by
  funext j
  idx_vars j
  unfold k0_pay59
  rw [pay58]
  pointwise
  simp only [up3_at, ← EReal.coe_mul, coe_sum, ← EReal.coe_add]
  rfl

theorem pay60 : k0_pay60 (F := Ideal) (up3 C.qs) (up3 C.E) (col C.el) (up3 C.dkt) (up3 C.dat) = up3 C.dk1 := by
  funext j
  idx_vars j
  unfold k0_pay60
  rw [pay58]
  pointwise
  simp only [up3_at, ← EReal.coe_mul, coe_sum, ← EReal.coe_add]
  rfl

theorem pay61 : k0_pay61 (F := Ideal) (up3 C.drhs) = up3 C.dru := by
  funext j
  idx_vars j
  pointwise [k0_pay61]
  simp only [up3_at]
  rfl

theorem pay62 : k0_pay62 (F := Ideal) (up3 C.drhs) = up3 C.drw := by
  funext j
  idx_vars j
  pointwise [k0_pay62]
  simp only [up3_at]
  rfl

theorem pay63 : k0_pay63 (F := Ideal) (col C.eg) (up3 C.drhs) = up3 C.drwg := by
  funext j
  idx_vars j
  unfold k0_pay63
  rw [pay62]
  pointwise
  simp only [up3_at, ← EReal.coe_mul]
  rfl

theorem pay64 : k0_pay64 (F := Ideal) (up3 C.k) (up3 C.qs) (up3 C.kb) (col C.eg) (col C.el) (one C.egl)
    (up3 C.dkt) (one C.sds) (up3 C.dqd) (up3 C.drhs) = col C.dg1 := by
  funext j
  idx_vars j
  unfold k0_pay64
  rw [pay62]
  pointwise
  simp only [up3_at, ← EReal.coe_mul, coe_sum, ← EReal.coe_add, zero_sub, ← EReal.coe_neg]
  have e : ∀ x : ℝ, (if j1.val < 63 then (0 : EReal) else (x : EReal))
      = ((if j1 = 63 then x else 0 : ℝ) : EReal) := by
    intro x
    by_cases h : j1.val < 63
    · rw [if_pos h, if_neg (by rintro rfl; exact absurd h (by decide))]; rfl
    · rw [if_neg h, if_pos (Fin.ext (by have := j1.isLt; show j1.val = 63; omega))]
  simp only [dite_eq_ite, e, ← EReal.coe_add]
  rfl

theorem pay65 : k0_pay65 (F := Ideal) k0_pay28 (up3 fun h i j => ∑ e, C.drhs h i e * C.sol h j e)
    (up3 fun _ _ _ => 0) (up3 fun _ _ _ => 0) = up3 C.da := by
  funext j
  idx_vars j
  pointwise [k0_pay65, k0_pay28]
  simp only [sgt_at, sel_ofBool, up3_at, EReal.coe_zero, add_zero, zero_sub, ← EReal.coe_neg, ite_zero]
  rfl

theorem pay66 : k0_pay66 (F := Ideal) (up3 C.kk) k0_pay28 (up3 C.qk) (up3 C.dat)
    (up3 fun h i j => ∑ e, C.drhs h i e * C.sol h j e)
    (up3 fun _ _ _ => 0) (up3 fun _ _ _ => 0) = up3 C.dd := by
  funext j
  idx_vars j
  unfold k0_pay66
  rw [pay65]
  pointwise
  simp only [up3_at, ← EReal.coe_mul, ← EReal.coe_add]
  rfl

theorem pay67 : k0_pay67 (F := Ideal) (up3 C.E) k0_pay28
    (up3 fun h i j => ∑ e, C.drhs h i e * C.sol h j e)
    (up3 fun _ _ _ => 0) (up3 fun _ _ _ => 0) = up3 C.daE := by
  funext j
  idx_vars j
  unfold k0_pay67
  rw [pay65]
  pointwise
  simp only [up3_at, ← EReal.coe_mul]
  rfl

theorem pay68 : k0_pay68 (F := Ideal) (up3 C.E) k0_pay28
    (up3 fun h i j => ∑ e, C.drhs h i e * C.sol h j e)
    (up3 fun _ _ _ => 0) (up3 fun _ _ _ => 0) = up3 C.daE := by
  unfold k0_pay68
  rw [pay67]
  funext j
  pointwise

theorem pay69 : k0_pay69 (F := Ideal) (up3 C.k) (up3 C.drwg) (up3 C.daE) = up3 C.dkb := by
  funext j
  idx_vars j
  pointwise [k0_pay69]
  simp only [up3_at, ← EReal.coe_mul, coe_sum, ← EReal.coe_add]
  rfl

theorem pay70 : k0_pay70 (F := Ideal) (col C.b) (up3 C.dru) = up3 C.dv := by
  funext j
  idx_vars j
  pointwise [k0_pay70]
  simp only [up3_at, ← EReal.coe_mul]
  rfl

theorem pay71 : k0_pay71 (F := Ideal) (up3 C.k) (up3 C.v) (up3 C.dru) (up3 C.drwg) (up3 C.daE) = col C.db := by
  funext j
  idx_vars j
  unfold k0_pay71
  rw [pay69]
  pointwise
  simp only [up3_at, ← EReal.coe_mul, coe_sum, ← EReal.coe_add]
  rfl

theorem pay72 : k0_pay72 (F := Ideal) (up3 C.k) (col C.b) (up3 C.kb) (up3 C.dk1) (up3 C.drwg) (up3 C.daE)
    (up3 C.daE) = up3 C.dk := by
  funext j
  idx_vars j
  unfold k0_pay72
  rw [pay69]
  pointwise
  simp only [up3_at, ← EReal.coe_mul, coe_sum, ← EReal.coe_add]
  rfl

theorem pay73 : k0_pay73 (F := Ideal) k0_pay21 k0_pay22
    (up3 (fun h i j => Real.exp (if j ≤ i then C.g h i - C.g h j else 0))) k0_pay24 (col C.dg1) (up3 C.dd)
    = col C.dg := by
  funext j
  idx_vars j
  pointwise [k0_pay73, k0_pay21, k0_pay22, k0_pay24, k0_pay19]
  simp only [sge_at, eq_at, sel_ofBool, up3_at, ite_zero, sum_pick, sum_pick', zero_sub, ← EReal.coe_mul, ← EReal.coe_neg, coe_sum,
    ← EReal.coe_add]
  have e : ∀ i k : Fin 64, (if k ≤ i then if k ≤ i then
      C.dd j0 i k * Real.exp (if k ≤ i then C.g j0 i - C.g j0 k else 0) else 0 else 0) = C.ddE j0 i k := by
    intro i k
    unfold Chunk.ddE Chunk.E
    by_cases h : k ≤ i
    · simp only [if_pos h]
    · simp only [if_neg h, mul_zero]
  simp only [e, Finset.univ_unique, Finset.sum_singleton]
  rfl

theorem pay74 : k0_pay74 (F := Ideal) (up3 C.dqs) = up3 C.dq := by
  funext j
  idx_vars j
  pointwise [k0_pay74]
  simp only [sc_coe, up3_at, ← EReal.coe_mul]
  rfl

theorem pay75 : k0_pay75 (F := Ideal) (up3 C.ds') = up3 C.ds' := by
  funext j
  pointwise [k0_pay75]

end Cert.Delta
-- ==== Proof.Delta.Load.lean ====
module

public import proofs.«01_k».proof.Proof.Gen.KernelIdeal.Skeleton
public import proofs.«01_k».proof.Proof.Delta.Pay

@[expose] public section

set_option maxRecDepth 16384

noncomputable section

namespace Cert.Delta

open Idealize.ShloMosaic Cert.KernelIdeal
open Cert.KernelIdeal.Gen

variable (C : Chunk)

/-! What the loads and the stacking of the heads make of a chunk. -/

/-- The query, key and value columns of the packed rows, as the kernel's three blocks hold them. -/
def Chunk.Xq (i : Fin 64) (d : Fin 1024) : ℝ := C.X i ⟨d.val, by omega⟩
def Chunk.Xk (i : Fin 64) (d : Fin 1024) : ℝ := C.X i ⟨1024 + d.val, by omega⟩
def Chunk.Xv (i : Fin 64) (d : Fin 1024) : ℝ := C.X i ⟨2048 + d.val, by omega⟩

theorem pay3 : k0_pay3 (F := Ideal)
    (View.ld (Val := Elt Ideal) (S := S64x1024) (e' := .f32) (up2 C.Xq) (Rect.unit ![0, 0] ![64, 128] inb_S64x1024_S64x128_0_0))
    (View.ld (Val := Elt Ideal) (S := S64x1024) (e' := .f32) (up2 C.Xq) (Rect.unit ![0, 128] ![64, 128] inb_S64x1024_S64x128_0_128))
    (View.ld (Val := Elt Ideal) (S := S64x1024) (e' := .f32) (up2 C.Xq) (Rect.unit ![0, 256] ![64, 128] inb_S64x1024_S64x128_0_256))
    (View.ld (Val := Elt Ideal) (S := S64x1024) (e' := .f32) (up2 C.Xq) (Rect.unit ![0, 384] ![64, 128] inb_S64x1024_S64x128_0_384))
    (View.ld (Val := Elt Ideal) (S := S64x1024) (e' := .f32) (up2 C.Xq) (Rect.unit ![0, 512] ![64, 128] inb_S64x1024_S64x128_0_512))
    (View.ld (Val := Elt Ideal) (S := S64x1024) (e' := .f32) (up2 C.Xq) (Rect.unit ![0, 640] ![64, 128] inb_S64x1024_S64x128_0_640))
    (View.ld (Val := Elt Ideal) (S := S64x1024) (e' := .f32) (up2 C.Xq) (Rect.unit ![0, 768] ![64, 128] inb_S64x1024_S64x128_0_768))
    (View.ld (Val := Elt Ideal) (S := S64x1024) (e' := .f32) (up2 C.Xq) (Rect.unit ![0, 896] ![64, 128] inb_S64x1024_S64x128_0_896))
    = up3 C.q := by
  funext j
  idx_vars j
  pointwise [k0_pay3]
  fin_vals j0 with hk
  all_goals simp only [hk, Nat.reduceSub, Nat.reduceLT, ↓reduceDIte, up2_at, up3_at]
  all_goals unfold Chunk.q Chunk.Xq
  all_goals refine congrArg _ (congrArg _ (Fin.ext ?_))
  all_goals simp only [hk]
  all_goals try omega

theorem pay4 : k0_pay4 (F := Ideal)
    (View.ld (Val := Elt Ideal) (S := S64x1024) (e' := .f32) (up2 C.Xk) (Rect.unit ![0, 0] ![64, 128] inb_S64x1024_S64x128_0_0))
    (View.ld (Val := Elt Ideal) (S := S64x1024) (e' := .f32) (up2 C.Xk) (Rect.unit ![0, 128] ![64, 128] inb_S64x1024_S64x128_0_128))
    (View.ld (Val := Elt Ideal) (S := S64x1024) (e' := .f32) (up2 C.Xk) (Rect.unit ![0, 256] ![64, 128] inb_S64x1024_S64x128_0_256))
    (View.ld (Val := Elt Ideal) (S := S64x1024) (e' := .f32) (up2 C.Xk) (Rect.unit ![0, 384] ![64, 128] inb_S64x1024_S64x128_0_384))
    (View.ld (Val := Elt Ideal) (S := S64x1024) (e' := .f32) (up2 C.Xk) (Rect.unit ![0, 512] ![64, 128] inb_S64x1024_S64x128_0_512))
    (View.ld (Val := Elt Ideal) (S := S64x1024) (e' := .f32) (up2 C.Xk) (Rect.unit ![0, 640] ![64, 128] inb_S64x1024_S64x128_0_640))
    (View.ld (Val := Elt Ideal) (S := S64x1024) (e' := .f32) (up2 C.Xk) (Rect.unit ![0, 768] ![64, 128] inb_S64x1024_S64x128_0_768))
    (View.ld (Val := Elt Ideal) (S := S64x1024) (e' := .f32) (up2 C.Xk) (Rect.unit ![0, 896] ![64, 128] inb_S64x1024_S64x128_0_896))
    = up3 C.k := by
  funext j
  idx_vars j
  pointwise [k0_pay4]
  fin_vals j0 with hk
  all_goals simp only [hk, Nat.reduceSub, Nat.reduceLT, ↓reduceDIte, up2_at, up3_at]
  all_goals unfold Chunk.k Chunk.Xk
  all_goals refine congrArg _ (congrArg _ (Fin.ext ?_))
  all_goals simp only [hk]
  all_goals try omega

theorem pay5 : k0_pay5 (F := Ideal)
    (View.ld (Val := Elt Ideal) (S := S64x1024) (e' := .f32) (up2 C.Xv) (Rect.unit ![0, 0] ![64, 128] inb_S64x1024_S64x128_0_0))
    (View.ld (Val := Elt Ideal) (S := S64x1024) (e' := .f32) (up2 C.Xv) (Rect.unit ![0, 128] ![64, 128] inb_S64x1024_S64x128_0_128))
    (View.ld (Val := Elt Ideal) (S := S64x1024) (e' := .f32) (up2 C.Xv) (Rect.unit ![0, 256] ![64, 128] inb_S64x1024_S64x128_0_256))
    (View.ld (Val := Elt Ideal) (S := S64x1024) (e' := .f32) (up2 C.Xv) (Rect.unit ![0, 384] ![64, 128] inb_S64x1024_S64x128_0_384))
    (View.ld (Val := Elt Ideal) (S := S64x1024) (e' := .f32) (up2 C.Xv) (Rect.unit ![0, 512] ![64, 128] inb_S64x1024_S64x128_0_512))
    (View.ld (Val := Elt Ideal) (S := S64x1024) (e' := .f32) (up2 C.Xv) (Rect.unit ![0, 640] ![64, 128] inb_S64x1024_S64x128_0_640))
    (View.ld (Val := Elt Ideal) (S := S64x1024) (e' := .f32) (up2 C.Xv) (Rect.unit ![0, 768] ![64, 128] inb_S64x1024_S64x128_0_768))
    (View.ld (Val := Elt Ideal) (S := S64x1024) (e' := .f32) (up2 C.Xv) (Rect.unit ![0, 896] ![64, 128] inb_S64x1024_S64x128_0_896))
    = up3 C.v := by
  funext j
  idx_vars j
  pointwise [k0_pay5]
  fin_vals j0 with hk
  all_goals simp only [hk, Nat.reduceSub, Nat.reduceLT, ↓reduceDIte, up2_at, up3_at]
  all_goals unfold Chunk.v Chunk.Xv
  all_goals refine congrArg _ (congrArg _ (Fin.ext ?_))
  all_goals simp only [hk]
  all_goals try omega

theorem pay16 : k0_pay16 (F := Ideal)
    (View.ld (Val := Elt Ideal) (S := S64x1024) (e' := .f32) (up2 C.Y) (Rect.unit ![0, 0] ![64, 128] inb_S64x1024_S64x128_0_0))
    (View.ld (Val := Elt Ideal) (S := S64x1024) (e' := .f32) (up2 C.Y) (Rect.unit ![0, 128] ![64, 128] inb_S64x1024_S64x128_0_128))
    (View.ld (Val := Elt Ideal) (S := S64x1024) (e' := .f32) (up2 C.Y) (Rect.unit ![0, 256] ![64, 128] inb_S64x1024_S64x128_0_256))
    (View.ld (Val := Elt Ideal) (S := S64x1024) (e' := .f32) (up2 C.Y) (Rect.unit ![0, 384] ![64, 128] inb_S64x1024_S64x128_0_384))
    (View.ld (Val := Elt Ideal) (S := S64x1024) (e' := .f32) (up2 C.Y) (Rect.unit ![0, 512] ![64, 128] inb_S64x1024_S64x128_0_512))
    (View.ld (Val := Elt Ideal) (S := S64x1024) (e' := .f32) (up2 C.Y) (Rect.unit ![0, 640] ![64, 128] inb_S64x1024_S64x128_0_640))
    (View.ld (Val := Elt Ideal) (S := S64x1024) (e' := .f32) (up2 C.Y) (Rect.unit ![0, 768] ![64, 128] inb_S64x1024_S64x128_0_768))
    (View.ld (Val := Elt Ideal) (S := S64x1024) (e' := .f32) (up2 C.Y) (Rect.unit ![0, 896] ![64, 128] inb_S64x1024_S64x128_0_896))
    = up3 C.o := by
  funext j
  idx_vars j
  pointwise [k0_pay16]
  fin_vals j0 with hk
  all_goals simp only [hk, Nat.reduceSub, Nat.reduceLT, ↓reduceDIte, up2_at, up3_at]
  all_goals unfold Chunk.o
  all_goals refine congrArg _ (congrArg _ (Fin.ext ?_))
  all_goals simp only [hk]
  all_goals try omega

theorem pay14 : k0_pay14 (F := Ideal) (k0_pay6 (up2 C.B)) (k0_pay7 (up2 C.B)) (k0_pay8 (up2 C.B))
    (k0_pay9 (up2 C.B)) (k0_pay10 (up2 C.B)) (k0_pay11 (up2 C.B)) (k0_pay12 (up2 C.B)) (k0_pay13 (up2 C.B))
    = col C.b := by
  funext j
  idx_vars j
  pointwise [k0_pay14, k0_pay6, k0_pay7, k0_pay8, k0_pay9, k0_pay10, k0_pay11, k0_pay12, k0_pay13]
  fin_vals j0 with hk
  all_goals simp only [hk, Nat.reduceSub, Nat.reduceLT, ↓reduceDIte, up2_at, up3_at]
  all_goals refine congrArg _ (congrArg _ (Fin.ext ?_))
  all_goals simp only [hk]
  all_goals rfl

theorem pay15 : k0_pay15 (F := Ideal) (up2 C.B) = col C.g := by
  funext j
  idx_vars j
  pointwise [k0_pay15]
  fin_vals j0 with hk
  all_goals simp only [hk, Nat.reduceSub, Nat.reduceLT, ↓reduceDIte, up2_at, up3_at]
  all_goals refine congrArg _ (congrArg _ (Fin.ext ?_))
  all_goals simp only [hk]
  all_goals rfl

theorem pay17 : k0_pay17 (F := Ideal) (up4 fun (_ : Fin 1) => C.s) = up3 C.s := by
  funext j
  idx_vars j
  pointwise [k0_pay17]
  rfl

theorem pay18 : k0_pay18 (F := Ideal) (up4 fun (_ : Fin 1) => C.xi) = up3 C.xi := by
  funext j
  idx_vars j
  pointwise [k0_pay18]
  rfl

end Cert.Delta
-- ==== Proof.Delta.Tail.lean ====
module

public import proofs.«01_k».proof.Proof.Gen.KernelIdeal.Value
public import proofs.«01_k».proof.Proof.Delta.Load

@[expose] public section

set_option maxRecDepth 16384

noncomputable section

namespace Cert.Delta

open Idealize.ShloMosaic Cert.KernelIdeal
open Cert.KernelIdeal.Gen

variable (C : Chunk)

/-! What the kernel's last stores hold: the per-head slices of the three gradients side by side, and the two gates'
gradients in the first sixteen columns. -/

theorem pay76 (f : Fin 8 → Fin 64 → Fin 128 → ℝ) : k0_pay76 (F := Ideal) (up3 f) = up2 (f 0) := by
  funext j
  idx_vars j
  pointwise [k0_pay76]
  rfl
theorem pay77 (f : Fin 8 → Fin 64 → Fin 128 → ℝ) : k0_pay77 (F := Ideal) (up3 f) = up2 (f 0) := by
  funext j
  idx_vars j
  pointwise [k0_pay77]
  rfl
theorem pay78 (f : Fin 8 → Fin 64 → Fin 128 → ℝ) : k0_pay78 (F := Ideal) (up3 f) = up2 (f 0) := by
  funext j
  idx_vars j
  pointwise [k0_pay78]
  rfl
theorem pay80 (f : Fin 8 → Fin 64 → Fin 128 → ℝ) : k0_pay80 (F := Ideal) (up3 f) = up2 (f 1) := by
  funext j
  idx_vars j
  pointwise [k0_pay80]
  rfl
theorem pay81 (f : Fin 8 → Fin 64 → Fin 128 → ℝ) : k0_pay81 (F := Ideal) (up3 f) = up2 (f 1) := by
  funext j
  idx_vars j
  pointwise [k0_pay81]
  rfl
theorem pay82 (f : Fin 8 → Fin 64 → Fin 128 → ℝ) : k0_pay82 (F := Ideal) (up3 f) = up2 (f 1) := by
  funext j
  idx_vars j
  pointwise [k0_pay82]
  rfl
theorem pay83 (f : Fin 8 → Fin 64 → Fin 128 → ℝ) : k0_pay83 (F := Ideal) (up3 f) = up2 (f 2) := by
  funext j
  idx_vars j
  pointwise [k0_pay83]
  rfl
theorem pay84 (f : Fin 8 → Fin 64 → Fin 128 → ℝ) : k0_pay84 (F := Ideal) (up3 f) = up2 (f 2) := by
  funext j
  idx_vars j
  pointwise [k0_pay84]
  rfl
theorem pay85 (f : Fin 8 → Fin 64 → Fin 128 → ℝ) : k0_pay85 (F := Ideal) (up3 f) = up2 (f 2) := by
  funext j
  idx_vars j
  pointwise [k0_pay85]
  rfl
theorem pay89 (f : Fin 8 → Fin 64 → Fin 128 → ℝ) : k0_pay89 (F := Ideal) (up3 f) = up2 (f 3) := by
  funext j
  idx_vars j
  pointwise [k0_pay89]
  rfl
theorem pay90 (f : Fin 8 → Fin 64 → Fin 128 → ℝ) : k0_pay90 (F := Ideal) (up3 f) = up2 (f 3) := by
  funext j
  idx_vars j
  pointwise [k0_pay90]
  rfl
theorem pay91 (f : Fin 8 → Fin 64 → Fin 128 → ℝ) : k0_pay91 (F := Ideal) (up3 f) = up2 (f 3) := by
  funext j
  idx_vars j
  pointwise [k0_pay91]
  rfl
theorem pay93 (f : Fin 8 → Fin 64 → Fin 128 → ℝ) : k0_pay93 (F := Ideal) (up3 f) = up2 (f 4) := by
  funext j
  idx_vars j
  pointwise [k0_pay93]
  rfl
theorem pay94 (f : Fin 8 → Fin 64 → Fin 128 → ℝ) : k0_pay94 (F := Ideal) (up3 f) = up2 (f 4) := by
  funext j
  idx_vars j
  pointwise [k0_pay94]
  rfl
theorem pay95 (f : Fin 8 → Fin 64 → Fin 128 → ℝ) : k0_pay95 (F := Ideal) (up3 f) = up2 (f 4) := by
  funext j
  idx_vars j
  pointwise [k0_pay95]
  rfl
theorem pay96 (f : Fin 8 → Fin 64 → Fin 128 → ℝ) : k0_pay96 (F := Ideal) (up3 f) = up2 (f 5) := by
  funext j
  idx_vars j
  pointwise [k0_pay96]
  rfl
theorem pay97 (f : Fin 8 → Fin 64 → Fin 128 → ℝ) : k0_pay97 (F := Ideal) (up3 f) = up2 (f 5) := by
  funext j
  idx_vars j
  pointwise [k0_pay97]
  rfl
theorem pay98 (f : Fin 8 → Fin 64 → Fin 128 → ℝ) : k0_pay98 (F := Ideal) (up3 f) = up2 (f 5) := by
  funext j
  idx_vars j
  pointwise [k0_pay98]
  rfl
theorem pay102 (f : Fin 8 → Fin 64 → Fin 128 → ℝ) : k0_pay102 (F := Ideal) (up3 f) = up2 (f 6) := by
  funext j
  idx_vars j
  pointwise [k0_pay102]
  rfl
theorem pay103 (f : Fin 8 → Fin 64 → Fin 128 → ℝ) : k0_pay103 (F := Ideal) (up3 f) = up2 (f 6) := by
  funext j
  idx_vars j
  pointwise [k0_pay103]
  rfl
theorem pay104 (f : Fin 8 → Fin 64 → Fin 128 → ℝ) : k0_pay104 (F := Ideal) (up3 f) = up2 (f 6) := by
  funext j
  idx_vars j
  pointwise [k0_pay104]
  rfl
theorem pay106 (f : Fin 8 → Fin 64 → Fin 128 → ℝ) : k0_pay106 (F := Ideal) (up3 f) = up2 (f 7) := by
  funext j
  idx_vars j
  pointwise [k0_pay106]
  rfl
theorem pay107 (f : Fin 8 → Fin 64 → Fin 128 → ℝ) : k0_pay107 (F := Ideal) (up3 f) = up2 (f 7) := by
  funext j
  idx_vars j
  pointwise [k0_pay107]
  rfl
theorem pay108 (f : Fin 8 → Fin 64 → Fin 128 → ℝ) : k0_pay108 (F := Ideal) (up3 f) = up2 (f 7) := by
  funext j
  idx_vars j
  pointwise [k0_pay108]
  rfl

/-- A block of 128 columns at column `o` of the packed gradient. -/
theorem piece_eq (f : Fin 64 → Fin 128 → ℝ) (o : ℕ) (ho : o + 128 ≤ 3072)
    (inb : ∀ a, (![0, o] : Fin 2 → ℕ) a + (![64, 128] : Fin 2 → ℕ) a ≤ S64x3072.size a)
    (hf : ∀ i (d : Fin 128), f i d = C.outX i ⟨o + d.val, by omega⟩)
    (x : (Rect.unit (s := S64x3072) ![0, o] ![64, 128] inb).shape.Idx) :
    (up2 f : (⟨2, ![64, 128]⟩ : Shape).Idx → EReal) x = up2 C.outX ((Rect.unit (s := S64x3072) ![0, o] ![64, 128] inb).emb x) := by
  refine (congrArg _ (hf (x 0) (x 1)) : ((f (x 0) (x 1) : ℝ) : EReal) = _).trans ?_
  refine congrArg _ ?_
  refine congrArg₂ C.outX (Fin.ext ?_) (Fin.ext ?_)
  · rw [Rect.emb_apply]; show (x 0).val = 0 + 1 * (x 0).val; omega
  · rw [Rect.emb_apply]; show o + (x 1).val = o + 1 * (x 1).val; omega

theorem at_2944 (i : Fin 64) (d : Fin 128) : C.dv 7 i d = C.outX i ⟨2944 + d.val, by omega⟩ := by
  unfold Chunk.outX
  dsimp only
  rw [if_neg (by omega), if_neg (by omega)]
  exact congr (congrArg (C.dv · i) (Fin.ext (by show 7 = _; dsimp only; omega))) (Fin.ext (by dsimp only; omega))
theorem at_1920 (i : Fin 64) (d : Fin 128) : C.dk 7 i d = C.outX i ⟨1920 + d.val, by omega⟩ := by
  unfold Chunk.outX
  dsimp only
  rw [if_neg (by omega), if_pos (by omega)]
  exact congr (congrArg (C.dk · i) (Fin.ext (by show 7 = _; dsimp only; omega))) (Fin.ext (by dsimp only; omega))
theorem at_896 (i : Fin 64) (d : Fin 128) : C.dq 7 i d = C.outX i ⟨896 + d.val, by omega⟩ := by
  unfold Chunk.outX
  dsimp only
  rw [if_pos (by omega)]
  exact congr (congrArg (C.dq · i) (Fin.ext (by show 7 = _; dsimp only; omega))) (Fin.ext (by dsimp only; omega))
theorem at_2816 (i : Fin 64) (d : Fin 128) : C.dv 6 i d = C.outX i ⟨2816 + d.val, by omega⟩ := by
  unfold Chunk.outX
  dsimp only
  rw [if_neg (by omega), if_neg (by omega)]
  exact congr (congrArg (C.dv · i) (Fin.ext (by show 6 = _; dsimp only; omega))) (Fin.ext (by dsimp only; omega))
theorem at_1792 (i : Fin 64) (d : Fin 128) : C.dk 6 i d = C.outX i ⟨1792 + d.val, by omega⟩ := by
  unfold Chunk.outX
  dsimp only
  rw [if_neg (by omega), if_pos (by omega)]
  exact congr (congrArg (C.dk · i) (Fin.ext (by show 6 = _; dsimp only; omega))) (Fin.ext (by dsimp only; omega))
theorem at_768 (i : Fin 64) (d : Fin 128) : C.dq 6 i d = C.outX i ⟨768 + d.val, by omega⟩ := by
  unfold Chunk.outX
  dsimp only
  rw [if_pos (by omega)]
  exact congr (congrArg (C.dq · i) (Fin.ext (by show 6 = _; dsimp only; omega))) (Fin.ext (by dsimp only; omega))
theorem at_2688 (i : Fin 64) (d : Fin 128) : C.dv 5 i d = C.outX i ⟨2688 + d.val, by omega⟩ := by
  unfold Chunk.outX
  dsimp only
  rw [if_neg (by omega), if_neg (by omega)]
  exact congr (congrArg (C.dv · i) (Fin.ext (by show 5 = _; dsimp only; omega))) (Fin.ext (by dsimp only; omega))
theorem at_1664 (i : Fin 64) (d : Fin 128) : C.dk 5 i d = C.outX i ⟨1664 + d.val, by omega⟩ := by
  unfold Chunk.outX
  dsimp only
  rw [if_neg (by omega), if_pos (by omega)]
  exact congr (congrArg (C.dk · i) (Fin.ext (by show 5 = _; dsimp only; omega))) (Fin.ext (by dsimp only; omega))
theorem at_640 (i : Fin 64) (d : Fin 128) : C.dq 5 i d = C.outX i ⟨640 + d.val, by omega⟩ := by
  unfold Chunk.outX
  dsimp only
  rw [if_pos (by omega)]
  exact congr (congrArg (C.dq · i) (Fin.ext (by show 5 = _; dsimp only; omega))) (Fin.ext (by dsimp only; omega))
theorem at_2560 (i : Fin 64) (d : Fin 128) : C.dv 4 i d = C.outX i ⟨2560 + d.val, by omega⟩ := by
  unfold Chunk.outX
  dsimp only
  rw [if_neg (by omega), if_neg (by omega)]
  exact congr (congrArg (C.dv · i) (Fin.ext (by show 4 = _; dsimp only; omega))) (Fin.ext (by dsimp only; omega))
theorem at_1536 (i : Fin 64) (d : Fin 128) : C.dk 4 i d = C.outX i ⟨1536 + d.val, by omega⟩ := by
  unfold Chunk.outX
  dsimp only
  rw [if_neg (by omega), if_pos (by omega)]
  exact congr (congrArg (C.dk · i) (Fin.ext (by show 4 = _; dsimp only; omega))) (Fin.ext (by dsimp only; omega))
theorem at_512 (i : Fin 64) (d : Fin 128) : C.dq 4 i d = C.outX i ⟨512 + d.val, by omega⟩ := by
  unfold Chunk.outX
  dsimp only
  rw [if_pos (by omega)]
  exact congr (congrArg (C.dq · i) (Fin.ext (by show 4 = _; dsimp only; omega))) (Fin.ext (by dsimp only; omega))
theorem at_2432 (i : Fin 64) (d : Fin 128) : C.dv 3 i d = C.outX i ⟨2432 + d.val, by omega⟩ := by
  unfold Chunk.outX
  dsimp only
  rw [if_neg (by omega), if_neg (by omega)]
  exact congr (congrArg (C.dv · i) (Fin.ext (by show 3 = _; dsimp only; omega))) (Fin.ext (by dsimp only; omega))
theorem at_1408 (i : Fin 64) (d : Fin 128) : C.dk 3 i d = C.outX i ⟨1408 + d.val, by omega⟩ := by
  unfold Chunk.outX
  dsimp only
  rw [if_neg (by omega), if_pos (by omega)]
  exact congr (congrArg (C.dk · i) (Fin.ext (by show 3 = _; dsimp only; omega))) (Fin.ext (by dsimp only; omega))
theorem at_384 (i : Fin 64) (d : Fin 128) : C.dq 3 i d = C.outX i ⟨384 + d.val, by omega⟩ := by
  unfold Chunk.outX
  dsimp only
  rw [if_pos (by omega)]
  exact congr (congrArg (C.dq · i) (Fin.ext (by show 3 = _; dsimp only; omega))) (Fin.ext (by dsimp only; omega))
theorem at_2304 (i : Fin 64) (d : Fin 128) : C.dv 2 i d = C.outX i ⟨2304 + d.val, by omega⟩ := by
  unfold Chunk.outX
  dsimp only
  rw [if_neg (by omega), if_neg (by omega)]
  exact congr (congrArg (C.dv · i) (Fin.ext (by show 2 = _; dsimp only; omega))) (Fin.ext (by dsimp only; omega))
theorem at_1280 (i : Fin 64) (d : Fin 128) : C.dk 2 i d = C.outX i ⟨1280 + d.val, by omega⟩ := by
  unfold Chunk.outX
  dsimp only
  rw [if_neg (by omega), if_pos (by omega)]
  exact congr (congrArg (C.dk · i) (Fin.ext (by show 2 = _; dsimp only; omega))) (Fin.ext (by dsimp only; omega))
theorem at_256 (i : Fin 64) (d : Fin 128) : C.dq 2 i d = C.outX i ⟨256 + d.val, by omega⟩ := by
  unfold Chunk.outX
  dsimp only
  rw [if_pos (by omega)]
  exact congr (congrArg (C.dq · i) (Fin.ext (by show 2 = _; dsimp only; omega))) (Fin.ext (by dsimp only; omega))
theorem at_2176 (i : Fin 64) (d : Fin 128) : C.dv 1 i d = C.outX i ⟨2176 + d.val, by omega⟩ := by
  unfold Chunk.outX
  dsimp only
  rw [if_neg (by omega), if_neg (by omega)]
  exact congr (congrArg (C.dv · i) (Fin.ext (by show 1 = _; dsimp only; omega))) (Fin.ext (by dsimp only; omega))
theorem at_1152 (i : Fin 64) (d : Fin 128) : C.dk 1 i d = C.outX i ⟨1152 + d.val, by omega⟩ := by
  unfold Chunk.outX
  dsimp only
  rw [if_neg (by omega), if_pos (by omega)]
  exact congr (congrArg (C.dk · i) (Fin.ext (by show 1 = _; dsimp only; omega))) (Fin.ext (by dsimp only; omega))
theorem at_128 (i : Fin 64) (d : Fin 128) : C.dq 1 i d = C.outX i ⟨128 + d.val, by omega⟩ := by
  unfold Chunk.outX
  dsimp only
  rw [if_pos (by omega)]
  exact congr (congrArg (C.dq · i) (Fin.ext (by show 1 = _; dsimp only; omega))) (Fin.ext (by dsimp only; omega))
theorem at_2048 (i : Fin 64) (d : Fin 128) : C.dv 0 i d = C.outX i ⟨2048 + d.val, by omega⟩ := by
  unfold Chunk.outX
  dsimp only
  rw [if_neg (by omega), if_neg (by omega)]
  exact congr (congrArg (C.dv · i) (Fin.ext (by show 0 = _; dsimp only; omega))) (Fin.ext (by dsimp only; omega))
theorem at_1024 (i : Fin 64) (d : Fin 128) : C.dk 0 i d = C.outX i ⟨1024 + d.val, by omega⟩ := by
  unfold Chunk.outX
  dsimp only
  rw [if_neg (by omega), if_pos (by omega)]
  exact congr (congrArg (C.dk · i) (Fin.ext (by show 0 = _; dsimp only; omega))) (Fin.ext (by dsimp only; omega))
theorem at_0 (i : Fin 64) (d : Fin 128) : C.dq 0 i d = C.outX i ⟨0 + d.val, by omega⟩ := by
  unfold Chunk.outX
  dsimp only
  rw [if_pos (by omega)]
  exact congr (congrArg (C.dq · i) (Fin.ext (by show 0 = _; dsimp only; omega))) (Fin.ext (by dsimp only; omega))

/-- The stores of the packed gradient. -/
def piecesX : List (View.Piece (Elt Ideal) S64x3072 .f32) :=
     [⟨Rect.unit ![0, 2944] ![64, 128] inb_S64x3072_S64x128_0_2944, k0_pay108 (F := Ideal) (up3 C.dv)⟩,
      ⟨Rect.unit ![0, 1920] ![64, 128] inb_S64x3072_S64x128_0_1920, k0_pay107 (F := Ideal) (up3 C.dk)⟩,
      ⟨Rect.unit ![0, 896] ![64, 128] inb_S64x3072_S64x128_0_896, k0_pay106 (F := Ideal) (up3 C.dq)⟩,
      ⟨Rect.unit ![0, 2816] ![64, 128] inb_S64x3072_S64x128_0_2816, k0_pay104 (F := Ideal) (up3 C.dv)⟩,
      ⟨Rect.unit ![0, 1792] ![64, 128] inb_S64x3072_S64x128_0_1792, k0_pay103 (F := Ideal) (up3 C.dk)⟩,
      ⟨Rect.unit ![0, 768] ![64, 128] inb_S64x3072_S64x128_0_768, k0_pay102 (F := Ideal) (up3 C.dq)⟩,
      ⟨Rect.unit ![0, 2688] ![64, 128] inb_S64x3072_S64x128_0_2688, k0_pay98 (F := Ideal) (up3 C.dv)⟩,
      ⟨Rect.unit ![0, 1664] ![64, 128] inb_S64x3072_S64x128_0_1664, k0_pay97 (F := Ideal) (up3 C.dk)⟩,
      ⟨Rect.unit ![0, 640] ![64, 128] inb_S64x3072_S64x128_0_640, k0_pay96 (F := Ideal) (up3 C.dq)⟩,
      ⟨Rect.unit ![0, 2560] ![64, 128] inb_S64x3072_S64x128_0_2560, k0_pay95 (F := Ideal) (up3 C.dv)⟩,
      ⟨Rect.unit ![0, 1536] ![64, 128] inb_S64x3072_S64x128_0_1536, k0_pay94 (F := Ideal) (up3 C.dk)⟩,
      ⟨Rect.unit ![0, 512] ![64, 128] inb_S64x3072_S64x128_0_512, k0_pay93 (F := Ideal) (up3 C.dq)⟩,
      ⟨Rect.unit ![0, 2432] ![64, 128] inb_S64x3072_S64x128_0_2432, k0_pay91 (F := Ideal) (up3 C.dv)⟩,
      ⟨Rect.unit ![0, 1408] ![64, 128] inb_S64x3072_S64x128_0_1408, k0_pay90 (F := Ideal) (up3 C.dk)⟩,
      ⟨Rect.unit ![0, 384] ![64, 128] inb_S64x3072_S64x128_0_384, k0_pay89 (F := Ideal) (up3 C.dq)⟩,
      ⟨Rect.unit ![0, 2304] ![64, 128] inb_S64x3072_S64x128_0_2304, k0_pay85 (F := Ideal) (up3 C.dv)⟩,
      ⟨Rect.unit ![0, 1280] ![64, 128] inb_S64x3072_S64x128_0_1280, k0_pay84 (F := Ideal) (up3 C.dk)⟩,
      ⟨Rect.unit ![0, 256] ![64, 128] inb_S64x3072_S64x128_0_256, k0_pay83 (F := Ideal) (up3 C.dq)⟩,
      ⟨Rect.unit ![0, 2176] ![64, 128] inb_S64x3072_S64x128_0_2176, k0_pay82 (F := Ideal) (up3 C.dv)⟩,
      ⟨Rect.unit ![0, 1152] ![64, 128] inb_S64x3072_S64x128_0_1152, k0_pay81 (F := Ideal) (up3 C.dk)⟩,
      ⟨Rect.unit ![0, 128] ![64, 128] inb_S64x3072_S64x128_0_128, k0_pay80 (F := Ideal) (up3 C.dq)⟩,
      ⟨Rect.unit ![0, 2048] ![64, 128] inb_S64x3072_S64x128_0_2048, k0_pay78 (F := Ideal) (up3 C.dv)⟩,
      ⟨Rect.unit ![0, 1024] ![64, 128] inb_S64x3072_S64x128_0_1024, k0_pay77 (F := Ideal) (up3 C.dk)⟩,
      ⟨Rect.unit ![0, 0] ![64, 128] inb_S64x3072_S64x128_0_0, k0_pay76 (F := Ideal) (up3 C.dq)⟩]

theorem piecesX_cover (y : S64x3072.Idx) : ∃ p ∈ piecesX C, y ∈ p.1.set :=
  View.cover_of_tiledL (piecesX C) S64x128.size (by sl_kernel_rfl) y

theorem canonX : View.canon (piecesX C) = up2 C.outX := by
  funext y
  refine View.canon_apply_of_pieces (up2 C.outX) (piecesX C) ?_ y (piecesX_cover C y)
  intro p hp x
  simp only [piecesX, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · show k0_pay108 (F := Ideal) (up3 C.dv) x = _; rw [pay108]; exact piece_eq C _ 2944 (by omega) inb_S64x3072_S64x128_0_2944 (at_2944 C) x
  · show k0_pay107 (F := Ideal) (up3 C.dk) x = _; rw [pay107]; exact piece_eq C _ 1920 (by omega) inb_S64x3072_S64x128_0_1920 (at_1920 C) x
  · show k0_pay106 (F := Ideal) (up3 C.dq) x = _; rw [pay106]; exact piece_eq C _ 896 (by omega) inb_S64x3072_S64x128_0_896 (at_896 C) x
  · show k0_pay104 (F := Ideal) (up3 C.dv) x = _; rw [pay104]; exact piece_eq C _ 2816 (by omega) inb_S64x3072_S64x128_0_2816 (at_2816 C) x
  · show k0_pay103 (F := Ideal) (up3 C.dk) x = _; rw [pay103]; exact piece_eq C _ 1792 (by omega) inb_S64x3072_S64x128_0_1792 (at_1792 C) x
  · show k0_pay102 (F := Ideal) (up3 C.dq) x = _; rw [pay102]; exact piece_eq C _ 768 (by omega) inb_S64x3072_S64x128_0_768 (at_768 C) x
  · show k0_pay98 (F := Ideal) (up3 C.dv) x = _; rw [pay98]; exact piece_eq C _ 2688 (by omega) inb_S64x3072_S64x128_0_2688 (at_2688 C) x
  · show k0_pay97 (F := Ideal) (up3 C.dk) x = _; rw [pay97]; exact piece_eq C _ 1664 (by omega) inb_S64x3072_S64x128_0_1664 (at_1664 C) x
  · show k0_pay96 (F := Ideal) (up3 C.dq) x = _; rw [pay96]; exact piece_eq C _ 640 (by omega) inb_S64x3072_S64x128_0_640 (at_640 C) x
  · show k0_pay95 (F := Ideal) (up3 C.dv) x = _; rw [pay95]; exact piece_eq C _ 2560 (by omega) inb_S64x3072_S64x128_0_2560 (at_2560 C) x
  · show k0_pay94 (F := Ideal) (up3 C.dk) x = _; rw [pay94]; exact piece_eq C _ 1536 (by omega) inb_S64x3072_S64x128_0_1536 (at_1536 C) x
  · show k0_pay93 (F := Ideal) (up3 C.dq) x = _; rw [pay93]; exact piece_eq C _ 512 (by omega) inb_S64x3072_S64x128_0_512 (at_512 C) x
  · show k0_pay91 (F := Ideal) (up3 C.dv) x = _; rw [pay91]; exact piece_eq C _ 2432 (by omega) inb_S64x3072_S64x128_0_2432 (at_2432 C) x
  · show k0_pay90 (F := Ideal) (up3 C.dk) x = _; rw [pay90]; exact piece_eq C _ 1408 (by omega) inb_S64x3072_S64x128_0_1408 (at_1408 C) x
  · show k0_pay89 (F := Ideal) (up3 C.dq) x = _; rw [pay89]; exact piece_eq C _ 384 (by omega) inb_S64x3072_S64x128_0_384 (at_384 C) x
  · show k0_pay85 (F := Ideal) (up3 C.dv) x = _; rw [pay85]; exact piece_eq C _ 2304 (by omega) inb_S64x3072_S64x128_0_2304 (at_2304 C) x
  · show k0_pay84 (F := Ideal) (up3 C.dk) x = _; rw [pay84]; exact piece_eq C _ 1280 (by omega) inb_S64x3072_S64x128_0_1280 (at_1280 C) x
  · show k0_pay83 (F := Ideal) (up3 C.dq) x = _; rw [pay83]; exact piece_eq C _ 256 (by omega) inb_S64x3072_S64x128_0_256 (at_256 C) x
  · show k0_pay82 (F := Ideal) (up3 C.dv) x = _; rw [pay82]; exact piece_eq C _ 2176 (by omega) inb_S64x3072_S64x128_0_2176 (at_2176 C) x
  · show k0_pay81 (F := Ideal) (up3 C.dk) x = _; rw [pay81]; exact piece_eq C _ 1152 (by omega) inb_S64x3072_S64x128_0_1152 (at_1152 C) x
  · show k0_pay80 (F := Ideal) (up3 C.dq) x = _; rw [pay80]; exact piece_eq C _ 128 (by omega) inb_S64x3072_S64x128_0_128 (at_128 C) x
  · show k0_pay78 (F := Ideal) (up3 C.dv) x = _; rw [pay78]; exact piece_eq C _ 2048 (by omega) inb_S64x3072_S64x128_0_2048 (at_2048 C) x
  · show k0_pay77 (F := Ideal) (up3 C.dk) x = _; rw [pay77]; exact piece_eq C _ 1024 (by omega) inb_S64x3072_S64x128_0_1024 (at_1024 C) x
  · show k0_pay76 (F := Ideal) (up3 C.dq) x = _; rw [pay76]; exact piece_eq C _ 0 (by omega) inb_S64x3072_S64x128_0_0 (at_0 C) x

theorem lane_at (e : Fin 128) (k : Fin 16) : IntOp.cmpi .eq (BitVec.ofNat 32 e.val) (BitVec.ofNat 32 k.val)
    = BitVec.ofBool (decide (e.val = k.val)) := by
  revert e k; decide +kernel

theorem col_at (f : Fin 8 → Fin 64 → ℝ) (h : Fin 8) (i : Fin 64) : col f (ix3 h i 0) = ((f h i : ℝ) : EReal) := rfl

/-- The whole column of gates' gradients as one expression of the kernel. -/
theorem payB : (k0_pay1 (F := Ideal) (col C.db) (col C.dg) (iota Kind.tc S64x128 32 [1] iota_S64x128_d1_w32)
            (k0_pay105 (col C.db) (col C.dg) (iota Kind.tc S64x128 32 [1] iota_S64x128_d1_w32)
              (k0_pay99 (col C.db) (col C.dg) (iota Kind.tc S64x128 32 [1] iota_S64x128_d1_w32)
                (k0_pay92 (col C.db) (col C.dg) (iota Kind.tc S64x128 32 [1] iota_S64x128_d1_w32)
                  (k0_pay86 (col C.db) (col C.dg) (iota Kind.tc S64x128 32 [1] iota_S64x128_d1_w32)
                    (k0_pay79 (col C.db) (col C.dg)))
                  (k0_pay87 (iota Kind.tc S64x128 32 [1] iota_S64x128_d1_w32)) (FloatOps.ofBits FTy.f32 0#32)
                  (k0_pay88 (col C.dg))))
              (k0_pay100 (iota Kind.tc S64x128 32 [1] iota_S64x128_d1_w32)) (FloatOps.ofBits FTy.f32 0#32)
              (k0_pay101 (col C.dg)))) = up2 C.outB := by
  funext j
  idx_vars j
  pointwise [k0_pay1, k0_pay105, k0_pay99, k0_pay92, k0_pay86, k0_pay79, k0_pay87, k0_pay88, k0_pay100, k0_pay101]
  have L := fun n h => lane_at j1 ⟨n, h⟩
  rw [L 0 (by omega), L 8 (by omega), L 1 (by omega), L 9 (by omega), L 2 (by omega), L 10 (by omega), L 3 (by omega), L 11 (by omega), L 4 (by omega), L 12 (by omega), L 5 (by omega), L 13 (by omega), L 6 (by omega), L 14 (by omega), L 7 (by omega), L 15 (by omega)]
  simp only [sel_ofBool, up2_at, col_at]
  unfold Chunk.outB
  by_cases h : j1.val < 16
  · obtain ⟨e, he⟩ := j1
    dsimp only at h ⊢
    interval_cases e <;> simp
  · have N : ∀ n, n < 16 → ¬ (j1.val = n) := fun n hn => by omega
    rw [if_neg (by omega : ¬ j1.val < 8), if_neg h]
    rw [if_neg (N 0 (by omega)), if_neg (N 8 (by omega)), if_neg (N 1 (by omega)), if_neg (N 9 (by omega)), if_neg (N 2 (by omega)), if_neg (N 10 (by omega)), if_neg (N 3 (by omega)), if_neg (N 11 (by omega)), if_neg (N 4 (by omega)), if_neg (N 12 (by omega)), if_neg (N 5 (by omega)), if_neg (N 13 (by omega)), if_neg (N 6 (by omega)), if_neg (N 14 (by omega)), if_neg (N 7 (by omega)), if_neg (N 15 (by omega))]
    simp

theorem pay2 (hds : C.ds = 0) : k0_pay2 (F := Ideal) = up3 C.ds := by
  funext j
  pointwise [k0_pay2]
  rw [hds]
  exact EReal.coe_zero.symm

end Cert.Delta
-- ==== Proof.Delta.Open.lean ====
module

public import proofs.«01_k».proof.Proof.Gen.KernelIdeal.Value
public import proofs.«01_k».proof.Proof.Delta.Tail

@[expose] public section

set_option maxRecDepth 16384

noncomputable section

namespace Cert.Delta

open Idealize.ShloMosaic Cert.KernelIdeal
open Cert.KernelIdeal.Gen

variable (C : Chunk)

theorem ld_B : View.ld (Val := Elt Ideal) (S := S64x128) (e' := .f32) (up2 C.B)
    (Rect.unit ![0, 0] ![64, 128] inb_S64x128_S64x128_0_0) = up2 C.B :=
  View.ld_unit_zero (by funext a; fin_cases a <;> rfl) _ _
theorem ld_xi : View.ld (Val := Elt Ideal) (S := S1x8x64x64) (e' := .f32) (up4 fun (_ : Fin 1) => C.xi)
    (Rect.unit ![0, 0, 0, 0] ![1, 8, 64, 64] inb_S1x8x64x64_S1x8x64x64_0_0_0_0) = up4 fun (_ : Fin 1) => C.xi :=
  View.ld_unit_zero (by funext a; fin_cases a <;> rfl) _ _
theorem ld_s : View.ld (Val := Elt Ideal) (S := S1x8x128x128) (e' := .f32) (up4 fun (_ : Fin 1) => C.s)
    (Rect.unit ![0, 0, 0, 0] ![1, 8, 128, 128] inb_S1x8x128x128_S1x8x128x128_0_0_0_0) = up4 fun (_ : Fin 1) => C.s :=
  View.ld_unit_zero (by funext a; fin_cases a <;> rfl) _ _
theorem ld_ds : View.ld (Val := Elt Ideal) (S := S8x128x128) (e' := .f32) (up3 C.ds)
    (Rect.unit ![0, 0, 0] ![8, 128, 128] inb_S8x128x128_S8x128x128_0_0_0) = up3 C.ds :=
  View.ld_unit_zero (by funext a; fin_cases a <;> rfl) _ _

/-- The carried array read back right after it is set. -/
theorem cov_ds (M : Memref sig .tc .vmem S8x128x128 .f32) :
    M.view.readCov (Val := Elt Ideal) [⟨Rect.unit ![0, 0, 0] ![8, 128, 128] inb_S8x128x128_S8x128x128_0_0_0, up3 C.ds⟩]
      (Rect.unit ![0, 0, 0] ![8, 128, 128] inb_S8x128x128_S8x128x128_0_0_0).toLoadRect = up3 C.ds :=
  View.readCov_unit_zero M.view (by funext a; fin_cases a <;> rfl) _ _

/-- At a point after the first, the carried array becomes the cotangent of the chunk's entry state. -/
theorem sout_B (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole)
    (arg4 : Memref sig .tc .vmem S64x128 .f32) (harg4 : arg4.IsWhole) (arg5 : Memref sig .tc .vmem S1x8x64x64 .f32) (harg5 : arg5.IsWhole) (arg6 : Memref sig .tc .vmem S1x8x128x128 .f32) (harg6 : arg6.IsWhole)
    (arg7 : Memref sig .tc .vmem S64x1024 .f32) (harg7 : arg7.IsWhole) (arg8 : Memref sig .tc .vmem S64x3072 .f32) (harg8 : arg8.IsWhole) (arg9 : Memref sig .tc .vmem S64x128 .f32) (harg9 : arg9.IsWhole) (arg10 : Memref sig .tc .vmem S8x128x128 .f32) (harg10 : arg10.IsWhole) (hc0 : ¬cond0_0 i) :
    sout0_B_0 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y) (up3 C.ds) = up3 C.ds' := by
  unfold sout0_B_0
  rw [View.read_writes_eq_canon _ _ _ (scover0_B_0 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y) (up3 C.ds))]
  unfold kernelRun0_B
  dsimp only
  sl_unfold_words
  simp only [View.readAt_eq_ld, harg1.read_unread, harg2.read_unread, harg3.read_unread, harg4.read_unread,
    harg5.read_unread, harg6.read_unread, harg7.read_unread, harg10.read_unread]
  simp only [ld_B, ld_xi, ld_s, ld_ds, pay14, pay15, pay16, pay17, pay18, pay3, pay4, pay5, pay20, pay23, pay25, pay26, pay27, pay29, pay30, pay31, pay32, pay34, pay35, pay36, pay37, pay38, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75]
  exact View.canon_unit_zero (by funext a; fin_cases a <;> rfl) _ _

theorem out7_B (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole)
    (arg4 : Memref sig .tc .vmem S64x128 .f32) (harg4 : arg4.IsWhole) (arg5 : Memref sig .tc .vmem S1x8x64x64 .f32) (harg5 : arg5.IsWhole) (arg6 : Memref sig .tc .vmem S1x8x128x128 .f32) (harg6 : arg6.IsWhole)
    (arg7 : Memref sig .tc .vmem S64x1024 .f32) (harg7 : arg7.IsWhole) (arg8 : Memref sig .tc .vmem S64x3072 .f32) (harg8 : arg8.IsWhole) (arg9 : Memref sig .tc .vmem S64x128 .f32) (harg9 : arg9.IsWhole) (arg10 : Memref sig .tc .vmem S8x128x128 .f32) (harg10 : arg10.IsWhole) (hc0 : ¬cond0_0 i) :
    out0_B_7 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y) (up3 C.ds) = up2 C.outX := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y) (up3 C.ds))]
  unfold kernelRun0_B
  dsimp only
  sl_unfold_words
  simp only [View.readAt_eq_ld, harg1.read_unread, harg2.read_unread, harg3.read_unread, harg4.read_unread,
    harg5.read_unread, harg6.read_unread, harg7.read_unread, harg10.read_unread]
  simp only [ld_B, ld_xi, ld_s, ld_ds, pay14, pay15, pay16, pay17, pay18, pay3, pay4, pay5, pay20, pay23, pay25, pay26, pay27, pay29, pay30, pay31, pay32, pay34, pay35, pay36, pay37, pay38, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75]
  exact canonX C

theorem out8_B (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole)
    (arg4 : Memref sig .tc .vmem S64x128 .f32) (harg4 : arg4.IsWhole) (arg5 : Memref sig .tc .vmem S1x8x64x64 .f32) (harg5 : arg5.IsWhole) (arg6 : Memref sig .tc .vmem S1x8x128x128 .f32) (harg6 : arg6.IsWhole)
    (arg7 : Memref sig .tc .vmem S64x1024 .f32) (harg7 : arg7.IsWhole) (arg8 : Memref sig .tc .vmem S64x3072 .f32) (harg8 : arg8.IsWhole) (arg9 : Memref sig .tc .vmem S64x128 .f32) (harg9 : arg9.IsWhole) (arg10 : Memref sig .tc .vmem S8x128x128 .f32) (harg10 : arg10.IsWhole) (hc0 : ¬cond0_0 i) :
    out0_B_8 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y) (up3 C.ds) = up2 C.outB := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y) (up3 C.ds))]
  unfold kernelRun0_B
  dsimp only
  sl_unfold_words
  simp only [View.readAt_eq_ld, harg1.read_unread, harg2.read_unread, harg3.read_unread, harg4.read_unread,
    harg5.read_unread, harg6.read_unread, harg7.read_unread, harg10.read_unread]
  simp only [ld_B, ld_xi, ld_s, ld_ds, pay14, pay15, pay16, pay17, pay18, pay3, pay4, pay5, pay20, pay23, pay25, pay26, pay27, pay29, pay30, pay31, pay32, pay34, pay35, pay36, pay37, pay38, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75]
  rw [payB]
  exact View.canon_unit_zero (by funext a; fin_cases a <;> rfl) _ _

theorem sout_A (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole)
    (arg4 : Memref sig .tc .vmem S64x128 .f32) (harg4 : arg4.IsWhole) (arg5 : Memref sig .tc .vmem S1x8x64x64 .f32) (harg5 : arg5.IsWhole) (arg6 : Memref sig .tc .vmem S1x8x128x128 .f32) (harg6 : arg6.IsWhole)
    (arg7 : Memref sig .tc .vmem S64x1024 .f32) (harg7 : arg7.IsWhole) (arg8 : Memref sig .tc .vmem S64x3072 .f32) (harg8 : arg8.IsWhole) (arg9 : Memref sig .tc .vmem S64x128 .f32) (harg9 : arg9.IsWhole) (arg10 : Memref sig .tc .vmem S8x128x128 .f32) (harg10 : arg10.IsWhole) (hc0 : cond0_0 i) (hds : C.ds = 0) :
    sout0_A_0 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y) = up3 C.ds' := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y))]
  unfold kernelRun0_A
  dsimp only
  sl_unfold_words
  simp only [View.readAt_eq_ld, harg1.read_unread, harg2.read_unread, harg3.read_unread, harg4.read_unread,
    harg5.read_unread, harg6.read_unread, harg7.read_unread, harg10.read_unread]
  rw [pay2 C hds]
  rw [cov_ds C arg10]
  simp only [ld_B, ld_xi, ld_s, ld_ds, pay14, pay15, pay16, pay17, pay18, pay3, pay4, pay5, pay20, pay23, pay25, pay26, pay27, pay29, pay30, pay31, pay32, pay34, pay35, pay36, pay37, pay38, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75]
  exact View.canon_cons_unit_zero (by funext a; fin_cases a <;> rfl) _ _ _

theorem out7_A (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole)
    (arg4 : Memref sig .tc .vmem S64x128 .f32) (harg4 : arg4.IsWhole) (arg5 : Memref sig .tc .vmem S1x8x64x64 .f32) (harg5 : arg5.IsWhole) (arg6 : Memref sig .tc .vmem S1x8x128x128 .f32) (harg6 : arg6.IsWhole)
    (arg7 : Memref sig .tc .vmem S64x1024 .f32) (harg7 : arg7.IsWhole) (arg8 : Memref sig .tc .vmem S64x3072 .f32) (harg8 : arg8.IsWhole) (arg9 : Memref sig .tc .vmem S64x128 .f32) (harg9 : arg9.IsWhole) (arg10 : Memref sig .tc .vmem S8x128x128 .f32) (harg10 : arg10.IsWhole) (hc0 : cond0_0 i) (hds : C.ds = 0) :
    out0_A_7 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y) = up2 C.outX := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y))]
  unfold kernelRun0_A
  dsimp only
  sl_unfold_words
  simp only [View.readAt_eq_ld, harg1.read_unread, harg2.read_unread, harg3.read_unread, harg4.read_unread,
    harg5.read_unread, harg6.read_unread, harg7.read_unread, harg10.read_unread]
  rw [pay2 C hds]
  rw [cov_ds C arg10]
  simp only [ld_B, ld_xi, ld_s, ld_ds, pay14, pay15, pay16, pay17, pay18, pay3, pay4, pay5, pay20, pay23, pay25, pay26, pay27, pay29, pay30, pay31, pay32, pay34, pay35, pay36, pay37, pay38, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75]
  exact canonX C

theorem out8_A (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole)
    (arg4 : Memref sig .tc .vmem S64x128 .f32) (harg4 : arg4.IsWhole) (arg5 : Memref sig .tc .vmem S1x8x64x64 .f32) (harg5 : arg5.IsWhole) (arg6 : Memref sig .tc .vmem S1x8x128x128 .f32) (harg6 : arg6.IsWhole)
    (arg7 : Memref sig .tc .vmem S64x1024 .f32) (harg7 : arg7.IsWhole) (arg8 : Memref sig .tc .vmem S64x3072 .f32) (harg8 : arg8.IsWhole) (arg9 : Memref sig .tc .vmem S64x128 .f32) (harg9 : arg9.IsWhole) (arg10 : Memref sig .tc .vmem S8x128x128 .f32) (harg10 : arg10.IsWhole) (hc0 : cond0_0 i) (hds : C.ds = 0) :
    out0_A_8 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y) = up2 C.outB := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 hc0 (up2 C.Xq) (up2 C.Xk) (up2 C.Xv) (up2 C.B) (up4 fun (_ : Fin 1) => C.xi) (up4 fun (_ : Fin 1) => C.s) (up2 C.Y))]
  unfold kernelRun0_A
  dsimp only
  sl_unfold_words
  simp only [View.readAt_eq_ld, harg1.read_unread, harg2.read_unread, harg3.read_unread, harg4.read_unread,
    harg5.read_unread, harg6.read_unread, harg7.read_unread, harg10.read_unread]
  rw [pay2 C hds]
  rw [cov_ds C arg10]
  simp only [ld_B, ld_xi, ld_s, ld_ds, pay14, pay15, pay16, pay17, pay18, pay3, pay4, pay5, pay20, pay23, pay25, pay26, pay27, pay29, pay30, pay31, pay32, pay34, pay35, pay36, pay37, pay38, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75]
  rw [payB]
  exact View.canon_unit_zero (by funext a; fin_cases a <;> rfl) _ _

end Cert.Delta
-- ==== Proof.Delta.KernelArr.lean ====
module

public import proofs.«01_k».proof.Proof.Delta.Seq
public import proofs.«01_k».proof.Proof.Delta.Open

@[expose] public section

set_option maxRecDepth 16384

noncomputable section

namespace Cert.Delta

open Idealize.ShloMosaic Idealize.ShloMosaic.TcCoe Idealize.SL.Sem Cert.KernelIdeal
open Cert.KernelIdeal.Gen Cert.KernelIdeal.Value

variable (m : (ℓ : Loc nD τ sig) → Buf (Elt Ideal) ℓ) (ρ : Dev nD → PrngReg) (c : Dev nD) (A : Args)

/-- The kernel's arguments hold a sequence's arrays. -/
structure Holds : Prop where
  h0 : m ((c : Thread nD τ).loc main_arg0) = up2 A.X
  h1 : m ((c : Thread nD τ).loc main_arg1) = up2 A.B
  h2 : m ((c : Thread nD τ).loc main_arg2) = up4 A.xi
  h3 : m ((c : Thread nD τ).loc main_arg3) = up4 A.s
  h4 : m ((c : Thread nD τ).loc main_arg4) = up2 A.Y

/-! Which block each window stages at each point. -/

theorem idx_0 : ∀ t : Fin cfg0.N, win0_0.index t = ![63 - t.val, 0] :=
  (by decide +kernel : ∀ t : Fin grid0.N, win0_0.index t = ![63 - t.val, 0])
theorem idx_1 : ∀ t : Fin cfg0.N, win0_1.index t = ![63 - t.val, 1] :=
  (by decide +kernel : ∀ t : Fin grid0.N, win0_1.index t = ![63 - t.val, 1])
theorem idx_2 : ∀ t : Fin cfg0.N, win0_2.index t = ![63 - t.val, 2] :=
  (by decide +kernel : ∀ t : Fin grid0.N, win0_2.index t = ![63 - t.val, 2])
theorem idx_3 : ∀ t : Fin cfg0.N, win0_3.index t = ![63 - t.val, 0] :=
  (by decide +kernel : ∀ t : Fin grid0.N, win0_3.index t = ![63 - t.val, 0])
theorem idx_4 : ∀ t : Fin cfg0.N, win0_4.index t = ![63 - t.val, 0, 0, 0] :=
  (by decide +kernel : ∀ t : Fin grid0.N, win0_4.index t = ![63 - t.val, 0, 0, 0])
theorem idx_5 : ∀ t : Fin cfg0.N, win0_5.index t = ![63 - t.val, 0, 0, 0] :=
  (by decide +kernel : ∀ t : Fin grid0.N, win0_5.index t = ![63 - t.val, 0, 0, 0])
theorem idx_6 : ∀ t : Fin cfg0.N, win0_6.index t = ![63 - t.val, 0] :=
  (by decide +kernel : ∀ t : Fin grid0.N, win0_6.index t = ![63 - t.val, 0])
theorem idx_7 : ∀ t : Fin cfg0.N, win0_7.index t = ![63 - t.val, 0] :=
  (by decide +kernel : ∀ t : Fin grid0.N, win0_7.index t = ![63 - t.val, 0])
theorem idx_8 : ∀ t : Fin cfg0.N, win0_8.index t = ![63 - t.val, 0] :=
  (by decide +kernel : ∀ t : Fin grid0.N, win0_8.index t = ![63 - t.val, 0])

variable {m c A}

theorem blk0 (H : Holds m c A) (t : Fin cfg0.N) : (iblk m c 0 t : Vec Ideal S64x1024 .f32) = up2 (A.C t.val).Xq := by
  funext j
  unfold iblk
  rw [View.read_apply]
  show m ((c : Thread nD τ).loc main_arg0) _ = _
  rw [H.h0]
  refine congrArg _ (congrArg₂ A.X (Fin.ext ?_) (Fin.ext ?_))
  · show win0_0.index t 0 * 64 + 1 * (j 0).val = 64 * (63 - t.val) + (j 0).val
    rw [idx_0 t]; show (63 - t.val) * 64 + 1 * (j 0).val = _; omega
  · show win0_0.index t 1 * 1024 + 1 * (j 1).val = (j 1).val
    rw [idx_0 t]; show 0 * 1024 + 1 * (j 1).val = _; omega

theorem blk1 (H : Holds m c A) (t : Fin cfg0.N) : (iblk m c 1 t : Vec Ideal S64x1024 .f32) = up2 (A.C t.val).Xk := by
  funext j
  unfold iblk
  rw [View.read_apply]
  show m ((c : Thread nD τ).loc main_arg0) _ = _
  rw [H.h0]
  refine congrArg _ (congrArg₂ A.X (Fin.ext ?_) (Fin.ext ?_))
  · show win0_1.index t 0 * 64 + 1 * (j 0).val = 64 * (63 - t.val) + (j 0).val
    rw [idx_1 t]; show (63 - t.val) * 64 + 1 * (j 0).val = _; omega
  · show win0_1.index t 1 * 1024 + 1 * (j 1).val = 1024 + (j 1).val
    rw [idx_1 t]; show 1 * 1024 + 1 * (j 1).val = _; omega

theorem blk2 (H : Holds m c A) (t : Fin cfg0.N) : (iblk m c 2 t : Vec Ideal S64x1024 .f32) = up2 (A.C t.val).Xv := by
  funext j
  unfold iblk
  rw [View.read_apply]
  show m ((c : Thread nD τ).loc main_arg0) _ = _
  rw [H.h0]
  refine congrArg _ (congrArg₂ A.X (Fin.ext ?_) (Fin.ext ?_))
  · show win0_2.index t 0 * 64 + 1 * (j 0).val = 64 * (63 - t.val) + (j 0).val
    rw [idx_2 t]; show (63 - t.val) * 64 + 1 * (j 0).val = _; omega
  · show win0_2.index t 1 * 1024 + 1 * (j 1).val = 2048 + (j 1).val
    rw [idx_2 t]; show 2 * 1024 + 1 * (j 1).val = _; omega

theorem blk3 (H : Holds m c A) (t : Fin cfg0.N) : (iblk m c 3 t : Vec Ideal S64x128 .f32) = up2 (A.C t.val).B := by
  funext j
  unfold iblk
  rw [View.read_apply]
  show m ((c : Thread nD τ).loc main_arg1) _ = _
  rw [H.h1]
  refine congrArg _ (congrArg₂ A.B (Fin.ext ?_) (Fin.ext ?_))
  · show win0_3.index t 0 * 64 + 1 * (j 0).val = 64 * (63 - t.val) + (j 0).val
    rw [idx_3 t]; show (63 - t.val) * 64 + 1 * (j 0).val = _; omega
  · show win0_3.index t 1 * 128 + 1 * (j 1).val = (j 1).val
    rw [idx_3 t]; show 0 * 128 + 1 * (j 1).val = _; omega

theorem blk4 (H : Holds m c A) (t : Fin cfg0.N) :
    (iblk m c 4 t : Vec Ideal S1x8x64x64 .f32) = up4 fun (_ : Fin 1) => (A.C t.val).xi := by
  funext j
  unfold iblk
  rw [View.read_apply]
  show m ((c : Thread nD τ).loc main_arg2) _ = _
  rw [H.h2]
  have hj := (j 0).isLt
  have hj' : (j 0).val < 1 := hj
  refine congrArg _ (congr (congr (congrArg₂ A.xi (Fin.ext ?_) (Fin.ext ?_)) (Fin.ext ?_)) (Fin.ext ?_))
  · show win0_4.index t 0 * 1 + 1 * (j 0).val = 63 - t.val
    rw [idx_4 t]; show (63 - t.val) * 1 + 1 * (j 0).val = _; omega
  · show win0_4.index t 1 * 8 + 1 * (j 1).val = (j 1).val
    rw [idx_4 t]; show 0 * 8 + 1 * (j 1).val = _; omega
  · show win0_4.index t 2 * 64 + 1 * (j 2).val = (j 2).val
    rw [idx_4 t]; show 0 * 64 + 1 * (j 2).val = _; omega
  · show win0_4.index t 3 * 64 + 1 * (j 3).val = (j 3).val
    rw [idx_4 t]; show 0 * 64 + 1 * (j 3).val = _; omega

theorem blk5 (H : Holds m c A) (t : Fin cfg0.N) :
    (iblk m c 5 t : Vec Ideal S1x8x128x128 .f32) = up4 fun (_ : Fin 1) => (A.C t.val).s := by
  funext j
  unfold iblk
  rw [View.read_apply]
  show m ((c : Thread nD τ).loc main_arg3) _ = _
  rw [H.h3]
  have hj := (j 0).isLt
  have hj' : (j 0).val < 1 := hj
  refine congrArg _ (congr (congr (congrArg₂ A.s (Fin.ext ?_) (Fin.ext ?_)) (Fin.ext ?_)) (Fin.ext ?_))
  · show win0_5.index t 0 * 1 + 1 * (j 0).val = 63 - t.val
    rw [idx_5 t]; show (63 - t.val) * 1 + 1 * (j 0).val = _; omega
  · show win0_5.index t 1 * 8 + 1 * (j 1).val = (j 1).val
    rw [idx_5 t]; show 0 * 8 + 1 * (j 1).val = _; omega
  · show win0_5.index t 2 * 128 + 1 * (j 2).val = (j 2).val
    rw [idx_5 t]; show 0 * 128 + 1 * (j 2).val = _; omega
  · show win0_5.index t 3 * 128 + 1 * (j 3).val = (j 3).val
    rw [idx_5 t]; show 0 * 128 + 1 * (j 3).val = _; omega

theorem blk6 (H : Holds m c A) (t : Fin cfg0.N) : (iblk m c 6 t : Vec Ideal S64x1024 .f32) = up2 (A.C t.val).Y := by
  funext j
  unfold iblk
  rw [View.read_apply]
  show m ((c : Thread nD τ).loc main_arg4) _ = _
  rw [H.h4]
  refine congrArg _ (congrArg₂ A.Y (Fin.ext ?_) (Fin.ext ?_))
  · show win0_6.index t 0 * 64 + 1 * (j 0).val = 64 * (63 - t.val) + (j 0).val
    rw [idx_6 t]; show (63 - t.val) * 64 + 1 * (j 0).val = _; omega
  · show win0_6.index t 1 * 1024 + 1 * (j 1).val = (j 1).val
    rw [idx_6 t]; show 0 * 1024 + 1 * (j 1).val = _; omega

theorem outs_A (H : Holds m c A) (t : Fin cfg0.N) (h0 : t.val % 64 = 0) (hds : (A.C t.val).ds = 0) :
    outsAt0 m c t.val t.isLt = (up2 (A.C t.val).outX, up2 (A.C t.val).outB, up3 (A.C t.val).ds') := by
  rw [outsAt0_A m c t h0, blk0 H, blk1 H, blk2 H, blk3 H, blk4 H, blk5 H, blk6 H]
  rw [out7_A (A.C t.val) (hds := hds), out8_A (A.C t.val) (hds := hds), sout_A (A.C t.val) (hds := hds)]

theorem outs_B (H : Holds m c A) (t : Fin cfg0.N) (h0 : ¬t.val % 64 = 0)
    (hS : (outsAt0 m c (t.val - 1) (Nat.lt_of_le_of_lt (Nat.sub_le _ _) t.isLt)).2.2 = up3 (A.C t.val).ds) :
    outsAt0 m c t.val t.isLt = (up2 (A.C t.val).outX, up2 (A.C t.val).outB, up3 (A.C t.val).ds') := by
  rw [outsAt0_B m c t h0, hS, blk0 H, blk1 H, blk2 H, blk3 H, blk4 H, blk5 H, blk6 H]
  rw [out7_B (A.C t.val), out8_B (A.C t.val), sout_B (A.C t.val)]

/-- What every point leaves: its chunk's rows of the two gradients, and the cotangent of the chunk's entry state. -/
theorem outs (H : Holds m c A) : ∀ (n : ℕ) (hn : n < cfg0.N),
    outsAt0 m c n hn = (up2 (A.C n).outX, up2 (A.C n).outB, up3 (A.C n).ds')
  | 0, hn => outs_A H ⟨0, hn⟩ rfl rfl
  | n + 1, hn => by
    have hN : cfg0.N = 64 := N_0
    refine outs_B H ⟨n + 1, hn⟩ (by dsimp only; omega) ?_
    show (outsAt0 m c n _).2.2 = _
    rw [outs H n]
    rfl

theorem flushed_7 (H : Holds m c A) (t : Fin cfg0.N) :
    (dats m 0 c).flushed 7 t = ((cfg0.win 7).blk t).view.read (Elt Ideal) (up2 A.gX) := by
  have hN : t.val < 64 := lt_of_lt_of_eq t.isLt (show cfg0.N = 64 from N_0)
  rw [flushed7, outs H]
  funext j
  rw [View.read_apply]
  have j0 : (j 0).val < 64 := (j 0).isLt
  show ((A.C t.val).outX _ _ : EReal) = ((A.gX _ _ : ℝ) : EReal)
  refine congrArg _ ?_
  have e : ∀ (r : Fin 4096) (hr : r.val = 64 * (63 - t.val) + (j 0).val) (e e' : Fin 3072) (he : e' = e) (i : Fin 64) (hi : i.val = (j 0).val),
      (A.C t.val).outX i e' = A.gX r e := by
    intro r hr e e' he i hi
    unfold Args.gX
    have hq : 63 - r.val / 64 = t.val := by omega
    rw [hq, he]
    exact congrArg₂ _ (Fin.ext (by dsimp only; omega)) rfl
  refine e _ ?_ _ _ (Fin.ext ?_) _ rfl
  · show win0_7.index t 0 * 64 + 1 * (j 0).val = _
    rw [idx_7 t]; show (63 - t.val) * 64 + 1 * (j 0).val = _; omega
  · show (j 1).val = win0_7.index t 1 * 3072 + 1 * (j 1).val
    rw [idx_7 t]; show _ = 0 * 3072 + 1 * (j 1).val; omega

theorem flushed_8 (H : Holds m c A) (t : Fin cfg0.N) :
    (dats m 0 c).flushed 8 t = ((cfg0.win 8).blk t).view.read (Elt Ideal) (up2 A.gB) := by
  have hN : t.val < 64 := lt_of_lt_of_eq t.isLt (show cfg0.N = 64 from N_0)
  rw [flushed8, outs H]
  funext j
  rw [View.read_apply]
  have j0 : (j 0).val < 64 := (j 0).isLt
  show ((A.C t.val).outB _ _ : EReal) = ((A.gB _ _ : ℝ) : EReal)
  refine congrArg _ ?_
  have e : ∀ (r : Fin 4096) (hr : r.val = 64 * (63 - t.val) + (j 0).val) (e e' : Fin 128) (he : e' = e) (i : Fin 64) (hi : i.val = (j 0).val),
      (A.C t.val).outB i e' = A.gB r e := by
    intro r hr e e' he i hi
    unfold Args.gB
    have hq : 63 - r.val / 64 = t.val := by omega
    rw [hq, he]
    exact congrArg₂ _ (Fin.ext (by dsimp only; omega)) rfl
  refine e _ ?_ _ _ (Fin.ext ?_) _ rfl
  · show win0_8.index t 0 * 64 + 1 * (j 0).val = _
    rw [idx_8 t]; show (63 - t.val) * 64 + 1 * (j 0).val = _; omega
  · show (j 1).val = win0_8.index t 1 * 128 + 1 * (j 1).val
    rw [idx_8 t]; show _ = 0 * 128 + 1 * (j 1).val; omega

theorem mem_blk7 (t : Fin cfg0.N) (i : S4096x3072.Idx) :
    i ∈ ((cfg0.win 7).blk t).view.set ↔ ∀ a : Fin 2, win0_7.index t a * win0_7.size a ≤ (i a : Nat)
      ∧ (i a : Nat) < win0_7.index t a * win0_7.size a + win0_7.xsize (grid0.coords t) a := by
  show i ∈ ((View.whole main_v0_0).slice (win0_7.rect t)).set ↔ _
  rw [View.set_slice_whole, Rect.mem_set_unit]
  exact Iff.rfl

theorem cover_7 (i : S4096x3072.Idx) : ∃ t : Fin cfg0.N, (cfg0.win 7).flush t = true ∧ i ∈ ((cfg0.win 7).blk t).view.set := by
  have h0 : (i 0 : Nat) < 4096 := (i 0).isLt
  have h1 : (i 1 : Nat) < 3072 := (i 1).isLt
  have hN : cfg0.N = 64 := N_0
  refine ⟨⟨63 - (i 0 : Nat) / 64, by omega⟩, flush0_7 _, ?_⟩
  rw [mem_blk7]
  intro a
  rw [idx_7]
  match a with
  | ⟨0, _⟩ => show (63 - (63 - (i 0 : Nat) / 64)) * 64 ≤ (i 0 : Nat) ∧ (i 0 : Nat) < (63 - (63 - (i 0 : Nat) / 64)) * 64 + 64; omega
  | ⟨1, _⟩ => show 0 * 3072 ≤ (i 1 : Nat) ∧ (i 1 : Nat) < 0 * 3072 + 3072; omega

theorem arr_7 (H : Holds m c A) : (dats m 0 c).arrAt 7 cfg0.N = up2 A.gX :=
  (dats m 0 c).arrAt_eq_of_cover 7 (up2 A.gX) (fun t _ => flushed_7 H t) cover_7

theorem mem_blk8 (t : Fin cfg0.N) (i : S4096x128.Idx) :
    i ∈ ((cfg0.win 8).blk t).view.set ↔ ∀ a : Fin 2, win0_8.index t a * win0_8.size a ≤ (i a : Nat)
      ∧ (i a : Nat) < win0_8.index t a * win0_8.size a + win0_8.xsize (grid0.coords t) a := by
  show i ∈ ((View.whole main_v0_1).slice (win0_8.rect t)).set ↔ _
  rw [View.set_slice_whole, Rect.mem_set_unit]
  exact Iff.rfl

theorem cover_8 (i : S4096x128.Idx) : ∃ t : Fin cfg0.N, (cfg0.win 8).flush t = true ∧ i ∈ ((cfg0.win 8).blk t).view.set := by
  have h0 : (i 0 : Nat) < 4096 := (i 0).isLt
  have h1 : (i 1 : Nat) < 128 := (i 1).isLt
  have hN : cfg0.N = 64 := N_0
  refine ⟨⟨63 - (i 0 : Nat) / 64, by omega⟩, flush0_8 _, ?_⟩
  rw [mem_blk8]
  intro a
  rw [idx_8]
  match a with
  | ⟨0, _⟩ => show (63 - (63 - (i 0 : Nat) / 64)) * 64 ≤ (i 0 : Nat) ∧ (i 0 : Nat) < (63 - (63 - (i 0 : Nat) / 64)) * 64 + 64; omega
  | ⟨1, _⟩ => show 0 * 128 ≤ (i 1 : Nat) ∧ (i 1 : Nat) < 0 * 128 + 128; omega

theorem arr_8 (H : Holds m c A) : (dats m 0 c).arrAt 8 cfg0.N = up2 A.gB :=
  (dats m 0 c).arrAt_eq_of_cover 8 (up2 A.gB) (fun t _ => flushed_8 H t) cover_8

end Cert.Delta
-- ==== Proof.Delta.RefTrip.lean ====
module

public import proofs.«01_k».proof.Proof.Gen.ReferenceIdeal.Run
public import proofs.«01_k».proof.Proof.Delta.Seq
public import proofs.«01_k».proof.Proof.Delta.Words
public import Idealize.ShloMosaic.Lib.DynamicIndex
public import Idealize.ShloMosaic.Lib.Tactic.CleanTypes

@[expose] public section

set_option maxRecDepth 16384

noncomputable section

namespace Cert.Delta.Ref

open Idealize.ShloMosaic Idealize.ShloMosaic.TcCoe Idealize.SL.Sem
open Cert.ReferenceIdeal Cert.ReferenceIdeal.Value

/-! One trip of the reference's loop, value by value: every array is an array of real numbers, given by the chunk's
formulas. -/

variable {V : Valuation τ sig (Elt Ideal)} {A : Args} {k : ℕ}

/-- What the loop carries before the trip `k`, of a sequence's arrays. -/
structure At (V : Valuation τ sig (Elt Ideal)) (A : Args) (k : ℕ) : Prop where
  lt : k < 64
  h0 : V (Proc.devRef .tc main_v6_0) = up3 (fun (n i : Fin 64) e => A.X ⟨64 * n.val + i.val, by omega⟩ e)
  h1 : V (Proc.devRef .tc main_v6_1) = up3 (fun (n i : Fin 64) e => A.B ⟨64 * n.val + i.val, by omega⟩ e)
  h2 : V (Proc.devRef .tc main_v6_2) = up4 A.xi
  h3 : V (Proc.devRef .tc main_v6_3) = up4 A.s
  h4 : V (Proc.devRef .tc main_v6_4) = up3 (fun (n i : Fin 64) e => A.Y ⟨64 * n.val + i.val, by omega⟩ e)
  h5 : V (Proc.devRef .tc main_v6_5) = fun _ => BitVec.ofNat 32 k
  h6 : V (Proc.devRef .tc main_v6_6) = up3 (A.DS k)

theorem word (k : Fin 64) : (64#32 - BitVec.ofNat 32 k.val - 1#32) = BitVec.ofNat 32 (63 - k.val) := by
  revert k; decide +kernel

theorem word_int (k : Fin 64) : (BitVec.ofNat 32 (63 - k.val)).toInt = ((63 - k.val : ℕ) : ℤ) := by
  revert k; decide +kernel

theorem r10 (H : At V A k) : res_main_while0b_v10 V = fun _ => BitVec.ofNat 32 (63 - k) := by
  unfold res_main_while0b_v10
  rw [H.h5]
  funext j
  exact word ⟨k, H.lt⟩

theorem tril (i j : Fin 64) : Scalar.select (IntOp.cmpi .sge (IntOp.addi (BitVec.ofNat 32 i.val) 0#32) (BitVec.ofNat 32 j.val)) 1#1 0#1
    = BitVec.ofBool (decide (j ≤ i)) := by
  revert i j; decide +kernel

theorem strict (i j : Fin 64) : Scalar.select (IntOp.cmpi .sge (IntOp.addi (BitVec.ofNat 32 i.val) 4294967295#32) (BitVec.ofNat 32 j.val)) 1#1 0#1
    = BitVec.ofBool (decide (j < i)) := by
  revert i j; decide +kernel

theorem minus_inf : id (constant (F := Ideal) S_ FTy.f32 4286578688#32) ix0 = ⊥ := by
  show Ideal.ofBits .f32 4286578688#32 = ⊥
  simp [Ideal.ofBits, Ideal.ieee]

theorem r11 (H : At V A k) : res_main_while0b_v11 V = up2 (A.C k).X := by
  have hk := H.lt
  unfold res_main_while0b_v11
  rw [H.h0, r10 H]
  rw [Host.dynamicSlice_eq_extractStridedSlice _ _ _ ![63 - k, 0, 0] _ (by
    refine ⟨rfl, fun a => ?_⟩
    fin_cases a
    · show 63 - k + 1 ≤ 64; omega
    · show 0 + 64 ≤ 64; omega
    · show 0 + 3072 ≤ 3072; omega) (by
    intro a
    fin_cases a
    · exact word_int ⟨k, hk⟩
    · rfl
    · rfl)]
  funext j
  clean_types
  idx_vars j
  pointwise
  rfl
theorem r12 (H : At V A k) : res_main_while0b_v12 V = up2 (A.C k).B := by
  have hk := H.lt
  unfold res_main_while0b_v12
  rw [H.h1, r10 H]
  rw [Host.dynamicSlice_eq_extractStridedSlice _ _ _ ![63 - k, 0, 0] _ (by
    refine ⟨rfl, fun a => ?_⟩
    fin_cases a
    · show 63 - k + 1 ≤ 64; omega
    · show 0 + 64 ≤ 64; omega
    · show 0 + 128 ≤ 128; omega) (by
    intro a
    fin_cases a
    · exact word_int ⟨k, hk⟩
    · rfl
    · rfl)]
  funext j
  clean_types
  idx_vars j
  pointwise
  rfl
theorem r13 (H : At V A k) : res_main_while0b_v13 V = up3 (A.C k).xi := by
  have hk := H.lt
  unfold res_main_while0b_v13
  rw [H.h2, r10 H]
  rw [Host.dynamicSlice_eq_extractStridedSlice _ _ _ ![63 - k, 0, 0, 0] _ (by
    refine ⟨rfl, fun a => ?_⟩
    fin_cases a
    · show 63 - k + 1 ≤ 64; omega
    · show 0 + 8 ≤ 8; omega
    · show 0 + 64 ≤ 64; omega
    · show 0 + 64 ≤ 64; omega) (by
    intro a
    fin_cases a
    · exact word_int ⟨k, hk⟩
    · rfl
    · rfl
    · rfl)]
  funext j
  clean_types
  idx_vars j
  pointwise
  rfl
theorem r14 (H : At V A k) : res_main_while0b_v14 V = up3 (A.C k).s := by
  have hk := H.lt
  unfold res_main_while0b_v14
  rw [H.h3, r10 H]
  rw [Host.dynamicSlice_eq_extractStridedSlice _ _ _ ![63 - k, 0, 0, 0] _ (by
    refine ⟨rfl, fun a => ?_⟩
    fin_cases a
    · show 63 - k + 1 ≤ 64; omega
    · show 0 + 8 ≤ 8; omega
    · show 0 + 128 ≤ 128; omega
    · show 0 + 128 ≤ 128; omega) (by
    intro a
    fin_cases a
    · exact word_int ⟨k, hk⟩
    · rfl
    · rfl
    · rfl)]
  funext j
  clean_types
  idx_vars j
  pointwise
  rfl
theorem r98 (H : At V A k) : res_main_while0b_v98 V = up3 (A.C k).o := by
  have hk := H.lt
  unfold res_main_while0b_v98
  rw [H.h4, r10 H]
  rw [Host.dynamicSlice_eq_extractStridedSlice _ _ _ ![63 - k, 0, 0] _ (by
    refine ⟨rfl, fun a => ?_⟩
    fin_cases a
    · show 63 - k + 1 ≤ 64; omega
    · show 0 + 64 ≤ 64; omega
    · show 0 + 1024 ≤ 1024; omega) (by
    intro a
    fin_cases a
    · exact word_int ⟨k, hk⟩
    · rfl
    · rfl)]
  funext j
  clean_types
  idx_vars j
  pointwise
  rfl

theorem r20 (H : At V A k) : res_main_while0b_v20 V = up3 (A.C k).qs := by
  unfold res_main_while0b_v20
  rw [r11 H]
  funext j
  clean_types
  idx_vars j
  pointwise
  simp only [sc_coe, up1_at, up2_at, up3_at, up4_at, ← EReal.coe_mul, ← EReal.coe_add, ← EReal.coe_sub, ← EReal.coe_neg, coe_sum]
  rfl

theorem r23 (H : At V A k) : res_main_while0b_v23 V = up3 (A.C k).k := by
  unfold res_main_while0b_v23
  rw [r11 H]
  funext j
  clean_types
  idx_vars j
  pointwise
  simp only [up1_at, up2_at, up3_at, up4_at, ← EReal.coe_mul, ← EReal.coe_add, ← EReal.coe_sub, ← EReal.coe_neg, coe_sum]
  rfl

theorem r26 (H : At V A k) : res_main_while0b_v26 V = up3 (A.C k).v := by
  unfold res_main_while0b_v26
  rw [r11 H]
  funext j
  clean_types
  idx_vars j
  pointwise
  simp only [up1_at, up2_at, up3_at, up4_at, ← EReal.coe_mul, ← EReal.coe_add, ← EReal.coe_sub, ← EReal.coe_neg, coe_sum]
  rfl

theorem r28 (H : At V A k) : res_main_while0b_v28 V = up2 (A.C k).b := by
  unfold res_main_while0b_v28
  rw [r12 H]
  funext j
  clean_types
  idx_vars j
  pointwise
  simp only [up1_at, up2_at, up3_at, up4_at, ← EReal.coe_mul, ← EReal.coe_add, ← EReal.coe_sub, ← EReal.coe_neg, coe_sum]
  rfl

theorem r30 (H : At V A k) : res_main_while0b_v30 V = up2 (A.C k).g := by
  unfold res_main_while0b_v30
  rw [r12 H]
  funext j
  clean_types
  idx_vars j
  pointwise
  simp only [up1_at, up2_at, up3_at, up4_at, ← EReal.coe_mul, ← EReal.coe_add, ← EReal.coe_sub, ← EReal.coe_neg, coe_sum]
  rfl

theorem r46_1 (H : At V A k) : res_main_while0b_v46_1 V = fun j => BitVec.ofBool (decide ((j 2 : Fin 64) ≤ j 1)) := by
  unfold res_main_while0b_v46_1
  funext j
  clean_types
  idx_vars j
  pointwise
  exact tril j1 j2

theorem r56_1 (H : At V A k) : res_main_while0b_v56_1 V = fun j => BitVec.ofBool (decide ((j 2 : Fin 64) < j 1)) := by
  unfold res_main_while0b_v56_1
  funext j
  clean_types
  idx_vars j
  pointwise
  exact strict j1 j2

theorem r47 (H : At V A k) : res_main_while0b_v47 V = up3 (A.C k).E := by
  unfold res_main_while0b_v47
  rw [r46_1 H, r30 H]
  funext j
  clean_types
  idx_vars j
  pointwise
  simp only [up2_at, up3_at, ← EReal.coe_sub, minus_inf]
  unfold Chunk.E
  split
  · exact Ideal.exp_coe _
  · exact Ideal.exp_bot

theorem r48 (H : At V A k) : res_main_while0b_v48 V = up3 fun h i (_ : Fin 1) => (A.C k).b h i := by
  unfold res_main_while0b_v48
  rw [r28 H]
  funext j
  clean_types
  idx_vars j
  pointwise
  simp only [up1_at, up2_at, up3_at, up4_at, ← EReal.coe_mul, ← EReal.coe_add, ← EReal.coe_sub, ← EReal.coe_neg, coe_sum]

theorem r51 (H : At V A k) : res_main_while0b_v51 V = up3 fun h i (_ : Fin 1) => (A.C k).b h i := by
  unfold res_main_while0b_v51
  rw [r28 H]
  funext j
  clean_types
  idx_vars j
  pointwise
  simp only [up1_at, up2_at, up3_at, up4_at, ← EReal.coe_mul, ← EReal.coe_add, ← EReal.coe_sub, ← EReal.coe_neg, coe_sum]

theorem r50 (H : At V A k) : res_main_while0b_v50 V = up3 (A.C k).kb := by
  unfold res_main_while0b_v50
  rw [r23 H, r48 H]
  funext j
  clean_types
  idx_vars j
  pointwise
  simp only [up1_at, up2_at, up3_at, up4_at, ← EReal.coe_mul, ← EReal.coe_add, ← EReal.coe_sub, ← EReal.coe_neg, coe_sum]
  rfl

theorem r54 (H : At V A k) : res_main_while0b_v54 V = up3 (A.C k).kk := by
  unfold res_main_while0b_v54
  rw [r50 H, r23 H]
  funext j
  clean_types
  idx_vars j
  pointwise
  simp only [up1_at, up2_at, up3_at, up4_at, ← EReal.coe_mul, ← EReal.coe_add, ← EReal.coe_sub, ← EReal.coe_neg, coe_sum]
  rfl

theorem r60 (H : At V A k) : res_main_while0b_v60 V = up2 (A.C k).eg := by
  unfold res_main_while0b_v60
  rw [r30 H]
  funext j
  clean_types
  idx_vars j
  pointwise
  simp only [Ideal.exp_coe, up1_at, up2_at, up3_at, up4_at, ← EReal.coe_mul, ← EReal.coe_add, ← EReal.coe_sub, ← EReal.coe_neg, coe_sum]
  rfl

theorem r71 (H : At V A k) : res_main_while0b_v71 V = up2 (A.C k).eg := by
  unfold res_main_while0b_v71
  rw [r30 H]
  funext j
  clean_types
  idx_vars j
  pointwise
  simp only [Ideal.exp_coe, up1_at, up2_at, up3_at, up4_at, ← EReal.coe_mul, ← EReal.coe_add, ← EReal.coe_sub, ← EReal.coe_neg, coe_sum]
  rfl

theorem r61 (H : At V A k) : res_main_while0b_v61 V = up3 fun h i (_ : Fin 1) => (A.C k).eg h i := by
  unfold res_main_while0b_v61
  rw [r60 H]
  funext j
  clean_types
  idx_vars j
  pointwise
  simp only [up1_at, up2_at, up3_at, up4_at, ← EReal.coe_mul, ← EReal.coe_add, ← EReal.coe_sub, ← EReal.coe_neg, coe_sum]

theorem r72 (H : At V A k) : res_main_while0b_v72 V = up3 fun h i (_ : Fin 1) => (A.C k).eg h i := by
  unfold res_main_while0b_v72
  rw [r71 H]
  funext j
  clean_types
  idx_vars j
  pointwise
  simp only [up1_at, up2_at, up3_at, up4_at, ← EReal.coe_mul, ← EReal.coe_add, ← EReal.coe_sub, ← EReal.coe_neg, coe_sum]

theorem r65 (H : At V A k) : res_main_while0b_v65 V = up3 (A.C k).sol := by
  unfold res_main_while0b_v65
  rw [r13 H, r26 H, r51 H, r50 H, r61 H]
  funext j
  clean_types
  idx_vars j
  pointwise
  simp only [up3_at, ← EReal.coe_mul, coe_dite', coe_sum]
  rfl

theorem r68 (H : At V A k) : res_main_while0b_v68 V = up3 (A.C k).w := by
  unfold res_main_while0b_v68
  rw [r65 H]
  funext j
  clean_types
  idx_vars j
  pointwise
  simp only [up1_at, up2_at, up3_at, up4_at, ← EReal.coe_mul, ← EReal.coe_add, ← EReal.coe_sub, ← EReal.coe_neg, coe_sum]
  rfl

theorem r69 (H : At V A k) : res_main_while0b_v69 V = up3 (A.C k).qk := by
  unfold res_main_while0b_v69
  rw [r20 H, r23 H]
  funext j
  clean_types
  idx_vars j
  pointwise
  simp only [up1_at, up2_at, up3_at, up4_at, ← EReal.coe_mul, ← EReal.coe_add, ← EReal.coe_sub, ← EReal.coe_neg, coe_sum]
  rfl

theorem r70 (H : At V A k) : res_main_while0b_v70 V = up3 (A.C k).at' := by
  unfold res_main_while0b_v70
  rw [r69 H, r47 H]
  funext j
  clean_types
  idx_vars j
  pointwise
  simp only [up1_at, up2_at, up3_at, up4_at, ← EReal.coe_mul, ← EReal.coe_add, ← EReal.coe_sub, ← EReal.coe_neg, coe_sum]
  rfl

theorem r74 (H : At V A k) : res_main_while0b_v74 V = up3 (A.C k).qd := by
  unfold res_main_while0b_v74
  rw [r20 H, r72 H]
  funext j
  clean_types
  idx_vars j
  pointwise
  simp only [up1_at, up2_at, up3_at, up4_at, ← EReal.coe_mul, ← EReal.coe_add, ← EReal.coe_sub, ← EReal.coe_neg, coe_sum]
  rfl

theorem r78 (H : At V A k) : res_main_while0b_v78 V = up2 (A.C k).el := by
  unfold res_main_while0b_v78
  rw [r30 H]
  funext j
  clean_types
  idx_vars j
  pointwise
  simp only [Ideal.exp_coe, up1_at, up2_at, up3_at, up4_at, ← EReal.coe_mul, ← EReal.coe_add, ← EReal.coe_sub, ← EReal.coe_neg, coe_sum]
  rfl

theorem r79 (H : At V A k) : res_main_while0b_v79 V = up3 fun h i (_ : Fin 1) => (A.C k).el h i := by
  unfold res_main_while0b_v79
  rw [r78 H]
  funext j
  clean_types
  idx_vars j
  pointwise
  simp only [up1_at, up2_at, up3_at, up4_at, ← EReal.coe_mul, ← EReal.coe_add, ← EReal.coe_sub, ← EReal.coe_neg, coe_sum]

theorem r81 (H : At V A k) : res_main_while0b_v81 V = up3 (A.C k).kd := by
  unfold res_main_while0b_v81
  rw [r23 H, r79 H]
  funext j
  clean_types
  idx_vars j
  pointwise
  simp only [up1_at, up2_at, up3_at, up4_at, ← EReal.coe_mul, ← EReal.coe_add, ← EReal.coe_sub, ← EReal.coe_neg, coe_sum]
  rfl

theorem r84 (H : At V A k) : res_main_while0b_v84 V = up1 (A.C k).egl := by
  unfold res_main_while0b_v84
  rw [r30 H]
  funext j
  clean_types
  idx_vars j
  pointwise
  simp only [Ideal.exp_coe, up1_at, up2_at, up3_at, up4_at, ← EReal.coe_mul, ← EReal.coe_add, ← EReal.coe_sub, ← EReal.coe_neg, coe_sum]
  rfl

theorem r86 (H : At V A k) : res_main_while0b_v86 V = up3 (A.C k).vn := by
  unfold res_main_while0b_v86
  rw [r65 H, r68 H, r14 H]
  funext j
  clean_types
  idx_vars j
  pointwise
  simp only [up1_at, up2_at, up3_at, up4_at, ← EReal.coe_mul, ← EReal.coe_add, ← EReal.coe_sub, ← EReal.coe_neg, coe_sum]
  rfl

theorem r90 (H : At V A k) : res_main_while0b_v90 V = up3 fun h (_ _ : Fin 1) => (A.C k).egl h := by
  unfold res_main_while0b_v90
  rw [r84 H]
  funext j
  clean_types
  idx_vars j
  pointwise
  simp only [up1_at, up2_at, up3_at, up4_at, ← EReal.coe_mul, ← EReal.coe_add, ← EReal.coe_sub, ← EReal.coe_neg, coe_sum]

theorem r102 (H : At V A k) : res_main_while0b_v102 V = up3 (A.C k).dkt := by
  unfold res_main_while0b_v102
  rw [H.h6, r86 H]
  funext j
  clean_types
  idx_vars j
  pointwise
  simp only [up1_at, up2_at, up3_at, up4_at, ← EReal.coe_mul, ← EReal.coe_add, ← EReal.coe_sub, ← EReal.coe_neg, coe_sum]
  exact congrArg _ (Finset.sum_congr rfl fun _ _ => mul_comm _ _)

theorem r111 (H : At V A k) : res_main_while0b_v111 V = up3 (A.C k).dvn := by
  unfold res_main_while0b_v111
  rw [H.h6, r81 H, r98 H, r70 H]
  funext j
  clean_types
  idx_vars j
  pointwise
  simp only [up1_at, up2_at, up3_at, up4_at, ← EReal.coe_mul, ← EReal.coe_add, ← EReal.coe_sub, ← EReal.coe_neg, coe_sum]
  exact congrArg _ (congrArg₂ _ (Finset.sum_congr rfl fun _ _ => mul_comm _ _) (Finset.sum_congr rfl fun _ _ => mul_comm _ _))

theorem r112 (H : At V A k) : res_main_while0b_v112 V = up3 (A.C k).dat := by
  unfold res_main_while0b_v112
  rw [r98 H, r86 H]
  funext j
  clean_types
  idx_vars j
  pointwise
  simp only [up1_at, up2_at, up3_at, up4_at, ← EReal.coe_mul, ← EReal.coe_add, ← EReal.coe_sub, ← EReal.coe_neg, coe_sum]
  rfl

theorem r116 (H : At V A k) : res_main_while0b_v116 V = up3 (A.C k).dqd := by
  unfold res_main_while0b_v116
  rw [r98 H, r14 H]
  funext j
  clean_types
  idx_vars j
  pointwise
  simp only [up1_at, up2_at, up3_at, up4_at, ← EReal.coe_mul, ← EReal.coe_add, ← EReal.coe_sub, ← EReal.coe_neg, coe_sum]
  rfl

theorem r117 (H : At V A k) : res_main_while0b_v117 V = up3 fun h i e => -(A.C k).dvn h i e := by
  unfold res_main_while0b_v117
  rw [r111 H]
  funext j
  clean_types
  idx_vars j
  pointwise
  simp only [up1_at, up2_at, up3_at, up4_at, ← EReal.coe_mul, ← EReal.coe_add, ← EReal.coe_sub, ← EReal.coe_neg, coe_sum]

theorem r131 (H : At V A k) : res_main_while0b_v131 V = up2 (A.C k).dl := by
  unfold res_main_while0b_v131
  rw [r23 H, r102 H, r78 H]
  funext j
  clean_types
  idx_vars j
  pointwise
  simp only [Finset.univ_unique, Finset.sum_singleton, up1_at, up2_at, up3_at, up4_at, ← EReal.coe_mul, ← EReal.coe_add, ← EReal.coe_sub, ← EReal.coe_neg, coe_sum]
  rfl

theorem r147 (H : At V A k) : res_main_while0b_v147 V = up3 (A.C k).datE := by
  unfold res_main_while0b_v147
  rw [r112 H, r47 H]
  funext j
  clean_types
  idx_vars j
  pointwise
  simp only [up1_at, up2_at, up3_at, up4_at, ← EReal.coe_mul, ← EReal.coe_add, ← EReal.coe_sub, ← EReal.coe_neg, coe_sum]
  rfl

theorem r155 (H : At V A k) : res_main_while0b_v155 V = up3 (A.C k).drhs := by
  unfold res_main_while0b_v155
  rw [r13 H, r117 H, r14 H, r111 H]
  funext j
  clean_types
  idx_vars j
  pointwise
  simp only [up3_at, ← EReal.coe_mul, coe_sum]
  show _ = ((∑ j, (A.C k).xi j0 j j1 * (A.C k).dsol j0 j j2 : ℝ) : EReal)
  rw [← coe_sum]
  refine Finset.sum_congr rfl fun x _ => ?_
  rw [EReal.coe_mul]
  refine congrArg _ ?_
  unfold Chunk.dsol
  by_cases h : j2.val < 128
  · rw [dif_neg (by omega), dif_pos h, dif_pos h, zero_add]
  · rw [dif_pos (by omega), dif_neg h, dif_neg h, add_zero]
    rfl

theorem r158 (H : At V A k) : res_main_while0b_v158 V = up3 (A.C k).dru := by
  unfold res_main_while0b_v158
  rw [r155 H]
  funext j
  clean_types
  idx_vars j
  pointwise
  simp only [up1_at, up2_at, up3_at, up4_at, ← EReal.coe_mul, ← EReal.coe_add, ← EReal.coe_sub, ← EReal.coe_neg, coe_sum]
  rfl

theorem r159 (H : At V A k) : res_main_while0b_v159 V = up3 (A.C k).drw := by
  unfold res_main_while0b_v159
  rw [r155 H]
  funext j
  clean_types
  idx_vars j
  pointwise
  simp only [up1_at, up2_at, up3_at, up4_at, ← EReal.coe_mul, ← EReal.coe_add, ← EReal.coe_sub, ← EReal.coe_neg, coe_sum]
  rfl

theorem r168 (H : At V A k) : res_main_while0b_v168 V = up3 (A.C k).da := by
  unfold res_main_while0b_v168
  rw [r56_1 H, r155 H, r65 H]
  funext j
  clean_types
  idx_vars j
  pointwise
  simp only [up3_at, ← EReal.coe_mul, ← EReal.coe_neg, coe_sum, ite_zero, neg_mul, Finset.sum_neg_distrib]
  rfl

theorem r171 (H : At V A k) : res_main_while0b_v171 V = up3 (A.C k).daE := by
  unfold res_main_while0b_v171
  rw [r168 H, r47 H]
  funext j
  clean_types
  idx_vars j
  pointwise
  simp only [up1_at, up2_at, up3_at, up4_at, ← EReal.coe_mul, ← EReal.coe_add, ← EReal.coe_sub, ← EReal.coe_neg, coe_sum]
  rfl

theorem r175 (H : At V A k) : res_main_while0b_v175 V = up3 (A.C k).dkb := by
  unfold res_main_while0b_v175
  rw [r159 H, r61 H, r171 H, r23 H]
  funext j
  clean_types
  idx_vars j
  pointwise
  simp only [up1_at, up2_at, up3_at, up4_at, ← EReal.coe_mul, ← EReal.coe_add, ← EReal.coe_sub, ← EReal.coe_neg, coe_sum]
  rfl

theorem r191 (H : At V A k) : res_main_while0b_v191 V = up3 (A.C k).ddE := by
  unfold res_main_while0b_v191
  rw [r46_1 H, r69 H, r112 H, r54 H, r168 H, r47 H]
  funext j
  clean_types
  idx_vars j
  pointwise
  simp only [up3_at, ← EReal.coe_mul, ← EReal.coe_add, ite_zero]
  by_cases h : j2 ≤ j1
  · exact if_pos h
  · refine (if_neg h).trans ?_
    unfold Chunk.ddE Chunk.E
    rw [if_neg h, mul_zero]
    rfl

end Cert.Delta.Ref
-- ==== Proof.Delta.RefStep.lean ====
module

public import proofs.«01_k».proof.Proof.Gen.ReferenceIdeal.Run
public import proofs.«01_k».proof.Proof.Delta.Seq
public import proofs.«01_k».proof.Proof.Delta.RefTrip
public import Idealize.ShloMosaic.Lib.DynamicIndex
public import Idealize.ShloMosaic.Lib.Tactic.CleanTypes

@[expose] public section

set_option maxRecDepth 16384

noncomputable section

namespace Cert.Delta.Ref

open Idealize.ShloMosaic Idealize.ShloMosaic.TcCoe Idealize.SL.Sem
open Cert.ReferenceIdeal Cert.ReferenceIdeal.Value

/-! What one trip of the reference's loop leaves. -/

variable {V : Valuation τ sig (Elt Ideal)} {A : Args} {k : ℕ}

theorem add_one (k : Fin 64) : BitVec.ofNat 32 k.val + 1#32 = BitVec.ofNat 32 (k.val + 1) := by
  revert k; decide +kernel

/-- A block of rows written at a chunk's number replaces that chunk's rows. -/
theorem put_rows {w : ℕ} {α : Type} (x : (⟨3, ![64, 64, w]⟩ : Shape).Idx → α) (y : (⟨3, ![1, 64, w]⟩ : Shape).Idx → α)
    (st : Fin 3 → ℤ) (h) (r : ℕ) (hr : r < 64) (h0 : st 0 = r) (h1 : st 1 = 0) (h2 : st 2 = 0) (n i : Fin 64) (e : Fin w) :
    Host.dynamicUpdateSlice x y st h (ix3 n i e) = if n.val = r then y (ix3 0 i e) else x (ix3 n i e) := by
  have hs : (⟨3, ![64, 64, w]⟩ : Shape).Slices ![r, 0, 0] ⟨3, ![1, 64, w]⟩ := by
    refine ⟨rfl, fun a => ?_⟩
    fin_cases a
    · show r + 1 ≤ 64; omega
    · show 0 + 64 ≤ 64; omega
    · show 0 + w ≤ w; omega
  rw [Host.dynamicUpdateSlice_eq_updateSlice x y st h ![r, 0, 0] (by
    intro a
    fin_cases a
    · show (min (max (st 0) 0) ((64 - 1 : ℕ) : ℤ)).toNat = r
      rw [h0]
      omega
    · show (min (max (st 1) 0) ((64 - 64 : ℕ) : ℤ)).toNat = 0
      rw [h1]
      omega
    · show (min (max (st 2) 0) ((w - w : ℕ) : ℤ)).toNat = 0
      rw [h2]
      omega) hs]
  unfold updateSlice
  by_cases hn : n.val = r
  · rw [if_pos hn]
    refine (dif_pos (fun a => ?_)).trans (congrArg y ?_)
    · fin_cases a
      · show r ≤ n.val ∧ n.val < r + 1; omega
      · show 0 ≤ i.val ∧ i.val < 0 + 64; omega
      · show 0 ≤ e.val ∧ e.val < 0 + w; omega
    · funext a
      fin_cases a
      · exact Fin.ext (show n.val - r = 0 by omega)
      · rfl
      · rfl
  · rw [if_neg hn]
    refine dif_neg (fun hh => ?_)
    have := hh 0
    have h3 : r ≤ n.val ∧ n.val < r + 1 := this
    omega

/-- The log decay's gradient, from the terms in the order the reference adds them. -/
theorem log_row (C : Chunk) (h : Fin 8) (i : Fin 64) (p q : Prop) [Decidable p] [Decidable q]
    (hp : p ↔ 63 ≤ i.val) (hq : q ↔ 63 ≤ i.val) :
    ((((((((if p then (((∑ d, ∑ e, C.s h d e * C.ds h d e) * C.egl h : ℝ) : EReal) else 0) + ((-C.dl h i : ℝ) : EReal))
      + if q then ((∑ j, C.dl h j : ℝ) : EReal) else 0)
      + (((∑ d, C.qs h i d * C.dqd h i d) * C.eg h i : ℝ) : EReal))
      + (((∑ d, C.kb h i d * C.drw h i d) * C.eg h i : ℝ) : EReal))
      + ((∑ j, -C.ddE h j i : ℝ) : EReal)) + ((∑ j, C.ddE h i j : ℝ) : EReal)) : EReal) = ((C.dg h i : ℝ) : EReal) := by
  unfold Chunk.dg Chunk.dg1 Chunk.sds
  by_cases hi : i = 63
  · have h63 : 63 ≤ i.val := by rw [hi]; decide
    rw [if_pos (hp.2 h63), if_pos (hq.2 h63), if_pos hi]
    simp only [← EReal.coe_add]
    refine congrArg _ ?_
    ring
  · have h63 : ¬ 63 ≤ i.val := fun hh => hi (Fin.ext (by show i.val = 63; omega))
    rw [if_neg (fun x => h63 (hp.1 x)), if_neg (fun x => h63 (hq.1 x)), if_neg hi, ← EReal.coe_zero]
    simp only [← EReal.coe_add]
    refine congrArg _ ?_
    ring

theorem outX_q (C : Chunk) (i : Fin 64) (e : Fin 3072) (h1 : e.val < 1024) :
    C.outX i e = C.dq ⟨e.val / 128, by omega⟩ i ⟨e.val % 128, by omega⟩ := by
  unfold Chunk.outX
  refine (if_pos h1).trans (congrArg (fun h => C.dq h i _) (Fin.ext ?_))
  show e.val / 128 % 8 = e.val / 128
  omega

theorem outX_k (C : Chunk) (i : Fin 64) (e : Fin 3072) (h1 : ¬ e.val < 1024) (h2 : e.val < 2048) :
    C.outX i e = C.dk ⟨(e.val - 1024) / 128, by omega⟩ i ⟨(e.val - 1024) % 128, by omega⟩ := by
  unfold Chunk.outX
  refine ((if_neg h1).trans (if_pos h2)).trans (congrArg₂ (fun h d => C.dk h i d) (Fin.ext ?_) (Fin.ext ?_))
  · show e.val / 128 % 8 = (e.val - 1024) / 128
    omega
  · show e.val % 128 = (e.val - 1024) % 128
    omega

theorem outX_v (C : Chunk) (i : Fin 64) (e : Fin 3072) (h1 : ¬ e.val < 1024) (h2 : ¬ e.val < 2048) :
    C.outX i e = C.dv ⟨(e.val - 2048) / 128, by omega⟩ i ⟨(e.val - 2048) % 128, by omega⟩ := by
  unfold Chunk.outX
  refine ((if_neg h1).trans (if_neg h2)).trans (congrArg₂ (fun h d => C.dv h i d) (Fin.ext ?_) (Fin.ext ?_))
  · show e.val / 128 % 8 = (e.val - 2048) / 128
    omega
  · show e.val % 128 = (e.val - 2048) % 128
    omega

theorem outB_b (C : Chunk) (i : Fin 64) (e : Fin 128) (h1 : e.val < 8) : C.outB i e = C.db ⟨e.val, h1⟩ i := by
  unfold Chunk.outB
  refine (if_pos h1).trans (congrArg (fun h => C.db h i) (Fin.ext ?_))
  show e.val % 8 = e.val
  omega

theorem outB_g (C : Chunk) (i : Fin 64) (e : Fin 128) (h1 : ¬ e.val < 8) (h2 : e.val < 16) :
    C.outB i e = C.dg ⟨e.val - 8, by omega⟩ i := by
  unfold Chunk.outB
  refine ((if_neg h1).trans (if_pos h2)).trans (congrArg (fun h => C.dg h i) (Fin.ext ?_))
  show e.val % 8 = e.val - 8
  omega

theorem outB_z (C : Chunk) (i : Fin 64) (e : Fin 128) (h1 : ¬ e.val < 8) (h2 : ¬ e.val < 16) : C.outB i e = 0 := by
  unfold Chunk.outB
  exact (if_neg h1).trans (if_neg h2)

theorem s5 (H : At V A k) : step_main_v6_5 V = fun _ => BitVec.ofNat 32 (k + 1) := by
  unfold step_main_v6_5
  rw [H.h5]
  funext j
  exact add_one ⟨k, H.lt⟩

theorem s6 (H : At V A k) : step_main_v6_6 V = up3 (A.DS (k + 1)) := by
  unfold step_main_v6_6
  rw [H.h6, r90 H, r98 H, r74 H, r117 H, r68 H]
  funext j
  clean_types
  idx_vars j
  simp only [id]
  pointwise
  simp only [up3_at, ← EReal.coe_mul, ← EReal.coe_add, coe_sum]
  rw [A.DS_succ]
  refine congrArg _ ?_
  show _ = A.DS k j0 j1 j2 * (A.C k).egl j0 + ∑ i, (A.C k).qd j0 i j1 * (A.C k).o j0 i j2 + ∑ i, (A.C k).w j0 i j1 * -(A.C k).dvn j0 i j2
  refine congrArg₂ (· + ·) (congrArg₂ (· + ·) rfl ?_) ?_
  · exact Finset.sum_congr rfl fun i _ => mul_comm _ _
  · exact Finset.sum_congr rfl fun i _ => mul_comm _ _

theorem s7 (H : At V A k) (n i : Fin 64) (e : Fin 3072) : step_main_v6_7 V (ix3 n i e)
    = if n.val = 63 - k then (((A.C k).outX i e : ℝ) : EReal) else V (Proc.devRef .tc main_v6_7) (ix3 n i e) := by
  have hk := H.lt
  unfold step_main_v6_7
  rw [r158 H, r51 H, r102 H, r79 H, r147 H, r20 H, r171 H, r50 H, r175 H, r48 H, r116 H, r72 H, r23 H, r10 H]
  refine (put_rows _ _ _ _ (63 - k) (by omega) (word_int ⟨k, hk⟩) rfl rfl n i e).trans ?_
  refine if_congr Iff.rfl ?_ rfl
  clean_types
  pointwise
  simp only [up1_at, up2_at, up3_at, sc_coe, ← EReal.coe_mul, ← EReal.coe_add, ← EReal.coe_sub, ← EReal.coe_neg, coe_sum, Finset.univ_unique, Finset.sum_singleton]
  by_cases h1 : e.val < 1024
  · refine Eq.trans ?_ (congrArg _ (outX_q (A.C k) i e h1)).symm
    refine (congrArg₂ (· + ·) (congrArg₂ (· + ·) (dif_neg (by omega)) (dif_neg (by omega))) (dif_pos h1)).trans ?_
    rewrite [zero_add, zero_add]
    rfl
  · by_cases h2 : e.val < 2048
    · refine Eq.trans ?_ (congrArg _ (outX_k (A.C k) i e h1 h2)).symm
      refine (congrArg₂ (· + ·) (congrArg₂ (· + ·) (dif_neg (by omega)) (dif_pos (by omega))) (dif_neg h1)).trans ?_
      rewrite [zero_add, add_zero]
      rfl
    · refine Eq.trans ?_ (congrArg _ (outX_v (A.C k) i e h1 h2)).symm
      refine (congrArg₂ (· + ·) (congrArg₂ (· + ·) (dif_pos (by omega)) (dif_neg (by omega))) (dif_neg h1)).trans ?_
      rewrite [add_zero, add_zero]
      rfl

theorem s8 (H : At V A k) (n i : Fin 64) (e : Fin 128) : step_main_v6_8 V (ix3 n i e)
    = if n.val = 63 - k then (((A.C k).outB i e : ℝ) : EReal) else V (Proc.devRef .tc main_v6_8) (ix3 n i e) := by
  have hk := H.lt
  unfold step_main_v6_8
  rw [r14 H, H.h6, r84 H, r131 H, r20 H, r116 H, r71 H, r50 H, r159 H, r60 H, r191 H, r26 H, r158 H, r23 H, r175 H, r10 H]
  refine (put_rows _ _ _ _ (63 - k) (by omega) (word_int ⟨k, hk⟩) rfl rfl n i e).trans ?_
  refine if_congr Iff.rfl ?_ rfl
  clean_types
  pointwise
  simp only [up1_at, up2_at, up3_at, sc_coe, ← EReal.coe_mul, ← EReal.coe_add, ← EReal.coe_sub, ← EReal.coe_neg, coe_sum, Finset.univ_unique, Finset.sum_singleton]
  by_cases h1 : e.val < 8
  · refine Eq.trans ?_ (congrArg _ (outB_b (A.C k) i e h1)).symm
    refine (congrArg₂ (· + ·) (dif_neg (by omega)) (dif_pos h1)).trans ?_
    rewrite [zero_add]
    rfl
  · by_cases h2 : e.val < 16
    · refine Eq.trans ?_ (congrArg _ (outB_g (A.C k) i e h1 h2)).symm
      refine (congrArg₂ (· + ·) (dif_pos (by omega)) (dif_neg h1)).trans ?_
      rewrite [add_zero]
      exact log_row (A.C k) ⟨e.val - 8, by omega⟩ i _ _ (by omega) (by omega)
    · refine Eq.trans ?_ (congrArg _ (outB_z (A.C k) i e h1 h2)).symm
      refine (congrArg₂ (· + ·) (dif_neg (by omega)) (dif_neg h1)).trans ?_
      rewrite [add_zero]
      rfl

end Cert.Delta.Ref
-- ==== Proof.Delta.RefRun.lean ====
module

public import proofs.«01_k».proof.Proof.Delta.RefStep

@[expose] public section

set_option maxRecDepth 16384

noncomputable section

namespace Cert.Delta.Ref

open Idealize.ShloMosaic Idealize.ShloMosaic.TcCoe Idealize.SL.Sem
open Idealize.ShloMosaic.Tactic Idealize.ShloMosaic.StableHlo
open Cert.ReferenceIdeal Cert.ReferenceIdeal.Gen Cert.ReferenceIdeal.Value

/-! The reference's whole loop: what it starts from, what every trip leaves, and the results. -/

/-- What the reference's arguments hold. -/
structure Given (m : (ℓ : Loc nD τ sig) → Buf (Elt Ideal) ℓ) (c : Dev nD) (A : Args) : Prop where
  h0 : m ((c.tc : Thread nD τ).loc main_arg0) = up2 A.X
  h1 : m ((c.tc : Thread nD τ).loc main_arg1) = up2 A.B
  h2 : m ((c.tc : Thread nD τ).loc main_arg2) = up4 A.xi
  h3 : m ((c.tc : Thread nD τ).loc main_arg3) = up4 A.s
  h4 : m ((c.tc : Thread nD τ).loc main_arg4) = up2 A.Y

variable {m : (ℓ : Loc nD τ sig) → Buf (Elt Ideal) ℓ} {c : Dev nD} {A : Args}

theorem entry_0 (G : Given m c A) : entryContents preI m c (Proc.devRef .tc main_v6_0)
    = up3 (fun (n i : Fin 64) e => A.X ⟨64 * n.val + i.val, by omega⟩ e) := by
  simp only [entryContents, afterL_cons, afterL_nil]
  after_reads_simp
  have e : launchContents m c (Proc.devRef .tc main_arg0) = up2 A.X := G.h0
  rw [e]
  funext j
  clean_types
  idx_vars j
  simp only [id]
  pointwise
  rw [up2_at, up3_at]
  exact congrArg (fun r => ((A.X r j2 : ℝ) : EReal)) (Fin.ext (by show j0.val * 64 + j1.val = 64 * j0.val + j1.val; omega))

theorem entry_1 (G : Given m c A) : entryContents preI m c (Proc.devRef .tc main_v6_1)
    = up3 (fun (n i : Fin 64) e => A.B ⟨64 * n.val + i.val, by omega⟩ e) := by
  simp only [entryContents, afterL_cons, afterL_nil]
  after_reads_simp
  have e : launchContents m c (Proc.devRef .tc main_arg1) = up2 A.B := G.h1
  rw [e]
  funext j
  clean_types
  idx_vars j
  simp only [id]
  pointwise
  rw [up2_at, up3_at]
  exact congrArg (fun r => ((A.B r j2 : ℝ) : EReal)) (Fin.ext (by show j0.val * 64 + j1.val = 64 * j0.val + j1.val; omega))

theorem entry_4 (G : Given m c A) : entryContents preI m c (Proc.devRef .tc main_v6_4)
    = up3 (fun (n i : Fin 64) e => A.Y ⟨64 * n.val + i.val, by omega⟩ e) := by
  simp only [entryContents, afterL_cons, afterL_nil]
  after_reads_simp
  have e : launchContents m c (Proc.devRef .tc main_arg4) = up2 A.Y := G.h4
  rw [e]
  funext j
  clean_types
  idx_vars j
  simp only [id]
  pointwise
  rw [up2_at, up3_at]
  exact congrArg (fun r => ((A.Y r j2 : ℝ) : EReal)) (Fin.ext (by show j0.val * 64 + j1.val = 64 * j0.val + j1.val; omega))

theorem entry_2 (G : Given m c A) : entryContents preI m c (Proc.devRef .tc main_v6_2) = up4 A.xi := by
  simp only [entryContents, afterL_cons, afterL_nil]
  after_reads_simp
  exact G.h2

theorem entry_3 (G : Given m c A) : entryContents preI m c (Proc.devRef .tc main_v6_3) = up4 A.s := by
  simp only [entryContents, afterL_cons, afterL_nil]
  after_reads_simp
  exact G.h3

theorem entry_6 (A : Args) : entryContents preI m c (Proc.devRef .tc main_v6_6) = up3 (A.DS 0) := by
  simp only [entryContents, afterL_cons, afterL_nil]
  after_reads_simp
  funext j
  clean_types
  idx_vars j
  simp only [id]
  pointwise
  exact EReal.coe_zero.symm

theorem entry_7 : entryContents preI m c (Proc.devRef .tc main_v6_7) = up3 (fun _ _ _ => 0) := by
  simp only [entryContents, afterL_cons, afterL_nil]
  after_reads_simp
  funext j
  clean_types
  idx_vars j
  simp only [id]
  pointwise
  exact EReal.coe_zero.symm

theorem entry_8 : entryContents preI m c (Proc.devRef .tc main_v6_8) = up3 (fun _ _ _ => 0) := by
  simp only [entryContents, afterL_cons, afterL_nil]
  after_reads_simp
  funext j
  clean_types
  idx_vars j
  simp only [id]
  pointwise
  exact EReal.coe_zero.symm

/-- The contents before the trip `k`. -/
abbrev W (m : (ℓ : Loc nD τ sig) → Buf (Elt Ideal) ℓ) (c : Dev nD) (k : ℕ) : Valuation τ sig (Elt Ideal) :=
  STEP^[k] (entryContents preI m c)

theorem W_succ (k : ℕ) : W m c (k + 1) = STEP (W m c k) := Function.iterate_succ_apply' _ _ _

theorem W_0 (k : ℕ) : W m c k (Proc.devRef .tc main_v6_0) = entryContents preI m c (Proc.devRef .tc main_v6_0) := by
  induction k with
  | zero => rfl
  | succ k ih => rw [W_succ, STEP_main_v6_0, ih]

theorem W_1 (k : ℕ) : W m c k (Proc.devRef .tc main_v6_1) = entryContents preI m c (Proc.devRef .tc main_v6_1) := by
  induction k with
  | zero => rfl
  | succ k ih => rw [W_succ, STEP_main_v6_1, ih]

theorem W_2 (k : ℕ) : W m c k (Proc.devRef .tc main_v6_2) = entryContents preI m c (Proc.devRef .tc main_v6_2) := by
  induction k with
  | zero => rfl
  | succ k ih => rw [W_succ, STEP_main_v6_2, ih]

theorem W_3 (k : ℕ) : W m c k (Proc.devRef .tc main_v6_3) = entryContents preI m c (Proc.devRef .tc main_v6_3) := by
  induction k with
  | zero => rfl
  | succ k ih => rw [W_succ, STEP_main_v6_3, ih]

theorem W_4 (k : ℕ) : W m c k (Proc.devRef .tc main_v6_4) = entryContents preI m c (Proc.devRef .tc main_v6_4) := by
  induction k with
  | zero => rfl
  | succ k ih => rw [W_succ, STEP_main_v6_4, ih]

/-- The rows of a result that are done before the trip `k`; the others are zero. -/
def done {w : ℕ} (f : ℕ → Fin 64 → Fin w → ℝ) (k : ℕ) : Fin 64 → Fin 64 → Fin w → ℝ :=
  fun n i e => if 64 - k ≤ n.val then f (63 - n.val) i e else 0

theorem put_done {w : ℕ} (f : ℕ → Fin 64 → Fin w → ℝ) (k : ℕ) (hk : k < 64) (n i : Fin 64) (e : Fin w) :
    (if n.val = 63 - k then ((f k i e : ℝ) : EReal) else up3 (done f k) (ix3 n i e)) = up3 (done f (k + 1)) (ix3 n i e) := by
  rw [up3_at, up3_at]
  by_cases h : n.val = 63 - k
  · rw [if_pos h]
    unfold done
    rw [if_pos (by omega), show 63 - n.val = k by omega]
  · rw [if_neg h]
    unfold done
    by_cases h' : 64 - k ≤ n.val
    · rw [if_pos h', if_pos (by omega)]
    · rw [if_neg h', if_neg (by omega)]

/-- Before every trip: the counter, the state's cotangent, and the two results so far. -/
theorem loop (G : Given m c A) : ∀ k ≤ 64,
    W m c k (Proc.devRef .tc main_v6_5) = (fun _ => BitVec.ofNat 32 k)
      ∧ W m c k (Proc.devRef .tc main_v6_6) = up3 (A.DS k)
      ∧ W m c k (Proc.devRef .tc main_v6_7) = up3 (done (fun k => (A.C k).outX) k)
      ∧ W m c k (Proc.devRef .tc main_v6_8) = up3 (done (fun k => (A.C k).outB) k) := by
  intro k
  induction k with
  | zero =>
    intro _
    refine ⟨ctr_entry m c, entry_6 A, ?_, ?_⟩
    · refine entry_7.trans (congrArg up3 ?_)
      funext n i e
      exact (if_neg (by omega)).symm
    · refine entry_8.trans (congrArg up3 ?_)
      funext n i e
      exact (if_neg (by omega)).symm
  | succ k ih =>
    intro hk
    obtain ⟨h5, h6, h7, h8⟩ := ih (by omega)
    have H : At (W m c k) A k :=
      ⟨by omega, (W_0 k).trans (entry_0 G), (W_1 k).trans (entry_1 G), (W_2 k).trans (entry_2 G),
        (W_3 k).trans (entry_3 G), (W_4 k).trans (entry_4 G), h5, h6⟩
    rw [W_succ, STEP_main_v6_5, STEP_main_v6_6, STEP_main_v6_7, STEP_main_v6_8]
    refine ⟨s5 H, s6 H, ?_, ?_⟩
    · funext j
      clean_types
      idx_vars j
      rw [s7 H, h7]
      exact put_done (fun k => (A.C k).outX) k (by omega) _ _ _
    · funext j
      clean_types
      idx_vars j
      rw [s8 H, h8]
      exact put_done (fun k => (A.C k).outB) k (by omega) _ _ _

theorem result_7 (G : Given m c A) : out_main_v7 (W m c 64) = up2 A.gX := by
  unfold out_main_v7
  rw [(loop G 64 le_rfl).2.2.1]
  funext j
  clean_types
  idx_vars j
  pointwise
  rw [up3_at, up2_at]
  exact congrArg _ (if_pos (Nat.zero_le _))

theorem result_8 (G : Given m c A) : out_main_v8 (W m c 64) = up2 A.gB := by
  unfold out_main_v8
  rw [(loop G 64 le_rfl).2.2.2]
  funext j
  clean_types
  idx_vars j
  pointwise
  rw [up3_at, up2_at]
  exact congrArg _ (if_pos (Nat.zero_le _))

end Cert.Delta.Ref
-- ==== Proof.Delta.Finite.lean ====
module

public import proofs.«01_k».proof.Proof.Gen.Pre_finite
public import proofs.«01_k».proof.Proof.Delta.Seq
public import Idealize.ShloMosaic.Lib.ReduceAll
public import Idealize.ShloMosaic.PureOps.Ideal

@[expose] public section

noncomputable section

namespace Cert.Delta.Finite

open Idealize.ShloMosaic Cert.Pre_finite Cert.Pre_finite.Gen

/-! What the precondition says: every entry of every argument is a real number. -/

theorem inf_word : Ideal.ofBits .f32 2139095040#32 = (⊤ : EReal) := by
  simp [Ideal.ofBits, Ideal.ieee]

theorem real_of_lt {x : EReal} (h : Ideal.cmp .olt (max x (-x)) (⊤ : EReal) = 1#1) : ∃ r : ℝ, x = (r : EReal) := by
  have h' : max x (-x) < ⊤ := by
    by_contra hn
    unfold Ideal.cmp at h
    simp [hn] at h
  induction x using EReal.rec with
  | bot => simp at h'
  | coe r => exact ⟨r, rfl⟩
  | top => simp at h'

/-- An array whose entries are all below infinity in absolute value is an array of real numbers. -/
theorem real_of {s : Shape} {axes : List (Fin s.rank)} (x : FVec Ideal s .f32) (hb : S_.BroadcastsInDim s (![] : Fin 0 → Fin s.rank))
    (hr : s.ReducesTo axes S_) (hS : 0 < S_.numel)
    (e : Host.reduce IntOp.andi (cmpf .olt (Host.absf x) (broadcastInDim s ![] hb (constant S_ .f32 0x7F800000#32)))
      (constantI S_ 1 1#1) hr hS ix0 = 1#1) (i : s.Idx) : ∃ r : ℝ, x i = (r : EReal) := by
  haveI : Subsingleton S_.Idx := ⟨fun a b => funext fun k => k.elim0⟩
  have h := Host.reduce_andi_all _ _ hr hS ix0 e i
  refine real_of_lt ?_
  rw [← inf_word]
  exact h

/-- Five truth values put in one row are all ones only if each is one. -/
theorem five (a b c d e : IVec S_ 1)
    (h : concatenate S5 0 [⟨S1, broadcastInDim S1 ![] bcast_S_S1 a⟩, ⟨S1, broadcastInDim S1 ![] bcast_S_S1 b⟩,
      ⟨S1, broadcastInDim S1 ![] bcast_S_S1 c⟩, ⟨S1, broadcastInDim S1 ![] bcast_S_S1 d⟩,
      ⟨S1, broadcastInDim S1 ![] bcast_S_S1 e⟩] concatenates_S1_S1_S1_S1_S1_S5_d0 = fun _ => 1#1) :
    a ix0 = 1#1 ∧ b ix0 = 1#1 ∧ c ix0 = 1#1 ∧ d ix0 = 1#1 ∧ e ix0 = 1#1 := by
  have e0 := congrFun h (ix1 (0 : Fin 5))
  have e1 := congrFun h (ix1 (1 : Fin 5))
  have e2 := congrFun h (ix1 (2 : Fin 5))
  have e3 := congrFun h (ix1 (3 : Fin 5))
  have e4 := congrFun h (ix1 (4 : Fin 5))
  pointwise at e0 e1 e2 e3 e4
  exact ⟨e0, e1, e2, e3, e4⟩

/-- Every entry of every argument is real under the precondition. -/
theorem entries {x0 : FVec Ideal S4096x3072 .f32} {x1 : FVec Ideal S4096x128 .f32} {x2 : FVec Ideal S64x8x64x64 .f32}
    {x3 : FVec Ideal S64x8x128x128 .f32} {x4 : FVec Ideal S4096x1024 .f32} (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x4 i = (r : EReal) := by
  unfold fn fn_part1 at h
  obtain ⟨e0, e1, e2, e3, e4⟩ := five _ _ _ _ _ h
  exact ⟨real_of x0 _ _ _ e0, real_of x1 _ _ _ e1, real_of x2 _ _ _ e2, real_of x3 _ _ _ e3, real_of x4 _ _ _ e4⟩

theorem up2_of {a b : ℕ} (x : (⟨2, ![a, b]⟩ : Shape).Idx → EReal) (h : ∀ i, ∃ r : ℝ, x i = (r : EReal)) :
    ∃ f : Fin a → Fin b → ℝ, x = up2 f := by
  choose g hg using h
  refine ⟨fun i j => g (ix2 i j), ?_⟩
  funext i
  have hi : i = ix2 (i 0) (i 1) := by
    funext q
    fin_cases q <;> rfl
  exact (hg i).trans (congrArg (fun i => (g i : EReal)) hi)

theorem up4_of {a b c d : ℕ} (x : (⟨4, ![a, b, c, d]⟩ : Shape).Idx → EReal) (h : ∀ i, ∃ r : ℝ, x i = (r : EReal)) :
    ∃ f : Fin a → Fin b → Fin c → Fin d → ℝ, x = up4 f := by
  choose g hg using h
  refine ⟨fun i j k l => g (ix4 i j k l), ?_⟩
  funext i
  have hi : i = ix4 (i 0) (i 1) (i 2) (i 3) := by
    funext q
    fin_cases q <;> rfl
  exact (hg i).trans (congrArg (fun i => (g i : EReal)) hi)

/-- The real arrays behind the arguments. -/
theorem args {x0 : FVec Ideal S4096x3072 .f32} {x1 : FVec Ideal S4096x128 .f32} {x2 : FVec Ideal S64x8x64x64 .f32}
    {x3 : FVec Ideal S64x8x128x128 .f32} {x4 : FVec Ideal S4096x1024 .f32} (h : fn (F := Ideal) x0 x1 x2 x3 x4 = fun _ => 1#1) :
    ∃ A : Args, x0 = up2 A.X ∧ x1 = up2 A.B ∧ x2 = up4 A.xi ∧ x3 = up4 A.s ∧ x4 = up2 A.Y := by
  obtain ⟨h0, h1, h2, h3, h4⟩ := entries h
  obtain ⟨X, hX⟩ := up2_of x0 h0
  obtain ⟨B, hB⟩ := up2_of x1 h1
  obtain ⟨xi, hxi⟩ := up4_of x2 h2
  obtain ⟨s, hs⟩ := up4_of x3 h3
  obtain ⟨Y, hY⟩ := up2_of x4 h4
  exact ⟨⟨X, B, xi, s, Y⟩, hX, hB, hxi, hs, hY⟩

end Cert.Delta.Finite
-- ==== Proof.Ffn.Pay.lean ====
module

public import proofs.«01_k».proof.Proof.Gen.Kernel2Ideal.Skeleton
public import proofs.«01_k».proof.Proof.Delta.Up

@[expose] public section

set_option maxRecDepth 16384

noncomputable section

/-! What the stores of the feed-forward kernels hold, entry by entry, from the blocks they read. -/

namespace Cert.Ffn

open Idealize.ShloMosaic Cert.Kernel2Ideal
open Cert.Kernel2Ideal.Gen

/-- The words of 2048, of the constant added under the root, and of 2. -/
abbrev w2048 : EReal := Ideal.ofBits .f32 0x45000000#32
abbrev wEps : EReal := Ideal.ofBits .f32 0x358637BD#32
abbrev wTwo : EReal := Ideal.ofBits .f32 0x40000000#32

theorem rms_pay (x : Vec Ideal S512x2048 .f32) (g : Vec Ideal S1x2048 .f32) (i : Fin 512) (d : Fin 2048) :
    k0_pay1 (F := Ideal) x g (ix2 i d)
      = x (ix2 i d) * Ideal.rsqrt (Ideal.div (∑ k, x (ix2 i k) * x (ix2 i k)) w2048 + wEps) * g (ix2 0 d) := by
  pointwise [k0_pay1]

theorem up_pay (h : Vec Ideal S1024x2048 .bf16) (w : Vec Ideal S1x2048x1024 .bf16) (i f : Fin 1024) :
    k1_pay3 (F := Ideal) h w (ix2 i f) = max (∑ k, h (ix2 i k) * w (ix3 0 k f)) 0 := by
  pointwise [k1_pay3, k1_pay1]

theorem sq_pay (h : Vec Ideal S1024x2048 .bf16) (w : Vec Ideal S1x2048x1024 .bf16) (i f : Fin 1024) :
    k1_pay2 (F := Ideal) h w (ix2 i f)
      = max (∑ k, h (ix2 i k) * w (ix3 0 k f)) 0 * max (∑ k, h (ix2 i k) * w (ix3 0 k f)) 0 := by
  pointwise [k1_pay2, k1_pay1]

theorem dx_pay (dy w : Vec Ideal S1024x2048 .bf16) (r : Vec Ideal S1024x1024 .bf16) (i f : Fin 1024) :
    k2_pay1 (F := Ideal) dy w r (ix2 i f) = (∑ k, dy (ix2 i k) * w (ix2 f k)) * (wTwo * r (ix2 i f)) := by
  pointwise [k2_pay1]

theorem dw_pay (a y : Vec Ideal S4096x1024 .bf16) (i f : Fin 1024) :
    k3_pay1 (F := Ideal) a y (ix2 i f) = ∑ k, a (ix2 k i) * y (ix2 k f) := by
  pointwise [k3_pay1]

theorem updw_pay (a y : Vec Ideal S4096x1024 .bf16) (i f : Fin 1024) :
    k4_pay1 (F := Ideal) a y (ix3 0 i f) = ∑ k, a (ix2 k i) * y (ix2 k f) := by
  pointwise [k4_pay1]

/-! The same products over whole arrays. -/

/-- Every row over the root of its mean square, times the gains. -/
def normed (x : S4096x2048.Idx → EReal) (g : Fin 2048 → EReal) : S4096x2048.Idx → EReal := fun j =>
  x j * Ideal.rsqrt (Ideal.div (∑ k : Fin 2048, x (ix2 (j 0) k) * x (ix2 (j 0) k)) w2048 + wEps) * g (j 1)

/-- The rectified product with the up weights, whose columns come in eight slabs. -/
def up (h : S4096x2048.Idx → EReal) (w : S8x2048x1024.Idx → EReal) : S4096x8192.Idx → EReal := fun j =>
  max (∑ k : Fin 2048, h (ix2 (j 0) k)
    * w (ix3 ⟨(j 1).val / 1024, by have h : (j 1).val < 8192 := (j 1).isLt; omega⟩ k ⟨(j 1).val % 1024, by omega⟩)) 0

def square {S : Shape} (r : S.Idx → EReal) : S.Idx → EReal := fun j => r j * r j

/-- The cotangent before the rectifier. -/
def downDx (dy : S4096x2048.Idx → EReal) (w : S8192x2048.Idx → EReal) (r : S4096x8192.Idx → EReal) : S4096x8192.Idx → EReal :=
  fun j => (∑ k : Fin 2048, dy (ix2 (j 0) k) * w (ix2 (j 1) k)) * (wTwo * r j)

def downDw (a : S4096x8192.Idx → EReal) (dy : S4096x2048.Idx → EReal) : S8192x2048.Idx → EReal :=
  fun j => ∑ k : Fin 4096, a (ix2 k (j 0)) * dy (ix2 k (j 1))

def upDw (h : S4096x2048.Idx → EReal) (d : S4096x8192.Idx → EReal) : S8x2048x1024.Idx → EReal := fun j =>
  ∑ k : Fin 4096, h (ix2 k (j 1))
    * d (ix2 k ⟨(j 0).val * 1024 + (j 2).val, by
        have h : (j 0).val < 8 := (j 0).isLt
        have h' : (j 2).val < 1024 := (j 2).isLt
        omega⟩)

/-! An entry read at a position given by its coordinates. -/

theorem at2 {n m : ℕ} {α : Type} (A : (⟨2, ![n, m]⟩ : Shape).Idx → α) (p : (⟨2, ![n, m]⟩ : Shape).Idx) (x : Fin n) (y : Fin m)
    (hx : (p 0).val = x.val) (hy : (p 1).val = y.val) : A p = A (ix2 x y) :=
  congrArg A (funext fun a => Fin.ext (match a with | ⟨0, _⟩ => hx | ⟨1, _⟩ => hy))

theorem at3 {n m l : ℕ} {α : Type} (A : (⟨3, ![n, m, l]⟩ : Shape).Idx → α) (p : (⟨3, ![n, m, l]⟩ : Shape).Idx)
    (x : Fin n) (y : Fin m) (z : Fin l) (hx : (p 0).val = x.val) (hy : (p 1).val = y.val) (hz : (p 2).val = z.val) :
    A p = A (ix3 x y z) :=
  congrArg A (funext fun a => Fin.ext (match a with | ⟨0, _⟩ => hx | ⟨1, _⟩ => hy | ⟨2, _⟩ => hz))

end Cert.Ffn
-- ==== Proof.Ffn.Arr.lean ====
module

public import proofs.«01_k».proof.Proof.Gen.Kernel2Ideal.Frame
public import proofs.«01_k».proof.Proof.Ffn.Pay

@[expose] public section

set_option maxRecDepth 16384

noncomputable section

/-! What each call leaves in its output arrays, from the contents its region is entered with. -/

namespace Cert.Ffn

open Idealize.ShloMosaic Idealize.ShloMosaic.TcCoe Idealize.SL.Sem Cert.Kernel2Ideal
open Cert.Kernel2Ideal.Gen

variable (V : (c : Dev nD) → (b : Ref sig .tc) → Buf (Elt Ideal) ((c : Thread nD τ).loc b)) (c : Dev nD)

/-! ## The rows' normalization: block `t` is the `t`-th 512 rows -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)

theorem lt0 (t : Fin cfg0.N) : t.val < 8 := lt_of_lt_of_eq t.isLt N_0

theorem blk0_0 (t : Fin cfg0.N) (i : Fin 512) (d : Fin 2048) : (iblk0 V c 0 t : Vec Ideal S512x2048 .f32) (ix2 i d)
    = (V c main_arg0 : Vec Ideal S4096x2048 .f32) (ix2 ⟨t.val * 512 + i.val, by have := lt0 t; omega⟩ d) := by
  unfold iblk0
  rw [View.read_apply]
  have h := idx0_0 t
  refine at2 (V c main_arg0 : Vec Ideal S4096x2048 .f32) _ _ _ ?_ ?_
  · show win0_0.index t 0 * 512 + 1 * i.val = t.val * 512 + i.val; omega
  · show win0_0.index t 1 * 2048 + 1 * d.val = d.val; omega

theorem blk0_1 (t : Fin cfg0.N) (d : Fin 2048) : (iblk0 V c 1 t : Vec Ideal S1x2048 .f32) (ix2 0 d)
    = (V c main_v0 : Vec Ideal S1x2048 .f32) (ix2 0 d) := by
  unfold iblk0
  rw [View.read_apply]
  have h := idx0_1 t
  refine at2 (V c main_v0 : Vec Ideal S1x2048 .f32) _ _ _ ?_ ?_
  · show win0_1.index t 0 * 1 + 1 * 0 = 0; omega
  · show win0_1.index t 1 * 2048 + 1 * d.val = d.val; omega

theorem read0_2 (t : Fin cfg0.N) (G : Vec Ideal S4096x2048 .bf16) (i : Fin 512) (d : Fin 2048) :
    ((cfg0.win 2).blk t).view.read (Elt Ideal) G (ix2 i d) = G (ix2 ⟨t.val * 512 + i.val, by have := lt0 t; omega⟩ d) := by
  rw [View.read_apply]
  have h := idx0_2 t
  refine at2 G _ _ _ ?_ ?_
  · show win0_2.index t 0 * 512 + 1 * i.val = t.val * 512 + i.val; omega
  · show win0_2.index t 1 * 2048 + 1 * d.val = d.val; omega

theorem out0 (x : Vec Ideal S512x2048 .f32) (g : Vec Ideal S1x2048 .f32) : out0_2 x g = k0_pay1 x g := by
  unfold out0_2
  rw [View.canon_unit_zero (by funext a; fin_cases a <;> rfl), View.ld_unit_zero (by funext a; fin_cases a <;> rfl),
    View.ld_unit_zero (by funext a; fin_cases a <;> rfl)]

/-- The gains, read off their row. -/
abbrev gains (g : Vec Ideal S1x2048 .f32) (d : Fin 2048) : EReal := g (ix2 0 d)

theorem flushed0_2 (t : Fin cfg0.N) : (dat0 V c).flushed 2 t
    = ((cfg0.win 2).blk t).view.read (Elt Ideal) (normed (V c main_arg0) (gains (V c main_v0))) := by
  show (cfg0.win 2).cut (cfg0.grid.coords t) ((dat0 V c).after 2 t) = _
  rw [after0_2, out0]
  funext (j : S512x2048.Idx)
  idx_vars j
  refine (rms_pay _ _ _ _).trans (Eq.trans ?_ (read0_2 t _ _ _).symm)
  simp only [blk0_0, blk0_1]
  rfl

theorem cover0_2' (i : S4096x2048.Idx) : ∃ t : Fin cfg0.N, (cfg0.win 2).flush t = true ∧ i ∈ ((cfg0.win 2).blk t).view.set := by
  have h0 : (i 0 : Nat) < 4096 := (i 0).isLt
  have h1 : (i 1 : Nat) < 2048 := (i 1).isLt
  have hN : cfg0.N = 8 := N_0
  have ht : (i 0 : Nat) / 512 < cfg0.N := by omega
  refine ⟨⟨_, ht⟩, flush0_2 _, ?_⟩
  show i ∈ ((View.whole main_v3).slice (win0_2.rect ⟨_, ht⟩)).set
  rw [View.set_slice_whole, Rect.mem_set_unit]
  have h := idx0_2 ⟨_, ht⟩
  dsimp only at h
  intro a
  match a with
  | ⟨0, _⟩ => show win0_2.index _ 0 * 512 ≤ (i 0 : Nat) ∧ (i 0 : Nat) < win0_2.index _ 0 * 512 + 512; rw [h.1]; omega
  | ⟨1, _⟩ => show win0_2.index _ 1 * 2048 ≤ (i 1 : Nat) ∧ (i 1 : Nat) < win0_2.index _ 1 * 2048 + 2048; rw [h.2]; omega

theorem arr0_2 : (dat0 V c).arrAt 2 cfg0.N = normed (V c main_arg0) (gains (V c main_v0)) :=
  (dat0 V c).arrAt_eq_of_cover 2 _ (fun t _ => flushed0_2 V c t) cover0_2'

/-! ## The up product: point `t` takes row block `t / 8` and column slab `t % 8` -/

theorem idx1_0 : ∀ t : Fin cfg1.N, win1_0.index t 0 = t.val / 8 ∧ win1_0.index t 1 = 0 :=
  (by decide +kernel : ∀ t : Fin grid1.N, win1_0.index t 0 = t.val / 8 ∧ win1_0.index t 1 = 0)
theorem idx1_1 : ∀ t : Fin cfg1.N, win1_1.index t 0 = t.val % 8 ∧ win1_1.index t 1 = 0 ∧ win1_1.index t 2 = 0 :=
  (by decide +kernel : ∀ t : Fin grid1.N, win1_1.index t 0 = t.val % 8 ∧ win1_1.index t 1 = 0 ∧ win1_1.index t 2 = 0)
theorem idx1_2 : ∀ t : Fin cfg1.N, win1_2.index t 0 = t.val / 8 ∧ win1_2.index t 1 = t.val % 8 :=
  (by decide +kernel : ∀ t : Fin grid1.N, win1_2.index t 0 = t.val / 8 ∧ win1_2.index t 1 = t.val % 8)
theorem idx1_3 : ∀ t : Fin cfg1.N, win1_3.index t 0 = t.val / 8 ∧ win1_3.index t 1 = t.val % 8 :=
  (by decide +kernel : ∀ t : Fin grid1.N, win1_3.index t 0 = t.val / 8 ∧ win1_3.index t 1 = t.val % 8)

theorem lt1 (t : Fin cfg1.N) : t.val < 32 := lt_of_lt_of_eq t.isLt N_1

theorem blk1_0 (t : Fin cfg1.N) (i : Fin 1024) (d : Fin 2048) : (iblk1 V c 0 t : Vec Ideal S1024x2048 .bf16) (ix2 i d)
    = (V c main_v3 : Vec Ideal S4096x2048 .bf16) (ix2 ⟨t.val / 8 * 1024 + i.val, by have := lt1 t; omega⟩ d) := by
  unfold iblk1
  rw [View.read_apply]
  have h := idx1_0 t
  refine at2 (V c main_v3 : Vec Ideal S4096x2048 .bf16) _ _ _ ?_ ?_
  · show win1_0.index t 0 * 1024 + 1 * i.val = t.val / 8 * 1024 + i.val; omega
  · show win1_0.index t 1 * 2048 + 1 * d.val = d.val; omega

theorem blk1_1 (t : Fin cfg1.N) (d : Fin 2048) (f : Fin 1024) : (iblk1 V c 1 t : Vec Ideal S1x2048x1024 .bf16) (ix3 0 d f)
    = (V c main_arg2 : Vec Ideal S8x2048x1024 .bf16) (ix3 ⟨t.val % 8, by omega⟩ d f) := by
  unfold iblk1
  rw [View.read_apply]
  have h := idx1_1 t
  refine at3 (V c main_arg2 : Vec Ideal S8x2048x1024 .bf16) _ _ _ _ ?_ ?_ ?_
  · show win1_1.index t 0 * 1 + 1 * 0 = t.val % 8; omega
  · show win1_1.index t 1 * 2048 + 1 * d.val = d.val; omega
  · show win1_1.index t 2 * 1024 + 1 * f.val = f.val; omega

theorem read1_2 (t : Fin cfg1.N) (G : Vec Ideal S4096x8192 .bf16) (i f : Fin 1024) :
    ((cfg1.win 2).blk t).view.read (Elt Ideal) G (ix2 i f)
      = G (ix2 ⟨t.val / 8 * 1024 + i.val, by have := lt1 t; omega⟩ ⟨t.val % 8 * 1024 + f.val, by omega⟩) := by
  rw [View.read_apply]
  have h := idx1_2 t
  refine at2 G _ _ _ ?_ ?_
  · show win1_2.index t 0 * 1024 + 1 * i.val = t.val / 8 * 1024 + i.val; omega
  · show win1_2.index t 1 * 1024 + 1 * f.val = t.val % 8 * 1024 + f.val; omega

theorem read1_3 (t : Fin cfg1.N) (G : Vec Ideal S4096x8192 .bf16) (i f : Fin 1024) :
    ((cfg1.win 3).blk t).view.read (Elt Ideal) G (ix2 i f)
      = G (ix2 ⟨t.val / 8 * 1024 + i.val, by have := lt1 t; omega⟩ ⟨t.val % 8 * 1024 + f.val, by omega⟩) := by
  rw [View.read_apply]
  have h := idx1_3 t
  refine at2 G _ _ _ ?_ ?_
  · show win1_3.index t 0 * 1024 + 1 * i.val = t.val / 8 * 1024 + i.val; omega
  · show win1_3.index t 1 * 1024 + 1 * f.val = t.val % 8 * 1024 + f.val; omega

theorem out1_sq (h : Vec Ideal S1024x2048 .bf16) (w : Vec Ideal S1x2048x1024 .bf16) : out1_2 h w = k1_pay2 h w := by
  unfold out1_2
  rw [View.canon_unit_zero (by funext a; fin_cases a <;> rfl), View.ld_unit_zero (by funext a; fin_cases a <;> rfl),
    View.ld_unit_zero (by funext a; fin_cases a <;> rfl)]

theorem out1_up (h : Vec Ideal S1024x2048 .bf16) (w : Vec Ideal S1x2048x1024 .bf16) : out1_3 h w = k1_pay3 h w := by
  unfold out1_3
  rw [View.canon_unit_zero (by funext a; fin_cases a <;> rfl), View.ld_unit_zero (by funext a; fin_cases a <;> rfl),
    View.ld_unit_zero (by funext a; fin_cases a <;> rfl)]

/-- The slab of a column and its place there, when the column is given by them. -/
theorem up_split (h : S4096x2048.Idx → EReal) (w : S8x2048x1024.Idx → EReal) (i : Fin 4096) (s : ℕ) (hs : s < 8) (f : Fin 1024)
    (e : Fin 8192) (he : e.val = s * 1024 + f.val) :
    up h w (ix2 i e) = max (∑ k, h (ix2 i k) * w (ix3 ⟨s, hs⟩ k f)) 0 := by
  have e0 : e.val / 1024 = s := by omega
  have e1 : e.val % 1024 = f.val := by omega
  show max (∑ k : Fin 2048, h (ix2 i k) * w (ix3 ⟨e.val / 1024, _⟩ k ⟨e.val % 1024, _⟩)) 0 = _
  simp only [e0, e1]

theorem flushed1_3 (t : Fin cfg1.N) : (dat1 V c).flushed 3 t
    = ((cfg1.win 3).blk t).view.read (Elt Ideal) (up (V c main_v3) (V c main_arg2)) := by
  show (cfg1.win 3).cut (cfg1.grid.coords t) ((dat1 V c).after 3 t) = _
  rw [after1_3, out1_up]
  funext (j : S1024x1024.Idx)
  idx_vars j
  refine (up_pay _ _ _ _).trans (Eq.trans ?_ (read1_3 t _ _ _).symm)
  simp only [blk1_0, blk1_1]
  exact (up_split _ _ _ _ _ _ _ rfl).symm

theorem flushed1_2 (t : Fin cfg1.N) : (dat1 V c).flushed 2 t
    = ((cfg1.win 2).blk t).view.read (Elt Ideal) (square (up (V c main_v3) (V c main_arg2))) := by
  show (cfg1.win 2).cut (cfg1.grid.coords t) ((dat1 V c).after 2 t) = _
  rw [after1_2, out1_sq]
  funext (j : S1024x1024.Idx)
  idx_vars j
  refine (sq_pay _ _ _ _).trans (Eq.trans ?_ (read1_2 t _ _ _).symm)
  simp only [blk1_0, blk1_1]
  unfold square
  rw [up_split _ _ _ (t.val % 8) (by omega) _ _ rfl]

theorem cover1_3' (i : S4096x8192.Idx) : ∃ t : Fin cfg1.N, (cfg1.win 3).flush t = true ∧ i ∈ ((cfg1.win 3).blk t).view.set := by
  have h0 : (i 0 : Nat) < 4096 := (i 0).isLt
  have h1 : (i 1 : Nat) < 8192 := (i 1).isLt
  have hN : cfg1.N = 32 := N_1
  have ht : (i 0 : Nat) / 1024 * 8 + (i 1 : Nat) / 1024 < cfg1.N := by omega
  refine ⟨⟨_, ht⟩, flush1_3 _, ?_⟩
  show i ∈ ((View.whole main_v4_1).slice (win1_3.rect ⟨_, ht⟩)).set
  rw [View.set_slice_whole, Rect.mem_set_unit]
  have h := idx1_3 ⟨_, ht⟩
  dsimp only at h
  intro a
  match a with
  | ⟨0, _⟩ => show win1_3.index _ 0 * 1024 ≤ (i 0 : Nat) ∧ (i 0 : Nat) < win1_3.index _ 0 * 1024 + 1024; rw [h.1]; omega
  | ⟨1, _⟩ => show win1_3.index _ 1 * 1024 ≤ (i 1 : Nat) ∧ (i 1 : Nat) < win1_3.index _ 1 * 1024 + 1024; rw [h.2]; omega

theorem cover1_2' (i : S4096x8192.Idx) : ∃ t : Fin cfg1.N, (cfg1.win 2).flush t = true ∧ i ∈ ((cfg1.win 2).blk t).view.set := by
  obtain ⟨t, -, h⟩ := cover1_3' i
  exact ⟨t, flush1_2 t, h⟩

theorem arr1_2 : (dat1 V c).arrAt 2 cfg1.N = square (up (V c main_v3) (V c main_arg2)) :=
  (dat1 V c).arrAt_eq_of_cover 2 _ (fun t _ => flushed1_2 V c t) cover1_2'
theorem arr1_3 : (dat1 V c).arrAt 3 cfg1.N = up (V c main_v3) (V c main_arg2) :=
  (dat1 V c).arrAt_eq_of_cover 3 _ (fun t _ => flushed1_3 V c t) cover1_3'

/-! ## The cotangent before the rectifier: point `t` takes row block `t / 8` and column block `t % 8` -/

theorem idx2_0 : ∀ t : Fin cfg2.N, win2_0.index t 0 = t.val / 8 ∧ win2_0.index t 1 = 0 :=
  (by decide +kernel : ∀ t : Fin grid2.N, win2_0.index t 0 = t.val / 8 ∧ win2_0.index t 1 = 0)
theorem idx2_1 : ∀ t : Fin cfg2.N, win2_1.index t 0 = t.val % 8 ∧ win2_1.index t 1 = 0 :=
  (by decide +kernel : ∀ t : Fin grid2.N, win2_1.index t 0 = t.val % 8 ∧ win2_1.index t 1 = 0)
theorem idx2_2 : ∀ t : Fin cfg2.N, win2_2.index t 0 = t.val / 8 ∧ win2_2.index t 1 = t.val % 8 :=
  (by decide +kernel : ∀ t : Fin grid2.N, win2_2.index t 0 = t.val / 8 ∧ win2_2.index t 1 = t.val % 8)
theorem idx2_3 : ∀ t : Fin cfg2.N, win2_3.index t 0 = t.val / 8 ∧ win2_3.index t 1 = t.val % 8 :=
  (by decide +kernel : ∀ t : Fin grid2.N, win2_3.index t 0 = t.val / 8 ∧ win2_3.index t 1 = t.val % 8)

theorem lt2 (t : Fin cfg2.N) : t.val < 32 := lt_of_lt_of_eq t.isLt N_2

theorem blk2_0 (t : Fin cfg2.N) (i : Fin 1024) (d : Fin 2048) : (iblk2 V c 0 t : Vec Ideal S1024x2048 .bf16) (ix2 i d)
    = (V c main_v2 : Vec Ideal S4096x2048 .bf16) (ix2 ⟨t.val / 8 * 1024 + i.val, by have := lt2 t; omega⟩ d) := by
  unfold iblk2
  rw [View.read_apply]
  have h := idx2_0 t
  refine at2 (V c main_v2 : Vec Ideal S4096x2048 .bf16) _ _ _ ?_ ?_
  · show win2_0.index t 0 * 1024 + 1 * i.val = t.val / 8 * 1024 + i.val; omega
  · show win2_0.index t 1 * 2048 + 1 * d.val = d.val; omega

theorem blk2_1 (t : Fin cfg2.N) (f : Fin 1024) (d : Fin 2048) : (iblk2 V c 1 t : Vec Ideal S1024x2048 .bf16) (ix2 f d)
    = (V c main_v1 : Vec Ideal S8192x2048 .bf16) (ix2 ⟨t.val % 8 * 1024 + f.val, by omega⟩ d) := by
  unfold iblk2
  rw [View.read_apply]
  have h := idx2_1 t
  refine at2 (V c main_v1 : Vec Ideal S8192x2048 .bf16) _ _ _ ?_ ?_
  · show win2_1.index t 0 * 1024 + 1 * f.val = t.val % 8 * 1024 + f.val; omega
  · show win2_1.index t 1 * 2048 + 1 * d.val = d.val; omega

theorem blk2_2 (t : Fin cfg2.N) (i f : Fin 1024) : (iblk2 V c 2 t : Vec Ideal S1024x1024 .bf16) (ix2 i f)
    = (V c main_v4_1 : Vec Ideal S4096x8192 .bf16)
        (ix2 ⟨t.val / 8 * 1024 + i.val, by have := lt2 t; omega⟩ ⟨t.val % 8 * 1024 + f.val, by omega⟩) := by
  unfold iblk2
  rw [View.read_apply]
  have h := idx2_2 t
  refine at2 (V c main_v4_1 : Vec Ideal S4096x8192 .bf16) _ _ _ ?_ ?_
  · show win2_2.index t 0 * 1024 + 1 * i.val = t.val / 8 * 1024 + i.val; omega
  · show win2_2.index t 1 * 1024 + 1 * f.val = t.val % 8 * 1024 + f.val; omega

theorem read2_3 (t : Fin cfg2.N) (G : Vec Ideal S4096x8192 .bf16) (i f : Fin 1024) :
    ((cfg2.win 3).blk t).view.read (Elt Ideal) G (ix2 i f)
      = G (ix2 ⟨t.val / 8 * 1024 + i.val, by have := lt2 t; omega⟩ ⟨t.val % 8 * 1024 + f.val, by omega⟩) := by
  rw [View.read_apply]
  have h := idx2_3 t
  refine at2 G _ _ _ ?_ ?_
  · show win2_3.index t 0 * 1024 + 1 * i.val = t.val / 8 * 1024 + i.val; omega
  · show win2_3.index t 1 * 1024 + 1 * f.val = t.val % 8 * 1024 + f.val; omega

theorem out2 (dy w : Vec Ideal S1024x2048 .bf16) (r : Vec Ideal S1024x1024 .bf16) : out2_3 dy w r = k2_pay1 dy w r := by
  unfold out2_3
  rw [View.canon_unit_zero (by funext a; fin_cases a <;> rfl), View.ld_unit_zero (by funext a; fin_cases a <;> rfl),
    View.ld_unit_zero (by funext a; fin_cases a <;> rfl), View.ld_unit_zero (by funext a; fin_cases a <;> rfl)]

theorem flushed2_3 (t : Fin cfg2.N) : (dat2 V c).flushed 3 t
    = ((cfg2.win 3).blk t).view.read (Elt Ideal) (downDx (V c main_v2) (V c main_v1) (V c main_v4_1)) := by
  show (cfg2.win 3).cut (cfg2.grid.coords t) ((dat2 V c).after 3 t) = _
  rw [after2_3, out2]
  funext (j : S1024x1024.Idx)
  idx_vars j
  refine (dx_pay _ _ _ _ _).trans (Eq.trans ?_ (read2_3 t _ _ _).symm)
  simp only [blk2_0, blk2_1, blk2_2]
  rfl

theorem cover2_3' (i : S4096x8192.Idx) : ∃ t : Fin cfg2.N, (cfg2.win 3).flush t = true ∧ i ∈ ((cfg2.win 3).blk t).view.set := by
  have h0 : (i 0 : Nat) < 4096 := (i 0).isLt
  have h1 : (i 1 : Nat) < 8192 := (i 1).isLt
  have hN : cfg2.N = 32 := N_2
  have ht : (i 0 : Nat) / 1024 * 8 + (i 1 : Nat) / 1024 < cfg2.N := by omega
  refine ⟨⟨_, ht⟩, flush2_3 _, ?_⟩
  show i ∈ ((View.whole main_v5).slice (win2_3.rect ⟨_, ht⟩)).set
  rw [View.set_slice_whole, Rect.mem_set_unit]
  have h := idx2_3 ⟨_, ht⟩
  dsimp only at h
  intro a
  match a with
  | ⟨0, _⟩ => show win2_3.index _ 0 * 1024 ≤ (i 0 : Nat) ∧ (i 0 : Nat) < win2_3.index _ 0 * 1024 + 1024; rw [h.1]; omega
  | ⟨1, _⟩ => show win2_3.index _ 1 * 1024 ≤ (i 1 : Nat) ∧ (i 1 : Nat) < win2_3.index _ 1 * 1024 + 1024; rw [h.2]; omega

theorem arr2_3 : (dat2 V c).arrAt 3 cfg2.N = downDx (V c main_v2) (V c main_v1) (V c main_v4_1) :=
  (dat2 V c).arrAt_eq_of_cover 3 _ (fun t _ => flushed2_3 V c t) cover2_3'

/-! ## The down weights' gradient: point `t` takes row block `t / 2` and column block `t % 2`, all tokens at once -/

theorem idx3_0 : ∀ t : Fin cfg3.N, win3_0.index t 0 = 0 ∧ win3_0.index t 1 = t.val / 2 :=
  (by decide +kernel : ∀ t : Fin grid3.N, win3_0.index t 0 = 0 ∧ win3_0.index t 1 = t.val / 2)
theorem idx3_1 : ∀ t : Fin cfg3.N, win3_1.index t 0 = 0 ∧ win3_1.index t 1 = t.val % 2 :=
  (by decide +kernel : ∀ t : Fin grid3.N, win3_1.index t 0 = 0 ∧ win3_1.index t 1 = t.val % 2)
theorem idx3_2 : ∀ t : Fin cfg3.N, win3_2.index t 0 = t.val / 2 ∧ win3_2.index t 1 = t.val % 2 :=
  (by decide +kernel : ∀ t : Fin grid3.N, win3_2.index t 0 = t.val / 2 ∧ win3_2.index t 1 = t.val % 2)

theorem lt3 (t : Fin cfg3.N) : t.val < 16 := lt_of_lt_of_eq t.isLt N_3

theorem blk3_0 (t : Fin cfg3.N) (k : Fin 4096) (f : Fin 1024) : (iblk3 V c 0 t : Vec Ideal S4096x1024 .bf16) (ix2 k f)
    = (V c main_v4_0 : Vec Ideal S4096x8192 .bf16) (ix2 k ⟨t.val / 2 * 1024 + f.val, by have := lt3 t; omega⟩) := by
  unfold iblk3
  rw [View.read_apply]
  have h := idx3_0 t
  refine at2 (V c main_v4_0 : Vec Ideal S4096x8192 .bf16) _ _ _ ?_ ?_
  · show win3_0.index t 0 * 4096 + 1 * k.val = k.val; omega
  · show win3_0.index t 1 * 1024 + 1 * f.val = t.val / 2 * 1024 + f.val; omega

theorem blk3_1 (t : Fin cfg3.N) (k : Fin 4096) (d : Fin 1024) : (iblk3 V c 1 t : Vec Ideal S4096x1024 .bf16) (ix2 k d)
    = (V c main_v2 : Vec Ideal S4096x2048 .bf16) (ix2 k ⟨t.val % 2 * 1024 + d.val, by omega⟩) := by
  unfold iblk3
  rw [View.read_apply]
  have h := idx3_1 t
  refine at2 (V c main_v2 : Vec Ideal S4096x2048 .bf16) _ _ _ ?_ ?_
  · show win3_1.index t 0 * 4096 + 1 * k.val = k.val; omega
  · show win3_1.index t 1 * 1024 + 1 * d.val = t.val % 2 * 1024 + d.val; omega

theorem read3_2 (t : Fin cfg3.N) (G : Vec Ideal S8192x2048 .f32) (i f : Fin 1024) :
    ((cfg3.win 2).blk t).view.read (Elt Ideal) G (ix2 i f)
      = G (ix2 ⟨t.val / 2 * 1024 + i.val, by have := lt3 t; omega⟩ ⟨t.val % 2 * 1024 + f.val, by omega⟩) := by
  rw [View.read_apply]
  have h := idx3_2 t
  refine at2 G _ _ _ ?_ ?_
  · show win3_2.index t 0 * 1024 + 1 * i.val = t.val / 2 * 1024 + i.val; omega
  · show win3_2.index t 1 * 1024 + 1 * f.val = t.val % 2 * 1024 + f.val; omega

theorem out3 (a y : Vec Ideal S4096x1024 .bf16) : out3_2 a y = k3_pay1 a y := by
  unfold out3_2
  rw [View.canon_unit_zero (by funext a; fin_cases a <;> rfl), View.ld_unit_zero (by funext a; fin_cases a <;> rfl),
    View.ld_unit_zero (by funext a; fin_cases a <;> rfl)]

theorem flushed3_2 (t : Fin cfg3.N) : (dat3 V c).flushed 2 t
    = ((cfg3.win 2).blk t).view.read (Elt Ideal) (downDw (V c main_v4_0) (V c main_v2)) := by
  show (cfg3.win 2).cut (cfg3.grid.coords t) ((dat3 V c).after 2 t) = _
  rw [after3_2, out3]
  funext (j : S1024x1024.Idx)
  idx_vars j
  refine (dw_pay _ _ _ _).trans (Eq.trans ?_ (read3_2 t _ _ _).symm)
  simp only [blk3_0, blk3_1]
  rfl

theorem cover3_2' (i : S8192x2048.Idx) : ∃ t : Fin cfg3.N, (cfg3.win 2).flush t = true ∧ i ∈ ((cfg3.win 2).blk t).view.set := by
  have h0 : (i 0 : Nat) < 8192 := (i 0).isLt
  have h1 : (i 1 : Nat) < 2048 := (i 1).isLt
  have hN : cfg3.N = 16 := N_3
  have ht : (i 0 : Nat) / 1024 * 2 + (i 1 : Nat) / 1024 < cfg3.N := by omega
  refine ⟨⟨_, ht⟩, flush3_2 _, ?_⟩
  show i ∈ ((View.whole main_v6).slice (win3_2.rect ⟨_, ht⟩)).set
  rw [View.set_slice_whole, Rect.mem_set_unit]
  have h := idx3_2 ⟨_, ht⟩
  dsimp only at h
  intro a
  match a with
  | ⟨0, _⟩ => show win3_2.index _ 0 * 1024 ≤ (i 0 : Nat) ∧ (i 0 : Nat) < win3_2.index _ 0 * 1024 + 1024; rw [h.1]; omega
  | ⟨1, _⟩ => show win3_2.index _ 1 * 1024 ≤ (i 1 : Nat) ∧ (i 1 : Nat) < win3_2.index _ 1 * 1024 + 1024; rw [h.2]; omega

theorem arr3_2 : (dat3 V c).arrAt 2 cfg3.N = downDw (V c main_v4_0) (V c main_v2) :=
  (dat3 V c).arrAt_eq_of_cover 2 _ (fun t _ => flushed3_2 V c t) cover3_2'

/-! ## The up weights' gradient: point `t` takes row block `t / 8` of slab `t % 8`, all tokens at once -/

theorem idx4_0 : ∀ t : Fin cfg4.N, win4_0.index t 0 = 0 ∧ win4_0.index t 1 = t.val / 8 :=
  (by decide +kernel : ∀ t : Fin grid4.N, win4_0.index t 0 = 0 ∧ win4_0.index t 1 = t.val / 8)
theorem idx4_1 : ∀ t : Fin cfg4.N, win4_1.index t 0 = 0 ∧ win4_1.index t 1 = t.val % 8 :=
  (by decide +kernel : ∀ t : Fin grid4.N, win4_1.index t 0 = 0 ∧ win4_1.index t 1 = t.val % 8)
theorem idx4_2 : ∀ t : Fin cfg4.N, win4_2.index t 0 = t.val % 8 ∧ win4_2.index t 1 = t.val / 8 ∧ win4_2.index t 2 = 0 :=
  (by decide +kernel : ∀ t : Fin grid4.N, win4_2.index t 0 = t.val % 8 ∧ win4_2.index t 1 = t.val / 8 ∧ win4_2.index t 2 = 0)

theorem lt4 (t : Fin cfg4.N) : t.val < 16 := lt_of_lt_of_eq t.isLt N_4

theorem blk4_0 (t : Fin cfg4.N) (k : Fin 4096) (d : Fin 1024) : (iblk4 V c 0 t : Vec Ideal S4096x1024 .bf16) (ix2 k d)
    = (V c main_v3 : Vec Ideal S4096x2048 .bf16) (ix2 k ⟨t.val / 8 * 1024 + d.val, by have := lt4 t; omega⟩) := by
  unfold iblk4
  rw [View.read_apply]
  have h := idx4_0 t
  refine at2 (V c main_v3 : Vec Ideal S4096x2048 .bf16) _ _ _ ?_ ?_
  · show win4_0.index t 0 * 4096 + 1 * k.val = k.val; omega
  · show win4_0.index t 1 * 1024 + 1 * d.val = t.val / 8 * 1024 + d.val; omega

theorem blk4_1 (t : Fin cfg4.N) (k : Fin 4096) (f : Fin 1024) : (iblk4 V c 1 t : Vec Ideal S4096x1024 .bf16) (ix2 k f)
    = (V c main_v5 : Vec Ideal S4096x8192 .bf16) (ix2 k ⟨t.val % 8 * 1024 + f.val, by omega⟩) := by
  unfold iblk4
  rw [View.read_apply]
  have h := idx4_1 t
  refine at2 (V c main_v5 : Vec Ideal S4096x8192 .bf16) _ _ _ ?_ ?_
  · show win4_1.index t 0 * 4096 + 1 * k.val = k.val; omega
  · show win4_1.index t 1 * 1024 + 1 * f.val = t.val % 8 * 1024 + f.val; omega

theorem read4_2 (t : Fin cfg4.N) (G : Vec Ideal S8x2048x1024 .f32) (z : Fin 1) (d f : Fin 1024) :
    ((cfg4.win 2).blk t).view.read (Elt Ideal) G (ix3 z d f)
      = G (ix3 ⟨t.val % 8, by omega⟩ ⟨t.val / 8 * 1024 + d.val, by have := lt4 t; omega⟩ f) := by
  rw [View.read_apply]
  have h := idx4_2 t
  refine at3 G _ _ _ _ ?_ ?_ ?_
  · show win4_2.index t 0 * 1 + 1 * z.val = t.val % 8; omega
  · show win4_2.index t 1 * 1024 + 1 * d.val = t.val / 8 * 1024 + d.val; omega
  · show win4_2.index t 2 * 1024 + 1 * f.val = f.val; omega

theorem out4 (a y : Vec Ideal S4096x1024 .bf16) : out4_2 a y = k4_pay1 a y := by
  unfold out4_2
  rw [View.canon_unit_zero (by funext a; fin_cases a <;> rfl), View.ld_unit_zero (by funext a; fin_cases a <;> rfl),
    View.ld_unit_zero (by funext a; fin_cases a <;> rfl)]

theorem flushed4_2 (t : Fin cfg4.N) : (dat4 V c).flushed 2 t
    = ((cfg4.win 2).blk t).view.read (Elt Ideal) (upDw (V c main_v3) (V c main_v5)) := by
  show (cfg4.win 2).cut (cfg4.grid.coords t) ((dat4 V c).after 2 t) = _
  rw [after4_2, out4]
  funext (j : S1x1024x1024.Idx)
  idx_vars j
  obtain rfl : j0 = 0 := Subsingleton.elim _ _
  refine Eq.trans ?_ (read4_2 t _ _ _ _).symm
  refine (updw_pay _ _ _ _).trans ?_
  simp only [blk4_0, blk4_1]
  rfl

theorem cover4_2' (i : S8x2048x1024.Idx) : ∃ t : Fin cfg4.N, (cfg4.win 2).flush t = true ∧ i ∈ ((cfg4.win 2).blk t).view.set := by
  have h0 : (i 0 : Nat) < 8 := (i 0).isLt
  have h1 : (i 1 : Nat) < 2048 := (i 1).isLt
  have h2 : (i 2 : Nat) < 1024 := (i 2).isLt
  have hN : cfg4.N = 16 := N_4
  have ht : (i 1 : Nat) / 1024 * 8 + (i 0 : Nat) < cfg4.N := by omega
  refine ⟨⟨_, ht⟩, flush4_2 _, ?_⟩
  show i ∈ ((View.whole main_v7).slice (win4_2.rect ⟨_, ht⟩)).set
  rw [View.set_slice_whole, Rect.mem_set_unit]
  have h := idx4_2 ⟨_, ht⟩
  dsimp only at h
  intro a
  match a with
  | ⟨0, _⟩ => show win4_2.index _ 0 * 1 ≤ (i 0 : Nat) ∧ (i 0 : Nat) < win4_2.index _ 0 * 1 + 1; rw [h.1]; omega
  | ⟨1, _⟩ => show win4_2.index _ 1 * 1024 ≤ (i 1 : Nat) ∧ (i 1 : Nat) < win4_2.index _ 1 * 1024 + 1024; rw [h.2.1]; omega
  | ⟨2, _⟩ => show win4_2.index _ 2 * 1024 ≤ (i 2 : Nat) ∧ (i 2 : Nat) < win4_2.index _ 2 * 1024 + 1024; rw [h.2.2]; omega

theorem arr4_2 : (dat4 V c).arrAt 2 cfg4.N = upDw (V c main_v3) (V c main_v5) :=
  (dat4 V c).arrAt_eq_of_cover 2 _ (fun t _ => flushed4_2 V c t) cover4_2'

end Cert.Ffn
-- ==== Proof.Ffn.Run.lean ====
module

public import Idealize.ShloMosaic.Lib.StableHlo.RunRead
public import proofs.«01_k».proof.Proof.Ffn.Arr

@[expose] public section

set_option maxRecDepth 16384

noncomputable section

/-! The whole run of the five calls, with what it leaves in the result arrays, and the contents of every array between. -/

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with the results at the last boundary's contents and the arguments as launched. -/
theorem run : θ_run defs (onTc (τ := τ) (main (F := F))) ⟨m, fun _ => 0, ρ⟩ (fun r => ∀ c : Dev nD,
      r.2.mem ((c.tc : Thread nD τ).loc main_v7) = W7 m ρ c (Proc.devRef .tc main_v7)
      ∧ r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v7 (by decide)), h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end

/-! ## The arrays between the calls, at the ideal values -/

variable (m : (ℓ : Loc nD τ sig) → Buf (Elt Ideal) ℓ) (ρ : Dev nD → PrngReg) (c : Dev nD)

/-- The arguments: token rows, gains, up and down slabs, and the cotangent of the layer's result. -/
abbrev aX : Vec Ideal S4096x2048 .f32 := m ((c.tc : Thread nD τ).loc main_arg0)
abbrev aG : Vec Ideal S2048 .f32 := m ((c.tc : Thread nD τ).loc main_arg1)
abbrev aUp : Vec Ideal S8x2048x1024 .bf16 := m ((c.tc : Thread nD τ).loc main_arg2)
abbrev aDown : Vec Ideal S8x1024x2048 .bf16 := m ((c.tc : Thread nD τ).loc main_arg3)
abbrev aDy : Vec Ideal S4096x2048 .f32 := m ((c.tc : Thread nD τ).loc main_arg4)

/-- The normalized rows, the rectified up product, the down weights in one piece, and the rectifier's cotangent. -/
abbrev hid : S4096x2048.Idx → EReal := normed (aX m c) fun d => aG m c (ix1 d)
abbrev rec : S4096x8192.Idx → EReal := up (hid m c) (aUp m c)
abbrev down : S8192x2048.Idx → EReal := shapeCast S8192x2048 (aDown m c) shapeCasts_S8x1024x2048_S8192x2048
abbrev dpre : S4096x8192.Idx → EReal := downDx (aDy m c) (down m c) (rec m c)

theorem in0_arg0 : V1 m ρ c main_arg0 = aX m c := W1_of m ρ c main_arg0 (by decide)
theorem in0_arg2 : V1 m ρ c main_arg2 = aUp m c := W1_of m ρ c main_arg2 (by decide)
theorem in0_v0 : V1 m ρ c main_v0 = shapeCast S1x2048 (aG m c) shapeCasts_S2048_S1x2048 := by
  show StableHlo.after hostOps0 (W0 m ρ c) (Proc.devRef .tc main_v0) = _
  after_reads_simp
  rfl
theorem in0_v1 : V1 m ρ c main_v1 = down m c := by
  show StableHlo.after hostOps0 (W0 m ρ c) (Proc.devRef .tc main_v1) = _
  after_reads_simp
  rfl
theorem in0_v2 : V1 m ρ c main_v2 = aDy m c := by
  show StableHlo.after hostOps0 (W0 m ρ c) (Proc.devRef .tc main_v2) = _
  after_reads_simp
  rfl

theorem in1_v3 : V2 m ρ c main_v3 = hid m c := by
  refine (W2_arr m ρ c 2).trans ((arr0_2 (V1 m ρ) c).trans ?_)
  rw [in0_arg0, in0_v0]
  refine congrArg _ (funext fun d => ?_)
  pointwise
theorem in1_arg2 : V2 m ρ c main_arg2 = aUp m c := (W2_of m ρ c main_arg2 (by decide)).trans (in0_arg2 m ρ c)
theorem in1_v1 : V2 m ρ c main_v1 = down m c := (W2_of m ρ c main_v1 (by decide)).trans (in0_v1 m ρ c)
theorem in1_v2 : V2 m ρ c main_v2 = aDy m c := (W2_of m ρ c main_v2 (by decide)).trans (in0_v2 m ρ c)

theorem in2_v4_0 : V3 m ρ c main_v4_0 = square (rec m c) := by
  refine (W3_arr m ρ c 2).trans ((arr1_2 (V2 m ρ) c).trans ?_)
  rw [in1_v3, in1_arg2]
theorem in2_v4_1 : V3 m ρ c main_v4_1 = rec m c := by
  refine (W3_arr m ρ c 3).trans ((arr1_3 (V2 m ρ) c).trans ?_)
  rw [in1_v3, in1_arg2]
theorem in2_v3 : V3 m ρ c main_v3 = hid m c := (W3_of m ρ c main_v3 (by decide)).trans (in1_v3 m ρ c)
theorem in2_v1 : V3 m ρ c main_v1 = down m c := (W3_of m ρ c main_v1 (by decide)).trans (in1_v1 m ρ c)
theorem in2_v2 : V3 m ρ c main_v2 = aDy m c := (W3_of m ρ c main_v2 (by decide)).trans (in1_v2 m ρ c)

theorem in3_v5 : V4 m ρ c main_v5 = dpre m c := by
  refine (W4_arr m ρ c 3).trans ((arr2_3 (V3 m ρ) c).trans ?_)
  rw [in2_v2, in2_v1, in2_v4_1]
theorem in3_v4_0 : V4 m ρ c main_v4_0 = square (rec m c) := (W4_of m ρ c main_v4_0 (by decide)).trans (in2_v4_0 m ρ c)
theorem in3_v3 : V4 m ρ c main_v3 = hid m c := (W4_of m ρ c main_v3 (by decide)).trans (in2_v3 m ρ c)
theorem in3_v2 : V4 m ρ c main_v2 = aDy m c := (W4_of m ρ c main_v2 (by decide)).trans (in2_v2 m ρ c)

theorem in4_v6 : V5 m ρ c main_v6 = downDw (square (rec m c)) (aDy m c) := by
  refine (W5_arr m ρ c 2).trans ((arr3_2 (V4 m ρ) c).trans ?_)
  rw [in3_v4_0, in3_v2]
theorem in4_v3 : V5 m ρ c main_v3 = hid m c := (W5_of m ρ c main_v3 (by decide)).trans (in3_v3 m ρ c)
theorem in4_v5 : V5 m ρ c main_v5 = dpre m c := (W5_of m ρ c main_v5 (by decide)).trans (in3_v5 m ρ c)

theorem in5_v7 : V6 m ρ c main_v7 = upDw (hid m c) (dpre m c) := by
  refine (W6_arr m ρ c 2).trans ((arr4_2 (V5 m ρ) c).trans ?_)
  rw [in4_v3, in4_v5]
theorem in5_v6 : V6 m ρ c main_v6 = downDw (square (rec m c)) (aDy m c) := (W6_of m ρ c main_v6 (by decide)).trans (in4_v6 m ρ c)

/-- The two results. -/
abbrev gUp : S8x2048x1024.Idx → EReal := upDw (hid m c) (dpre m c)
abbrev gDown : S8x1024x2048.Idx → EReal :=
  shapeCast S8x1024x2048 (downDw (square (rec m c)) (aDy m c)) shapeCasts_S8192x2048_S8x1024x2048

theorem end_v7 : W7 m ρ c (Proc.devRef .tc main_v7) = gUp m c := (W7_of m ρ c main_v7 (by decide)).trans (in5_v7 m ρ c)
theorem end_v8 : W7 m ρ c (Proc.devRef .tc main_v8) = gDown m c := by
  show StableHlo.after hostOps5 (W6 m ρ c) (Proc.devRef .tc main_v8) = _
  after_reads_simp
  rw [show W6 m ρ c (Proc.devRef .tc main_v6) = _ from in5_v6 m ρ c]
  rfl

end Cert.Ffn
-- ==== Proof.Ffn.Ref.lean ====
module

public import proofs.«01_k».proof.Proof.Gen.Reference2Ideal.Run
public import proofs.«01_k».proof.Proof.Ffn.Run

@[expose] public section

set_option maxRecDepth 16384

noncomputable section

/-! What the reference computes, brought to the kernel's form. -/

namespace Cert.Ffn.Ref

open Idealize.ShloMosaic Idealize.ShloMosaic.TcCoe Idealize.SL.Sem
open Cert.Reference2Ideal Cert.Reference2Ideal.Gen Cert.Reference2Ideal.Value

variable (x : FVec Ideal S4096x2048 .f32) (g : FVec Ideal S2048 .f32) (wu : FVec Ideal S8x2048x1024 .bf16)
  (wd : FVec Ideal S8x1024x2048 .bf16) (dy : FVec Ideal S4096x2048 .f32)

/-- The normalized rows, as the reference writes them. -/
def hid : FVec Ideal S4096x2048 .f32 :=
  mulf (F := Ideal) (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))))))
    (broadcastInDim S4096x2048 ![0, 1] bcast_S1x2048_S4096x2048_0_1 (broadcastInDim S1x2048 ![1] bcast_S2048_S1x2048_1 g))

theorem hid_eq : hid x g = normed x fun d => g (ix1 d) := by
  funext j
  idx_vars j
  pointwise [hid]
  rfl

/-- The up product before the rectifier, the rectified one, and the product of the cotangent with the down weights. -/
def pre : FVec Ideal S4096x8192 .f32 :=
  Host.dotGeneral (F := Ideal) dot_S4096x2048_S2048x8192_S4096x8192_1_0_0_1_n_n none (hid x g) (shapeCast _ (transpose S2048x8x1024 [1, 0, 2] (extf .f32 wu bitsLt_bf16_f32) transposes_S8x2048x1024_S2048x8x1024_1_0_2) shapeCasts_S2048x8x1024_S2048x8192)
def rect : FVec Ideal S4096x8192 .f32 :=
  maximumf (pre x g wu) (broadcastInDim S4096x8192 ![] bcast_S_S4096x8192 (constant S_ .f32 0x00000000#32))
def back : FVec Ideal S4096x8192 .f32 :=
  Host.dotGeneral (F := Ideal) dot_S4096x2048_S8192x2048_S4096x8192_1_1_0_0_n_n none dy (shapeCast _ (extf .f32 wd bitsLt_bf16_f32) shapeCasts_S8x1024x2048_S8192x2048)
def dpre : FVec Ideal S4096x8192 .f32 :=
  select (cmpf .ogt (pre x g wu) (broadcastInDim S4096x8192 ![] bcast_S_S4096x8192 (constant S_ .f32 0x00000000#32)))
    (addf (mulf (rect x g wu) (back wd dy)) (mulf (back wd dy) (rect x g wu)))
    (broadcastInDim S4096x8192 ![] bcast_S_S4096x8192 (constant S_ .f32 0x00000000#32))

theorem pre_eq (i : Fin 4096) (f : Fin 8192) : pre x g wu (ix2 i f)
    = ∑ k : Fin 2048, hid x g (ix2 i k) * wu (ix3 ⟨f.val / 1024, by omega⟩ k ⟨f.val % 1024, by omega⟩) := by
  pointwise [pre]

theorem rect_eq : rect x g wu = up (hid x g) wu := by
  funext j
  idx_vars j
  pointwise [rect, pre_eq]
  rfl

theorem back_eq (i : Fin 4096) (f : Fin 8192) : back wd dy (ix2 i f)
    = ∑ k : Fin 2048, dy (ix2 i k) * shapeCast S8192x2048 wd shapeCasts_S8x1024x2048_S8192x2048 (ix2 f k) := by
  pointwise [back]

theorem two_coe : wTwo = ((2 : ℝ) : EReal) := by
  simp [wTwo, Ideal.ofBits, Ideal.ieee, -EReal.coe_mul]
  norm_num

/-- The square's two equal halves, and the derivative of the rectifier, as one factor: twice the rectified value. -/
theorem factor (s b : EReal) : (if 0 < s then max s 0 * b + b * max s 0 else 0) = b * (wTwo * max s 0) := by
  have h2 : wTwo = 1 + 1 := by rw [two_coe]; norm_cast
  split
  · rename_i h
    rw [max_eq_left h.le, h2, EReal.right_distrib_of_nonneg zero_le_one zero_le_one, one_mul,
      EReal.left_distrib_of_nonneg h.le h.le, mul_comm s b]
  · rename_i h
    rw [max_eq_right (not_lt.mp h), mul_zero, mul_zero]

theorem dpre_eq : dpre x g wu wd dy
    = downDx dy (shapeCast S8192x2048 wd shapeCasts_S8x1024x2048_S8192x2048) (rect x g wu) := by
  funext j
  idx_vars j
  have hr : rect x g wu (ix2 j0 j1) = max (pre x g wu (ix2 j0 j1)) 0 := by pointwise [rect]
  have hd : dpre x g wu wd dy (ix2 j0 j1) = if 0 < pre x g wu (ix2 j0 j1)
      then rect x g wu (ix2 j0 j1) * back wd dy (ix2 j0 j1) + back wd dy (ix2 j0 j1) * rect x g wu (ix2 j0 j1) else 0 := by
    pointwise [dpre]
  rw [hd, hr, factor, back_eq, ← hr]
  rfl

/-! The two results, over the reference's arguments. -/

variable (m : (ℓ : Loc nD τ sig) → Buf (Elt Ideal) ℓ) (c : Dev nD)

theorem out_up (h0 : m ((c.tc : Thread nD τ).loc main_arg0) = x) (h1 : m ((c.tc : Thread nD τ).loc main_arg1) = g)
    (h2 : m ((c.tc : Thread nD τ).loc main_arg2) = wu) (h3 : m ((c.tc : Thread nD τ).loc main_arg3) = wd)
    (h4 : m ((c.tc : Thread nD τ).loc main_arg4) = dy) :
    res_out0 m c = upDw (normed x fun d => g (ix1 d)) (downDx dy
      (shapeCast S8192x2048 wd shapeCasts_S8x1024x2048_S8192x2048) (up (normed x fun d => g (ix1 d)) wu)) := by
  subst h0 h1 h2 h3 h4
  rw [← hid_eq, ← rect_eq, ← dpre_eq]
  have e : res_out0 m c = transpose S8x2048x1024 [1, 0, 2] (shapeCast _ (transpose S2048x8192 [1, 0]
      (Host.dotGeneral (F := Ideal) (φ₁ := .f32) (φ₂ := .f32) dot_S4096x8192_S4096x2048_S8192x2048_0_0_1_1_n_n none
        (dpre (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)))
        (hid (m ((c.tc : Thread nD τ).loc main_arg0)) (m ((c.tc : Thread nD τ).loc main_arg1))))
      transposes_S8192x2048_S2048x8192_1_0) shapeCasts_S2048x8192_S2048x8x1024) transposes_S2048x8x1024_S8x2048x1024_1_0_2 := rfl
  rw [e]
  funext j
  idx_vars j
  pointwise [upDw]
  exact Finset.sum_congr rfl fun k _ => mul_comm _ _

theorem out_down (h0 : m ((c.tc : Thread nD τ).loc main_arg0) = x) (h1 : m ((c.tc : Thread nD τ).loc main_arg1) = g)
    (h2 : m ((c.tc : Thread nD τ).loc main_arg2) = wu) (h4 : m ((c.tc : Thread nD τ).loc main_arg4) = dy)
    (r : FVec Ideal S8x1024x2048 .f32)
    (hr : r = shapeCast _ (transpose S8192x2048 [1, 0] (Host.dotGeneral (F := Ideal) (φ₁ := .f32) (φ₂ := .f32)
      dot_S4096x2048_S4096x8192_S2048x8192_0_0_1_1_n_n none (m ((c.tc : Thread nD τ).loc main_arg4))
        (mulf (rect (m ((c.tc : Thread nD τ).loc main_arg0)) (m ((c.tc : Thread nD τ).loc main_arg1)) (m ((c.tc : Thread nD τ).loc main_arg2)))
          (rect (m ((c.tc : Thread nD τ).loc main_arg0)) (m ((c.tc : Thread nD τ).loc main_arg1)) (m ((c.tc : Thread nD τ).loc main_arg2)))))
      transposes_S2048x8192_S8192x2048_1_0) shapeCasts_S8192x2048_S8x1024x2048) :
    r = shapeCast S8x1024x2048 (downDw (square (up (normed x fun d => g (ix1 d)) wu)) dy) shapeCasts_S8192x2048_S8x1024x2048 := by
  subst h0 h1 h2 h4
  rw [hr, ← hid_eq, ← rect_eq]
  refine congrArg (fun A => shapeCast S8x1024x2048 A shapeCasts_S8192x2048_S8x1024x2048) ?_
  funext j
  idx_vars j
  pointwise [downDw, square]
  exact Finset.sum_congr rfl fun k _ => mul_comm _ _

end Cert.Ffn.Ref
-- ==== Proof.Ffn.UpDx.lean ====
module

public import Idealize.ShloMosaic.Lib.StableHlo.RunRead
public import proofs.«01_k».proof.Proof.Gen.Kernel3Ideal.Value
public import proofs.«01_k».proof.Proof.Gen.Reference3Ideal.Run
public import proofs.«01_k».proof.Proof.Ffn.Pay

@[expose] public section

set_option maxRecDepth 16384

noncomputable section

/-! The product that gives the cotangent of the normalized rows: its inner dimension comes in two halves, the second
added to what the first left in the scratch array. -/

namespace Cert.Ffn.UpDx

open Idealize.ShloMosaic Idealize.ShloMosaic.TcCoe Idealize.ShloMosaic.Tactic Idealize.SL.Sem

/-- Rows times the transposed weights. -/
def prod (d : (Cert.Kernel3Ideal.S4096x8192).Idx → EReal) (w : (Cert.Kernel3Ideal.S2048x8192).Idx → EReal) :
    (Cert.Kernel3Ideal.S4096x2048).Idx → EReal :=
  fun j => ∑ k : Fin 8192, d (ix2 (j 0) k) * w (ix2 (j 1) k)

section Kernel

open Cert.Kernel3Ideal Cert.Kernel3Ideal.Gen Cert.Kernel3Ideal.Value

theorem pay2 (d w : Vec Ideal S1024x4096 .bf16) (i f : Fin 1024) :
    k0_pay2 (F := Ideal) d w (ix2 i f) = ∑ k, d (ix2 i k) * w (ix2 f k) := by
  pointwise [k0_pay2, k0_pay1]

theorem pay3 (d w : Vec Ideal S1024x4096 .bf16) (s : Vec Ideal S1024x1024 .f32) (i f : Fin 1024) :
    k0_pay3 (F := Ideal) d w s (ix2 i f) = s (ix2 i f) + ∑ k, d (ix2 i k) * w (ix2 f k) := by
  pointwise [k0_pay3, k0_pay1]

section
variable (c : Dev nD) (i : grid0.Coords) (arg3 : Memref sig .tc .vmem S1024x4096 .bf16) (harg3 : arg3.IsWhole)
  (arg4 : Memref sig .tc .vmem S1024x4096 .bf16) (harg4 : arg4.IsWhole) (arg5 : Memref sig .tc .vmem S1024x1024 .f32) (harg5 : arg5.IsWhole)
  (arg6 : Memref sig .tc .vmem S1024x1024 .f32) (harg6 : arg6.IsWhole) (d w : Vec Ideal S1024x4096 .bf16) (s : Vec Ideal S1024x1024 .f32)

/-- The first half's point leaves the half's product in the scratch array. -/
theorem sout_A (hc0 : cond0_0 i) (hc1 : ¬cond0_1 i) (hc2 : ¬cond0_2 i) :
    sout0_A_0 (F := Ideal) c i arg3 harg3 arg4 harg4 arg5 harg5 arg6 harg6 hc0 hc1 hc2 d w = k0_pay2 d w := by
  unfold sout0_A_0
  rw [View.read_writes_eq_canon _ _ _ (scover0_A_0 (F := Ideal) c i arg3 harg3 arg4 harg4 arg5 harg5 arg6 harg6 hc0 hc1 hc2 d w)]
  unfold kernelRun0_A
  dsimp only
  sl_unfold_words
  simp only [View.readAt_eq_ld, harg3.read_unread, harg4.read_unread]
  rw [View.canon_unit_zero (by funext a; fin_cases a <;> rfl), View.ld_unit_zero (by funext a; fin_cases a <;> rfl),
    View.ld_unit_zero (by funext a; fin_cases a <;> rfl)]

/-- The second half's point stores the scratch array with its own product added. -/
theorem out_B (hc0 : ¬cond0_0 i) (hc1 : cond0_1 i) (hc2 : cond0_2 i) :
    out0_B_2 (F := Ideal) c i arg3 harg3 arg4 harg4 arg5 harg5 arg6 harg6 hc0 hc1 hc2 d w s = k0_pay3 d w s := by
  unfold out0_B_2
  rw [View.read_writes_eq_canon _ _ _ (cover0_B_2 (F := Ideal) c i arg3 harg3 arg4 harg4 arg5 harg5 arg6 harg6 hc0 hc1 hc2 d w s)]
  unfold kernelRun0_B
  dsimp only
  sl_unfold_words
  simp only [View.readAt_eq_ld, harg3.read_unread, harg4.read_unread, harg6.read_unread]
  rw [View.canon_unit_zero (by funext a; fin_cases a <;> rfl),
    View.readCov_unit_zero arg6.view (by funext a; fin_cases a <;> rfl),
    View.ld_unit_zero (by funext a; fin_cases a <;> rfl), View.ld_unit_zero (by funext a; fin_cases a <;> rfl),
    View.ld_unit_zero (by funext a; fin_cases a <;> rfl)]

end

/-! Point `t` takes row block `t / 4`, column block `t / 2 % 2` and half `t % 2`. -/

theorem idx_0 : ∀ t : Fin cfg0.N, win0_0.index t 0 = t.val / 4 ∧ win0_0.index t 1 = t.val % 2 :=
  (by decide +kernel : ∀ t : Fin grid0.N, win0_0.index t 0 = t.val / 4 ∧ win0_0.index t 1 = t.val % 2)
theorem idx_1 : ∀ t : Fin cfg0.N, win0_1.index t 0 = t.val / 2 % 2 ∧ win0_1.index t 1 = t.val % 2 :=
  (by decide +kernel : ∀ t : Fin grid0.N, win0_1.index t 0 = t.val / 2 % 2 ∧ win0_1.index t 1 = t.val % 2)
theorem idx_2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

theorem lt (t : Fin cfg0.N) : t.val < 16 := lt_of_lt_of_eq t.isLt N_0

variable (m : (ℓ : Loc nD τ sig) → Buf (Elt Ideal) ℓ) (c : Dev nD)

/-- The arguments: the rectifier's cotangent, and the up weights in slabs and in one piece. -/
abbrev aD : Vec Ideal S4096x8192 .bf16 := m ((c.tc : Thread nD τ).loc main_arg0)
abbrev aUp : Vec Ideal S8x2048x1024 .bf16 := m ((c.tc : Thread nD τ).loc main_arg1)
abbrev whole (w : Vec Ideal S8x2048x1024 .bf16) : Vec Ideal S2048x8192 .bf16 :=
  shapeCast S2048x8192 (transpose S2048x8x1024 [1, 0, 2] w transposes_S8x2048x1024_S2048x8x1024_1_0_2) shapeCasts_S2048x8x1024_S2048x8192

theorem V_v1 : V m c main_v1 = whole (aUp m c) := by
  show StableHlo.after hostOps0 (fun b => m (c, b)) (Proc.devRef .tc main_v1) = _
  after_reads_simp
  rfl

theorem blk_0 (t : Fin cfg0.N) (i : Fin 1024) (k : Fin 4096) : (iblk m c 0 t : Vec Ideal S1024x4096 .bf16) (ix2 i k)
    = aD m c (ix2 ⟨t.val / 4 * 1024 + i.val, by have := lt t; omega⟩ ⟨t.val % 2 * 4096 + k.val, by omega⟩) := by
  unfold iblk
  rw [View.read_apply]
  have h := idx_0 t
  refine (congrFun (V_main_arg0 m c) _).trans (at2 (aD m c) _ _ _ ?_ ?_)
  · show win0_0.index t 0 * 1024 + 1 * i.val = t.val / 4 * 1024 + i.val; omega
  · show win0_0.index t 1 * 4096 + 1 * k.val = t.val % 2 * 4096 + k.val; omega

theorem blk_1 (t : Fin cfg0.N) (f : Fin 1024) (k : Fin 4096) : (iblk m c 1 t : Vec Ideal S1024x4096 .bf16) (ix2 f k)
    = whole (aUp m c) (ix2 ⟨t.val / 2 % 2 * 1024 + f.val, by omega⟩ ⟨t.val % 2 * 4096 + k.val, by omega⟩) := by
  unfold iblk
  rw [View.read_apply]
  have h := idx_1 t
  refine (congrFun (V_v1 m c) _).trans (at2 (whole (aUp m c)) _ _ _ ?_ ?_)
  · show win0_1.index t 0 * 1024 + 1 * f.val = t.val / 2 % 2 * 1024 + f.val; omega
  · show win0_1.index t 1 * 4096 + 1 * k.val = t.val % 2 * 4096 + k.val; omega

theorem read_2 (t : Fin cfg0.N) (G : Vec Ideal S4096x2048 .f32) (i f : Fin 1024) :
    ((cfg0.win 2).blk t).view.read (Elt Ideal) G (ix2 i f)
      = G (ix2 ⟨t.val / 4 * 1024 + i.val, by have := lt t; omega⟩ ⟨t.val / 2 % 2 * 1024 + f.val, by omega⟩) := by
  rw [View.read_apply]
  have h := idx_2 t
  refine at2 G _ _ _ ?_ ?_
  · show win0_2.index t 0 * 1024 + 1 * i.val = t.val / 4 * 1024 + i.val; omega
  · show win0_2.index t 1 * 1024 + 1 * f.val = t.val / 2 % 2 * 1024 + f.val; omega

/-- A sum is the sum over a leading part and the sum over the rest. -/
theorem split {n : ℕ} (a b : ℕ) (h : a + b = n) (f : Fin n → EReal) :
    ∑ k, f k = (∑ k : Fin a, f ⟨k.val, by omega⟩) + ∑ k : Fin b, f ⟨a + k.val, by omega⟩ := by
  subst h
  exact Fin.sum_univ_add f

theorem flushed (t : Fin cfg0.N) (ht : t.val % 2 = 1) : (dats m 0 c).flushed 2 t
    = ((cfg0.win 2).blk t).view.read (Elt Ideal) (prod (aD m c) (whole (aUp m c))) := by
  have hl := lt t
  rw [flushed2_B m c t (by omega) ht ht, out_B]
  have hs := outsAt0_A m c ⟨t.val - 1, Nat.lt_of_le_of_lt (Nat.sub_le _ _) t.isLt⟩ (by dsimp only; omega) (by dsimp only; omega) (by dsimp only; omega)
  dsimp only at hs
  rw [hs, sout_A]
  funext (j : S1024x1024.Idx)
  idx_vars j
  refine (pay3 _ _ _ _ _).trans (Eq.trans ?_ (read_2 t _ _ _).symm)
  rw [pay2]
  simp only [blk_0, blk_1]
  unfold prod
  rw [split 4096 4096 rfl]
  have e1 : (t.val - 1) % 2 = 0 := by omega
  have e2 : (t.val - 1) / 4 = t.val / 4 := by omega
  have e3 : (t.val - 1) / 2 % 2 = t.val / 2 % 2 := by omega
  simp only [ht, e1, e2, e3, Nat.zero_mul, Nat.zero_add, Nat.one_mul]
  rfl

theorem cover (i : S4096x2048.Idx) : ∃ t : Fin cfg0.N, (cfg0.win 2).flush t = true ∧ i ∈ ((cfg0.win 2).blk t).view.set :=
  (covered_iff2 i).2 ⟨Nat.zero_le _, (i 0).isLt, Nat.zero_le _, (i 1).isLt⟩

theorem arr : (dats m 0 c).arrAt 2 cfg0.N = prod (aD m c) (whole (aUp m c)) :=
  (dats m 0 c).arrAt_eq_of_cover 2 _ (fun t hf => flushed m c t ((flush0_2 t).mp hf)) cover

end Kernel

section Reference

open Cert.Reference3Ideal Cert.Reference3Ideal.Gen Cert.Reference3Ideal.Value

/-- The reference's product. -/
theorem ref (d : FVec Ideal S4096x8192 .bf16) (w : FVec Ideal S8x2048x1024 .bf16) :
    Host.dotGeneral (F := Ideal) (φ₁ := .f32) (φ₂ := .f32) dot_S4096x8192_S2048x8192_S4096x2048_1_1_0_0_n_n none
      (extf .f32 d bitsLt_bf16_f32)
      (extf .f32 (shapeCast _ (transpose S2048x8x1024 [1, 0, 2] w transposes_S8x2048x1024_S2048x8x1024_1_0_2)
        shapeCasts_S2048x8x1024_S2048x8192) bitsLt_bf16_f32)
      = prod d (whole w) := by
  funext j
  idx_vars j
  pointwise [prod]

variable (m : (ℓ : Loc nD τ sig) → Buf (Elt Ideal) ℓ) (c : Dev nD)

/-- The reference's result from arguments equal to the kernel's. -/
theorem out (d : FVec Ideal S4096x8192 .bf16) (w : FVec Ideal S8x2048x1024 .bf16)
    (h0 : m ((c.tc : Thread nD τ).loc main_arg0) = d) (h1 : m ((c.tc : Thread nD τ).loc main_arg1) = w) :
    Host.dotGeneral (F := Ideal) (φ₁ := .f32) (φ₂ := .f32) dot_S4096x8192_S2048x8192_S4096x2048_1_1_0_0_n_n none
      (extf .f32 (m ((c.tc : Thread nD τ).loc main_arg0)) bitsLt_bf16_f32)
      (extf .f32 (shapeCast _ (transpose S2048x8x1024 [1, 0, 2] (m ((c.tc : Thread nD τ).loc main_arg1))
        transposes_S8x2048x1024_S2048x8x1024_1_0_2) shapeCasts_S2048x8x1024_S2048x8192) bitsLt_bf16_f32)
      = prod d (whole w) := by
  rw [h0, h1]
  exact ref d w

end Reference

end Cert.Ffn.UpDx

end
-- ==== Proof.Ffn.Down.lean ====
module

public import Idealize.ShloMosaic.Lib.StableHlo.RunRead
public import proofs.«01_k».proof.Proof.Gen.Kernel4Ideal.Value
public import proofs.«01_k».proof.Proof.Gen.Reference4Ideal.Run
public import proofs.«01_k».proof.Proof.Ffn.UpDx

@[expose] public section

set_option maxRecDepth 16384

noncomputable section

/-! The product by the down weights, with the rows the block was given added: its inner dimension comes in four
quarters, each added to what the ones before left in the scratch array. -/

namespace Cert.Ffn.Down

open Idealize.ShloMosaic Idealize.ShloMosaic.TcCoe Idealize.ShloMosaic.Tactic Idealize.SL.Sem

/-- Rows times the weights, with `x` added. -/
def prod (d : (Cert.Kernel4Ideal.S4096x8192).Idx → EReal) (w : (Cert.Kernel4Ideal.S8192x2048).Idx → EReal)
    (x : (Cert.Kernel4Ideal.S4096x2048).Idx → EReal) : (Cert.Kernel4Ideal.S4096x2048).Idx → EReal :=
  fun j => x j + ∑ k : Fin 8192, d (ix2 (j 0) k) * w (ix2 k (j 1))

section Kernel

open Cert.Kernel4Ideal Cert.Kernel4Ideal.Gen Cert.Kernel4Ideal.Value

theorem pay2 (d : Vec Ideal S1024x2048 .bf16) (w : Vec Ideal S2048x1024 .bf16) (i f : Fin 1024) :
    k0_pay2 (F := Ideal) d w (ix2 i f) = ∑ k, d (ix2 i k) * w (ix2 k f) := by
  pointwise [k0_pay2, k0_pay1]

theorem pay3 (d : Vec Ideal S1024x2048 .bf16) (w : Vec Ideal S2048x1024 .bf16) (s : Vec Ideal S1024x1024 .f32) (i f : Fin 1024) :
    k0_pay3 (F := Ideal) d w s (ix2 i f) = s (ix2 i f) + ∑ k, d (ix2 i k) * w (ix2 k f) := by
  pointwise [k0_pay3, k0_pay1]

theorem pay4 (s x : Vec Ideal S1024x1024 .f32) (i f : Fin 1024) :
    k0_pay4 (F := Ideal) s x (ix2 i f) = s (ix2 i f) + x (ix2 i f) := by
  pointwise [k0_pay4]

section
variable (c : Dev nD) (i : grid0.Coords) (arg3 : Memref sig .tc .vmem S1024x2048 .bf16) (harg3 : arg3.IsWhole)
  (arg4 : Memref sig .tc .vmem S2048x1024 .bf16) (harg4 : arg4.IsWhole) (arg5 : Memref sig .tc .vmem S1024x1024 .f32) (harg5 : arg5.IsWhole)
  (arg6 : Memref sig .tc .vmem S1024x1024 .f32) (harg6 : arg6.IsWhole) (arg7 : Memref sig .tc .vmem S1024x1024 .f32) (harg7 : arg7.IsWhole)
  (d : Vec Ideal S1024x2048 .bf16) (w : Vec Ideal S2048x1024 .bf16) (x s : Vec Ideal S1024x1024 .f32)

/-- The first quarter's point leaves the quarter's product in the scratch array. -/
theorem sout_A (hc0 : cond0_0 i) (hc1 : ¬cond0_1 i) (hc2 : ¬cond0_2 i) :
    sout0_A_0 (F := Ideal) c i arg3 harg3 arg4 harg4 arg5 harg5 arg6 harg6 arg7 harg7 hc0 hc1 hc2 d w x = k0_pay2 d w := by
  unfold sout0_A_0
  rw [View.read_writes_eq_canon _ _ _ (scover0_A_0 (F := Ideal) c i arg3 harg3 arg4 harg4 arg5 harg5 arg6 harg6 arg7 harg7 hc0 hc1 hc2 d w x)]
  unfold kernelRun0_A
  dsimp only
  sl_unfold_words
  simp only [View.readAt_eq_ld, harg3.read_unread, harg4.read_unread]
  rw [View.canon_unit_zero (by funext a; fin_cases a <;> rfl), View.ld_unit_zero (by funext a; fin_cases a <;> rfl),
    View.ld_unit_zero (by funext a; fin_cases a <;> rfl)]

/-- A middle quarter's point adds the quarter's product to the scratch array. -/
theorem sout_B (hc0 : ¬cond0_0 i) (hc1 : cond0_1 i) (hc2 : ¬cond0_2 i) :
    sout0_B_0 (F := Ideal) c i arg3 harg3 arg4 harg4 arg5 harg5 arg6 harg6 arg7 harg7 hc0 hc1 hc2 d w x s = k0_pay3 d w s := by
  unfold sout0_B_0
  rw [View.read_writes_eq_canon _ _ _ (scover0_B_0 (F := Ideal) c i arg3 harg3 arg4 harg4 arg5 harg5 arg6 harg6 arg7 harg7 hc0 hc1 hc2 d w x s)]
  unfold kernelRun0_B
  dsimp only
  sl_unfold_words
  simp only [View.readAt_eq_ld, harg3.read_unread, harg4.read_unread, harg7.read_unread]
  rw [View.canon_unit_zero (by funext a; fin_cases a <;> rfl), View.ld_unit_zero (by funext a; fin_cases a <;> rfl),
    View.ld_unit_zero (by funext a; fin_cases a <;> rfl), View.ld_unit_zero (by funext a; fin_cases a <;> rfl)]

/-- The last quarter's point stores the scratch array with its own product and `x` added. -/
theorem out_C (hc0 : ¬cond0_0 i) (hc1 : cond0_1 i) (hc2 : cond0_2 i) :
    out0_C_3 (F := Ideal) c i arg3 harg3 arg4 harg4 arg5 harg5 arg6 harg6 arg7 harg7 hc0 hc1 hc2 d w x s = k0_pay4 (k0_pay3 d w s) x := by
  unfold out0_C_3
  rw [View.read_writes_eq_canon _ _ _ (cover0_C_3 (F := Ideal) c i arg3 harg3 arg4 harg4 arg5 harg5 arg6 harg6 arg7 harg7 hc0 hc1 hc2 d w x s)]
  unfold kernelRun0_C
  dsimp only
  sl_unfold_words
  simp only [View.readAt_eq_ld, harg3.read_unread, harg4.read_unread, harg5.read_unread, harg7.read_unread]
  rw [View.canon_unit_zero (by funext a; fin_cases a <;> rfl),
    View.readCov_unit_zero arg7.view (by funext a; fin_cases a <;> rfl),
    View.ld_unit_zero (by funext a; fin_cases a <;> rfl), View.ld_unit_zero (by funext a; fin_cases a <;> rfl),
    View.ld_unit_zero (by funext a; fin_cases a <;> rfl), View.ld_unit_zero (by funext a; fin_cases a <;> rfl)]

end

/-! Point `t` takes row block `t / 8`, column block `t / 4 % 2` and quarter `t % 4`. -/

theorem idx_0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem idx_1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)
theorem idx_2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)
theorem idx_3 : ∀ t : Fin cfg0.N, win0_3.index t 0 = t.val / 8 ∧ win0_3.index t 1 = t.val / 4 % 2 :=
  (by decide +kernel : ∀ t : Fin grid0.N, win0_3.index t 0 = t.val / 8 ∧ win0_3.index t 1 = t.val / 4 % 2)

theorem lt (t : Fin cfg0.N) : t.val < 32 := lt_of_lt_of_eq t.isLt N_0

variable (m : (ℓ : Loc nD τ sig) → Buf (Elt Ideal) ℓ) (c : Dev nD)

/-- The arguments: the squared rectifier's rows, the down weights in slabs and in one piece, and the rows to add. -/
abbrev aA : Vec Ideal S4096x8192 .bf16 := m ((c.tc : Thread nD τ).loc main_arg0)
abbrev aDown : Vec Ideal S8x1024x2048 .bf16 := m ((c.tc : Thread nD τ).loc main_arg1)
abbrev aX : Vec Ideal S4096x2048 .f32 := m ((c.tc : Thread nD τ).loc main_arg2)
abbrev whole (w : Vec Ideal S8x1024x2048 .bf16) : Vec Ideal S8192x2048 .bf16 :=
  shapeCast S8192x2048 w shapeCasts_S8x1024x2048_S8192x2048

theorem V_v0 : V m c main_v0 = whole (aDown m c) := by
  show StableHlo.after hostOps0 (fun b => m (c, b)) (Proc.devRef .tc main_v0) = _
  after_reads_simp
  rfl

theorem blk_0 (t : Fin cfg0.N) (i : Fin 1024) (k : Fin 2048) : (iblk m c 0 t : Vec Ideal S1024x2048 .bf16) (ix2 i k)
    = aA m c (ix2 ⟨t.val / 8 * 1024 + i.val, by have := lt t; omega⟩ ⟨t.val % 4 * 2048 + k.val, by omega⟩) := by
  unfold iblk
  rw [View.read_apply]
  have h := idx_0 t
  refine (congrFun (V_main_arg0 m c) _).trans (at2 (aA m c) _ _ _ ?_ ?_)
  · show win0_0.index t 0 * 1024 + 1 * i.val = t.val / 8 * 1024 + i.val; omega
  · show win0_0.index t 1 * 2048 + 1 * k.val = t.val % 4 * 2048 + k.val; omega

theorem blk_1 (t : Fin cfg0.N) (k : Fin 2048) (f : Fin 1024) : (iblk m c 1 t : Vec Ideal S2048x1024 .bf16) (ix2 k f)
    = whole (aDown m c) (ix2 ⟨t.val % 4 * 2048 + k.val, by omega⟩ ⟨t.val / 4 % 2 * 1024 + f.val, by omega⟩) := by
  unfold iblk
  rw [View.read_apply]
  have h := idx_1 t
  refine (congrFun (V_v0 m c) _).trans (at2 (whole (aDown m c)) _ _ _ ?_ ?_)
  · show win0_1.index t 0 * 2048 + 1 * k.val = t.val % 4 * 2048 + k.val; omega
  · show win0_1.index t 1 * 1024 + 1 * f.val = t.val / 4 % 2 * 1024 + f.val; omega

theorem blk_2 (t : Fin cfg0.N) (i f : Fin 1024) : (iblk m c 2 t : Vec Ideal S1024x1024 .f32) (ix2 i f)
    = aX m c (ix2 ⟨t.val / 8 * 1024 + i.val, by have := lt t; omega⟩ ⟨t.val / 4 % 2 * 1024 + f.val, by omega⟩) := by
  unfold iblk
  rw [View.read_apply]
  have h := idx_2 t
  refine (congrFun (V_main_arg2 m c) _).trans (at2 (aX m c) _ _ _ ?_ ?_)
  · show win0_2.index t 0 * 1024 + 1 * i.val = t.val / 8 * 1024 + i.val; omega
  · show win0_2.index t 1 * 1024 + 1 * f.val = t.val / 4 % 2 * 1024 + f.val; omega

theorem read_3 (t : Fin cfg0.N) (G : Vec Ideal S4096x2048 .f32) (i f : Fin 1024) :
    ((cfg0.win 3).blk t).view.read (Elt Ideal) G (ix2 i f)
      = G (ix2 ⟨t.val / 8 * 1024 + i.val, by have := lt t; omega⟩ ⟨t.val / 4 % 2 * 1024 + f.val, by omega⟩) := by
  rw [View.read_apply]
  have h := idx_3 t
  refine at2 G _ _ _ ?_ ?_
  · show win0_3.index t 0 * 1024 + 1 * i.val = t.val / 8 * 1024 + i.val; omega
  · show win0_3.index t 1 * 1024 + 1 * f.val = t.val / 4 % 2 * 1024 + f.val; omega

/-- A sum over the inner dimension is the sums over its four quarters. -/
theorem quarters (f : Fin 8192 → EReal) : ∑ k, f k
    = (((∑ k : Fin 2048, f ⟨k.val, by omega⟩) + ∑ k : Fin 2048, f ⟨2048 + k.val, by omega⟩)
      + ∑ k : Fin 2048, f ⟨4096 + k.val, by omega⟩) + ∑ k : Fin 2048, f ⟨6144 + k.val, by omega⟩ := by
  rw [UpDx.split 6144 2048 rfl f, UpDx.split 4096 2048 rfl, UpDx.split 2048 2048 rfl]

/-- The two blocks that point `t` multiplies. -/
abbrev iA (t : Fin cfg0.N) : Vec Ideal S1024x2048 .bf16 := iblk m c 0 t
abbrev iW (t : Fin cfg0.N) : Vec Ideal S2048x1024 .bf16 := iblk m c 1 t

/-- The part of the inner dimension's sum at row `i`, column `f` that point `t` takes. -/
theorem part (t : Fin cfg0.N) (q r b : ℕ) (hq : t.val % 4 = q) (hr : t.val / 8 = r) (hb : t.val / 4 % 2 = b) (i f : Fin 1024) :
    ∑ k, iA m c t (ix2 i k) * iW m c t (ix2 k f)
      = ∑ k : Fin 2048, aA m c (ix2 ⟨r * 1024 + i.val, by have := lt t; omega⟩ ⟨q * 2048 + k.val, by omega⟩)
          * whole (aDown m c) (ix2 ⟨q * 2048 + k.val, by omega⟩ ⟨b * 1024 + f.val, by omega⟩) := by
  subst hq hr hb
  simp only [blk_0, blk_1]

theorem flushed (t : Fin cfg0.N) (ht : t.val % 4 = 3) : (dats m 0 c).flushed 3 t
    = ((cfg0.win 3).blk t).view.read (Elt Ideal) (prod (aA m c) (whole (aDown m c)) (aX m c)) := by
  have hl := lt t
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have s1 := outsAt0_B m c ⟨t.val - 1, l1⟩ (by dsimp only; omega) (by dsimp only; omega) (by dsimp only; omega)
  have s2 := outsAt0_B m c ⟨t.val - 1 - 1, l2⟩ (by dsimp only; omega) (by dsimp only; omega) (by dsimp only; omega)
  have s3 := outsAt0_A m c ⟨t.val - 1 - 1 - 1, l3⟩ (by dsimp only; omega) (by dsimp only; omega) (by dsimp only; omega)
  dsimp only at s1 s2 s3
  rw [flushed3_C m c t (by omega) (by omega) ht, out_C, s1, sout_B, s2, sout_B, s3, sout_A]
  funext (j : S1024x1024.Idx)
  idx_vars j
  refine (pay4 _ _ _ _).trans (Eq.trans ?_ (read_3 t _ _ _).symm)
  rw [pay3, pay3, pay3, pay2, blk_2]
  rw [part m c t 3 _ _ ht rfl rfl, part m c ⟨t.val - 1, l1⟩ 2 (t.val / 8) (t.val / 4 % 2) (by dsimp only; omega) (by dsimp only; omega) (by dsimp only; omega),
    part m c ⟨t.val - 1 - 1, l2⟩ 1 (t.val / 8) (t.val / 4 % 2) (by dsimp only; omega) (by dsimp only; omega) (by dsimp only; omega),
    part m c ⟨t.val - 1 - 1 - 1, l3⟩ 0 (t.val / 8) (t.val / 4 % 2) (by dsimp only; omega) (by dsimp only; omega) (by dsimp only; omega)]
  unfold prod
  rw [quarters, add_comm]
  simp only [Nat.zero_mul, Nat.zero_add, Nat.one_mul]
  rfl

theorem cover (i : S4096x2048.Idx) : ∃ t : Fin cfg0.N, (cfg0.win 3).flush t = true ∧ i ∈ ((cfg0.win 3).blk t).view.set :=
  (covered_iff3 i).2 ⟨Nat.zero_le _, (i 0).isLt, Nat.zero_le _, (i 1).isLt⟩

theorem arr : (dats m 0 c).arrAt 3 cfg0.N = prod (aA m c) (whole (aDown m c)) (aX m c) :=
  (dats m 0 c).arrAt_eq_of_cover 3 _ (fun t hf => flushed m c t ((flush0_3 t).mp hf)) cover

end Kernel

section Reference

open Cert.Reference4Ideal Cert.Reference4Ideal.Gen Cert.Reference4Ideal.Value

/-- The reference's sum. -/
theorem ref (a : FVec Ideal S4096x8192 .bf16) (w : FVec Ideal S8x1024x2048 .bf16) (x : FVec Ideal S4096x2048 .f32) :
    addf x (Host.dotGeneral (F := Ideal) (φ₁ := .f32) (φ₂ := .f32) dot_S4096x8192_S8192x2048_S4096x2048_1_0_0_1_n_n none
      (extf .f32 a bitsLt_bf16_f32)
      (extf .f32 (shapeCast _ w shapeCasts_S8x1024x2048_S8192x2048) bitsLt_bf16_f32))
      = prod a (whole w) x := by
  funext j
  idx_vars j
  pointwise [prod]

variable (m : (ℓ : Loc nD τ sig) → Buf (Elt Ideal) ℓ) (c : Dev nD)

/-- The reference's result from arguments equal to the kernel's. -/
theorem out (a : FVec Ideal S4096x8192 .bf16) (w : FVec Ideal S8x1024x2048 .bf16) (x : FVec Ideal S4096x2048 .f32)
    (h0 : m ((c.tc : Thread nD τ).loc main_arg0) = a) (h1 : m ((c.tc : Thread nD τ).loc main_arg1) = w)
    (h2 : m ((c.tc : Thread nD τ).loc main_arg2) = x) :
    addf (m ((c.tc : Thread nD τ).loc main_arg2)) (Host.dotGeneral (F := Ideal) (φ₁ := .f32) (φ₂ := .f32)
      dot_S4096x8192_S8192x2048_S4096x2048_1_0_0_1_n_n none
      (extf .f32 (m ((c.tc : Thread nD τ).loc main_arg0)) bitsLt_bf16_f32)
      (extf .f32 (shapeCast _ (m ((c.tc : Thread nD τ).loc main_arg1)) shapeCasts_S8x1024x2048_S8192x2048) bitsLt_bf16_f32))
      = prod a (whole w) x := by
  rw [h0, h1, h2]
  exact ref a w x

end Reference

end Cert.Ffn.Down

end
-- ==== Proof.Ffn.Norm.lean ====
module

public import Idealize.ShloMosaic.Lib.StableHlo.RunRead
public import proofs.«01_k».proof.Proof.Gen.Kernel5Ideal.Value
public import proofs.«01_k».proof.Proof.Gen.Reference5Ideal.Run
public import proofs.«01_k».proof.Proof.Ffn.UpDx

@[expose] public section

set_option maxRecDepth 16384

noncomputable section

/-! The gradient of the normalization: a tile of 512 rows at a time, with the two sums over all rows carried from tile
to tile in the result arrays. -/

namespace Cert.Ffn.Norm

open Idealize.ShloMosaic Idealize.ShloMosaic.TcCoe Idealize.ShloMosaic.Tactic Idealize.SL.Sem

/-- The word of minus a half. -/
abbrev wNegHalf : EReal := Ideal.ofBits .f32 0xBF000000#32

/-- A row's mean square, moved off zero. -/
def msq (x : Fin 2048 → EReal) : EReal := Ideal.div (∑ k, x k * x k) w2048 + wEps

/-- What the mean square's cotangent brings to half the row. -/
def slope (x h g : Fin 2048 → EReal) : EReal :=
  Ideal.div ((∑ k, x k * (h k * g k)) * (wNegHalf * Ideal.div (Ideal.rsqrt (msq x)) (msq x))) w2048

/-- The cotangent of a row, the one that goes around the block added. -/
def rowDx (x h r g : Fin 2048 → EReal) (f : Fin 2048) : EReal :=
  h f * g f * Ideal.rsqrt (msq x) + x f * slope x h g + slope x h g * x f + r f

section Kernel

open Cert.Kernel5Ideal Cert.Kernel5Ideal.Gen Cert.Kernel5Ideal.Value

theorem pay1 (v : Vec Ideal S512x2048 .f32) (i : Fin 512) (f : Fin 2048) : k0_pay1 (F := Ideal) v (ix2 i f) = v (ix2 i f) := by
  pointwise [k0_pay1]

theorem pay2 (v a : Vec Ideal S1x2048 .f32) (f : Fin 2048) : k0_pay2 (F := Ideal) v a (ix2 0 f) = a (ix2 0 f) + v (ix2 0 f) := by
  pointwise [k0_pay2]

theorem pay3 (v a : Vec Ideal S1x2048 .f32) (f : Fin 2048) : k0_pay3 (F := Ideal) v a (ix2 0 f) = a (ix2 0 f) + v (ix2 0 f) := by
  pointwise [k0_pay3]

theorem pay6 (x h : Vec Ideal S512x2048 .f32) (f : Fin 2048) : k0_pay6 (F := Ideal) x h (ix2 0 f)
    = ∑ i, x (ix2 i f) * Ideal.rsqrt (msq fun k => x (ix2 i k)) * h (ix2 i f) := by
  pointwise [k0_pay6, k0_pay5, k0_pay4]
  rfl

theorem pay7 (x h r : Vec Ideal S512x2048 .f32) (g : Vec Ideal S1x2048 .f32) (i : Fin 512) (f : Fin 2048) :
    k0_pay7 (F := Ideal) x h r g (ix2 i f)
      = rowDx (fun k => x (ix2 i k)) (fun k => h (ix2 i k)) (fun k => r (ix2 i k)) (fun k => g (ix2 0 k)) f := by
  pointwise [k0_pay7, k0_pay5, k0_pay4]
  simp only [Fin.sum_univ_one]
  rfl

theorem pay8 (x h r : Vec Ideal S512x2048 .f32) (g : Vec Ideal S1x2048 .f32) (f : Fin 2048) :
    k0_pay8 (F := Ideal) x h r g (ix2 0 f)
      = ∑ i, rowDx (fun k => x (ix2 i k)) (fun k => h (ix2 i k)) (fun k => r (ix2 i k)) (fun k => g (ix2 0 k)) f := by
  pointwise [k0_pay8, pay7]

section
variable (c : Dev nD) (i : grid0.Coords) (arg1 : Memref sig .tc .vmem S512x2048 .f32) (harg1 : arg1.IsWhole)
  (arg2 : Memref sig .tc .vmem S512x2048 .f32) (harg2 : arg2.IsWhole) (arg3 : Memref sig .tc .vmem S512x2048 .f32) (harg3 : arg3.IsWhole)
  (arg4 : Memref sig .tc .vmem S1x2048 .f32) (harg4 : arg4.IsWhole) (arg5 : Memref sig .tc .vmem S512x2048 .f32) (harg5 : arg5.IsWhole)
  (arg6 : Memref sig .tc .vmem S512x2048 .bf16) (harg6 : arg6.IsWhole) (arg7 : Memref sig .tc .vmem S1x2048 .f32) (harg7 : arg7.IsWhole)
  (arg8 : Memref sig .tc .vmem S1x2048 .f32) (harg8 : arg8.IsWhole)
  (x h r : Vec Ideal S512x2048 .f32) (g a b : Vec Ideal S1x2048 .f32)

theorem ld_tile (v : Vec Ideal S512x2048 .f32) :
    View.ld v (Rect.unit ![0, 0] ![512, 2048] inb_S512x2048_S512x2048_0_0) = v :=
  View.ld_unit_zero (by funext a; fin_cases a <;> rfl) _ v

theorem ld_line (v : Vec Ideal S1x2048 .f32) :
    View.ld v (Rect.unit ![0, 0] ![1, 2048] inb_S1x2048_S1x2048_0_0) = v :=
  View.ld_unit_zero (by funext a; fin_cases a <;> rfl) _ v

/-! The first tile's point. -/

section
variable (hc0 : cond0_0 i) (hc1 : ¬cond0_1 i) (hc2 : cond0_2 i) (hc3 : ¬cond0_3 i)

theorem out_A_4 :
    out0_A_4 (F := Ideal) c i arg1 harg1 arg2 harg2 arg3 harg3 arg4 harg4 arg5 harg5 arg6 harg6 arg7 harg7 arg8 harg8 hc0 hc1 hc2 hc3 x h r g
      = k0_pay7 x h r g := by
  unfold out0_A_4
  rw [View.read_writes_eq_canon _ _ _ (cover0_A_4 (F := Ideal) c i arg1 harg1 arg2 harg2 arg3 harg3 arg4 harg4 arg5 harg5 arg6 harg6 arg7 harg7 arg8 harg8 hc0 hc1 hc2 hc3 x h r g)]
  unfold kernelRun0_A
  dsimp only
  sl_unfold_words
  simp only [View.readAt_eq_ld, harg1.read_unread, harg2.read_unread, harg3.read_unread, harg4.read_unread, ld_tile, ld_line]
  exact View.canon_unit_zero (by funext a; fin_cases a <;> rfl) _ _

theorem out_A_5 :
    out0_A_5 (F := Ideal) c i arg1 harg1 arg2 harg2 arg3 harg3 arg4 harg4 arg5 harg5 arg6 harg6 arg7 harg7 arg8 harg8 hc0 hc1 hc2 hc3 x h r g
      = k0_pay1 (k0_pay7 x h r g) := by
  unfold out0_A_5
  rw [View.read_writes_eq_canon _ _ _ (cover0_A_5 (F := Ideal) c i arg1 harg1 arg2 harg2 arg3 harg3 arg4 harg4 arg5 harg5 arg6 harg6 arg7 harg7 arg8 harg8 hc0 hc1 hc2 hc3 x h r g)]
  unfold kernelRun0_A
  dsimp only
  sl_unfold_words
  simp only [View.readAt_eq_ld, harg1.read_unread, harg2.read_unread, harg3.read_unread, harg4.read_unread, ld_tile, ld_line]
  exact View.canon_unit_zero (by funext a; fin_cases a <;> rfl) _ _

theorem out_A_6 :
    out0_A_6 (F := Ideal) c i arg1 harg1 arg2 harg2 arg3 harg3 arg4 harg4 arg5 harg5 arg6 harg6 arg7 harg7 arg8 harg8 hc0 hc1 hc2 hc3 x h r g
      = k0_pay6 x h := by
  unfold out0_A_6
  rw [View.read_writes_eq_canon _ _ _ (cover0_A_6 (F := Ideal) c i arg1 harg1 arg2 harg2 arg3 harg3 arg4 harg4 arg5 harg5 arg6 harg6 arg7 harg7 arg8 harg8 hc0 hc1 hc2 hc3 x h r g)]
  unfold kernelRun0_A
  dsimp only
  sl_unfold_words
  simp only [View.readAt_eq_ld, harg1.read_unread, harg2.read_unread, ld_tile]
  exact View.canon_unit_zero (by funext a; fin_cases a <;> rfl) _ _

theorem out_A_7 :
    out0_A_7 (F := Ideal) c i arg1 harg1 arg2 harg2 arg3 harg3 arg4 harg4 arg5 harg5 arg6 harg6 arg7 harg7 arg8 harg8 hc0 hc1 hc2 hc3 x h r g
      = k0_pay8 x h r g := by
  unfold out0_A_7
  rw [View.read_writes_eq_canon _ _ _ (cover0_A_7 (F := Ideal) c i arg1 harg1 arg2 harg2 arg3 harg3 arg4 harg4 arg5 harg5 arg6 harg6 arg7 harg7 arg8 harg8 hc0 hc1 hc2 hc3 x h r g)]
  unfold kernelRun0_A
  dsimp only
  sl_unfold_words
  simp only [View.readAt_eq_ld, harg1.read_unread, harg2.read_unread, harg3.read_unread, harg4.read_unread, ld_tile, ld_line]
  exact View.canon_unit_zero (by funext a; fin_cases a <;> rfl) _ _

end

/-! A later tile's point, after a point that left `a` and `b` in the carried results. -/

section
variable (hc0 : ¬cond0_0 i) (hc1 : cond0_1 i) (hc2 : ¬cond0_2 i) (hc3 : cond0_3 i)

theorem out_B_4 :
    out0_B_4 (F := Ideal) c i arg1 harg1 arg2 harg2 arg3 harg3 arg4 harg4 arg5 harg5 arg6 harg6 arg7 harg7 arg8 harg8 hc0 hc1 hc2 hc3 x h r g a b
      = k0_pay7 x h r g := by
  unfold out0_B_4
  rw [View.read_writes_eq_canon _ _ _ (cover0_B_4 (F := Ideal) c i arg1 harg1 arg2 harg2 arg3 harg3 arg4 harg4 arg5 harg5 arg6 harg6 arg7 harg7 arg8 harg8 hc0 hc1 hc2 hc3 x h r g a b)]
  unfold kernelRun0_B
  dsimp only
  sl_unfold_words
  simp only [View.readAt_eq_ld, harg1.read_unread, harg2.read_unread, harg3.read_unread, harg4.read_unread, ld_tile, ld_line]
  exact View.canon_unit_zero (by funext a; fin_cases a <;> rfl) _ _

theorem out_B_5 :
    out0_B_5 (F := Ideal) c i arg1 harg1 arg2 harg2 arg3 harg3 arg4 harg4 arg5 harg5 arg6 harg6 arg7 harg7 arg8 harg8 hc0 hc1 hc2 hc3 x h r g a b
      = k0_pay1 (k0_pay7 x h r g) := by
  unfold out0_B_5
  rw [View.read_writes_eq_canon _ _ _ (cover0_B_5 (F := Ideal) c i arg1 harg1 arg2 harg2 arg3 harg3 arg4 harg4 arg5 harg5 arg6 harg6 arg7 harg7 arg8 harg8 hc0 hc1 hc2 hc3 x h r g a b)]
  unfold kernelRun0_B
  dsimp only
  sl_unfold_words
  simp only [View.readAt_eq_ld, harg1.read_unread, harg2.read_unread, harg3.read_unread, harg4.read_unread, ld_tile, ld_line]
  exact View.canon_unit_zero (by funext a; fin_cases a <;> rfl) _ _

theorem out_B_6 :
    out0_B_6 (F := Ideal) c i arg1 harg1 arg2 harg2 arg3 harg3 arg4 harg4 arg5 harg5 arg6 harg6 arg7 harg7 arg8 harg8 hc0 hc1 hc2 hc3 x h r g a b
      = k0_pay2 (k0_pay6 x h) a := by
  unfold out0_B_6
  rw [View.read_writes_eq_canon _ _ _ (cover0_B_6 (F := Ideal) c i arg1 harg1 arg2 harg2 arg3 harg3 arg4 harg4 arg5 harg5 arg6 harg6 arg7 harg7 arg8 harg8 hc0 hc1 hc2 hc3 x h r g a b)]
  unfold kernelRun0_B
  dsimp only
  sl_unfold_words
  simp only [View.readAt_eq_ld, harg1.read_unread, harg2.read_unread, harg7.read_unread, ld_tile, ld_line]
  exact View.canon_unit_zero (by funext a; fin_cases a <;> rfl) _ _

theorem out_B_7 :
    out0_B_7 (F := Ideal) c i arg1 harg1 arg2 harg2 arg3 harg3 arg4 harg4 arg5 harg5 arg6 harg6 arg7 harg7 arg8 harg8 hc0 hc1 hc2 hc3 x h r g a b
      = k0_pay3 (k0_pay8 x h r g) b := by
  unfold out0_B_7
  rw [View.read_writes_eq_canon _ _ _ (cover0_B_7 (F := Ideal) c i arg1 harg1 arg2 harg2 arg3 harg3 arg4 harg4 arg5 harg5 arg6 harg6 arg7 harg7 arg8 harg8 hc0 hc1 hc2 hc3 x h r g a b)]
  unfold kernelRun0_B
  dsimp only
  sl_unfold_words
  simp only [View.readAt_eq_ld, harg1.read_unread, harg2.read_unread, harg3.read_unread, harg4.read_unread, harg8.read_unread, ld_tile, ld_line]
  exact View.canon_unit_zero (by funext a; fin_cases a <;> rfl) _ _

end

end

/-! Point `t` takes the rows from `512 * t`. -/

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = t.val ∧ win0_4.index t 1 = 0 :=
  (by decide +kernel : ∀ t : Fin grid0.N, win0_4.index t 0 = t.val ∧ win0_4.index t 1 = 0)
theorem idx_5 : ∀ t : Fin cfg0.N, win0_5.index t 0 = t.val ∧ win0_5.index t 1 = 0 :=
  (by decide +kernel : ∀ t : Fin grid0.N, win0_5.index t 0 = t.val ∧ win0_5.index t 1 = 0)
theorem idx_6 : ∀ t : Fin cfg0.N, win0_6.index t 0 = 0 ∧ win0_6.index t 1 = 0 :=
  (by decide +kernel : ∀ t : Fin grid0.N, win0_6.index t 0 = 0 ∧ win0_6.index t 1 = 0)
theorem idx_7 : ∀ t : Fin cfg0.N, win0_7.index t 0 = 0 ∧ win0_7.index t 1 = 0 :=
  (by decide +kernel : ∀ t : Fin grid0.N, win0_7.index t 0 = 0 ∧ win0_7.index t 1 = 0)

theorem lt (t : Fin cfg0.N) : t.val < 8 := lt_of_lt_of_eq t.isLt N_0

variable (m : (ℓ : Loc nD τ sig) → Buf (Elt Ideal) ℓ) (c : Dev nD)

/-- The arguments: the rows, the gains, the cotangent of the normalized rows, and the one that goes around. -/
abbrev aX : Vec Ideal S4096x2048 .f32 := m ((c.tc : Thread nD τ).loc main_arg0)
abbrev aG : Vec Ideal S2048 .f32 := m ((c.tc : Thread nD τ).loc main_arg1)
abbrev aH : Vec Ideal S4096x2048 .f32 := m ((c.tc : Thread nD τ).loc main_arg2)
abbrev aY : Vec Ideal S4096x2048 .f32 := m ((c.tc : Thread nD τ).loc main_arg3)

theorem V_v0 (f : Fin 2048) : (V m c main_v0 : Vec Ideal S1x2048 .f32) (ix2 0 f) = aG m c (ix1 f) := by
  have h : V m c main_v0 = shapeCast S1x2048 (aG m c) shapeCasts_S2048_S1x2048 := by
    show StableHlo.after hostOps0 (fun b => m (c, b)) (Proc.devRef .tc main_v0) = _
    after_reads_simp
    rfl
  rw [h]
  pointwise

theorem blk_0 (t : Fin cfg0.N) (i : Fin 512) (k : Fin 2048) : (iblk m c 0 t : Vec Ideal S512x2048 .f32) (ix2 i k)
    = aX m c (ix2 ⟨t.val * 512 + i.val, by have := lt t; omega⟩ k) := by
  unfold iblk
  rw [View.read_apply]
  have h := idx_0 t
  refine (congrFun (V_main_arg0 m c) _).trans (at2 (aX m c) _ _ _ ?_ ?_)
  · show win0_0.index t 0 * 512 + 1 * i.val = t.val * 512 + i.val; omega
  · show win0_0.index t 1 * 2048 + 1 * k.val = k.val; omega

theorem blk_1 (t : Fin cfg0.N) (i : Fin 512) (k : Fin 2048) : (iblk m c 1 t : Vec Ideal S512x2048 .f32) (ix2 i k)
    = aH m c (ix2 ⟨t.val * 512 + i.val, by have := lt t; omega⟩ k) := by
  unfold iblk
  rw [View.read_apply]
  have h := idx_1 t
  refine (congrFun (V_main_arg2 m c) _).trans (at2 (aH m c) _ _ _ ?_ ?_)
  · show win0_1.index t 0 * 512 + 1 * i.val = t.val * 512 + i.val; omega
  · show win0_1.index t 1 * 2048 + 1 * k.val = k.val; omega

theorem blk_2 (t : Fin cfg0.N) (i : Fin 512) (k : Fin 2048) : (iblk m c 2 t : Vec Ideal S512x2048 .f32) (ix2 i k)
    = aY m c (ix2 ⟨t.val * 512 + i.val, by have := lt t; omega⟩ k) := by
  unfold iblk
  rw [View.read_apply]
  have h := idx_2 t
  refine (congrFun (V_main_arg3 m c) _).trans (at2 (aY m c) _ _ _ ?_ ?_)
  · show win0_2.index t 0 * 512 + 1 * i.val = t.val * 512 + i.val; omega
  · show win0_2.index t 1 * 2048 + 1 * k.val = k.val; omega

theorem blk_3 (t : Fin cfg0.N) (k : Fin 2048) : (iblk m c 3 t : Vec Ideal S1x2048 .f32) (ix2 0 k) = aG m c (ix1 k) := by
  unfold iblk
  rw [View.read_apply]
  have h := idx_3 t
  refine (at2 (V m c main_v0 : Vec Ideal S1x2048 .f32) _ 0 k ?_ ?_).trans (V_v0 m c k)
  · show win0_3.index t 0 * 1 + 1 * 0 = 0; omega
  · show win0_3.index t 1 * 2048 + 1 * k.val = k.val; omega

/-! The results as whole arrays. -/

/-- The rows' cotangent. -/
def dx (x : S4096x2048.Idx → EReal) (g : S2048.Idx → EReal) (h r : S4096x2048.Idx → EReal) : S4096x2048.Idx → EReal := fun j =>
  rowDx (fun k => x (ix2 (j 0) k)) (fun k => h (ix2 (j 0) k)) (fun k => r (ix2 (j 0) k)) (fun k => g (ix1 k)) (j 1)

/-- The gains' gradient. -/
def dg (x h : S4096x2048.Idx → EReal) : S1x2048.Idx → EReal := fun j =>
  ∑ i : Fin 4096, x (ix2 i (j 1)) * Ideal.rsqrt (msq fun k => x (ix2 i k)) * h (ix2 i (j 1))

/-- An array's sum over its rows. -/
def colSum (d : S4096x2048.Idx → EReal) : S1x2048.Idx → EReal := fun j => ∑ i : Fin 4096, d (ix2 i (j 1))

/-- What a point stores of the rows' cotangent. -/
theorem tile (t : Fin cfg0.N) (i : Fin 512) (f : Fin 2048) : k0_pay7 (F := Ideal) (iblk m c 0 t) (iblk m c 1 t) (iblk m c 2 t) (iblk m c 3 t) (ix2 i f)
    = dx (aX m c) (aG m c) (aH m c) (aY m c) (ix2 ⟨t.val * 512 + i.val, by have := lt t; omega⟩ f) := by
  rw [pay7]
  simp only [blk_0, blk_1, blk_2, blk_3]
  rfl

/-- What a point adds to the two carried sums. -/
theorem tile_dg (t : Fin cfg0.N) (f : Fin 2048) : k0_pay6 (F := Ideal) (iblk m c 0 t) (iblk m c 1 t) (ix2 0 f)
    = ∑ i : Fin 512, aX m c (ix2 ⟨t.val * 512 + i.val, by have := lt t; omega⟩ f)
        * Ideal.rsqrt (msq fun k => aX m c (ix2 ⟨t.val * 512 + i.val, by have := lt t; omega⟩ k))
        * aH m c (ix2 ⟨t.val * 512 + i.val, by have := lt t; omega⟩ f) := by
  rw [pay6]
  simp only [blk_0, blk_1]

theorem tile_sum (t : Fin cfg0.N) (f : Fin 2048) :
    k0_pay8 (F := Ideal) (iblk m c 0 t) (iblk m c 1 t) (iblk m c 2 t) (iblk m c 3 t) (ix2 0 f)
      = ∑ i : Fin 512, dx (aX m c) (aG m c) (aH m c) (aY m c) (ix2 ⟨t.val * 512 + i.val, by have := lt t; omega⟩ f) := by
  rw [pay8]
  simp only [blk_0, blk_1, blk_2, blk_3]
  rfl

/-- A sum over all rows built tile by tile. -/
theorem carried (f : Fin 4096 → EReal) (a : (n : ℕ) → n < 8 → EReal)
    (h0 : a 0 (by omega) = ∑ i : Fin 512, f ⟨0 * 512 + i.val, by omega⟩)
    (hs : ∀ n (h : n + 1 < 8), a (n + 1) h = a n (by omega) + ∑ i : Fin 512, f ⟨(n + 1) * 512 + i.val, by omega⟩) :
    a 7 (by omega) = ∑ k, f k := by
  rw [UpDx.split 3584 512 rfl f, UpDx.split 3072 512 rfl, UpDx.split 2560 512 rfl, UpDx.split 2048 512 rfl,
    UpDx.split 1536 512 rfl, UpDx.split 1024 512 rfl, UpDx.split 512 512 rfl,
    hs 6, hs 5, hs 4, hs 3, hs 2, hs 1, hs 0, h0]
  simp only [Nat.zero_mul, Nat.zero_add, Nat.one_mul]

/-- What point `n` leaves in the two carried results, at column `f`. -/
def at6 (f : Fin 2048) (n : ℕ) (h : n < 8) : EReal := (outsAt0 m c n (lt_of_lt_of_eq h N_0.symm)).2.2.1 (ix2 0 f)
def at7 (f : Fin 2048) (n : ℕ) (h : n < 8) : EReal := (outsAt0 m c n (lt_of_lt_of_eq h N_0.symm)).2.2.2 (ix2 0 f)

theorem at6_zero (f : Fin 2048) : at6 m c f 0 (by omega) = k0_pay6 (F := Ideal) (iblk m c 0 ⟨0, lt_of_lt_of_eq (by omega) N_0.symm⟩)
    (iblk m c 1 ⟨0, lt_of_lt_of_eq (by omega) N_0.symm⟩) (ix2 0 f) := by
  have e := outsAt0_A m c ⟨0, lt_of_lt_of_eq (by omega) N_0.symm⟩ rfl (by simp) rfl (by simp)
  dsimp only at e
  unfold at6
  rw [e, out_A_6]

theorem at6_succ (f : Fin 2048) (n : ℕ) (h : n + 1 < 8) : at6 m c f (n + 1) h
    = at6 m c f n (by omega) + k0_pay6 (F := Ideal) (iblk m c 0 ⟨n + 1, lt_of_lt_of_eq h N_0.symm⟩)
        (iblk m c 1 ⟨n + 1, lt_of_lt_of_eq h N_0.symm⟩) (ix2 0 f) := by
  have e := outsAt0_B m c ⟨n + 1, lt_of_lt_of_eq h N_0.symm⟩ (by dsimp only; omega) (by dsimp only; omega) (by dsimp only; omega) (by dsimp only; omega)
  dsimp only at e
  unfold at6
  rw [e, out_B_6]
  exact pay2 _ _ _

theorem at7_zero (f : Fin 2048) : at7 m c f 0 (by omega) = k0_pay8 (F := Ideal) (iblk m c 0 ⟨0, lt_of_lt_of_eq (by omega) N_0.symm⟩)
    (iblk m c 1 ⟨0, lt_of_lt_of_eq (by omega) N_0.symm⟩) (iblk m c 2 ⟨0, lt_of_lt_of_eq (by omega) N_0.symm⟩)
    (iblk m c 3 ⟨0, lt_of_lt_of_eq (by omega) N_0.symm⟩) (ix2 0 f) := by
  have e := outsAt0_A m c ⟨0, lt_of_lt_of_eq (by omega) N_0.symm⟩ rfl (by simp) rfl (by simp)
  dsimp only at e
  unfold at7
  rw [e, out_A_7]

theorem at7_succ (f : Fin 2048) (n : ℕ) (h : n + 1 < 8) : at7 m c f (n + 1) h
    = at7 m c f n (by omega) + k0_pay8 (F := Ideal) (iblk m c 0 ⟨n + 1, lt_of_lt_of_eq h N_0.symm⟩)
        (iblk m c 1 ⟨n + 1, lt_of_lt_of_eq h N_0.symm⟩) (iblk m c 2 ⟨n + 1, lt_of_lt_of_eq h N_0.symm⟩)
        (iblk m c 3 ⟨n + 1, lt_of_lt_of_eq h N_0.symm⟩) (ix2 0 f) := by
  have e := outsAt0_B m c ⟨n + 1, lt_of_lt_of_eq h N_0.symm⟩ (by dsimp only; omega) (by dsimp only; omega) (by dsimp only; omega) (by dsimp only; omega)
  dsimp only at e
  unfold at7
  rw [e, out_B_7]
  exact pay3 _ _ _

theorem sum_6 (f : Fin 2048) (n : ℕ) (hn : n = 7) (h : n < 8) : at6 m c f n h = dg (aX m c) (aH m c) (ix2 0 f) := by
  subst hn
  have e := carried (fun i => aX m c (ix2 i f) * Ideal.rsqrt (msq fun k => aX m c (ix2 i k)) * aH m c (ix2 i f))
    (at6 m c f) ((at6_zero m c f).trans (tile_dg m c _ f)) fun n h => by rw [at6_succ, tile_dg]
  exact e

theorem sum_7 (f : Fin 2048) (n : ℕ) (hn : n = 7) (h : n < 8) : at7 m c f n h
    = colSum (dx (aX m c) (aG m c) (aH m c) (aY m c)) (ix2 0 f) := by
  subst hn
  have e := carried (fun i => dx (aX m c) (aG m c) (aH m c) (aY m c) (ix2 i f))
    (at7 m c f) ((at7_zero m c f).trans (tile_sum m c _ f)) fun n h => by rw [at7_succ, tile_sum]
  exact e

theorem read_4 (t : Fin cfg0.N) (G : Vec Ideal S4096x2048 .f32) (i : Fin 512) (f : Fin 2048) :
    ((cfg0.win 4).blk t).view.read (Elt Ideal) G (ix2 i f) = G (ix2 ⟨t.val * 512 + i.val, by have := lt t; omega⟩ f) := by
  rw [View.read_apply]
  have h := idx_4 t
  refine at2 G _ _ _ ?_ ?_
  · show win0_4.index t 0 * 512 + 1 * i.val = t.val * 512 + i.val; omega
  · show win0_4.index t 1 * 2048 + 1 * f.val = f.val; omega

theorem read_5 (t : Fin cfg0.N) (G : Vec Ideal S4096x2048 .bf16) (i : Fin 512) (f : Fin 2048) :
    ((cfg0.win 5).blk t).view.read (Elt Ideal) G (ix2 i f) = G (ix2 ⟨t.val * 512 + i.val, by have := lt t; omega⟩ f) := by
  rw [View.read_apply]
  have h := idx_5 t
  refine at2 G _ _ _ ?_ ?_
  · show win0_5.index t 0 * 512 + 1 * i.val = t.val * 512 + i.val; omega
  · show win0_5.index t 1 * 2048 + 1 * f.val = f.val; omega

theorem read_6 (t : Fin cfg0.N) (G : Vec Ideal S1x2048 .f32) (f : Fin 2048) :
    ((cfg0.win 6).blk t).view.read (Elt Ideal) G (ix2 0 f) = G (ix2 0 f) := by
  rw [View.read_apply]
  have h := idx_6 t
  refine at2 G _ _ _ ?_ ?_
  · show win0_6.index t 0 * 1 + 1 * 0 = 0; omega
  · show win0_6.index t 1 * 2048 + 1 * f.val = f.val; omega

theorem read_7 (t : Fin cfg0.N) (G : Vec Ideal S1x2048 .f32) (f : Fin 2048) :
    ((cfg0.win 7).blk t).view.read (Elt Ideal) G (ix2 0 f) = G (ix2 0 f) := by
  rw [View.read_apply]
  have h := idx_7 t
  refine at2 G _ _ _ ?_ ?_
  · show win0_7.index t 0 * 1 + 1 * 0 = 0; omega
  · show win0_7.index t 1 * 2048 + 1 * f.val = f.val; omega

theorem flushed_4 (t : Fin cfg0.N) : (dats m 0 c).flushed 4 t
    = ((cfg0.win 4).blk t).view.read (Elt Ideal) (dx (aX m c) (aG m c) (aH m c) (aY m c)) := by
  have hl := lt t
  have e : (dats m 0 c).flushed 4 t = k0_pay7 (F := Ideal) (iblk m c 0 t) (iblk m c 1 t) (iblk m c 2 t) (iblk m c 3 t) := by
    by_cases h : t.val = 0
    · rw [flushed4_A m c t (by omega) (by omega) (by omega) (by omega), out_A_4]; rfl
    · rw [flushed4_B m c t (by omega) (by omega) (by omega) (by omega), out_B_4]; rfl
  rw [e]
  funext (j : S512x2048.Idx)
  idx_vars j
  exact (tile m c t _ _).trans (read_4 t _ _ _).symm

theorem flushed_5 (t : Fin cfg0.N) : (dats m 0 c).flushed 5 t
    = ((cfg0.win 5).blk t).view.read (Elt Ideal) (dx (aX m c) (aG m c) (aH m c) (aY m c)) := by
  have hl := lt t
  have e : (dats m 0 c).flushed 5 t = k0_pay1 (F := Ideal) (k0_pay7 (iblk m c 0 t) (iblk m c 1 t) (iblk m c 2 t) (iblk m c 3 t)) := by
    by_cases h : t.val = 0
    · rw [flushed5_A m c t (by omega) (by omega) (by omega) (by omega), out_A_5]; rfl
    · rw [flushed5_B m c t (by omega) (by omega) (by omega) (by omega), out_B_5]; rfl
  rw [e]
  funext (j : S512x2048.Idx)
  idx_vars j
  exact (pay1 _ _ _).trans ((tile m c t _ _).trans (read_5 t _ _ _).symm)

theorem flushed_6 (t : Fin cfg0.N) (ht : t.val % 8 = 7) : (dats m 0 c).flushed 6 t
    = ((cfg0.win 6).blk t).view.read (Elt Ideal) (dg (aX m c) (aH m c)) := by
  have hl := lt t
  have hv : ∀ f, (outsAt0 m c t.val t.isLt).2.2.1 (ix2 0 f) = _ := fun f => sum_6 m c f t.val (by omega) hl
  rw [flushed6]
  generalize (outsAt0 m c t.val t.isLt).2.2.1 = v at hv ⊢
  funext (j : S1x2048.Idx)
  idx_vars j
  obtain rfl := Subsingleton.elim j0 0
  exact (hv _).trans (read_6 t _ _).symm

theorem flushed_7 (t : Fin cfg0.N) (ht : t.val % 8 = 7) : (dats m 0 c).flushed 7 t
    = ((cfg0.win 7).blk t).view.read (Elt Ideal) (colSum (dx (aX m c) (aG m c) (aH m c) (aY m c))) := by
  have hl := lt t
  have hv : ∀ f, (outsAt0 m c t.val t.isLt).2.2.2 (ix2 0 f) = _ := fun f => sum_7 m c f t.val (by omega) hl
  rw [flushed7]
  generalize (outsAt0 m c t.val t.isLt).2.2.2 = v at hv ⊢
  funext (j : S1x2048.Idx)
  idx_vars j
  obtain rfl := Subsingleton.elim j0 0
  exact (hv _).trans (read_7 t _ _).symm

theorem cover_4 (i : S4096x2048.Idx) : ∃ t : Fin cfg0.N, (cfg0.win 4).flush t = true ∧ i ∈ ((cfg0.win 4).blk t).view.set := by
  have h0 : (i 0 : Nat) < 4096 := (i 0).isLt
  have h1 : (i 1 : Nat) < 2048 := (i 1).isLt
  have hN : cfg0.N = 8 := N_0
  have ht : (i 0 : Nat) / 512 < cfg0.N := by omega
  refine ⟨⟨_, ht⟩, flush0_4 _, ?_⟩
  show i ∈ ((View.whole main_v1_0).slice (win0_4.rect ⟨_, ht⟩)).set
  rw [View.set_slice_whole, Rect.mem_set_unit]
  have h := idx_4 ⟨_, ht⟩
  dsimp only at h
  intro a
  match a with
  | ⟨0, _⟩ => show win0_4.index _ 0 * 512 ≤ (i 0 : Nat) ∧ (i 0 : Nat) < win0_4.index _ 0 * 512 + 512; rw [h.1]; omega
  | ⟨1, _⟩ => show win0_4.index _ 1 * 2048 ≤ (i 1 : Nat) ∧ (i 1 : Nat) < win0_4.index _ 1 * 2048 + 2048; rw [h.2]; omega

theorem cover_5 (i : S4096x2048.Idx) : ∃ t : Fin cfg0.N, (cfg0.win 5).flush t = true ∧ i ∈ ((cfg0.win 5).blk t).view.set := by
  have h0 : (i 0 : Nat) < 4096 := (i 0).isLt
  have h1 : (i 1 : Nat) < 2048 := (i 1).isLt
  have hN : cfg0.N = 8 := N_0
  have ht : (i 0 : Nat) / 512 < cfg0.N := by omega
  refine ⟨⟨_, ht⟩, flush0_5 _, ?_⟩
  show i ∈ ((View.whole main_v1_1).slice (win0_5.rect ⟨_, ht⟩)).set
  rw [View.set_slice_whole, Rect.mem_set_unit]
  have h := idx_5 ⟨_, ht⟩
  dsimp only at h
  intro a
  match a with
  | ⟨0, _⟩ => show win0_5.index _ 0 * 512 ≤ (i 0 : Nat) ∧ (i 0 : Nat) < win0_5.index _ 0 * 512 + 512; rw [h.1]; omega
  | ⟨1, _⟩ => show win0_5.index _ 1 * 2048 ≤ (i 1 : Nat) ∧ (i 1 : Nat) < win0_5.index _ 1 * 2048 + 2048; rw [h.2]; omega

theorem cover_6 (i : S1x2048.Idx) : ∃ t : Fin cfg0.N, (cfg0.win 6).flush t = true ∧ i ∈ ((cfg0.win 6).blk t).view.set := by
  have h0 : (i 0 : Nat) < 1 := (i 0).isLt
  have h1 : (i 1 : Nat) < 2048 := (i 1).isLt
  have ht : 7 < cfg0.N := lt_of_lt_of_eq (by omega) N_0.symm
  refine ⟨⟨7, ht⟩, (flush0_6 _).mpr rfl, ?_⟩
  show i ∈ ((View.whole main_v1_2).slice (win0_6.rect ⟨7, ht⟩)).set
  rw [View.set_slice_whole, Rect.mem_set_unit]
  have h := idx_6 ⟨7, ht⟩
  intro a
  match a with
  | ⟨0, _⟩ => show win0_6.index _ 0 * 1 ≤ (i 0 : Nat) ∧ (i 0 : Nat) < win0_6.index _ 0 * 1 + 1; rw [h.1]; omega
  | ⟨1, _⟩ => show win0_6.index _ 1 * 2048 ≤ (i 1 : Nat) ∧ (i 1 : Nat) < win0_6.index _ 1 * 2048 + 2048; rw [h.2]; omega

theorem cover_7 (i : S1x2048.Idx) : ∃ t : Fin cfg0.N, (cfg0.win 7).flush t = true ∧ i ∈ ((cfg0.win 7).blk t).view.set := by
  have h0 : (i 0 : Nat) < 1 := (i 0).isLt
  have h1 : (i 1 : Nat) < 2048 := (i 1).isLt
  have ht : 7 < cfg0.N := lt_of_lt_of_eq (by omega) N_0.symm
  refine ⟨⟨7, ht⟩, (flush0_7 _).mpr rfl, ?_⟩
  show i ∈ ((View.whole main_v1_3).slice (win0_7.rect ⟨7, ht⟩)).set
  rw [View.set_slice_whole, Rect.mem_set_unit]
  have h := idx_7 ⟨7, ht⟩
  intro a
  match a with
  | ⟨0, _⟩ => show win0_7.index _ 0 * 1 ≤ (i 0 : Nat) ∧ (i 0 : Nat) < win0_7.index _ 0 * 1 + 1; rw [h.1]; omega
  | ⟨1, _⟩ => show win0_7.index _ 1 * 2048 ≤ (i 1 : Nat) ∧ (i 1 : Nat) < win0_7.index _ 1 * 2048 + 2048; rw [h.2]; omega

theorem arr_4 : (dats m 0 c).arrAt 4 cfg0.N = dx (aX m c) (aG m c) (aH m c) (aY m c) :=
  (dats m 0 c).arrAt_eq_of_cover 4 _ (fun t _ => flushed_4 m c t) cover_4
theorem arr_5 : (dats m 0 c).arrAt 5 cfg0.N = dx (aX m c) (aG m c) (aH m c) (aY m c) :=
  (dats m 0 c).arrAt_eq_of_cover 5 _ (fun t _ => flushed_5 m c t) cover_5
theorem arr_6 : (dats m 0 c).arrAt 6 cfg0.N = dg (aX m c) (aH m c) :=
  (dats m 0 c).arrAt_eq_of_cover 6 _ (fun t hf => flushed_6 m c t ((flush0_6 t).mp hf)) cover_6
theorem arr_7 : (dats m 0 c).arrAt 7 cfg0.N = colSum (dx (aX m c) (aG m c) (aH m c) (aY m c)) :=
  (dats m 0 c).arrAt_eq_of_cover 7 _ (fun t hf => flushed_7 m c t ((flush0_7 t).mp hf)) cover_7

end Kernel

section Reference

open Cert.Reference5Ideal Cert.Reference5Ideal.Gen Cert.Reference5Ideal.Value

variable (x : FVec Ideal S4096x2048 .f32) (g : FVec Ideal S2048 .f32) (h r : FVec Ideal S4096x2048 .f32)

/-- The pieces of the reference: mean squares, their inverse roots, the scaled cotangent, and the slopes. -/
def refMs : FVec Ideal S4096x1 .f32 :=
  addf (F := Ideal) (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))
def refRs : FVec Ideal S4096x1 .f32 := Host.rsqrt (refMs x)
def refHg : FVec Ideal S4096x2048 .f32 :=
  mulf (F := Ideal) h (broadcastInDim S4096x2048 ![0, 1] bcast_S1x2048_S4096x2048_0_1 (broadcastInDim S1x2048 ![1] bcast_S2048_S1x2048_1 g))
def refSlope : FVec Ideal S4096x2048 .f32 :=
  broadcastInDim S4096x2048 ![0] bcast_S4096_S4096x2048_0 (Host.reduceAdd (F := Ideal) (Host.divf (mulf (shapeCast _ (Host.reduceAdd (mulf x (refHg g h)) (constant S_ .f32 0x00000000#32) reducesTo_S4096x2048_S4096_d1 h_S_) shapeCasts_S4096_S4096x1) (mulf (broadcastInDim S4096x1 ![] bcast_S_S4096x1 (constant S_ .f32 0xBF000000#32)) (Host.divf (refRs x) (refMs x)))) (broadcastInDim S4096x1 ![] bcast_S_S4096x1 (constant S_ .f32 0x45000000#32))) (constant S_ .f32 0x00000000#32) reducesTo_S4096x1_S4096_d1 h_S_)

/-- The reference's three arrays. -/
def refDx : FVec Ideal S4096x2048 .f32 :=
  addf (F := Ideal) (addf (addf (mulf (refHg g h) (broadcastInDim S4096x2048 ![0, 1] bcast_S4096x1_S4096x2048_0_1 (refRs x)))
    (mulf x (refSlope x g h))) (mulf (refSlope x g h) x)) r
def refDg : FVec Ideal S1x2048 .f32 :=
  shapeCast _ (Host.reduceAdd (F := Ideal) (shapeCast _ (Host.reduceAdd (mulf (mulf x (broadcastInDim S4096x2048 ![0, 1] bcast_S4096x1_S4096x2048_0_1 (refRs x))) h) (constant S_ .f32 0x00000000#32) reducesTo_S4096x2048_S2048_d0 h_S_) shapeCasts_S2048_S1x2048) (constant S_ .f32 0x00000000#32) reducesTo_S1x2048_S2048_d0 h_S_) shapeCasts_S2048_S1x2048
def refSum : FVec Ideal S1x2048 .f32 :=
  broadcastInDim S1x2048 ![1] bcast_S2048_S1x2048_1 (Host.reduceAdd (F := Ideal) (refDx x g h r) (constant S_ .f32 0x00000000#32) reducesTo_S4096x2048_S2048_d0 h_S_)

theorem refMs_eq (i : Fin 4096) (u : Fin 1) : refMs x (ix2 i u) = msq fun k => x (ix2 i k) := by
  pointwise [refMs]
  rfl

theorem refRs_eq (i : Fin 4096) (u : Fin 1) : refRs x (ix2 i u) = Ideal.rsqrt (msq fun k => x (ix2 i k)) := by
  pointwise [refRs, refMs_eq]

theorem refHg_eq (i : Fin 4096) (f : Fin 2048) : refHg g h (ix2 i f) = h (ix2 i f) * g (ix1 f) := by
  pointwise [refHg]

theorem refSlope_eq (i : Fin 4096) (f : Fin 2048) : refSlope x g h (ix2 i f)
    = slope (fun k => x (ix2 i k)) (fun k => h (ix2 i k)) fun k => g (ix1 k) := by
  pointwise [refSlope, refMs_eq, refRs_eq, refHg_eq]
  rw [Fin.sum_univ_one]
  rfl

theorem refDx_eq : refDx x g h r = dx x g h r := by
  funext j
  idx_vars j
  pointwise [refDx, refSlope_eq, refRs_eq, refHg_eq]
  rfl

theorem refDg_eq : refDg x h = dg x h := by
  funext j
  idx_vars j
  pointwise [refDg, refRs_eq]
  rw [Fin.sum_univ_one]
  rfl

theorem refSum_eq : refSum x g h r = colSum (dx x g h r) := by
  funext j
  idx_vars j
  pointwise [refSum, refDx_eq]
  rfl

theorem refCast_eq : truncf (F := Ideal) .bf16 (refDx x g h r) bitsLt_bf16_f32 = dx x g h r := by
  rw [refDx_eq]
  funext j
  idx_vars j
  pointwise

variable (m : (ℓ : Loc nD τ sig) → Buf (Elt Ideal) ℓ) (c : Dev nD) {x g h r}

/-- The reference's results from arguments equal to the kernel's. -/
theorem out_dx (h0 : m ((c.tc : Thread nD τ).loc main_arg0) = x) (h1 : m ((c.tc : Thread nD τ).loc main_arg1) = g)
    (h2 : m ((c.tc : Thread nD τ).loc main_arg2) = h) (h3 : m ((c.tc : Thread nD τ).loc main_arg3) = r) :
    refDx (m ((c.tc : Thread nD τ).loc main_arg0)) (m ((c.tc : Thread nD τ).loc main_arg1))
      (m ((c.tc : Thread nD τ).loc main_arg2)) (m ((c.tc : Thread nD τ).loc main_arg3)) = dx x g h r := by
  rw [h0, h1, h2, h3]
  exact refDx_eq x g h r

theorem out_cast (h0 : m ((c.tc : Thread nD τ).loc main_arg0) = x) (h1 : m ((c.tc : Thread nD τ).loc main_arg1) = g)
    (h2 : m ((c.tc : Thread nD τ).loc main_arg2) = h) (h3 : m ((c.tc : Thread nD τ).loc main_arg3) = r) :
    truncf (F := Ideal) .bf16 (refDx (m ((c.tc : Thread nD τ).loc main_arg0)) (m ((c.tc : Thread nD τ).loc main_arg1))
      (m ((c.tc : Thread nD τ).loc main_arg2)) (m ((c.tc : Thread nD τ).loc main_arg3))) bitsLt_bf16_f32 = dx x g h r := by
  rw [h0, h1, h2, h3]
  exact refCast_eq x g h r

theorem out_dg (h0 : m ((c.tc : Thread nD τ).loc main_arg0) = x) (h2 : m ((c.tc : Thread nD τ).loc main_arg2) = h) :
    refDg (m ((c.tc : Thread nD τ).loc main_arg0)) (m ((c.tc : Thread nD τ).loc main_arg2)) = dg x h := by
  rw [h0, h2]
  exact refDg_eq x h

theorem out_sum (h0 : m ((c.tc : Thread nD τ).loc main_arg0) = x) (h1 : m ((c.tc : Thread nD τ).loc main_arg1) = g)
    (h2 : m ((c.tc : Thread nD τ).loc main_arg2) = h) (h3 : m ((c.tc : Thread nD τ).loc main_arg3) = r) :
    res_main_v40 m c = colSum (dx x g h r) := by
  refine Eq.trans (?_ : _ = refSum (m ((c.tc : Thread nD τ).loc main_arg0)) (m ((c.tc : Thread nD τ).loc main_arg1))
      (m ((c.tc : Thread nD τ).loc main_arg2)) (m ((c.tc : Thread nD τ).loc main_arg3))) ?_
  · unfold res_main_v40
    rfl
  · rw [h0, h1, h2, h3]
    exact refSum_eq x g h r

end Reference

end Cert.Ffn.Norm

end
-- ==== Proof.Mat.Base.lean ====
module

public import proofs.«01_k».proof.Proof.Ffn.Pay

@[expose] public section

noncomputable section

/-! Products of whole arrays, and how a block of one is a product of blocks. -/

namespace Cert.Mat

open Idealize.ShloMosaic

/-- An array of two axes. -/
abbrev Arr (m n : ℕ) : Type := (⟨2, ![m, n]⟩ : Shape).Idx → EReal

/-- Rows times columns, rows times rows, and columns times columns. -/
def nn {m k n : ℕ} (a : Arr m k) (b : Arr k n) : Arr m n := fun j => ∑ e : Fin k, a (ix2 (j 0) e) * b (ix2 e (j 1))
def nt {m k n : ℕ} (a : Arr m k) (b : Arr n k) : Arr m n := fun j => ∑ e : Fin k, a (ix2 (j 0) e) * b (ix2 (j 1) e)
def tn {m k n : ℕ} (a : Arr k m) (b : Arr k n) : Arr m n := fun j => ∑ e : Fin k, a (ix2 e (j 0)) * b (ix2 e (j 1))

/-- Entries added. -/
def plus {m n : ℕ} (a b : Arr m n) : Arr m n := fun j => a j + b j

theorem plus_at {m n : ℕ} {a b : Arr m n} {p : (⟨2, ![m, n]⟩ : Shape).Idx} {x y : EReal} (hx : x = a p) (hy : y = b p) :
    x + y = plus a b p := by rw [hx, hy]; rfl

/-- One row added to every row. -/
def withRow {m n : ℕ} (a : Arr m n) (b : Arr 1 n) : Arr m n := fun j => a j + b (ix2 0 (j 1))

theorem withRow_at {m n : ℕ} {a : Arr m n} {b : Arr 1 n} {p : (⟨2, ![m, n]⟩ : Shape).Idx} {x y : EReal} (hx : x = a p)
    (hy : y = b (ix2 0 (p 1))) : x + y = withRow a b p := by rw [hx, hy]; rfl

/-- Two positions with the same coordinates hold the same entry. -/
theorem same2 {m n : ℕ} {α : Type} (A : (⟨2, ![m, n]⟩ : Shape).Idx → α) (p q : (⟨2, ![m, n]⟩ : Shape).Idx)
    (h0 : (p 0).val = (q 0).val) (h1 : (p 1).val = (q 1).val) : A p = A q :=
  congrArg A (funext fun a => Fin.ext (match a with | ⟨0, _⟩ => h0 | ⟨1, _⟩ => h1))

theorem same3 {m n l : ℕ} {α : Type} (A : (⟨3, ![m, n, l]⟩ : Shape).Idx → α) (p q : (⟨3, ![m, n, l]⟩ : Shape).Idx)
    (h0 : (p 0).val = (q 0).val) (h1 : (p 1).val = (q 1).val) (h2 : (p 2).val = (q 2).val) : A p = A q :=
  congrArg A (funext fun a => Fin.ext (match a with | ⟨0, _⟩ => h0 | ⟨1, _⟩ => h1 | ⟨2, _⟩ => h2))

/-- An entry of a product, from its factors. -/
theorem nn_at {m k n : ℕ} (a : Arr m k) (b : Arr k n) (p : (⟨2, ![m, n]⟩ : Shape).Idx) {x y : Fin k → EReal}
    (hx : ∀ e, x e = a (ix2 (p 0) e)) (hy : ∀ e, y e = b (ix2 e (p 1))) : ∑ e, x e * y e = nn a b p :=
  Finset.sum_congr rfl fun e _ => by rw [hx e, hy e]

theorem nt_at {m k n : ℕ} (a : Arr m k) (b : Arr n k) (p : (⟨2, ![m, n]⟩ : Shape).Idx) {x y : Fin k → EReal}
    (hx : ∀ e, x e = a (ix2 (p 0) e)) (hy : ∀ e, y e = b (ix2 (p 1) e)) : ∑ e, x e * y e = nt a b p :=
  Finset.sum_congr rfl fun e _ => by rw [hx e, hy e]

theorem tn_at {m k n : ℕ} (a : Arr k m) (b : Arr k n) (p : (⟨2, ![m, n]⟩ : Shape).Idx) {x y : Fin k → EReal}
    (hx : ∀ e, x e = a (ix2 e (p 0))) (hy : ∀ e, y e = b (ix2 e (p 1))) : ∑ e, x e * y e = tn a b p :=
  Finset.sum_congr rfl fun e _ => by rw [hx e, hy e]

/-- A position lies in the block of `s` places that its quotient names. -/
theorem in_block (i p s : ℕ) (hs : 0 < s) (h : p = i / s) : p * s ≤ i ∧ i < p * s + s := by
  subst h
  exact ⟨Nat.div_mul_le_self i s, by have := Nat.lt_div_mul_add hs (a := i); omega⟩

end Cert.Mat

end
-- ==== Proof.Mat.InDw.lean ====
module

public import Idealize.ShloMosaic.Lib.StableHlo.RunRead
public import proofs.«01_k».proof.Proof.Gen.Kernel8Ideal.Frame
public import proofs.«01_k».proof.Proof.Gen.Reference8Ideal.Run
public import proofs.«01_k».proof.Proof.Mat.Base

@[expose] public section

set_option maxRecDepth 16384

noncomputable section

/-! The gradient of the input projection's weights: four products over the tokens, one for each group of columns. -/

namespace Cert.Mat.InDw

open Idealize.ShloMosaic Idealize.ShloMosaic.TcCoe Idealize.SL.Sem

section Kernel

open Cert.Kernel8Ideal Cert.Kernel8Ideal.Gen

variable (V : (c : Dev nD) → (b : Ref sig .tc) → Buf (Elt Ideal) ((c : Thread nD τ).loc b)) (c : Dev nD)

/-! ## The first group -/

theorem idx0 : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, win0_0.index t 0 = 0 ∧ win0_0.index t 1 = win0_2.index t 0
    ∧ win0_1.index t 0 = 0 ∧ win0_1.index t 1 = win0_2.index t 1)
theorem tiles0 : ∀ (p : Fin 3) (q : Fin 2), ∃ t : Fin cfg0.N, win0_2.index t 0 = p.val ∧ win0_2.index t 1 = q.val :=
  (by decide +kernel : ∀ (p : Fin 3) (q : Fin 2), ∃ t : Fin grid0.N, win0_2.index t 0 = p.val ∧ win0_2.index t 1 = q.val)

theorem pay0 (a b : Vec Ideal S4096x1024 .bf16) (i f : Fin 1024) :
    k0_pay1 (F := Ideal) a b (ix2 i f) = ∑ k, a (ix2 k i) * b (ix2 k f) := by
  pointwise [k0_pay1]

theorem out0 (a b : Vec Ideal S4096x1024 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem flushed0 (t : Fin cfg0.N) : (dat0 V c).flushed 2 t
    = ((cfg0.win 2).blk t).view.read (Elt Ideal) (tn (V c main_arg1 : Arr 4096 3072) (V c main_arg0 : Arr 4096 2048)) := by
  show (cfg0.win 2).cut (cfg0.grid.coords t) ((dat0 V c).after 2 t) = _
  rw [after0_2, out0]
  funext (j : S1024x1024.Idx)
  idx_vars j
  refine (pay0 _ _ _ _).trans ?_
  have h := idx0 t
  refine tn_at (V c main_arg1 : Arr 4096 3072) (V c main_arg0 : Arr 4096 2048) (((cfg0.win 2).blk t).view.emb (ix2 j0 j1))
    (fun e => same2 (V c main_arg1 : Arr 4096 3072) (((cfg0.win 0).blk t).view.emb (ix2 e j0)) _ ?_ ?_)
    (fun e => same2 (V c main_arg0 : Arr 4096 2048) (((cfg0.win 1).blk t).view.emb (ix2 e j1)) _ ?_ ?_)
  · show win0_0.index t 0 * 4096 + 1 * e.val = e.val; omega
  · show win0_0.index t 1 * 1024 + 1 * j0.val = win0_2.index t 0 * 1024 + 1 * j0.val; omega
  · show win0_1.index t 0 * 4096 + 1 * e.val = e.val; omega
  · show win0_1.index t 1 * 1024 + 1 * j1.val = win0_2.index t 1 * 1024 + 1 * j1.val; omega

theorem cover0 (i : S3072x2048.Idx) : ∃ t : Fin cfg0.N, (cfg0.win 2).flush t = true ∧ i ∈ ((cfg0.win 2).blk t).view.set := by
  have h0 : (i 0 : Nat) < 3072 := (i 0).isLt
  have h1 : (i 1 : Nat) < 2048 := (i 1).isLt
  obtain ⟨t, h⟩ := tiles0 ⟨(i 0 : Nat) / 1024, by omega⟩ ⟨(i 1 : Nat) / 1024, by omega⟩
  refine ⟨t, flush0_2 t, ?_⟩
  show i ∈ ((View.whole main_v0).slice (win0_2.rect t)).set
  rw [View.set_slice_whole, Rect.mem_set_unit]
  exact fun a => match a with
    | ⟨0, _⟩ => in_block (i 0) (win0_2.index t 0) 1024 (by omega) h.1
    | ⟨1, _⟩ => in_block (i 1) (win0_2.index t 1) 1024 (by omega) h.2

theorem arr0 : (dat0 V c).arrAt 2 cfg0.N = tn (V c main_arg1 : Arr 4096 3072) (V c main_arg0 : Arr 4096 2048) :=
  (dat0 V c).arrAt_eq_of_cover 2 _ (fun t _ => flushed0 V c t) cover0

/-! ## The second group -/

theorem idx1 : ∀ t : Fin cfg1.N, win1_0.index t 0 = 0 ∧ win1_0.index t 1 = win1_2.index t 0
    ∧ win1_1.index t 0 = 0 ∧ win1_1.index t 1 = win1_2.index t 1 :=
  (by decide +kernel : ∀ t : Fin grid1.N, win1_0.index t 0 = 0 ∧ win1_0.index t 1 = win1_2.index t 0
    ∧ win1_1.index t 0 = 0 ∧ win1_1.index t 1 = win1_2.index t 1)

theorem tiles1 : ∀ (p : Fin 1) (q : Fin 2), ∃ t : Fin cfg1.N, win1_2.index t 0 = p.val ∧ win1_2.index t 1 = q.val :=
  (by decide +kernel : ∀ (p : Fin 1) (q : Fin 2), ∃ t : Fin grid1.N, win1_2.index t 0 = p.val ∧ win1_2.index t 1 = q.val)

theorem pay1 (a : Vec Ideal S4096x1024 .bf16) (b : Vec Ideal S4096x1024 .bf16) (i : Fin 1024) (f : Fin 1024) :
    k1_pay1 (F := Ideal) a b (ix2 i f) = ∑ k, a (ix2 k i) * b (ix2 k f) := by
  pointwise [k1_pay1]

theorem out1 (a : Vec Ideal S4096x1024 .bf16) (b : Vec Ideal S4096x1024 .bf16) : out1_2 a b = k1_pay1 a b := by
  unfold out1_2
  rw [View.canon_unit_zero (by funext a; fin_cases a <;> rfl), View.ld_unit_zero (by funext a; fin_cases a <;> rfl),
    View.ld_unit_zero (by funext a; fin_cases a <;> rfl)]

theorem flushed1 (t : Fin cfg1.N) : (dat1 V c).flushed 2 t
    = ((cfg1.win 2).blk t).view.read (Elt Ideal) (tn (V c main_arg2 : Arr 4096 1024) (V c main_arg0 : Arr 4096 2048)) := by
  show (cfg1.win 2).cut (cfg1.grid.coords t) ((dat1 V c).after 2 t) = _
  rw [after1_2, out1]
  funext (j : S1024x1024.Idx)
  idx_vars j
  refine (pay1 _ _ _ _).trans ?_
  have h := idx1 t
  refine tn_at (V c main_arg2 : Arr 4096 1024) (V c main_arg0 : Arr 4096 2048) (((cfg1.win 2).blk t).view.emb (ix2 j0 j1))
    (fun e => same2 (V c main_arg2 : Arr 4096 1024) (((cfg1.win 0).blk t).view.emb (ix2 e j0)) _ ?_ ?_)
    (fun e => same2 (V c main_arg0 : Arr 4096 2048) (((cfg1.win 1).blk t).view.emb (ix2 e j1)) _ ?_ ?_)
  · show win1_0.index t 0 * 4096 + 1 * e.val = e.val
    omega
  · show win1_0.index t 1 * 1024 + 1 * j0.val = win1_2.index t 0 * 1024 + 1 * j0.val
    omega
  · show win1_1.index t 0 * 4096 + 1 * e.val = e.val
    omega
  · show win1_1.index t 1 * 1024 + 1 * j1.val = win1_2.index t 1 * 1024 + 1 * j1.val
    omega

theorem cover1 (i : S1024x2048.Idx) : ∃ t : Fin cfg1.N, (cfg1.win 2).flush t = true ∧ i ∈ ((cfg1.win 2).blk t).view.set := by
  have h0 : (i 0 : Nat) < 1024 := (i 0).isLt
  have h1 : (i 1 : Nat) < 2048 := (i 1).isLt
  obtain ⟨t, h⟩ := tiles1 ⟨(i 0 : Nat) / 1024, by omega⟩ ⟨(i 1 : Nat) / 1024, by omega⟩
  refine ⟨t, flush1_2 t, ?_⟩
  show i ∈ ((View.whole main_v1).slice (win1_2.rect t)).set
  rw [View.set_slice_whole, Rect.mem_set_unit]
  exact fun a => match a with
    | ⟨0, _⟩ => in_block (i 0) (win1_2.index t 0) 1024 (by omega) h.1
    | ⟨1, _⟩ => in_block (i 1) (win1_2.index t 1) 1024 (by omega) h.2

theorem arr1 : (dat1 V c).arrAt 2 cfg1.N = tn (V c main_arg2 : Arr 4096 1024) (V c main_arg0 : Arr 4096 2048) :=
  (dat1 V c).arrAt_eq_of_cover 2 _ (fun t _ => flushed1 V c t) cover1

/-! ## The third group, with its empty columns -/

theorem idx2 : ∀ t : Fin cfg2.N, win2_0.index t 0 = 0 ∧ win2_0.index t 1 = win2_2.index t 0
    ∧ win2_1.index t 0 = 0 ∧ win2_1.index t 1 = win2_2.index t 1 :=
  (by decide +kernel : ∀ t : Fin grid2.N, win2_0.index t 0 = 0 ∧ win2_0.index t 1 = win2_2.index t 0
    ∧ win2_1.index t 0 = 0 ∧ win2_1.index t 1 = win2_2.index t 1)

theorem tiles2 : ∀ (p : Fin 1) (q : Fin 2), ∃ t : Fin cfg2.N, win2_2.index t 0 = p.val ∧ win2_2.index t 1 = q.val :=
  (by decide +kernel : ∀ (p : Fin 1) (q : Fin 2), ∃ t : Fin grid2.N, win2_2.index t 0 = p.val ∧ win2_2.index t 1 = q.val)

theorem pay2 (a : Vec Ideal S4096x128 .bf16) (b : Vec Ideal S4096x1024 .bf16) (i : Fin 128) (f : Fin 1024) :
    k2_pay1 (F := Ideal) a b (ix2 i f) = ∑ k, a (ix2 k i) * b (ix2 k f) := by
  pointwise [k2_pay1]

theorem out2 (a : Vec Ideal S4096x128 .bf16) (b : Vec Ideal S4096x1024 .bf16) : out2_2 a b = k2_pay1 a b := by
  unfold out2_2
  rw [View.canon_unit_zero (by funext a; fin_cases a <;> rfl), View.ld_unit_zero (by funext a; fin_cases a <;> rfl),
    View.ld_unit_zero (by funext a; fin_cases a <;> rfl)]

theorem flushed2 (t : Fin cfg2.N) : (dat2 V c).flushed 2 t
    = ((cfg2.win 2).blk t).view.read (Elt Ideal) (tn (V c main_arg3 : Arr 4096 128) (V c main_arg0 : Arr 4096 2048)) := by
  show (cfg2.win 2).cut (cfg2.grid.coords t) ((dat2 V c).after 2 t) = _
  rw [after2_2, out2]
  funext (j : S128x1024.Idx)
  idx_vars j
  refine (pay2 _ _ _ _).trans ?_
  have h := idx2 t
  refine tn_at (V c main_arg3 : Arr 4096 128) (V c main_arg0 : Arr 4096 2048) (((cfg2.win 2).blk t).view.emb (ix2 j0 j1))
    (fun e => same2 (V c main_arg3 : Arr 4096 128) (((cfg2.win 0).blk t).view.emb (ix2 e j0)) _ ?_ ?_)
    (fun e => same2 (V c main_arg0 : Arr 4096 2048) (((cfg2.win 1).blk t).view.emb (ix2 e j1)) _ ?_ ?_)
  · show win2_0.index t 0 * 4096 + 1 * e.val = e.val
    omega
  · show win2_0.index t 1 * 128 + 1 * j0.val = win2_2.index t 0 * 128 + 1 * j0.val
    omega
  · show win2_1.index t 0 * 4096 + 1 * e.val = e.val
    omega
  · show win2_1.index t 1 * 1024 + 1 * j1.val = win2_2.index t 1 * 1024 + 1 * j1.val
    omega

theorem cover2 (i : S128x2048.Idx) : ∃ t : Fin cfg2.N, (cfg2.win 2).flush t = true ∧ i ∈ ((cfg2.win 2).blk t).view.set := by
  have h0 : (i 0 : Nat) < 128 := (i 0).isLt
  have h1 : (i 1 : Nat) < 2048 := (i 1).isLt
  obtain ⟨t, h⟩ := tiles2 ⟨(i 0 : Nat) / 128, by omega⟩ ⟨(i 1 : Nat) / 1024, by omega⟩
  refine ⟨t, flush2_2 t, ?_⟩
  show i ∈ ((View.whole main_v2).slice (win2_2.rect t)).set
  rw [View.set_slice_whole, Rect.mem_set_unit]
  exact fun a => match a with
    | ⟨0, _⟩ => in_block (i 0) (win2_2.index t 0) 128 (by omega) h.1
    | ⟨1, _⟩ => in_block (i 1) (win2_2.index t 1) 1024 (by omega) h.2

theorem arr2 : (dat2 V c).arrAt 2 cfg2.N = tn (V c main_arg3 : Arr 4096 128) (V c main_arg0 : Arr 4096 2048) :=
  (dat2 V c).arrAt_eq_of_cover 2 _ (fun t _ => flushed2 V c t) cover2

/-! ## The fourth group -/

theorem idx3 : ∀ t : Fin cfg3.N, win3_0.index t 0 = 0 ∧ win3_0.index t 1 = win3_2.index t 0
    ∧ win3_1.index t 0 = 0 ∧ win3_1.index t 1 = win3_2.index t 1 :=
  (by decide +kernel : ∀ t : Fin grid3.N, win3_0.index t 0 = 0 ∧ win3_0.index t 1 = win3_2.index t 0
    ∧ win3_1.index t 0 = 0 ∧ win3_1.index t 1 = win3_2.index t 1)

theorem tiles3 : ∀ (p : Fin 2) (q : Fin 2), ∃ t : Fin cfg3.N, win3_2.index t 0 = p.val ∧ win3_2.index t 1 = q.val :=
  (by decide +kernel : ∀ (p : Fin 2) (q : Fin 2), ∃ t : Fin grid3.N, win3_2.index t 0 = p.val ∧ win3_2.index t 1 = q.val)

theorem pay3 (a : Vec Ideal S4096x1024 .bf16) (b : Vec Ideal S4096x1024 .bf16) (i : Fin 1024) (f : Fin 1024) :
    k3_pay1 (F := Ideal) a b (ix2 i f) = ∑ k, a (ix2 k i) * b (ix2 k f) := by
  pointwise [k3_pay1]

theorem out3 (a : Vec Ideal S4096x1024 .bf16) (b : Vec Ideal S4096x1024 .bf16) : out3_2 a b = k3_pay1 a b := by
  unfold out3_2
  rw [View.canon_unit_zero (by funext a; fin_cases a <;> rfl), View.ld_unit_zero (by funext a; fin_cases a <;> rfl),
    View.ld_unit_zero (by funext a; fin_cases a <;> rfl)]

theorem flushed3 (t : Fin cfg3.N) : (dat3 V c).flushed 2 t
    = ((cfg3.win 2).blk t).view.read (Elt Ideal) (tn (V c main_arg4 : Arr 4096 2048) (V c main_arg0 : Arr 4096 2048)) := by
  show (cfg3.win 2).cut (cfg3.grid.coords t) ((dat3 V c).after 2 t) = _
  rw [after3_2, out3]
  funext (j : S1024x1024.Idx)
  idx_vars j
  refine (pay3 _ _ _ _).trans ?_
  have h := idx3 t
  refine tn_at (V c main_arg4 : Arr 4096 2048) (V c main_arg0 : Arr 4096 2048) (((cfg3.win 2).blk t).view.emb (ix2 j0 j1))
    (fun e => same2 (V c main_arg4 : Arr 4096 2048) (((cfg3.win 0).blk t).view.emb (ix2 e j0)) _ ?_ ?_)
    (fun e => same2 (V c main_arg0 : Arr 4096 2048) (((cfg3.win 1).blk t).view.emb (ix2 e j1)) _ ?_ ?_)
  · show win3_0.index t 0 * 4096 + 1 * e.val = e.val
    omega
  · show win3_0.index t 1 * 1024 + 1 * j0.val = win3_2.index t 0 * 1024 + 1 * j0.val
    omega
  · show win3_1.index t 0 * 4096 + 1 * e.val = e.val
    omega
  · show win3_1.index t 1 * 1024 + 1 * j1.val = win3_2.index t 1 * 1024 + 1 * j1.val
    omega

theorem cover3 (i : S2048x2048.Idx) : ∃ t : Fin cfg3.N, (cfg3.win 2).flush t = true ∧ i ∈ ((cfg3.win 2).blk t).view.set := by
  have h0 : (i 0 : Nat) < 2048 := (i 0).isLt
  have h1 : (i 1 : Nat) < 2048 := (i 1).isLt
  obtain ⟨t, h⟩ := tiles3 ⟨(i 0 : Nat) / 1024, by omega⟩ ⟨(i 1 : Nat) / 1024, by omega⟩
  refine ⟨t, flush3_2 t, ?_⟩
  show i ∈ ((View.whole main_v3).slice (win3_2.rect t)).set
  rw [View.set_slice_whole, Rect.mem_set_unit]
  exact fun a => match a with
    | ⟨0, _⟩ => in_block (i 0) (win3_2.index t 0) 1024 (by omega) h.1
    | ⟨1, _⟩ => in_block (i 1) (win3_2.index t 1) 1024 (by omega) h.2

theorem arr3 : (dat3 V c).arrAt 2 cfg3.N = tn (V c main_arg4 : Arr 4096 2048) (V c main_arg0 : Arr 4096 2048) :=
  (dat3 V c).arrAt_eq_of_cover 2 _ (fun t _ => flushed3 V c t) cover3

/-! ## The arrays between the calls -/

variable (m : (ℓ : Loc nD τ sig) → Buf (Elt Ideal) ℓ) (ρ : Dev nD → PrngReg)

/-- The arguments: the normalized rows and the cotangents of the four groups. -/
abbrev aH : Arr 4096 2048 := m ((c.tc : Thread nD τ).loc main_arg0)
abbrev aQ : Arr 4096 3072 := m ((c.tc : Thread nD τ).loc main_arg1)
abbrev aZ : Arr 4096 1024 := m ((c.tc : Thread nD τ).loc main_arg2)
abbrev aB : Arr 4096 128 := m ((c.tc : Thread nD τ).loc main_arg3)
abbrev aU : Arr 4096 2048 := m ((c.tc : Thread nD τ).loc main_arg4)

theorem in1_v0 : V1 m ρ c main_v0 = tn (aQ c m) (aH c m) := (W1_arr m ρ c 2).trans (arr0 (V0 m ρ) c)
theorem in1_arg0 : V1 m ρ c main_arg0 = aH c m := W1_of m ρ c main_arg0 (by decide)
theorem in1_arg2 : V1 m ρ c main_arg2 = aZ c m := W1_of m ρ c main_arg2 (by decide)
theorem in1_arg3 : V1 m ρ c main_arg3 = aB c m := W1_of m ρ c main_arg3 (by decide)
theorem in1_arg4 : V1 m ρ c main_arg4 = aU c m := W1_of m ρ c main_arg4 (by decide)

theorem in2_v1 : V2 m ρ c main_v1 = tn (aZ c m) (aH c m) := by
  refine (W2_arr m ρ c 2).trans ((arr1 (V1 m ρ) c).trans ?_)
  rw [in1_arg0, in1_arg2]
theorem in2_v0 : V2 m ρ c main_v0 = tn (aQ c m) (aH c m) := (W2_of m ρ c main_v0 (by decide)).trans (in1_v0 c m ρ)
theorem in2_arg0 : V2 m ρ c main_arg0 = aH c m := (W2_of m ρ c main_arg0 (by decide)).trans (in1_arg0 c m ρ)
theorem in2_arg3 : V2 m ρ c main_arg3 = aB c m := (W2_of m ρ c main_arg3 (by decide)).trans (in1_arg3 c m ρ)
theorem in2_arg4 : V2 m ρ c main_arg4 = aU c m := (W2_of m ρ c main_arg4 (by decide)).trans (in1_arg4 c m ρ)

theorem in3_v2 : V3 m ρ c main_v2 = tn (aB c m) (aH c m) := by
  refine (W3_arr m ρ c 2).trans ((arr2 (V2 m ρ) c).trans ?_)
  rw [in2_arg0, in2_arg3]
theorem in3_v0 : V3 m ρ c main_v0 = tn (aQ c m) (aH c m) := (W3_of m ρ c main_v0 (by decide)).trans (in2_v0 c m ρ)
theorem in3_v1 : V3 m ρ c main_v1 = tn (aZ c m) (aH c m) := (W3_of m ρ c main_v1 (by decide)).trans (in2_v1 c m ρ)
theorem in3_arg0 : V3 m ρ c main_arg0 = aH c m := (W3_of m ρ c main_arg0 (by decide)).trans (in2_arg0 c m ρ)
theorem in3_arg4 : V3 m ρ c main_arg4 = aU c m := (W3_of m ρ c main_arg4 (by decide)).trans (in2_arg4 c m ρ)

theorem in4_v3 : V4 m ρ c main_v3 = tn (aU c m) (aH c m) := by
  refine (W4_arr m ρ c 2).trans ((arr3 (V3 m ρ) c).trans ?_)
  rw [in3_arg0, in3_arg4]
theorem in4_v0 : V4 m ρ c main_v0 = tn (aQ c m) (aH c m) := (W4_of m ρ c main_v0 (by decide)).trans (in3_v0 c m ρ)
theorem in4_v1 : V4 m ρ c main_v1 = tn (aZ c m) (aH c m) := (W4_of m ρ c main_v1 (by decide)).trans (in3_v1 c m ρ)
theorem in4_v2 : V4 m ρ c main_v2 = tn (aB c m) (aH c m) := (W4_of m ρ c main_v2 (by decide)).trans (in3_v2 c m ρ)

/-- The four products under one another, the third without its empty rows. -/
abbrev stacked (h : Arr 4096 2048) (q : Arr 4096 3072) (z : Arr 4096 1024) (b : Arr 4096 128) (u : Arr 4096 2048) :
    S6160x2048.Idx → EReal :=
  concatenate S6160x2048 0 [⟨S3072x2048, tn q h⟩, ⟨S1024x2048, tn z h⟩,
    ⟨S16x2048, extractStridedSlice S16x2048 ![0, 0] (tn b h : S128x2048.Idx → EReal) slices_S128x2048_S16x2048_0_0⟩,
    ⟨S2048x2048, tn u h⟩] concatenates_S3072x2048_S1024x2048_S16x2048_S2048x2048_S6160x2048_d0

theorem joined (a a' : S3072x2048.Idx → EReal) (b b' : S1024x2048.Idx → EReal) (d d' : S16x2048.Idx → EReal)
    (e e' : S2048x2048.Idx → EReal) (ha : a = a') (hb : b = b') (hd : d = d') (he : e = e') :
    (shapeCast S8x770x2048 (concatenate S6160x2048 0 [⟨S3072x2048, a⟩, ⟨S1024x2048, b⟩, ⟨S16x2048, d⟩, ⟨S2048x2048, e⟩]
      concatenates_S3072x2048_S1024x2048_S16x2048_S2048x2048_S6160x2048_d0) shapeCasts_S6160x2048_S8x770x2048 : S8x770x2048.Idx → EReal)
    = shapeCast S8x770x2048 (concatenate S6160x2048 0 [⟨S3072x2048, a'⟩, ⟨S1024x2048, b'⟩, ⟨S16x2048, d'⟩, ⟨S2048x2048, e'⟩]
      concatenates_S3072x2048_S1024x2048_S16x2048_S2048x2048_S6160x2048_d0) shapeCasts_S6160x2048_S8x770x2048 := by
  rw [ha, hb, hd, he]

theorem end_v6 : W5 m ρ c (Proc.devRef .tc main_v6)
    = shapeCast S8x770x2048 (stacked (aH c m) (aQ c m) (aZ c m) (aB c m) (aU c m)) shapeCasts_S6160x2048_S8x770x2048 := by
  show StableHlo.after hostOps4 (W4 m ρ c) (Proc.devRef .tc main_v6) = _
  after_reads_simp
  have e0 : StableHlo.upto hostOps4 (W4 m ρ c) 1 (Proc.devRef .tc main_v0) = tn (aQ c m) (aH c m) := by
    after_reads_simp
    exact in4_v0 c m ρ
  have e1 : StableHlo.upto hostOps4 (W4 m ρ c) 1 (Proc.devRef .tc main_v1) = tn (aZ c m) (aH c m) := by
    after_reads_simp
    exact in4_v1 c m ρ
  have e2 : StableHlo.upto hostOps4 (W4 m ρ c) 1 (Proc.devRef .tc main_v4)
      = extractStridedSlice S16x2048 ![0, 0] (tn (aB c m) (aH c m) : S128x2048.Idx → EReal) slices_S128x2048_S16x2048_0_0 := by
    after_reads_simp
    rw [show W4 m ρ c (Proc.devRef .tc main_v2) = _ from in4_v2 c m ρ]
  have e3 : StableHlo.upto hostOps4 (W4 m ρ c) 1 (Proc.devRef .tc main_v3) = tn (aU c m) (aH c m) := by
    after_reads_simp
    exact in4_v3 c m ρ
  exact joined _ _ _ _ _ _ _ _ e0 e1 e2 e3

end Kernel

section Reference

open Cert.Reference8Ideal Cert.Reference8Ideal.Gen

/-- The cotangents side by side, as the reference takes them. -/
abbrev beside (q : Arr 4096 3072) (z : Arr 4096 1024) (b : Arr 4096 128) (u : Arr 4096 2048) : S4096x6160.Idx → EReal :=
  concatenate S4096x6160 1 [⟨S4096x3072, q⟩, ⟨S4096x1024, z⟩,
    ⟨S4096x16, extractStridedSlice S4096x16 ![0, 0] (b : S4096x128.Idx → EReal) slices_S4096x128_S4096x16_0_0⟩, ⟨S4096x2048, u⟩]
    concatenates_S4096x3072_S4096x1024_S4096x16_S4096x2048_S4096x6160_d1

theorem flat (h : Arr 4096 2048) (q : Arr 4096 3072) (z : Arr 4096 1024) (b : Arr 4096 128) (u : Arr 4096 2048) :
    stacked h q z b u = transpose S6160x2048 [1, 0] (transpose S2048x6160 [1, 0]
      (Host.dotGeneral (F := Ideal) (φ₁ := .f32) (φ₂ := .f32) dot_S4096x6160_S4096x2048_S6160x2048_0_0_1_1_n_n none (beside q z b u) h
        : S6160x2048.Idx → EReal) transposes_S6160x2048_S2048x6160_1_0) transposes_S2048x6160_S6160x2048_1_0 := by
  funext j
  idx_vars j
  pointwise [tn]
  split_ifs <;> rfl

end Reference

end Cert.Mat.InDw

end
-- ==== Proof.Mat.InDwRun.lean ====
module

public import proofs.«01_k».proof.Proof.Mat.InDw

@[expose] public section

set_option maxRecDepth 16384

noncomputable section

/-! The whole run of the four products of the input projection's weights, with what it leaves in the result. -/

namespace Cert.Mat.InDw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Kernel

open Cert.Kernel8Ideal Cert.Kernel8Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run ends with the result at the last boundary's contents and the arguments as launched. -/
theorem run_ends : θ_run defs (onTc (τ := τ) (main (F := Ideal))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Kernel

section Reference

open Cert.Reference8Ideal Cert.Reference8Ideal.Gen

/-- The reference's result is the same stack of products. -/
theorem out (m : (ℓ : Loc nD τ sig) → Buf (Elt Ideal) ℓ) (c : Dev nD) {h : Arr 4096 2048} {q : Arr 4096 3072} {z : Arr 4096 1024}
    {b : Arr 4096 128} {u : Arr 4096 2048}
    (hh : m ((c.tc : Thread nD τ).loc main_arg0) = h) (hq : m ((c.tc : Thread nD τ).loc main_arg1) = q)
    (hz : m ((c.tc : Thread nD τ).loc main_arg2) = z) (hb : m ((c.tc : Thread nD τ).loc main_arg3) = b)
    (hu : m ((c.tc : Thread nD τ).loc main_arg4) = u) :
    (shapeCast S8x770x2048 (transpose S6160x2048 [1, 0] (transpose S2048x6160 [1, 0]
      (Host.dotGeneral (F := Ideal) (φ₁ := .f32) (φ₂ := .f32) dot_S4096x6160_S4096x2048_S6160x2048_0_0_1_1_n_n none
        (concatenate S4096x6160 1 [⟨S4096x3072, (extf .f32 (m ((c.tc : Thread nD τ).loc main_arg1)) bitsLt_bf16_f32 : FVec Ideal S4096x3072 .f32)⟩,
          ⟨S4096x1024, (extf .f32 (m ((c.tc : Thread nD τ).loc main_arg2)) bitsLt_bf16_f32 : FVec Ideal S4096x1024 .f32)⟩,
          ⟨S4096x16, (extf .f32 (extractStridedSlice S4096x16 ![0, 0] (m ((c.tc : Thread nD τ).loc main_arg3)) slices_S4096x128_S4096x16_0_0) bitsLt_bf16_f32 : FVec Ideal S4096x16 .f32)⟩,
          ⟨S4096x2048, (extf .f32 (m ((c.tc : Thread nD τ).loc main_arg4)) bitsLt_bf16_f32 : FVec Ideal S4096x2048 .f32)⟩]
          concatenates_S4096x3072_S4096x1024_S4096x16_S4096x2048_S4096x6160_d1)
        (extf .f32 (m ((c.tc : Thread nD τ).loc main_arg0)) bitsLt_bf16_f32)) transposes_S6160x2048_S2048x6160_1_0)
        transposes_S2048x6160_S6160x2048_1_0) shapeCasts_S6160x2048_S8x770x2048 : S8x770x2048.Idx → EReal)
      = shapeCast S8x770x2048 (stacked h q z b u) shapeCasts_S6160x2048_S8x770x2048 := by
  subst hh hq hz hb hu
  exact congrArg (fun x : S6160x2048.Idx → EReal => shapeCast S8x770x2048 x shapeCasts_S6160x2048_S8x770x2048) (flat _ _ _ _ _).symm

end Reference

end Cert.Mat.InDw

end
-- ==== Proof.Mat.Out.lean ====
module

public import Idealize.ShloMosaic.Lib.StableHlo.RunRead
public import proofs.«01_k».proof.Proof.Gen.Kernel7Ideal.Frame
public import proofs.«01_k».proof.Proof.Gen.Reference7Ideal.Run
public import proofs.«01_k».proof.Proof.Mat.Base

@[expose] public section

set_option maxRecDepth 16384

noncomputable section

/-! The output projection, its rows added, and the two products of its gradient. -/

namespace Cert.Mat.Out

open Idealize.ShloMosaic Idealize.ShloMosaic.TcCoe Idealize.SL.Sem

section Kernel

open Cert.Kernel7Ideal Cert.Kernel7Ideal.Gen

variable (V : (c : Dev nD) → (b : Ref sig .tc) → Buf (Elt Ideal) ((c : Thread nD τ).loc b)) (c : Dev nD)

/-! ## The projection -/

theorem idx0 : ∀ t : Fin cfg0.N, (win0_0.index t 0 = win0_3.index t 0 ∧ win0_0.index t 1 = 0)
    ∧ (win0_1.index t 0 = 0 ∧ win0_1.index t 1 = win0_3.index t 1)
    ∧ win0_2.index t 0 = win0_3.index t 0 ∧ win0_2.index t 1 = win0_3.index t 1 :=
  (by decide +kernel : ∀ t : Fin grid0.N, (win0_0.index t 0 = win0_3.index t 0 ∧ win0_0.index t 1 = 0)
    ∧ (win0_1.index t 0 = 0 ∧ win0_1.index t 1 = win0_3.index t 1)
    ∧ win0_2.index t 0 = win0_3.index t 0 ∧ win0_2.index t 1 = win0_3.index t 1)

theorem tiles0 : ∀ (p : Fin 8) (q : Fin 1), ∃ t : Fin cfg0.N, win0_3.index t 0 = p.val ∧ win0_3.index t 1 = q.val :=
  (by decide +kernel : ∀ (p : Fin 8) (q : Fin 1), ∃ t : Fin grid0.N, win0_3.index t 0 = p.val ∧ win0_3.index t 1 = q.val)

theorem pay0 (a : Vec Ideal S512x2048 .bf16) (b : Vec Ideal S2048x2048 .bf16) (r : Vec Ideal S512x2048 .f32) (i : Fin 512) (f : Fin 2048) :
    k0_pay1 (F := Ideal) a b r (ix2 i f) = ∑ k, a (ix2 i k) * b (ix2 k f) + r (ix2 i f) := by
  pointwise [k0_pay1]

theorem out0 (a : Vec Ideal S512x2048 .bf16) (b : Vec Ideal S2048x2048 .bf16) (r : Vec Ideal S512x2048 .f32) :
    out0_3 a b r = k0_pay1 a b r := by
  unfold out0_3
  rw [View.canon_unit_zero (by funext a; fin_cases a <;> rfl), View.ld_unit_zero (by funext a; fin_cases a <;> rfl),
    View.ld_unit_zero (by funext a; fin_cases a <;> rfl), View.ld_unit_zero (by funext a; fin_cases a <;> rfl)]

theorem flushed0 (t : Fin cfg0.N) : (dat0 V c).flushed 3 t = ((cfg0.win 3).blk t).view.read (Elt Ideal)
    (plus (nn (V c main_arg0 : Arr 4096 2048) (V c main_v0 : Arr 2048 2048)) (V c main_arg2 : Arr 4096 2048)) := by
  show (cfg0.win 3).cut (cfg0.grid.coords t) ((dat0 V c).after 3 t) = _
  rw [after0_3, out0]
  funext (j : S512x2048.Idx)
  idx_vars j
  refine (pay0 _ _ _ _ _).trans ?_
  have h := idx0 t
  refine plus_at (nn_at (V c main_arg0 : Arr 4096 2048) (V c main_v0 : Arr 2048 2048) (((cfg0.win 3).blk t).view.emb (ix2 j0 j1))
    (fun e => same2 (V c main_arg0 : Arr 4096 2048) (((cfg0.win 0).blk t).view.emb (ix2 j0 e)) _ ?_ ?_)
    (fun e => same2 (V c main_v0 : Arr 2048 2048) (((cfg0.win 1).blk t).view.emb (ix2 e j1)) _ ?_ ?_))
    (same2 (V c main_arg2 : Arr 4096 2048) (((cfg0.win 2).blk t).view.emb (ix2 j0 j1)) _ ?_ ?_)
  · show win0_0.index t 0 * 512 + 1 * j0.val = win0_3.index t 0 * 512 + 1 * j0.val
    omega
  · show win0_0.index t 1 * 2048 + 1 * e.val = e.val
    omega
  · show win0_1.index t 0 * 2048 + 1 * e.val = e.val
    omega
  · show win0_1.index t 1 * 2048 + 1 * j1.val = win0_3.index t 1 * 2048 + 1 * j1.val
    omega
  · show win0_2.index t 0 * 512 + 1 * j0.val = win0_3.index t 0 * 512 + 1 * j0.val
    omega
  · show win0_2.index t 1 * 2048 + 1 * j1.val = win0_3.index t 1 * 2048 + 1 * j1.val
    omega

theorem cover0 (i : S4096x2048.Idx) : ∃ t : Fin cfg0.N, (cfg0.win 3).flush t = true ∧ i ∈ ((cfg0.win 3).blk t).view.set := by
  have h0 : (i 0 : Nat) < 4096 := (i 0).isLt
  have h1 : (i 1 : Nat) < 2048 := (i 1).isLt
  obtain ⟨t, h⟩ := tiles0 ⟨(i 0 : Nat) / 512, by omega⟩ ⟨(i 1 : Nat) / 2048, by omega⟩
  refine ⟨t, flush0_3 t, ?_⟩
  show i ∈ ((View.whole main_v1).slice (win0_3.rect t)).set
  rw [View.set_slice_whole, Rect.mem_set_unit]
  exact fun a => match a with
    | ⟨0, _⟩ => in_block (i 0) (win0_3.index t 0) 512 (by omega) h.1
    | ⟨1, _⟩ => in_block (i 1) (win0_3.index t 1) 2048 (by omega) h.2

theorem arr0 : (dat0 V c).arrAt 3 cfg0.N
    = plus (nn (V c main_arg0 : Arr 4096 2048) (V c main_v0 : Arr 2048 2048)) (V c main_arg2 : Arr 4096 2048) :=
  (dat0 V c).arrAt_eq_of_cover 3 _ (fun t _ => flushed0 V c t) cover0

/-! ## The gradient of the projected rows -/

theorem idx1 : ∀ t : Fin cfg1.N, win1_0.index t 0 = win1_2.index t 0 ∧ win1_0.index t 1 = 0
    ∧ win1_1.index t 0 = win1_2.index t 1 ∧ win1_1.index t 1 = 0 :=
  (by decide +kernel : ∀ t : Fin grid1.N, win1_0.index t 0 = win1_2.index t 0 ∧ win1_0.index t 1 = 0
    ∧ win1_1.index t 0 = win1_2.index t 1 ∧ win1_1.index t 1 = 0)

theorem tiles1 : ∀ (p : Fin 4) (q : Fin 2), ∃ t : Fin cfg1.N, win1_2.index t 0 = p.val ∧ win1_2.index t 1 = q.val :=
  (by decide +kernel : ∀ (p : Fin 4) (q : Fin 2), ∃ t : Fin grid1.N, win1_2.index t 0 = p.val ∧ win1_2.index t 1 = q.val)

theorem pay1 (a b : Vec Ideal S1024x2048 .bf16) (i f : Fin 1024) :
    k1_pay1 (F := Ideal) a b (ix2 i f) = ∑ k, a (ix2 i k) * b (ix2 f k) := by
  pointwise [k1_pay1]

theorem out1 (a b : Vec Ideal S1024x2048 .bf16) : out1_2 a b = k1_pay1 a b := by
  unfold out1_2
  rw [View.canon_unit_zero (by funext a; fin_cases a <;> rfl), View.ld_unit_zero (by funext a; fin_cases a <;> rfl),
    View.ld_unit_zero (by funext a; fin_cases a <;> rfl)]

theorem flushed1 (t : Fin cfg1.N) : (dat1 V c).flushed 2 t
    = ((cfg1.win 2).blk t).view.read (Elt Ideal) (nt (V c main_arg3 : Arr 4096 2048) (V c main_v0 : Arr 2048 2048)) := by
  show (cfg1.win 2).cut (cfg1.grid.coords t) ((dat1 V c).after 2 t) = _
  rw [after1_2, out1]
  funext (j : S1024x1024.Idx)
  idx_vars j
  refine (pay1 _ _ _ _).trans ?_
  have h := idx1 t
  refine nt_at (V c main_arg3 : Arr 4096 2048) (V c main_v0 : Arr 2048 2048) (((cfg1.win 2).blk t).view.emb (ix2 j0 j1))
    (fun e => same2 (V c main_arg3 : Arr 4096 2048) (((cfg1.win 0).blk t).view.emb (ix2 j0 e)) _ ?_ ?_)
    (fun e => same2 (V c main_v0 : Arr 2048 2048) (((cfg1.win 1).blk t).view.emb (ix2 j1 e)) _ ?_ ?_)
  · show win1_0.index t 0 * 1024 + 1 * j0.val = win1_2.index t 0 * 1024 + 1 * j0.val
    omega
  · show win1_0.index t 1 * 2048 + 1 * e.val = e.val
    omega
  · show win1_1.index t 0 * 1024 + 1 * j1.val = win1_2.index t 1 * 1024 + 1 * j1.val
    omega
  · show win1_1.index t 1 * 2048 + 1 * e.val = e.val
    omega

theorem cover1 (i : S4096x2048.Idx) : ∃ t : Fin cfg1.N, (cfg1.win 2).flush t = true ∧ i ∈ ((cfg1.win 2).blk t).view.set := by
  have h0 : (i 0 : Nat) < 4096 := (i 0).isLt
  have h1 : (i 1 : Nat) < 2048 := (i 1).isLt
  obtain ⟨t, h⟩ := tiles1 ⟨(i 0 : Nat) / 1024, by omega⟩ ⟨(i 1 : Nat) / 1024, by omega⟩
  refine ⟨t, flush1_2 t, ?_⟩
  show i ∈ ((View.whole main_v2).slice (win1_2.rect t)).set
  rw [View.set_slice_whole, Rect.mem_set_unit]
  exact fun a => match a with
    | ⟨0, _⟩ => in_block (i 0) (win1_2.index t 0) 1024 (by omega) h.1
    | ⟨1, _⟩ => in_block (i 1) (win1_2.index t 1) 1024 (by omega) h.2

theorem arr1 : (dat1 V c).arrAt 2 cfg1.N = nt (V c main_arg3 : Arr 4096 2048) (V c main_v0 : Arr 2048 2048) :=
  (dat1 V c).arrAt_eq_of_cover 2 _ (fun t _ => flushed1 V c t) cover1

/-! ## The gradient of the weights -/

theorem idx2 : ∀ t : Fin cfg2.N, win2_0.index t 0 = 0 ∧ win2_0.index t 1 = win2_2.index t 0
    ∧ win2_1.index t 0 = 0 ∧ win2_1.index t 1 = win2_2.index t 1 :=
  (by decide +kernel : ∀ t : Fin grid2.N, win2_0.index t 0 = 0 ∧ win2_0.index t 1 = win2_2.index t 0
    ∧ win2_1.index t 0 = 0 ∧ win2_1.index t 1 = win2_2.index t 1)

theorem tiles2 : ∀ (p : Fin 2) (q : Fin 2), ∃ t : Fin cfg2.N, win2_2.index t 0 = p.val ∧ win2_2.index t 1 = q.val :=
  (by decide +kernel : ∀ (p : Fin 2) (q : Fin 2), ∃ t : Fin grid2.N, win2_2.index t 0 = p.val ∧ win2_2.index t 1 = q.val)

theorem pay2 (a b : Vec Ideal S4096x1024 .bf16) (i f : Fin 1024) :
    k2_pay1 (F := Ideal) a b (ix2 i f) = ∑ k, a (ix2 k i) * b (ix2 k f) := by
  pointwise [k2_pay1]

theorem out2 (a b : Vec Ideal S4096x1024 .bf16) : out2_2 a b = k2_pay1 a b := by
  unfold out2_2
  rw [View.canon_unit_zero (by funext a; fin_cases a <;> rfl), View.ld_unit_zero (by funext a; fin_cases a <;> rfl),
    View.ld_unit_zero (by funext a; fin_cases a <;> rfl)]

theorem flushed2 (t : Fin cfg2.N) : (dat2 V c).flushed 2 t
    = ((cfg2.win 2).blk t).view.read (Elt Ideal) (tn (V c main_arg0 : Arr 4096 2048) (V c main_arg3 : Arr 4096 2048)) := by
  show (cfg2.win 2).cut (cfg2.grid.coords t) ((dat2 V c).after 2 t) = _
  rw [after2_2, out2]
  funext (j : S1024x1024.Idx)
  idx_vars j
  refine (pay2 _ _ _ _).trans ?_
  have h := idx2 t
  refine tn_at (V c main_arg0 : Arr 4096 2048) (V c main_arg3 : Arr 4096 2048) (((cfg2.win 2).blk t).view.emb (ix2 j0 j1))
    (fun e => same2 (V c main_arg0 : Arr 4096 2048) (((cfg2.win 0).blk t).view.emb (ix2 e j0)) _ ?_ ?_)
    (fun e => same2 (V c main_arg3 : Arr 4096 2048) (((cfg2.win 1).blk t).view.emb (ix2 e j1)) _ ?_ ?_)
  · show win2_0.index t 0 * 4096 + 1 * e.val = e.val
    omega
  · show win2_0.index t 1 * 1024 + 1 * j0.val = win2_2.index t 0 * 1024 + 1 * j0.val
    omega
  · show win2_1.index t 0 * 4096 + 1 * e.val = e.val
    omega
  · show win2_1.index t 1 * 1024 + 1 * j1.val = win2_2.index t 1 * 1024 + 1 * j1.val
    omega

theorem cover2 (i : S2048x2048.Idx) : ∃ t : Fin cfg2.N, (cfg2.win 2).flush t = true ∧ i ∈ ((cfg2.win 2).blk t).view.set := by
  have h0 : (i 0 : Nat) < 2048 := (i 0).isLt
  have h1 : (i 1 : Nat) < 2048 := (i 1).isLt
  obtain ⟨t, h⟩ := tiles2 ⟨(i 0 : Nat) / 1024, by omega⟩ ⟨(i 1 : Nat) / 1024, by omega⟩
  refine ⟨t, flush2_2 t, ?_⟩
  show i ∈ ((View.whole main_v3).slice (win2_2.rect t)).set
  rw [View.set_slice_whole, Rect.mem_set_unit]
  exact fun a => match a with
    | ⟨0, _⟩ => in_block (i 0) (win2_2.index t 0) 1024 (by omega) h.1
    | ⟨1, _⟩ => in_block (i 1) (win2_2.index t 1) 1024 (by omega) h.2

theorem arr2 : (dat2 V c).arrAt 2 cfg2.N = tn (V c main_arg0 : Arr 4096 2048) (V c main_arg3 : Arr 4096 2048) :=
  (dat2 V c).arrAt_eq_of_cover 2 _ (fun t _ => flushed2 V c t) cover2

/-! ## The arrays between the calls -/

variable (m : (ℓ : Loc nD τ sig) → Buf (Elt Ideal) ℓ) (ρ : Dev nD → PrngReg)

/-- The arguments: the mixed rows, the gathered weights, the rows added, and the cotangent. -/
abbrev aMix : Arr 4096 2048 := m ((c.tc : Thread nD τ).loc main_arg0)
abbrev aW : S8x256x2048.Idx → EReal := m ((c.tc : Thread nD τ).loc main_arg1)
abbrev aX : Arr 4096 2048 := m ((c.tc : Thread nD τ).loc main_arg2)
abbrev aD : Arr 4096 2048 := m ((c.tc : Thread nD τ).loc main_arg3)

/-- The gathered weights in one piece, and a weight gradient as the shards hold it. -/
abbrev whole (w : S8x256x2048.Idx → EReal) : Arr 2048 2048 :=
  shapeCast S2048x2048 w shapeCasts_S8x256x2048_S2048x2048
abbrev shards (w : Arr 2048 2048) : S8x256x2048.Idx → EReal :=
  shapeCast S8x256x2048 (w : S2048x2048.Idx → EReal) shapeCasts_S2048x2048_S8x256x2048

theorem in1_v0 : V1 m ρ c main_v0 = whole (aW c m) := by
  show StableHlo.after hostOps0 (W0 m ρ c) (Proc.devRef .tc main_v0) = _
  after_reads_simp
  rfl
theorem in1_arg0 : V1 m ρ c main_arg0 = aMix c m := W1_of m ρ c main_arg0 (by decide)
theorem in1_arg2 : V1 m ρ c main_arg2 = aX c m := W1_of m ρ c main_arg2 (by decide)
theorem in1_arg3 : V1 m ρ c main_arg3 = aD c m := W1_of m ρ c main_arg3 (by decide)

theorem in2_v1 : V2 m ρ c main_v1 = plus (nn (aMix c m) (whole (aW c m))) (aX c m) := by
  refine (W2_arr m ρ c 3).trans ((arr0 (V1 m ρ) c).trans ?_)
  rw [in1_arg0, in1_arg2, in1_v0]
theorem in2_v0 : V2 m ρ c main_v0 = whole (aW c m) := (W2_of m ρ c main_v0 (by decide)).trans (in1_v0 c m ρ)
theorem in2_arg0 : V2 m ρ c main_arg0 = aMix c m := (W2_of m ρ c main_arg0 (by decide)).trans (in1_arg0 c m ρ)
theorem in2_arg3 : V2 m ρ c main_arg3 = aD c m := (W2_of m ρ c main_arg3 (by decide)).trans (in1_arg3 c m ρ)

theorem in3_v2 : V3 m ρ c main_v2 = nt (aD c m) (whole (aW c m)) := by
  refine (W3_arr m ρ c 2).trans ((arr1 (V2 m ρ) c).trans ?_)
  rw [in2_arg3, in2_v0]
theorem in3_v1 : V3 m ρ c main_v1 = plus (nn (aMix c m) (whole (aW c m))) (aX c m) :=
  (W3_of m ρ c main_v1 (by decide)).trans (in2_v1 c m ρ)
theorem in3_arg0 : V3 m ρ c main_arg0 = aMix c m := (W3_of m ρ c main_arg0 (by decide)).trans (in2_arg0 c m ρ)
theorem in3_arg3 : V3 m ρ c main_arg3 = aD c m := (W3_of m ρ c main_arg3 (by decide)).trans (in2_arg3 c m ρ)

theorem in4_v3 : V4 m ρ c main_v3 = tn (aMix c m) (aD c m) := by
  refine (W4_arr m ρ c 2).trans ((arr2 (V3 m ρ) c).trans ?_)
  rw [in3_arg0, in3_arg3]

theorem end_v1 : W5 m ρ c (Proc.devRef .tc main_v1) = plus (nn (aMix c m) (whole (aW c m))) (aX c m) :=
  (W5_of m ρ c main_v1 (by decide)).trans ((W4_of m ρ c main_v1 (by decide)).trans (in3_v1 c m ρ))
theorem end_v2 : W5 m ρ c (Proc.devRef .tc main_v2) = nt (aD c m) (whole (aW c m)) :=
  (W5_of m ρ c main_v2 (by decide)).trans ((W4_of m ρ c main_v2 (by decide)).trans (in3_v2 c m ρ))
theorem end_v4 : W5 m ρ c (Proc.devRef .tc main_v4) = shards (tn (aMix c m) (aD c m)) := by
  show StableHlo.after hostOps3 (W4 m ρ c) (Proc.devRef .tc main_v4) = _
  after_reads_simp
  rw [show W4 m ρ c (Proc.devRef .tc main_v3) = _ from in4_v3 c m ρ]
  rfl

end Kernel

section Reference

open Cert.Reference7Ideal Cert.Reference7Ideal.Gen

/-- What the reference computes from the same arguments. -/
theorem out_rows (s : FVec Ideal S4096x2048 .bf16) (w : FVec Ideal S8x256x2048 .bf16) (x : FVec Ideal S4096x2048 .f32) :
    (addf x (Host.dotGeneral dot_S4096x2048_S2048x2048_S4096x2048_1_0_0_1_n_n none (extf .f32 s bitsLt_bf16_f32)
      (shapeCast _ (extf .f32 w bitsLt_bf16_f32) shapeCasts_S8x256x2048_S2048x2048)) : S4096x2048.Idx → EReal)
    = plus (nn s (whole w)) x := by
  funext j
  idx_vars j
  pointwise [nn, plus]
  exact add_comm _ _

theorem out_dx (d : FVec Ideal S4096x2048 .bf16) (w : FVec Ideal S8x256x2048 .bf16) :
    (Host.dotGeneral dot_S4096x2048_S2048x2048_S4096x2048_1_1_0_0_n_n none (extf .f32 d bitsLt_bf16_f32)
      (shapeCast _ (extf .f32 w bitsLt_bf16_f32) shapeCasts_S8x256x2048_S2048x2048) : S4096x2048.Idx → EReal)
    = nt d (whole w) := by
  funext j
  idx_vars j
  pointwise [nt]

theorem out_dw (s d : FVec Ideal S4096x2048 .bf16) :
    (shapeCast _ (transpose S2048x2048 [1, 0] (Host.dotGeneral (F := Ideal) (φ₁ := .f32) (φ₂ := .f32)
      dot_S4096x2048_S4096x2048_S2048x2048_0_0_1_1_n_n none (extf .f32 d bitsLt_bf16_f32) (extf .f32 s bitsLt_bf16_f32)
        : S2048x2048.Idx → EReal) transposes_S2048x2048_S2048x2048_1_0) shapeCasts_S2048x2048_S8x256x2048 : S8x256x2048.Idx → EReal)
    = shards (tn s d) := by
  refine congrArg (fun x : S2048x2048.Idx → EReal => shapeCast S8x256x2048 x shapeCasts_S2048x2048_S8x256x2048) ?_
  funext j
  idx_vars j
  pointwise [tn]
  exact Finset.sum_congr rfl fun e _ => mul_comm _ _

end Reference

end Cert.Mat.Out

end
-- ==== Proof.Mat.OutRun.lean ====
module

public import proofs.«01_k».proof.Proof.Mat.Out

@[expose] public section

set_option maxRecDepth 16384

noncomputable section

/-! The whole run of the output projection's three products, with what it leaves in the results. -/

namespace Cert.Mat.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Kernel

open Cert.Kernel7Ideal Cert.Kernel7Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run ends with the results at the last boundary's contents and the arguments as launched. -/
theorem run_ends : θ_run defs (onTc (τ := τ) (main (F := Ideal))) ⟨m, fun _ => 0, ρ⟩ (fun r => ∀ c : Dev nD,
      r.2.mem ((c.tc : Thread nD τ).loc main_v1) = W5 m ρ c (Proc.devRef .tc main_v1)
      ∧ r.2.mem ((c.tc : Thread nD τ).loc main_v2) = W5 m ρ c (Proc.devRef .tc main_v2)
      ∧ r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v1 (by decide)),
       h c _ (mem_uc main_v2 (by decide)),
       h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Kernel

end Cert.Mat.Out

end
-- ==== Proof.Mat.Pw.lean ====
module

public import Idealize.ShloMosaic.Lib.StableHlo.RunRead
public import proofs.«01_k».proof.Proof.Gen.Kernel6Ideal.Frame
public import proofs.«01_k».proof.Proof.Gen.Reference6Ideal.Run
public import proofs.«01_k».proof.Proof.Mat.Base

@[expose] public section

set_option maxRecDepth 16384

noncomputable section

/-! The pointwise layer's second product with its bias and added rows, and the four products of the layer's gradient. -/

namespace Cert.Mat.Pw

open Idealize.ShloMosaic Idealize.ShloMosaic.TcCoe Idealize.SL.Sem

section Kernel

open Cert.Kernel6Ideal Cert.Kernel6Ideal.Gen

variable (V : (c : Dev nD) → (b : Ref sig .tc) → Buf (Elt Ideal) ((c : Thread nD τ).loc b)) (c : Dev nD)

/-! ## The second product -/

theorem idx0 : ∀ t : Fin cfg0.N, (win0_0.index t 0 = win0_4.index t 0 ∧ win0_0.index t 1 = 0)
    ∧ (win0_1.index t 0 = 0 ∧ win0_1.index t 1 = win0_4.index t 1)
    ∧ (win0_2.index t 0 = win0_4.index t 0 ∧ win0_2.index t 1 = win0_4.index t 1)
    ∧ win0_3.index t 0 = 0 ∧ win0_3.index t 1 = win0_4.index t 1 :=
  (by decide +kernel : ∀ t : Fin grid0.N, (win0_0.index t 0 = win0_4.index t 0 ∧ win0_0.index t 1 = 0)
    ∧ (win0_1.index t 0 = 0 ∧ win0_1.index t 1 = win0_4.index t 1)
    ∧ (win0_2.index t 0 = win0_4.index t 0 ∧ win0_2.index t 1 = win0_4.index t 1)
    ∧ win0_3.index t 0 = 0 ∧ win0_3.index t 1 = win0_4.index t 1)

theorem tiles0 : ∀ (p : Fin 8) (q : Fin 1), ∃ t : Fin cfg0.N, win0_4.index t 0 = p.val ∧ win0_4.index t 1 = q.val :=
  (by decide +kernel : ∀ (p : Fin 8) (q : Fin 1), ∃ t : Fin grid0.N, win0_4.index t 0 = p.val ∧ win0_4.index t 1 = q.val)

theorem pay0 (a : Vec Ideal S512x2048 .bf16) (b : Vec Ideal S2048x2048 .bf16) (r : Vec Ideal S512x2048 .f32) (s : Vec Ideal S1x2048 .f32)
    (i : Fin 512) (f : Fin 2048) :
    k0_pay1 (F := Ideal) a b r s (ix2 i f) = r (ix2 i f) + (∑ k, a (ix2 i k) * b (ix2 k f) + s (ix2 0 f)) := by
  pointwise [k0_pay1]

theorem out0 (a : Vec Ideal S512x2048 .bf16) (b : Vec Ideal S2048x2048 .bf16) (r : Vec Ideal S512x2048 .f32) (s : Vec Ideal S1x2048 .f32) :
    out0_4 a b r s = k0_pay1 a b r s := by
  unfold out0_4
  rw [View.canon_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl)]

theorem flushed0 (t : Fin cfg0.N) : (dat0 V c).flushed 4 t = ((cfg0.win 4).blk t).view.read (Elt Ideal)
    (plus (V c main_arg3 : Arr 4096 2048)
      (withRow (nn (V c main_arg0 : Arr 4096 2048) (V c main_v2 : Arr 2048 2048)) (V c main_v3 : Arr 1 2048))) := by
  show (cfg0.win 4).cut (cfg0.grid.coords t) ((dat0 V c).after 4 t) = _
  rw [after0_4, out0]
  funext (j : S512x2048.Idx)
  idx_vars j
  refine (pay0 _ _ _ _ _ _).trans ?_
  have h := idx0 t
  refine plus_at (same2 (V c main_arg3 : Arr 4096 2048) (((cfg0.win 2).blk t).view.emb (ix2 j0 j1)) (((cfg0.win 4).blk t).view.emb (ix2 j0 j1)) ?_ ?_)
    (withRow_at (nn_at (V c main_arg0 : Arr 4096 2048) (V c main_v2 : Arr 2048 2048) (((cfg0.win 4).blk t).view.emb (ix2 j0 j1))
    (fun e => same2 (V c main_arg0 : Arr 4096 2048) (((cfg0.win 0).blk t).view.emb (ix2 j0 e)) _ ?_ ?_)
    (fun e => same2 (V c main_v2 : Arr 2048 2048) (((cfg0.win 1).blk t).view.emb (ix2 e j1)) _ ?_ ?_))
    (same2 (V c main_v3 : Arr 1 2048) (((cfg0.win 3).blk t).view.emb (ix2 0 j1)) _ ?_ ?_))
  · show win0_2.index t 0 * 512 + 1 * j0.val = win0_4.index t 0 * 512 + 1 * j0.val
    omega
  · show win0_2.index t 1 * 2048 + 1 * j1.val = win0_4.index t 1 * 2048 + 1 * j1.val
    omega
  · show win0_0.index t 0 * 512 + 1 * j0.val = win0_4.index t 0 * 512 + 1 * j0.val
    omega
  · show win0_0.index t 1 * 2048 + 1 * e.val = e.val
    omega
  · show win0_1.index t 0 * 2048 + 1 * e.val = e.val
    omega
  · show win0_1.index t 1 * 2048 + 1 * j1.val = win0_4.index t 1 * 2048 + 1 * j1.val
    omega
  · show win0_3.index t 0 * 1 + 1 * 0 = 0
    omega
  · show win0_3.index t 1 * 2048 + 1 * j1.val = win0_4.index t 1 * 2048 + 1 * j1.val
    omega

theorem cover0 (i : S4096x2048.Idx) : ∃ t : Fin cfg0.N, (cfg0.win 4).flush t = true ∧ i ∈ ((cfg0.win 4).blk t).view.set := by
  have h0 : (i 0 : Nat) < 4096 := (i 0).isLt
  have h1 : (i 1 : Nat) < 2048 := (i 1).isLt
  obtain ⟨t, h⟩ := tiles0 ⟨(i 0 : Nat) / 512, by omega⟩ ⟨(i 1 : Nat) / 2048, by omega⟩
  refine ⟨t, flush0_4 t, ?_⟩
  show i ∈ ((View.whole main_v4).slice (win0_4.rect t)).set
  rw [View.set_slice_whole, Rect.mem_set_unit]
  exact fun a => match a with
    | ⟨0, _⟩ => in_block (i 0) (win0_4.index t 0) 512 (by omega) h.1
    | ⟨1, _⟩ => in_block (i 1) (win0_4.index t 1) 2048 (by omega) h.2

theorem arr0 : (dat0 V c).arrAt 4 cfg0.N = plus (V c main_arg3 : Arr 4096 2048)
      (withRow (nn (V c main_arg0 : Arr 4096 2048) (V c main_v2 : Arr 2048 2048)) (V c main_v3 : Arr 1 2048)) :=
  (dat0 V c).arrAt_eq_of_cover 4 _ (fun t _ => flushed0 V c t) cover0

/-! ## The gradient of the second product's rows -/

theorem idx1 : ∀ t : Fin cfg1.N, win1_0.index t 0 = win1_2.index t 0 ∧ win1_0.index t 1 = 0
    ∧ win1_1.index t 0 = win1_2.index t 1 ∧ win1_1.index t 1 = 0 :=
  (by decide +kernel : ∀ t : Fin grid1.N, win1_0.index t 0 = win1_2.index t 0 ∧ win1_0.index t 1 = 0
    ∧ win1_1.index t 0 = win1_2.index t 1 ∧ win1_1.index t 1 = 0)

theorem tiles1 : ∀ (p : Fin 4) (q : Fin 2), ∃ t : Fin cfg1.N, win1_2.index t 0 = p.val ∧ win1_2.index t 1 = q.val :=
  (by decide +kernel : ∀ (p : Fin 4) (q : Fin 2), ∃ t : Fin grid1.N, win1_2.index t 0 = p.val ∧ win1_2.index t 1 = q.val)

theorem pay1 (a b : Vec Ideal S1024x2048 .bf16) (i f : Fin 1024) :
    k1_pay1 (F := Ideal) a b (ix2 i f) = ∑ k, a (ix2 i k) * b (ix2 f k) := by
  pointwise [k1_pay1]

theorem out1 (a b : Vec Ideal S1024x2048 .bf16) : out1_2 a b = k1_pay1 a b := by
  unfold out1_2
  rw [View.canon_unit_zero (by funext a; fin_cases a <;> rfl), View.ld_unit_zero (by funext a; fin_cases a <;> rfl),
    View.ld_unit_zero (by funext a; fin_cases a <;> rfl)]

theorem flushed1 (t : Fin cfg1.N) : (dat1 V c).flushed 2 t
    = ((cfg1.win 2).blk t).view.read (Elt Ideal) (nt (V c main_arg4 : Arr 4096 2048) (V c main_v2 : Arr 2048 2048)) := by
  show (cfg1.win 2).cut (cfg1.grid.coords t) ((dat1 V c).after 2 t) = _
  rw [after1_2, out1]
  funext (j : S1024x1024.Idx)
  idx_vars j
  refine (pay1 _ _ _ _).trans ?_
  have h := idx1 t
  refine nt_at (V c main_arg4 : Arr 4096 2048) (V c main_v2 : Arr 2048 2048) (((cfg1.win 2).blk t).view.emb (ix2 j0 j1))
    (fun e => same2 (V c main_arg4 : Arr 4096 2048) (((cfg1.win 0).blk t).view.emb (ix2 j0 e)) _ ?_ ?_)
    (fun e => same2 (V c main_v2 : Arr 2048 2048) (((cfg1.win 1).blk t).view.emb (ix2 j1 e)) _ ?_ ?_)
  · show win1_0.index t 0 * 1024 + 1 * j0.val = win1_2.index t 0 * 1024 + 1 * j0.val
    omega
  · show win1_0.index t 1 * 2048 + 1 * e.val = e.val
    omega
  · show win1_1.index t 0 * 1024 + 1 * j1.val = win1_2.index t 1 * 1024 + 1 * j1.val
    omega
  · show win1_1.index t 1 * 2048 + 1 * e.val = e.val
    omega

theorem cover1 (i : S4096x2048.Idx) : ∃ t : Fin cfg1.N, (cfg1.win 2).flush t = true ∧ i ∈ ((cfg1.win 2).blk t).view.set := by
  have h0 : (i 0 : Nat) < 4096 := (i 0).isLt
  have h1 : (i 1 : Nat) < 2048 := (i 1).isLt
  obtain ⟨t, h⟩ := tiles1 ⟨(i 0 : Nat) / 1024, by omega⟩ ⟨(i 1 : Nat) / 1024, by omega⟩
  refine ⟨t, flush1_2 t, ?_⟩
  show i ∈ ((View.whole main_v5).slice (win1_2.rect t)).set
  rw [View.set_slice_whole, Rect.mem_set_unit]
  exact fun a => match a with
    | ⟨0, _⟩ => in_block (i 0) (win1_2.index t 0) 1024 (by omega) h.1
    | ⟨1, _⟩ => in_block (i 1) (win1_2.index t 1) 1024 (by omega) h.2

theorem arr1 : (dat1 V c).arrAt 2 cfg1.N = nt (V c main_arg4 : Arr 4096 2048) (V c main_v2 : Arr 2048 2048) :=
  (dat1 V c).arrAt_eq_of_cover 2 _ (fun t _ => flushed1 V c t) cover1

/-! ## The gradient of its weights -/

theorem idx2 : ∀ t : Fin cfg2.N, win2_0.index t 0 = 0 ∧ win2_0.index t 1 = win2_2.index t 0
    ∧ win2_1.index t 0 = 0 ∧ win2_1.index t 1 = win2_2.index t 1 :=
  (by decide +kernel : ∀ t : Fin grid2.N, win2_0.index t 0 = 0 ∧ win2_0.index t 1 = win2_2.index t 0
    ∧ win2_1.index t 0 = 0 ∧ win2_1.index t 1 = win2_2.index t 1)

theorem tiles2 : ∀ (p : Fin 2) (q : Fin 2), ∃ t : Fin cfg2.N, win2_2.index t 0 = p.val ∧ win2_2.index t 1 = q.val :=
  (by decide +kernel : ∀ (p : Fin 2) (q : Fin 2), ∃ t : Fin grid2.N, win2_2.index t 0 = p.val ∧ win2_2.index t 1 = q.val)

theorem pay2 (a b : Vec Ideal S4096x1024 .bf16) (i f : Fin 1024) :
    k2_pay1 (F := Ideal) a b (ix2 i f) = ∑ k, a (ix2 k i) * b (ix2 k f) := by
  pointwise [k2_pay1]

theorem out2 (a b : Vec Ideal S4096x1024 .bf16) : out2_2 a b = k2_pay1 a b := by
  unfold out2_2
  rw [View.canon_unit_zero (by funext a; fin_cases a <;> rfl), View.ld_unit_zero (by funext a; fin_cases a <;> rfl),
    View.ld_unit_zero (by funext a; fin_cases a <;> rfl)]

theorem flushed2 (t : Fin cfg2.N) : (dat2 V c).flushed 2 t
    = ((cfg2.win 2).blk t).view.read (Elt Ideal) (tn (V c main_arg0 : Arr 4096 2048) (V c main_arg4 : Arr 4096 2048)) := by
  show (cfg2.win 2).cut (cfg2.grid.coords t) ((dat2 V c).after 2 t) = _
  rw [after2_2, out2]
  funext (j : S1024x1024.Idx)
  idx_vars j
  refine (pay2 _ _ _ _).trans ?_
  have h := idx2 t
  refine tn_at (V c main_arg0 : Arr 4096 2048) (V c main_arg4 : Arr 4096 2048) (((cfg2.win 2).blk t).view.emb (ix2 j0 j1))
    (fun e => same2 (V c main_arg0 : Arr 4096 2048) (((cfg2.win 0).blk t).view.emb (ix2 e j0)) _ ?_ ?_)
    (fun e => same2 (V c main_arg4 : Arr 4096 2048) (((cfg2.win 1).blk t).view.emb (ix2 e j1)) _ ?_ ?_)
  · show win2_0.index t 0 * 4096 + 1 * e.val = e.val
    omega
  · show win2_0.index t 1 * 1024 + 1 * j0.val = win2_2.index t 0 * 1024 + 1 * j0.val
    omega
  · show win2_1.index t 0 * 4096 + 1 * e.val = e.val
    omega
  · show win2_1.index t 1 * 1024 + 1 * j1.val = win2_2.index t 1 * 1024 + 1 * j1.val
    omega

theorem cover2 (i : S2048x2048.Idx) : ∃ t : Fin cfg2.N, (cfg2.win 2).flush t = true ∧ i ∈ ((cfg2.win 2).blk t).view.set := by
  have h0 : (i 0 : Nat) < 2048 := (i 0).isLt
  have h1 : (i 1 : Nat) < 2048 := (i 1).isLt
  obtain ⟨t, h⟩ := tiles2 ⟨(i 0 : Nat) / 1024, by omega⟩ ⟨(i 1 : Nat) / 1024, by omega⟩
  refine ⟨t, flush2_2 t, ?_⟩
  show i ∈ ((View.whole main_v6).slice (win2_2.rect t)).set
  rw [View.set_slice_whole, Rect.mem_set_unit]
  exact fun a => match a with
    | ⟨0, _⟩ => in_block (i 0) (win2_2.index t 0) 1024 (by omega) h.1
    | ⟨1, _⟩ => in_block (i 1) (win2_2.index t 1) 1024 (by omega) h.2

theorem arr2 : (dat2 V c).arrAt 2 cfg2.N = tn (V c main_arg0 : Arr 4096 2048) (V c main_arg4 : Arr 4096 2048) :=
  (dat2 V c).arrAt_eq_of_cover 2 _ (fun t _ => flushed2 V c t) cover2

/-! ## The gradient of the first product's weights, its columns in eight slabs -/

theorem idx3 : ∀ t : Fin cfg3.N, win3_0.index t 0 = 0 ∧ win3_0.index t 1 = win3_2.index t 1
    ∧ win3_1.index t 0 = 0 ∧ win3_1.index t 1 = win3_2.index t 0 ∧ win3_2.index t 2 = 0 :=
  (by decide +kernel : ∀ t : Fin grid3.N, win3_0.index t 0 = 0 ∧ win3_0.index t 1 = win3_2.index t 1
    ∧ win3_1.index t 0 = 0 ∧ win3_1.index t 1 = win3_2.index t 0 ∧ win3_2.index t 2 = 0)

theorem tiles3 : ∀ (p : Fin 8) (q : Fin 2), ∃ t : Fin cfg3.N, win3_2.index t 0 = p.val ∧ win3_2.index t 1 = q.val :=
  (by decide +kernel : ∀ (p : Fin 8) (q : Fin 2), ∃ t : Fin grid3.N, win3_2.index t 0 = p.val ∧ win3_2.index t 1 = q.val)

theorem pay3 (a : Vec Ideal S4096x1024 .bf16) (b : Vec Ideal S4096x512 .bf16) (i : Fin 1024) (f : Fin 512) :
    k3_pay1 (F := Ideal) a b (ix3 0 i f) = ∑ k, a (ix2 k i) * b (ix2 k f) := by
  pointwise [k3_pay1]

theorem out3 (a : Vec Ideal S4096x1024 .bf16) (b : Vec Ideal S4096x512 .bf16) : out3_2 a b = k3_pay1 a b := by
  unfold out3_2
  rw [View.canon_unit_zero (by funext a; fin_cases a <;> rfl), View.ld_unit_zero (by funext a; fin_cases a <;> rfl),
    View.ld_unit_zero (by funext a; fin_cases a <;> rfl)]

/-- Columns times columns, the second factor's columns numbered slab by slab. -/
def slabs (a : Arr 4096 2048) (b : Arr 4096 4096) : S8x2048x512.Idx → EReal := fun j =>
  ∑ k : Fin 4096, a (ix2 k (j 1)) * b (ix2 k (⟨(j 0).val * 512 + (j 2).val, by
    have h0 : (j 0).val < 8 := (j 0).isLt
    have h2 : (j 2).val < 512 := (j 2).isLt
    omega⟩ : Fin 4096))

theorem slabs_at (a : Arr 4096 2048) (b : Arr 4096 4096) (p : S8x2048x512.Idx) {x y : Fin 4096 → EReal}
    (hx : ∀ e, x e = a (ix2 e (p 1))) (hy : ∀ e, y e = b (ix2 e (⟨(p 0).val * 512 + (p 2).val, by
      have h0 : (p 0).val < 8 := (p 0).isLt
      have h2 : (p 2).val < 512 := (p 2).isLt
      omega⟩ : Fin 4096))) : ∑ e, x e * y e = slabs a b p :=
  Finset.sum_congr rfl fun e _ => by rw [hx e, hy e]

theorem flushed3 (t : Fin cfg3.N) : (dat3 V c).flushed 2 t
    = ((cfg3.win 2).blk t).view.read (Elt Ideal) (slabs (V c main_arg5 : Arr 4096 2048) (V c main_arg6 : Arr 4096 4096)) := by
  show (cfg3.win 2).cut (cfg3.grid.coords t) ((dat3 V c).after 2 t) = _
  rw [after3_2, out3]
  funext (j : S1x1024x512.Idx)
  idx_vars j
  obtain rfl : j0 = 0 := Subsingleton.elim _ _
  refine (pay3 _ _ _ _).trans ?_
  have h := idx3 t
  refine slabs_at (V c main_arg5 : Arr 4096 2048) (V c main_arg6 : Arr 4096 4096) (((cfg3.win 2).blk t).view.emb (ix3 0 j1 j2))
    (fun e => same2 (V c main_arg5 : Arr 4096 2048) (((cfg3.win 0).blk t).view.emb (ix2 e j1)) _ ?_ ?_)
    (fun e => same2 (V c main_arg6 : Arr 4096 4096) (((cfg3.win 1).blk t).view.emb (ix2 e j2)) _ ?_ ?_)
  · show win3_0.index t 0 * 4096 + 1 * e.val = e.val
    omega
  · show win3_0.index t 1 * 1024 + 1 * j1.val = win3_2.index t 1 * 1024 + 1 * j1.val
    omega
  · show win3_1.index t 0 * 4096 + 1 * e.val = e.val
    omega
  · show win3_1.index t 1 * 512 + 1 * j2.val = (win3_2.index t 0 * 1 + 1 * 0) * 512 + (win3_2.index t 2 * 512 + 1 * j2.val)
    omega

theorem cover3 (i : S8x2048x512.Idx) : ∃ t : Fin cfg3.N, (cfg3.win 2).flush t = true ∧ i ∈ ((cfg3.win 2).blk t).view.set := by
  have h0 : (i 0 : Nat) < 8 := (i 0).isLt
  have h1 : (i 1 : Nat) < 2048 := (i 1).isLt
  have h2 : (i 2 : Nat) < 512 := (i 2).isLt
  obtain ⟨t, h⟩ := tiles3 ⟨(i 0 : Nat), by omega⟩ ⟨(i 1 : Nat) / 1024, by omega⟩
  refine ⟨t, flush3_2 t, ?_⟩
  show i ∈ ((View.whole main_v7).slice (win3_2.rect t)).set
  rw [View.set_slice_whole, Rect.mem_set_unit]
  exact fun a => match a with
    | ⟨0, _⟩ => in_block (i 0) (win3_2.index t 0) 1 (by omega) (h.1.trans (Nat.div_one _).symm)
    | ⟨1, _⟩ => in_block (i 1) (win3_2.index t 1) 1024 (by omega) h.2
    | ⟨2, _⟩ => in_block (i 2) (win3_2.index t 2) 512 (by omega) ((idx3 t).2.2.2.2.trans (Nat.div_eq_of_lt h2).symm)

theorem arr3 : (dat3 V c).arrAt 2 cfg3.N = slabs (V c main_arg5 : Arr 4096 2048) (V c main_arg6 : Arr 4096 4096) :=
  (dat3 V c).arrAt_eq_of_cover 2 _ (fun t _ => flushed3 V c t) cover3

/-! ## The gradient of the first product's rows -/

theorem idx4 : ∀ t : Fin cfg4.N, win4_0.index t 0 = win4_2.index t 0 ∧ win4_0.index t 1 = 0
    ∧ win4_1.index t 0 = win4_2.index t 1 ∧ win4_1.index t 1 = 0 :=
  (by decide +kernel : ∀ t : Fin grid4.N, win4_0.index t 0 = win4_2.index t 0 ∧ win4_0.index t 1 = 0
    ∧ win4_1.index t 0 = win4_2.index t 1 ∧ win4_1.index t 1 = 0)

theorem tiles4 : ∀ (p : Fin 4) (q : Fin 2), ∃ t : Fin cfg4.N, win4_2.index t 0 = p.val ∧ win4_2.index t 1 = q.val :=
  (by decide +kernel : ∀ (p : Fin 4) (q : Fin 2), ∃ t : Fin grid4.N, win4_2.index t 0 = p.val ∧ win4_2.index t 1 = q.val)

theorem pay4 (a b : Vec Ideal S1024x4096 .bf16) (i f : Fin 1024) :
    k4_pay1 (F := Ideal) a b (ix2 i f) = ∑ k, a (ix2 i k) * b (ix2 f k) := by
  pointwise [k4_pay1]

theorem out4 (a b : Vec Ideal S1024x4096 .bf16) : out4_2 a b = k4_pay1 a b := by
  unfold out4_2
  rw [View.canon_unit_zero (by funext a; fin_cases a <;> rfl), View.ld_unit_zero (by funext a; fin_cases a <;> rfl),
    View.ld_unit_zero (by funext a; fin_cases a <;> rfl)]

theorem flushed4 (t : Fin cfg4.N) : (dat4 V c).flushed 2 t
    = ((cfg4.win 2).blk t).view.read (Elt Ideal) (nt (V c main_arg6 : Arr 4096 4096) (V c main_v1 : Arr 2048 4096)) := by
  show (cfg4.win 2).cut (cfg4.grid.coords t) ((dat4 V c).after 2 t) = _
  rw [after4_2, out4]
  funext (j : S1024x1024.Idx)
  idx_vars j
  refine (pay4 _ _ _ _).trans ?_
  have h := idx4 t
  refine nt_at (V c main_arg6 : Arr 4096 4096) (V c main_v1 : Arr 2048 4096) (((cfg4.win 2).blk t).view.emb (ix2 j0 j1))
    (fun e => same2 (V c main_arg6 : Arr 4096 4096) (((cfg4.win 0).blk t).view.emb (ix2 j0 e)) _ ?_ ?_)
    (fun e => same2 (V c main_v1 : Arr 2048 4096) (((cfg4.win 1).blk t).view.emb (ix2 j1 e)) _ ?_ ?_)
  · show win4_0.index t 0 * 1024 + 1 * j0.val = win4_2.index t 0 * 1024 + 1 * j0.val
    omega
  · show win4_0.index t 1 * 4096 + 1 * e.val = e.val
    omega
  · show win4_1.index t 0 * 1024 + 1 * j1.val = win4_2.index t 1 * 1024 + 1 * j1.val
    omega
  · show win4_1.index t 1 * 4096 + 1 * e.val = e.val
    omega

theorem cover4 (i : S4096x2048.Idx) : ∃ t : Fin cfg4.N, (cfg4.win 2).flush t = true ∧ i ∈ ((cfg4.win 2).blk t).view.set := by
  have h0 : (i 0 : Nat) < 4096 := (i 0).isLt
  have h1 : (i 1 : Nat) < 2048 := (i 1).isLt
  obtain ⟨t, h⟩ := tiles4 ⟨(i 0 : Nat) / 1024, by omega⟩ ⟨(i 1 : Nat) / 1024, by omega⟩
  refine ⟨t, flush4_2 t, ?_⟩
  show i ∈ ((View.whole main_v8).slice (win4_2.rect t)).set
  rw [View.set_slice_whole, Rect.mem_set_unit]
  exact fun a => match a with
    | ⟨0, _⟩ => in_block (i 0) (win4_2.index t 0) 1024 (by omega) h.1
    | ⟨1, _⟩ => in_block (i 1) (win4_2.index t 1) 1024 (by omega) h.2

theorem arr4 : (dat4 V c).arrAt 2 cfg4.N = nt (V c main_arg6 : Arr 4096 4096) (V c main_v1 : Arr 2048 4096) :=
  (dat4 V c).arrAt_eq_of_cover 2 _ (fun t _ => flushed4 V c t) cover4

/-! ## The arrays between the calls -/

variable (m : (ℓ : Loc nD τ sig) → Buf (Elt Ideal) ℓ) (ρ : Dev nD → PrngReg)

/-- The arguments: the activated rows, the second weights and their bias, the rows added, the cotangent of the result,
    the rows of the first product, the cotangent of its result, and the first weights. -/
abbrev aS : Arr 4096 2048 := m ((c.tc : Thread nD τ).loc main_arg0)
abbrev aW2 : S8x256x2048.Idx → EReal := m ((c.tc : Thread nD τ).loc main_arg1)
abbrev aB2 : S2048.Idx → EReal := m ((c.tc : Thread nD τ).loc main_arg2)
abbrev aX : Arr 4096 2048 := m ((c.tc : Thread nD τ).loc main_arg3)
abbrev aD : Arr 4096 2048 := m ((c.tc : Thread nD τ).loc main_arg4)
abbrev aH : Arr 4096 2048 := m ((c.tc : Thread nD τ).loc main_arg5)
abbrev aDz : Arr 4096 4096 := m ((c.tc : Thread nD τ).loc main_arg6)
abbrev aW1 : S8x2048x512.Idx → EReal := m ((c.tc : Thread nD τ).loc main_arg7)

/-- The gathered weights in one piece, the bias as a row, and a weight gradient as the shards hold it. -/
abbrev whole2 (w : S8x256x2048.Idx → EReal) : Arr 2048 2048 :=
  shapeCast S2048x2048 w shapeCasts_S8x256x2048_S2048x2048
abbrev whole1 (w : S8x2048x512.Idx → EReal) : Arr 2048 4096 :=
  shapeCast S2048x4096 (transpose S2048x8x512 [1, 0, 2] w transposes_S8x2048x512_S2048x8x512_1_0_2) shapeCasts_S2048x8x512_S2048x4096
abbrev asRow (b : S2048.Idx → EReal) : Arr 1 2048 := shapeCast S1x2048 b shapeCasts_S2048_S1x2048
abbrev shards (w : Arr 2048 2048) : S8x256x2048.Idx → EReal :=
  shapeCast S8x256x2048 (w : S2048x2048.Idx → EReal) shapeCasts_S2048x2048_S8x256x2048

theorem in1_v1 : V1 m ρ c main_v1 = whole1 (aW1 c m) := by
  show StableHlo.after hostOps0 (W0 m ρ c) (Proc.devRef .tc main_v1) = _
  after_reads_simp
  rfl
theorem in1_v2 : V1 m ρ c main_v2 = whole2 (aW2 c m) := by
  show StableHlo.after hostOps0 (W0 m ρ c) (Proc.devRef .tc main_v2) = _
  after_reads_simp
  rfl
theorem in1_v3 : V1 m ρ c main_v3 = asRow (aB2 c m) := by
  show StableHlo.after hostOps0 (W0 m ρ c) (Proc.devRef .tc main_v3) = _
  after_reads_simp
  rfl
theorem in1_arg0 : V1 m ρ c main_arg0 = aS c m := W1_of m ρ c main_arg0 (by decide)
theorem in1_arg3 : V1 m ρ c main_arg3 = aX c m := W1_of m ρ c main_arg3 (by decide)

/-- The second product's result. -/
abbrev rows (s : Arr 4096 2048) (w : S8x256x2048.Idx → EReal) (b : S2048.Idx → EReal) (x : Arr 4096 2048) : Arr 4096 2048 :=
  plus x (withRow (nn s (whole2 w)) (asRow b))

theorem in2_v4 : V2 m ρ c main_v4 = rows (aS c m) (aW2 c m) (aB2 c m) (aX c m) := by
  refine (W2_arr m ρ c 4).trans ((arr0 (V1 m ρ) c).trans ?_)
  rw [in1_arg0, in1_arg3, in1_v2, in1_v3]
theorem in2_v2 : V2 m ρ c main_v2 = whole2 (aW2 c m) := (W2_of m ρ c main_v2 (by decide)).trans (in1_v2 c m ρ)
theorem in2_arg4 : V2 m ρ c main_arg4 = aD c m := W2_args m ρ c main_arg4 (by decide)

theorem in3_v5 : V3 m ρ c main_v5 = nt (aD c m) (whole2 (aW2 c m)) := by
  refine (W3_arr m ρ c 2).trans ((arr1 (V2 m ρ) c).trans ?_)
  rw [in2_arg4, in2_v2]
theorem in3_arg0 : V3 m ρ c main_arg0 = aS c m := W3_args m ρ c main_arg0 (by decide)
theorem in3_arg4 : V3 m ρ c main_arg4 = aD c m := W3_args m ρ c main_arg4 (by decide)

theorem in4_v6 : V4 m ρ c main_v6 = tn (aS c m) (aD c m) := by
  refine (W4_arr m ρ c 2).trans ((arr2 (V3 m ρ) c).trans ?_)
  rw [in3_arg0, in3_arg4]
theorem in4_arg5 : V4 m ρ c main_arg5 = aH c m := W4_args m ρ c main_arg5 (by decide)
theorem in4_arg6 : V4 m ρ c main_arg6 = aDz c m := W4_args m ρ c main_arg6 (by decide)

theorem in5_v7 : V5 m ρ c main_v7 = slabs (aH c m) (aDz c m) := by
  refine (W5_arr m ρ c 2).trans ((arr3 (V4 m ρ) c).trans ?_)
  rw [in4_arg5, in4_arg6]
theorem in5_arg6 : V5 m ρ c main_arg6 = aDz c m := W5_args m ρ c main_arg6 (by decide)
theorem in5_v1 : V5 m ρ c main_v1 = whole1 (aW1 c m) :=
  (W5_of m ρ c main_v1 (by decide)).trans ((W4_of m ρ c main_v1 (by decide)).trans ((W3_of m ρ c main_v1 (by decide)).trans
    ((W2_of m ρ c main_v1 (by decide)).trans (in1_v1 c m ρ))))

theorem in6_v8 : V6 m ρ c main_v8 = nt (aDz c m) (whole1 (aW1 c m)) := by
  refine (W6_arr m ρ c 2).trans ((arr4 (V5 m ρ) c).trans ?_)
  rw [in5_arg6, in5_v1]

theorem end_v4 : W7 m ρ c (Proc.devRef .tc main_v4) = rows (aS c m) (aW2 c m) (aB2 c m) (aX c m) :=
  (W7_of m ρ c main_v4 (by decide)).trans ((W6_of m ρ c main_v4 (by decide)).trans ((W5_of m ρ c main_v4 (by decide)).trans
    ((W4_of m ρ c main_v4 (by decide)).trans ((W3_of m ρ c main_v4 (by decide)).trans (in2_v4 c m ρ)))))
theorem end_v5 : W7 m ρ c (Proc.devRef .tc main_v5) = nt (aD c m) (whole2 (aW2 c m)) :=
  (W7_of m ρ c main_v5 (by decide)).trans ((W6_of m ρ c main_v5 (by decide)).trans ((W5_of m ρ c main_v5 (by decide)).trans
    ((W4_of m ρ c main_v5 (by decide)).trans (in3_v5 c m ρ))))
theorem end_v7 : W7 m ρ c (Proc.devRef .tc main_v7) = slabs (aH c m) (aDz c m) :=
  (W7_of m ρ c main_v7 (by decide)).trans ((W6_of m ρ c main_v7 (by decide)).trans (in5_v7 c m ρ))
theorem end_v8 : W7 m ρ c (Proc.devRef .tc main_v8) = nt (aDz c m) (whole1 (aW1 c m)) :=
  (W7_of m ρ c main_v8 (by decide)).trans (in6_v8 c m ρ)
theorem end_v9 : W7 m ρ c (Proc.devRef .tc main_v9) = shards (tn (aS c m) (aD c m)) := by
  have h : W6 m ρ c (Proc.devRef .tc main_v6) = tn (aS c m) (aD c m) :=
    (W6_of m ρ c main_v6 (by decide)).trans ((W5_of m ρ c main_v6 (by decide)).trans (in4_v6 c m ρ))
  show StableHlo.after hostOps5 (W6 m ρ c) (Proc.devRef .tc main_v9) = _
  after_reads_simp
  rw [h]
  rfl

end Kernel

section Reference

open Cert.Reference6Ideal Cert.Reference6Ideal.Gen

/-- What the reference computes from the same arguments. -/
theorem out_rows (s : FVec Ideal S4096x2048 .bf16) (w : FVec Ideal S8x256x2048 .bf16) (b : FVec Ideal S2048 .f32) (x : FVec Ideal S4096x2048 .f32) :
    (addf x (addf (Host.dotGeneral dot_S4096x2048_S2048x2048_S4096x2048_1_0_0_1_n_n none (extf .f32 s bitsLt_bf16_f32)
      (shapeCast _ (extf .f32 w bitsLt_bf16_f32) shapeCasts_S8x256x2048_S2048x2048))
      (broadcastInDim S4096x2048 ![0, 1] bcast_S1x2048_S4096x2048_0_1 (broadcastInDim S1x2048 ![1] bcast_S2048_S1x2048_1 b)))
        : S4096x2048.Idx → EReal)
    = rows s w b x := by
  funext j
  idx_vars j
  pointwise [nn, plus, withRow]

theorem out_dx (d : FVec Ideal S4096x2048 .bf16) (w : FVec Ideal S8x256x2048 .bf16) :
    (Host.dotGeneral dot_S4096x2048_S2048x2048_S4096x2048_1_1_0_0_n_n none (extf .f32 d bitsLt_bf16_f32)
      (shapeCast _ (extf .f32 w bitsLt_bf16_f32) shapeCasts_S8x256x2048_S2048x2048) : S4096x2048.Idx → EReal)
    = nt d (whole2 w) := by
  funext j
  idx_vars j
  pointwise [nt]

theorem out_dw (s d : FVec Ideal S4096x2048 .bf16) :
    (shapeCast _ (transpose S2048x2048 [1, 0] (Host.dotGeneral (F := Ideal) (φ₁ := .f32) (φ₂ := .f32)
      dot_S4096x2048_S4096x2048_S2048x2048_0_0_1_1_n_n none (extf .f32 d bitsLt_bf16_f32) (extf .f32 s bitsLt_bf16_f32)
        : S2048x2048.Idx → EReal) transposes_S2048x2048_S2048x2048_1_0) shapeCasts_S2048x2048_S8x256x2048 : S8x256x2048.Idx → EReal)
    = shards (tn s d) := by
  refine congrArg (fun x : S2048x2048.Idx → EReal => shapeCast S8x256x2048 x shapeCasts_S2048x2048_S8x256x2048) ?_
  funext j
  idx_vars j
  pointwise [tn]
  exact Finset.sum_congr rfl fun e _ => mul_comm _ _

theorem out_dw1 (h : FVec Ideal S4096x2048 .bf16) (z : FVec Ideal S4096x4096 .bf16) :
    (transpose S8x2048x512 [1, 0, 2] (shapeCast S2048x8x512 (transpose S2048x4096 [1, 0] (Host.dotGeneral (F := Ideal) (φ₁ := .f32) (φ₂ := .f32)
      dot_S4096x4096_S4096x2048_S4096x2048_0_0_1_1_n_n none (extf .f32 z bitsLt_bf16_f32) (extf .f32 h bitsLt_bf16_f32)
        : S4096x2048.Idx → EReal) transposes_S4096x2048_S2048x4096_1_0) shapeCasts_S2048x4096_S2048x8x512)
        transposes_S2048x8x512_S8x2048x512_1_0_2 : S8x2048x512.Idx → EReal)
    = slabs h z := by
  funext j
  idx_vars j
  pointwise [slabs]
  exact Finset.sum_congr rfl fun e _ => mul_comm _ _

theorem out_dx1 (z : FVec Ideal S4096x4096 .bf16) (w : FVec Ideal S8x2048x512 .bf16) :
    (Host.dotGeneral dot_S4096x4096_S2048x4096_S4096x2048_1_1_0_0_n_n none (extf .f32 z bitsLt_bf16_f32)
      (shapeCast _ (transpose S2048x8x512 [1, 0, 2] (extf .f32 w bitsLt_bf16_f32) transposes_S8x2048x512_S2048x8x512_1_0_2)
        shapeCasts_S2048x8x512_S2048x4096) : S4096x2048.Idx → EReal)
    = nt z (whole1 w) := by
  funext j
  idx_vars j
  pointwise [nt]

end Reference

end Cert.Mat.Pw

end
-- ==== Proof.Mat.PwRun.lean ====
module

public import proofs.«01_k».proof.Proof.Mat.Pw

@[expose] public section

set_option maxRecDepth 16384

noncomputable section

/-! The whole run of the pointwise layer's five products, with what it leaves in the results. -/

namespace Cert.Mat.Pw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Kernel

open Cert.Kernel6Ideal Cert.Kernel6Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run ends with the results at the last boundary's contents and the arguments as launched. -/
theorem run_ends : θ_run defs (onTc (τ := τ) (main (F := Ideal))) ⟨m, fun _ => 0, ρ⟩ (fun r => ∀ c : Dev nD,
      r.2.mem ((c.tc : Thread nD τ).loc main_v4) = W7 m ρ c (Proc.devRef .tc main_v4)
      ∧ r.2.mem ((c.tc : Thread nD τ).loc main_v5) = W7 m ρ c (Proc.devRef .tc main_v5)
      ∧ r.2.mem ((c.tc : Thread nD τ).loc main_v9) = W7 m ρ c (Proc.devRef .tc main_v9)
      ∧ r.2.mem ((c.tc : Thread nD τ).loc main_v7) = W7 m ρ c (Proc.devRef .tc main_v7)
      ∧ r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v4 (by decide)),
       h c _ (mem_uc main_v5 (by decide)),
       h c _ (mem_uc main_v9 (by decide)),
       h c _ (mem_uc main_v7 (by decide)),
       h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Kernel

end Cert.Mat.Pw

end
-- ==== Proof.Mat.InDx.lean ====
module

public import Idealize.ShloMosaic.Lib.StableHlo.RunRead
public import proofs.«01_k».proof.Proof.Gen.Kernel9Ideal.Value
public import proofs.«01_k».proof.Proof.Gen.Reference9Ideal.Run
public import proofs.«01_k».proof.Proof.Ffn.UpDx
public import proofs.«01_k».proof.Proof.Mat.Base

@[expose] public section

set_option maxRecDepth 16384

noncomputable section

/-! The gradient of the normalized rows through the input projection: four products added, one for each group of
columns. The third group comes in a wider array, whose further columns meet rows of zeros. -/

namespace Cert.Mat.InDx

open Idealize.ShloMosaic Idealize.ShloMosaic.TcCoe Idealize.ShloMosaic.Tactic Idealize.SL.Sem

section Kernel

open Cert.Kernel9Ideal Cert.Kernel9Ideal.Gen Cert.Kernel9Ideal.Value

theorem pay (q : Vec Ideal S512x3072 .bf16) (wq : Vec Ideal S3072x1024 .bf16) (z : Vec Ideal S512x1024 .bf16)
    (wz : Vec Ideal S1024x1024 .bf16) (b : Vec Ideal S512x128 .bf16) (wb : Vec Ideal S128x1024 .bf16)
    (u : Vec Ideal S512x2048 .bf16) (wu : Vec Ideal S2048x1024 .bf16) (i : Fin 512) (f : Fin 1024) :
    k0_pay1 (F := Ideal) q wq z wz b wb u wu (ix2 i f)
      = (((∑ k, q (ix2 i k) * wq (ix2 k f)) + ∑ k, z (ix2 i k) * wz (ix2 k f)) + ∑ k, b (ix2 i k) * wb (ix2 k f))
        + ∑ k, u (ix2 i k) * wu (ix2 k f) := by
  pointwise [k0_pay1]

section
variable (c : Dev nD) (i : grid0.Coords) (arg2 : Memref sig .tc .vmem S512x3072 .bf16) (harg2 : arg2.IsWhole)
  (arg3 : Memref sig .tc .vmem S3072x1024 .bf16) (harg3 : arg3.IsWhole) (arg4 : Memref sig .tc .vmem S512x1024 .bf16) (harg4 : arg4.IsWhole)
  (arg5 : Memref sig .tc .vmem S1024x1024 .bf16) (harg5 : arg5.IsWhole) (arg6 : Memref sig .tc .vmem S512x128 .bf16) (harg6 : arg6.IsWhole)
  (arg7 : Memref sig .tc .vmem S128x1024 .bf16) (harg7 : arg7.IsWhole) (arg8 : Memref sig .tc .vmem S512x2048 .bf16) (harg8 : arg8.IsWhole)
  (arg9 : Memref sig .tc .vmem S2048x1024 .bf16) (harg9 : arg9.IsWhole) (arg10 : Memref sig .tc .vmem S512x1024 .f32) (harg10 : arg10.IsWhole)
  (q : Vec Ideal S512x3072 .bf16) (wq : Vec Ideal S3072x1024 .bf16) (z : Vec Ideal S512x1024 .bf16)
  (wz : Vec Ideal S1024x1024 .bf16) (b : Vec Ideal S512x128 .bf16) (wb : Vec Ideal S128x1024 .bf16)
  (u : Vec Ideal S512x2048 .bf16) (wu : Vec Ideal S2048x1024 .bf16)

/-- Every point stores the sum of its four products. -/
theorem out_A : out0_A_8 (F := Ideal) c i arg2 harg2 arg3 harg3 arg4 harg4 arg5 harg5 arg6 harg6 arg7 harg7 arg8 harg8 arg9 harg9
    arg10 harg10 q wq z wz b wb u wu = k0_pay1 q wq z wz b wb u wu := by
  unfold out0_A_8
  rw [View.read_writes_eq_canon _ _ _ (cover0_A_8 (F := Ideal) c i arg2 harg2 arg3 harg3 arg4 harg4 arg5 harg5 arg6 harg6 arg7 harg7
    arg8 harg8 arg9 harg9 arg10 harg10 q wq z wz b wb u wu)]
  unfold kernelRun0_A
  dsimp only
  sl_unfold_words
  simp only [View.readAt_eq_ld, harg2.read_unread, harg3.read_unread, harg4.read_unread, harg5.read_unread, harg6.read_unread,
    harg7.read_unread, harg8.read_unread, harg9.read_unread]
  rw [View.canon_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl)]

end

/-! Every window of rows takes the block of rows the result's takes, every window of weights the block of columns. -/

theorem idxR : ∀ t : Fin cfg0.N, win0_0.index t 0 = win0_8.index t 0 ∧ win0_0.index t 1 = 0
    ∧ win0_2.index t 0 = win0_8.index t 0 ∧ win0_2.index t 1 = 0 ∧ win0_4.index t 0 = win0_8.index t 0 ∧ win0_4.index t 1 = 0
    ∧ win0_6.index t 0 = win0_8.index t 0 ∧ win0_6.index t 1 = 0 :=
  (by decide +kernel : ∀ t : Fin grid0.N, win0_0.index t 0 = win0_8.index t 0 ∧ win0_0.index t 1 = 0
    ∧ win0_2.index t 0 = win0_8.index t 0 ∧ win0_2.index t 1 = 0 ∧ win0_4.index t 0 = win0_8.index t 0 ∧ win0_4.index t 1 = 0
    ∧ win0_6.index t 0 = win0_8.index t 0 ∧ win0_6.index t 1 = 0)
theorem idxC : ∀ t : Fin cfg0.N, win0_1.index t 0 = 0 ∧ win0_1.index t 1 = win0_8.index t 1
    ∧ win0_3.index t 0 = 3 ∧ win0_3.index t 1 = win0_8.index t 1 ∧ win0_5.index t 0 = 0 ∧ win0_5.index t 1 = win0_8.index t 1
    ∧ win0_7.index t 0 = 0 ∧ win0_7.index t 1 = win0_8.index t 1 :=
  (by decide +kernel : ∀ t : Fin grid0.N, win0_1.index t 0 = 0 ∧ win0_1.index t 1 = win0_8.index t 1
    ∧ win0_3.index t 0 = 3 ∧ win0_3.index t 1 = win0_8.index t 1 ∧ win0_5.index t 0 = 0 ∧ win0_5.index t 1 = win0_8.index t 1
    ∧ win0_7.index t 0 = 0 ∧ win0_7.index t 1 = win0_8.index t 1)
theorem tiles : ∀ (p : Fin 8) (q : Fin 2), ∃ t : Fin cfg0.N, win0_8.index t 0 = p.val ∧ win0_8.index t 1 = q.val :=
  (by decide +kernel : ∀ (p : Fin 8) (q : Fin 2), ∃ t : Fin grid0.N, win0_8.index t 0 = p.val ∧ win0_8.index t 1 = q.val)

variable (m : (ℓ : Loc nD τ sig) → Buf (Elt Ideal) ℓ) (c : Dev nD)

/-- The arguments: the gathered weights and the cotangents of the four groups. -/
abbrev aW : S8x770x2048.Idx → EReal := m ((c.tc : Thread nD τ).loc main_arg0)
abbrev aQ : Arr 4096 3072 := m ((c.tc : Thread nD τ).loc main_arg1)
abbrev aZ : Arr 4096 1024 := m ((c.tc : Thread nD τ).loc main_arg2)
abbrev aB : Arr 4096 128 := m ((c.tc : Thread nD τ).loc main_arg3)
abbrev aU : Arr 4096 2048 := m ((c.tc : Thread nD τ).loc main_arg4)

/-- The weights in one piece, the rows of the first two groups, the third group's rows with rows of zeros after them,
and the fourth group's rows. -/
abbrev whole (w : S8x770x2048.Idx → EReal) : Arr 6160 2048 := shapeCast S6160x2048 w shapeCasts_S8x770x2048_S6160x2048
abbrev rowsQ (w : Arr 6160 2048) : Arr 3072 2048 := fun j => w (ix2 ⟨(j 0).val, by have := (j 0).isLt; change _ < 3072 at this; omega⟩ (j 1))
abbrev rowsZ (w : Arr 6160 2048) : Arr 1024 2048 := fun j => w (ix2 ⟨3072 + (j 0).val, by have := (j 0).isLt; change _ < 1024 at this; omega⟩ (j 1))
abbrev rowsB (w : Arr 6160 2048) : Arr 128 2048 :=
  pad S128x2048 ![0, 0] ![112, 0] ![0, 0] (extractStridedSlice S16x2048 ![4096, 0] w slices_S6160x2048_S16x2048_4096_0)
    (sitofp (F := Ideal) .bf16 (constantI S_ 32 0#32)) pads_S16x2048_S128x2048_01120_000 h_S_
abbrev rowsU (w : Arr 6160 2048) : Arr 2048 2048 :=
  extractStridedSlice S2048x2048 ![4112, 0] w slices_S6160x2048_S2048x2048_4112_0

/-- The four products added. -/
abbrev sum4 (w : Arr 6160 2048) (q : Arr 4096 3072) (z : Arr 4096 1024) (b : Arr 4096 128) (u : Arr 4096 2048) : Arr 4096 2048 :=
  plus (plus (plus (nn q (rowsQ w)) (nn z (rowsZ w))) (nn b (rowsB w))) (nn u (rowsU w))

theorem V_v0 : V m c main_v0 = whole (aW m c) := by
  show StableHlo.after _ (fun b => m (c, b)) (Proc.devRef .tc main_v0) = _
  after_reads_simp
  rfl

theorem V_v2 : V m c main_v2 = rowsB (whole (aW m c)) := by
  show StableHlo.after _ (fun b => m (c, b)) (Proc.devRef .tc main_v2) = _
  after_reads_simp
  rfl

theorem V_v3 : V m c main_v3 = rowsU (whole (aW m c)) := by
  show StableHlo.after _ (fun b => m (c, b)) (Proc.devRef .tc main_v3) = _
  after_reads_simp
  rfl

section
variable (t : Fin cfg0.N)

theorem blk_0 (i : Fin 512) (k : Fin 3072) (p : Fin 4096) (h : p.val = win0_8.index t 0 * 512 + i.val) :
    (iblk m c 0 t : Vec Ideal S512x3072 .bf16) (ix2 i k) = aQ m c (ix2 p k) := by
  unfold iblk
  rw [View.read_apply]
  have h' := idxR t
  refine (congrFun (V_main_arg1 m c) _).trans (same2 (aQ m c) _ _ ?_ ?_)
  · show win0_0.index t 0 * 512 + 1 * i.val = p.val; omega
  · show win0_0.index t 1 * 3072 + 1 * k.val = k.val; omega

theorem blk_2 (i : Fin 512) (k : Fin 1024) (p : Fin 4096) (h : p.val = win0_8.index t 0 * 512 + i.val) :
    (iblk m c 2 t : Vec Ideal S512x1024 .bf16) (ix2 i k) = aZ m c (ix2 p k) := by
  unfold iblk
  rw [View.read_apply]
  have h' := idxR t
  refine (congrFun (V_main_arg2 m c) _).trans (same2 (aZ m c) _ _ ?_ ?_)
  · show win0_2.index t 0 * 512 + 1 * i.val = p.val; omega
  · show win0_2.index t 1 * 1024 + 1 * k.val = k.val; omega

theorem blk_4 (i : Fin 512) (k : Fin 128) (p : Fin 4096) (h : p.val = win0_8.index t 0 * 512 + i.val) :
    (iblk m c 4 t : Vec Ideal S512x128 .bf16) (ix2 i k) = aB m c (ix2 p k) := by
  unfold iblk
  rw [View.read_apply]
  have h' := idxR t
  refine (congrFun (V_main_arg3 m c) _).trans (same2 (aB m c) _ _ ?_ ?_)
  · show win0_4.index t 0 * 512 + 1 * i.val = p.val; omega
  · show win0_4.index t 1 * 128 + 1 * k.val = k.val; omega

theorem blk_6 (i : Fin 512) (k : Fin 2048) (p : Fin 4096) (h : p.val = win0_8.index t 0 * 512 + i.val) :
    (iblk m c 6 t : Vec Ideal S512x2048 .bf16) (ix2 i k) = aU m c (ix2 p k) := by
  unfold iblk
  rw [View.read_apply]
  have h' := idxR t
  refine (congrFun (V_main_arg4 m c) _).trans (same2 (aU m c) _ _ ?_ ?_)
  · show win0_6.index t 0 * 512 + 1 * i.val = p.val; omega
  · show win0_6.index t 1 * 2048 + 1 * k.val = k.val; omega

theorem blk_1 (k : Fin 3072) (f : Fin 1024) (p : Fin 2048) (h : p.val = win0_8.index t 1 * 1024 + f.val) :
    (X0_1 m c t : Vec Ideal S3072x1024 .bf16) (ix2 k f) = rowsQ (whole (aW m c)) (ix2 k p) := by
  unfold X0_1 Pipeline.Window.fill
  rw [dif_pos (moved0_1 t _)]
  unfold iblk
  rw [View.read_apply]
  have h' := idxC t
  refine (congrFun (V_v0 m c) _).trans (same2 (whole (aW m c)) _ _ ?_ ?_)
  · show win0_1.index t 0 * 3072 + 1 * k.val = k.val; omega
  · show win0_1.index t 1 * 1024 + 1 * f.val = p.val; omega

theorem blk_3 (k : Fin 1024) (f : Fin 1024) (p : Fin 2048) (h : p.val = win0_8.index t 1 * 1024 + f.val) :
    (X0_3 m c t : Vec Ideal S1024x1024 .bf16) (ix2 k f) = rowsZ (whole (aW m c)) (ix2 k p) := by
  unfold X0_3 Pipeline.Window.fill
  rw [dif_pos (moved0_3 t _)]
  unfold iblk
  rw [View.read_apply]
  have h' := idxC t
  refine (congrFun (V_v0 m c) _).trans (same2 (whole (aW m c)) _ _ ?_ ?_)
  · show win0_3.index t 0 * 1024 + 1 * k.val = 3072 + k.val; omega
  · show win0_3.index t 1 * 1024 + 1 * f.val = p.val; omega

theorem blk_5 (k : Fin 128) (f : Fin 1024) (p : Fin 2048) (h : p.val = win0_8.index t 1 * 1024 + f.val) :
    (iblk m c 5 t : Vec Ideal S128x1024 .bf16) (ix2 k f) = rowsB (whole (aW m c)) (ix2 k p) := by
  unfold iblk
  rw [View.read_apply]
  have h' := idxC t
  refine (congrFun (V_v2 m c) _).trans (same2 (rowsB (whole (aW m c))) _ _ ?_ ?_)
  · show win0_5.index t 0 * 128 + 1 * k.val = k.val; omega
  · show win0_5.index t 1 * 1024 + 1 * f.val = p.val; omega

theorem blk_7 (k : Fin 2048) (f : Fin 1024) (p : Fin 2048) (h : p.val = win0_8.index t 1 * 1024 + f.val) :
    (iblk m c 7 t : Vec Ideal S2048x1024 .bf16) (ix2 k f) = rowsU (whole (aW m c)) (ix2 k p) := by
  unfold iblk
  rw [View.read_apply]
  have h' := idxC t
  refine (congrFun (V_v3 m c) _).trans (same2 (rowsU (whole (aW m c))) _ _ ?_ ?_)
  · show win0_7.index t 0 * 2048 + 1 * k.val = k.val; omega
  · show win0_7.index t 1 * 1024 + 1 * f.val = p.val; omega

theorem flushed : (dats m 0 c).flushed 8 t = ((cfg0.win 8).blk t).view.read (Elt Ideal)
    (sum4 (whole (aW m c)) (aQ m c) (aZ m c) (aB m c) (aU m c)) := by
  rw [flushed8_A m c t, out_A]
  funext (j : S512x1024.Idx)
  idx_vars j
  refine (pay _ _ _ _ _ _ _ _ _ _).trans ?_
  rw [View.read_apply]
  have h0 : ((((cfg0.win 8).blk t).view.emb (ix2 j0 j1) : S4096x2048.Idx) 0).val = win0_8.index t 0 * 512 + j0.val := by
    show win0_8.index t 0 * 512 + 1 * j0.val = _; omega
  have h1 : ((((cfg0.win 8).blk t).view.emb (ix2 j0 j1) : S4096x2048.Idx) 1).val = win0_8.index t 1 * 1024 + j1.val := by
    show win0_8.index t 1 * 1024 + 1 * j1.val = _; omega
  exact plus_at (plus_at (plus_at
    (nn_at (aQ m c) (rowsQ (whole (aW m c))) _ (fun e => blk_0 m c t j0 e _ h0) (fun e => blk_1 m c t e j1 _ h1))
    (nn_at (aZ m c) (rowsZ (whole (aW m c))) _ (fun e => blk_2 m c t j0 e _ h0) (fun e => blk_3 m c t e j1 _ h1)))
    (nn_at (aB m c) (rowsB (whole (aW m c))) _ (fun e => blk_4 m c t j0 e _ h0) (fun e => blk_5 m c t e j1 _ h1)))
    (nn_at (aU m c) (rowsU (whole (aW m c))) _ (fun e => blk_6 m c t j0 e _ h0) (fun e => blk_7 m c t e j1 _ h1))

end

theorem cover (i : S4096x2048.Idx) : ∃ t : Fin cfg0.N, (cfg0.win 8).flush t = true ∧ i ∈ ((cfg0.win 8).blk t).view.set := by
  have h0 : (i 0 : Nat) < 4096 := (i 0).isLt
  have h1 : (i 1 : Nat) < 2048 := (i 1).isLt
  obtain ⟨t, h⟩ := tiles ⟨(i 0 : Nat) / 512, by omega⟩ ⟨(i 1 : Nat) / 1024, by omega⟩
  refine ⟨t, flush0_8 t, ?_⟩
  show i ∈ ((View.whole main_v4).slice (win0_8.rect t)).set
  rw [View.set_slice_whole, Rect.mem_set_unit]
  exact fun a => match a with
    | ⟨0, _⟩ => in_block (i 0) (win0_8.index t 0) 512 (by omega) h.1
    | ⟨1, _⟩ => in_block (i 1) (win0_8.index t 1) 1024 (by omega) h.2

theorem arr : (dats m 0 c).arrAt 8 cfg0.N = sum4 (whole (aW m c)) (aQ m c) (aZ m c) (aB m c) (aU m c) :=
  (dats m 0 c).arrAt_eq_of_cover 8 _ (fun t _ => flushed m c t) cover

end Kernel

section Reference

open Cert.Reference9Ideal Cert.Reference9Ideal.Gen Cert.Reference9Ideal.Value

/-- The cotangents side by side, as the reference takes them. -/
abbrev beside (q : Arr 4096 3072) (z : Arr 4096 1024) (b : Arr 4096 128) (u : Arr 4096 2048) : S4096x6160.Idx → EReal :=
  concatenate S4096x6160 1 [⟨S4096x3072, q⟩, ⟨S4096x1024, z⟩,
    ⟨S4096x16, extractStridedSlice S4096x16 ![0, 0] (b : S4096x128.Idx → EReal) slices_S4096x128_S4096x16_0_0⟩, ⟨S4096x2048, u⟩]
    concatenates_S4096x3072_S4096x1024_S4096x16_S4096x2048_S4096x6160_d1

theorem flat (w : Arr 6160 2048) (q : Arr 4096 3072) (z : Arr 4096 1024) (b : Arr 4096 128) (u : Arr 4096 2048) :
    (Host.dotGeneral (F := Ideal) (φ₁ := .f32) (φ₂ := .f32) dot_S4096x6160_S2048x6160_S4096x2048_1_1_0_0_n_n none (beside q z b u)
      (transpose S2048x6160 [1, 0] w transposes_S6160x2048_S2048x6160_1_0) : S4096x2048.Idx → EReal)
    = sum4 w q z b u := by
  funext j
  idx_vars j
  pointwise [sum4, nn, plus]
  rw [Cert.Ffn.UpDx.split 3072 3088 rfl, Cert.Ffn.UpDx.split 1024 2064 rfl, Cert.Ffn.UpDx.split 16 2048 rfl]
  have e0 : (FloatOps.sitofp FTy.bf16 0#32 : Ideal .bf16) = (0 : EReal) := by
    show (((0#32 : BitVec 32).toInt : ℝ) : EReal) = 0
    simp
  have ez : ∑ x : Fin 112, b (ix2 j0 ⟨16 + x.val, by omega⟩) * (FloatOps.sitofp FTy.bf16 0#32 : Ideal .bf16) = (0 : EReal) :=
    Finset.sum_eq_zero fun x _ => by rw [e0]; exact mul_zero _
  rw [ez, add_zero, ← add_assoc, ← add_assoc]
  refine congrArg₂ _ (congrArg₂ _ (congrArg₂ _ ?_ ?_) ?_) ?_
  · refine Finset.sum_congr rfl fun e _ => ?_
    rw [dif_pos e.isLt]
    rfl
  · refine Finset.sum_congr rfl fun e _ => ?_
    have h := e.isLt
    rw [dif_neg (by dsimp only; omega), dif_pos (by dsimp only; omega)]
    exact congrArg₂ _ (same2 z _ _ rfl (by show 3072 + e.val - 3072 = e.val; omega)) rfl
  · refine Finset.sum_congr rfl fun e _ => ?_
    have h := e.isLt
    rw [dif_neg (by dsimp only; omega), dif_neg (by dsimp only; omega), dif_pos (by dsimp only; omega)]
    refine congrArg₂ _ (congrArg (fun p => b (ix2 j0 p)) (Fin.ext ?_)) (congrArg (fun p => w (ix2 p j1)) (Fin.ext ?_)) <;>
      dsimp only <;> omega
  · refine Finset.sum_congr rfl fun e _ => ?_
    rw [dif_neg (by dsimp only; omega), dif_neg (by dsimp only; omega), dif_neg (by dsimp only; omega)]
    refine congrArg₂ _ (congrArg (fun p => u (ix2 j0 p)) (Fin.ext ?_)) (congrArg (fun p => w (ix2 p j1)) (Fin.ext ?_)) <;>
      dsimp only <;> omega

variable (m : (ℓ : Loc nD τ sig) → Buf (Elt Ideal) ℓ) (c : Dev nD)

/-- The reference's result is the same sum of products. -/
theorem out {w : S8x770x2048.Idx → EReal} {q : Arr 4096 3072} {z : Arr 4096 1024} {b : Arr 4096 128} {u : Arr 4096 2048}
    (hw : m ((c.tc : Thread nD τ).loc main_arg0) = w) (hq : m ((c.tc : Thread nD τ).loc main_arg1) = q)
    (hz : m ((c.tc : Thread nD τ).loc main_arg2) = z) (hb : m ((c.tc : Thread nD τ).loc main_arg3) = b)
    (hu : m ((c.tc : Thread nD τ).loc main_arg4) = u) :
    (Host.dotGeneral (F := Ideal) (φ₁ := .f32) (φ₂ := .f32) dot_S4096x6160_S2048x6160_S4096x2048_1_1_0_0_n_n none
        (concatenate S4096x6160 1 [⟨S4096x3072, (extf .f32 (m ((c.tc : Thread nD τ).loc main_arg1)) bitsLt_bf16_f32 : FVec Ideal S4096x3072 .f32)⟩,
          ⟨S4096x1024, (extf .f32 (m ((c.tc : Thread nD τ).loc main_arg2)) bitsLt_bf16_f32 : FVec Ideal S4096x1024 .f32)⟩,
          ⟨S4096x16, (extf .f32 (extractStridedSlice S4096x16 ![0, 0] (m ((c.tc : Thread nD τ).loc main_arg3)) slices_S4096x128_S4096x16_0_0) bitsLt_bf16_f32 : FVec Ideal S4096x16 .f32)⟩,
          ⟨S4096x2048, (extf .f32 (m ((c.tc : Thread nD τ).loc main_arg4)) bitsLt_bf16_f32 : FVec Ideal S4096x2048 .f32)⟩]
          concatenates_S4096x3072_S4096x1024_S4096x16_S4096x2048_S4096x6160_d1)
        (transpose S2048x6160 [1, 0] (shapeCast _ (extf .f32 (m ((c.tc : Thread nD τ).loc main_arg0)) bitsLt_bf16_f32)
          shapeCasts_S8x770x2048_S6160x2048) transposes_S6160x2048_S2048x6160_1_0) : S4096x2048.Idx → EReal)
      = sum4 (whole w) q z b u := by
  subst hw hq hz hb hu
  exact flat _ _ _ _ _

end Reference

end Cert.Mat.InDx

end
-- ==== Proof.Mat.InQkv.lean ====
module

public import Idealize.ShloMosaic.Lib.StableHlo.RunRead
public import proofs.«01_k».proof.Proof.Gen.Kernel10Ideal.Value
public import proofs.«01_k».proof.Proof.Gen.Reference10Ideal.Run
public import proofs.«01_k».proof.Proof.Mat.Base

@[expose] public section

set_option maxRecDepth 16384

noncomputable section

/-! The first group of columns of the input projection: the rows times the leading rows of the gathered weights. -/

namespace Cert.Mat.InQkv

open Idealize.ShloMosaic Idealize.ShloMosaic.TcCoe Idealize.ShloMosaic.Tactic Idealize.SL.Sem

section Kernel

open Cert.Kernel10Ideal Cert.Kernel10Ideal.Gen Cert.Kernel10Ideal.Value

theorem pay (a b : Vec Ideal S1024x2048 .bf16) (i f : Fin 1024) :
    k0_pay1 (F := Ideal) a b (ix2 i f) = ∑ k, a (ix2 i k) * b (ix2 f k) := by
  pointwise [k0_pay1]

section
variable (c : Dev nD) (i : grid0.Coords) (arg3 : Memref sig .tc .vmem S1024x2048 .bf16) (harg3 : arg3.IsWhole)
  (arg4 : Memref sig .tc .vmem S1024x2048 .bf16) (harg4 : arg4.IsWhole) (arg5 : Memref sig .tc .vmem S1024x1024 .f32) (harg5 : arg5.IsWhole)
  (a b : Vec Ideal S1024x2048 .bf16)

/-- Every point stores its product. -/
theorem out_A : out0_A_2 (F := Ideal) c i arg3 harg3 arg4 harg4 arg5 harg5 a b = k0_pay1 a b := by
  unfold out0_A_2
  rw [View.read_writes_eq_canon _ _ _ (cover0_A_2 (F := Ideal) c i arg3 harg3 arg4 harg4 arg5 harg5 a b)]
  unfold kernelRun0_A
  dsimp only
  sl_unfold_words
  simp only [View.readAt_eq_ld, harg3.read_unread, harg4.read_unread]
  rw [View.canon_unit_zero (by funext a; fin_cases a <;> rfl), View.ld_unit_zero (by funext a; fin_cases a <;> rfl),
    View.ld_unit_zero (by funext a; fin_cases a <;> rfl)]

end

theorem idx : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, win0_0.index t 0 = win0_2.index t 0 ∧ win0_0.index t 1 = 0
    ∧ win0_1.index t 0 = win0_2.index t 1 ∧ win0_1.index t 1 = 0)
theorem tiles : ∀ (p : Fin 4) (q : Fin 3), ∃ t : Fin cfg0.N, win0_2.index t 0 = p.val ∧ win0_2.index t 1 = q.val :=
  (by decide +kernel : ∀ (p : Fin 4) (q : Fin 3), ∃ t : Fin grid0.N, win0_2.index t 0 = p.val ∧ win0_2.index t 1 = q.val)

variable (m : (ℓ : Loc nD τ sig) → Buf (Elt Ideal) ℓ) (c : Dev nD)

/-- The arguments: the rows and the gathered weights, and the weights in one piece. -/
abbrev aH : Arr 4096 2048 := m ((c.tc : Thread nD τ).loc main_arg0)
abbrev aW : S8x770x2048.Idx → EReal := m ((c.tc : Thread nD τ).loc main_arg1)
abbrev whole (w : S8x770x2048.Idx → EReal) : Arr 6160 2048 := shapeCast S6160x2048 w shapeCasts_S8x770x2048_S6160x2048

/-- The columns of the group. -/
abbrev group (w : Arr 6160 2048) (h : Arr 4096 2048) : Arr 4096 3072 := fun j => nt h w (ix2 (j 0) ⟨(j 1).val, by have := (j 1).isLt; change _ < 3072 at this; omega⟩)

theorem V_v0 : V m c main_v0 = whole (aW m c) := by
  show StableHlo.after hostOps0 (fun b => m (c, b)) (Proc.devRef .tc main_v0) = _
  after_reads_simp
  rfl

theorem blk_0 (t : Fin cfg0.N) (i : Fin 1024) (k : Fin 2048) (p : Fin 4096) (h : p.val = win0_2.index t 0 * 1024 + i.val) :
    (iblk m c 0 t : Vec Ideal S1024x2048 .bf16) (ix2 i k) = aH m c (ix2 p k) := by
  unfold iblk
  rw [View.read_apply]
  have h' := idx t
  refine (congrFun (V_main_arg0 m c) _).trans (same2 (aH m c) _ _ ?_ ?_)
  · show win0_0.index t 0 * 1024 + 1 * i.val = p.val; omega
  · show win0_0.index t 1 * 2048 + 1 * k.val = k.val; omega

theorem blk_1 (t : Fin cfg0.N) (f : Fin 1024) (k : Fin 2048) (p : Fin 6160) (h : p.val = win0_2.index t 1 * 1024 + f.val) :
    (X0_1 m c t : Vec Ideal S1024x2048 .bf16) (ix2 f k) = whole (aW m c) (ix2 p k) := by
  unfold X0_1 Pipeline.Window.fill
  rw [dif_pos (moved0_1 t _)]
  unfold iblk
  rw [View.read_apply]
  have h' := idx t
  refine (congrFun (V_v0 m c) _).trans (same2 (whole (aW m c)) _ _ ?_ ?_)
  · show win0_1.index t 0 * 1024 + 1 * f.val = p.val; omega
  · show win0_1.index t 1 * 2048 + 1 * k.val = k.val; omega

theorem flushed (t : Fin cfg0.N) : (dats m 0 c).flushed 2 t
    = ((cfg0.win 2).blk t).view.read (Elt Ideal) (group (whole (aW m c)) (aH m c)) := by
  rw [flushed2_A m c t, out_A]
  funext (j : S1024x1024.Idx)
  idx_vars j
  refine (pay _ _ _ _).trans ?_
  rw [View.read_apply]
  refine nt_at (aH m c) (whole (aW m c)) _ (fun e => blk_0 m c t j0 e _ ?_) (fun e => blk_1 m c t j1 e _ ?_)
  · show win0_2.index t 0 * 1024 + 1 * j0.val = _; omega
  · show win0_2.index t 1 * 1024 + 1 * j1.val = _; omega

theorem cover (i : S4096x3072.Idx) : ∃ t : Fin cfg0.N, (cfg0.win 2).flush t = true ∧ i ∈ ((cfg0.win 2).blk t).view.set := by
  have h0 : (i 0 : Nat) < 4096 := (i 0).isLt
  have h1 : (i 1 : Nat) < 3072 := (i 1).isLt
  obtain ⟨t, h⟩ := tiles ⟨(i 0 : Nat) / 1024, by omega⟩ ⟨(i 1 : Nat) / 1024, by omega⟩
  refine ⟨t, flush0_2 t, ?_⟩
  show i ∈ ((View.whole main_v1).slice (win0_2.rect t)).set
  rw [View.set_slice_whole, Rect.mem_set_unit]
  exact fun a => match a with
    | ⟨0, _⟩ => in_block (i 0) (win0_2.index t 0) 1024 (by omega) h.1
    | ⟨1, _⟩ => in_block (i 1) (win0_2.index t 1) 1024 (by omega) h.2

theorem arr : (dats m 0 c).arrAt 2 cfg0.N = group (whole (aW m c)) (aH m c) :=
  (dats m 0 c).arrAt_eq_of_cover 2 _ (fun t _ => flushed m c t) cover

end Kernel

section Reference

open Cert.Reference10Ideal Cert.Reference10Ideal.Gen Cert.Reference10Ideal.Value

/-- The reference's result is the same group of columns. -/
theorem out (h : FVec Ideal S4096x2048 .bf16) (w : FVec Ideal S8x770x2048 .bf16) :
    (extractStridedSlice S4096x3072 ![0, 0] (Host.dotGeneral (F := Ideal) (φ₁ := .f32) (φ₂ := .f32)
      dot_S4096x2048_S2048x6160_S4096x6160_1_0_0_1_n_n none (extf .f32 h bitsLt_bf16_f32)
      (transpose S2048x6160 [1, 0] (shapeCast _ (extf .f32 w bitsLt_bf16_f32) shapeCasts_S8x770x2048_S6160x2048)
        transposes_S6160x2048_S2048x6160_1_0)) slices_S4096x6160_S4096x3072_0_0 : S4096x3072.Idx → EReal)
      = group (whole w) h := by
  funext j
  idx_vars j
  pointwise [group, nt]

end Reference

end Cert.Mat.InQkv

end
-- ==== Proof.Mat.InZ.lean ====
module

public import Idealize.ShloMosaic.Lib.StableHlo.RunRead
public import proofs.«01_k».proof.Proof.Gen.Kernel11Ideal.Value
public import proofs.«01_k».proof.Proof.Gen.Reference11Ideal.Run
public import proofs.«01_k».proof.Proof.Mat.Base

@[expose] public section

set_option maxRecDepth 16384

noncomputable section

/-! The second group of columns of the input projection: the rows times the next rows of the gathered weights. -/

namespace Cert.Mat.InZ

open Idealize.ShloMosaic Idealize.ShloMosaic.TcCoe Idealize.ShloMosaic.Tactic Idealize.SL.Sem

section Kernel

open Cert.Kernel11Ideal Cert.Kernel11Ideal.Gen Cert.Kernel11Ideal.Value

theorem pay (a b : Vec Ideal S1024x2048 .bf16) (i f : Fin 1024) :
    k0_pay1 (F := Ideal) a b (ix2 i f) = ∑ k, a (ix2 i k) * b (ix2 f k) := by
  pointwise [k0_pay1]

section
variable (c : Dev nD) (i : grid0.Coords) (arg3 : Memref sig .tc .vmem S1024x2048 .bf16) (harg3 : arg3.IsWhole)
  (arg4 : Memref sig .tc .vmem S1024x2048 .bf16) (harg4 : arg4.IsWhole) (arg5 : Memref sig .tc .vmem S1024x1024 .f32) (harg5 : arg5.IsWhole)
  (a b : Vec Ideal S1024x2048 .bf16)

/-- Every point stores its product. -/
theorem out_A : out0_A_2 (F := Ideal) c i arg3 harg3 arg4 harg4 arg5 harg5 a b = k0_pay1 a b := by
  unfold out0_A_2
  rw [View.read_writes_eq_canon _ _ _ (cover0_A_2 (F := Ideal) c i arg3 harg3 arg4 harg4 arg5 harg5 a b)]
  unfold kernelRun0_A
  dsimp only
  sl_unfold_words
  simp only [View.readAt_eq_ld, harg3.read_unread, harg4.read_unread]
  rw [View.canon_unit_zero (by funext a; fin_cases a <;> rfl), View.ld_unit_zero (by funext a; fin_cases a <;> rfl),
    View.ld_unit_zero (by funext a; fin_cases a <;> rfl)]

end

theorem idx : ∀ t : Fin cfg0.N, win0_0.index t 0 = win0_2.index t 0 ∧ win0_0.index t 1 = 0
    ∧ win0_1.index t 0 = 3 + win0_2.index t 1 ∧ win0_1.index t 1 = 0 :=
  (by decide +kernel : ∀ t : Fin grid0.N, win0_0.index t 0 = win0_2.index t 0 ∧ win0_0.index t 1 = 0
    ∧ win0_1.index t 0 = 3 + win0_2.index t 1 ∧ win0_1.index t 1 = 0)
theorem tiles : ∀ (p : Fin 4) (q : Fin 1), ∃ t : Fin cfg0.N, win0_2.index t 0 = p.val ∧ win0_2.index t 1 = q.val :=
  (by decide +kernel : ∀ (p : Fin 4) (q : Fin 1), ∃ t : Fin grid0.N, win0_2.index t 0 = p.val ∧ win0_2.index t 1 = q.val)

variable (m : (ℓ : Loc nD τ sig) → Buf (Elt Ideal) ℓ) (c : Dev nD)

/-- The arguments: the rows and the gathered weights, and the weights in one piece. -/
abbrev aH : Arr 4096 2048 := m ((c.tc : Thread nD τ).loc main_arg0)
abbrev aW : S8x770x2048.Idx → EReal := m ((c.tc : Thread nD τ).loc main_arg1)
abbrev whole (w : S8x770x2048.Idx → EReal) : Arr 6160 2048 := shapeCast S6160x2048 w shapeCasts_S8x770x2048_S6160x2048

/-- The columns of the group. -/
abbrev group (w : Arr 6160 2048) (h : Arr 4096 2048) : Arr 4096 1024 := fun j => nt h w (ix2 (j 0) ⟨3072 + (j 1).val, by have := (j 1).isLt; change _ < 1024 at this; omega⟩)

theorem V_v0 : V m c main_v0 = whole (aW m c) := by
  show StableHlo.after hostOps0 (fun b => m (c, b)) (Proc.devRef .tc main_v0) = _
  after_reads_simp
  rfl

theorem blk_0 (t : Fin cfg0.N) (i : Fin 1024) (k : Fin 2048) (p : Fin 4096) (h : p.val = win0_2.index t 0 * 1024 + i.val) :
    (iblk m c 0 t : Vec Ideal S1024x2048 .bf16) (ix2 i k) = aH m c (ix2 p k) := by
  unfold iblk
  rw [View.read_apply]
  have h' := idx t
  refine (congrFun (V_main_arg0 m c) _).trans (same2 (aH m c) _ _ ?_ ?_)
  · show win0_0.index t 0 * 1024 + 1 * i.val = p.val; omega
  · show win0_0.index t 1 * 2048 + 1 * k.val = k.val; omega

theorem blk_1 (t : Fin cfg0.N) (f : Fin 1024) (k : Fin 2048) (p : Fin 6160) (h : p.val = 3072 + (win0_2.index t 1 * 1024 + f.val)) :
    (X0_1 m c t : Vec Ideal S1024x2048 .bf16) (ix2 f k) = whole (aW m c) (ix2 p k) := by
  unfold X0_1 Pipeline.Window.fill
  rw [dif_pos (moved0_1 t _)]
  unfold iblk
  rw [View.read_apply]
  have h' := idx t
  refine (congrFun (V_v0 m c) _).trans (same2 (whole (aW m c)) _ _ ?_ ?_)
  · show win0_1.index t 0 * 1024 + 1 * f.val = p.val; omega
  · show win0_1.index t 1 * 2048 + 1 * k.val = k.val; omega

theorem flushed (t : Fin cfg0.N) : (dats m 0 c).flushed 2 t
    = ((cfg0.win 2).blk t).view.read (Elt Ideal) (group (whole (aW m c)) (aH m c)) := by
  rw [flushed2_A m c t, out_A]
  funext (j : S1024x1024.Idx)
  idx_vars j
  refine (pay _ _ _ _).trans ?_
  rw [View.read_apply]
  refine nt_at (aH m c) (whole (aW m c)) _ (fun e => blk_0 m c t j0 e _ ?_) (fun e => blk_1 m c t j1 e _ ?_)
  · show win0_2.index t 0 * 1024 + 1 * j0.val = _; omega
  · show 3072 + (win0_2.index t 1 * 1024 + 1 * j1.val) = _; omega

theorem cover (i : S4096x1024.Idx) : ∃ t : Fin cfg0.N, (cfg0.win 2).flush t = true ∧ i ∈ ((cfg0.win 2).blk t).view.set := by
  have h0 : (i 0 : Nat) < 4096 := (i 0).isLt
  have h1 : (i 1 : Nat) < 1024 := (i 1).isLt
  obtain ⟨t, h⟩ := tiles ⟨(i 0 : Nat) / 1024, by omega⟩ ⟨(i 1 : Nat) / 1024, by omega⟩
  refine ⟨t, flush0_2 t, ?_⟩
  show i ∈ ((View.whole main_v1).slice (win0_2.rect t)).set
  rw [View.set_slice_whole, Rect.mem_set_unit]
  exact fun a => match a with
    | ⟨0, _⟩ => in_block (i 0) (win0_2.index t 0) 1024 (by omega) h.1
    | ⟨1, _⟩ => in_block (i 1) (win0_2.index t 1) 1024 (by omega) h.2

theorem arr : (dats m 0 c).arrAt 2 cfg0.N = group (whole (aW m c)) (aH m c) :=
  (dats m 0 c).arrAt_eq_of_cover 2 _ (fun t _ => flushed m c t) cover

end Kernel

section Reference

open Cert.Reference11Ideal Cert.Reference11Ideal.Gen Cert.Reference11Ideal.Value

/-- The reference's result is the same group of columns. -/
theorem out (h : FVec Ideal S4096x2048 .bf16) (w : FVec Ideal S8x770x2048 .bf16) :
    (extractStridedSlice S4096x1024 ![0, 3072] (Host.dotGeneral (F := Ideal) (φ₁ := .f32) (φ₂ := .f32)
      dot_S4096x2048_S2048x6160_S4096x6160_1_0_0_1_n_n none (extf .f32 h bitsLt_bf16_f32)
      (transpose S2048x6160 [1, 0] (shapeCast _ (extf .f32 w bitsLt_bf16_f32) shapeCasts_S8x770x2048_S6160x2048)
        transposes_S6160x2048_S2048x6160_1_0)) slices_S4096x6160_S4096x1024_0_3072 : S4096x1024.Idx → EReal)
      = group (whole w) h := by
  funext j
  idx_vars j
  pointwise [group, nt]

end Reference

end Cert.Mat.InZ

end
-- ==== Proof.Mat.InRest.lean ====
module

public import Idealize.ShloMosaic.Lib.StableHlo.RunRead
public import proofs.«01_k».proof.Proof.Gen.Kernel12Ideal.Frame
public import proofs.«01_k».proof.Proof.Gen.Reference12Ideal.Run
public import proofs.«01_k».proof.Proof.Mat.Base

@[expose] public section

set_option maxRecDepth 16384

noncomputable section

/-! The last two groups of columns of the input projection. The third group's weights come with rows of zeros after
them, so its columns come with columns of zeros. -/

namespace Cert.Mat.InRest

open Idealize.ShloMosaic Idealize.ShloMosaic.TcCoe Idealize.SL.Sem

section Kernel

open Cert.Kernel12Ideal Cert.Kernel12Ideal.Gen

variable (V : (c : Dev nD) → (b : Ref sig .tc) → Buf (Elt Ideal) ((c : Thread nD τ).loc b)) (c : Dev nD)

/-! ## The third group -/

theorem idx0 : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, win0_0.index t 0 = win0_2.index t 0 ∧ win0_0.index t 1 = 0
    ∧ win0_1.index t 0 = win0_2.index t 1 ∧ win0_1.index t 1 = 0)
theorem tiles0 : ∀ (p : Fin 4) (q : Fin 1), ∃ t : Fin cfg0.N, win0_2.index t 0 = p.val ∧ win0_2.index t 1 = q.val :=
  (by decide +kernel : ∀ (p : Fin 4) (q : Fin 1), ∃ t : Fin grid0.N, win0_2.index t 0 = p.val ∧ win0_2.index t 1 = q.val)

theorem pay0 (a : Vec Ideal S1024x2048 .bf16) (b : Vec Ideal S128x2048 .bf16) (i : Fin 1024) (f : Fin 128) :
    k0_pay1 (F := Ideal) a b (ix2 i f) = ∑ k, a (ix2 i k) * b (ix2 f k) := by
  pointwise [k0_pay1]

theorem out0 (a : Vec Ideal S1024x2048 .bf16) (b : Vec Ideal S128x2048 .bf16) : out0_2 a b = k0_pay1 a b := by
  unfold out0_2
  rw [View.canon_unit_zero (by funext a; fin_cases a <;> rfl), View.ld_unit_zero (by funext a; fin_cases a <;> rfl),
    View.ld_unit_zero (by funext a; fin_cases a <;> rfl)]

theorem flushed0 (t : Fin cfg0.N) : (dat0 V c).flushed 2 t
    = ((cfg0.win 2).blk t).view.read (Elt Ideal) (nt (V c main_arg0 : Arr 4096 2048) (V c main_v2 : Arr 128 2048)) := by
  show (cfg0.win 2).cut (cfg0.grid.coords t) ((dat0 V c).after 2 t) = _
  rw [after0_2, out0]
  funext (j : S1024x128.Idx)
  idx_vars j
  refine (pay0 _ _ _ _).trans ?_
  have h := idx0 t
  refine nt_at (V c main_arg0 : Arr 4096 2048) (V c main_v2 : Arr 128 2048) (((cfg0.win 2).blk t).view.emb (ix2 j0 j1))
    (fun e => same2 (V c main_arg0 : Arr 4096 2048) (((cfg0.win 0).blk t).view.emb (ix2 j0 e)) _ ?_ ?_)
    (fun e => same2 (V c main_v2 : Arr 128 2048) (((cfg0.win 1).blk t).view.emb (ix2 j1 e)) _ ?_ ?_)
  · show win0_0.index t 0 * 1024 + 1 * j0.val = win0_2.index t 0 * 1024 + 1 * j0.val; omega
  · show win0_0.index t 1 * 2048 + 1 * e.val = e.val; omega
  · show win0_1.index t 0 * 128 + 1 * j1.val = win0_2.index t 1 * 128 + 1 * j1.val; omega
  · show win0_1.index t 1 * 2048 + 1 * e.val = e.val; omega

theorem cover0 (i : S4096x128.Idx) : ∃ t : Fin cfg0.N, (cfg0.win 2).flush t = true ∧ i ∈ ((cfg0.win 2).blk t).view.set := by
  have h0 : (i 0 : Nat) < 4096 := (i 0).isLt
  have h1 : (i 1 : Nat) < 128 := (i 1).isLt
  obtain ⟨t, h⟩ := tiles0 ⟨(i 0 : Nat) / 1024, by omega⟩ ⟨(i 1 : Nat) / 128, by omega⟩
  refine ⟨t, flush0_2 t, ?_⟩
  show i ∈ ((View.whole main_v4).slice (win0_2.rect t)).set
  rw [View.set_slice_whole, Rect.mem_set_unit]
  exact fun a => match a with
    | ⟨0, _⟩ => in_block (i 0) (win0_2.index t 0) 1024 (by omega) h.1
    | ⟨1, _⟩ => in_block (i 1) (win0_2.index t 1) 128 (by omega) h.2

theorem arr0 : (dat0 V c).arrAt 2 cfg0.N = nt (V c main_arg0 : Arr 4096 2048) (V c main_v2 : Arr 128 2048) :=
  (dat0 V c).arrAt_eq_of_cover 2 _ (fun t _ => flushed0 V c t) cover0

/-! ## The fourth group -/

theorem idx1 : ∀ t : Fin cfg1.N, win1_0.index t 0 = win1_2.index t 0 ∧ win1_0.index t 1 = 0
    ∧ win1_1.index t 0 = win1_2.index t 1 ∧ win1_1.index t 1 = 0 :=
  (by decide +kernel : ∀ t : Fin grid1.N, win1_0.index t 0 = win1_2.index t 0 ∧ win1_0.index t 1 = 0
    ∧ win1_1.index t 0 = win1_2.index t 1 ∧ win1_1.index t 1 = 0)
theorem tiles1 : ∀ (p : Fin 4) (q : Fin 2), ∃ t : Fin cfg1.N, win1_2.index t 0 = p.val ∧ win1_2.index t 1 = q.val :=
  (by decide +kernel : ∀ (p : Fin 4) (q : Fin 2), ∃ t : Fin grid1.N, win1_2.index t 0 = p.val ∧ win1_2.index t 1 = q.val)

theorem pay1 (a b : Vec Ideal S1024x2048 .bf16) (i f : Fin 1024) :
    k1_pay1 (F := Ideal) a b (ix2 i f) = ∑ k, a (ix2 i k) * b (ix2 f k) := by
  pointwise [k1_pay1]

theorem out1 (a b : Vec Ideal S1024x2048 .bf16) : out1_2 a b = k1_pay1 a b := by
  unfold out1_2
  rw [View.canon_unit_zero (by funext a; fin_cases a <;> rfl), View.ld_unit_zero (by funext a; fin_cases a <;> rfl),
    View.ld_unit_zero (by funext a; fin_cases a <;> rfl)]

theorem flushed1 (t : Fin cfg1.N) : (dat1 V c).flushed 2 t
    = ((cfg1.win 2).blk t).view.read (Elt Ideal) (nt (V c main_arg0 : Arr 4096 2048) (V c main_v3 : Arr 2048 2048)) := by
  show (cfg1.win 2).cut (cfg1.grid.coords t) ((dat1 V c).after 2 t) = _
  rw [after1_2, out1]
  funext (j : S1024x1024.Idx)
  idx_vars j
  refine (pay1 _ _ _ _).trans ?_
  have h := idx1 t
  refine nt_at (V c main_arg0 : Arr 4096 2048) (V c main_v3 : Arr 2048 2048) (((cfg1.win 2).blk t).view.emb (ix2 j0 j1))
    (fun e => same2 (V c main_arg0 : Arr 4096 2048) (((cfg1.win 0).blk t).view.emb (ix2 j0 e)) _ ?_ ?_)
    (fun e => same2 (V c main_v3 : Arr 2048 2048) (((cfg1.win 1).blk t).view.emb (ix2 j1 e)) _ ?_ ?_)
  · show win1_0.index t 0 * 1024 + 1 * j0.val = win1_2.index t 0 * 1024 + 1 * j0.val; omega
  · show win1_0.index t 1 * 2048 + 1 * e.val = e.val; omega
  · show win1_1.index t 0 * 1024 + 1 * j1.val = win1_2.index t 1 * 1024 + 1 * j1.val; omega
  · show win1_1.index t 1 * 2048 + 1 * e.val = e.val; omega

theorem cover1 (i : S4096x2048.Idx) : ∃ t : Fin cfg1.N, (cfg1.win 2).flush t = true ∧ i ∈ ((cfg1.win 2).blk t).view.set := by
  have h0 : (i 0 : Nat) < 4096 := (i 0).isLt
  have h1 : (i 1 : Nat) < 2048 := (i 1).isLt
  obtain ⟨t, h⟩ := tiles1 ⟨(i 0 : Nat) / 1024, by omega⟩ ⟨(i 1 : Nat) / 1024, by omega⟩
  refine ⟨t, flush1_2 t, ?_⟩
  show i ∈ ((View.whole main_v5).slice (win1_2.rect t)).set
  rw [View.set_slice_whole, Rect.mem_set_unit]
  exact fun a => match a with
    | ⟨0, _⟩ => in_block (i 0) (win1_2.index t 0) 1024 (by omega) h.1
    | ⟨1, _⟩ => in_block (i 1) (win1_2.index t 1) 1024 (by omega) h.2

theorem arr1 : (dat1 V c).arrAt 2 cfg1.N = nt (V c main_arg0 : Arr 4096 2048) (V c main_v3 : Arr 2048 2048) :=
  (dat1 V c).arrAt_eq_of_cover 2 _ (fun t _ => flushed1 V c t) cover1

/-! ## The whole program -/

variable (m : (ℓ : Loc nD τ sig) → Buf (Elt Ideal) ℓ) (ρ : Dev nD → PrngReg)

/-- The arguments: the rows and the gathered weights. -/
abbrev aH : Arr 4096 2048 := m ((c.tc : Thread nD τ).loc main_arg0)
abbrev aW : S8x770x2048.Idx → EReal := m ((c.tc : Thread nD τ).loc main_arg1)

/-- The weights in one piece, the third group's rows with rows of zeros after them, and the fourth group's rows. -/
abbrev whole (w : S8x770x2048.Idx → EReal) : Arr 6160 2048 := shapeCast S6160x2048 w shapeCasts_S8x770x2048_S6160x2048
abbrev rowsB (w : Arr 6160 2048) : Arr 128 2048 :=
  pad S128x2048 ![0, 0] ![112, 0] ![0, 0] (extractStridedSlice S16x2048 ![4096, 0] w slices_S6160x2048_S16x2048_4096_0)
    (sitofp (F := Ideal) .bf16 (constantI S_ 32 0#32)) pads_S16x2048_S128x2048_01120_000 h_S_
abbrev rowsU (w : Arr 6160 2048) : Arr 2048 2048 :=
  extractStridedSlice S2048x2048 ![4112, 0] w slices_S6160x2048_S2048x2048_4112_0

theorem in3_v2 : V3 m ρ c main_v2 = rowsB (whole (aW c m)) := by
  refine (W3_of m ρ c main_v2 (by decide)).trans ?_
  show StableHlo.after hostOps0_1 (StableHlo.after hostOps0 (W0 m ρ c)) (Proc.devRef .tc main_v2) = _
  after_reads_simp
  rfl
theorem in3_v3 : V3 m ρ c main_v3 = rowsU (whole (aW c m)) := by
  show StableHlo.after hostOps0_2 (StableHlo.after hostOps0_1 (StableHlo.after hostOps0 (W0 m ρ c))) (Proc.devRef .tc main_v3) = _
  after_reads_simp
  rfl
theorem in3_arg0 : V3 m ρ c main_arg0 = aH c m := W3_args m ρ c main_arg0 (by decide)

theorem in4_v4 : V4 m ρ c main_v4 = nt (aH c m) (rowsB (whole (aW c m))) := by
  refine (W4_arr m ρ c 2).trans ((arr0 (V3 m ρ) c).trans ?_)
  rw [in3_arg0, in3_v2]
theorem in4_v3 : V4 m ρ c main_v3 = rowsU (whole (aW c m)) := (W4_of m ρ c main_v3 (by decide)).trans (in3_v3 c m ρ)
theorem in4_arg0 : V4 m ρ c main_arg0 = aH c m := W4_args m ρ c main_arg0 (by decide)

theorem end_v4 : W5 m ρ c (Proc.devRef .tc main_v4) = nt (aH c m) (rowsB (whole (aW c m))) :=
  (W5_of m ρ c main_v4 (by decide)).trans (in4_v4 c m ρ)
theorem end_v5 : W5 m ρ c (Proc.devRef .tc main_v5) = nt (aH c m) (rowsU (whole (aW c m))) := by
  refine (W5_arr m ρ c 2).trans ((arr1 (V4 m ρ) c).trans ?_)
  rw [in4_arg0, in4_v3]

end Kernel

section Reference

open Cert.Reference12Ideal Cert.Reference12Ideal.Gen

/-- All the columns, as the reference takes them. -/
abbrev cols (h : FVec Ideal S4096x2048 .bf16) (w : FVec Ideal S8x770x2048 .bf16) : FVec Ideal S4096x6160 .f32 :=
  Host.dotGeneral (F := Ideal) (φ₁ := .f32) (φ₂ := .f32) dot_S4096x2048_S2048x6160_S4096x6160_1_0_0_1_n_n none
    (extf .f32 h bitsLt_bf16_f32) (transpose S2048x6160 [1, 0] (shapeCast _ (extf .f32 w bitsLt_bf16_f32)
      shapeCasts_S8x770x2048_S6160x2048) transposes_S6160x2048_S2048x6160_1_0)

/-- The reference's two results. -/
theorem out_ba (h : FVec Ideal S4096x2048 .bf16) (w : FVec Ideal S8x770x2048 .bf16) :
    (pad S4096x128 ![0, 0] ![0, 112] ![0, 0] (extractStridedSlice S4096x16 ![0, 4096] (cols h w) slices_S4096x6160_S4096x16_0_4096)
      (sitofp (F := Ideal) .f32 (constantI S_ 32 0#32)) pads_S4096x16_S4096x128_000_01120 h_S_ : S4096x128.Idx → EReal)
      = nt h (rowsB (whole w)) := by
  funext j
  idx_vars j
  pointwise [nt, cols]
  have e0 : (FloatOps.sitofp FTy.bf16 0#32 : Ideal .bf16) = (0 : EReal) := by
    show (((0#32 : BitVec 32).toInt : ℝ) : EReal) = 0
    simp
  have e1 : (FloatOps.sitofp FTy.f32 0#32 : Ideal .f32) = (0 : EReal) := by
    show (((0#32 : BitVec 32).toInt : ℝ) : EReal) = 0
    simp
  split_ifs
  · rfl
  · rw [e1]
    exact (Finset.sum_eq_zero fun x _ => by rw [e0]; exact mul_zero _).symm

theorem out_uv (h : FVec Ideal S4096x2048 .bf16) (w : FVec Ideal S8x770x2048 .bf16) :
    (extractStridedSlice S4096x2048 ![0, 4112] (cols h w) slices_S4096x6160_S4096x2048_0_4112 : S4096x2048.Idx → EReal)
      = nt h (rowsU (whole w)) := by
  funext j
  idx_vars j
  pointwise [nt, cols]

end Reference

end Cert.Mat.InRest

end
-- ==== Proof.Mat.InRestRun.lean ====
module

public import proofs.«01_k».proof.Proof.Mat.InRest

@[expose] public section

set_option maxRecDepth 16384

noncomputable section

/-! The whole run of the last two products of the input projection, with what it leaves in the results. -/

namespace Cert.Mat.InRest

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Kernel

open Cert.Kernel12Ideal Cert.Kernel12Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run ends with the results at the last boundary's contents and the arguments as launched. -/
theorem run_ends : θ_run defs (onTc (τ := τ) (main (F := Ideal))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v4 (by decide)), h c _ (mem_uc main_v5 (by decide)),
       (h c _ (mem_uc main_arg0 (by decide))).trans (W5_main_arg0 m ρ c),
       (h c _ (mem_uc main_arg1 (by decide))).trans (W5_main_arg1 m ρ c)⟩)

end Kernel

end Cert.Mat.InRest

end
-- ==== Proof.Mat.Claims.lean ====
module

public import proofs.«01_k».proof.Defs
public import proofs.«01_k».proof.Proof.Mat.InDwRun
public import proofs.«01_k».proof.Proof.Mat.OutRun
public import proofs.«01_k».proof.Proof.Mat.PwRun
public import proofs.«01_k».proof.Proof.Mat.InDx
public import proofs.«01_k».proof.Proof.Mat.InQkv
public import proofs.«01_k».proof.Proof.Mat.InZ
public import proofs.«01_k».proof.Proof.Mat.InRestRun
public import Idealize.ShloMosaic.Lib.Quiescent

@[expose] public section

noncomputable section

/-! The claims about the products, each from the kernel's run and the reference's. -/

namespace Cert.Mat

open Idealize.ShloMosaic Idealize.SL.Sem

/-! Each reference runs, leaves its arguments alone and declares no semaphore. -/

theorem reference6_frame : Cert.quiescent_Reference6Ideal := fun m g _ =>
  (θ_run Cert.Reference6Ideal.defs _ _).mono
    (fun r h => ⟨fun c => (h c).2.2.2.2.2, sem_eq_zero_of_no_sems (by decide) r.2⟩)
    (Cert.Reference6Ideal.Value.run (F := Ideal) m g)

theorem reference7_frame : Cert.quiescent_Reference7Ideal := fun m g _ =>
  (θ_run Cert.Reference7Ideal.defs _ _).mono
    (fun r h => ⟨fun c => (h c).2.2.2, sem_eq_zero_of_no_sems (by decide) r.2⟩)
    (Cert.Reference7Ideal.Value.run (F := Ideal) m g)

theorem reference8_frame : Cert.quiescent_Reference8Ideal := fun m g _ =>
  (θ_run Cert.Reference8Ideal.defs _ _).mono
    (fun r h => ⟨fun c => (h c).2, sem_eq_zero_of_no_sems (by decide) r.2⟩)
    (Cert.Reference8Ideal.Value.run (F := Ideal) m g)

theorem reference9_frame : Cert.quiescent_Reference9Ideal := fun m g _ =>
  (θ_run Cert.Reference9Ideal.defs _ _).mono
    (fun r h => ⟨fun c => (h c).2, sem_eq_zero_of_no_sems (by decide) r.2⟩)
    (Cert.Reference9Ideal.Value.run (F := Ideal) m g)

theorem reference10_frame : Cert.quiescent_Reference10Ideal := fun m g _ =>
  (θ_run Cert.Reference10Ideal.defs _ _).mono
    (fun r h => ⟨fun c => (h c).2, sem_eq_zero_of_no_sems (by decide) r.2⟩)
    (Cert.Reference10Ideal.Value.run (F := Ideal) m g)

theorem reference11_frame : Cert.quiescent_Reference11Ideal := fun m g _ =>
  (θ_run Cert.Reference11Ideal.defs _ _).mono
    (fun r h => ⟨fun c => (h c).2, sem_eq_zero_of_no_sems (by decide) r.2⟩)
    (Cert.Reference11Ideal.Value.run (F := Ideal) m g)

theorem reference12_frame : Cert.quiescent_Reference12Ideal := fun m g _ =>
  (θ_run Cert.Reference12Ideal.defs _ _).mono
    (fun r h => ⟨fun c => (h c).2.2, sem_eq_zero_of_no_sems (by decide) r.2⟩)
    (Cert.Reference12Ideal.Value.run (F := Ideal) m g)

/-- The five products of the two pointwise layers and their reference end with the same arrays. -/
theorem same6 : Cert.algebraic_Kernel6Ideal_Reference6Ideal := by
  intro m g m' g' _ hargs
  refine ⟨fun c => Pw.rows (Pw.aS c m) (Pw.aW2 c m) (Pw.aB2 c m) (Pw.aX c m), fun c => nt (Pw.aD c m) (Pw.whole2 (Pw.aW2 c m)),
    fun c => Pw.shards (tn (Pw.aS c m) (Pw.aD c m)), fun c => Pw.slabs (Pw.aH c m) (Pw.aDz c m),
    fun c => nt (Pw.aDz c m) (Pw.whole1 (Pw.aW1 c m)), ?_, ?_⟩
  · exact (θ_run Cert.Kernel6Ideal.defs _ _).mono
      (fun r h c => ⟨(h c).1.trans (Pw.end_v4 c m g), (h c).2.1.trans (Pw.end_v5 c m g), (h c).2.2.1.trans (Pw.end_v9 c m g),
        (h c).2.2.2.1.trans (Pw.end_v7 c m g), (h c).2.2.2.2.1.trans (Pw.end_v8 c m g), (h c).2.2.2.2.2⟩)
      (Pw.run_ends m g)
  · refine (θ_run Cert.Reference6Ideal.defs _ _).mono (fun r h c => ?_) (Cert.Reference6Ideal.Value.run (F := Ideal) m' g')
    obtain ⟨a0, a1, a2, a3, a4, a5, a6, a7⟩ := hargs c
    refine ⟨(h c).1.trans ?_, (h c).2.1.trans ?_, (h c).2.2.1.trans ?_, (h c).2.2.2.1.trans ?_, (h c).2.2.2.2.1.trans ?_,
      (h c).2.2.2.2.2⟩
    · rw [a0, a1, a2, a3]; exact Pw.out_rows _ _ _ _
    · rw [a1, a4]; exact Pw.out_dx _ _
    · rw [a0, a4]; exact Pw.out_dw _ _
    · rw [a5, a6]; exact Pw.out_dw1 _ _
    · rw [a6, a7]; exact Pw.out_dx1 _ _

/-- The three products of the output projection and their reference end with the same arrays. -/
theorem same7 : Cert.algebraic_Kernel7Ideal_Reference7Ideal := by
  intro m g m' g' _ hargs
  refine ⟨fun c => plus (nn (Out.aMix c m) (Out.whole (Out.aW c m))) (Out.aX c m), fun c => nt (Out.aD c m) (Out.whole (Out.aW c m)),
    fun c => Out.shards (tn (Out.aMix c m) (Out.aD c m)), ?_, ?_⟩
  · exact (θ_run Cert.Kernel7Ideal.defs _ _).mono
      (fun r h c => ⟨(h c).1.trans (Out.end_v1 c m g), (h c).2.1.trans (Out.end_v2 c m g), (h c).2.2.1.trans (Out.end_v4 c m g),
        (h c).2.2.2⟩)
      (Out.run_ends m g)
  · refine (θ_run Cert.Reference7Ideal.defs _ _).mono (fun r h c => ?_) (Cert.Reference7Ideal.Value.run (F := Ideal) m' g')
    obtain ⟨a0, a1, a2, a3⟩ := hargs c
    refine ⟨(h c).1.trans ?_, (h c).2.1.trans ?_, (h c).2.2.1.trans ?_, (h c).2.2.2⟩
    · rw [a0, a1, a2]; exact Out.out_rows _ _ _
    · rw [a1, a3]; exact Out.out_dx _ _
    · rw [a0, a3]; exact Out.out_dw _ _

/-- The four products of the input projection's weights and their reference end with the same array. -/
theorem same8 : Cert.algebraic_Kernel8Ideal_Reference8Ideal := by
  intro m g m' g' _ hargs
  refine ⟨fun c => shapeCast _ (InDw.stacked (InDw.aH c m) (InDw.aQ c m) (InDw.aZ c m) (InDw.aB c m) (InDw.aU c m))
    Cert.Kernel8Ideal.Gen.shapeCasts_S6160x2048_S8x770x2048, ?_, ?_⟩
  · exact (θ_run Cert.Kernel8Ideal.defs _ _).mono
      (fun r h c => ⟨(h c).1.trans (InDw.end_v6 c m g), (h c).2⟩) (InDw.run_ends m g)
  · exact (θ_run Cert.Reference8Ideal.defs _ _).mono
      (fun r h c => ⟨(h c).1.trans (InDw.out m' c (hargs c).1 (hargs c).2.1 (hargs c).2.2.1 (hargs c).2.2.2.1 (hargs c).2.2.2.2),
        (h c).2⟩)
      (Cert.Reference8Ideal.Value.run (F := Ideal) m' g')

/-- The gradient of the normalized rows through the input projection, and its reference's, are the same array. -/
theorem same9 : Cert.algebraic_Kernel9Ideal_Reference9Ideal := by
  intro m g m' g' _ hargs
  refine ⟨fun c => InDx.sum4 (InDx.whole (InDx.aW m c)) (InDx.aQ m c) (InDx.aZ m c) (InDx.aB m c) (InDx.aU m c), ?_, ?_⟩
  · exact (θ_run Cert.Kernel9Ideal.defs _ _).mono
      (fun r h c => ⟨(h c).1.trans (InDx.arr m c), (h c).2⟩) (Cert.Kernel9Ideal.Value.run_blocks (F := Ideal) m g)
  · exact (θ_run Cert.Reference9Ideal.defs _ _).mono
      (fun r h c => ⟨(h c).1.trans (InDx.out m' c (hargs c).1 (hargs c).2.1 (hargs c).2.2.1 (hargs c).2.2.2.1 (hargs c).2.2.2.2),
        (h c).2⟩)
      (Cert.Reference9Ideal.Value.run (F := Ideal) m' g')

/-- The first group of columns of the input projection and the reference's are the same array. -/
theorem same10 : Cert.algebraic_Kernel10Ideal_Reference10Ideal := by
  intro m g m' g' _ hargs
  refine ⟨fun c => InQkv.group (InQkv.whole (InQkv.aW m c)) (InQkv.aH m c), ?_, ?_⟩
  · exact (θ_run Cert.Kernel10Ideal.defs _ _).mono
      (fun r h c => ⟨(h c).1.trans (InQkv.arr m c), (h c).2⟩) (Cert.Kernel10Ideal.Value.run_blocks (F := Ideal) m g)
  · refine (θ_run Cert.Reference10Ideal.defs _ _).mono (fun r h c => ?_) (Cert.Reference10Ideal.Value.run (F := Ideal) m' g')
    refine ⟨(h c).1.trans ?_, (h c).2⟩
    rw [(hargs c).1, (hargs c).2]
    exact InQkv.out _ _

/-- The second group of columns of the input projection and the reference's are the same array. -/
theorem same11 : Cert.algebraic_Kernel11Ideal_Reference11Ideal := by
  intro m g m' g' _ hargs
  refine ⟨fun c => InZ.group (InZ.whole (InZ.aW m c)) (InZ.aH m c), ?_, ?_⟩
  · exact (θ_run Cert.Kernel11Ideal.defs _ _).mono
      (fun r h c => ⟨(h c).1.trans (InZ.arr m c), (h c).2⟩) (Cert.Kernel11Ideal.Value.run_blocks (F := Ideal) m g)
  · refine (θ_run Cert.Reference11Ideal.defs _ _).mono (fun r h c => ?_) (Cert.Reference11Ideal.Value.run (F := Ideal) m' g')
    refine ⟨(h c).1.trans ?_, (h c).2⟩
    rw [(hargs c).1, (hargs c).2]
    exact InZ.out _ _

/-- The last two groups of columns of the input projection and the reference's are the same arrays. -/
theorem same12 : Cert.algebraic_Kernel12Ideal_Reference12Ideal := by
  intro m g m' g' _ hargs
  refine ⟨fun c => nt (InRest.aH c m) (InRest.rowsB (InRest.whole (InRest.aW c m))),
    fun c => nt (InRest.aH c m) (InRest.rowsU (InRest.whole (InRest.aW c m))), ?_, ?_⟩
  · exact (θ_run Cert.Kernel12Ideal.defs _ _).mono
      (fun r h c => ⟨(h c).1.trans (InRest.end_v4 c m g), (h c).2.1.trans (InRest.end_v5 c m g), (h c).2.2⟩)
      (InRest.run_ends m g)
  · refine (θ_run Cert.Reference12Ideal.defs _ _).mono (fun r h c => ?_) (Cert.Reference12Ideal.Value.run (F := Ideal) m' g')
    refine ⟨(h c).1.trans ?_, (h c).2.1.trans ?_, (h c).2.2⟩
    · rw [(hargs c).1, (hargs c).2]; exact InRest.out_ba _ _
    · rw [(hargs c).1, (hargs c).2]; exact InRest.out_uv _ _

end Cert.Mat

end
-- ==== Proof.Tail.LossPay.lean ====
module

public import Idealize.ShloMosaic.Lib.StableHlo.RunRead
public import proofs.«01_k».proof.Proof.Gen.Kernel13Ideal.Value
public import proofs.«01_k».proof.Proof.Ffn.Norm
public import proofs.«01_k».proof.Proof.Ffn.Ref

@[expose] public section

set_option maxRecDepth 16384

noncomputable section

/-! The loss head: what one tile of 512 rows computes, in terms of its rows. -/

namespace Cert.Tail.Loss

open Idealize.ShloMosaic Idealize.ShloMosaic.TcCoe Idealize.ShloMosaic.Tactic Idealize.SL.Sem
open Cert.Ffn Cert.Ffn.Norm

/-- The word of a half. -/
abbrev wHalf : EReal := Ideal.ofBits .f32 0x3F000000#32

/-- How far a normalized row is from its target. -/
def err (x t g : Fin 2048 → EReal) (f : Fin 2048) : EReal := x f * Ideal.rsqrt (msq x) * g f - t f

/-- A row's mean squared error. -/
def mse (x t g : Fin 2048 → EReal) : EReal := Ideal.div (∑ k, err x t g k * err x t g k) w2048

/-- The cotangent of a normalized row: twice the error, over the row's length, halved. -/
def cot (x t g : Fin 2048 → EReal) (f : Fin 2048) : EReal := Ideal.div wHalf w2048 * (wTwo * err x t g f)

/-- The cotangent of a row through the norm. -/
def back (x h g : Fin 2048 → EReal) (f : Fin 2048) : EReal :=
  h f * g f * Ideal.rsqrt (msq x) + x f * slope x h g + slope x h g * x f

theorem half_coe : wHalf = ((1 / 2 : ℝ) : EReal) := by
  simp [wHalf, Ideal.ofBits, Ideal.ieee, -EReal.coe_mul]
  norm_num

/-- A number added to itself is its double, at the infinities too. -/
theorem double (z : EReal) : z + z = wTwo * z := by
  rw [Ref.two_coe]
  induction z with
  | bot => rw [EReal.coe_mul_bot_of_pos (by norm_num)]; rfl
  | coe r => rw [← EReal.coe_add, ← EReal.coe_mul]; congr 1; ring
  | top => rw [EReal.coe_mul_top_of_pos (by norm_num)]; rfl

theorem cot_eq (e c : EReal) : e * c + c * e = c * (wTwo * e) := by
  rw [mul_comm e c, double, mul_left_comm]

/-- Halving goes into a sum. -/
theorem half_sum {n : ℕ} (f : Fin n → EReal) : wHalf * ∑ i, f i = ∑ i, wHalf * f i := by
  have h : ∀ s : Finset (Fin n), wHalf * ∑ i ∈ s, f i = ∑ i ∈ s, wHalf * f i := fun s => by
    induction s using Finset.induction_on with
    | empty => simp
    | insert a s ha ih =>
      rw [Finset.sum_insert ha, Finset.sum_insert ha, ← ih]
      refine EReal.left_distrib_of_nonneg_of_ne_top ?_ ?_ _ _
      · rw [half_coe]; exact_mod_cast (by norm_num : (0 : ℝ) ≤ 1 / 2)
      · rw [half_coe]; exact EReal.coe_ne_top _
  exact h Finset.univ

open Cert.Kernel13Ideal Cert.Kernel13Ideal.Gen

variable (x t : Vec Ideal S512x2048 .f32) (g : Vec Ideal S1x2048 .f32)

/-- What a tile stores of the rows' cotangent, of its loss and of the gains' gradient. -/
abbrev tDx : FVec Ideal S512x2048 .f32 := k0_pay12 (F := Ideal) x (k0_pay2 g) (k0_pay4 x) (k0_pay5 x) (k0_pay7 x t g) k0_pay9
abbrev tCast : FVec Ideal S512x2048 .bf16 := k0_pay13 (F := Ideal) x (k0_pay2 g) (k0_pay4 x) (k0_pay5 x) (k0_pay7 x t g) k0_pay9
abbrev tDg : FVec Ideal S1x2048 .f32 := k0_pay11 (F := Ideal) (k0_pay6 x) (k0_pay7 x t g) k0_pay9

theorem pay1 (v a : Vec Ideal S1x2048 .f32) (f : Fin 2048) : k0_pay1 (F := Ideal) v a (ix2 0 f) = a (ix2 0 f) + v (ix2 0 f) := by
  pointwise [k0_pay1]

theorem pay14 (v a : Vec Ideal S1x1 .f32) : k0_pay14 (F := Ideal) v a (ix2 0 0) = a (ix2 0 0) + v (ix2 0 0) := by
  pointwise [k0_pay14]

theorem pay3 (i : Fin 512) (u : Fin 1) : k0_pay3 (F := Ideal) x (ix2 i u) = msq fun k => x (ix2 i k) := by
  pointwise [k0_pay3]
  rfl

theorem pay4 (i : Fin 512) (u : Fin 1) : k0_pay4 (F := Ideal) x (ix2 i u) = Ideal.rsqrt (msq fun k => x (ix2 i k)) := by
  pointwise [k0_pay4, pay3]

theorem pay5 (i : Fin 512) (u : Fin 1) : k0_pay5 (F := Ideal) x (ix2 i u)
    = wNegHalf * Ideal.div (Ideal.rsqrt (msq fun k => x (ix2 i k))) (msq fun k => x (ix2 i k)) := by
  pointwise [k0_pay5, pay3, pay4]

theorem pay6 (i : Fin 512) (f : Fin 2048) : k0_pay6 (F := Ideal) x (ix2 i f) = x (ix2 i f) * Ideal.rsqrt (msq fun k => x (ix2 i k)) := by
  pointwise [k0_pay6, pay4]

theorem pay7 (i : Fin 512) (f : Fin 2048) : k0_pay7 (F := Ideal) x t g (ix2 i f)
    = err (fun k => x (ix2 i k)) (fun k => t (ix2 i k)) (fun k => g (ix2 0 k)) f := by
  pointwise [k0_pay7, pay6, k0_pay2]
  rfl

theorem pay8 : k0_pay8 (F := Ideal) x t g (ix2 0 0)
    = ∑ i, wHalf * mse (fun k => x (ix2 i k)) (fun k => t (ix2 i k)) (fun k => g (ix2 0 k)) := by
  rw [← half_sum]
  pointwise [k0_pay8, pay7]
  rfl

theorem pay9 (i : Fin 512) (u : Fin 1) : k0_pay9 (F := Ideal) (ix2 i u) = Ideal.div wHalf w2048 := by
  pointwise [k0_pay9]
  simp

theorem pay10 (i : Fin 512) (f : Fin 2048) : k0_pay10 (F := Ideal) (k0_pay7 x t g) k0_pay9 (ix2 i f)
    = cot (fun k => x (ix2 i k)) (fun k => t (ix2 i k)) (fun k => g (ix2 0 k)) f := by
  pointwise [k0_pay10, pay7, pay9]
  simp only [Fin.sum_univ_one]
  exact cot_eq _ _

theorem pay11 (f : Fin 2048) : tDg x t g (ix2 0 f)
    = ∑ i, x (ix2 i f) * Ideal.rsqrt (msq fun k => x (ix2 i k))
        * cot (fun k => x (ix2 i k)) (fun k => t (ix2 i k)) (fun k => g (ix2 0 k)) f := by
  pointwise [k0_pay11, pay6, pay10]

theorem pay12 (i : Fin 512) (f : Fin 2048) : tDx x t g (ix2 i f)
    = back (fun k => x (ix2 i k)) (cot (fun k => x (ix2 i k)) (fun k => t (ix2 i k)) (fun k => g (ix2 0 k)))
        (fun k => g (ix2 0 k)) f := by
  pointwise [k0_pay12, k0_pay2, pay4, pay5, pay10]
  simp only [Fin.sum_univ_one]
  rfl

theorem pay13 (i : Fin 512) (f : Fin 2048) : tCast x t g (ix2 i f) = tDx x t g (ix2 i f) := by
  pointwise [k0_pay13]

end Cert.Tail.Loss

end
-- ==== Proof.Tail.Loss.lean ====
module

public import proofs.«01_k».proof.Proof.Tail.LossPay

@[expose] public section

set_option maxRecDepth 16384

noncomputable section

/-! The loss head as a whole: the arrays that its eight points leave. -/

namespace Cert.Tail.Loss

open Idealize.ShloMosaic Idealize.ShloMosaic.TcCoe Idealize.ShloMosaic.Tactic Idealize.SL.Sem
open Cert.Ffn Cert.Ffn.Norm
open Cert.Kernel13Ideal Cert.Kernel13Ideal.Gen Cert.Kernel13Ideal.Value

/-! The results from the rows, the gains and the targets. -/

abbrev xRow (x : S4096x2048.Idx → EReal) (i : Fin 4096) : Fin 2048 → EReal := fun k => x (ix2 i k)

/-- The rows' cotangent. -/
def dx (x : S4096x2048.Idx → EReal) (g : S2048.Idx → EReal) (t : S4096x2048.Idx → EReal) : S4096x2048.Idx → EReal := fun j =>
  back (xRow x (j 0)) (cot (xRow x (j 0)) (xRow t (j 0)) fun k => g (ix1 k)) (fun k => g (ix1 k)) (j 1)

/-- The loss: half the sum of the rows' mean squared errors. -/
def loss (x : S4096x2048.Idx → EReal) (g : S2048.Idx → EReal) (t : S4096x2048.Idx → EReal) : S1x1.Idx → EReal := fun _ =>
  wHalf * ∑ i : Fin 4096, mse (xRow x i) (xRow t i) fun k => g (ix1 k)

/-- The gains' gradient. -/
def dg (x : S4096x2048.Idx → EReal) (g : S2048.Idx → EReal) (t : S4096x2048.Idx → EReal) : S1x2048.Idx → EReal := fun j =>
  ∑ i : Fin 4096, x (ix2 i (j 1)) * Ideal.rsqrt (msq (xRow x i)) * cot (xRow x i) (xRow t i) (fun k => g (ix1 k)) (j 1)

section
variable (c : Dev nD) (i : grid0.Coords) (arg1 : Memref sig .tc .vmem S512x2048 .f32) (harg1 : arg1.IsWhole)
  (arg2 : Memref sig .tc .vmem S512x2048 .f32) (harg2 : arg2.IsWhole) (arg3 : Memref sig .tc .vmem S1x2048 .f32) (harg3 : arg3.IsWhole)
  (arg4 : Memref sig .tc .vmem S512x2048 .f32) (harg4 : arg4.IsWhole) (arg5 : Memref sig .tc .vmem S512x2048 .bf16) (harg5 : arg5.IsWhole)
  (arg6 : Memref sig .tc .vmem S1x1 .f32) (harg6 : arg6.IsWhole) (arg7 : Memref sig .tc .vmem S1x2048 .f32) (harg7 : arg7.IsWhole)
  (x t : Vec Ideal S512x2048 .f32) (g : Vec Ideal S1x2048 .f32) (a : Vec Ideal S1x1 .f32) (b : Vec Ideal S1x2048 .f32)

theorem ld_tile (v : Vec Ideal S512x2048 .f32) :
    View.ld v (Rect.unit ![0, 0] ![512, 2048] inb_S512x2048_S512x2048_0_0) = v :=
  View.ld_unit_zero (by funext a; fin_cases a <;> rfl) _ v

theorem ld_line (v : Vec Ideal S1x2048 .f32) :
    View.ld v (Rect.unit ![0, 0] ![1, 2048] inb_S1x2048_S1x2048_0_0) = v :=
  View.ld_unit_zero (by funext a; fin_cases a <;> rfl) _ v

theorem ld_one (v : Vec Ideal S1x1 .f32) :
    View.ld v (Rect.unit ![0, 0] ![1, 1] inb_S1x1_S1x1_0_0) = v :=
  View.ld_unit_zero (by funext a; fin_cases a <;> rfl) _ v

/-! The first tile's point. -/

section
variable (hc0 : cond0_0 i) (hc1 : ¬cond0_1 i) (hc2 : cond0_2 i) (hc3 : ¬cond0_3 i)

theorem out_A_3 :
    out0_A_3 (F := Ideal) c i arg1 harg1 arg2 harg2 arg3 harg3 arg4 harg4 arg5 harg5 arg6 harg6 arg7 harg7 hc0 hc1 hc2 hc3 x t g
      = tDx x t g := by
  unfold out0_A_3
  rw [View.read_writes_eq_canon _ _ _ (cover0_A_3 (F := Ideal) c i arg1 harg1 arg2 harg2 arg3 harg3 arg4 harg4 arg5 harg5 arg6 harg6 arg7 harg7 hc0 hc1 hc2 hc3 x t g)]
  unfold kernelRun0_A
  dsimp only
  sl_unfold_words
  simp only [View.readAt_eq_ld, harg1.read_unread, harg2.read_unread, harg3.read_unread, harg6.read_unread, harg7.read_unread, ld_tile, ld_line, ld_one]
  exact View.canon_unit_zero (by funext a; fin_cases a <;> rfl) _ _

theorem out_A_4 :
    out0_A_4 (F := Ideal) c i arg1 harg1 arg2 harg2 arg3 harg3 arg4 harg4 arg5 harg5 arg6 harg6 arg7 harg7 hc0 hc1 hc2 hc3 x t g
      = tCast x t g := by
  unfold out0_A_4
  rw [View.read_writes_eq_canon _ _ _ (cover0_A_4 (F := Ideal) c i arg1 harg1 arg2 harg2 arg3 harg3 arg4 harg4 arg5 harg5 arg6 harg6 arg7 harg7 hc0 hc1 hc2 hc3 x t g)]
  unfold kernelRun0_A
  dsimp only
  sl_unfold_words
  simp only [View.readAt_eq_ld, harg1.read_unread, harg2.read_unread, harg3.read_unread, harg6.read_unread, harg7.read_unread, ld_tile, ld_line, ld_one]
  exact View.canon_unit_zero (by funext a; fin_cases a <;> rfl) _ _

theorem out_A_5 :
    out0_A_5 (F := Ideal) c i arg1 harg1 arg2 harg2 arg3 harg3 arg4 harg4 arg5 harg5 arg6 harg6 arg7 harg7 hc0 hc1 hc2 hc3 x t g
      = k0_pay8 x t g := by
  unfold out0_A_5
  rw [View.read_writes_eq_canon _ _ _ (cover0_A_5 (F := Ideal) c i arg1 harg1 arg2 harg2 arg3 harg3 arg4 harg4 arg5 harg5 arg6 harg6 arg7 harg7 hc0 hc1 hc2 hc3 x t g)]
  unfold kernelRun0_A
  dsimp only
  sl_unfold_words
  simp only [View.readAt_eq_ld, harg1.read_unread, harg2.read_unread, harg3.read_unread, harg6.read_unread, harg7.read_unread, ld_tile, ld_line, ld_one]
  exact View.canon_unit_zero (by funext a; fin_cases a <;> rfl) _ _

theorem out_A_6 :
    out0_A_6 (F := Ideal) c i arg1 harg1 arg2 harg2 arg3 harg3 arg4 harg4 arg5 harg5 arg6 harg6 arg7 harg7 hc0 hc1 hc2 hc3 x t g
      = tDg x t g := by
  unfold out0_A_6
  rw [View.read_writes_eq_canon _ _ _ (cover0_A_6 (F := Ideal) c i arg1 harg1 arg2 harg2 arg3 harg3 arg4 harg4 arg5 harg5 arg6 harg6 arg7 harg7 hc0 hc1 hc2 hc3 x t g)]
  unfold kernelRun0_A
  dsimp only
  sl_unfold_words
  simp only [View.readAt_eq_ld, harg1.read_unread, harg2.read_unread, harg3.read_unread, harg6.read_unread, harg7.read_unread, ld_tile, ld_line, ld_one]
  exact View.canon_unit_zero (by funext a; fin_cases a <;> rfl) _ _

end

/-! A later tile's point, after a point that left `a` and `b` in the carried results. -/

section
variable (hc0 : ¬cond0_0 i) (hc1 : cond0_1 i) (hc2 : ¬cond0_2 i) (hc3 : cond0_3 i)

theorem out_B_3 :
    out0_B_3 (F := Ideal) c i arg1 harg1 arg2 harg2 arg3 harg3 arg4 harg4 arg5 harg5 arg6 harg6 arg7 harg7 hc0 hc1 hc2 hc3 x t g a b
      = tDx x t g := by
  unfold out0_B_3
  rw [View.read_writes_eq_canon _ _ _ (cover0_B_3 (F := Ideal) c i arg1 harg1 arg2 harg2 arg3 harg3 arg4 harg4 arg5 harg5 arg6 harg6 arg7 harg7 hc0 hc1 hc2 hc3 x t g a b)]
  unfold kernelRun0_B
  dsimp only
  sl_unfold_words
  simp only [View.readAt_eq_ld, harg1.read_unread, harg2.read_unread, harg3.read_unread, harg6.read_unread, harg7.read_unread, ld_tile, ld_line, ld_one]
  exact View.canon_unit_zero (by funext a; fin_cases a <;> rfl) _ _

theorem out_B_4 :
    out0_B_4 (F := Ideal) c i arg1 harg1 arg2 harg2 arg3 harg3 arg4 harg4 arg5 harg5 arg6 harg6 arg7 harg7 hc0 hc1 hc2 hc3 x t g a b
      = tCast x t g := by
  unfold out0_B_4
  rw [View.read_writes_eq_canon _ _ _ (cover0_B_4 (F := Ideal) c i arg1 harg1 arg2 harg2 arg3 harg3 arg4 harg4 arg5 harg5 arg6 harg6 arg7 harg7 hc0 hc1 hc2 hc3 x t g a b)]
  unfold kernelRun0_B
  dsimp only
  sl_unfold_words
  simp only [View.readAt_eq_ld, harg1.read_unread, harg2.read_unread, harg3.read_unread, harg6.read_unread, harg7.read_unread, ld_tile, ld_line, ld_one]
  exact View.canon_unit_zero (by funext a; fin_cases a <;> rfl) _ _

theorem out_B_5 :
    out0_B_5 (F := Ideal) c i arg1 harg1 arg2 harg2 arg3 harg3 arg4 harg4 arg5 harg5 arg6 harg6 arg7 harg7 hc0 hc1 hc2 hc3 x t g a b
      = k0_pay14 (k0_pay8 x t g) a := by
  unfold out0_B_5
  rw [View.read_writes_eq_canon _ _ _ (cover0_B_5 (F := Ideal) c i arg1 harg1 arg2 harg2 arg3 harg3 arg4 harg4 arg5 harg5 arg6 harg6 arg7 harg7 hc0 hc1 hc2 hc3 x t g a b)]
  unfold kernelRun0_B
  dsimp only
  sl_unfold_words
  simp only [View.readAt_eq_ld, harg1.read_unread, harg2.read_unread, harg3.read_unread, harg6.read_unread, harg7.read_unread, ld_tile, ld_line, ld_one]
  exact View.canon_unit_zero (by funext a; fin_cases a <;> rfl) _ _

theorem out_B_6 :
    out0_B_6 (F := Ideal) c i arg1 harg1 arg2 harg2 arg3 harg3 arg4 harg4 arg5 harg5 arg6 harg6 arg7 harg7 hc0 hc1 hc2 hc3 x t g a b
      = k0_pay1 (tDg x t g) b := by
  unfold out0_B_6
  rw [View.read_writes_eq_canon _ _ _ (cover0_B_6 (F := Ideal) c i arg1 harg1 arg2 harg2 arg3 harg3 arg4 harg4 arg5 harg5 arg6 harg6 arg7 harg7 hc0 hc1 hc2 hc3 x t g a b)]
  unfold kernelRun0_B
  dsimp only
  sl_unfold_words
  simp only [View.readAt_eq_ld, harg1.read_unread, harg2.read_unread, harg3.read_unread, harg6.read_unread, harg7.read_unread, ld_tile, ld_line, ld_one]
  exact View.canon_unit_zero (by funext a; fin_cases a <;> rfl) _ _

end

end

/-! Point `t` takes the rows from `512 * t`. -/

/-- The two windows of rows that come in, and the two that go out. -/
theorem idx_rows : ∀ t : Fin cfg0.N, (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0) :=
  (by decide +kernel : ∀ t : Fin grid0.N, (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0))

/-- The windows that stay where they are. -/
theorem idx_fixed : ∀ t : Fin cfg0.N, (win0_2.index t 0 = 0 ∧ win0_2.index t 1 = 0) ∧ (win0_5.index t 0 = 0 ∧ win0_5.index t 1 = 0)
    ∧ (win0_6.index t 0 = 0 ∧ win0_6.index t 1 = 0) :=
  (by decide +kernel : ∀ t : Fin grid0.N, (win0_2.index t 0 = 0 ∧ win0_2.index t 1 = 0) ∧ (win0_5.index t 0 = 0 ∧ win0_5.index t 1 = 0)
    ∧ (win0_6.index t 0 = 0 ∧ win0_6.index t 1 = 0))

theorem lt (t : Fin cfg0.N) : t.val < 8 := lt_of_lt_of_eq t.isLt N_0

variable (m : (ℓ : Loc nD τ sig) → Buf (Elt Ideal) ℓ) (c : Dev nD)

/-- The arguments: the rows, the gains and the targets. -/
abbrev aX : Vec Ideal S4096x2048 .f32 := m ((c.tc : Thread nD τ).loc main_arg0)
abbrev aG : Vec Ideal S2048 .f32 := m ((c.tc : Thread nD τ).loc main_arg1)
abbrev aT : Vec Ideal S4096x2048 .f32 := m ((c.tc : Thread nD τ).loc main_arg2)

theorem V_v0 (f : Fin 2048) : (V m c main_v0 : Vec Ideal S1x2048 .f32) (ix2 0 f) = aG m c (ix1 f) := by
  have h : V m c main_v0 = shapeCast S1x2048 (aG m c) shapeCasts_S2048_S1x2048 := by
    show StableHlo.after hostOps0 (fun b => m (c, b)) (Proc.devRef .tc main_v0) = _
    after_reads_simp
    rfl
  rw [h]
  pointwise

theorem blk_0 (t : Fin cfg0.N) (i : Fin 512) (k : Fin 2048) : (iblk m c 0 t : Vec Ideal S512x2048 .f32) (ix2 i k)
    = aX m c (ix2 ⟨t.val * 512 + i.val, by have := lt t; omega⟩ k) := by
  unfold iblk
  rw [View.read_apply]
  have h := (idx_rows t).1
  refine (congrFun (V_main_arg0 m c) _).trans (at2 (aX m c) _ _ _ ?_ ?_)
  · show win0_0.index t 0 * 512 + 1 * i.val = t.val * 512 + i.val; omega
  · show win0_0.index t 1 * 2048 + 1 * k.val = k.val; omega

theorem blk_1 (t : Fin cfg0.N) (i : Fin 512) (k : Fin 2048) : (iblk m c 1 t : Vec Ideal S512x2048 .f32) (ix2 i k)
    = aT m c (ix2 ⟨t.val * 512 + i.val, by have := lt t; omega⟩ k) := by
  unfold iblk
  rw [View.read_apply]
  have h := (idx_rows t).2.1
  refine (congrFun (V_main_arg2 m c) _).trans (at2 (aT m c) _ _ _ ?_ ?_)
  · show win0_1.index t 0 * 512 + 1 * i.val = t.val * 512 + i.val; omega
  · show win0_1.index t 1 * 2048 + 1 * k.val = k.val; omega

theorem blk_2 (t : Fin cfg0.N) (k : Fin 2048) : (iblk m c 2 t : Vec Ideal S1x2048 .f32) (ix2 0 k) = aG m c (ix1 k) := by
  unfold iblk
  rw [View.read_apply]
  have h := (idx_fixed t).1
  refine (at2 (V m c main_v0 : Vec Ideal S1x2048 .f32) _ 0 k ?_ ?_).trans (V_v0 m c k)
  · show win0_2.index t 0 * 1 + 1 * 0 = 0; omega
  · show win0_2.index t 1 * 2048 + 1 * k.val = k.val; omega

/-- What a point stores of the rows' cotangent. -/
theorem tile (t : Fin cfg0.N) (i : Fin 512) (f : Fin 2048) : tDx (iblk m c 0 t) (iblk m c 1 t) (iblk m c 2 t) (ix2 i f)
    = dx (aX m c) (aG m c) (aT m c) (ix2 ⟨t.val * 512 + i.val, by have := lt t; omega⟩ f) := by
  rw [pay12]
  simp only [blk_0, blk_1, blk_2]
  rfl

/-- What a point adds to the loss. -/
theorem tile_loss (t : Fin cfg0.N) : k0_pay8 (F := Ideal) (iblk m c 0 t) (iblk m c 1 t) (iblk m c 2 t) (ix2 0 0)
    = ∑ i : Fin 512, wHalf * mse (xRow (aX m c) ⟨t.val * 512 + i.val, by have := lt t; omega⟩)
        (xRow (aT m c) ⟨t.val * 512 + i.val, by have := lt t; omega⟩) fun k => aG m c (ix1 k) := by
  rw [pay8]
  simp only [blk_0, blk_1, blk_2]

/-- One row's part of the gains' gradient. -/
abbrev dgRow (f : Fin 2048) (i : Fin 4096) : EReal :=
  aX m c (ix2 i f) * Ideal.rsqrt (msq (xRow (aX m c) i)) * cot (xRow (aX m c) i) (xRow (aT m c) i) (fun k => aG m c (ix1 k)) f

/-- What a point adds to the gains' gradient. -/
theorem tile_dg (t : Fin cfg0.N) (f : Fin 2048) : tDg (iblk m c 0 t) (iblk m c 1 t) (iblk m c 2 t) (ix2 0 f)
    = ∑ i : Fin 512, dgRow m c f ⟨t.val * 512 + i.val, by have := lt t; omega⟩ := by
  rw [pay11]
  simp only [blk_0, blk_1, blk_2]

/-- What point `n` leaves in the two carried results. -/
def at5 (n : ℕ) (h : n < 8) : EReal := (outsAt0 m c n (lt_of_lt_of_eq h N_0.symm)).2.2.1 (ix2 0 0)
def at6 (f : Fin 2048) (n : ℕ) (h : n < 8) : EReal := (outsAt0 m c n (lt_of_lt_of_eq h N_0.symm)).2.2.2 (ix2 0 f)

theorem at_zero (f : Fin 2048) :
    at5 m c 0 (by omega) = k0_pay8 (F := Ideal) (iblk m c 0 ⟨0, lt_of_lt_of_eq (by omega) N_0.symm⟩)
      (iblk m c 1 ⟨0, lt_of_lt_of_eq (by omega) N_0.symm⟩) (iblk m c 2 ⟨0, lt_of_lt_of_eq (by omega) N_0.symm⟩) (ix2 0 0)
    ∧ at6 m c f 0 (by omega) = tDg (iblk m c 0 ⟨0, lt_of_lt_of_eq (by omega) N_0.symm⟩)
      (iblk m c 1 ⟨0, lt_of_lt_of_eq (by omega) N_0.symm⟩) (iblk m c 2 ⟨0, lt_of_lt_of_eq (by omega) N_0.symm⟩) (ix2 0 f) := by
  have e := outsAt0_A m c ⟨0, lt_of_lt_of_eq (by omega) N_0.symm⟩ rfl (by simp) rfl (by simp)
  dsimp only at e
  unfold at5 at6
  rw [e, out_A_5, out_A_6]
  exact ⟨rfl, rfl⟩

theorem at_succ (f : Fin 2048) (n : ℕ) (h : n + 1 < 8) :
    at5 m c (n + 1) h = at5 m c n (by omega) + k0_pay8 (F := Ideal) (iblk m c 0 ⟨n + 1, lt_of_lt_of_eq h N_0.symm⟩)
      (iblk m c 1 ⟨n + 1, lt_of_lt_of_eq h N_0.symm⟩) (iblk m c 2 ⟨n + 1, lt_of_lt_of_eq h N_0.symm⟩) (ix2 0 0)
    ∧ at6 m c f (n + 1) h = at6 m c f n (by omega) + tDg (iblk m c 0 ⟨n + 1, lt_of_lt_of_eq h N_0.symm⟩)
      (iblk m c 1 ⟨n + 1, lt_of_lt_of_eq h N_0.symm⟩) (iblk m c 2 ⟨n + 1, lt_of_lt_of_eq h N_0.symm⟩) (ix2 0 f) := by
  have e := outsAt0_B m c ⟨n + 1, lt_of_lt_of_eq h N_0.symm⟩ (by dsimp only; omega) (by dsimp only; omega) (by dsimp only; omega) (by dsimp only; omega)
  dsimp only at e
  unfold at5 at6
  rw [e, out_B_5, out_B_6]
  exact ⟨pay14 _ _, pay1 _ _ _⟩

theorem sum_5 (n : ℕ) (hn : n = 7) (h : n < 8) : at5 m c n h = loss (aX m c) (aG m c) (aT m c) (ix2 0 0) := by
  subst hn
  have e := carried (fun i => wHalf * mse (xRow (aX m c) i) (xRow (aT m c) i) fun k => aG m c (ix1 k))
    (at5 m c) ((at_zero m c 0).1.trans (tile_loss m c _)) fun n h => by rw [(at_succ m c 0 n h).1, tile_loss]
  exact e.trans (half_sum _).symm

theorem sum_6 (f : Fin 2048) (n : ℕ) (hn : n = 7) (h : n < 8) : at6 m c f n h = dg (aX m c) (aG m c) (aT m c) (ix2 0 f) := by
  subst hn
  have e := carried (dgRow m c f)
    (at6 m c f) ((at_zero m c f).2.trans (tile_dg m c _ f)) fun n h => by rw [(at_succ m c f n h).2, tile_dg]
  exact e

theorem read_3 (t : Fin cfg0.N) (G : Vec Ideal S4096x2048 .f32) (i : Fin 512) (f : Fin 2048) :
    ((cfg0.win 3).blk t).view.read (Elt Ideal) G (ix2 i f) = G (ix2 ⟨t.val * 512 + i.val, by have := lt t; omega⟩ f) := by
  rw [View.read_apply]
  have h := (idx_rows t).2.2.1
  refine at2 G _ _ _ ?_ ?_
  · show win0_3.index t 0 * 512 + 1 * i.val = t.val * 512 + i.val; omega
  · show win0_3.index t 1 * 2048 + 1 * f.val = f.val; omega

theorem read_4 (t : Fin cfg0.N) (G : Vec Ideal S4096x2048 .bf16) (i : Fin 512) (f : Fin 2048) :
    ((cfg0.win 4).blk t).view.read (Elt Ideal) G (ix2 i f) = G (ix2 ⟨t.val * 512 + i.val, by have := lt t; omega⟩ f) := by
  rw [View.read_apply]
  have h := (idx_rows t).2.2.2
  refine at2 G _ _ _ ?_ ?_
  · show win0_4.index t 0 * 512 + 1 * i.val = t.val * 512 + i.val; omega
  · show win0_4.index t 1 * 2048 + 1 * f.val = f.val; omega

theorem read_5 (t : Fin cfg0.N) (G : Vec Ideal S1x1 .f32) :
    ((cfg0.win 5).blk t).view.read (Elt Ideal) G (ix2 0 0) = G (ix2 0 0) := by
  rw [View.read_apply]
  have h := (idx_fixed t).2.1
  refine at2 G _ _ _ ?_ ?_
  · show win0_5.index t 0 * 1 + 1 * 0 = 0; omega
  · show win0_5.index t 1 * 1 + 1 * 0 = 0; omega

theorem read_6 (t : Fin cfg0.N) (G : Vec Ideal S1x2048 .f32) (f : Fin 2048) :
    ((cfg0.win 6).blk t).view.read (Elt Ideal) G (ix2 0 f) = G (ix2 0 f) := by
  rw [View.read_apply]
  have h := (idx_fixed t).2.2
  refine at2 G _ _ _ ?_ ?_
  · show win0_6.index t 0 * 1 + 1 * 0 = 0; omega
  · show win0_6.index t 1 * 2048 + 1 * f.val = f.val; omega

theorem flushed_3 (t : Fin cfg0.N) : (dats m 0 c).flushed 3 t
    = ((cfg0.win 3).blk t).view.read (Elt Ideal) (dx (aX m c) (aG m c) (aT m c)) := by
  have hl := lt t
  have e : (dats m 0 c).flushed 3 t = tDx (iblk m c 0 t) (iblk m c 1 t) (iblk m c 2 t) := by
    by_cases h : t.val = 0
    · rw [flushed3_A m c t (by omega) (by omega) (by omega) (by omega), out_A_3]; rfl
    · rw [flushed3_B m c t (by omega) (by omega) (by omega) (by omega), out_B_3]; rfl
  rw [e]
  funext (j : S512x2048.Idx)
  idx_vars j
  exact (tile m c t _ _).trans (read_3 t _ _ _).symm

theorem flushed_4 (t : Fin cfg0.N) : (dats m 0 c).flushed 4 t
    = ((cfg0.win 4).blk t).view.read (Elt Ideal) (dx (aX m c) (aG m c) (aT m c)) := by
  have hl := lt t
  have e : (dats m 0 c).flushed 4 t = tCast (iblk m c 0 t) (iblk m c 1 t) (iblk m c 2 t) := by
    by_cases h : t.val = 0
    · rw [flushed4_A m c t (by omega) (by omega) (by omega) (by omega), out_A_4]; rfl
    · rw [flushed4_B m c t (by omega) (by omega) (by omega) (by omega), out_B_4]; rfl
  rw [e]
  funext (j : S512x2048.Idx)
  idx_vars j
  exact (pay13 _ _ _ _ _).trans ((tile m c t _ _).trans (read_4 t _ _ _).symm)

theorem flushed_5 (t : Fin cfg0.N) (ht : t.val % 8 = 7) : (dats m 0 c).flushed 5 t
    = ((cfg0.win 5).blk t).view.read (Elt Ideal) (loss (aX m c) (aG m c) (aT m c)) := by
  have hl := lt t
  have hv : (outsAt0 m c t.val t.isLt).2.2.1 (ix2 0 0) = _ := sum_5 m c t.val (by omega) hl
  rw [flushed5]
  generalize (outsAt0 m c t.val t.isLt).2.2.1 = v at hv ⊢
  funext (j : S1x1.Idx)
  idx_vars j
  obtain rfl := Subsingleton.elim j0 0
  obtain rfl := Subsingleton.elim j1 0
  exact hv.trans (read_5 t _).symm

theorem flushed_6 (t : Fin cfg0.N) (ht : t.val % 8 = 7) : (dats m 0 c).flushed 6 t
    = ((cfg0.win 6).blk t).view.read (Elt Ideal) (dg (aX m c) (aG m c) (aT m c)) := by
  have hl := lt t
  have hv : ∀ f, (outsAt0 m c t.val t.isLt).2.2.2 (ix2 0 f) = _ := fun f => sum_6 m c f t.val (by omega) hl
  rw [flushed6]
  generalize (outsAt0 m c t.val t.isLt).2.2.2 = v at hv ⊢
  funext (j : S1x2048.Idx)
  idx_vars j
  obtain rfl := Subsingleton.elim j0 0
  exact (hv _).trans (read_6 t _ _).symm

theorem cover_3 (i : S4096x2048.Idx) : ∃ t : Fin cfg0.N, (cfg0.win 3).flush t = true ∧ i ∈ ((cfg0.win 3).blk t).view.set := by
  have h0 : (i 0 : Nat) < 4096 := (i 0).isLt
  have h1 : (i 1 : Nat) < 2048 := (i 1).isLt
  have hN : cfg0.N = 8 := N_0
  have ht : (i 0 : Nat) / 512 < cfg0.N := by omega
  refine ⟨⟨_, ht⟩, flush0_3 _, ?_⟩
  show i ∈ ((View.whole main_v1_0).slice (win0_3.rect ⟨_, ht⟩)).set
  rw [View.set_slice_whole, Rect.mem_set_unit]
  have h := (idx_rows ⟨_, ht⟩).2.2.1
  dsimp only at h
  intro a
  match a with
  | ⟨0, _⟩ => show win0_3.index _ 0 * 512 ≤ (i 0 : Nat) ∧ (i 0 : Nat) < win0_3.index _ 0 * 512 + 512; rw [h.1]; omega
  | ⟨1, _⟩ => show win0_3.index _ 1 * 2048 ≤ (i 1 : Nat) ∧ (i 1 : Nat) < win0_3.index _ 1 * 2048 + 2048; rw [h.2]; omega

theorem cover_4 (i : S4096x2048.Idx) : ∃ t : Fin cfg0.N, (cfg0.win 4).flush t = true ∧ i ∈ ((cfg0.win 4).blk t).view.set := by
  have h0 : (i 0 : Nat) < 4096 := (i 0).isLt
  have h1 : (i 1 : Nat) < 2048 := (i 1).isLt
  have hN : cfg0.N = 8 := N_0
  have ht : (i 0 : Nat) / 512 < cfg0.N := by omega
  refine ⟨⟨_, ht⟩, flush0_4 _, ?_⟩
  show i ∈ ((View.whole main_v1_1).slice (win0_4.rect ⟨_, ht⟩)).set
  rw [View.set_slice_whole, Rect.mem_set_unit]
  have h := (idx_rows ⟨_, ht⟩).2.2.2
  dsimp only at h
  intro a
  match a with
  | ⟨0, _⟩ => show win0_4.index _ 0 * 512 ≤ (i 0 : Nat) ∧ (i 0 : Nat) < win0_4.index _ 0 * 512 + 512; rw [h.1]; omega
  | ⟨1, _⟩ => show win0_4.index _ 1 * 2048 ≤ (i 1 : Nat) ∧ (i 1 : Nat) < win0_4.index _ 1 * 2048 + 2048; rw [h.2]; omega

theorem cover_5 (i : S1x1.Idx) : ∃ t : Fin cfg0.N, (cfg0.win 5).flush t = true ∧ i ∈ ((cfg0.win 5).blk t).view.set := by
  have h0 : (i 0 : Nat) < 1 := (i 0).isLt
  have h1 : (i 1 : Nat) < 1 := (i 1).isLt
  have ht : 7 < cfg0.N := lt_of_lt_of_eq (by omega) N_0.symm
  refine ⟨⟨7, ht⟩, (flush0_5 _).mpr rfl, ?_⟩
  show i ∈ ((View.whole main_v1_2).slice (win0_5.rect ⟨7, ht⟩)).set
  rw [View.set_slice_whole, Rect.mem_set_unit]
  have h := (idx_fixed ⟨7, ht⟩).2.1
  intro a
  match a with
  | ⟨0, _⟩ => show win0_5.index _ 0 * 1 ≤ (i 0 : Nat) ∧ (i 0 : Nat) < win0_5.index _ 0 * 1 + 1; rw [h.1]; omega
  | ⟨1, _⟩ => show win0_5.index _ 1 * 1 ≤ (i 1 : Nat) ∧ (i 1 : Nat) < win0_5.index _ 1 * 1 + 1; rw [h.2]; omega

theorem cover_6 (i : S1x2048.Idx) : ∃ t : Fin cfg0.N, (cfg0.win 6).flush t = true ∧ i ∈ ((cfg0.win 6).blk t).view.set := by
  have h0 : (i 0 : Nat) < 1 := (i 0).isLt
  have h1 : (i 1 : Nat) < 2048 := (i 1).isLt
  have ht : 7 < cfg0.N := lt_of_lt_of_eq (by omega) N_0.symm
  refine ⟨⟨7, ht⟩, (flush0_6 _).mpr rfl, ?_⟩
  show i ∈ ((View.whole main_v1_3).slice (win0_6.rect ⟨7, ht⟩)).set
  rw [View.set_slice_whole, Rect.mem_set_unit]
  have h := (idx_fixed ⟨7, ht⟩).2.2
  intro a
  match a with
  | ⟨0, _⟩ => show win0_6.index _ 0 * 1 ≤ (i 0 : Nat) ∧ (i 0 : Nat) < win0_6.index _ 0 * 1 + 1; rw [h.1]; omega
  | ⟨1, _⟩ => show win0_6.index _ 1 * 2048 ≤ (i 1 : Nat) ∧ (i 1 : Nat) < win0_6.index _ 1 * 2048 + 2048; rw [h.2]; omega

theorem arr_3 : (dats m 0 c).arrAt 3 cfg0.N = dx (aX m c) (aG m c) (aT m c) :=
  (dats m 0 c).arrAt_eq_of_cover 3 _ (fun t _ => flushed_3 m c t) cover_3
theorem arr_4 : (dats m 0 c).arrAt 4 cfg0.N = dx (aX m c) (aG m c) (aT m c) :=
  (dats m 0 c).arrAt_eq_of_cover 4 _ (fun t _ => flushed_4 m c t) cover_4
theorem arr_5 : (dats m 0 c).arrAt 5 cfg0.N = loss (aX m c) (aG m c) (aT m c) :=
  (dats m 0 c).arrAt_eq_of_cover 5 _ (fun t hf => flushed_5 m c t ((flush0_5 t).mp hf)) cover_5
theorem arr_6 : (dats m 0 c).arrAt 6 cfg0.N = dg (aX m c) (aG m c) (aT m c) :=
  (dats m 0 c).arrAt_eq_of_cover 6 _ (fun t hf => flushed_6 m c t ((flush0_6 t).mp hf)) cover_6

end Cert.Tail.Loss

end
-- ==== Proof.Tail.LossRef.lean ====
module

public import proofs.«01_k».proof.Proof.Gen.Reference13Ideal.Run
public import proofs.«01_k».proof.Proof.Tail.Loss

@[expose] public section

set_option maxRecDepth 16384

noncomputable section

/-! The loss head's reference, brought to the kernel's form. -/

namespace Cert.Tail.Loss

open Idealize.ShloMosaic Idealize.ShloMosaic.TcCoe Idealize.ShloMosaic.Tactic Idealize.SL.Sem
open Cert.Ffn Cert.Ffn.Norm
open Cert.Reference13Ideal Cert.Reference13Ideal.Gen Cert.Reference13Ideal.Value

variable (x : FVec Ideal S4096x2048 .f32) (g : FVec Ideal S2048 .f32) (t : FVec Ideal S4096x2048 .f32)

/-- The pieces of the reference: mean squares, their inverse roots, the normalized rows, the errors, their
    cotangent, the cotangent scaled, and the slopes. -/
def rMs : FVec Ideal S4096x1 .f32 :=
  addf (F := Ideal) (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))
def rRs : FVec Ideal S4096x1 .f32 := Host.rsqrt (rMs x)
def rNorm : FVec Ideal S4096x2048 .f32 :=
  mulf (F := Ideal) x (broadcastInDim S4096x2048 ![0, 1] bcast_S4096x1_S4096x2048_0_1 (rRs x))
def rErr : FVec Ideal S4096x2048 .f32 :=
  subf (F := Ideal) (mulf (rNorm x) (broadcastInDim S4096x2048 ![0, 1] bcast_S1x2048_S4096x2048_0_1 (broadcastInDim S1x2048 ![1] bcast_S2048_S1x2048_1 g))) t
def rCot : FVec Ideal S4096x2048 .f32 :=
  mulf (F := Ideal) (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32))))
    (mulf (broadcastInDim S4096x2048 ![] bcast_S_S4096x2048 (constant S_ .f32 0x40000000#32)) (rErr x g t))
def rHg : FVec Ideal S4096x2048 .f32 :=
  mulf (F := Ideal) (rCot x g t) (broadcastInDim S4096x2048 ![0, 1] bcast_S1x2048_S4096x2048_0_1 (broadcastInDim S1x2048 ![1] bcast_S2048_S1x2048_1 g))
def rSlope : FVec Ideal S4096x2048 .f32 :=
  broadcastInDim S4096x2048 ![0] bcast_S4096_S4096x2048_0 (Host.reduceAdd (F := Ideal) (Host.divf (mulf (shapeCast _ (Host.reduceAdd (mulf x (rHg x g t)) (constant S_ .f32 0x00000000#32) reducesTo_S4096x2048_S4096_d1 h_S_) shapeCasts_S4096_S4096x1) (mulf (broadcastInDim S4096x1 ![] bcast_S_S4096x1 (constant S_ .f32 0xBF000000#32)) (Host.divf (rRs x) (rMs x)))) (broadcastInDim S4096x1 ![] bcast_S_S4096x1 (constant S_ .f32 0x45000000#32))) (constant S_ .f32 0x00000000#32) reducesTo_S4096x1_S4096_d1 h_S_)

/-- The reference's arrays. -/
def rDx : FVec Ideal S4096x2048 .f32 :=
  addf (F := Ideal) (addf (mulf (rHg x g t) (broadcastInDim S4096x2048 ![0, 1] bcast_S4096x1_S4096x2048_0_1 (rRs x)))
    (mulf x (rSlope x g t))) (mulf (rSlope x g t) x)
def rLoss : FVec Ideal S1x1 .f32 :=
  shapeCast _ (mulf (F := Ideal) (constant S_ .f32 0x3F000000#32) (Host.reduceAdd (Host.divf (Host.reduceAdd (mulf (rErr x g t) (rErr x g t)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_)) shapeCasts_S_S1x1
def rDg : FVec Ideal S1x2048 .f32 :=
  shapeCast _ (Host.reduceAdd (F := Ideal) (shapeCast _ (Host.reduceAdd (mulf (rNorm x) (rCot x g t)) (constant S_ .f32 0x00000000#32) reducesTo_S4096x2048_S2048_d0 h_S_) shapeCasts_S2048_S1x2048) (constant S_ .f32 0x00000000#32) reducesTo_S1x2048_S2048_d0 h_S_) shapeCasts_S2048_S1x2048

theorem rMs_eq (i : Fin 4096) (u : Fin 1) : rMs x (ix2 i u) = msq (xRow x i) := by
  pointwise [rMs]
  rfl

theorem rRs_eq (i : Fin 4096) (u : Fin 1) : rRs x (ix2 i u) = Ideal.rsqrt (msq (xRow x i)) := by
  pointwise [rRs, rMs_eq]

theorem rNorm_eq (i : Fin 4096) (f : Fin 2048) : rNorm x (ix2 i f) = x (ix2 i f) * Ideal.rsqrt (msq (xRow x i)) := by
  pointwise [rNorm, rRs_eq]

theorem rErr_eq (i : Fin 4096) (f : Fin 2048) : rErr x g t (ix2 i f) = err (xRow x i) (xRow t i) (fun k => g (ix1 k)) f := by
  pointwise [rErr, rNorm_eq]
  rfl

theorem rCot_eq (i : Fin 4096) (f : Fin 2048) : rCot x g t (ix2 i f) = cot (xRow x i) (xRow t i) (fun k => g (ix1 k)) f := by
  pointwise [rCot, rErr_eq]
  rfl

theorem rHg_eq (i : Fin 4096) (f : Fin 2048) : rHg x g t (ix2 i f)
    = cot (xRow x i) (xRow t i) (fun k => g (ix1 k)) f * g (ix1 f) := by
  pointwise [rHg, rCot_eq]

theorem rSlope_eq (i : Fin 4096) (f : Fin 2048) : rSlope x g t (ix2 i f)
    = slope (xRow x i) (cot (xRow x i) (xRow t i) fun k => g (ix1 k)) fun k => g (ix1 k) := by
  pointwise [rSlope, rMs_eq, rRs_eq, rHg_eq]
  rw [Fin.sum_univ_one]
  rfl

theorem rDx_eq : rDx x g t = dx x g t := by
  funext j
  idx_vars j
  pointwise [rDx, rSlope_eq, rRs_eq, rHg_eq]
  rfl

theorem rCast_eq : truncf (F := Ideal) .bf16 (rDx x g t) bitsLt_bf16_f32 = dx x g t := by
  rw [rDx_eq]
  funext j
  idx_vars j
  pointwise

theorem rLoss_eq : rLoss x g t = loss x g t := by
  funext j
  idx_vars j
  pointwise [rLoss, rErr_eq]
  rfl

theorem rDg_eq : rDg x g t = dg x g t := by
  funext j
  idx_vars j
  pointwise [rDg, rNorm_eq, rCot_eq]
  rw [Fin.sum_univ_one]
  rfl

variable (m : (ℓ : Loc nD τ sig) → Buf (Elt Ideal) ℓ) (c : Dev nD) {x g t}

/-- The reference's results from arguments equal to the kernel's. -/
theorem out_dx (h0 : m ((c.tc : Thread nD τ).loc main_arg0) = x) (h1 : m ((c.tc : Thread nD τ).loc main_arg1) = g)
    (h2 : m ((c.tc : Thread nD τ).loc main_arg2) = t) : res_main_v50 m c = dx x g t := by
  refine Eq.trans (?_ : _ = rDx (m ((c.tc : Thread nD τ).loc main_arg0)) (m ((c.tc : Thread nD τ).loc main_arg1))
      (m ((c.tc : Thread nD τ).loc main_arg2))) ?_
  · unfold res_main_v50
    rfl
  · rw [h0, h1, h2]
    exact rDx_eq x g t

theorem out_cast (h0 : m ((c.tc : Thread nD τ).loc main_arg0) = x) (h1 : m ((c.tc : Thread nD τ).loc main_arg1) = g)
    (h2 : m ((c.tc : Thread nD τ).loc main_arg2) = t) : res_main_v51 m c = dx x g t := by
  refine Eq.trans (?_ : _ = truncf (F := Ideal) .bf16 (rDx (m ((c.tc : Thread nD τ).loc main_arg0)) (m ((c.tc : Thread nD τ).loc main_arg1))
      (m ((c.tc : Thread nD τ).loc main_arg2))) bitsLt_bf16_f32) ?_
  · unfold res_main_v51
    rfl
  · rw [h0, h1, h2]
    exact rCast_eq x g t

theorem out_loss (h0 : m ((c.tc : Thread nD τ).loc main_arg0) = x) (h1 : m ((c.tc : Thread nD τ).loc main_arg1) = g)
    (h2 : m ((c.tc : Thread nD τ).loc main_arg2) = t) : rLoss (m ((c.tc : Thread nD τ).loc main_arg0))
      (m ((c.tc : Thread nD τ).loc main_arg1)) (m ((c.tc : Thread nD τ).loc main_arg2)) = loss x g t := by
  rw [h0, h1, h2]
  exact rLoss_eq x g t

theorem out_dg (h0 : m ((c.tc : Thread nD τ).loc main_arg0) = x) (h1 : m ((c.tc : Thread nD τ).loc main_arg1) = g)
    (h2 : m ((c.tc : Thread nD τ).loc main_arg2) = t) : rDg (m ((c.tc : Thread nD τ).loc main_arg0))
      (m ((c.tc : Thread nD τ).loc main_arg1)) (m ((c.tc : Thread nD τ).loc main_arg2)) = dg x g t := by
  rw [h0, h1, h2]
  exact rDg_eq x g t

end Cert.Tail.Loss

end
-- ==== Proof.Tail.Tile.lean ====
module

public import proofs.«01_k».proof.Proof.Ffn.Pay
public import proofs.«01_k».proof.Proof.Mat.Base

@[expose] public section

noncomputable section

/-! Arrays stored a tile of whole rows to a point: `T` rows to a tile, the point `t` holding the rows from `t * T`. -/

namespace Cert.Tail.Tile

open Idealize.ShloMosaic
open Cert.Ffn

/-! Arrays of two axes. -/

/-- An entry of a tile, wherever its window's index has been found. -/
theorem row2 {R C T : ℕ} {α : Type} (A : (⟨2, ![R, C]⟩ : Shape).Idx → α) (p : (⟨2, ![R, C]⟩ : Shape).Idx) (g : Fin 2 → ℕ) (t i : ℕ) (f : Fin C)
    (h : t * T + i < R) (hg : g = ![t, 0]) (h0 : (p 0).val = g 0 * T + 1 * i) (h1 : (p 1).val = g 1 * C + 1 * f.val) :
    A p = A (ix2 ⟨t * T + i, h⟩ f) := by
  subst hg
  exact at2 A _ _ _ (h0.trans (congrArg (t * T + ·) (Nat.one_mul i))) (h1.trans (by show 0 * C + 1 * f.val = f.val; omega))

/-- The tile that holds an entry. -/
theorem held2 {R C : ℕ} (T : ℕ) (hT : 0 < T) (i : (⟨2, ![R, C]⟩ : Shape).Idx) (g : Fin 2 → ℕ) (hg : g = ![(i 0).val / T, 0]) :
    ∀ a, g a * (![T, C] : Fin 2 → ℕ) a ≤ (i a).val ∧ (i a).val < g a * (![T, C] : Fin 2 → ℕ) a + (![T, C] : Fin 2 → ℕ) a := by
  subst hg
  have h1 : (i 1).val < C := (i 1).isLt
  exact fun a => match a with
    | ⟨0, _⟩ => Cert.Mat.in_block (i 0).val _ T hT rfl
    | ⟨1, _⟩ => (by omega : 0 * C ≤ (i 1).val ∧ (i 1).val < 0 * C + C)

/-! Arrays of three axes, the first of length one or a device's. -/

/-- An entry of a tile, wherever its window's index has been found. -/
theorem row {n R C T : ℕ} {α : Type} (A : (⟨3, ![n, R, C]⟩ : Shape).Idx → α) (p : (⟨3, ![n, R, C]⟩ : Shape).Idx) (g : Fin 3 → ℕ) (d : Fin n)
    (t i : ℕ) (f : Fin C) (h : t * T + i < R) (hg : g = ![d.val, t, 0])
    (h0 : (p 0).val = g 0 * 1 + 1 * 0) (h1 : (p 1).val = g 1 * T + 1 * i) (h2 : (p 2).val = g 2 * C + 1 * f.val) :
    A p = A (ix3 d ⟨t * T + i, h⟩ f) := by
  subst hg
  refine at3 A _ _ _ _ (h0.trans ?_) (h1.trans (congrArg (t * T + ·) (Nat.one_mul i))) (h2.trans ?_)
  · show d.val * 1 + 1 * 0 = d.val; omega
  · show 0 * C + 1 * f.val = f.val; omega

/-- The tile that holds an entry. -/
theorem held {R C : ℕ} (T : ℕ) (hT : 0 < T) (i : (⟨3, ![1, R, C]⟩ : Shape).Idx) (g : Fin 3 → ℕ) (hg : g = ![0, (i 1).val / T, 0]) :
    ∀ a, g a * (![1, T, C] : Fin 3 → ℕ) a ≤ (i a).val ∧ (i a).val < g a * (![1, T, C] : Fin 3 → ℕ) a + (![1, T, C] : Fin 3 → ℕ) a := by
  subst hg
  have h0 : (i 0).val < 1 := (i 0).isLt
  have h2 : (i 2).val < C := (i 2).isLt
  exact fun a => match a with
    | ⟨0, _⟩ => (by omega : 0 * 1 ≤ (i 0).val ∧ (i 0).val < 0 * 1 + 1)
    | ⟨1, _⟩ => Cert.Mat.in_block (i 1).val _ T hT rfl
    | ⟨2, _⟩ => (by omega : 0 * C ≤ (i 2).val ∧ (i 2).val < 0 * C + C)

/-- An index whose first axis has length one, by its row and column. -/
theorem split {R C : ℕ} (j : (⟨3, ![1, R, C]⟩ : Shape).Idx) : ∃ (i : Fin R) (f : Fin C), j = ix3 0 i f :=
  ⟨j 1, j 2, funext fun a => match a with
    | ⟨0, _⟩ => Fin.ext (by have h : (j 0).val < 1 := (j 0).isLt; show (j 0).val = 0; omega)
    | ⟨1, _⟩ => rfl
    | ⟨2, _⟩ => rfl⟩

/-- A tile's entry is the array's, wherever its window's index has been found, once each entry is by its row and column. -/
theorem stored {R C T : ℕ} {α : Type} (A : (⟨3, ![1, R, C]⟩ : Shape).Idx → α) (B : (⟨3, ![1, T, C]⟩ : Shape).Idx → α)
    (j : (⟨3, ![1, T, C]⟩ : Shape).Idx) (p : (⟨3, ![1, R, C]⟩ : Shape).Idx) (g : Fin 3 → ℕ) (t : ℕ) (h : ∀ i : Fin T, t * T + i.val < R)
    (hg : g = ![0, t, 0]) (hp : ∀ a, (p a).val = g a * (![1, T, C] : Fin 3 → ℕ) a + 1 * (j a).val)
    (hB : ∀ i f, B (ix3 0 i f) = A (ix3 0 ⟨t * T + i.val, h i⟩ f)) : B j = A p := by
  obtain ⟨i, f, rfl⟩ := split j
  exact (hB i f).trans (row A p g 0 t i.val f (h i) hg (hp 0) (hp 1) (hp 2)).symm

/-! Arrays that one point holds whole. -/

/-- A block at the origin, as large as the array, is the array. -/
theorem whole {s : Shape} {α : Type} (A : s.Idx → α) (j p : s.Idx) (g : Fin s.rank → ℕ) (hg : ∀ a, g a = 0)
    (hp : ∀ a, (p a).val = g a * s.size a + 1 * (j a).val) : A p = A j :=
  congrArg A (funext fun a => Fin.ext ((hp a).trans (by rw [hg a]; omega)))

/-- It holds every entry. -/
theorem held_whole {s : Shape} (i : s.Idx) (g : Fin s.rank → ℕ) (hg : ∀ a, g a = 0) (a : Fin s.rank) :
    g a * s.size a ≤ (i a).val ∧ (i a).val < g a * s.size a + s.size a := by
  have h : (i a).val < s.size a := (i a).isLt
  rw [hg a]
  omega

end Cert.Tail.Tile

end
-- ==== Proof.Tail.Sum.lean ====
module

public import proofs.«01_k».proof.Proof.Tail.Tile
public import proofs.«01_k».proof.Proof.Gen.Kernel15Ideal.Value
public import proofs.«01_k».proof.Proof.Gen.Kernel16Ideal.Value

@[expose] public section

set_option maxRecDepth 16384

noncomputable section

/-! The sums of the gathered contributions over the eight devices. -/

namespace Cert.Tail.Sum

open Idealize.ShloMosaic Idealize.ShloMosaic.TcCoe Idealize.ShloMosaic.Tactic Idealize.SL.Sem
open Cert.Ffn Cert.Tail.Tile

/-- The eight contributions, added. -/
def total {n k : ℕ} (a : (⟨3, ![8, n, k]⟩ : Shape).Idx → EReal) : (⟨2, ![n, k]⟩ : Shape).Idx → EReal := fun j =>
  ∑ d : Fin 8, a (ix3 d (j 0) (j 1))

/-- Eight entries added one after another are the total, once each is its device's. -/
theorem total_of {n k : ℕ} (a : (⟨3, ![8, n, k]⟩ : Shape).Idx → EReal) (x : Fin 8 → EReal) (r : Fin n) (f : Fin k) (h : ∀ d, x d = a (ix3 d r f)) :
    x 0 + x 1 + x 2 + x 3 + x 4 + x 5 + x 6 + x 7 = total a (ix2 r f) :=
  (Fin.sum_univ_eight x).symm.trans (Finset.sum_congr rfl fun d _ => h d)

/-! The weights packed together, a tile of 256 rows to a point. -/

namespace Small

open Cert.Kernel15Ideal Cert.Kernel15Ideal.Gen Cert.Kernel15Ideal.Value

/-- The windows of the eight devices, and the one out. -/
theorem idx : ∀ t : Fin cfg0.N, (∀ d : Fin 8, (![win0_0.index t, win0_1.index t, win0_2.index t, win0_3.index t, win0_4.index t, win0_5.index t,
    win0_6.index t, win0_7.index t] : Fin 8 → Fin 3 → ℕ) d = ![d.val, t.val, 0]) ∧ win0_8.index t = ![t.val, 0] :=
  (by decide +kernel : ∀ t : Fin grid0.N, (∀ d : Fin 8, (![win0_0.index t, win0_1.index t, win0_2.index t, win0_3.index t, win0_4.index t, win0_5.index t,
    win0_6.index t, win0_7.index t] : Fin 8 → Fin 3 → ℕ) d = ![d.val, t.val, 0]) ∧ win0_8.index t = ![t.val, 0])

theorem lt (t : Fin cfg0.N) (i : Fin 256) : t.val * 256 + i.val < 2048 := by
  have h : t.val < 8 := lt_of_lt_of_eq t.isLt N_0
  omega

variable (m : (ℓ : Loc nD τ sig) → Buf (Elt Ideal) ℓ) (c : Dev nD)

abbrev aS : Vec Ideal S8x2048x128 .f32 := m ((c.tc : Thread nD τ).loc main_arg0)

/-- The entries that a point adds up. -/
abbrev parts (t : Fin cfg0.N) (i : Fin 256) (f : Fin 128) : Fin 8 → EReal :=
  ![(iblk m c 0 t : Vec Ideal S1x256x128 .f32) (ix8_0 (ix2 i f)), (iblk m c 1 t : Vec Ideal S1x256x128 .f32) (ix8_1 (ix2 i f)),
    (iblk m c 2 t : Vec Ideal S1x256x128 .f32) (ix8_2 (ix2 i f)), (iblk m c 3 t : Vec Ideal S1x256x128 .f32) (ix8_3 (ix2 i f)),
    (iblk m c 4 t : Vec Ideal S1x256x128 .f32) (ix8_4 (ix2 i f)), (iblk m c 5 t : Vec Ideal S1x256x128 .f32) (ix8_5 (ix2 i f)),
    (iblk m c 6 t : Vec Ideal S1x256x128 .f32) (ix8_6 (ix2 i f)), (iblk m c 7 t : Vec Ideal S1x256x128 .f32) (ix8_7 (ix2 i f))]

theorem parts_eq (t : Fin cfg0.N) (i : Fin 256) (f : Fin 128) (d : Fin 8) : parts m c t i f d = aS m c (ix3 d ⟨t.val * 256 + i.val, lt t i⟩ f) := by
  have h := (idx t).1
  fin_cases d <;> exact (congrFun (V_main_arg0 m c) _).trans (row (aS m c) _ _ _ t.val i.val f (lt t i) (h _) rfl rfl rfl)

theorem flushed_8 (t : Fin cfg0.N) : (dats m 0 c).flushed 8 t = ((cfg0.win 8).blk t).view.read (Elt Ideal) (total (aS m c)) := by
  rw [flushed8]
  funext j
  obtain ⟨i, f, rfl⟩ : ∃ (i : Fin 256) (f : Fin 128), j = ix2 i f := ⟨j 0, j 1, by funext a; fin_cases a <;> rfl⟩
  refine Eq.trans ?_ ((total_of (aS m c) (parts m c t i f) ⟨t.val * 256 + i.val, lt t i⟩ f (parts_eq m c t i f)).trans
    (row2 (total (aS m c)) _ _ t.val i.val f (lt t i) (idx t).2 rfl rfl).symm)
  show out0_8 (F := Ideal) _ _ _ _ _ _ _ _ (ix2 i f) = _
  unfold out0_8
  rw [canon8_eq]
  simp only [show ∀ v : Vec Ideal S1x256x128 .f32, View.ld v r0_0 = v from fun v => View.ld_unit_zero (by funext a; fin_cases a <;> rfl) _ v]
  rfl

theorem cover_8 (i : S2048x128.Idx) : ∃ t : Fin cfg0.N, (cfg0.win 8).flush t = true ∧ i ∈ ((cfg0.win 8).blk t).view.set := by
  have h : (i 0).val < 2048 := (i 0).isLt
  let t : Fin cfg0.N := ⟨(i 0).val / 256, lt_of_lt_of_eq (by omega) N_0.symm⟩
  exact ⟨t, flush0_8 t, (congrArg (i ∈ ·) (View.set_slice_whole main_v0 (win0_8.rect t))).mpr
    (Rect.mem_set_unit.mpr (held2 256 (by decide) i _ (idx t).2))⟩

theorem arr : (dats m 0 c).arrAt 8 cfg0.N = total (aS m c) :=
  (dats m 0 c).arrAt_eq_of_cover 8 _ (fun t _ => flushed_8 m c t) cover_8

end Small

/-! The first gain, its sixteen rows in one point. -/

namespace Late

open Cert.Kernel16Ideal Cert.Kernel16Ideal.Gen Cert.Kernel16Ideal.Value

/-- The index that each device's window has at a point. -/
abbrev places (t : Fin cfg0.N) : Fin 8 → Fin 3 → ℕ :=
  ![win0_0.index t, win0_1.index t, win0_2.index t, win0_3.index t, win0_4.index t, win0_5.index t, win0_6.index t, win0_7.index t]

theorem idx : ∀ t : Fin cfg0.N, t.val = 0 ∧ (∀ d : Fin 8, places t d = ![d.val, 0, 0]) ∧ win0_8.index t = ![0, 0] :=
  (by decide +kernel : ∀ t : Fin grid0.N, t.val = 0 ∧ (∀ d : Fin 8, places t d = ![d.val, 0, 0]) ∧ win0_8.index t = ![0, 0])

variable (m : (ℓ : Loc nD τ sig) → Buf (Elt Ideal) ℓ) (c : Dev nD)

abbrev aS : Vec Ideal S8x16x128 .f32 := m ((c.tc : Thread nD τ).loc main_arg0)

theorem flushed_8 (t : Fin cfg0.N) : (dats m 0 c).flushed 8 t = ((cfg0.win 8).blk t).view.read (Elt Ideal) (total (aS m c)) := by
  rw [flushed8]
  funext j
  obtain ⟨i, f, rfl⟩ : ∃ (i : Fin 16) (f : Fin 128), j = ix2 i f := ⟨j 0, j 1, by funext a; fin_cases a <;> rfl⟩
  have lt : 0 * 16 + i.val < 16 := by omega
  have part (p : S8x16x128.Idx) (d : Fin 8) := row (T := 16) (aS m c) p _ d 0 i.val f lt ((idx t).2.1 d)
  refine Eq.trans ?_ (row2 (T := 16) (total (aS m c)) _ _ 0 i.val f lt (idx t).2.2 rfl rfl).symm
  show out0_8 (F := Ideal) _ _ _ _ _ _ _ _ (ix2 i f) = _
  unfold out0_8
  rw [canon8_eq]
  simp only [show ∀ v : Vec Ideal S1x16x128 .f32, View.ld v r0_0 = v from fun v => View.ld_unit_zero (by funext a; fin_cases a <;> rfl) _ v]
  refine total_of (aS m c) ![(iblk m c 0 t : Vec Ideal S1x16x128 .f32) (ix8_0 (ix2 i f)), (iblk m c 1 t : Vec Ideal S1x16x128 .f32) (ix8_1 (ix2 i f)),
    (iblk m c 2 t : Vec Ideal S1x16x128 .f32) (ix8_2 (ix2 i f)), (iblk m c 3 t : Vec Ideal S1x16x128 .f32) (ix8_3 (ix2 i f)),
    (iblk m c 4 t : Vec Ideal S1x16x128 .f32) (ix8_4 (ix2 i f)), (iblk m c 5 t : Vec Ideal S1x16x128 .f32) (ix8_5 (ix2 i f)),
    (iblk m c 6 t : Vec Ideal S1x16x128 .f32) (ix8_6 (ix2 i f)), (iblk m c 7 t : Vec Ideal S1x16x128 .f32) (ix8_7 (ix2 i f))] _ _ fun d => ?_
  fin_cases d <;> exact (congrFun (V_main_arg0 m c) _).trans (part _ _ rfl rfl rfl)

theorem cover_8 (i : S16x128.Idx) : ∃ t : Fin cfg0.N, (cfg0.win 8).flush t = true ∧ i ∈ ((cfg0.win 8).blk t).view.set := by
  have h : (i 0).val < 16 := (i 0).isLt
  let t : Fin cfg0.N := ⟨0, lt_of_lt_of_eq (by decide) N_0.symm⟩
  exact ⟨t, flush0_8 t, (congrArg (i ∈ ·) (View.set_slice_whole main_v0 (win0_8.rect t))).mpr
    (Rect.mem_set_unit.mpr (held2 16 (by decide) i _ ((idx t).2.2.trans (by rw [Nat.div_eq_of_lt h]))))⟩

theorem arr : (dats m 0 c).arrAt 8 cfg0.N = total (aS m c) :=
  (dats m 0 c).arrAt_eq_of_cover 8 _ (fun t _ => flushed_8 m c t) cover_8

end Late

end Cert.Tail.Sum

end
-- ==== Proof.Tail.Claims.lean ====
module

public import proofs.«01_k».proof.Defs
public import proofs.«01_k».proof.Proof.Tail.LossRef
public import proofs.«01_k».proof.Proof.Tail.Sum
public import proofs.«01_k».proof.Proof.Gen.Kernel14Ideal.Value
public import proofs.«01_k».proof.Proof.Gen.Reference14Ideal.Run
public import proofs.«01_k».proof.Proof.Gen.Reference15Ideal.Run
public import proofs.«01_k».proof.Proof.Gen.Reference16Ideal.Run
public import Idealize.ShloMosaic.Lib.Quiescent

@[expose] public section

noncomputable section

/-! The claims about the loss head, the sums over the devices and the step of the packed weights, each from the kernel's run and the reference's. -/

namespace Cert.Tail

open Idealize.ShloMosaic Idealize.ShloMosaic.TcCoe Idealize.ShloMosaic.Tactic Idealize.SL.Sem

/-! Each reference runs, leaves its arguments alone and declares no semaphore. -/

theorem reference13_frame : Cert.quiescent_Reference13Ideal := fun m g _ =>
  (θ_run Cert.Reference13Ideal.defs _ _).mono
    (fun r h => ⟨fun c => (h c).2.2.2.2, sem_eq_zero_of_no_sems (by decide) r.2⟩)
    (Cert.Reference13Ideal.Value.run (F := Ideal) m g)

theorem reference14_frame : Cert.quiescent_Reference14Ideal := fun m g _ =>
  (θ_run Cert.Reference14Ideal.defs _ _).mono
    (fun r h => ⟨fun c => (h c).2.2.2, sem_eq_zero_of_no_sems (by decide) r.2⟩)
    (Cert.Reference14Ideal.Value.run (F := Ideal) m g)

theorem reference15_frame : Cert.quiescent_Reference15Ideal := fun m g _ =>
  (θ_run Cert.Reference15Ideal.defs _ _).mono
    (fun r h => ⟨fun c => (h c).2, sem_eq_zero_of_no_sems (by decide) r.2⟩)
    (Cert.Reference15Ideal.Value.run (F := Ideal) m g)

theorem reference16_frame : Cert.quiescent_Reference16Ideal := fun m g _ =>
  (θ_run Cert.Reference16Ideal.defs _ _).mono
    (fun r h => ⟨fun c => (h c).2, sem_eq_zero_of_no_sems (by decide) r.2⟩)
    (Cert.Reference16Ideal.Value.run (F := Ideal) m g)

/-- The loss head leaves the rows' cotangent, the loss and the gains' gradient, as the reference does. -/
theorem same13 : Cert.algebraic_Kernel13Ideal_Reference13Ideal := by
  intro m g m' g' _ hargs
  refine ⟨fun c => Loss.dx (Loss.aX m c) (Loss.aG m c) (Loss.aT m c), fun c => Loss.dx (Loss.aX m c) (Loss.aG m c) (Loss.aT m c),
    fun c => Loss.loss (Loss.aX m c) (Loss.aG m c) (Loss.aT m c), fun c => Loss.dg (Loss.aX m c) (Loss.aG m c) (Loss.aT m c), ?_, ?_⟩
  · exact (θ_run Cert.Kernel13Ideal.defs _ _).mono
      (fun r h c => ⟨(h c).1.trans (Loss.arr_3 m c), (h c).2.1.trans (Loss.arr_4 m c),
        (h c).2.2.1.trans (Loss.arr_5 m c), (h c).2.2.2.1.trans (Loss.arr_6 m c), (h c).2.2.2.2⟩)
      (Cert.Kernel13Ideal.Value.run_blocks (F := Ideal) m g)
  · exact (θ_run Cert.Reference13Ideal.defs _ _).mono
      (fun r h c => ⟨(h c).1.trans (Loss.out_dx m' c (hargs c).1 (hargs c).2.1 (hargs c).2.2),
        (h c).2.1.trans (Loss.out_cast m' c (hargs c).1 (hargs c).2.1 (hargs c).2.2),
        (h c).2.2.1.trans (Loss.out_loss m' c (hargs c).1 (hargs c).2.1 (hargs c).2.2),
        (h c).2.2.2.1.trans (Loss.out_dg m' c (hargs c).1 (hargs c).2.1 (hargs c).2.2), (h c).2.2.2.2⟩)
      (Cert.Reference13Ideal.Value.run (F := Ideal) m' g')

/-- The optimizer's step of the packed weights is the reference's, entry by entry. -/
theorem same14 : Cert.algebraic_Kernel14Ideal_Reference14Ideal := by
  intro m g m' g' _ hargs
  refine ⟨_, _, _, Cert.Kernel14Ideal.Value.run (F := Ideal) m g, ?_⟩
  refine (θ_run Cert.Reference14Ideal.defs _ _).mono (fun r h c => ⟨(h c).1.trans ?_, (h c).2.1.trans ?_, (h c).2.2.1.trans ?_, (h c).2.2.2⟩)
    (Cert.Reference14Ideal.Value.run (F := Ideal) m' g')
  · rw [(hargs c).1, (hargs c).2.1, (hargs c).2.2.1, (hargs c).2.2.2]
    funext j
    idx_vars j
    pointwise
  · rw [(hargs c).2.1, (hargs c).2.2.1]
    funext j
    idx_vars j
    pointwise
  · rw [(hargs c).2.1, (hargs c).2.2.2]
    funext j
    idx_vars j
    pointwise

/-- The packed contributions are added over the devices, as in the reference. -/
theorem same15 : Cert.algebraic_Kernel15Ideal_Reference15Ideal := by
  intro m g m' g' _ hargs
  refine ⟨fun c => Sum.total (Sum.Small.aS m c), ?_, ?_⟩
  · exact (θ_run Cert.Kernel15Ideal.defs _ _).mono (fun r h c => ⟨(h c).1.trans (Sum.Small.arr m c), (h c).2⟩)
      (Cert.Kernel15Ideal.Value.run_blocks (F := Ideal) m g)
  · refine (θ_run Cert.Reference15Ideal.defs _ _).mono (fun r h c => ⟨(h c).1.trans ?_, (h c).2⟩) (Cert.Reference15Ideal.Value.run (F := Ideal) m' g')
    rw [hargs c]
    funext j
    idx_vars j
    pointwise [Sum.total]

/-- So are the first gain's. -/
theorem same16 : Cert.algebraic_Kernel16Ideal_Reference16Ideal := by
  intro m g m' g' _ hargs
  refine ⟨fun c => Sum.total (Sum.Late.aS m c), ?_, ?_⟩
  · exact (θ_run Cert.Kernel16Ideal.defs _ _).mono (fun r h c => ⟨(h c).1.trans (Sum.Late.arr m c), (h c).2⟩)
      (Cert.Kernel16Ideal.Value.run_blocks (F := Ideal) m g)
  · refine (θ_run Cert.Reference16Ideal.defs _ _).mono (fun r h c => ⟨(h c).1.trans ?_, (h c).2⟩) (Cert.Reference16Ideal.Value.run (F := Ideal) m' g')
    rw [hargs c]
    funext j
    idx_vars j
    pointwise [Sum.total]

end Cert.Tail

end
-- ==== Proof.Tail.Adam.lean ====
module

public import proofs.«01_k».proof.Proof.Tail.Tile

@[expose] public section

noncomputable section

/-! The optimizer's step of a large weight from the four parts of its gradient, entry by entry. -/

namespace Cert.Tail.Adam

open Idealize.ShloMosaic
open Cert.Ffn

/-- The first moment's new value. -/
def first (m g : EReal) : EReal :=
  (Scalar.ofBits (F := Ideal) .f32 0x3F666666#32 : EReal) * m + (Scalar.ofBits (F := Ideal) .f32 0x3DCCCCCD#32 : EReal) * g

/-- The second moment's new value. -/
def second (v g : EReal) : EReal :=
  (Scalar.ofBits (F := Ideal) .f32 0x3F7FBE77#32 : EReal) * v + (Scalar.ofBits (F := Ideal) .f32 0x3A83126F#32 : EReal) * (g * g)

/-- What is added to the weight. -/
def delta (w m v g : EReal) : EReal :=
  (Scalar.ofBits (F := Ideal) .f32 0xBA83126F#32 : EReal)
    * (Ideal.div (Ideal.div (first m g) (Scalar.ofBits (F := Ideal) .f32 0x3F26BD02#32 : EReal))
        (Ideal.sqrt (Ideal.div (second v g) (Scalar.ofBits (F := Ideal) .f32 0x3C231ACC#32 : EReal)) + (Scalar.ofBits (F := Ideal) .f32 0x322BCC77#32 : EReal))
      + (Scalar.ofBits (F := Ideal) .f32 0x3C23D70A#32 : EReal) * w)

section
variable {n k : ℕ} (p : (⟨3, ![4, n, k]⟩ : Shape).Idx → EReal) (q : (⟨3, ![3, n, k]⟩ : Shape).Idx → EReal)
  (w m v : (⟨3, ![1, n, k]⟩ : Shape).Idx → EReal)

/-- The gradient: the device's own part and the three that came in. -/
def grad : (⟨3, ![1, n, k]⟩ : Shape).Idx → EReal := fun j =>
  p (ix3 0 (j 1) (j 2)) + q (ix3 0 (j 1) (j 2)) + q (ix3 1 (j 1) (j 2)) + q (ix3 2 (j 1) (j 2))

def firsts : (⟨3, ![1, n, k]⟩ : Shape).Idx → EReal := fun j => first (m j) (grad p q j)
def seconds : (⟨3, ![1, n, k]⟩ : Shape).Idx → EReal := fun j => second (v j) (grad p q j)
def deltas : (⟨3, ![1, n, k]⟩ : Shape).Idx → EReal := fun j => delta (w j) (m j) (v j) (grad p q j)

end

/-- The tile's number, as the kernel's words come to it from a table of zeros. -/
theorem word (k : BitVec 32) (n : ℕ) (h : n < 2 ^ 32) : (Scalar.addi (Scalar.muli 0#32 k) (BitVec.ofNat 32 n)).toNat = n := by
  show (0#32 * k + BitVec.ofNat 32 n).toNat = n
  rw [BitVec.zero_mul, BitVec.zero_add, BitVec.toNat_ofNat]
  omega

end Cert.Tail.Adam

end
-- ==== Proof.Tail.Step17.lean ====
module

public import proofs.«01_k».proof.Defs
public import proofs.«01_k».proof.Proof.Tail.Adam
public import proofs.«01_k».proof.Proof.Gen.Kernel17.Frame
public import proofs.«01_k».proof.Proof.Gen.Kernel17Ideal.Frame
public import proofs.«01_k».proof.Proof.Gen.Reference17Ideal.Run
public import Idealize.ShloMosaic.Lib.Quiescent

@[expose] public section

set_option maxRecDepth 16384

noncomputable section

/-! The optimizer's step of the output projection's first weight: the arrays that its eight points leave. -/

namespace Cert.Tail.Step17

open Idealize.ShloMosaic Idealize.ShloMosaic.TcCoe Idealize.ShloMosaic.Tactic Idealize.SL.Sem
open Cert.Ffn Cert.Tail.Tile Cert.Tail.Adam
open Cert.Kernel17Ideal Cert.Kernel17Ideal.Gen

section
variable {F : FTy → Type} [FloatOps F] (m : (ℓ : Loc nD τ sig) → Buf (Elt F) ℓ)

/-- The one entry of a table. -/
abbrev half : (⟨S1, .i32⟩ : BufTy).Contents (Elt F) := broadcastInDim S1 ![] bcast_S_S1 (constantI S_ 32 0#32 : (⟨S_, .i32⟩ : BufTy).Contents (Elt F))

theorem table : (tbl m 0 : Vec F S2 .i32) = fun _ => 0#32 := by
  have h : V m (0 : Dev nD) main_v3 = concatenate S2 0 [⟨S1, half (F := F)⟩, ⟨S1, half (F := F)⟩] concatenates_S1_S1_S2_d0 := by
    show StableHlo.after hostOps0 (fun b => m (0, b)) (Proc.devRef .tc main_v3) = _
    after_reads_simp
    rfl
  refine h.trans ?_
  funext j
  idx_vars j
  pointwise
  split_ifs <;> rfl

theorem own (i : grid0.Coords) : cc0_transform_0 inb_S2_S1_1 numel1_S1 (tbl m) i = ![(i 0).val, 0] := by
  have hi : (i 0).val < 8 := (i 0).isLt
  have h : (tbl m).at 0 (Rect.unit (s := S2) ![1] S1.size inb_S2_S1_1) numel1_S1 = 0#32 := congrFun (table m) _
  unfold cc0_transform_0
  dsimp only
  rw [h]
  rw [word 8#32 (i 0).val (by omega)]
  rfl

/-- The device's own part is found within its array. -/
theorem ok : Ok m := by
  intro i
  have key : ∀ g : Fin 2 → ℕ, g = ![(i 0).val, 0] → ∃ h : (∀ a, (g a + 1) * S256x512.size a ≤ S8192x512.size a),
      EltTy.bits .bf16 = 32 ∨ (Rect.block (s := S8192x512) S256x512.size g h).WholeWords (EltTy.packing .bf16) := by
    rintro _ rfl
    have hi : (i 0).val < 8 := (i 0).isLt
    refine ⟨fun a => match a with
      | ⟨0, _⟩ => (by omega : ((i 0).val + 1) * 256 ≤ 8192)
      | ⟨1, _⟩ => (by omega : (0 + 1) * 512 ≤ 512), .inr (Affine.block_words_dvd (of_decide_eq_true rfl) (by decide))⟩
  exact key _ (own m i)

end

/-- The same of the kernel at its own words. -/
theorem ok_words (m : (ℓ : Loc Cert.Kernel17.nD Cert.Kernel17.τ Cert.Kernel17.sig) → Buf (Elt Bits) ℓ) : Cert.Kernel17.Gen.Ok m :=
  ok (F := Bits) m

/-- Where the other windows are at a point: the three parts that came in, and the one row of the rest. -/
theorem idx : ∀ t : Fin grid0.N, (grid0.coords t 0).val = t.val
    ∧ (∀ d : Fin 3, (![cc0_transform_1 (grid0.coords t), cc0_transform_2 (grid0.coords t), cc0_transform_3 (grid0.coords t)] : Fin 3 → Fin 3 → ℕ) d
      = ![d.val, t.val, 0])
    ∧ ∀ w : Fin 7, (![cc0_transform_4 (grid0.coords t), cc0_transform_5 (grid0.coords t), cc0_transform_6 (grid0.coords t),
      cc0_transform_7 (grid0.coords t), cc0_transform_8 (grid0.coords t), cc0_transform_9 (grid0.coords t), cc0_transform_10 (grid0.coords t)] :
        Fin 7 → Fin 3 → ℕ) w = ![0, t.val, 0] := by decide +kernel

variable (m : (ℓ : Loc nD τ sig) → Buf (Elt Ideal) ℓ) (c : Dev nD)

theorem lt (t : Fin (cfgM m (ok m)).N) (i : Fin 256) : t.val * 256 + i.val < 2048 := by
  have h : t.val < 8 := lt_of_lt_of_eq t.isLt N_0
  omega

/-- The arguments: the device's own part, the three that came in, the weight and its moments. -/
abbrev aP : Vec Ideal S4x2048x512 .bf16 := m ((c.tc : Thread nD τ).loc main_arg0)
abbrev aQ : Vec Ideal S3x2048x512 .bf16 := m ((c.tc : Thread nD τ).loc main_arg1)
abbrev aW : Vec Ideal S1x2048x512 .f32 := m ((c.tc : Thread nD τ).loc main_arg2)
abbrev aM : Vec Ideal S1x2048x512 .f32 := m ((c.tc : Thread nD τ).loc main_arg3)
abbrev aV : Vec Ideal S1x2048x512 .f32 := m ((c.tc : Thread nD τ).loc main_arg4)

theorem V_v4 (r : Fin 2048) (f : Fin 512) : (V m c main_v4 : Vec Ideal S8192x512 .bf16) (ix2 ⟨r.val, by omega⟩ f) = aP m c (ix3 0 r f) := by
  have h : V m c main_v4 = shapeCast S8192x512 (aP m c) shapeCasts_S4x2048x512_S8192x512 := by
    show StableHlo.after hostOps0 (fun b => m (c, b)) (Proc.devRef .tc main_v4) = _
    after_reads_simp
    rfl
  rw [h]
  pointwise
  exact at3 (aP m c) _ _ _ _ (by show r.val / 2048 = 0; omega) (by show r.val % 2048 = r.val; omega) rfl

theorem blk_0 (t : Fin (cfgM m (ok m)).N) (i : Fin 256) (f : Fin 512) : (iblk m (ok m) c 0 t : Vec Ideal S256x512 .bf16) (ix2 i f)
    = aP m c (ix3 0 ⟨t.val * 256 + i.val, lt m t i⟩ f) := by
  have h := own m (grid0.coords t)
  rw [(idx t).1] at h
  refine (at2 (V m c main_v4 : Vec Ideal S8192x512 .bf16) _ _ _ ?_ ?_).trans (V_v4 m c ⟨t.val * 256 + i.val, lt m t i⟩ f)
  · show cc0_transform_0 inb_S2_S1_1 numel1_S1 (tbl m) (grid0.coords t) 0 * 256 + 1 * i.val = t.val * 256 + i.val
    rw [h]; show t.val * 256 + 1 * i.val = _; omega
  · show cc0_transform_0 inb_S2_S1_1 numel1_S1 (tbl m) (grid0.coords t) 1 * 512 + 1 * f.val = f.val
    rw [h]; show 0 * 512 + 1 * f.val = _; omega

/-- An entry of a block, wherever its window's index has been found. -/
abbrev row' {n : ℕ} (t : Fin (cfgM m (ok m)).N) (i : Fin 256) (f : Fin 512) (A : (⟨3, ![n, 2048, 512]⟩ : Shape).Idx → EReal) (p : (⟨3, ![n, 2048, 512]⟩ : Shape).Idx) :=
  fun (g : Fin 3 → ℕ) (d : Fin n) => row A p g d t.val i.val f (lt m t i)

theorem blk_in (t : Fin (cfgM m (ok m)).N) (i : Fin 256) (f : Fin 512) (d : Fin 3) :
    (![(iblk m (ok m) c 1 t : Vec Ideal S1x256x512 .bf16) (ix3 0 i f), (iblk m (ok m) c 2 t : Vec Ideal S1x256x512 .bf16) (ix3 0 i f),
      (iblk m (ok m) c 3 t : Vec Ideal S1x256x512 .bf16) (ix3 0 i f)] : Fin 3 → EReal) d = aQ m c (ix3 d ⟨t.val * 256 + i.val, lt m t i⟩ f) := by
  have h := (idx t).2.1
  fin_cases d <;> exact (congrFun (V_main_arg1 m c) _).trans (row' m t i f (aQ m c) _ _ _ (h _) rfl rfl rfl)

theorem blk_4 (t : Fin (cfgM m (ok m)).N) (i : Fin 256) (f : Fin 512) :
    (iblk m (ok m) c 4 t : Vec Ideal S1x256x512 .f32) (ix3 0 i f) = aW m c (ix3 0 ⟨t.val * 256 + i.val, lt m t i⟩ f) :=
  (congrFun (V_main_arg2 m c) _).trans (row' m t i f (aW m c) _ _ 0 ((idx t).2.2 0) rfl rfl rfl)

theorem blk_5 (t : Fin (cfgM m (ok m)).N) (i : Fin 256) (f : Fin 512) :
    (iblk m (ok m) c 5 t : Vec Ideal S1x256x512 .f32) (ix3 0 i f) = aM m c (ix3 0 ⟨t.val * 256 + i.val, lt m t i⟩ f) :=
  (congrFun (V_main_arg3 m c) _).trans (row' m t i f (aM m c) _ _ 0 ((idx t).2.2 1) rfl rfl rfl)

theorem blk_6 (t : Fin (cfgM m (ok m)).N) (i : Fin 256) (f : Fin 512) :
    (iblk m (ok m) c 6 t : Vec Ideal S1x256x512 .f32) (ix3 0 i f) = aV m c (ix3 0 ⟨t.val * 256 + i.val, lt m t i⟩ f) :=
  (congrFun (V_main_arg4 m c) _).trans (row' m t i f (aV m c) _ _ 0 ((idx t).2.2 2) rfl rfl rfl)

/-! The tile stored from a point's blocks. -/

section
variable (x0 : Vec Ideal S256x512 .bf16) (x1 x2 x3 : Vec Ideal S1x256x512 .bf16) (x4 x5 x6 : Vec Ideal S1x256x512 .f32) (i : Fin 256) (f : Fin 512)

/-- An entry of the gradient. -/
abbrev g4 : EReal := x0 (ix2 i f) + x1 (ix3 0 i f) + x2 (ix3 0 i f) + x3 (ix3 0 i f)

theorem pay_grad : k0_pay1 (k0_pay6 x0 x1 x2 x3) (ix3 0 i f) = g4 x0 x1 x2 x3 i f := by
  pointwise [k0_pay1, k0_pay6]

theorem pay_first : k0_pay3 (k0_pay7 x0 x1 x2 x3 x5) (ix3 0 i f) = first (x5 (ix3 0 i f)) (g4 x0 x1 x2 x3 i f) := by
  pointwise [k0_pay3, k0_pay7, k0_pay6, first]

theorem pay_second : k0_pay4 (k0_pay8 x0 x1 x2 x3 x6) (ix3 0 i f) = second (x6 (ix3 0 i f)) (g4 x0 x1 x2 x3 i f) := by
  pointwise [k0_pay4, k0_pay8, k0_pay6, second]

theorem pay_delta : k0_pay2 (k0_pay5 x4) (k0_pay8 x0 x1 x2 x3 x6) (k0_pay9 x0 x1 x2 x3 x5) (ix3 0 i f)
    = delta (x4 (ix3 0 i f)) (x5 (ix3 0 i f)) (x6 (ix3 0 i f)) (g4 x0 x1 x2 x3 i f) := by
  pointwise [k0_pay2, k0_pay5, k0_pay7, k0_pay8, k0_pay9, k0_pay6, first, second, delta]

end

section
variable (i : grid0.Coords) (arg2 : Memref sig .tc .vmem S256x512 .bf16) (harg2 : arg2.IsWhole) (arg3 : Memref sig .tc .vmem S1x256x512 .bf16)
  (harg3 : arg3.IsWhole) (arg4 : Memref sig .tc .vmem S1x256x512 .bf16) (harg4 : arg4.IsWhole) (arg5 : Memref sig .tc .vmem S1x256x512 .bf16)
  (harg5 : arg5.IsWhole) (arg6 : Memref sig .tc .vmem S1x256x512 .f32) (harg6 : arg6.IsWhole) (arg7 : Memref sig .tc .vmem S1x256x512 .f32)
  (harg7 : arg7.IsWhole) (arg8 : Memref sig .tc .vmem S1x256x512 .f32) (harg8 : arg8.IsWhole) (arg9 : Memref sig .tc .vmem S1x256x512 .f32)
  (harg9 : arg9.IsWhole) (arg10 : Memref sig .tc .vmem S1x256x512 .f32) (harg10 : arg10.IsWhole) (arg11 : Memref sig .tc .vmem S1x256x512 .f32)
  (harg11 : arg11.IsWhole) (arg12 : Memref sig .tc .vmem S1x256x512 .f32) (harg12 : arg12.IsWhole)
  (x0 : Vec Ideal S256x512 .bf16) (x1 x2 x3 : Vec Ideal S1x256x512 .bf16) (x4 x5 x6 : Vec Ideal S1x256x512 .f32) (xt : TbBuf0 (F := Ideal) c tbM0_0)

theorem ld_tile (v : Vec Ideal S256x512 .bf16) : View.ld v (Rect.unit ![0, 0] ![256, 512] inb_S256x512_S256x512_0_0) = v :=
  View.ld_unit_zero (by funext a; fin_cases a <;> rfl) _ v

theorem ld_row {e : EltTy} (v : Vec Ideal S1x256x512 e) : View.ld v (Rect.unit ![0, 0, 0] ![1, 256, 512] inb_S1x256x512_S1x256x512_0_0_0) = v :=
  View.ld_unit_zero (by funext a; fin_cases a <;> rfl) _ v

/-- What the body leaves in its four results. -/
theorem outs :
    out0_A_7 (F := Ideal) c i arg2 harg2 arg3 harg3 arg4 harg4 arg5 harg5 arg6 harg6 arg7 harg7 arg8 harg8 arg9 harg9 arg10 harg10 arg11 harg11 arg12 harg12 x0 x1 x2 x3 x4 x5 x6 xt
      = k0_pay1 (k0_pay6 x0 x1 x2 x3)
    ∧ out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 xt
      = k0_pay2 (k0_pay5 x4) (k0_pay8 x0 x1 x2 x3 x6) (k0_pay9 x0 x1 x2 x3 x5)
    ∧ out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 xt
      = k0_pay3 (k0_pay7 x0 x1 x2 x3 x5)
    ∧ out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 xt
      = k0_pay4 (k0_pay8 x0 x1 x2 x3 x6) := by
  refine ⟨(View.read_writes_eq_canon _ _ _ (cover0_A_7 (F := Ideal) _ _ _ _ _ _ _ _ _ _ _ _ _ _ _ _ _ _ _ _ _ _ _ _ _ _ _ _ _ _ _ _)).trans ?_,
    (View.read_writes_eq_canon _ _ _ (cover0_A_8 (F := Ideal) _ _ _ _ _ _ _ _ _ _ _ _ _ _ _ _ _ _ _ _ _ _ _ _ _ _ _ _ _ _ _ _)).trans ?_,
    (View.read_writes_eq_canon _ _ _ (cover0_A_9 (F := Ideal) _ _ _ _ _ _ _ _ _ _ _ _ _ _ _ _ _ _ _ _ _ _ _ _ _ _ _ _ _ _ _ _)).trans ?_,
    (View.read_writes_eq_canon _ _ _ (cover0_A_10 (F := Ideal) _ _ _ _ _ _ _ _ _ _ _ _ _ _ _ _ _ _ _ _ _ _ _ _ _ _ _ _ _ _ _ _)).trans ?_⟩
  all_goals
    unfold kernelRun0_A
    dsimp only
    sl_unfold_words
    simp only [View.readAt_eq_ld, harg2.read_unread, harg3.read_unread, harg4.read_unread, harg5.read_unread, harg6.read_unread, harg7.read_unread,
      harg8.read_unread, ld_tile, ld_row]
    exact View.canon_unit_zero (by funext a; fin_cases a <;> rfl) _ _

end

/-! The arrays, tile by tile. -/

theorem tiles (t : Fin (cfgM m (ok m)).N) (i : Fin 256) (f : Fin 512) :
    (outsAt0 m (ok m) c t).1 (ix3 0 i f) = grad (aP m c) (aQ m c) (ix3 0 ⟨t.val * 256 + i.val, lt m t i⟩ f)
    ∧ (outsAt0 m (ok m) c t).2.1 (ix3 0 i f)
      = deltas (aP m c) (aQ m c) (aW m c) (aM m c) (aV m c) (ix3 0 ⟨t.val * 256 + i.val, lt m t i⟩ f)
    ∧ (outsAt0 m (ok m) c t).2.2.1 (ix3 0 i f) = firsts (aP m c) (aQ m c) (aM m c) (ix3 0 ⟨t.val * 256 + i.val, lt m t i⟩ f)
    ∧ (outsAt0 m (ok m) c t).2.2.2 (ix3 0 i f) = seconds (aP m c) (aQ m c) (aV m c) (ix3 0 ⟨t.val * 256 + i.val, lt m t i⟩ f) := by
  have hg : g4 (iblk m (ok m) c 0 t) (iblk m (ok m) c 1 t) (iblk m (ok m) c 2 t) (iblk m (ok m) c 3 t) i f
      = grad (aP m c) (aQ m c) (ix3 0 ⟨t.val * 256 + i.val, lt m t i⟩ f) := by
    unfold g4
    exact congrArg₂ (· + ·) (congrArg₂ (· + ·) (congrArg₂ (· + ·) (blk_0 m c t i f) (blk_in m c t i f 0)) (blk_in m c t i f 1)) (blk_in m c t i f 2)
  unfold outsAt0
  dsimp only
  refine ⟨(congrFun (outs ..).1 _).trans ((pay_grad ..).trans hg), (congrFun (outs ..).2.1 _).trans ((pay_delta ..).trans ?_),
    (congrFun (outs ..).2.2.1 _).trans ((pay_first ..).trans ?_), (congrFun (outs ..).2.2.2 _).trans ((pay_second ..).trans ?_)⟩
  · rw [hg, blk_4, blk_5, blk_6]; rfl
  · rw [hg, blk_5]; rfl
  · rw [hg, blk_6]; rfl

/-- The point that stores an entry. -/
def point (i : S1x2048x512.Idx) : Fin (cfgM m (ok m)).N :=
  ⟨(i 1).val / 256, lt_of_lt_of_eq (by have h : (i 1).val < 2048 := (i 1).isLt; omega) N_0.symm⟩

theorem arr_7 : (dats m (ok m) 0 c).arrAt 7 (cfgM m (ok m)).N = grad (aP m c) (aQ m c) :=
  (dats m (ok m) 0 c).arrAt_eq_of_cover 7 _
    (fun t _ => (congrArg (((cfgM m (ok m)).win 7).cut _) (after0_7 m (ok m) c t)).trans
      (funext fun j => stored (grad (aP m c) (aQ m c)) _ j _ _ t.val (lt m t) ((idx t).2.2 3) (fun _ => rfl) fun i f => (tiles m c t i f).1))
    (fun i => ⟨point m i, flush0_7 _ _, (congrArg (i ∈ ·) (View.set_slice_whole main_v5_0 (((cfgM m (ok m)).win 7).rect (point m i)))).mpr
      (Rect.mem_set_unit.mpr (held 256 (by decide) i _ ((idx (point m i)).2.2 3)))⟩)

theorem arr_8 : (dats m (ok m) 0 c).arrAt 8 (cfgM m (ok m)).N = deltas (aP m c) (aQ m c) (aW m c) (aM m c) (aV m c) :=
  (dats m (ok m) 0 c).arrAt_eq_of_cover 8 _
    (fun t _ => (congrArg (((cfgM m (ok m)).win 8).cut _) (after0_8 m (ok m) c t)).trans
      (funext fun j => stored (deltas (aP m c) (aQ m c) (aW m c) (aM m c) (aV m c)) _ j _ _ t.val (lt m t) ((idx t).2.2 4) (fun _ => rfl) fun i f => (tiles m c t i f).2.1))
    (fun i => ⟨point m i, flush0_8 _ _, (congrArg (i ∈ ·) (View.set_slice_whole main_v5_1 (((cfgM m (ok m)).win 8).rect (point m i)))).mpr
      (Rect.mem_set_unit.mpr (held 256 (by decide) i _ ((idx (point m i)).2.2 4)))⟩)

theorem arr_9 : (dats m (ok m) 0 c).arrAt 9 (cfgM m (ok m)).N = firsts (aP m c) (aQ m c) (aM m c) :=
  (dats m (ok m) 0 c).arrAt_eq_of_cover 9 _
    (fun t _ => (congrArg (((cfgM m (ok m)).win 9).cut _) (after0_9 m (ok m) c t)).trans
      (funext fun j => stored (firsts (aP m c) (aQ m c) (aM m c)) _ j _ _ t.val (lt m t) ((idx t).2.2 5) (fun _ => rfl) fun i f => (tiles m c t i f).2.2.1))
    (fun i => ⟨point m i, flush0_9 _ _, (congrArg (i ∈ ·) (View.set_slice_whole main_v5_2 (((cfgM m (ok m)).win 9).rect (point m i)))).mpr
      (Rect.mem_set_unit.mpr (held 256 (by decide) i _ ((idx (point m i)).2.2 5)))⟩)

theorem arr_10 : (dats m (ok m) 0 c).arrAt 10 (cfgM m (ok m)).N = seconds (aP m c) (aQ m c) (aV m c) :=
  (dats m (ok m) 0 c).arrAt_eq_of_cover 10 _
    (fun t _ => (congrArg (((cfgM m (ok m)).win 10).cut _) (after0_10 m (ok m) c t)).trans
      (funext fun j => stored (seconds (aP m c) (aQ m c) (aV m c)) _ j _ _ t.val (lt m t) ((idx t).2.2 6) (fun _ => rfl) fun i f => (tiles m c t i f).2.2.2))
    (fun i => ⟨point m i, flush0_10 _ _, (congrArg (i ∈ ·) (View.set_slice_whole main_v5_3 (((cfgM m (ok m)).win 10).rect (point m i)))).mpr
      (Rect.mem_set_unit.mpr (held 256 (by decide) i _ ((idx (point m i)).2.2 6)))⟩)

/-- The kernel's run, each array named. -/
theorem run (g : Dev nD → PrngReg) : θ_run defs (onTc (τ := τ) (main (F := Ideal))) ⟨m, fun _ => 0, g⟩ fun r => ∀ c : Dev nD,
    (r.2.mem ((c : Thread nD τ).loc main_v5_0) = grad (aP m c) (aQ m c)
      ∧ r.2.mem ((c : Thread nD τ).loc main_v5_1) = deltas (aP m c) (aQ m c) (aW m c) (aM m c) (aV m c)
      ∧ r.2.mem ((c : Thread nD τ).loc main_v5_2) = firsts (aP m c) (aQ m c) (aM m c)
      ∧ r.2.mem ((c : Thread nD τ).loc main_v5_3) = seconds (aP m c) (aQ m c) (aV m c)) :=
  (θ_run defs _ _).mono (fun _ h c => ⟨((h c).1 7).trans (arr_7 m c), ((h c).1 8).trans (arr_8 m c), ((h c).1 9).trans (arr_9 m c),
    ((h c).1 10).trans (arr_10 m c)⟩) (run_main m g (ok m))

/-! The claims. -/

theorem frame : Cert.quiescent_Kernel17 := fun m g _ => Cert.Kernel17.Gen.frame m g (ok_words m)

theorem frame_ideal : Cert.quiescent_Kernel17Ideal := fun m g _ => Cert.Kernel17Ideal.Gen.frame m g (ok m)

theorem frame_reference : Cert.quiescent_Reference17Ideal := fun m g _ =>
  (θ_run Cert.Reference17Ideal.defs _ _).mono
    (fun r h => ⟨fun c => (h c).2.2.2.2, sem_eq_zero_of_no_sems (by decide) r.2⟩)
    (Cert.Reference17Ideal.Value.run (F := Ideal) m g)

/-- The kernel leaves the gradient, the step and the two moments, as the reference does. -/
theorem same : Cert.algebraic_Kernel17Ideal_Reference17Ideal := by
  intro m g m' g' _ hargs
  refine ⟨fun c => grad (aP m c) (aQ m c), fun c => deltas (aP m c) (aQ m c) (aW m c) (aM m c) (aV m c), fun c => firsts (aP m c) (aQ m c) (aM m c),
    fun c => seconds (aP m c) (aQ m c) (aV m c), ?_, ?_⟩
  · exact (θ_run Cert.Kernel17Ideal.defs _ _).mono (fun r h c => ⟨(h.1 c).1, (h.1 c).2.1, (h.1 c).2.2.1, (h.1 c).2.2.2, h.2 c⟩)
      (θ_run_and (run m g) (unchanged m g (ok m)))
  · refine (θ_run Cert.Reference17Ideal.defs _ _).mono (fun r h c => ⟨(h c).1.trans ?_, (h c).2.1.trans ?_, (h c).2.2.1.trans ?_, (h c).2.2.2.1.trans ?_, (h c).2.2.2.2⟩)
      (Cert.Reference17Ideal.Value.run (F := Ideal) m' g')
    all_goals
      rw [(hargs c).1, (hargs c).2.1]
      try rw [(hargs c).2.2.1]
      try rw [(hargs c).2.2.2.1]
      try rw [(hargs c).2.2.2.2]
      funext j
      idx_vars j
      pointwise [grad, deltas, firsts, seconds, delta, first, second]
      simp only [Fin.sum_univ_three, ← add_assoc]

end Cert.Tail.Step17

end
-- ==== Proof.Tail.Step18.lean ====
module

public import proofs.«01_k».proof.Defs
public import proofs.«01_k».proof.Proof.Tail.Adam
public import proofs.«01_k».proof.Proof.Gen.Kernel18.Frame
public import proofs.«01_k».proof.Proof.Gen.Kernel18Ideal.Frame
public import proofs.«01_k».proof.Proof.Gen.Reference18Ideal.Run
public import Idealize.ShloMosaic.Lib.Quiescent

@[expose] public section

set_option maxRecDepth 16384

noncomputable section

/-! The optimizer's step of the output projection's second weight: one point holds every array whole. -/

namespace Cert.Tail.Step18

open Idealize.ShloMosaic Idealize.ShloMosaic.TcCoe Idealize.ShloMosaic.Tactic Idealize.SL.Sem
open Cert.Ffn Cert.Tail.Tile Cert.Tail.Adam
open Cert.Kernel18Ideal Cert.Kernel18Ideal.Gen

section
variable {F : FTy → Type} [FloatOps F] (m : (ℓ : Loc nD τ sig) → Buf (Elt F) ℓ)

abbrev half : (⟨S1, .i32⟩ : BufTy).Contents (Elt F) := broadcastInDim S1 ![] bcast_S_S1 (constantI S_ 32 0#32 : (⟨S_, .i32⟩ : BufTy).Contents (Elt F))

theorem table : (tbl m 0 : Vec F S2 .i32) = fun _ => 0#32 := by
  have h : V m (0 : Dev nD) main_v3 = concatenate S2 0 [⟨S1, half (F := F)⟩, ⟨S1, half (F := F)⟩] concatenates_S1_S1_S2_d0 := by
    show StableHlo.after hostOps0 (fun b => m (0, b)) (Proc.devRef .tc main_v3) = _
    after_reads_simp
    rfl
  refine h.trans (funext fun j => ?_)
  idx_vars j
  pointwise
  split_ifs <;> rfl

/-- The device's own part is the first of the four. -/
theorem own (i : grid0.Coords) : cc0_transform_0 inb_S2_S1_1 numel1_S1 (tbl m) i = ![0, 0] := by
  have hi : (i 0).val < 1 := (i 0).isLt
  have h : (tbl m).at 0 (Rect.unit (s := S2) ![1] S1.size inb_S2_S1_1) numel1_S1 = 0#32 := congrFun (table m) _
  unfold cc0_transform_0
  dsimp only
  rw [h, word 1#32 (i 0).val (by omega), show (i 0).val = 0 by omega]
  rfl

theorem ok : Ok m := by
  intro i
  have key : ∀ g : Fin 2 → ℕ, g = ![0, 0] → ∃ h : (∀ a, (g a + 1) * S256x2048.size a ≤ S1024x2048.size a),
      EltTy.bits .bf16 = 32 ∨ (Rect.block (s := S1024x2048) S256x2048.size g h).WholeWords (EltTy.packing .bf16) := by
    rintro _ rfl
    exact ⟨by decide, .inr (Affine.block_words_dvd (of_decide_eq_true rfl) (by decide))⟩
  exact key _ (own m i)

end

/-- The same of the kernel at its own words. -/
theorem ok_words (m : (ℓ : Loc Cert.Kernel18.nD Cert.Kernel18.τ Cert.Kernel18.sig) → Buf (Elt Bits) ℓ) : Cert.Kernel18.Gen.Ok m :=
  ok (F := Bits) m

/-- Where the other windows are: the three parts that came in, and the origin. -/
theorem idx : ∀ t : Fin grid0.N, (∀ d : Fin 3, (![cc0_transform_1 (grid0.coords t), cc0_transform_2 (grid0.coords t),
      cc0_transform_3 (grid0.coords t)] : Fin 3 → Fin 3 → ℕ) d = ![d.val, 0, 0])
    ∧ ∀ (w : Fin 7) (a : Fin 3), (![cc0_transform_4 (grid0.coords t), cc0_transform_5 (grid0.coords t), cc0_transform_6 (grid0.coords t),
      cc0_transform_7 (grid0.coords t), cc0_transform_8 (grid0.coords t), cc0_transform_9 (grid0.coords t), cc0_transform_10 (grid0.coords t)] :
        Fin 7 → Fin 3 → ℕ) w a = 0 := by decide +kernel

variable (m : (ℓ : Loc nD τ sig) → Buf (Elt Ideal) ℓ) (c : Dev nD)

/-- The arguments: the device's own part, the three that came in, the weight and its moments. -/
abbrev aP : Vec Ideal S4x256x2048 .bf16 := m ((c.tc : Thread nD τ).loc main_arg0)
abbrev aQ : Vec Ideal S3x256x2048 .bf16 := m ((c.tc : Thread nD τ).loc main_arg1)
abbrev aW : Vec Ideal S1x256x2048 .f32 := m ((c.tc : Thread nD τ).loc main_arg2)
abbrev aM : Vec Ideal S1x256x2048 .f32 := m ((c.tc : Thread nD τ).loc main_arg3)
abbrev aV : Vec Ideal S1x256x2048 .f32 := m ((c.tc : Thread nD τ).loc main_arg4)

section
variable (t : Fin (cfgM m (ok m)).N)

theorem blk_own (i : Fin 256) (f : Fin 2048) : (iblk m (ok m) c 0 t : Vec Ideal S256x2048 .bf16) (ix2 i f) = aP m c (ix3 0 i f) := by
  have h : V m c main_v4 = shapeCast S1024x2048 (aP m c) shapeCasts_S4x256x2048_S1024x2048 := by
    show StableHlo.after hostOps0 (fun b => m (c, b)) (Proc.devRef .tc main_v4) = _
    after_reads_simp
    rfl
  have g := own m (grid0.coords t)
  refine (at2 (V m c main_v4 : Vec Ideal S1024x2048 .bf16) _ ⟨i.val, by omega⟩ f ?_ ?_).trans ?_
  · show cc0_transform_0 inb_S2_S1_1 numel1_S1 (tbl m) (grid0.coords t) 0 * 256 + 1 * i.val = i.val
    rw [g]; show 0 * 256 + 1 * i.val = _; omega
  · show cc0_transform_0 inb_S2_S1_1 numel1_S1 (tbl m) (grid0.coords t) 1 * 2048 + 1 * f.val = f.val
    rw [g]; show 0 * 2048 + 1 * f.val = _; omega
  · rw [h]
    pointwise
    exact at3 (aP m c) _ _ _ _ (by show i.val / 256 = 0; omega) (by show i.val % 256 = i.val; omega) rfl

theorem blk_in (i : Fin 256) (f : Fin 2048) (d : Fin 3) : (![(iblk m (ok m) c 1 t : Vec Ideal S1x256x2048 .bf16) (ix3 0 i f),
    (iblk m (ok m) c 2 t : Vec Ideal S1x256x2048 .bf16) (ix3 0 i f), (iblk m (ok m) c 3 t : Vec Ideal S1x256x2048 .bf16) (ix3 0 i f)] : Fin 3 → EReal) d
      = aQ m c (ix3 d i f) := by
  have h := (idx t).1
  have e : (⟨0 * 256 + i.val, by omega⟩ : Fin 256) = i := Fin.ext (by show 0 * 256 + i.val = i.val; omega)
  fin_cases d <;> exact (congrFun (V_main_arg1 m c) _).trans ((row (T := 256) (aQ m c) _ _ _ 0 i.val f (by omega) (h _) rfl rfl rfl).trans
    (congrArg (fun r => aQ m c (ix3 _ r f)) e))

theorem blk_w : (iblk m (ok m) c 4 t : Vec Ideal S1x256x2048 .f32) = aW m c :=
  funext fun j => (congrFun (V_main_arg2 m c) _).trans (whole (aW m c) j _ _ ((idx t).2 0) fun _ => rfl)

theorem blk_m : (iblk m (ok m) c 5 t : Vec Ideal S1x256x2048 .f32) = aM m c :=
  funext fun j => (congrFun (V_main_arg3 m c) _).trans (whole (aM m c) j _ _ ((idx t).2 1) fun _ => rfl)

theorem blk_v : (iblk m (ok m) c 6 t : Vec Ideal S1x256x2048 .f32) = aV m c :=
  funext fun j => (congrFun (V_main_arg4 m c) _).trans (whole (aV m c) j _ _ ((idx t).2 2) fun _ => rfl)

end

/-! What is stored from a point's blocks, as soon as the four added parts are known. -/

section
variable (x0 : Vec Ideal S256x2048 .bf16) (x1 x2 x3 : Vec Ideal S1x256x2048 .bf16) (w a v : Vec Ideal S1x256x2048 .f32)
  (p : Vec Ideal S4x256x2048 .bf16) (q : Vec Ideal S3x256x2048 .bf16)
  (hg : ∀ (i : Fin 256) (f : Fin 2048), x0 (ix2 i f) + x1 (ix3 0 i f) + x2 (ix3 0 i f) + x3 (ix3 0 i f) = grad p q (ix3 0 i f))

include hg

theorem sum_eq (i : Fin 256) (f : Fin 2048) : k0_pay6 x0 x1 x2 x3 (ix2 i f) = grad p q (ix3 0 i f) := by
  rw [← hg]
  pointwise [k0_pay6]

theorem pay_eq : k0_pay1 (k0_pay6 x0 x1 x2 x3) = grad p q
    ∧ k0_pay2 (k0_pay5 w) (k0_pay8 x0 x1 x2 x3 v) (k0_pay9 x0 x1 x2 x3 a) = deltas p q w a v
    ∧ k0_pay3 (k0_pay7 x0 x1 x2 x3 a) = firsts p q a ∧ k0_pay4 (k0_pay8 x0 x1 x2 x3 v) = seconds p q v := by
  refine ⟨funext fun j => ?_, funext fun j => ?_, funext fun j => ?_, funext fun j => ?_⟩
  all_goals
    obtain ⟨i, f, rfl⟩ := split j
    have h := sum_eq x0 x1 x2 x3 p q hg i f
    first
    | unfold deltas
    | unfold firsts
    | unfold seconds
    | skip
    rw [← h]
  · pointwise [k0_pay1]
  · pointwise [k0_pay2, k0_pay5, k0_pay7, k0_pay8, k0_pay9, first, second, delta]
  · pointwise [k0_pay3, k0_pay7, first]
  · pointwise [k0_pay4, k0_pay8, second]

end

section
variable (i : grid0.Coords) (arg2 : Memref sig .tc .vmem S256x2048 .bf16) (harg2 : arg2.IsWhole) (arg3 : Memref sig .tc .vmem S1x256x2048 .bf16)
  (harg3 : arg3.IsWhole) (arg4 : Memref sig .tc .vmem S1x256x2048 .bf16) (harg4 : arg4.IsWhole) (arg5 : Memref sig .tc .vmem S1x256x2048 .bf16)
  (harg5 : arg5.IsWhole) (arg6 : Memref sig .tc .vmem S1x256x2048 .f32) (harg6 : arg6.IsWhole) (arg7 : Memref sig .tc .vmem S1x256x2048 .f32)
  (harg7 : arg7.IsWhole) (arg8 : Memref sig .tc .vmem S1x256x2048 .f32) (harg8 : arg8.IsWhole) (arg9 : Memref sig .tc .vmem S1x256x2048 .f32)
  (harg9 : arg9.IsWhole) (arg10 : Memref sig .tc .vmem S1x256x2048 .f32) (harg10 : arg10.IsWhole) (arg11 : Memref sig .tc .vmem S1x256x2048 .f32)
  (harg11 : arg11.IsWhole) (arg12 : Memref sig .tc .vmem S1x256x2048 .f32) (harg12 : arg12.IsWhole)
  (x0 : Vec Ideal S256x2048 .bf16) (x1 x2 x3 : Vec Ideal S1x256x2048 .bf16) (x4 x5 x6 : Vec Ideal S1x256x2048 .f32) (xt : TbBuf0 (F := Ideal) c tbM0_0)

/-- What the body leaves in its four results. -/
theorem outs :
    out0_A_7 (F := Ideal) c i arg2 harg2 arg3 harg3 arg4 harg4 arg5 harg5 arg6 harg6 arg7 harg7 arg8 harg8 arg9 harg9 arg10 harg10 arg11 harg11 arg12 harg12 x0 x1 x2 x3 x4 x5 x6 xt
      = k0_pay1 (k0_pay6 x0 x1 x2 x3)
    ∧ out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 xt
      = k0_pay2 (k0_pay5 x4) (k0_pay8 x0 x1 x2 x3 x6) (k0_pay9 x0 x1 x2 x3 x5)
    ∧ out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 xt
      = k0_pay3 (k0_pay7 x0 x1 x2 x3 x5)
    ∧ out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 xt
      = k0_pay4 (k0_pay8 x0 x1 x2 x3 x6) := by
  have all (v : Vec Ideal S256x2048 .bf16) : View.ld v (Rect.unit ![0, 0] ![256, 2048] inb_S256x2048_S256x2048_0_0) = v :=
    View.ld_unit_zero (by funext a; fin_cases a <;> rfl) _ v
  have one {e : EltTy} (v : Vec Ideal S1x256x2048 e) : View.ld v (Rect.unit ![0, 0, 0] ![1, 256, 2048] inb_S1x256x2048_S1x256x2048_0_0_0) = v :=
    View.ld_unit_zero (by funext a; fin_cases a <;> rfl) _ v
  refine ⟨(View.read_writes_eq_canon _ _ _ (cover0_A_7 (F := Ideal) _ _ _ _ _ _ _ _ _ _ _ _ _ _ _ _ _ _ _ _ _ _ _ _ _ _ _ _ _ _ _ _)).trans ?_,
    (View.read_writes_eq_canon _ _ _ (cover0_A_8 (F := Ideal) _ _ _ _ _ _ _ _ _ _ _ _ _ _ _ _ _ _ _ _ _ _ _ _ _ _ _ _ _ _ _ _)).trans ?_,
    (View.read_writes_eq_canon _ _ _ (cover0_A_9 (F := Ideal) _ _ _ _ _ _ _ _ _ _ _ _ _ _ _ _ _ _ _ _ _ _ _ _ _ _ _ _ _ _ _ _)).trans ?_,
    (View.read_writes_eq_canon _ _ _ (cover0_A_10 (F := Ideal) _ _ _ _ _ _ _ _ _ _ _ _ _ _ _ _ _ _ _ _ _ _ _ _ _ _ _ _ _ _ _ _)).trans ?_⟩
  all_goals
    unfold kernelRun0_A
    dsimp only
    sl_unfold_words
    simp only [View.readAt_eq_ld, harg2.read_unread, harg3.read_unread, harg4.read_unread, harg5.read_unread, harg6.read_unread, harg7.read_unread,
      harg8.read_unread, all, one]
    exact View.canon_unit_zero (by funext a; fin_cases a <;> rfl) _ _

end

/-! The arrays. -/

theorem left (t : Fin (cfgM m (ok m)).N) :
    (outsAt0 m (ok m) c t).1 = grad (aP m c) (aQ m c)
    ∧ (outsAt0 m (ok m) c t).2.1 = deltas (aP m c) (aQ m c) (aW m c) (aM m c) (aV m c)
    ∧ (outsAt0 m (ok m) c t).2.2.1 = firsts (aP m c) (aQ m c) (aM m c) ∧ (outsAt0 m (ok m) c t).2.2.2 = seconds (aP m c) (aQ m c) (aV m c) := by
  obtain ⟨hg, hd, hf, hs⟩ := pay_eq (iblk m (ok m) c 0 t) (iblk m (ok m) c 1 t) (iblk m (ok m) c 2 t) (iblk m (ok m) c 3 t) (aW m c) (aM m c) (aV m c)
    (aP m c) (aQ m c) fun i f => congrArg₂ (· + ·) (congrArg₂ (· + ·) (congrArg₂ (· + ·) (blk_own m c t i f) (blk_in m c t i f 0)) (blk_in m c t i f 1))
      (blk_in m c t i f 2)
  unfold outsAt0
  dsimp only
  rw [blk_w, blk_m, blk_v]
  exact ⟨(outs ..).1.trans hg, (outs ..).2.1.trans hd, (outs ..).2.2.1.trans hf, (outs ..).2.2.2.trans hs⟩

/-- The one point. -/
def point : Fin (cfgM m (ok m)).N := ⟨0, lt_of_lt_of_eq (by decide) N_0.symm⟩

theorem arr_7 : (dats m (ok m) 0 c).arrAt 7 (cfgM m (ok m)).N = grad (aP m c) (aQ m c) :=
  (dats m (ok m) 0 c).arrAt_eq_of_cover 7 _
    (fun t _ => (congrArg (((cfgM m (ok m)).win 7).cut _) ((after0_7 m (ok m) c t).trans (left m c t).1)).trans
      (funext fun j => (whole (grad (aP m c) (aQ m c)) j _ _ ((idx t).2 3) fun _ => rfl).symm))
    (fun i => ⟨point m, flush0_7 _ _, (congrArg (i ∈ ·) (View.set_slice_whole main_v5_0 (((cfgM m (ok m)).win 7).rect (point m)))).mpr
      (Rect.mem_set_unit.mpr (held_whole i _ ((idx (point m)).2 3)))⟩)

theorem arr_8 : (dats m (ok m) 0 c).arrAt 8 (cfgM m (ok m)).N = deltas (aP m c) (aQ m c) (aW m c) (aM m c) (aV m c) :=
  (dats m (ok m) 0 c).arrAt_eq_of_cover 8 _
    (fun t _ => (congrArg (((cfgM m (ok m)).win 8).cut _) ((after0_8 m (ok m) c t).trans (left m c t).2.1)).trans
      (funext fun j => (whole (deltas (aP m c) (aQ m c) (aW m c) (aM m c) (aV m c)) j _ _ ((idx t).2 4) fun _ => rfl).symm))
    (fun i => ⟨point m, flush0_8 _ _, (congrArg (i ∈ ·) (View.set_slice_whole main_v5_1 (((cfgM m (ok m)).win 8).rect (point m)))).mpr
      (Rect.mem_set_unit.mpr (held_whole i _ ((idx (point m)).2 4)))⟩)

theorem arr_9 : (dats m (ok m) 0 c).arrAt 9 (cfgM m (ok m)).N = firsts (aP m c) (aQ m c) (aM m c) :=
  (dats m (ok m) 0 c).arrAt_eq_of_cover 9 _
    (fun t _ => (congrArg (((cfgM m (ok m)).win 9).cut _) ((after0_9 m (ok m) c t).trans (left m c t).2.2.1)).trans
      (funext fun j => (whole (firsts (aP m c) (aQ m c) (aM m c)) j _ _ ((idx t).2 5) fun _ => rfl).symm))
    (fun i => ⟨point m, flush0_9 _ _, (congrArg (i ∈ ·) (View.set_slice_whole main_v5_2 (((cfgM m (ok m)).win 9).rect (point m)))).mpr
      (Rect.mem_set_unit.mpr (held_whole i _ ((idx (point m)).2 5)))⟩)

theorem arr_10 : (dats m (ok m) 0 c).arrAt 10 (cfgM m (ok m)).N = seconds (aP m c) (aQ m c) (aV m c) :=
  (dats m (ok m) 0 c).arrAt_eq_of_cover 10 _
    (fun t _ => (congrArg (((cfgM m (ok m)).win 10).cut _) ((after0_10 m (ok m) c t).trans (left m c t).2.2.2)).trans
      (funext fun j => (whole (seconds (aP m c) (aQ m c) (aV m c)) j _ _ ((idx t).2 6) fun _ => rfl).symm))
    (fun i => ⟨point m, flush0_10 _ _, (congrArg (i ∈ ·) (View.set_slice_whole main_v5_3 (((cfgM m (ok m)).win 10).rect (point m)))).mpr
      (Rect.mem_set_unit.mpr (held_whole i _ ((idx (point m)).2 6)))⟩)

/-! The claims. -/

theorem frame : Cert.quiescent_Kernel18 := fun m g _ => Cert.Kernel18.Gen.frame m g (ok_words m)

theorem frame_ideal : Cert.quiescent_Kernel18Ideal := fun m g _ => Cert.Kernel18Ideal.Gen.frame m g (ok m)

theorem frame_reference : Cert.quiescent_Reference18Ideal := fun m g _ =>
  (θ_run Cert.Reference18Ideal.defs _ _).mono
    (fun r h => ⟨fun c => (h c).2.2.2.2, sem_eq_zero_of_no_sems (by decide) r.2⟩)
    (Cert.Reference18Ideal.Value.run (F := Ideal) m g)

/-- The kernel leaves the gradient, the step and the two moments, as the reference does. -/
theorem same : Cert.algebraic_Kernel18Ideal_Reference18Ideal := by
  intro m g m' g' _ hargs
  refine ⟨fun c => grad (aP m c) (aQ m c), fun c => deltas (aP m c) (aQ m c) (aW m c) (aM m c) (aV m c), fun c => firsts (aP m c) (aQ m c) (aM m c),
    fun c => seconds (aP m c) (aQ m c) (aV m c), ?_, ?_⟩
  · exact (θ_run Cert.Kernel18Ideal.defs _ _).mono
      (fun r h c => ⟨((h.1 c).1 7).trans (arr_7 m c), ((h.1 c).1 8).trans (arr_8 m c), ((h.1 c).1 9).trans (arr_9 m c), ((h.1 c).1 10).trans (arr_10 m c), h.2 c⟩)
      (θ_run_and (run_main m g (ok m)) (unchanged m g (ok m)))
  · refine (θ_run Cert.Reference18Ideal.defs _ _).mono (fun r h c => ⟨(h c).1.trans ?_, (h c).2.1.trans ?_, (h c).2.2.1.trans ?_, (h c).2.2.2.1.trans ?_, (h c).2.2.2.2⟩)
      (Cert.Reference18Ideal.Value.run (F := Ideal) m' g')
    all_goals
      simp only [(hargs c).1, (hargs c).2.1, (hargs c).2.2.1, (hargs c).2.2.2.1, (hargs c).2.2.2.2]
      funext j
      idx_vars j
      pointwise [grad, deltas, firsts, seconds, delta, first, second]
      simp only [Fin.sum_univ_three, ← add_assoc]

end Cert.Tail.Step18

end
-- ==== Proof.Tail.Cols.lean ====
module

public import proofs.«01_k».proof.Proof.Tail.Adam

@[expose] public section

noncomputable section

/-! Arrays stored a tile of whole columns to a point, and arrays turned about: the point `t` holds the columns from `t * T`. -/

namespace Cert.Tail.Cols

open Idealize.ShloMosaic
open Cert.Ffn

/-- Rows for columns, at each place of the first axis. -/
def turn {n R C : ℕ} {α : Type} (A : (⟨3, ![n, R, C]⟩ : Shape).Idx → α) : (⟨3, ![n, C, R]⟩ : Shape).Idx → α := fun j => A (ix3 (j 0) (j 2) (j 1))

/-- The same with the first axis, of length one, dropped. -/
def across {R C : ℕ} {α : Type} (A : (⟨3, ![1, R, C]⟩ : Shape).Idx → α) : (⟨2, ![C, R]⟩ : Shape).Idx → α := fun j => A (ix3 0 (j 1) (j 0))

/-- An index of two axes by its row and column. -/
theorem pair {R C : ℕ} (j : (⟨2, ![R, C]⟩ : Shape).Idx) : ∃ (i : Fin R) (f : Fin C), j = ix2 i f :=
  ⟨j 0, j 1, funext fun a => match a with
    | ⟨0, _⟩ => rfl
    | ⟨1, _⟩ => rfl⟩

/-- An entry of a tile, of three axes. -/
theorem col {n R C T : ℕ} {α : Type} (A : (⟨3, ![n, R, C]⟩ : Shape).Idx → α) (p : (⟨3, ![n, R, C]⟩ : Shape).Idx) (g : Fin 3 → ℕ) (d : Fin n)
    (t : ℕ) (i : Fin R) (f : ℕ) (h : t * T + f < C) (hg : g = ![d.val, 0, t])
    (h0 : (p 0).val = g 0 * 1 + 1 * 0) (h1 : (p 1).val = g 1 * R + 1 * i.val) (h2 : (p 2).val = g 2 * T + 1 * f) :
    A p = A (ix3 d i ⟨t * T + f, h⟩) := by
  subst hg
  refine at3 A _ _ _ _ (h0.trans ?_) (h1.trans ?_) (h2.trans (congrArg (t * T + ·) (Nat.one_mul f)))
  · exact (congrArg (· + 1 * 0) (Nat.mul_one d.val)).trans rfl
  · show 0 * R + 1 * i.val = i.val; omega

/-- An entry of a tile, of two axes. -/
theorem col2 {R C T : ℕ} {α : Type} (A : (⟨2, ![R, C]⟩ : Shape).Idx → α) (p : (⟨2, ![R, C]⟩ : Shape).Idx) (g : Fin 2 → ℕ)
    (t : ℕ) (i : Fin R) (f : ℕ) (h : t * T + f < C) (hg : g = ![0, t])
    (h0 : (p 0).val = g 0 * R + 1 * i.val) (h1 : (p 1).val = g 1 * T + 1 * f) : A p = A (ix2 i ⟨t * T + f, h⟩) := by
  subst hg
  refine at2 A _ _ _ (h0.trans ?_) (h1.trans (congrArg (t * T + ·) (Nat.one_mul f)))
  show 0 * R + 1 * i.val = i.val
  omega

/-- A tile's entry is the array's, once each entry is by its row and column. -/
theorem stored {R C T : ℕ} {α : Type} (A : (⟨3, ![1, C, R]⟩ : Shape).Idx → α) (B : (⟨2, ![R, T]⟩ : Shape).Idx → α)
    (j : (⟨2, ![R, T]⟩ : Shape).Idx) (p : (⟨2, ![R, C]⟩ : Shape).Idx) (g : Fin 2 → ℕ) (t : ℕ) (h : ∀ f : Fin T, t * T + f.val < C)
    (hg : g = ![0, t]) (hp : ∀ a, (p a).val = g a * (![R, T] : Fin 2 → ℕ) a + 1 * (j a).val)
    (hB : ∀ i f, B (ix2 i f) = A (ix3 0 ⟨t * T + f.val, h f⟩ i)) : B j = across A p := by
  obtain ⟨i, f, rfl⟩ := pair j
  exact (hB i f).trans (col2 (across A) p g t i f.val (h f) hg (hp 0) (hp 1)).symm

/-- The tile that holds an entry. -/
theorem held {R C : ℕ} (T : ℕ) (hT : 0 < T) (i : (⟨2, ![R, C]⟩ : Shape).Idx) (g : Fin 2 → ℕ) (hg : g = ![0, (i 1).val / T]) :
    ∀ a, g a * (![R, T] : Fin 2 → ℕ) a ≤ (i a).val ∧ (i a).val < g a * (![R, T] : Fin 2 → ℕ) a + (![R, T] : Fin 2 → ℕ) a := by
  subst hg
  have h0 : (i 0).val < R := (i 0).isLt
  exact fun a => match a with
    | ⟨0, _⟩ => (by omega : 0 * R ≤ (i 0).val ∧ (i 0).val < 0 * R + R)
    | ⟨1, _⟩ => Cert.Mat.in_block (i 1).val _ T hT rfl

end Cert.Tail.Cols

end
-- ==== Proof.Tail.Step19.lean ====
module

public import proofs.«01_k».proof.Defs
public import proofs.«01_k».proof.Proof.Tail.Cols
public import proofs.«01_k».proof.Proof.Gen.Kernel19.Frame
public import proofs.«01_k».proof.Proof.Gen.Kernel19Ideal.Frame
public import proofs.«01_k».proof.Proof.Gen.Reference19Ideal.Run
public import Idealize.ShloMosaic.Lib.Quiescent

@[expose] public section

set_option maxRecDepth 16384

noncomputable section

/-! The optimizer's step of the input projections' weight: four points of whole columns, the weight and its moments turned about before them
    and the four results turned back after. -/

namespace Cert.Tail.Step19

open Idealize.ShloMosaic Idealize.ShloMosaic.TcCoe Idealize.ShloMosaic.Tactic Idealize.SL.Sem
open Cert.Ffn Cert.Tail.Adam Cert.Tail.Cols
open Cert.Kernel19Ideal Cert.Kernel19Ideal.Gen

section
variable {F : FTy → Type} [FloatOps F] (m : (ℓ : Loc nD τ sig) → Buf (Elt F) ℓ)

/-- The number of the part, as the host puts it in the table. -/
abbrev part0 : (⟨S1, .i32⟩ : BufTy).Contents (Elt F) := broadcastInDim S1 ![] bcast_S_S1 (constantI S_ 32 0#32 : (⟨S_, .i32⟩ : BufTy).Contents (Elt F))

theorem table : (tbl m 0 : Vec F S2 .i32) = fun _ => 0#32 :=
  have h : V m (0 : Dev nD) main_v3 = concatenate S2 0 [⟨S1, part0 (F := F)⟩, ⟨S1, part0 (F := F)⟩] concatenates_S1_S1_S2_d0 := by
    show StableHlo.after hostOps0 (fun b => m (0, b)) (Proc.devRef .tc main_v3) = _
    after_reads_simp
    rfl
  h.trans (funext fun j => by idx_vars j; pointwise; split_ifs <;> rfl)

theorem coord (i : grid0.Coords) : (i 1).val < 4 := (i 1).isLt

theorem own (i : grid0.Coords) : cc0_transform_0 inb_S2_S1_1 numel1_S1 (tbl m) i = ![0, 0, (i 1).val] := by
  have hi := coord i
  have h : (tbl m).at 0 (Rect.unit (s := S2) ![1] S1.size inb_S2_S1_1) numel1_S1 = 0#32 := congrFun (table m) _
  have hn : (BitVec.ofNat 32 (i 1).val).toNat = (i 1).val := by rw [BitVec.toNat_ofNat]; omega
  unfold cc0_transform_0
  dsimp only
  rw [h, hn]
  rfl

/-- The device's own part is found within its array. -/
theorem ok : Ok m := by
  intro i
  have hi := coord i
  have key : ∀ g : Fin 3 → ℕ, g = ![0, 0, (i 1).val] → ∃ h : (∀ a, (g a + 1) * S1x770x512.size a ≤ S4x770x2048.size a),
      EltTy.bits .bf16 = 32 ∨ (Rect.block (s := S4x770x2048) S1x770x512.size g h).WholeWords (EltTy.packing .bf16) := by
    rintro _ rfl
    exact ⟨fun a => match a with
      | ⟨0, _⟩ => (by omega : (0 + 1) * 1 ≤ 4)
      | ⟨1, _⟩ => (by omega : (0 + 1) * 770 ≤ 770)
      | ⟨2, _⟩ => (by omega : ((i 1).val + 1) * 512 ≤ 2048), .inr (Affine.block_words_dvd (of_decide_eq_true rfl) (by decide))⟩
  exact key _ (own m i)

end

/-- The same of the kernel at its own words. -/
theorem ok_words (m : (ℓ : Loc Cert.Kernel19.nD Cert.Kernel19.τ Cert.Kernel19.sig) → Buf (Elt Bits) ℓ) : Cert.Kernel19.Gen.Ok m :=
  ok (F := Bits) m

/-- Where the other windows are at a point: the three parts that came in, and the columns of the rest. -/
theorem idx : ∀ t : Fin grid0.N, (grid0.coords t 1).val = t.val
    ∧ (∀ d : Fin 3, (![cc0_transform_1 (grid0.coords t), cc0_transform_2 (grid0.coords t), cc0_transform_3 (grid0.coords t)] : Fin 3 → Fin 3 → ℕ) d
      = ![d.val, 0, t.val])
    ∧ ∀ w : Fin 7, (![cc0_transform_4 (grid0.coords t), cc0_transform_5 (grid0.coords t), cc0_transform_6 (grid0.coords t),
      cc0_transform_7 (grid0.coords t), cc0_transform_8 (grid0.coords t), cc0_transform_9 (grid0.coords t), cc0_transform_10 (grid0.coords t)] :
        Fin 7 → Fin 2 → ℕ) w = ![0, t.val] := by decide +kernel

/-! The host's turns. -/

section
variable (A : Vec Ideal S1x2048x770 .f32)

theorem turned : (transpose S770x2048 [1, 0] (shapeCast S2048x770 A shapeCasts_S1x2048x770_S2048x770) transposes_S2048x770_S770x2048_1_0 :
    Vec Ideal S770x2048 .f32) = across A := by
  funext j
  obtain ⟨i, f, rfl⟩ := pair j
  pointwise [across]

theorem turned_back : (broadcastInDim S1x2048x770 ![1, 2] bcast_S2048x770_S1x2048x770_1_2
    (transpose S2048x770 [1, 0] (across A : Vec Ideal S770x2048 .f32) transposes_S770x2048_S2048x770_1_0 : Vec Ideal S2048x770 .f32) : Vec Ideal S1x2048x770 .f32) = A := by
  funext j
  obtain ⟨i, f, rfl⟩ := Cert.Tail.Tile.split j
  pointwise [across]

end

variable (m : (ℓ : Loc nD τ sig) → Buf (Elt Ideal) ℓ) (c : Dev nD)

/-- The arguments: the device's own part, the three that came in, the weight and its moments. -/
abbrev aP : Vec Ideal S4x770x2048 .bf16 := m ((c.tc : Thread nD τ).loc main_arg0)
abbrev aQ : Vec Ideal S3x770x2048 .bf16 := m ((c.tc : Thread nD τ).loc main_arg1)
abbrev aW : Vec Ideal S1x2048x770 .f32 := m ((c.tc : Thread nD τ).loc main_arg2)
abbrev aM : Vec Ideal S1x2048x770 .f32 := m ((c.tc : Thread nD τ).loc main_arg3)
abbrev aV : Vec Ideal S1x2048x770 .f32 := m ((c.tc : Thread nD τ).loc main_arg4)

/-- The results. -/
abbrev rG : Vec Ideal S1x2048x770 .f32 := grad (turn (aP m c)) (turn (aQ m c))
abbrev rD : Vec Ideal S1x2048x770 .f32 := deltas (turn (aP m c)) (turn (aQ m c)) (aW m c) (aM m c) (aV m c)
abbrev rF : Vec Ideal S1x2048x770 .f32 := firsts (turn (aP m c)) (turn (aQ m c)) (aM m c)
abbrev rS : Vec Ideal S1x2048x770 .f32 := seconds (turn (aP m c)) (turn (aQ m c)) (aV m c)

theorem V_w : (V m c main_v5 : Vec Ideal S770x2048 .f32) = across (aW m c) := by
  refine Eq.trans ?_ (turned (aW m c))
  show StableHlo.after hostOps0 (fun b => m (c, b)) (Proc.devRef .tc main_v5) = _
  after_reads_simp
  rfl

theorem V_m : (V m c main_v7 : Vec Ideal S770x2048 .f32) = across (aM m c) := by
  refine Eq.trans ?_ (turned (aM m c))
  show StableHlo.after hostOps0 (fun b => m (c, b)) (Proc.devRef .tc main_v7) = _
  after_reads_simp
  rfl

theorem V_v : (V m c main_v9 : Vec Ideal S770x2048 .f32) = across (aV m c) := by
  refine Eq.trans ?_ (turned (aV m c))
  show StableHlo.after hostOps0 (fun b => m (c, b)) (Proc.devRef .tc main_v9) = _
  after_reads_simp
  rfl

/-! The blocks of a point. -/

theorem lt (t : Fin (cfgM m (ok m)).N) (f : Fin 512) : t.val * 512 + f.val < 2048 := by
  have h : t.val < 4 := lt_of_lt_of_eq t.isLt N_0
  omega

section
variable (t : Fin (cfgM m (ok m)).N) (i : Fin 770) (f : Fin 512)

theorem blk_own : (iblk m (ok m) c 0 t : Vec Ideal S1x770x512 .bf16) (ix3 0 i f) = aP m c (ix3 0 i ⟨t.val * 512 + f.val, lt m t f⟩) :=
  (congrFun (V_main_arg0 m c) _).trans (col (aP m c) _ _ 0 t.val i f.val (lt m t f)
    ((own m (grid0.coords t)).trans (congrArg (fun k => (![0, 0, k] : Fin 3 → ℕ)) (idx t).1)) rfl rfl rfl)

theorem blk_in (d : Fin 3) : (![(iblk m (ok m) c 1 t : Vec Ideal S1x770x512 .bf16) (ix3 0 i f), (iblk m (ok m) c 2 t : Vec Ideal S1x770x512 .bf16) (ix3 0 i f),
    (iblk m (ok m) c 3 t : Vec Ideal S1x770x512 .bf16) (ix3 0 i f)] : Fin 3 → EReal) d = aQ m c (ix3 d i ⟨t.val * 512 + f.val, lt m t f⟩) := by
  have h := (idx t).2.1
  fin_cases d <;> exact (congrFun (V_main_arg1 m c) _).trans (col (aQ m c) _ _ _ t.val i f.val (lt m t f) (h _) rfl rfl rfl)

theorem blk_w : (iblk m (ok m) c 4 t : Vec Ideal S770x512 .f32) (ix2 i f) = aW m c (ix3 0 ⟨t.val * 512 + f.val, lt m t f⟩ i) :=
  (congrFun (V_w m c) _).trans (col2 (across (aW m c)) _ _ t.val i f.val (lt m t f) ((idx t).2.2 0) rfl rfl)

theorem blk_m : (iblk m (ok m) c 5 t : Vec Ideal S770x512 .f32) (ix2 i f) = aM m c (ix3 0 ⟨t.val * 512 + f.val, lt m t f⟩ i) :=
  (congrFun (V_m m c) _).trans (col2 (across (aM m c)) _ _ t.val i f.val (lt m t f) ((idx t).2.2 1) rfl rfl)

theorem blk_v : (iblk m (ok m) c 6 t : Vec Ideal S770x512 .f32) (ix2 i f) = aV m c (ix3 0 ⟨t.val * 512 + f.val, lt m t f⟩ i) :=
  (congrFun (V_v m c) _).trans (col2 (across (aV m c)) _ _ t.val i f.val (lt m t f) ((idx t).2.2 2) rfl rfl)

end

/-! What is stored from a point's blocks. -/

section
variable (x0 x1 x2 x3 : Vec Ideal S1x770x512 .bf16) (x4 x5 x6 : Vec Ideal S770x512 .f32) (i : Fin 770) (f : Fin 512)

/-- What the second moment is divided by. -/
abbrev corr : EReal := Scalar.ofBits (F := Ideal) .f32 0x3C231ACC#32

/-- An entry of the four results, from an entry of the sum and of the weight and its moments. -/
theorem pay (g : EReal) (hg : x0 (ix3 0 i f) + x1 (ix3 0 i f) + x2 (ix3 0 i f) + x3 (ix3 0 i f) = g) :
    k0_pay3 x0 x1 x2 x3 (ix2 i f) = g
    ∧ k0_pay1 (k0_pay2 x4) (k0_pay5 x0 x1 x2 x3 x6) (k0_pay6 x0 x1 x2 x3 x5) corr (ix2 i f) = delta (x4 (ix2 i f)) (x5 (ix2 i f)) (x6 (ix2 i f)) g
    ∧ k0_pay4 x0 x1 x2 x3 x5 (ix2 i f) = first (x5 (ix2 i f)) g ∧ k0_pay5 x0 x1 x2 x3 x6 (ix2 i f) = second (x6 (ix2 i f)) g := by
  have h3 : k0_pay3 x0 x1 x2 x3 (ix2 i f) = g := by rw [← hg]; pointwise [k0_pay3]
  refine ⟨h3, ?_, ?_, ?_⟩ <;> rw [← h3]
  · pointwise [k0_pay1, k0_pay2, k0_pay3, k0_pay4, k0_pay5, k0_pay6, first, second, delta]
  · pointwise [k0_pay4, first]
  · pointwise [k0_pay5, second]

end

section
variable (i : grid0.Coords) (arg3 : Memref sig .tc .vmem S1x770x512 .bf16) (harg3 : arg3.IsWhole) (arg4 : Memref sig .tc .vmem S1x770x512 .bf16)
  (harg4 : arg4.IsWhole) (arg5 : Memref sig .tc .vmem S1x770x512 .bf16) (harg5 : arg5.IsWhole) (arg6 : Memref sig .tc .vmem S1x770x512 .bf16)
  (harg6 : arg6.IsWhole) (arg7 : Memref sig .tc .vmem S770x512 .f32) (harg7 : arg7.IsWhole) (arg8 : Memref sig .tc .vmem S770x512 .f32)
  (harg8 : arg8.IsWhole) (arg9 : Memref sig .tc .vmem S770x512 .f32) (harg9 : arg9.IsWhole) (arg10 : Memref sig .tc .vmem S770x512 .f32)
  (harg10 : arg10.IsWhole) (arg11 : Memref sig .tc .vmem S770x512 .f32) (harg11 : arg11.IsWhole) (arg12 : Memref sig .tc .vmem S770x512 .f32)
  (harg12 : arg12.IsWhole) (arg13 : Memref sig .tc .vmem S770x512 .f32) (harg13 : arg13.IsWhole)
  (x0 x1 x2 x3 : Vec Ideal S1x770x512 .bf16) (x4 x5 x6 : Vec Ideal S770x512 .f32) (xt : TbBuf0 (F := Ideal) c tbM0_0)

/-- What the body leaves in its four results. -/
theorem outs :
    out0_A_7 (F := Ideal) c i arg3 harg3 arg4 harg4 arg5 harg5 arg6 harg6 arg7 harg7 arg8 harg8 arg9 harg9 arg10 harg10 arg11 harg11 arg12 harg12 arg13 harg13 x0 x1 x2 x3 x4 x5 x6 xt
      = k0_pay3 x0 x1 x2 x3
    ∧ out0_A_8 (F := Ideal) c i arg3 harg3 arg4 harg4 arg5 harg5 arg6 harg6 arg7 harg7 arg8 harg8 arg9 harg9 arg10 harg10 arg11 harg11 arg12 harg12 arg13 harg13 x0 x1 x2 x3 x4 x5 x6 xt
      = k0_pay1 (k0_pay2 x4) (k0_pay5 x0 x1 x2 x3 x6) (k0_pay6 x0 x1 x2 x3 x5) corr
    ∧ out0_A_9 (F := Ideal) c i arg3 harg3 arg4 harg4 arg5 harg5 arg6 harg6 arg7 harg7 arg8 harg8 arg9 harg9 arg10 harg10 arg11 harg11 arg12 harg12 arg13 harg13 x0 x1 x2 x3 x4 x5 x6 xt
      = k0_pay4 x0 x1 x2 x3 x5
    ∧ out0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 xt
      = k0_pay5 x0 x1 x2 x3 x6 := by
  have slab (v : Vec Ideal S1x770x512 .bf16) : View.ld v (Rect.unit ![0, 0, 0] ![1, 770, 512] inb_S1x770x512_S1x770x512_0_0_0) = v :=
    View.ld_unit_zero (by funext a; fin_cases a <;> rfl) _ v
  have flat (v : Vec Ideal S770x512 .f32) : View.ld v (Rect.unit ![0, 0] ![770, 512] inb_S770x512_S770x512_0_0) = v :=
    View.ld_unit_zero (by funext a; fin_cases a <;> rfl) _ v
  refine ⟨(View.read_writes_eq_canon _ _ _ (cover0_A_7 (F := Ideal) _ _ _ _ _ _ _ _ _ _ _ _ _ _ _ _ _ _ _ _ _ _ _ _ _ _ _ _ _ _ _ _)).trans ?_,
    (View.read_writes_eq_canon _ _ _ (cover0_A_8 (F := Ideal) _ _ _ _ _ _ _ _ _ _ _ _ _ _ _ _ _ _ _ _ _ _ _ _ _ _ _ _ _ _ _ _)).trans ?_,
    (View.read_writes_eq_canon _ _ _ (cover0_A_9 (F := Ideal) _ _ _ _ _ _ _ _ _ _ _ _ _ _ _ _ _ _ _ _ _ _ _ _ _ _ _ _ _ _ _ _)).trans ?_,
    (View.read_writes_eq_canon _ _ _ (cover0_A_10 (F := Ideal) _ _ _ _ _ _ _ _ _ _ _ _ _ _ _ _ _ _ _ _ _ _ _ _ _ _ _ _ _ _ _ _)).trans ?_⟩
  all_goals
    unfold kernelRun0_A
    dsimp only
    sl_unfold_words
    simp only [View.readAt_eq_ld, harg3.read_unread, harg4.read_unread, harg5.read_unread, harg6.read_unread, harg7.read_unread, harg8.read_unread,
      harg9.read_unread, slab, flat]
    exact View.canon_unit_zero (by funext a; fin_cases a <;> rfl) _ _

end

/-! The arrays. -/

theorem left (t : Fin (cfgM m (ok m)).N) (i : Fin 770) (f : Fin 512) :
    (outsAt0 m (ok m) c t).1 (ix2 i f) = rG m c (ix3 0 ⟨t.val * 512 + f.val, lt m t f⟩ i)
    ∧ (outsAt0 m (ok m) c t).2.1 (ix2 i f) = rD m c (ix3 0 ⟨t.val * 512 + f.val, lt m t f⟩ i)
    ∧ (outsAt0 m (ok m) c t).2.2.1 (ix2 i f) = rF m c (ix3 0 ⟨t.val * 512 + f.val, lt m t f⟩ i)
    ∧ (outsAt0 m (ok m) c t).2.2.2 (ix2 i f) = rS m c (ix3 0 ⟨t.val * 512 + f.val, lt m t f⟩ i) := by
  obtain ⟨hg, hd, hf, hs⟩ := pay (iblk m (ok m) c 0 t) (iblk m (ok m) c 1 t) (iblk m (ok m) c 2 t) (iblk m (ok m) c 3 t) (iblk m (ok m) c 4 t)
    (iblk m (ok m) c 5 t) (iblk m (ok m) c 6 t) i f (rG m c (ix3 0 ⟨t.val * 512 + f.val, lt m t f⟩ i))
    (congrArg₂ (· + ·) (congrArg₂ (· + ·) (congrArg₂ (· + ·) (blk_own m c t i f) (blk_in m c t i f 0)) (blk_in m c t i f 1)) (blk_in m c t i f 2))
  rw [blk_w, blk_m, blk_v] at hd
  rw [blk_m] at hf
  rw [blk_v] at hs
  unfold outsAt0
  dsimp only
  exact ⟨(congrFun (outs ..).1 _).trans hg, (congrFun (outs ..).2.1 _).trans hd, (congrFun (outs ..).2.2.1 _).trans hf, (congrFun (outs ..).2.2.2 _).trans hs⟩

/-- The point that stores an entry. -/
def point (i : S770x2048.Idx) : Fin (cfgM m (ok m)).N :=
  ⟨(i 1).val / 512, lt_of_lt_of_eq (by have h : (i 1).val < 2048 := (i 1).isLt; omega) N_0.symm⟩

theorem arr_7 : (dats m (ok m) 0 c).arrAt 7 (cfgM m (ok m)).N = across (rG m c) :=
  (dats m (ok m) 0 c).arrAt_eq_of_cover 7 _
    (fun t _ => (congrArg (((cfgM m (ok m)).win 7).cut _) (after0_7 m (ok m) c t)).trans
      (funext fun j => stored (rG m c) _ j _ _ t.val (lt m t) ((idx t).2.2 3) (fun _ => rfl) fun i f => (left m c t i f).1))
    (fun i => ⟨point m i, flush0_7 _ _, (congrArg (i ∈ ·) (View.set_slice_whole main_v10_0 (((cfgM m (ok m)).win 7).rect (point m i)))).mpr
      (Rect.mem_set_unit.mpr (held 512 (by decide) i _ ((idx (point m i)).2.2 3)))⟩)

theorem arr_8 : (dats m (ok m) 0 c).arrAt 8 (cfgM m (ok m)).N = across (rD m c) :=
  (dats m (ok m) 0 c).arrAt_eq_of_cover 8 _
    (fun t _ => (congrArg (((cfgM m (ok m)).win 8).cut _) (after0_8 m (ok m) c t)).trans
      (funext fun j => stored (rD m c) _ j _ _ t.val (lt m t) ((idx t).2.2 4) (fun _ => rfl) fun i f => (left m c t i f).2.1))
    (fun i => ⟨point m i, flush0_8 _ _, (congrArg (i ∈ ·) (View.set_slice_whole main_v10_1 (((cfgM m (ok m)).win 8).rect (point m i)))).mpr
      (Rect.mem_set_unit.mpr (held 512 (by decide) i _ ((idx (point m i)).2.2 4)))⟩)

theorem arr_9 : (dats m (ok m) 0 c).arrAt 9 (cfgM m (ok m)).N = across (rF m c) :=
  (dats m (ok m) 0 c).arrAt_eq_of_cover 9 _
    (fun t _ => (congrArg (((cfgM m (ok m)).win 9).cut _) (after0_9 m (ok m) c t)).trans
      (funext fun j => stored (rF m c) _ j _ _ t.val (lt m t) ((idx t).2.2 5) (fun _ => rfl) fun i f => (left m c t i f).2.2.1))
    (fun i => ⟨point m i, flush0_9 _ _, (congrArg (i ∈ ·) (View.set_slice_whole main_v10_2 (((cfgM m (ok m)).win 9).rect (point m i)))).mpr
      (Rect.mem_set_unit.mpr (held 512 (by decide) i _ ((idx (point m i)).2.2 5)))⟩)

theorem arr_10 : (dats m (ok m) 0 c).arrAt 10 (cfgM m (ok m)).N = across (rS m c) :=
  (dats m (ok m) 0 c).arrAt_eq_of_cover 10 _
    (fun t _ => (congrArg (((cfgM m (ok m)).win 10).cut _) (after0_10 m (ok m) c t)).trans
      (funext fun j => stored (rS m c) _ j _ _ t.val (lt m t) ((idx t).2.2 6) (fun _ => rfl) fun i f => (left m c t i f).2.2.2))
    (fun i => ⟨point m i, flush0_10 _ _, (congrArg (i ∈ ·) (View.set_slice_whole main_v10_3 (((cfgM m (ok m)).win 10).rect (point m i)))).mpr
      (Rect.mem_set_unit.mpr (held 512 (by decide) i _ ((idx (point m i)).2.2 6)))⟩)

/-! After the points, the host turns the four arrays back. -/

/-- What the points leave, before the host's last operations. -/
abbrev mid : Valuation τ sig (Elt Ideal) := Pipeline.withArrays (Pipeline.pin pcfgs (fun _ => adm m (ok m)) 0).spec c (V0 m c)
  fun w => (dats m (ok m) 0 c).arrAt w (cfgM m (ok m)).N

theorem mid_arr (w : Fin (cfgM m (ok m)).W) : mid m c (Proc.devRef .tc (Pipeline.arrRef spec0 w)) = (dats m (ok m) 0 c).arrAt w (cfgM m (ok m)).N :=
  Pipeline.withArrays_arr_shared _ c _ _ ((dats m (ok m) 0 c).arrAt_sharedIn sharedIn0 (V0 m c) (A_eq m (ok m) c) _) w

/-- One of the four, once its array is known. -/
abbrev back (B : Vec Ideal S770x2048 .f32) : Vec Ideal S1x2048x770 .f32 :=
  broadcastInDim S1x2048x770 ![1, 2] bcast_S2048x770_S1x2048x770_1_2 (transpose S2048x770 [1, 0] B transposes_S770x2048_S2048x770_1_0 : Vec Ideal S2048x770 .f32)

theorem last (W : Valuation τ sig (Elt Ideal)) :
    StableHlo.after hostOps1 W (Proc.devRef .tc main_v12) = back (W (Proc.devRef .tc main_v10_0))
    ∧ StableHlo.after hostOps1 W (Proc.devRef .tc main_v14) = back (W (Proc.devRef .tc main_v10_1))
    ∧ StableHlo.after hostOps1 W (Proc.devRef .tc main_v16) = back (W (Proc.devRef .tc main_v10_2))
    ∧ StableHlo.after hostOps1 W (Proc.devRef .tc main_v18) = back (W (Proc.devRef .tc main_v10_3)) := by
  refine ⟨?_, ?_, ?_, ?_⟩ <;> after_reads_simp

/-- The kernel's run, each result named. -/
theorem run (g : Dev nD → PrngReg) : θ_run defs (onTc (τ := τ) (main (F := Ideal))) ⟨m, fun _ => 0, g⟩ fun r => ∀ c : Dev nD,
    r.2.mem ((c : Thread nD τ).loc main_v12) = rG m c ∧ r.2.mem ((c : Thread nD τ).loc main_v14) = rD m c
      ∧ r.2.mem ((c : Thread nD τ).loc main_v16) = rF m c ∧ r.2.mem ((c : Thread nD τ).loc main_v18) = rS m c :=
  (θ_run defs _ _).mono (fun _ h c =>
    ⟨((h c).2 main_v12 (by decide : main_v12 ∈ Pipeline.restRefs sig spec0)).trans
        ((last (mid m c)).1.trans ((congrArg back ((mid_arr m c 7).trans (arr_7 m c))).trans (turned_back (rG m c)))),
      ((h c).2 main_v14 (by decide : main_v14 ∈ Pipeline.restRefs sig spec0)).trans
        ((last (mid m c)).2.1.trans ((congrArg back ((mid_arr m c 8).trans (arr_8 m c))).trans (turned_back (rD m c)))),
      ((h c).2 main_v16 (by decide : main_v16 ∈ Pipeline.restRefs sig spec0)).trans
        ((last (mid m c)).2.2.1.trans ((congrArg back ((mid_arr m c 9).trans (arr_9 m c))).trans (turned_back (rF m c)))),
      ((h c).2 main_v18 (by decide : main_v18 ∈ Pipeline.restRefs sig spec0)).trans
        ((last (mid m c)).2.2.2.trans ((congrArg back ((mid_arr m c 10).trans (arr_10 m c))).trans (turned_back (rS m c))))⟩) (run_main m g (ok m))

/-! The claims. -/

theorem frame : Cert.quiescent_Kernel19 := fun m g _ => Cert.Kernel19.Gen.frame m g (ok_words m)

theorem frame_ideal : Cert.quiescent_Kernel19Ideal := fun m g _ => Cert.Kernel19Ideal.Gen.frame m g (ok m)

theorem frame_reference : Cert.quiescent_Reference19Ideal := fun m g _ =>
  (θ_run Cert.Reference19Ideal.defs _ _).mono
    (fun r h => ⟨fun c => (h c).2.2.2.2, sem_eq_zero_of_no_sems (by decide) r.2⟩)
    (Cert.Reference19Ideal.Value.run (F := Ideal) m g)

/-- The kernel leaves the gradient, the step and the two moments, as the reference does. -/
theorem same : Cert.algebraic_Kernel19Ideal_Reference19Ideal := by
  intro m g m' g' _ hargs
  refine ⟨rG m, rD m, rF m, rS m, ?_, ?_⟩
  · exact (θ_run Cert.Kernel19Ideal.defs _ _).mono (fun r h c => ⟨(h.1 c).1, (h.1 c).2.1, (h.1 c).2.2.1, (h.1 c).2.2.2, h.2 c⟩)
      (θ_run_and (run m g) (unchanged m g (ok m)))
  · refine (θ_run Cert.Reference19Ideal.defs _ _).mono (fun r h c => ⟨(h c).1.trans ?_, (h c).2.1.trans ?_, (h c).2.2.1.trans ?_, (h c).2.2.2.1.trans ?_, (h c).2.2.2.2⟩)
      (Cert.Reference19Ideal.Value.run (F := Ideal) m' g')
    all_goals
      simp only [(hargs c).1, (hargs c).2.1, (hargs c).2.2.1, (hargs c).2.2.2.1, (hargs c).2.2.2.2]
      funext j
      idx_vars j
      pointwise [grad, deltas, firsts, seconds, delta, first, second, turn]
      simp only [Fin.sum_univ_three, ← add_assoc]

end Cert.Tail.Step19

end
-- ==== Proof.Tail.Layer.lean ====
module

public import proofs.«01_k».proof.Proof.Tail.Adam

@[expose] public section

noncomputable section

/-! Arrays that hold one weight for each layer, of which a kernel stores one layer's, a tile of whole rows to a point. -/

namespace Cert.Tail.Layer

open Idealize.ShloMosaic
open Cert.Ffn Cert.Tail.Tile Cert.Tail.Adam

section
variable {n R C T : ℕ} {α : Type}

/-- One layer of an array. -/
def layer (l : Fin n) (A : (⟨3, ![n, R, C]⟩ : Shape).Idx → α) : (⟨3, ![1, R, C]⟩ : Shape).Idx → α := fun j => A (ix3 l (j 1) (j 2))

/-- The same values at every layer. -/
def every (B : (⟨3, ![1, R, C]⟩ : Shape).Idx → α) : (⟨3, ![n, R, C]⟩ : Shape).Idx → α := fun j => B (ix3 0 (j 1) (j 2))

/-- An array with one layer put in place of its own. -/
def put (l : Fin n) (B : (⟨3, ![1, R, C]⟩ : Shape).Idx → α) (A : (⟨3, ![n, R, C]⟩ : Shape).Idx → α) : (⟨3, ![n, R, C]⟩ : Shape).Idx → α :=
  fun j => if (j 0).val = l.val then every B j else A j

/-- A tile's entry is the layer's, once each entry is by its row and column. -/
theorem stored (l : Fin n) (A : (⟨3, ![1, R, C]⟩ : Shape).Idx → α) (B : (⟨3, ![1, T, C]⟩ : Shape).Idx → α)
    (j : (⟨3, ![1, T, C]⟩ : Shape).Idx) (p : (⟨3, ![n, R, C]⟩ : Shape).Idx) (g : Fin 3 → ℕ) (t : ℕ) (h : ∀ i : Fin T, t * T + i.val < R)
    (hg : g = ![l.val, t, 0]) (hp : ∀ a, (p a).val = g a * (![1, T, C] : Fin 3 → ℕ) a + 1 * (j a).val)
    (hB : ∀ i f, B (ix3 0 i f) = A (ix3 0 ⟨t * T + i.val, h i⟩ f)) : B j = every A p := by
  obtain ⟨i, f, rfl⟩ := split j
  exact (hB i f).trans (row (every A) p g l t i.val f (h i) hg (hp 0) (hp 1) (hp 2)).symm

/-- The tile that holds an entry of the layer. -/
theorem held (hT : 0 < T) (i : (⟨3, ![n, R, C]⟩ : Shape).Idx) (l : ℕ) (hl : (i 0).val = l) (g : Fin 3 → ℕ) (hg : g = ![l, (i 1).val / T, 0]) :
    ∀ a, g a * (![1, T, C] : Fin 3 → ℕ) a ≤ (i a).val ∧ (i a).val < g a * (![1, T, C] : Fin 3 → ℕ) a + (![1, T, C] : Fin 3 → ℕ) a := by
  subst hg hl
  have h2 : (i 2).val < C := (i 2).isLt
  exact fun a => match a with
    | ⟨0, _⟩ => Cert.Mat.in_block (i 0).val _ 1 Nat.one_pos (Nat.div_one _).symm
    | ⟨1, _⟩ => Cert.Mat.in_block (i 1).val _ T hT rfl
    | ⟨2, _⟩ => (by omega : 0 * C ≤ (i 2).val ∧ (i 2).val < 0 * C + C)

/-- A tile of the layer holds none but the layer's. -/
theorem only (i : (⟨3, ![n, R, C]⟩ : Shape).Idx) (l t : ℕ) (g : Fin 3 → ℕ) (hg : g = ![l, t, 0])
    (h : ∀ a, g a * (![1, T, C] : Fin 3 → ℕ) a ≤ (i a).val ∧ (i a).val < g a * (![1, T, C] : Fin 3 → ℕ) a + (![1, T, C] : Fin 3 → ℕ) a) :
    (i 0).val = l := by
  subst hg
  have h0 : l * 1 ≤ (i 0).val ∧ (i 0).val < l * 1 + 1 := h 0
  omega

end

/-! A tile of the optimizer's step. -/

section
variable {R C T : ℕ} (x0 : (⟨2, ![T, C]⟩ : Shape).Idx → EReal) (x1 x2 x3 x4 x5 x6 o7 o8 o9 o10 : (⟨3, ![1, T, C]⟩ : Shape).Idx → EReal)

/-- An entry of the gradient. -/
abbrev sum4 (i : Fin T) (f : Fin C) : EReal := x0 (ix2 i f) + x1 (ix3 0 i f) + x2 (ix3 0 i f) + x3 (ix3 0 i f)

/-- The four results of a step, from a tile of each of its seven arguments. -/
def Stepped : Prop := ∀ i f, o7 (ix3 0 i f) = sum4 x0 x1 x2 x3 i f
  ∧ o8 (ix3 0 i f) = delta (x4 (ix3 0 i f)) (x5 (ix3 0 i f)) (x6 (ix3 0 i f)) (sum4 x0 x1 x2 x3 i f)
  ∧ o9 (ix3 0 i f) = first (x5 (ix3 0 i f)) (sum4 x0 x1 x2 x3 i f) ∧ o10 (ix3 0 i f) = second (x6 (ix3 0 i f)) (sum4 x0 x1 x2 x3 i f)

variable {x0 x1 x2 x3 x4 x5 x6 o7 o8 o9 o10}

/-- They are tiles of the four arrays, where the arguments are tiles of theirs. -/
theorem Stepped.tiles (hs : Stepped x0 x1 x2 x3 x4 x5 x6 o7 o8 o9 o10) {p : (⟨3, ![4, R, C]⟩ : Shape).Idx → EReal}
    {q : (⟨3, ![3, R, C]⟩ : Shape).Idx → EReal} {w m v : (⟨3, ![1, R, C]⟩ : Shape).Idx → EReal} (r : Fin T → Fin R)
    (h0 : ∀ i f, x0 (ix2 i f) = p (ix3 0 (r i) f))
    (h1 : ∀ (d : Fin 3) i f, (![x1 (ix3 0 i f), x2 (ix3 0 i f), x3 (ix3 0 i f)] : Fin 3 → EReal) d = q (ix3 d (r i) f))
    (hw : ∀ i f, x4 (ix3 0 i f) = w (ix3 0 (r i) f)) (hm : ∀ i f, x5 (ix3 0 i f) = m (ix3 0 (r i) f))
    (hv : ∀ i f, x6 (ix3 0 i f) = v (ix3 0 (r i) f)) (i : Fin T) (f : Fin C) :
    o7 (ix3 0 i f) = grad p q (ix3 0 (r i) f) ∧ o8 (ix3 0 i f) = deltas p q w m v (ix3 0 (r i) f)
    ∧ o9 (ix3 0 i f) = firsts p q m (ix3 0 (r i) f) ∧ o10 (ix3 0 i f) = seconds p q v (ix3 0 (r i) f) := by
  have hg : sum4 x0 x1 x2 x3 i f = grad p q (ix3 0 (r i) f) :=
    congrArg₂ (· + ·) (congrArg₂ (· + ·) (congrArg₂ (· + ·) (h0 i f) (h1 0 i f)) (h1 1 i f)) (h1 2 i f)
  have h := hs i f
  rw [hg, hw, hm, hv] at h
  exact h

end

end Cert.Tail.Layer

end
-- ==== Proof.Tail.Step20.lean ====
module

public import proofs.«01_k».proof.Defs
public import proofs.«01_k».proof.Proof.Tail.Layer
public import proofs.«01_k».proof.Proof.Gen.Kernel20.Frame
public import proofs.«01_k».proof.Proof.Gen.Kernel20Ideal.Frame
public import proofs.«01_k».proof.Proof.Gen.Reference20Ideal.Run
public import Idealize.ShloMosaic.Lib.Quiescent

@[expose] public section

set_option maxRecDepth 16384

noncomputable section

/-! The optimizer's step of the feed-forward block's first weight, at its last layer: the layer that its eight points store. -/

namespace Cert.Tail.Step20

open Idealize.ShloMosaic Idealize.ShloMosaic.TcCoe Idealize.ShloMosaic.Tactic Idealize.SL.Sem
open Cert.Ffn Cert.Tail.Adam Cert.Tail.Layer
open Cert.Tail.Tile (row row2 split)
open Cert.Kernel20Ideal Cert.Kernel20Ideal.Gen

section
variable {F : FTy → Type} [FloatOps F] (m : (ℓ : Loc nD τ sig) → Buf (Elt F) ℓ)

/-- A number of the table, as the host makes it. -/
abbrev entry : (⟨S1, .i32⟩ : BufTy).Contents (Elt F) := broadcastInDim S1 ![] bcast_S_S1 (constantI S_ 32 0#32 : (⟨S_, .i32⟩ : BufTy).Contents (Elt F))

theorem table : (tbl m 0 : Vec F S2 .i32) = fun _ => 0#32 :=
  have h : V m (0 : Dev nD) main_v3 = concatenate S2 0 [⟨S1, entry (F := F)⟩, ⟨S1, entry (F := F)⟩] concatenates_S1_S1_S2_d0 := by
    show StableHlo.after hostOps0 (fun b => m (0, b)) (Proc.devRef .tc main_v3) = _
    after_reads_simp
    rfl
  h.trans (funext fun j => by idx_vars j; pointwise; split_ifs <;> rfl)

theorem own (i : grid0.Coords) : cc0_transform_0 inb_S2_S1_1 numel1_S1 (tbl m) i = ![(i 0).val, 0] := by
  have hi : (i 0).val < 8 := (i 0).isLt
  have h : (tbl m).at 0 (Rect.unit (s := S2) ![1] S1.size inb_S2_S1_1) numel1_S1 = 0#32 := congrFun (table m) _
  unfold cc0_transform_0
  dsimp only
  rw [h, word 8#32 (i 0).val (by omega)]
  rfl

/-- The device's own part is found within its array. -/
theorem ok : Ok m := by
  intro i
  have hi : (i 0).val < 8 := (i 0).isLt
  have key : ∀ g : Fin 2 → ℕ, g = ![(i 0).val, 0] → ∃ h : (∀ a, (g a + 1) * S256x1024.size a ≤ S8192x1024.size a),
      EltTy.bits .bf16 = 32 ∨ (Rect.block (s := S8192x1024) S256x1024.size g h).WholeWords (EltTy.packing .bf16) := by
    rintro _ rfl
    exact ⟨fun a => match a with
      | ⟨0, _⟩ => (by omega : ((i 0).val + 1) * 256 ≤ 8192)
      | ⟨1, _⟩ => (by omega : (0 + 1) * 1024 ≤ 1024), .inr (Affine.block_words_dvd (of_decide_eq_true rfl) (by decide))⟩
  exact key _ (own m i)

end

/-- The same of the kernel at its own words. -/
theorem ok_words (m : (ℓ : Loc Cert.Kernel20.nD Cert.Kernel20.τ Cert.Kernel20.sig) → Buf (Elt Bits) ℓ) : Cert.Kernel20.Gen.Ok m :=
  ok (F := Bits) m

/-- Where the other windows are at a point: the three parts that came in, and the last layer of the rest. -/
theorem idx : ∀ t : Fin grid0.N, (grid0.coords t 0).val = t.val
    ∧ (∀ d : Fin 3, (![cc0_transform_1 (grid0.coords t), cc0_transform_2 (grid0.coords t), cc0_transform_3 (grid0.coords t)] : Fin 3 → Fin 3 → ℕ) d
      = ![d.val, t.val, 0])
    ∧ ∀ w : Fin 7, (![cc0_transform_4 (grid0.coords t), cc0_transform_5 (grid0.coords t), cc0_transform_6 (grid0.coords t),
      cc0_transform_7 (grid0.coords t), cc0_transform_8 (grid0.coords t), cc0_transform_9 (grid0.coords t), cc0_transform_10 (grid0.coords t)] :
        Fin 7 → Fin 3 → ℕ) w = ![1, t.val, 0] := by decide +kernel

variable (m : (ℓ : Loc nD τ sig) → Buf (Elt Ideal) ℓ) (c : Dev nD)

theorem lt (t : Fin (cfgM m (ok m)).N) (i : Fin 256) : t.val * 256 + i.val < 2048 := by
  have h : t.val < 8 := lt_of_lt_of_eq t.isLt N_0
  omega

/-- The arguments: the device's own part, the three that came in, and the last layer of the weight and of its moments. -/
abbrev aP : Vec Ideal S4x2048x1024 .bf16 := m ((c.tc : Thread nD τ).loc main_arg0)
abbrev aQ : Vec Ideal S3x2048x1024 .bf16 := m ((c.tc : Thread nD τ).loc main_arg1)
abbrev aW : Vec Ideal S1x2048x1024 .f32 := layer (1 : Fin 2) (m ((c.tc : Thread nD τ).loc main_arg2) : Vec Ideal S2x2048x1024 .f32)
abbrev aM : Vec Ideal S1x2048x1024 .f32 := layer (1 : Fin 2) (m ((c.tc : Thread nD τ).loc main_arg3) : Vec Ideal S2x2048x1024 .f32)
abbrev aV : Vec Ideal S1x2048x1024 .f32 := layer (1 : Fin 2) (m ((c.tc : Thread nD τ).loc main_arg4) : Vec Ideal S2x2048x1024 .f32)

/-- The results. -/
abbrev rG : Vec Ideal S1x2048x1024 .f32 := grad (aP m c) (aQ m c)
abbrev rD : Vec Ideal S1x2048x1024 .f32 := deltas (aP m c) (aQ m c) (aW m c) (aM m c) (aV m c)
abbrev rF : Vec Ideal S1x2048x1024 .f32 := firsts (aP m c) (aQ m c) (aM m c)
abbrev rS : Vec Ideal S1x2048x1024 .f32 := seconds (aP m c) (aQ m c) (aV m c)

/-- The parts laid end to end: the first rows are the first part's. -/
theorem joined (A : Vec Ideal S4x2048x1024 .bf16) (r : Fin 2048) (f : Fin 1024) :
    (shapeCast S8192x1024 A shapeCasts_S4x2048x1024_S8192x1024 : Vec Ideal S8192x1024 .bf16) (ix2 ⟨r.val, by omega⟩ f) = A (ix3 0 r f) := by
  pointwise
  exact at3 A _ _ _ _ (by show r.val / 2048 = 0; omega) (by show r.val % 2048 = r.val; omega) rfl

theorem V_v4 : V m c main_v4 = shapeCast S8192x1024 (aP m c) shapeCasts_S4x2048x1024_S8192x1024 := by
  show StableHlo.after hostOps0 (fun b => m (c, b)) (Proc.devRef .tc main_v4) = _
  after_reads_simp
  rfl

/-! The blocks of a point. -/

section
variable (t : Fin (cfgM m (ok m)).N)

/-- The array's row for a tile's. -/
abbrev rowAt (i : Fin 256) : Fin 2048 := ⟨t.val * 256 + i.val, lt m t i⟩

theorem blk_own (i : Fin 256) (f : Fin 1024) : (iblk m (ok m) c 0 t : Vec Ideal S256x1024 .bf16) (ix2 i f) = aP m c (ix3 0 (rowAt m t i) f) :=
  (row2 (V m c main_v4 : Vec Ideal S8192x1024 .bf16) _ _ t.val i.val f (lt_trans (lt m t i) (by decide))
      ((own m (grid0.coords t)).trans (congrArg (fun k => (![k, 0] : Fin 2 → ℕ)) (idx t).1)) rfl rfl).trans
    ((congrFun (V_v4 m c) _).trans (joined (aP m c) (rowAt m t i) f))

theorem blk_in (d : Fin 3) (i : Fin 256) (f : Fin 1024) :
    (![(iblk m (ok m) c 1 t : Vec Ideal S1x256x1024 .bf16) (ix3 0 i f), (iblk m (ok m) c 2 t : Vec Ideal S1x256x1024 .bf16) (ix3 0 i f),
      (iblk m (ok m) c 3 t : Vec Ideal S1x256x1024 .bf16) (ix3 0 i f)] : Fin 3 → EReal) d = aQ m c (ix3 d (rowAt m t i) f) := by
  have h := (idx t).2.1
  fin_cases d <;> exact (congrFun (V_main_arg1 m c) _).trans (row (aQ m c) _ _ _ t.val i.val f (lt m t i) (h _) rfl rfl rfl)

theorem blk_w (i : Fin 256) (f : Fin 1024) : (iblk m (ok m) c 4 t : Vec Ideal S1x256x1024 .f32) (ix3 0 i f) = aW m c (ix3 0 (rowAt m t i) f) :=
  (congrFun (V_main_arg2 m c) _).trans
    (row (m ((c.tc : Thread nD τ).loc main_arg2) : Vec Ideal S2x2048x1024 .f32) _ _ 1 t.val i.val f (lt m t i) ((idx t).2.2 0) rfl rfl rfl)

theorem blk_m (i : Fin 256) (f : Fin 1024) : (iblk m (ok m) c 5 t : Vec Ideal S1x256x1024 .f32) (ix3 0 i f) = aM m c (ix3 0 (rowAt m t i) f) :=
  (congrFun (V_main_arg3 m c) _).trans
    (row (m ((c.tc : Thread nD τ).loc main_arg3) : Vec Ideal S2x2048x1024 .f32) _ _ 1 t.val i.val f (lt m t i) ((idx t).2.2 1) rfl rfl rfl)

theorem blk_v (i : Fin 256) (f : Fin 1024) : (iblk m (ok m) c 6 t : Vec Ideal S1x256x1024 .f32) (ix3 0 i f) = aV m c (ix3 0 (rowAt m t i) f) :=
  (congrFun (V_main_arg4 m c) _).trans
    (row (m ((c.tc : Thread nD τ).loc main_arg4) : Vec Ideal S2x2048x1024 .f32) _ _ 1 t.val i.val f (lt m t i) ((idx t).2.2 2) rfl rfl rfl)

end

/-! What is stored from a point's blocks. -/

section
variable (x0 : Vec Ideal S256x1024 .bf16) (x1 x2 x3 : Vec Ideal S1x256x1024 .bf16) (x4 x5 x6 : Vec Ideal S1x256x1024 .f32)

theorem pay : Stepped x0 x1 x2 x3 x4 x5 x6 (k0_pay1 (k0_pay6 x0 x1 x2 x3)) (k0_pay2 (k0_pay5 x4) (k0_pay8 x0 x1 x2 x3 x6) (k0_pay9 x0 x1 x2 x3 x5))
    (k0_pay3 (k0_pay7 x0 x1 x2 x3 x5)) (k0_pay4 (k0_pay8 x0 x1 x2 x3 x6)) := by
  intro i f
  refine ⟨?_, ?_, ?_, ?_⟩
  · pointwise [k0_pay1, k0_pay6]
  · pointwise [k0_pay2, k0_pay5, k0_pay7, k0_pay8, k0_pay9, k0_pay6, first, second, delta]
  · pointwise [k0_pay3, k0_pay7, k0_pay6, first]
  · pointwise [k0_pay4, k0_pay8, k0_pay6, second]

variable (i : grid0.Coords) (arg2 : Memref sig .tc .vmem S256x1024 .bf16) (harg2 : arg2.IsWhole) (arg3 : Memref sig .tc .vmem S1x256x1024 .bf16)
  (harg3 : arg3.IsWhole) (arg4 : Memref sig .tc .vmem S1x256x1024 .bf16) (harg4 : arg4.IsWhole) (arg5 : Memref sig .tc .vmem S1x256x1024 .bf16)
  (harg5 : arg5.IsWhole) (arg6 : Memref sig .tc .vmem S1x256x1024 .f32) (harg6 : arg6.IsWhole) (arg7 : Memref sig .tc .vmem S1x256x1024 .f32)
  (harg7 : arg7.IsWhole) (arg8 : Memref sig .tc .vmem S1x256x1024 .f32) (harg8 : arg8.IsWhole) (arg9 : Memref sig .tc .vmem S1x256x1024 .f32)
  (harg9 : arg9.IsWhole) (arg10 : Memref sig .tc .vmem S1x256x1024 .f32) (harg10 : arg10.IsWhole) (arg11 : Memref sig .tc .vmem S1x256x1024 .f32)
  (harg11 : arg11.IsWhole) (arg12 : Memref sig .tc .vmem S1x256x1024 .f32) (harg12 : arg12.IsWhole) (xt : TbBuf0 (F := Ideal) c tbM0_0)

/-- What the body leaves in its four results. -/
theorem outs : Stepped x0 x1 x2 x3 x4 x5 x6
    (out0_A_7 (F := Ideal) c i arg2 harg2 arg3 harg3 arg4 harg4 arg5 harg5 arg6 harg6 arg7 harg7 arg8 harg8 arg9 harg9 arg10 harg10 arg11 harg11 arg12 harg12 x0 x1 x2 x3 x4 x5 x6 xt)
    (out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 xt)
    (out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 xt)
    (out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 xt) := by
  have flat (v : Vec Ideal S256x1024 .bf16) : View.ld v (Rect.unit ![0, 0] ![256, 1024] inb_S256x1024_S256x1024_0_0) = v :=
    View.ld_unit_zero (by funext a; fin_cases a <;> rfl) _ v
  have slab {e : EltTy} (v : Vec Ideal S1x256x1024 e) : View.ld v (Rect.unit ![0, 0, 0] ![1, 256, 1024] inb_S1x256x1024_S1x256x1024_0_0_0) = v :=
    View.ld_unit_zero (by funext a; fin_cases a <;> rfl) _ v
  convert pay x0 x1 x2 x3 x4 x5 x6 using 1
  · refine (View.read_writes_eq_canon _ _ _ (cover0_A_7 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, flat, slab]
    exact View.canon_unit_zero (by funext a; fin_cases a <;> rfl) _ _
  · refine (View.read_writes_eq_canon _ _ _ (cover0_A_8 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg6.read_unread, harg7.read_unread,
      harg8.read_unread, flat, slab]
    exact View.canon_unit_zero (by funext a; fin_cases a <;> rfl) _ _
  · refine (View.read_writes_eq_canon _ _ _ (cover0_A_9 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg7.read_unread, flat, slab]
    exact View.canon_unit_zero (by funext a; fin_cases a <;> rfl) _ _
  · refine (View.read_writes_eq_canon _ _ _ (cover0_A_10 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg8.read_unread, flat, slab]
    exact View.canon_unit_zero (by funext a; fin_cases a <;> rfl) _ _

end

/-! The layer, tile by tile. -/

theorem tiles (t : Fin (cfgM m (ok m)).N) (i : Fin 256) (f : Fin 1024) :
    (outsAt0 m (ok m) c t).1 (ix3 0 i f) = rG m c (ix3 0 (rowAt m t i) f) ∧ (outsAt0 m (ok m) c t).2.1 (ix3 0 i f) = rD m c (ix3 0 (rowAt m t i) f)
    ∧ (outsAt0 m (ok m) c t).2.2.1 (ix3 0 i f) = rF m c (ix3 0 (rowAt m t i) f)
    ∧ (outsAt0 m (ok m) c t).2.2.2 (ix3 0 i f) = rS m c (ix3 0 (rowAt m t i) f) := by
  unfold outsAt0
  dsimp only
  exact Stepped.tiles (outs _ _ _ _ _ _ _ _ _ _ _ _ _ _ _ _ _ _ _ _ _ _ _ _ _ _ _ _ _ _ _ _) (rowAt m t) (blk_own m c t) (blk_in m c t) (blk_w m c t) (blk_m m c t) (blk_v m c t) i f

/-- The point that stores a row. -/
def point (i : Fin 2048) : Fin (cfgM m (ok m)).N := ⟨i.val / 256, lt_of_lt_of_eq (by omega) N_0.symm⟩

section
variable (i : Fin 2048) (f : Fin 1024)

theorem arr_7 : (dats m (ok m) 0 c).arrAt 7 (cfgM m (ok m)).N (ix3 1 i f : S2x2048x1024.Idx) = rG m c (ix3 0 i f) :=
  (dats m (ok m) 0 c).arrAt_apply_of_mem 7 (every (rG m c) : Vec Ideal S2x2048x1024 .f32)
    (fun t _ => (congrArg (((cfgM m (ok m)).win 7).cut _) (after0_7 m (ok m) c t)).trans
      (funext fun j => stored 1 (rG m c) _ j _ _ t.val (lt m t) ((idx t).2.2 3) (fun _ => rfl) fun i f => (tiles m c t i f).1))
    _ (point m i) _ (point m i).isLt (flush0_7 _ _) ((congrArg (_ ∈ ·) (View.set_slice_whole main_v5_0 (((cfgM m (ok m)).win 7).rect (point m i)))).mpr
      (Rect.mem_set_unit.mpr (held (T := 256) (by decide) (ix3 1 i f : S2x2048x1024.Idx) 1 rfl _ ((idx (point m i)).2.2 3))))

theorem arr_8 : (dats m (ok m) 0 c).arrAt 8 (cfgM m (ok m)).N (ix3 1 i f : S2x2048x1024.Idx) = rD m c (ix3 0 i f) :=
  (dats m (ok m) 0 c).arrAt_apply_of_mem 8 (every (rD m c) : Vec Ideal S2x2048x1024 .f32)
    (fun t _ => (congrArg (((cfgM m (ok m)).win 8).cut _) (after0_8 m (ok m) c t)).trans
      (funext fun j => stored 1 (rD m c) _ j _ _ t.val (lt m t) ((idx t).2.2 4) (fun _ => rfl) fun i f => (tiles m c t i f).2.1))
    _ (point m i) _ (point m i).isLt (flush0_8 _ _) ((congrArg (_ ∈ ·) (View.set_slice_whole main_v5_1 (((cfgM m (ok m)).win 8).rect (point m i)))).mpr
      (Rect.mem_set_unit.mpr (held (T := 256) (by decide) (ix3 1 i f : S2x2048x1024.Idx) 1 rfl _ ((idx (point m i)).2.2 4))))

theorem arr_9 : (dats m (ok m) 0 c).arrAt 9 (cfgM m (ok m)).N (ix3 1 i f : S2x2048x1024.Idx) = rF m c (ix3 0 i f) :=
  (dats m (ok m) 0 c).arrAt_apply_of_mem 9 (every (rF m c) : Vec Ideal S2x2048x1024 .f32)
    (fun t _ => (congrArg (((cfgM m (ok m)).win 9).cut _) (after0_9 m (ok m) c t)).trans
      (funext fun j => stored 1 (rF m c) _ j _ _ t.val (lt m t) ((idx t).2.2 5) (fun _ => rfl) fun i f => (tiles m c t i f).2.2.1))
    _ (point m i) _ (point m i).isLt (flush0_9 _ _) ((congrArg (_ ∈ ·) (View.set_slice_whole main_v5_2 (((cfgM m (ok m)).win 9).rect (point m i)))).mpr
      (Rect.mem_set_unit.mpr (held (T := 256) (by decide) (ix3 1 i f : S2x2048x1024.Idx) 1 rfl _ ((idx (point m i)).2.2 5))))

theorem arr_10 : (dats m (ok m) 0 c).arrAt 10 (cfgM m (ok m)).N (ix3 1 i f : S2x2048x1024.Idx) = rS m c (ix3 0 i f) :=
  (dats m (ok m) 0 c).arrAt_apply_of_mem 10 (every (rS m c) : Vec Ideal S2x2048x1024 .f32)
    (fun t _ => (congrArg (((cfgM m (ok m)).win 10).cut _) (after0_10 m (ok m) c t)).trans
      (funext fun j => stored 1 (rS m c) _ j _ _ t.val (lt m t) ((idx t).2.2 6) (fun _ => rfl) fun i f => (tiles m c t i f).2.2.2))
    _ (point m i) _ (point m i).isLt (flush0_10 _ _) ((congrArg (_ ∈ ·) (View.set_slice_whole main_v5_3 (((cfgM m (ok m)).win 10).rect (point m i)))).mpr
      (Rect.mem_set_unit.mpr (held (T := 256) (by decide) (ix3 1 i f : S2x2048x1024.Idx) 1 rfl _ ((idx (point m i)).2.2 6))))

end

/-! After the points, the host takes the layer out of each of the four arrays. -/

/-- What the points leave, before the host's last operations. -/
abbrev mid : Valuation τ sig (Elt Ideal) := Pipeline.withArrays (Pipeline.pin pcfgs (fun _ => adm m (ok m)) 0).spec c (V0 m c)
  fun w => (dats m (ok m) 0 c).arrAt w (cfgM m (ok m)).N

theorem mid_arr (w : Fin (cfgM m (ok m)).W) : mid m c (Proc.devRef .tc (Pipeline.arrRef spec0 w)) = (dats m (ok m) 0 c).arrAt w (cfgM m (ok m)).N :=
  Pipeline.withArrays_arr_shared _ c _ _ ((dats m (ok m) 0 c).arrAt_sharedIn sharedIn0 (V0 m c) (A_eq m (ok m) c) _) w

/-- The layer of an array. -/
abbrev taken (B : Vec Ideal S2x2048x1024 .f32) : Vec Ideal S1x2048x1024 .f32 :=
  extractStridedSlice S1x2048x1024 ![1, 0, 0] B slices_S2x2048x1024_S1x2048x1024_1_0_0

theorem taken_eq (B : Vec Ideal S2x2048x1024 .f32) (A : Vec Ideal S1x2048x1024 .f32) (h : ∀ i f, B (ix3 1 i f) = A (ix3 0 i f)) : taken B = A := by
  funext j
  obtain ⟨i, f, rfl⟩ := split j
  refine Eq.trans ?_ (h i f)
  pointwise [taken]

theorem last (W : Valuation τ sig (Elt Ideal)) :
    StableHlo.after hostOps1 W (Proc.devRef .tc main_v6) = taken (W (Proc.devRef .tc main_v5_0))
    ∧ StableHlo.after hostOps1 W (Proc.devRef .tc main_v7) = taken (W (Proc.devRef .tc main_v5_1))
    ∧ StableHlo.after hostOps1 W (Proc.devRef .tc main_v8) = taken (W (Proc.devRef .tc main_v5_2))
    ∧ StableHlo.after hostOps1 W (Proc.devRef .tc main_v9) = taken (W (Proc.devRef .tc main_v5_3)) := by
  refine ⟨?_, ?_, ?_, ?_⟩ <;> after_reads_simp

/-- The kernel's run, each result named. -/
theorem run (g : Dev nD → PrngReg) : θ_run defs (onTc (τ := τ) (main (F := Ideal))) ⟨m, fun _ => 0, g⟩ fun r => ∀ c : Dev nD,
    r.2.mem ((c : Thread nD τ).loc main_v6) = rG m c ∧ r.2.mem ((c : Thread nD τ).loc main_v7) = rD m c
      ∧ r.2.mem ((c : Thread nD τ).loc main_v8) = rF m c ∧ r.2.mem ((c : Thread nD τ).loc main_v9) = rS m c :=
  (θ_run defs _ _).mono (fun _ h c =>
    ⟨((h c).2 main_v6 (by decide : main_v6 ∈ Pipeline.restRefs sig spec0)).trans
        ((last (mid m c)).1.trans (taken_eq _ _ fun i f => (congrFun (mid_arr m c 7) _).trans (arr_7 m c i f))),
      ((h c).2 main_v7 (by decide : main_v7 ∈ Pipeline.restRefs sig spec0)).trans
        ((last (mid m c)).2.1.trans (taken_eq _ _ fun i f => (congrFun (mid_arr m c 8) _).trans (arr_8 m c i f))),
      ((h c).2 main_v8 (by decide : main_v8 ∈ Pipeline.restRefs sig spec0)).trans
        ((last (mid m c)).2.2.1.trans (taken_eq _ _ fun i f => (congrFun (mid_arr m c 9) _).trans (arr_9 m c i f))),
      ((h c).2 main_v9 (by decide : main_v9 ∈ Pipeline.restRefs sig spec0)).trans
        ((last (mid m c)).2.2.2.trans (taken_eq _ _ fun i f => (congrFun (mid_arr m c 10) _).trans (arr_10 m c i f)))⟩) (run_main m g (ok m))

/-! The claims. -/

theorem frame : Cert.quiescent_Kernel20 := fun m g _ => Cert.Kernel20.Gen.frame m g (ok_words m)

theorem frame_ideal : Cert.quiescent_Kernel20Ideal := fun m g _ => Cert.Kernel20Ideal.Gen.frame m g (ok m)

theorem frame_reference : Cert.quiescent_Reference20Ideal := fun m g _ =>
  (θ_run Cert.Reference20Ideal.defs _ _).mono
    (fun r h => ⟨fun c => (h c).2.2.2.2, sem_eq_zero_of_no_sems (by decide) r.2⟩)
    (Cert.Reference20Ideal.Value.run (F := Ideal) m g)

/-- The kernel leaves the layer's gradient, step and two moments, as the reference does. -/
theorem same : Cert.algebraic_Kernel20Ideal_Reference20Ideal := by
  intro m g m' g' _ hargs
  refine ⟨rG m, rD m, rF m, rS m, ?_, ?_⟩
  · exact (θ_run Cert.Kernel20Ideal.defs _ _).mono (fun r h c => ⟨(h.1 c).1, (h.1 c).2.1, (h.1 c).2.2.1, (h.1 c).2.2.2, h.2 c⟩)
      (θ_run_and (run m g) (unchanged m g (ok m)))
  · refine (θ_run Cert.Reference20Ideal.defs _ _).mono (fun r h c => ⟨(h c).1.trans ?_, (h c).2.1.trans ?_, (h c).2.2.1.trans ?_, (h c).2.2.2.1.trans ?_, (h c).2.2.2.2⟩)
      (Cert.Reference20Ideal.Value.run (F := Ideal) m' g')
    all_goals
      simp only [(hargs c).1, (hargs c).2.1, (hargs c).2.2.1, (hargs c).2.2.2.1, (hargs c).2.2.2.2]
      funext j
      obtain ⟨i, f, rfl⟩ := split j
      pointwise [grad, deltas, firsts, seconds, delta, first, second, layer]
      simp only [Fin.sum_univ_three, ← add_assoc]

end Cert.Tail.Step20

end
-- ==== Proof.Tail.Step21.lean ====
module

public import proofs.«01_k».proof.Proof.Tail.Step20
public import proofs.«01_k».proof.Proof.Gen.Kernel21.Frame
public import proofs.«01_k».proof.Proof.Gen.Kernel21Ideal.Frame
public import proofs.«01_k».proof.Proof.Gen.Reference21Ideal.Run

@[expose] public section

set_option maxRecDepth 16384

noncomputable section

/-! The optimizer's step of the feed-forward block's first weight, at its first layer: the eight points store it into arrays that hold
    the last layer's results. -/

namespace Cert.Tail.Step21

open Idealize.ShloMosaic Idealize.ShloMosaic.TcCoe Idealize.ShloMosaic.Tactic Idealize.SL.Sem
open Cert.Ffn Cert.Tail.Adam Cert.Tail.Layer
open Cert.Tail.Tile (row row2)
open Cert.Kernel20Ideal (S1x2048x1024)
open Cert.Kernel21Ideal Cert.Kernel21Ideal.Gen

section
variable {F : FTy → Type} [FloatOps F] (m : (ℓ : Loc nD τ sig) → Buf (Elt F) ℓ)

theorem table : (tbl m 0 : Vec F S2 .i32) = fun _ => 0#32 :=
  have h : V m (0 : Dev nD) main_v3 = concatenate S2 0 [⟨S1, Step20.entry (F := F)⟩, ⟨S1, Step20.entry (F := F)⟩] concatenates_S1_S1_S2_d0 := by
    show StableHlo.after hostOps0 (fun b => m (0, b)) (Proc.devRef .tc main_v3) = _
    after_reads_simp
    rfl
  h.trans (funext fun j => by idx_vars j; pointwise; split_ifs <;> rfl)

theorem own (i : grid0.Coords) : cc0_transform_0 inb_S2_S1_1 numel1_S1 (tbl m) i = ![(i 0).val, 0] := by
  have hi : (i 0).val < 8 := (i 0).isLt
  have h : (tbl m).at 0 (Rect.unit (s := S2) ![1] S1.size inb_S2_S1_1) numel1_S1 = 0#32 := congrFun (table m) _
  unfold cc0_transform_0
  dsimp only
  rw [h, word 8#32 (i 0).val (by omega)]
  rfl

/-- The device's own part is found within its array. -/
theorem ok : Ok m := by
  intro i
  have hi : (i 0).val < 8 := (i 0).isLt
  have key : ∀ g : Fin 2 → ℕ, g = ![(i 0).val, 0] → ∃ h : (∀ a, (g a + 1) * S256x1024.size a ≤ S8192x1024.size a),
      EltTy.bits .bf16 = 32 ∨ (Rect.block (s := S8192x1024) S256x1024.size g h).WholeWords (EltTy.packing .bf16) := by
    rintro _ rfl
    exact ⟨fun a => match a with
      | ⟨0, _⟩ => (by omega : ((i 0).val + 1) * 256 ≤ 8192)
      | ⟨1, _⟩ => (by omega : (0 + 1) * 1024 ≤ 1024), .inr (Affine.block_words_dvd (of_decide_eq_true rfl) (by decide))⟩
  exact key _ (own m i)

end

/-- The same of the kernel at its own words. -/
theorem ok_words (m : (ℓ : Loc Cert.Kernel21.nD Cert.Kernel21.τ Cert.Kernel21.sig) → Buf (Elt Bits) ℓ) : Cert.Kernel21.Gen.Ok m :=
  ok (F := Bits) m

/-- Where the other windows are at a point: the three parts that came in, and the first layer of the rest. -/
theorem idx : ∀ t : Fin grid0.N, (grid0.coords t 0).val = t.val
    ∧ (∀ d : Fin 3, (![cc0_transform_1 (grid0.coords t), cc0_transform_2 (grid0.coords t), cc0_transform_3 (grid0.coords t)] : Fin 3 → Fin 3 → ℕ) d
      = ![d.val, t.val, 0])
    ∧ ∀ w : Fin 7, (![cc0_transform_4 (grid0.coords t), cc0_transform_5 (grid0.coords t), cc0_transform_6 (grid0.coords t),
      cc0_transform_11 (grid0.coords t), cc0_transform_12 (grid0.coords t), cc0_transform_13 (grid0.coords t), cc0_transform_14 (grid0.coords t)] :
        Fin 7 → Fin 3 → ℕ) w = ![0, t.val, 0] := by decide +kernel

variable (m : (ℓ : Loc nD τ sig) → Buf (Elt Ideal) ℓ) (c : Dev nD)

theorem lt (t : Fin (cfgM m (ok m)).N) (i : Fin 256) : t.val * 256 + i.val < 2048 := by
  have h : t.val < 8 := lt_of_lt_of_eq t.isLt N_0
  omega

/-- The arguments: the device's own part, the three that came in, the first layer of the weight and of its moments, and the arrays stored into. -/
abbrev aP : Vec Ideal S4x2048x1024 .bf16 := m ((c.tc : Thread nD τ).loc main_arg0)
abbrev aQ : Vec Ideal S3x2048x1024 .bf16 := m ((c.tc : Thread nD τ).loc main_arg1)
abbrev aW : Vec Ideal S1x2048x1024 .f32 := layer (0 : Fin 2) (m ((c.tc : Thread nD τ).loc main_arg2) : Vec Ideal S2x2048x1024 .f32)
abbrev aM : Vec Ideal S1x2048x1024 .f32 := layer (0 : Fin 2) (m ((c.tc : Thread nD τ).loc main_arg3) : Vec Ideal S2x2048x1024 .f32)
abbrev aV : Vec Ideal S1x2048x1024 .f32 := layer (0 : Fin 2) (m ((c.tc : Thread nD τ).loc main_arg4) : Vec Ideal S2x2048x1024 .f32)
abbrev bG : Vec Ideal S2x2048x1024 .f32 := m ((c.tc : Thread nD τ).loc main_arg5)
abbrev bD : Vec Ideal S2x2048x1024 .f32 := m ((c.tc : Thread nD τ).loc main_arg6)
abbrev bF : Vec Ideal S2x2048x1024 .f32 := m ((c.tc : Thread nD τ).loc main_arg7)
abbrev bS : Vec Ideal S2x2048x1024 .f32 := m ((c.tc : Thread nD τ).loc main_arg8)

/-- The first layer of the results. -/
abbrev rG : Vec Ideal S1x2048x1024 .f32 := grad (aP m c) (aQ m c)
abbrev rD : Vec Ideal S1x2048x1024 .f32 := deltas (aP m c) (aQ m c) (aW m c) (aM m c) (aV m c)
abbrev rF : Vec Ideal S1x2048x1024 .f32 := firsts (aP m c) (aQ m c) (aM m c)
abbrev rS : Vec Ideal S1x2048x1024 .f32 := seconds (aP m c) (aQ m c) (aV m c)

/-- What the host does before the points: the parts laid end to end, and the arrays that are stored into. -/
theorem before : V m c main_v4 = shapeCast S8192x1024 (aP m c) shapeCasts_S4x2048x1024_S8192x1024
    ∧ V m c main_v5_0 = bG m c ∧ V m c main_v5_1 = bD m c ∧ V m c main_v5_2 = bF m c ∧ V m c main_v5_3 = bS m c := by
  refine ⟨?_, ?_, ?_, ?_, ?_⟩
  · show StableHlo.after hostOps0 (fun b => m (c, b)) (Proc.devRef .tc main_v4) = _
    after_reads_simp; rfl
  · show StableHlo.after hostOps0 (fun b => m (c, b)) (Proc.devRef .tc main_v5_0) = _
    after_reads_simp; rfl
  · show StableHlo.after hostOps0 (fun b => m (c, b)) (Proc.devRef .tc main_v5_1) = _
    after_reads_simp; rfl
  · show StableHlo.after hostOps0 (fun b => m (c, b)) (Proc.devRef .tc main_v5_2) = _
    after_reads_simp; rfl
  · show StableHlo.after hostOps0 (fun b => m (c, b)) (Proc.devRef .tc main_v5_3) = _
    after_reads_simp; rfl

/-! The blocks of a point. -/

section
variable (t : Fin (cfgM m (ok m)).N)

/-- The array's row for a tile's. -/
abbrev rowAt (i : Fin 256) : Fin 2048 := ⟨t.val * 256 + i.val, lt m t i⟩

theorem blk_own (i : Fin 256) (f : Fin 1024) : (iblk m (ok m) c 0 t : Vec Ideal S256x1024 .bf16) (ix2 i f) = aP m c (ix3 0 (rowAt m t i) f) :=
  (row2 (V m c main_v4 : Vec Ideal S8192x1024 .bf16) _ _ t.val i.val f (lt_trans (lt m t i) (by decide))
      ((own m (grid0.coords t)).trans (congrArg (fun k => (![k, 0] : Fin 2 → ℕ)) (idx t).1)) rfl rfl).trans
    ((congrFun (before m c).1 _).trans (Step20.joined (aP m c) (rowAt m t i) f))

theorem blk_in (d : Fin 3) (i : Fin 256) (f : Fin 1024) :
    (![(iblk m (ok m) c 1 t : Vec Ideal S1x256x1024 .bf16) (ix3 0 i f), (iblk m (ok m) c 2 t : Vec Ideal S1x256x1024 .bf16) (ix3 0 i f),
      (iblk m (ok m) c 3 t : Vec Ideal S1x256x1024 .bf16) (ix3 0 i f)] : Fin 3 → EReal) d = aQ m c (ix3 d (rowAt m t i) f) := by
  have h := (idx t).2.1
  fin_cases d <;> exact (congrFun (V_main_arg1 m c) _).trans (row (aQ m c) _ _ _ t.val i.val f (lt m t i) (h _) rfl rfl rfl)

theorem blk_w (i : Fin 256) (f : Fin 1024) : (iblk m (ok m) c 4 t : Vec Ideal S1x256x1024 .f32) (ix3 0 i f) = aW m c (ix3 0 (rowAt m t i) f) :=
  (congrFun (V_main_arg2 m c) _).trans
    (row (m ((c.tc : Thread nD τ).loc main_arg2) : Vec Ideal S2x2048x1024 .f32) _ _ 0 t.val i.val f (lt m t i) ((idx t).2.2 0) rfl rfl rfl)

theorem blk_m (i : Fin 256) (f : Fin 1024) : (iblk m (ok m) c 5 t : Vec Ideal S1x256x1024 .f32) (ix3 0 i f) = aM m c (ix3 0 (rowAt m t i) f) :=
  (congrFun (V_main_arg3 m c) _).trans
    (row (m ((c.tc : Thread nD τ).loc main_arg3) : Vec Ideal S2x2048x1024 .f32) _ _ 0 t.val i.val f (lt m t i) ((idx t).2.2 1) rfl rfl rfl)

theorem blk_v (i : Fin 256) (f : Fin 1024) : (iblk m (ok m) c 6 t : Vec Ideal S1x256x1024 .f32) (ix3 0 i f) = aV m c (ix3 0 (rowAt m t i) f) :=
  (congrFun (V_main_arg4 m c) _).trans
    (row (m ((c.tc : Thread nD τ).loc main_arg4) : Vec Ideal S2x2048x1024 .f32) _ _ 0 t.val i.val f (lt m t i) ((idx t).2.2 2) rfl rfl rfl)

end

/-! What is stored from a point's blocks. -/

section
variable (x0 : Vec Ideal S256x1024 .bf16) (x1 x2 x3 : Vec Ideal S1x256x1024 .bf16) (x4 x5 x6 : Vec Ideal S1x256x1024 .f32)
  (i : grid0.Coords) (arg2 : Memref sig .tc .vmem S256x1024 .bf16) (harg2 : arg2.IsWhole) (arg3 : Memref sig .tc .vmem S1x256x1024 .bf16)
  (harg3 : arg3.IsWhole) (arg4 : Memref sig .tc .vmem S1x256x1024 .bf16) (harg4 : arg4.IsWhole) (arg5 : Memref sig .tc .vmem S1x256x1024 .bf16)
  (harg5 : arg5.IsWhole) (arg6 : Memref sig .tc .vmem S1x256x1024 .f32) (harg6 : arg6.IsWhole) (arg7 : Memref sig .tc .vmem S1x256x1024 .f32)
  (harg7 : arg7.IsWhole) (arg8 : Memref sig .tc .vmem S1x256x1024 .f32) (harg8 : arg8.IsWhole) (arg13 : Memref sig .tc .vmem S1x256x1024 .f32)
  (harg13 : arg13.IsWhole) (arg14 : Memref sig .tc .vmem S1x256x1024 .f32) (harg14 : arg14.IsWhole) (arg15 : Memref sig .tc .vmem S1x256x1024 .f32)
  (harg15 : arg15.IsWhole) (arg16 : Memref sig .tc .vmem S1x256x1024 .f32) (harg16 : arg16.IsWhole) (xt : TbBuf0 (F := Ideal) c tbM0_0)

/-- What the body leaves in its four results. -/
theorem outs : Stepped x0 x1 x2 x3 x4 x5 x6
    (out0_A_7 (F := Ideal) c i arg2 harg2 arg3 harg3 arg4 harg4 arg5 harg5 arg6 harg6 arg7 harg7 arg8 harg8 arg13 harg13 arg14 harg14 arg15 harg15 arg16 harg16 x0 x1 x2 x3 x4 x5 x6 xt)
    (out0_A_8 (F := Ideal) c i arg2 harg2 arg3 harg3 arg4 harg4 arg5 harg5 arg6 harg6 arg7 harg7 arg8 harg8 arg13 harg13 arg14 harg14 arg15 harg15 arg16 harg16 x0 x1 x2 x3 x4 x5 x6 xt)
    (out0_A_9 (F := Ideal) c i arg2 harg2 arg3 harg3 arg4 harg4 arg5 harg5 arg6 harg6 arg7 harg7 arg8 harg8 arg13 harg13 arg14 harg14 arg15 harg15 arg16 harg16 x0 x1 x2 x3 x4 x5 x6 xt)
    (out0_A_10 (F := Ideal) c i arg2 harg2 arg3 harg3 arg4 harg4 arg5 harg5 arg6 harg6 arg7 harg7 arg8 harg8 arg13 harg13 arg14 harg14 arg15 harg15 arg16 harg16 x0 x1 x2 x3 x4 x5 x6 xt) := by
  have flat (v : Vec Ideal S256x1024 .bf16) : View.ld v (Rect.unit ![0, 0] ![256, 1024] inb_S256x1024_S256x1024_0_0) = v :=
    View.ld_unit_zero (by funext a; fin_cases a <;> rfl) _ v
  have slab {e : EltTy} (v : Vec Ideal S1x256x1024 e) : View.ld v (Rect.unit ![0, 0, 0] ![1, 256, 1024] inb_S1x256x1024_S1x256x1024_0_0_0) = v :=
    View.ld_unit_zero (by funext a; fin_cases a <;> rfl) _ v
  convert Step20.pay x0 x1 x2 x3 x4 x5 x6 using 1
  · refine (View.read_writes_eq_canon _ _ _ (cover0_A_7 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, flat, slab]
    exact View.canon_unit_zero (by funext a; fin_cases a <;> rfl) _ _
  · refine (View.read_writes_eq_canon _ _ _ (cover0_A_8 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg6.read_unread, harg7.read_unread,
      harg8.read_unread, flat, slab]
    exact View.canon_unit_zero (by funext a; fin_cases a <;> rfl) _ _
  · refine (View.read_writes_eq_canon _ _ _ (cover0_A_9 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg7.read_unread, flat, slab]
    exact View.canon_unit_zero (by funext a; fin_cases a <;> rfl) _ _
  · refine (View.read_writes_eq_canon _ _ _ (cover0_A_10 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg8.read_unread, flat, slab]
    exact View.canon_unit_zero (by funext a; fin_cases a <;> rfl) _ _

end

/-! The arrays: the first layer tile by tile, the last as it was. -/

theorem tiles (t : Fin (cfgM m (ok m)).N) (i : Fin 256) (f : Fin 1024) :
    (outsAt0 m (ok m) c t).1 (ix3 0 i f) = rG m c (ix3 0 (rowAt m t i) f) ∧ (outsAt0 m (ok m) c t).2.1 (ix3 0 i f) = rD m c (ix3 0 (rowAt m t i) f)
    ∧ (outsAt0 m (ok m) c t).2.2.1 (ix3 0 i f) = rF m c (ix3 0 (rowAt m t i) f)
    ∧ (outsAt0 m (ok m) c t).2.2.2 (ix3 0 i f) = rS m c (ix3 0 (rowAt m t i) f) := by
  unfold outsAt0
  dsimp only
  exact Stepped.tiles (outs _ _ _ _ _ _ _ _ _ _ _ _ _ _ _ _ _ _ _ _ _ _ _ _ _ _ _ _ _ _ _ _) (rowAt m t) (blk_own m c t) (blk_in m c t)
    (blk_w m c t) (blk_m m c t) (blk_v m c t) i f

/-- The point that stores an entry of the first layer. -/
def point (i : S2x2048x1024.Idx) : Fin (cfgM m (ok m)).N :=
  ⟨(i 1).val / 256, lt_of_lt_of_eq (by have h : (i 1).val < 2048 := (i 1).isLt; omega) N_0.symm⟩

theorem arr_7 : (dats m (ok m) 0 c).arrAt 7 (cfgM m (ok m)).N = put (0 : Fin 2) (rG m c) (bG m c) := by
  funext i
  refine ((dats m (ok m) 0 c).arrAt_eq_piecewise 7 (every (rG m c) : Vec Ideal S2x2048x1024 .f32)
    (fun t _ => (congrArg (((cfgM m (ok m)).win 7).cut _) (after0_7 m (ok m) c t)).trans
      (funext fun j => stored 0 (rG m c) _ j _ _ t.val (lt m t) ((idx t).2.2 3) (fun _ => rfl) fun i f => (tiles m c t i f).1)) i).trans
    (if_congr ⟨fun ⟨t, _, h⟩ => ?_, fun h => ⟨point m i, flush0_7 _ _, ?_⟩⟩ rfl (congrFun ((A_eq m (ok m) c 7).trans (before m c).2.1) i))
  · exact only (T := 256) i 0 t.val _ ((idx t).2.2 3)
      (Rect.mem_set_unit.mp ((congrArg (i ∈ ·) (View.set_slice_whole main_v5_0 (((cfgM m (ok m)).win 7).rect t))).mp h))
  · exact (congrArg (i ∈ ·) (View.set_slice_whole main_v5_0 (((cfgM m (ok m)).win 7).rect (point m i)))).mpr
      (Rect.mem_set_unit.mpr (held (T := 256) (by decide) i 0 h _ ((idx (point m i)).2.2 3)))

theorem arr_8 : (dats m (ok m) 0 c).arrAt 8 (cfgM m (ok m)).N = put (0 : Fin 2) (rD m c) (bD m c) := by
  funext i
  refine ((dats m (ok m) 0 c).arrAt_eq_piecewise 8 (every (rD m c) : Vec Ideal S2x2048x1024 .f32)
    (fun t _ => (congrArg (((cfgM m (ok m)).win 8).cut _) (after0_8 m (ok m) c t)).trans
      (funext fun j => stored 0 (rD m c) _ j _ _ t.val (lt m t) ((idx t).2.2 4) (fun _ => rfl) fun i f => (tiles m c t i f).2.1)) i).trans
    (if_congr ⟨fun ⟨t, _, h⟩ => ?_, fun h => ⟨point m i, flush0_8 _ _, ?_⟩⟩ rfl (congrFun ((A_eq m (ok m) c 8).trans (before m c).2.2.1) i))
  · exact only (T := 256) i 0 t.val _ ((idx t).2.2 4)
      (Rect.mem_set_unit.mp ((congrArg (i ∈ ·) (View.set_slice_whole main_v5_1 (((cfgM m (ok m)).win 8).rect t))).mp h))
  · exact (congrArg (i ∈ ·) (View.set_slice_whole main_v5_1 (((cfgM m (ok m)).win 8).rect (point m i)))).mpr
      (Rect.mem_set_unit.mpr (held (T := 256) (by decide) i 0 h _ ((idx (point m i)).2.2 4)))

theorem arr_9 : (dats m (ok m) 0 c).arrAt 9 (cfgM m (ok m)).N = put (0 : Fin 2) (rF m c) (bF m c) := by
  funext i
  refine ((dats m (ok m) 0 c).arrAt_eq_piecewise 9 (every (rF m c) : Vec Ideal S2x2048x1024 .f32)
    (fun t _ => (congrArg (((cfgM m (ok m)).win 9).cut _) (after0_9 m (ok m) c t)).trans
      (funext fun j => stored 0 (rF m c) _ j _ _ t.val (lt m t) ((idx t).2.2 5) (fun _ => rfl) fun i f => (tiles m c t i f).2.2.1)) i).trans
    (if_congr ⟨fun ⟨t, _, h⟩ => ?_, fun h => ⟨point m i, flush0_9 _ _, ?_⟩⟩ rfl (congrFun ((A_eq m (ok m) c 9).trans (before m c).2.2.2.1) i))
  · exact only (T := 256) i 0 t.val _ ((idx t).2.2 5)
      (Rect.mem_set_unit.mp ((congrArg (i ∈ ·) (View.set_slice_whole main_v5_2 (((cfgM m (ok m)).win 9).rect t))).mp h))
  · exact (congrArg (i ∈ ·) (View.set_slice_whole main_v5_2 (((cfgM m (ok m)).win 9).rect (point m i)))).mpr
      (Rect.mem_set_unit.mpr (held (T := 256) (by decide) i 0 h _ ((idx (point m i)).2.2 5)))

theorem arr_10 : (dats m (ok m) 0 c).arrAt 10 (cfgM m (ok m)).N = put (0 : Fin 2) (rS m c) (bS m c) := by
  funext i
  refine ((dats m (ok m) 0 c).arrAt_eq_piecewise 10 (every (rS m c) : Vec Ideal S2x2048x1024 .f32)
    (fun t _ => (congrArg (((cfgM m (ok m)).win 10).cut _) (after0_10 m (ok m) c t)).trans
      (funext fun j => stored 0 (rS m c) _ j _ _ t.val (lt m t) ((idx t).2.2 6) (fun _ => rfl) fun i f => (tiles m c t i f).2.2.2)) i).trans
    (if_congr ⟨fun ⟨t, _, h⟩ => ?_, fun h => ⟨point m i, flush0_10 _ _, ?_⟩⟩ rfl (congrFun ((A_eq m (ok m) c 10).trans (before m c).2.2.2.2) i))
  · exact only (T := 256) i 0 t.val _ ((idx t).2.2 6)
      (Rect.mem_set_unit.mp ((congrArg (i ∈ ·) (View.set_slice_whole main_v5_3 (((cfgM m (ok m)).win 10).rect t))).mp h))
  · exact (congrArg (i ∈ ·) (View.set_slice_whole main_v5_3 (((cfgM m (ok m)).win 10).rect (point m i)))).mpr
      (Rect.mem_set_unit.mpr (held (T := 256) (by decide) i 0 h _ ((idx (point m i)).2.2 6)))

/-- The kernel's run, each array named. -/
theorem run (g : Dev nD → PrngReg) : θ_run defs (onTc (τ := τ) (main (F := Ideal))) ⟨m, fun _ => 0, g⟩ fun r => ∀ c : Dev nD,
    r.2.mem ((c : Thread nD τ).loc main_v5_0) = put (0 : Fin 2) (rG m c) (bG m c)
      ∧ r.2.mem ((c : Thread nD τ).loc main_v5_1) = put (0 : Fin 2) (rD m c) (bD m c)
      ∧ r.2.mem ((c : Thread nD τ).loc main_v5_2) = put (0 : Fin 2) (rF m c) (bF m c)
      ∧ r.2.mem ((c : Thread nD τ).loc main_v5_3) = put (0 : Fin 2) (rS m c) (bS m c) :=
  (θ_run defs _ _).mono (fun _ h c => ⟨((h c).1 7).trans (arr_7 m c), ((h c).1 8).trans (arr_8 m c), ((h c).1 9).trans (arr_9 m c),
    ((h c).1 10).trans (arr_10 m c)⟩) (run_main m g (ok m))

/-! The claims. -/

theorem frame : Cert.quiescent_Kernel21 := fun m g _ => Cert.Kernel21.Gen.frame m g (ok_words m)

theorem frame_ideal : Cert.quiescent_Kernel21Ideal := fun m g _ => Cert.Kernel21Ideal.Gen.frame m g (ok m)

theorem frame_reference : Cert.quiescent_Reference21Ideal := fun m g _ =>
  (θ_run Cert.Reference21Ideal.defs _ _).mono
    (fun r h => ⟨fun c => (h c).2.2.2.2, sem_eq_zero_of_no_sems (by decide) r.2⟩)
    (Cert.Reference21Ideal.Value.run (F := Ideal) m g)

/-- The kernel leaves the first layer's gradient, step and two moments, and the last layer as given, as the reference does. -/
theorem same : Cert.algebraic_Kernel21Ideal_Reference21Ideal := by
  intro m g m' g' _ hargs
  refine ⟨fun c => put (0 : Fin 2) (rG m c) (bG m c), fun c => put (0 : Fin 2) (rD m c) (bD m c), fun c => put (0 : Fin 2) (rF m c) (bF m c),
    fun c => put (0 : Fin 2) (rS m c) (bS m c), ?_, ?_⟩
  · exact (θ_run Cert.Kernel21Ideal.defs _ _).mono (fun r h c => ⟨(h.1 c).1, (h.1 c).2.1, (h.1 c).2.2.1, (h.1 c).2.2.2, h.2 c⟩)
      (θ_run_and (run m g) (unchanged m g (ok m)))
  · refine (θ_run Cert.Reference21Ideal.defs _ _).mono (fun r h c => ⟨(h c).1.trans ?_, (h c).2.1.trans ?_, (h c).2.2.1.trans ?_, (h c).2.2.2.1.trans ?_, (h c).2.2.2.2⟩)
      (Cert.Reference21Ideal.Value.run (F := Ideal) m' g')
    all_goals
      obtain ⟨h0, h1, h2, h3, h4, h5, h6, h7, h8⟩ := hargs c
      funext j
      idx_vars j
      pointwise [put, every, grad, deltas, firsts, seconds, delta, first, second, layer]
      simp only [h0, h1, h2, h3, h4, h5, h6, h7, h8, Fin.sum_univ_three, ← add_assoc]
      by_cases hj : j0.val = 0
      · obtain rfl : j0 = 0 := Fin.ext hj
        rfl
      · obtain rfl : j0 = 1 := Fin.ext (by omega)
        rfl

end Cert.Tail.Step21

end
-- ==== Proof.Tail.Step22.lean ====
module

public import proofs.«01_k».proof.Defs
public import proofs.«01_k».proof.Proof.Tail.Layer
public import proofs.«01_k».proof.Proof.Gen.Kernel22.Frame
public import proofs.«01_k».proof.Proof.Gen.Kernel22Ideal.Frame
public import proofs.«01_k».proof.Proof.Gen.Reference22Ideal.Run
public import Idealize.ShloMosaic.Lib.Quiescent

@[expose] public section

set_option maxRecDepth 16384

noncomputable section

/-! The optimizer's step of the feed-forward block's second weight, at its last layer: four points of 256 rows store the layer. -/

namespace Cert.Tail.Step22

open Idealize.ShloMosaic Idealize.ShloMosaic.TcCoe Idealize.ShloMosaic.Tactic Idealize.SL.Sem
open Cert.Ffn Cert.Tail.Adam Cert.Tail.Layer
open Cert.Tail.Tile (row row2 split)
open Cert.Kernel22Ideal Cert.Kernel22Ideal.Gen

section
variable {F : FTy → Type} [FloatOps F] (m : (ℓ : Loc nD τ sig) → Buf (Elt F) ℓ)

/-- A number of the table, as the host makes it. -/
abbrev entry : (⟨S1, .i32⟩ : BufTy).Contents (Elt F) := broadcastInDim S1 ![] bcast_S_S1 (constantI S_ 32 0#32 : (⟨S_, .i32⟩ : BufTy).Contents (Elt F))

theorem table : (tbl m 0 : Vec F S2 .i32) = fun _ => 0#32 :=
  have h : V m (0 : Dev nD) main_v3 = concatenate S2 0 [⟨S1, entry (F := F)⟩, ⟨S1, entry (F := F)⟩] concatenates_S1_S1_S2_d0 := by
    show StableHlo.after hostOps0 (fun b => m (0, b)) (Proc.devRef .tc main_v3) = _
    after_reads_simp
    rfl
  h.trans (funext fun j => by idx_vars j; pointwise; split_ifs <;> rfl)

theorem coord (i : grid0.Coords) : (i 0).val < 4 := (i 0).isLt

theorem own (i : grid0.Coords) : cc0_transform_0 inb_S2_S1_1 numel1_S1 (tbl m) i = ![(i 0).val, 0] := by
  have hi := coord i
  have h : (tbl m).at 0 (Rect.unit (s := S2) ![1] S1.size inb_S2_S1_1) numel1_S1 = 0#32 := congrFun (table m) _
  unfold cc0_transform_0
  dsimp only
  rw [h, word 4#32 (i 0).val (by omega)]
  rfl

/-- The device's own part is found within its array. -/
theorem ok : Ok m := by
  intro i
  have hi := coord i
  have key : ∀ g : Fin 2 → ℕ, g = ![(i 0).val, 0] → ∃ h : (∀ a, (g a + 1) * S256x2048.size a ≤ S4096x2048.size a),
      EltTy.bits .bf16 = 32 ∨ (Rect.block (s := S4096x2048) S256x2048.size g h).WholeWords (EltTy.packing .bf16) := by
    rintro _ rfl
    exact ⟨fun a => match a with
      | ⟨0, _⟩ => (by omega : ((i 0).val + 1) * 256 ≤ 4096)
      | ⟨1, _⟩ => (by omega : (0 + 1) * 2048 ≤ 2048), .inr (Affine.block_words_dvd (of_decide_eq_true rfl) (by decide))⟩
  exact key _ (own m i)

end

/-- The same of the kernel at its own words. -/
theorem ok_words (m : (ℓ : Loc Cert.Kernel22.nD Cert.Kernel22.τ Cert.Kernel22.sig) → Buf (Elt Bits) ℓ) : Cert.Kernel22.Gen.Ok m :=
  ok (F := Bits) m

/-- Where the other windows are at a point: the three parts that came in, and the last layer of the rest. -/
theorem idx : ∀ t : Fin grid0.N, (grid0.coords t 0).val = t.val
    ∧ (∀ d : Fin 3, (![cc0_transform_1 (grid0.coords t), cc0_transform_2 (grid0.coords t), cc0_transform_3 (grid0.coords t)] : Fin 3 → Fin 3 → ℕ) d
      = ![d.val, t.val, 0])
    ∧ ∀ w : Fin 7, (![cc0_transform_4 (grid0.coords t), cc0_transform_5 (grid0.coords t), cc0_transform_6 (grid0.coords t),
      cc0_transform_7 (grid0.coords t), cc0_transform_8 (grid0.coords t), cc0_transform_9 (grid0.coords t), cc0_transform_10 (grid0.coords t)] :
        Fin 7 → Fin 3 → ℕ) w = ![1, t.val, 0] := by decide +kernel

variable (m : (ℓ : Loc nD τ sig) → Buf (Elt Ideal) ℓ) (c : Dev nD)

theorem lt (t : Fin (cfgM m (ok m)).N) (i : Fin 256) : t.val * 256 + i.val < 1024 := by
  have h : t.val < 4 := lt_of_lt_of_eq t.isLt N_0
  omega

/-- The arguments: the device's own part, the three that came in, and the last layer of the weight and of its moments. -/
abbrev aP : Vec Ideal S4x1024x2048 .bf16 := m ((c.tc : Thread nD τ).loc main_arg0)
abbrev aQ : Vec Ideal S3x1024x2048 .bf16 := m ((c.tc : Thread nD τ).loc main_arg1)
abbrev aW : Vec Ideal S1x1024x2048 .f32 := layer (1 : Fin 2) (m ((c.tc : Thread nD τ).loc main_arg2) : Vec Ideal S2x1024x2048 .f32)
abbrev aM : Vec Ideal S1x1024x2048 .f32 := layer (1 : Fin 2) (m ((c.tc : Thread nD τ).loc main_arg3) : Vec Ideal S2x1024x2048 .f32)
abbrev aV : Vec Ideal S1x1024x2048 .f32 := layer (1 : Fin 2) (m ((c.tc : Thread nD τ).loc main_arg4) : Vec Ideal S2x1024x2048 .f32)

/-- The results. -/
abbrev rG : Vec Ideal S1x1024x2048 .f32 := grad (aP m c) (aQ m c)
abbrev rD : Vec Ideal S1x1024x2048 .f32 := deltas (aP m c) (aQ m c) (aW m c) (aM m c) (aV m c)
abbrev rF : Vec Ideal S1x1024x2048 .f32 := firsts (aP m c) (aQ m c) (aM m c)
abbrev rS : Vec Ideal S1x1024x2048 .f32 := seconds (aP m c) (aQ m c) (aV m c)

/-- The parts laid end to end: the first rows are the first part's. -/
theorem joined (A : Vec Ideal S4x1024x2048 .bf16) (r : Fin 1024) (f : Fin 2048) :
    (shapeCast S4096x2048 A shapeCasts_S4x1024x2048_S4096x2048 : Vec Ideal S4096x2048 .bf16) (ix2 ⟨r.val, by omega⟩ f) = A (ix3 0 r f) := by
  pointwise
  exact at3 A _ _ _ _ (by show r.val / 1024 = 0; omega) (by show r.val % 1024 = r.val; omega) rfl

theorem V_own : V m c main_v4 = shapeCast S4096x2048 (aP m c) shapeCasts_S4x1024x2048_S4096x2048 := by
  show StableHlo.after hostOps0 (fun b => m (c, b)) (Proc.devRef .tc main_v4) = _
  after_reads_simp
  rfl

/-! The blocks of a point. -/

section
variable (t : Fin (cfgM m (ok m)).N)

/-- The array's row for a tile's. -/
abbrev rowAt (i : Fin 256) : Fin 1024 := ⟨t.val * 256 + i.val, lt m t i⟩

theorem blk_own (i : Fin 256) (f : Fin 2048) : (iblk m (ok m) c 0 t : Vec Ideal S256x2048 .bf16) (ix2 i f) = aP m c (ix3 0 (rowAt m t i) f) :=
  (row2 (V m c main_v4 : Vec Ideal S4096x2048 .bf16) _ _ t.val i.val f (lt_trans (lt m t i) (by decide))
      ((own m (grid0.coords t)).trans (congrArg (fun k => (![k, 0] : Fin 2 → ℕ)) (idx t).1)) rfl rfl).trans
    ((congrFun (V_own m c) _).trans (joined (aP m c) (rowAt m t i) f))

theorem blk_in (d : Fin 3) (i : Fin 256) (f : Fin 2048) :
    (![(iblk m (ok m) c 1 t : Vec Ideal S1x256x2048 .bf16) (ix3 0 i f), (iblk m (ok m) c 2 t : Vec Ideal S1x256x2048 .bf16) (ix3 0 i f),
      (iblk m (ok m) c 3 t : Vec Ideal S1x256x2048 .bf16) (ix3 0 i f)] : Fin 3 → EReal) d = aQ m c (ix3 d (rowAt m t i) f) := by
  have h := (idx t).2.1
  fin_cases d <;> exact (congrFun (V_main_arg1 m c) _).trans (row (aQ m c) _ _ _ t.val i.val f (lt m t i) (h _) rfl rfl rfl)

/-- The last layer of the weight and its two moments. -/
theorem blk_w (i : Fin 256) (f : Fin 2048) :
    (iblk m (ok m) c 4 t : Vec Ideal S1x256x2048 .f32) (ix3 0 i f) = aW m c (ix3 0 (rowAt m t i) f)
    ∧ (iblk m (ok m) c 5 t : Vec Ideal S1x256x2048 .f32) (ix3 0 i f) = aM m c (ix3 0 (rowAt m t i) f)
    ∧ (iblk m (ok m) c 6 t : Vec Ideal S1x256x2048 .f32) (ix3 0 i f) = aV m c (ix3 0 (rowAt m t i) f) :=
  ⟨(congrFun (V_main_arg2 m c) _).trans
      (row (m ((c.tc : Thread nD τ).loc main_arg2) : Vec Ideal S2x1024x2048 .f32) _ _ 1 t.val i.val f (lt m t i) ((idx t).2.2 0) rfl rfl rfl),
    (congrFun (V_main_arg3 m c) _).trans
      (row (m ((c.tc : Thread nD τ).loc main_arg3) : Vec Ideal S2x1024x2048 .f32) _ _ 1 t.val i.val f (lt m t i) ((idx t).2.2 1) rfl rfl rfl),
    (congrFun (V_main_arg4 m c) _).trans
      (row (m ((c.tc : Thread nD τ).loc main_arg4) : Vec Ideal S2x1024x2048 .f32) _ _ 1 t.val i.val f (lt m t i) ((idx t).2.2 2) rfl rfl rfl)⟩

end

/-! What is stored from a point's blocks. -/

section
variable (x0 : Vec Ideal S256x2048 .bf16) (x1 x2 x3 : Vec Ideal S1x256x2048 .bf16) (x4 x5 x6 : Vec Ideal S1x256x2048 .f32)

theorem pay : Stepped x0 x1 x2 x3 x4 x5 x6 (k0_pay1 (k0_pay6 x0 x1 x2 x3)) (k0_pay2 (k0_pay5 x4) (k0_pay8 x0 x1 x2 x3 x6) (k0_pay9 x0 x1 x2 x3 x5))
    (k0_pay3 (k0_pay7 x0 x1 x2 x3 x5)) (k0_pay4 (k0_pay8 x0 x1 x2 x3 x6)) := by
  intro i f
  refine ⟨?_, ?_, ?_, ?_⟩
  · pointwise [k0_pay1, k0_pay6]
  · pointwise [k0_pay2, k0_pay5, k0_pay7, k0_pay8, k0_pay9, k0_pay6, first, second, delta]
  · pointwise [k0_pay3, k0_pay7, k0_pay6, first]
  · pointwise [k0_pay4, k0_pay8, k0_pay6, second]

variable (i : grid0.Coords) (arg2 : Memref sig .tc .vmem S256x2048 .bf16) (harg2 : arg2.IsWhole) (arg3 : Memref sig .tc .vmem S1x256x2048 .bf16)
  (harg3 : arg3.IsWhole) (arg4 : Memref sig .tc .vmem S1x256x2048 .bf16) (harg4 : arg4.IsWhole) (arg5 : Memref sig .tc .vmem S1x256x2048 .bf16)
  (harg5 : arg5.IsWhole) (arg6 : Memref sig .tc .vmem S1x256x2048 .f32) (harg6 : arg6.IsWhole) (arg7 : Memref sig .tc .vmem S1x256x2048 .f32)
  (harg7 : arg7.IsWhole) (arg8 : Memref sig .tc .vmem S1x256x2048 .f32) (harg8 : arg8.IsWhole) (arg9 : Memref sig .tc .vmem S1x256x2048 .f32)
  (harg9 : arg9.IsWhole) (arg10 : Memref sig .tc .vmem S1x256x2048 .f32) (harg10 : arg10.IsWhole) (arg11 : Memref sig .tc .vmem S1x256x2048 .f32)
  (harg11 : arg11.IsWhole) (arg12 : Memref sig .tc .vmem S1x256x2048 .f32) (harg12 : arg12.IsWhole) (xt : TbBuf0 (F := Ideal) c tbM0_0)

/-- What the body leaves in its four results. -/
theorem outs : Stepped x0 x1 x2 x3 x4 x5 x6
    (out0_A_7 (F := Ideal) c i arg2 harg2 arg3 harg3 arg4 harg4 arg5 harg5 arg6 harg6 arg7 harg7 arg8 harg8 arg9 harg9 arg10 harg10 arg11 harg11 arg12 harg12 x0 x1 x2 x3 x4 x5 x6 xt)
    (out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 xt)
    (out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 xt)
    (out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 xt) := by
  have flat (v : Vec Ideal S256x2048 .bf16) : View.ld v (Rect.unit ![0, 0] ![256, 2048] inb_S256x2048_S256x2048_0_0) = v :=
    View.ld_unit_zero (by funext a; fin_cases a <;> rfl) _ v
  have slab {e : EltTy} (v : Vec Ideal S1x256x2048 e) : View.ld v (Rect.unit ![0, 0, 0] ![1, 256, 2048] inb_S1x256x2048_S1x256x2048_0_0_0) = v :=
    View.ld_unit_zero (by funext a; fin_cases a <;> rfl) _ v
  convert pay x0 x1 x2 x3 x4 x5 x6 using 1
  · refine (View.read_writes_eq_canon _ _ _ (cover0_A_7 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, flat, slab]
    exact View.canon_unit_zero (by funext a; fin_cases a <;> rfl) _ _
  · refine (View.read_writes_eq_canon _ _ _ (cover0_A_8 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg6.read_unread, harg7.read_unread,
      harg8.read_unread, flat, slab]
    exact View.canon_unit_zero (by funext a; fin_cases a <;> rfl) _ _
  · refine (View.read_writes_eq_canon _ _ _ (cover0_A_9 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg7.read_unread, flat, slab]
    exact View.canon_unit_zero (by funext a; fin_cases a <;> rfl) _ _
  · refine (View.read_writes_eq_canon _ _ _ (cover0_A_10 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg8.read_unread, flat, slab]
    exact View.canon_unit_zero (by funext a; fin_cases a <;> rfl) _ _

end

/-! The layer, tile by tile. -/

theorem tiles (t : Fin (cfgM m (ok m)).N) (i : Fin 256) (f : Fin 2048) :
    (outsAt0 m (ok m) c t).1 (ix3 0 i f) = rG m c (ix3 0 (rowAt m t i) f) ∧ (outsAt0 m (ok m) c t).2.1 (ix3 0 i f) = rD m c (ix3 0 (rowAt m t i) f)
    ∧ (outsAt0 m (ok m) c t).2.2.1 (ix3 0 i f) = rF m c (ix3 0 (rowAt m t i) f)
    ∧ (outsAt0 m (ok m) c t).2.2.2 (ix3 0 i f) = rS m c (ix3 0 (rowAt m t i) f) := by
  unfold outsAt0
  dsimp only
  exact Stepped.tiles (outs _ _ _ _ _ _ _ _ _ _ _ _ _ _ _ _ _ _ _ _ _ _ _ _ _ _ _ _ _ _ _ _) (rowAt m t) (blk_own m c t) (blk_in m c t)
    (fun i f => (blk_w m c t i f).1) (fun i f => (blk_w m c t i f).2.1) (fun i f => (blk_w m c t i f).2.2) i f

/-- The point that stores a row. -/
def point (i : Fin 1024) : Fin (cfgM m (ok m)).N := ⟨i.val / 256, lt_of_lt_of_eq (by omega) N_0.symm⟩

section
variable (i : Fin 1024) (f : Fin 2048)

theorem arr_7 : (dats m (ok m) 0 c).arrAt 7 (cfgM m (ok m)).N (ix3 1 i f : S2x1024x2048.Idx) = rG m c (ix3 0 i f) :=
  (dats m (ok m) 0 c).arrAt_apply_of_mem 7 (every (rG m c) : Vec Ideal S2x1024x2048 .f32)
    (fun t _ => (congrArg (((cfgM m (ok m)).win 7).cut _) (after0_7 m (ok m) c t)).trans
      (funext fun j => stored 1 (rG m c) _ j _ _ t.val (lt m t) ((idx t).2.2 3) (fun _ => rfl) fun i f => (tiles m c t i f).1))
    _ (point m i) _ (point m i).isLt (flush0_7 _ _) ((congrArg (_ ∈ ·) (View.set_slice_whole main_v5_0 (((cfgM m (ok m)).win 7).rect (point m i)))).mpr
      (Rect.mem_set_unit.mpr (held (T := 256) (by decide) (ix3 1 i f : S2x1024x2048.Idx) 1 rfl _ ((idx (point m i)).2.2 3))))

theorem arr_8 : (dats m (ok m) 0 c).arrAt 8 (cfgM m (ok m)).N (ix3 1 i f : S2x1024x2048.Idx) = rD m c (ix3 0 i f) :=
  (dats m (ok m) 0 c).arrAt_apply_of_mem 8 (every (rD m c) : Vec Ideal S2x1024x2048 .f32)
    (fun t _ => (congrArg (((cfgM m (ok m)).win 8).cut _) (after0_8 m (ok m) c t)).trans
      (funext fun j => stored 1 (rD m c) _ j _ _ t.val (lt m t) ((idx t).2.2 4) (fun _ => rfl) fun i f => (tiles m c t i f).2.1))
    _ (point m i) _ (point m i).isLt (flush0_8 _ _) ((congrArg (_ ∈ ·) (View.set_slice_whole main_v5_1 (((cfgM m (ok m)).win 8).rect (point m i)))).mpr
      (Rect.mem_set_unit.mpr (held (T := 256) (by decide) (ix3 1 i f : S2x1024x2048.Idx) 1 rfl _ ((idx (point m i)).2.2 4))))

theorem arr_9 : (dats m (ok m) 0 c).arrAt 9 (cfgM m (ok m)).N (ix3 1 i f : S2x1024x2048.Idx) = rF m c (ix3 0 i f) :=
  (dats m (ok m) 0 c).arrAt_apply_of_mem 9 (every (rF m c) : Vec Ideal S2x1024x2048 .f32)
    (fun t _ => (congrArg (((cfgM m (ok m)).win 9).cut _) (after0_9 m (ok m) c t)).trans
      (funext fun j => stored 1 (rF m c) _ j _ _ t.val (lt m t) ((idx t).2.2 5) (fun _ => rfl) fun i f => (tiles m c t i f).2.2.1))
    _ (point m i) _ (point m i).isLt (flush0_9 _ _) ((congrArg (_ ∈ ·) (View.set_slice_whole main_v5_2 (((cfgM m (ok m)).win 9).rect (point m i)))).mpr
      (Rect.mem_set_unit.mpr (held (T := 256) (by decide) (ix3 1 i f : S2x1024x2048.Idx) 1 rfl _ ((idx (point m i)).2.2 5))))

theorem arr_10 : (dats m (ok m) 0 c).arrAt 10 (cfgM m (ok m)).N (ix3 1 i f : S2x1024x2048.Idx) = rS m c (ix3 0 i f) :=
  (dats m (ok m) 0 c).arrAt_apply_of_mem 10 (every (rS m c) : Vec Ideal S2x1024x2048 .f32)
    (fun t _ => (congrArg (((cfgM m (ok m)).win 10).cut _) (after0_10 m (ok m) c t)).trans
      (funext fun j => stored 1 (rS m c) _ j _ _ t.val (lt m t) ((idx t).2.2 6) (fun _ => rfl) fun i f => (tiles m c t i f).2.2.2))
    _ (point m i) _ (point m i).isLt (flush0_10 _ _) ((congrArg (_ ∈ ·) (View.set_slice_whole main_v5_3 (((cfgM m (ok m)).win 10).rect (point m i)))).mpr
      (Rect.mem_set_unit.mpr (held (T := 256) (by decide) (ix3 1 i f : S2x1024x2048.Idx) 1 rfl _ ((idx (point m i)).2.2 6))))

end

/-! After the points, the host takes the layer out of each of the four arrays. -/

/-- What the points leave, before the host's last operations. -/
abbrev mid : Valuation τ sig (Elt Ideal) := Pipeline.withArrays (Pipeline.pin pcfgs (fun _ => adm m (ok m)) 0).spec c (V0 m c)
  fun w => (dats m (ok m) 0 c).arrAt w (cfgM m (ok m)).N

theorem mid_arr (w : Fin (cfgM m (ok m)).W) : mid m c (Proc.devRef .tc (Pipeline.arrRef spec0 w)) = (dats m (ok m) 0 c).arrAt w (cfgM m (ok m)).N :=
  Pipeline.withArrays_arr_shared _ c _ _ ((dats m (ok m) 0 c).arrAt_sharedIn sharedIn0 (V0 m c) (A_eq m (ok m) c) _) w

/-- The layer of an array. -/
abbrev taken (B : Vec Ideal S2x1024x2048 .f32) : Vec Ideal S1x1024x2048 .f32 :=
  extractStridedSlice S1x1024x2048 ![1, 0, 0] B slices_S2x1024x2048_S1x1024x2048_1_0_0

theorem taken_eq (B : Vec Ideal S2x1024x2048 .f32) (A : Vec Ideal S1x1024x2048 .f32) (h : ∀ i f, B (ix3 1 i f) = A (ix3 0 i f)) : taken B = A := by
  funext j
  obtain ⟨i, f, rfl⟩ := split j
  refine Eq.trans ?_ (h i f)
  pointwise [taken]

theorem last (W : Valuation τ sig (Elt Ideal)) :
    StableHlo.after hostOps1 W (Proc.devRef .tc main_v6) = taken (W (Proc.devRef .tc main_v5_0))
    ∧ StableHlo.after hostOps1 W (Proc.devRef .tc main_v7) = taken (W (Proc.devRef .tc main_v5_1))
    ∧ StableHlo.after hostOps1 W (Proc.devRef .tc main_v8) = taken (W (Proc.devRef .tc main_v5_2))
    ∧ StableHlo.after hostOps1 W (Proc.devRef .tc main_v9) = taken (W (Proc.devRef .tc main_v5_3)) := by
  refine ⟨?_, ?_, ?_, ?_⟩ <;> after_reads_simp

/-- The kernel's run, each result named. -/
theorem run (g : Dev nD → PrngReg) : θ_run defs (onTc (τ := τ) (main (F := Ideal))) ⟨m, fun _ => 0, g⟩ fun r => ∀ c : Dev nD,
    r.2.mem ((c : Thread nD τ).loc main_v6) = rG m c ∧ r.2.mem ((c : Thread nD τ).loc main_v7) = rD m c
      ∧ r.2.mem ((c : Thread nD τ).loc main_v8) = rF m c ∧ r.2.mem ((c : Thread nD τ).loc main_v9) = rS m c :=
  (θ_run defs _ _).mono (fun _ h c =>
    ⟨((h c).2 main_v6 (by decide : main_v6 ∈ Pipeline.restRefs sig spec0)).trans
        ((last (mid m c)).1.trans (taken_eq _ _ fun i f => (congrFun (mid_arr m c 7) _).trans (arr_7 m c i f))),
      ((h c).2 main_v7 (by decide : main_v7 ∈ Pipeline.restRefs sig spec0)).trans
        ((last (mid m c)).2.1.trans (taken_eq _ _ fun i f => (congrFun (mid_arr m c 8) _).trans (arr_8 m c i f))),
      ((h c).2 main_v8 (by decide : main_v8 ∈ Pipeline.restRefs sig spec0)).trans
        ((last (mid m c)).2.2.1.trans (taken_eq _ _ fun i f => (congrFun (mid_arr m c 9) _).trans (arr_9 m c i f))),
      ((h c).2 main_v9 (by decide : main_v9 ∈ Pipeline.restRefs sig spec0)).trans
        ((last (mid m c)).2.2.2.trans (taken_eq _ _ fun i f => (congrFun (mid_arr m c 10) _).trans (arr_10 m c i f)))⟩) (run_main m g (ok m))

/-! The claims. -/

theorem frame : Cert.quiescent_Kernel22 := fun m g _ => Cert.Kernel22.Gen.frame m g (ok_words m)

theorem frame_ideal : Cert.quiescent_Kernel22Ideal := fun m g _ => Cert.Kernel22Ideal.Gen.frame m g (ok m)

theorem frame_reference : Cert.quiescent_Reference22Ideal := fun m g _ =>
  (θ_run Cert.Reference22Ideal.defs _ _).mono
    (fun r h => ⟨fun c => (h c).2.2.2.2, sem_eq_zero_of_no_sems (by decide) r.2⟩)
    (Cert.Reference22Ideal.Value.run (F := Ideal) m g)

/-- The kernel leaves the layer's gradient, step and two moments, as the reference does. -/
theorem same : Cert.algebraic_Kernel22Ideal_Reference22Ideal := by
  intro m g m' g' _ hargs
  refine ⟨rG m, rD m, rF m, rS m, ?_, ?_⟩
  · exact (θ_run Cert.Kernel22Ideal.defs _ _).mono (fun r h c => ⟨(h.1 c).1, (h.1 c).2.1, (h.1 c).2.2.1, (h.1 c).2.2.2, h.2 c⟩)
      (θ_run_and (run m g) (unchanged m g (ok m)))
  · refine (θ_run Cert.Reference22Ideal.defs _ _).mono (fun r h c => ⟨(h c).1.trans ?_, (h c).2.1.trans ?_, (h c).2.2.1.trans ?_, (h c).2.2.2.1.trans ?_, (h c).2.2.2.2⟩)
      (Cert.Reference22Ideal.Value.run (F := Ideal) m' g')
    all_goals
      obtain ⟨h0, h1, h2, h3, h4⟩ := hargs c
      funext j
      obtain ⟨i, f, rfl⟩ := split j
      pointwise [grad, deltas, firsts, seconds, delta, first, second, layer]
      simp only [h0, h1, h2, h3, h4, Fin.sum_univ_three, ← add_assoc]

end Cert.Tail.Step22

end
-- ==== Proof.Tail.Step23.lean ====
module

public import proofs.«01_k».proof.Proof.Tail.Step22
public import proofs.«01_k».proof.Proof.Gen.Kernel23.Frame
public import proofs.«01_k».proof.Proof.Gen.Kernel23Ideal.Frame
public import proofs.«01_k».proof.Proof.Gen.Reference23Ideal.Run

@[expose] public section

set_option maxRecDepth 16384

noncomputable section

/-! The optimizer's step of the feed-forward block's second weight, at its first layer: the four points store it into arrays that hold
    the last layer's results. -/

namespace Cert.Tail.Step23

open Idealize.ShloMosaic Idealize.ShloMosaic.TcCoe Idealize.ShloMosaic.Tactic Idealize.SL.Sem
open Cert.Ffn Cert.Tail.Adam Cert.Tail.Layer
open Cert.Tail.Tile (row row2)
open Cert.Kernel22Ideal (S1x1024x2048)
open Cert.Kernel23Ideal Cert.Kernel23Ideal.Gen

section
variable {F : FTy → Type} [FloatOps F] (m : (ℓ : Loc nD τ sig) → Buf (Elt F) ℓ)

theorem table : (tbl m 0 : Vec F S2 .i32) = fun _ => 0#32 :=
  have h : V m (0 : Dev nD) main_v3 = concatenate S2 0 [⟨S1, Step22.entry (F := F)⟩, ⟨S1, Step22.entry (F := F)⟩] concatenates_S1_S1_S2_d0 := by
    show StableHlo.after hostOps0 (fun b => m (0, b)) (Proc.devRef .tc main_v3) = _
    after_reads_simp
    rfl
  h.trans (funext fun j => by idx_vars j; pointwise; split_ifs <;> rfl)

theorem coord (i : grid0.Coords) : (i 0).val < 4 := (i 0).isLt

theorem own (i : grid0.Coords) : cc0_transform_0 inb_S2_S1_1 numel1_S1 (tbl m) i = ![(i 0).val, 0] := by
  have hi := coord i
  have h : (tbl m).at 0 (Rect.unit (s := S2) ![1] S1.size inb_S2_S1_1) numel1_S1 = 0#32 := congrFun (table m) _
  unfold cc0_transform_0
  dsimp only
  rw [h, word 4#32 (i 0).val (by omega)]
  rfl

/-- The device's own part is found within its array. -/
theorem ok : Ok m := by
  intro i
  have hi := coord i
  have key : ∀ g : Fin 2 → ℕ, g = ![(i 0).val, 0] → ∃ h : (∀ a, (g a + 1) * S256x2048.size a ≤ S4096x2048.size a),
      EltTy.bits .bf16 = 32 ∨ (Rect.block (s := S4096x2048) S256x2048.size g h).WholeWords (EltTy.packing .bf16) := by
    rintro _ rfl
    exact ⟨fun a => match a with
      | ⟨0, _⟩ => (by omega : ((i 0).val + 1) * 256 ≤ 4096)
      | ⟨1, _⟩ => (by omega : (0 + 1) * 2048 ≤ 2048), .inr (Affine.block_words_dvd (of_decide_eq_true rfl) (by decide))⟩
  exact key _ (own m i)

end

/-- The same of the kernel at its own words. -/
theorem ok_words (m : (ℓ : Loc Cert.Kernel23.nD Cert.Kernel23.τ Cert.Kernel23.sig) → Buf (Elt Bits) ℓ) : Cert.Kernel23.Gen.Ok m :=
  ok (F := Bits) m

/-- Where the other windows are at a point: the three parts that came in, and the first layer of the rest. -/
theorem idx : ∀ t : Fin grid0.N, (grid0.coords t 0).val = t.val
    ∧ (∀ d : Fin 3, (![cc0_transform_1 (grid0.coords t), cc0_transform_2 (grid0.coords t), cc0_transform_3 (grid0.coords t)] : Fin 3 → Fin 3 → ℕ) d
      = ![d.val, t.val, 0])
    ∧ ∀ w : Fin 7, (![cc0_transform_4 (grid0.coords t), cc0_transform_5 (grid0.coords t), cc0_transform_6 (grid0.coords t),
      cc0_transform_11 (grid0.coords t), cc0_transform_12 (grid0.coords t), cc0_transform_13 (grid0.coords t), cc0_transform_14 (grid0.coords t)] :
        Fin 7 → Fin 3 → ℕ) w = ![0, t.val, 0] := by decide +kernel

variable (m : (ℓ : Loc nD τ sig) → Buf (Elt Ideal) ℓ) (c : Dev nD)

theorem lt (t : Fin (cfgM m (ok m)).N) (i : Fin 256) : t.val * 256 + i.val < 1024 := by
  have h : t.val < 4 := lt_of_lt_of_eq t.isLt N_0
  omega

/-- The arguments: the device's own part, the three that came in, the first layer of the weight and of its moments, and the arrays stored into. -/
abbrev aP : Vec Ideal S4x1024x2048 .bf16 := m ((c.tc : Thread nD τ).loc main_arg0)
abbrev aQ : Vec Ideal S3x1024x2048 .bf16 := m ((c.tc : Thread nD τ).loc main_arg1)
abbrev aW : Vec Ideal S1x1024x2048 .f32 := layer (0 : Fin 2) (m ((c.tc : Thread nD τ).loc main_arg2) : Vec Ideal S2x1024x2048 .f32)
abbrev aM : Vec Ideal S1x1024x2048 .f32 := layer (0 : Fin 2) (m ((c.tc : Thread nD τ).loc main_arg3) : Vec Ideal S2x1024x2048 .f32)
abbrev aV : Vec Ideal S1x1024x2048 .f32 := layer (0 : Fin 2) (m ((c.tc : Thread nD τ).loc main_arg4) : Vec Ideal S2x1024x2048 .f32)
abbrev bG : Vec Ideal S2x1024x2048 .f32 := m ((c.tc : Thread nD τ).loc main_arg5)
abbrev bD : Vec Ideal S2x1024x2048 .f32 := m ((c.tc : Thread nD τ).loc main_arg6)
abbrev bF : Vec Ideal S2x1024x2048 .f32 := m ((c.tc : Thread nD τ).loc main_arg7)
abbrev bS : Vec Ideal S2x1024x2048 .f32 := m ((c.tc : Thread nD τ).loc main_arg8)

/-- The results: the first layer stored, the last as given. -/
abbrev rG : Vec Ideal S1x1024x2048 .f32 := grad (aP m c) (aQ m c)
abbrev rD : Vec Ideal S1x1024x2048 .f32 := deltas (aP m c) (aQ m c) (aW m c) (aM m c) (aV m c)
abbrev rF : Vec Ideal S1x1024x2048 .f32 := firsts (aP m c) (aQ m c) (aM m c)
abbrev rS : Vec Ideal S1x1024x2048 .f32 := seconds (aP m c) (aQ m c) (aV m c)
abbrev wG : Vec Ideal S2x1024x2048 .f32 := put (0 : Fin 2) (rG m c) (bG m c)
abbrev wD : Vec Ideal S2x1024x2048 .f32 := put (0 : Fin 2) (rD m c) (bD m c)
abbrev wF : Vec Ideal S2x1024x2048 .f32 := put (0 : Fin 2) (rF m c) (bF m c)
abbrev wS : Vec Ideal S2x1024x2048 .f32 := put (0 : Fin 2) (rS m c) (bS m c)

/-- What the host does before the points: the parts laid end to end, and the arrays that are stored into. -/
theorem before : V m c main_v4 = shapeCast S4096x2048 (aP m c) shapeCasts_S4x1024x2048_S4096x2048
    ∧ V m c main_v5_0 = bG m c ∧ V m c main_v5_1 = bD m c ∧ V m c main_v5_2 = bF m c ∧ V m c main_v5_3 = bS m c := by
  refine ⟨?_, ?_, ?_, ?_, ?_⟩
  · show StableHlo.after hostOps0 (fun b => m (c, b)) (Proc.devRef .tc main_v4) = _
    after_reads_simp; rfl
  · show StableHlo.after hostOps0 (fun b => m (c, b)) (Proc.devRef .tc main_v5_0) = _
    after_reads_simp; rfl
  · show StableHlo.after hostOps0 (fun b => m (c, b)) (Proc.devRef .tc main_v5_1) = _
    after_reads_simp; rfl
  · show StableHlo.after hostOps0 (fun b => m (c, b)) (Proc.devRef .tc main_v5_2) = _
    after_reads_simp; rfl
  · show StableHlo.after hostOps0 (fun b => m (c, b)) (Proc.devRef .tc main_v5_3) = _
    after_reads_simp; rfl

/-! The blocks of a point. -/

section
variable (t : Fin (cfgM m (ok m)).N)

/-- The array's row for a tile's. -/
abbrev rowAt (i : Fin 256) : Fin 1024 := ⟨t.val * 256 + i.val, lt m t i⟩

theorem blk_own (i : Fin 256) (f : Fin 2048) : (iblk m (ok m) c 0 t : Vec Ideal S256x2048 .bf16) (ix2 i f) = aP m c (ix3 0 (rowAt m t i) f) :=
  (row2 (V m c main_v4 : Vec Ideal S4096x2048 .bf16) _ _ t.val i.val f (lt_trans (lt m t i) (by decide))
      ((own m (grid0.coords t)).trans (congrArg (fun k => (![k, 0] : Fin 2 → ℕ)) (idx t).1)) rfl rfl).trans
    ((congrFun (before m c).1 _).trans (Step22.joined (aP m c) (rowAt m t i) f))

theorem blk_in (d : Fin 3) (i : Fin 256) (f : Fin 2048) :
    (![(iblk m (ok m) c 1 t : Vec Ideal S1x256x2048 .bf16) (ix3 0 i f), (iblk m (ok m) c 2 t : Vec Ideal S1x256x2048 .bf16) (ix3 0 i f),
      (iblk m (ok m) c 3 t : Vec Ideal S1x256x2048 .bf16) (ix3 0 i f)] : Fin 3 → EReal) d = aQ m c (ix3 d (rowAt m t i) f) := by
  have h := (idx t).2.1
  fin_cases d <;> exact (congrFun (V_main_arg1 m c) _).trans (row (aQ m c) _ _ _ t.val i.val f (lt m t i) (h _) rfl rfl rfl)

/-- The first layer of the weight and its two moments. -/
theorem blk_w (i : Fin 256) (f : Fin 2048) :
    (iblk m (ok m) c 4 t : Vec Ideal S1x256x2048 .f32) (ix3 0 i f) = aW m c (ix3 0 (rowAt m t i) f)
    ∧ (iblk m (ok m) c 5 t : Vec Ideal S1x256x2048 .f32) (ix3 0 i f) = aM m c (ix3 0 (rowAt m t i) f)
    ∧ (iblk m (ok m) c 6 t : Vec Ideal S1x256x2048 .f32) (ix3 0 i f) = aV m c (ix3 0 (rowAt m t i) f) :=
  ⟨(congrFun (V_main_arg2 m c) _).trans
      (row (m ((c.tc : Thread nD τ).loc main_arg2) : Vec Ideal S2x1024x2048 .f32) _ _ 0 t.val i.val f (lt m t i) ((idx t).2.2 0) rfl rfl rfl),
    (congrFun (V_main_arg3 m c) _).trans
      (row (m ((c.tc : Thread nD τ).loc main_arg3) : Vec Ideal S2x1024x2048 .f32) _ _ 0 t.val i.val f (lt m t i) ((idx t).2.2 1) rfl rfl rfl),
    (congrFun (V_main_arg4 m c) _).trans
      (row (m ((c.tc : Thread nD τ).loc main_arg4) : Vec Ideal S2x1024x2048 .f32) _ _ 0 t.val i.val f (lt m t i) ((idx t).2.2 2) rfl rfl rfl)⟩

end

/-! What is stored from a point's blocks. -/

section
variable (x0 : Vec Ideal S256x2048 .bf16) (x1 x2 x3 : Vec Ideal S1x256x2048 .bf16) (x4 x5 x6 : Vec Ideal S1x256x2048 .f32)
  (i : grid0.Coords) (arg2 : Memref sig .tc .vmem S256x2048 .bf16) (harg2 : arg2.IsWhole) (arg3 : Memref sig .tc .vmem S1x256x2048 .bf16)
  (harg3 : arg3.IsWhole) (arg4 : Memref sig .tc .vmem S1x256x2048 .bf16) (harg4 : arg4.IsWhole) (arg5 : Memref sig .tc .vmem S1x256x2048 .bf16)
  (harg5 : arg5.IsWhole) (arg6 : Memref sig .tc .vmem S1x256x2048 .f32) (harg6 : arg6.IsWhole) (arg7 : Memref sig .tc .vmem S1x256x2048 .f32)
  (harg7 : arg7.IsWhole) (arg8 : Memref sig .tc .vmem S1x256x2048 .f32) (harg8 : arg8.IsWhole) (arg13 : Memref sig .tc .vmem S1x256x2048 .f32)
  (harg13 : arg13.IsWhole) (arg14 : Memref sig .tc .vmem S1x256x2048 .f32) (harg14 : arg14.IsWhole) (arg15 : Memref sig .tc .vmem S1x256x2048 .f32)
  (harg15 : arg15.IsWhole) (arg16 : Memref sig .tc .vmem S1x256x2048 .f32) (harg16 : arg16.IsWhole) (xt : TbBuf0 (F := Ideal) c tbM0_0)

/-- What the body leaves in its four results. -/
theorem outs : Stepped x0 x1 x2 x3 x4 x5 x6
    (out0_A_7 (F := Ideal) c i arg2 harg2 arg3 harg3 arg4 harg4 arg5 harg5 arg6 harg6 arg7 harg7 arg8 harg8 arg13 harg13 arg14 harg14 arg15 harg15 arg16 harg16 x0 x1 x2 x3 x4 x5 x6 xt)
    (out0_A_8 (F := Ideal) c i arg2 harg2 arg3 harg3 arg4 harg4 arg5 harg5 arg6 harg6 arg7 harg7 arg8 harg8 arg13 harg13 arg14 harg14 arg15 harg15 arg16 harg16 x0 x1 x2 x3 x4 x5 x6 xt)
    (out0_A_9 (F := Ideal) c i arg2 harg2 arg3 harg3 arg4 harg4 arg5 harg5 arg6 harg6 arg7 harg7 arg8 harg8 arg13 harg13 arg14 harg14 arg15 harg15 arg16 harg16 x0 x1 x2 x3 x4 x5 x6 xt)
    (out0_A_10 (F := Ideal) c i arg2 harg2 arg3 harg3 arg4 harg4 arg5 harg5 arg6 harg6 arg7 harg7 arg8 harg8 arg13 harg13 arg14 harg14 arg15 harg15 arg16 harg16 x0 x1 x2 x3 x4 x5 x6 xt) := by
  have flat (v : Vec Ideal S256x2048 .bf16) : View.ld v (Rect.unit ![0, 0] ![256, 2048] inb_S256x2048_S256x2048_0_0) = v :=
    View.ld_unit_zero (by funext a; fin_cases a <;> rfl) _ v
  have slab {e : EltTy} (v : Vec Ideal S1x256x2048 e) : View.ld v (Rect.unit ![0, 0, 0] ![1, 256, 2048] inb_S1x256x2048_S1x256x2048_0_0_0) = v :=
    View.ld_unit_zero (by funext a; fin_cases a <;> rfl) _ v
  convert Step22.pay x0 x1 x2 x3 x4 x5 x6 using 1
  · refine (View.read_writes_eq_canon _ _ _ (cover0_A_7 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, flat, slab]
    exact View.canon_unit_zero (by funext a; fin_cases a <;> rfl) _ _
  · refine (View.read_writes_eq_canon _ _ _ (cover0_A_8 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg6.read_unread, harg7.read_unread,
      harg8.read_unread, flat, slab]
    exact View.canon_unit_zero (by funext a; fin_cases a <;> rfl) _ _
  · refine (View.read_writes_eq_canon _ _ _ (cover0_A_9 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg7.read_unread, flat, slab]
    exact View.canon_unit_zero (by funext a; fin_cases a <;> rfl) _ _
  · refine (View.read_writes_eq_canon _ _ _ (cover0_A_10 (F := Ideal) _ _ _ _ _ _ _ _ _ _ _ _ _ _ _ _ _ _ _ _ _ _ _ _ _ _ _ _ _ _ _ _)).trans ?_
    unfold kernelRun0_A
    dsimp only
    sl_unfold_words
    simp only [View.readAt_eq_ld, harg2.read_unread, harg3.read_unread, harg4.read_unread, harg5.read_unread, harg8.read_unread, flat, slab]
    exact View.canon_unit_zero (by funext a; fin_cases a <;> rfl) _ _

end

/-! The arrays: the first layer tile by tile, the last as it was. -/

theorem tiles (t : Fin (cfgM m (ok m)).N) (i : Fin 256) (f : Fin 2048) :
    (outsAt0 m (ok m) c t).1 (ix3 0 i f) = rG m c (ix3 0 (rowAt m t i) f) ∧ (outsAt0 m (ok m) c t).2.1 (ix3 0 i f) = rD m c (ix3 0 (rowAt m t i) f)
    ∧ (outsAt0 m (ok m) c t).2.2.1 (ix3 0 i f) = rF m c (ix3 0 (rowAt m t i) f)
    ∧ (outsAt0 m (ok m) c t).2.2.2 (ix3 0 i f) = rS m c (ix3 0 (rowAt m t i) f) := by
  unfold outsAt0
  dsimp only
  exact Stepped.tiles (outs _ _ _ _ _ _ _ _ _ _ _ _ _ _ _ _ _ _ _ _ _ _ _ _ _ _ _ _ _ _ _ _) (rowAt m t) (blk_own m c t) (blk_in m c t)
    (fun i f => (blk_w m c t i f).1) (fun i f => (blk_w m c t i f).2.1) (fun i f => (blk_w m c t i f).2.2) i f

/-- The point that stores an entry of the first layer. -/
def point (i : S2x1024x2048.Idx) : Fin (cfgM m (ok m)).N :=
  ⟨(i 1).val / 256, lt_of_lt_of_eq (by have h : (i 1).val < 1024 := (i 1).isLt; omega) N_0.symm⟩

theorem arr_7 : (dats m (ok m) 0 c).arrAt 7 (cfgM m (ok m)).N = wG m c := by
  funext i
  refine ((dats m (ok m) 0 c).arrAt_eq_piecewise 7 (every (rG m c) : Vec Ideal S2x1024x2048 .f32)
    (fun t _ => (congrArg (((cfgM m (ok m)).win 7).cut _) (after0_7 m (ok m) c t)).trans
      (funext fun j => stored 0 (rG m c) _ j _ _ t.val (lt m t) ((idx t).2.2 3) (fun _ => rfl) fun i f => (tiles m c t i f).1)) i).trans
    (if_congr ⟨fun ⟨t, _, h⟩ => ?_, fun h => ⟨point m i, flush0_7 _ _, ?_⟩⟩ rfl (congrFun ((A_eq m (ok m) c 7).trans (before m c).2.1) i))
  · exact only (T := 256) i 0 t.val _ ((idx t).2.2 3)
      (Rect.mem_set_unit.mp ((congrArg (i ∈ ·) (View.set_slice_whole main_v5_0 (((cfgM m (ok m)).win 7).rect t))).mp h))
  · exact (congrArg (i ∈ ·) (View.set_slice_whole main_v5_0 (((cfgM m (ok m)).win 7).rect (point m i)))).mpr
      (Rect.mem_set_unit.mpr (held (T := 256) (by decide) i 0 h _ ((idx (point m i)).2.2 3)))

theorem arr_8 : (dats m (ok m) 0 c).arrAt 8 (cfgM m (ok m)).N = wD m c := by
  funext i
  refine ((dats m (ok m) 0 c).arrAt_eq_piecewise 8 (every (rD m c) : Vec Ideal S2x1024x2048 .f32)
    (fun t _ => (congrArg (((cfgM m (ok m)).win 8).cut _) (after0_8 m (ok m) c t)).trans
      (funext fun j => stored 0 (rD m c) _ j _ _ t.val (lt m t) ((idx t).2.2 4) (fun _ => rfl) fun i f => (tiles m c t i f).2.1)) i).trans
    (if_congr ⟨fun ⟨t, _, h⟩ => ?_, fun h => ⟨point m i, flush0_8 _ _, ?_⟩⟩ rfl (congrFun ((A_eq m (ok m) c 8).trans (before m c).2.2.1) i))
  · exact only (T := 256) i 0 t.val _ ((idx t).2.2 4)
      (Rect.mem_set_unit.mp ((congrArg (i ∈ ·) (View.set_slice_whole main_v5_1 (((cfgM m (ok m)).win 8).rect t))).mp h))
  · exact (congrArg (i ∈ ·) (View.set_slice_whole main_v5_1 (((cfgM m (ok m)).win 8).rect (point m i)))).mpr
      (Rect.mem_set_unit.mpr (held (T := 256) (by decide) i 0 h _ ((idx (point m i)).2.2 4)))

theorem arr_9 : (dats m (ok m) 0 c).arrAt 9 (cfgM m (ok m)).N = wF m c := by
  funext i
  refine ((dats m (ok m) 0 c).arrAt_eq_piecewise 9 (every (rF m c) : Vec Ideal S2x1024x2048 .f32)
    (fun t _ => (congrArg (((cfgM m (ok m)).win 9).cut _) (after0_9 m (ok m) c t)).trans
      (funext fun j => stored 0 (rF m c) _ j _ _ t.val (lt m t) ((idx t).2.2 5) (fun _ => rfl) fun i f => (tiles m c t i f).2.2.1)) i).trans
    (if_congr ⟨fun ⟨t, _, h⟩ => ?_, fun h => ⟨point m i, flush0_9 _ _, ?_⟩⟩ rfl (congrFun ((A_eq m (ok m) c 9).trans (before m c).2.2.2.1) i))
  · exact only (T := 256) i 0 t.val _ ((idx t).2.2 5)
      (Rect.mem_set_unit.mp ((congrArg (i ∈ ·) (View.set_slice_whole main_v5_2 (((cfgM m (ok m)).win 9).rect t))).mp h))
  · exact (congrArg (i ∈ ·) (View.set_slice_whole main_v5_2 (((cfgM m (ok m)).win 9).rect (point m i)))).mpr
      (Rect.mem_set_unit.mpr (held (T := 256) (by decide) i 0 h _ ((idx (point m i)).2.2 5)))

theorem arr_10 : (dats m (ok m) 0 c).arrAt 10 (cfgM m (ok m)).N = wS m c := by
  funext i
  refine ((dats m (ok m) 0 c).arrAt_eq_piecewise 10 (every (rS m c) : Vec Ideal S2x1024x2048 .f32)
    (fun t _ => (congrArg (((cfgM m (ok m)).win 10).cut _) (after0_10 m (ok m) c t)).trans
      (funext fun j => stored 0 (rS m c) _ j _ _ t.val (lt m t) ((idx t).2.2 6) (fun _ => rfl) fun i f => (tiles m c t i f).2.2.2)) i).trans
    (if_congr ⟨fun ⟨t, _, h⟩ => ?_, fun h => ⟨point m i, flush0_10 _ _, ?_⟩⟩ rfl (congrFun ((A_eq m (ok m) c 10).trans (before m c).2.2.2.2) i))
  · exact only (T := 256) i 0 t.val _ ((idx t).2.2 6)
      (Rect.mem_set_unit.mp ((congrArg (i ∈ ·) (View.set_slice_whole main_v5_3 (((cfgM m (ok m)).win 10).rect t))).mp h))
  · exact (congrArg (i ∈ ·) (View.set_slice_whole main_v5_3 (((cfgM m (ok m)).win 10).rect (point m i)))).mpr
      (Rect.mem_set_unit.mpr (held (T := 256) (by decide) i 0 h _ ((idx (point m i)).2.2 6)))

/-- The kernel's run, each array named. -/
theorem run (g : Dev nD → PrngReg) : θ_run defs (onTc (τ := τ) (main (F := Ideal))) ⟨m, fun _ => 0, g⟩ fun r => ∀ c : Dev nD,
    r.2.mem ((c : Thread nD τ).loc main_v5_0) = wG m c ∧ r.2.mem ((c : Thread nD τ).loc main_v5_1) = wD m c
      ∧ r.2.mem ((c : Thread nD τ).loc main_v5_2) = wF m c ∧ r.2.mem ((c : Thread nD τ).loc main_v5_3) = wS m c :=
  (θ_run defs _ _).mono (fun _ h c => ⟨((h c).1 7).trans (arr_7 m c), ((h c).1 8).trans (arr_8 m c), ((h c).1 9).trans (arr_9 m c),
    ((h c).1 10).trans (arr_10 m c)⟩) (run_main m g (ok m))

/-! The claims. -/

theorem frame : Cert.quiescent_Kernel23 := fun m g _ => Cert.Kernel23.Gen.frame m g (ok_words m)

theorem frame_ideal : Cert.quiescent_Kernel23Ideal := fun m g _ => Cert.Kernel23Ideal.Gen.frame m g (ok m)

theorem frame_reference : Cert.quiescent_Reference23Ideal := fun m g _ =>
  (θ_run Cert.Reference23Ideal.defs _ _).mono
    (fun r h => ⟨fun c => (h c).2.2.2.2, sem_eq_zero_of_no_sems (by decide) r.2⟩)
    (Cert.Reference23Ideal.Value.run (F := Ideal) m g)

/-- The kernel leaves the first layer's gradient, step and two moments, and the last layer as given, as the reference does. -/
theorem same : Cert.algebraic_Kernel23Ideal_Reference23Ideal := by
  intro m g m' g' _ hargs
  refine ⟨wG m, wD m, wF m, wS m, ?_, ?_⟩
  · exact (θ_run Cert.Kernel23Ideal.defs _ _).mono (fun r h c => ⟨(h.1 c).1, (h.1 c).2.1, (h.1 c).2.2.1, (h.1 c).2.2.2, h.2 c⟩)
      (θ_run_and (run m g) (unchanged m g (ok m)))
  · refine (θ_run Cert.Reference23Ideal.defs _ _).mono (fun r h c => ⟨(h c).1.trans ?_, (h c).2.1.trans ?_, (h c).2.2.1.trans ?_, (h c).2.2.2.1.trans ?_, (h c).2.2.2.2⟩)
      (Cert.Reference23Ideal.Value.run (F := Ideal) m' g')
    all_goals
      obtain ⟨h0, h1, h2, h3, h4, h5, h6, h7, h8⟩ := hargs c
      funext j
      idx_vars j
      pointwise [put, every, grad, deltas, firsts, seconds, delta, first, second, layer]
      simp only [h0, h1, h2, h3, h4, h5, h6, h7, h8, Fin.sum_univ_three, ← add_assoc]
      by_cases hj : j0.val = 0
      · obtain rfl : j0 = 0 := Fin.ext hj
        rfl
      · obtain rfl : j0 = 1 := Fin.ext (by omega)
        rfl

end Cert.Tail.Step23

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel10Ideal.Value
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel15Ideal.Value
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel16Ideal.Value
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Delta.KernelArr
public import proofs.«01_k».proof.Proof.Delta.RefRun
public import proofs.«01_k».proof.Proof.Delta.Finite
public import proofs.«01_k».proof.Proof.Ffn.Run
public import proofs.«01_k».proof.Proof.Ffn.Ref
public import proofs.«01_k».proof.Proof.Ffn.UpDx
public import proofs.«01_k».proof.Proof.Ffn.Down
public import proofs.«01_k».proof.Proof.Ffn.Norm
public import proofs.«01_k».proof.Proof.Mat.Claims
public import proofs.«01_k».proof.Proof.Tail.Claims
public import proofs.«01_k».proof.Proof.Tail.Step17
public import proofs.«01_k».proof.Proof.Tail.Step18
public import proofs.«01_k».proof.Proof.Tail.Step19
public import proofs.«01_k».proof.Proof.Tail.Step20
public import proofs.«01_k».proof.Proof.Tail.Step21
public import proofs.«01_k».proof.Proof.Tail.Step22
public import proofs.«01_k».proof.Proof.Tail.Step23
public import Idealize.ShloMosaic.Lib.Quiescent

@[expose] public section

noncomputable section

/-! The claims, put together: the frames are the generated runs', and the values of both programs are the arrays
`Cert.Delta.Args.gX` and `Cert.Delta.Args.gB` of the real arrays behind the arguments. -/

namespace Cert.Proof

open Idealize.ShloMosaic Idealize.SL.Sem

/-- The reference runs, leaves its arguments alone and declares no semaphore. -/
theorem reference_frame : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- Under the precondition the kernel and the reference end with the same two arrays. -/
theorem same : Cert.algebraic_KernelIdeal_ReferenceIdeal_pre_finite := by
  intro m g m' g' hpre hargs
  have hA : ∀ c : Dev Cert.KernelIdeal.nD, ∃ A : Cert.Delta.Args, Cert.Delta.Holds m c A := fun c => by
    obtain ⟨A, h0, h1, h2, h3, h4⟩ := Cert.Delta.Finite.args (hpre c)
    exact ⟨A, ⟨h0, h1, h2, h3, h4⟩⟩
  choose A hH using hA
  have hG : ∀ c : Dev Cert.ReferenceIdeal.nD, Cert.Delta.Ref.Given m' c (A c) := fun c =>
    ⟨(hargs c).1.trans (hH c).h0, (hargs c).2.1.trans (hH c).h1, (hargs c).2.2.1.trans (hH c).h2,
      (hargs c).2.2.2.1.trans (hH c).h3, (hargs c).2.2.2.2.trans (hH c).h4⟩
  refine ⟨fun c => Cert.Delta.up2 (A c).gX, fun c => Cert.Delta.up2 (A c).gB, ?_, ?_⟩
  · exact (θ_run Cert.KernelIdeal.defs _ _).mono
      (fun r h c => ⟨(h c).1.trans (Cert.Delta.arr_7 (hH c)), (h c).2.1.trans (Cert.Delta.arr_8 (hH c)), (h c).2.2⟩)
      (Cert.KernelIdeal.Value.run_blocks (F := Ideal) m g)
  · exact (θ_run Cert.ReferenceIdeal.defs _ _).mono
      (fun r h c => ⟨(h c).1.trans (Cert.Delta.Ref.result_7 (hG c)), (h c).2.1.trans (Cert.Delta.Ref.result_8 (hG c)), (h c).2.2⟩)
      (Cert.ReferenceIdeal.Value.run (F := Ideal) m' g')

/-- The feed-forward reference runs, leaves its arguments alone and declares no semaphore. -/
theorem reference2_frame : Cert.quiescent_Reference2Ideal := fun m g _ =>
  (θ_run Cert.Reference2Ideal.defs _ _).mono
    (fun r h => ⟨fun c => (h c).2.2, sem_eq_zero_of_no_sems (by decide) r.2⟩)
    (Cert.Reference2Ideal.Value.run (F := Ideal) m g)

/-- The five feed-forward calls and their reference end with the same two gradients, whatever the arguments. -/
theorem same2 : Cert.algebraic_Kernel2Ideal_Reference2Ideal := by
  intro m g m' g' _ hargs
  refine ⟨fun c => Cert.Ffn.gUp m c, fun c => Cert.Ffn.gDown m c, ?_, ?_⟩
  · exact (θ_run Cert.Kernel2Ideal.defs _ _).mono
      (fun r h c => ⟨(h c).1.trans (Cert.Ffn.end_v7 m g c), (h c).2.1.trans (Cert.Ffn.end_v8 m g c), (h c).2.2⟩)
      (Cert.Ffn.run (F := Ideal) m g)
  · exact (θ_run Cert.Reference2Ideal.defs _ _).mono
      (fun r h c => ⟨(h c).1.trans (Cert.Ffn.Ref.out_up _ _ _ _ _ m' c (hargs c).1 (hargs c).2.1 (hargs c).2.2.1
          (hargs c).2.2.2.1 (hargs c).2.2.2.2),
        (h c).2.1.trans (Cert.Ffn.Ref.out_down _ _ _ _ m' c (hargs c).1 (hargs c).2.1 (hargs c).2.2.1
          (hargs c).2.2.2.2 _ rfl), (h c).2.2⟩)
      (Cert.Reference2Ideal.Value.run (F := Ideal) m' g')

/-- The three further references run, leave their arguments alone and declare no semaphore. -/
theorem reference3_frame : Cert.quiescent_Reference3Ideal := fun m g _ =>
  (θ_run Cert.Reference3Ideal.defs _ _).mono
    (fun r h => ⟨fun c => (h c).2, sem_eq_zero_of_no_sems (by decide) r.2⟩)
    (Cert.Reference3Ideal.Value.run (F := Ideal) m g)

theorem reference4_frame : Cert.quiescent_Reference4Ideal := fun m g _ =>
  (θ_run Cert.Reference4Ideal.defs _ _).mono
    (fun r h => ⟨fun c => (h c).2, sem_eq_zero_of_no_sems (by decide) r.2⟩)
    (Cert.Reference4Ideal.Value.run (F := Ideal) m g)

theorem reference5_frame : Cert.quiescent_Reference5Ideal := fun m g _ =>
  (θ_run Cert.Reference5Ideal.defs _ _).mono
    (fun r h => ⟨fun c => (h c).2.2.2.2, sem_eq_zero_of_no_sems (by decide) r.2⟩)
    (Cert.Reference5Ideal.Value.run (F := Ideal) m g)

/-- The product by the transposed up weights and its reference end with the same array, whatever the arguments. -/
theorem same3 : Cert.algebraic_Kernel3Ideal_Reference3Ideal := by
  intro m g m' g' _ hargs
  refine ⟨fun c => Cert.Ffn.UpDx.prod (Cert.Ffn.UpDx.aD m c) (Cert.Ffn.UpDx.whole (Cert.Ffn.UpDx.aUp m c)), ?_, ?_⟩
  · exact (θ_run Cert.Kernel3Ideal.defs _ _).mono
      (fun r h c => ⟨(h c).1.trans (Cert.Ffn.UpDx.arr m c), (h c).2⟩)
      (Cert.Kernel3Ideal.Value.run_blocks (F := Ideal) m g)
  · exact (θ_run Cert.Reference3Ideal.defs _ _).mono
      (fun r h c => ⟨(h c).1.trans (Cert.Ffn.UpDx.out m' c _ _ (hargs c).1 (hargs c).2), (h c).2⟩)
      (Cert.Reference3Ideal.Value.run (F := Ideal) m' g')

/-- The product by the down weights, its rows added, and its reference end with the same array, whatever the arguments. -/
theorem same4 : Cert.algebraic_Kernel4Ideal_Reference4Ideal := by
  intro m g m' g' _ hargs
  refine ⟨fun c => Cert.Ffn.Down.prod (Cert.Ffn.Down.aA m c) (Cert.Ffn.Down.whole (Cert.Ffn.Down.aDown m c)) (Cert.Ffn.Down.aX m c), ?_, ?_⟩
  · exact (θ_run Cert.Kernel4Ideal.defs _ _).mono
      (fun r h c => ⟨(h c).1.trans (Cert.Ffn.Down.arr m c), (h c).2⟩)
      (Cert.Kernel4Ideal.Value.run_blocks (F := Ideal) m g)
  · exact (θ_run Cert.Reference4Ideal.defs _ _).mono
      (fun r h c => ⟨(h c).1.trans (Cert.Ffn.Down.out m' c _ _ _ (hargs c).1 (hargs c).2.1 (hargs c).2.2), (h c).2⟩)
      (Cert.Reference4Ideal.Value.run (F := Ideal) m' g')

/-- The normalization's gradient and its reference end with the same four arrays, whatever the arguments. -/
theorem same5 : Cert.algebraic_Kernel5Ideal_Reference5Ideal := by
  intro m g m' g' _ hargs
  refine ⟨fun c => Cert.Ffn.Norm.dx (Cert.Ffn.Norm.aX m c) (Cert.Ffn.Norm.aG m c) (Cert.Ffn.Norm.aH m c) (Cert.Ffn.Norm.aY m c),
    fun c => Cert.Ffn.Norm.dx (Cert.Ffn.Norm.aX m c) (Cert.Ffn.Norm.aG m c) (Cert.Ffn.Norm.aH m c) (Cert.Ffn.Norm.aY m c),
    fun c => Cert.Ffn.Norm.dg (Cert.Ffn.Norm.aX m c) (Cert.Ffn.Norm.aH m c),
    fun c => Cert.Ffn.Norm.colSum (Cert.Ffn.Norm.dx (Cert.Ffn.Norm.aX m c) (Cert.Ffn.Norm.aG m c) (Cert.Ffn.Norm.aH m c) (Cert.Ffn.Norm.aY m c)),
    ?_, ?_⟩
  · exact (θ_run Cert.Kernel5Ideal.defs _ _).mono
      (fun r h c => ⟨(h c).1.trans (Cert.Ffn.Norm.arr_4 m c), (h c).2.1.trans (Cert.Ffn.Norm.arr_5 m c),
        (h c).2.2.1.trans (Cert.Ffn.Norm.arr_6 m c), (h c).2.2.2.1.trans (Cert.Ffn.Norm.arr_7 m c), (h c).2.2.2.2⟩)
      (Cert.Kernel5Ideal.Value.run_blocks (F := Ideal) m g)
  · exact (θ_run Cert.Reference5Ideal.defs _ _).mono
      (fun r h c => ⟨(h c).1.trans (Cert.Ffn.Norm.out_dx m' c (hargs c).1 (hargs c).2.1 (hargs c).2.2.1 (hargs c).2.2.2),
        (h c).2.1.trans (Cert.Ffn.Norm.out_cast m' c (hargs c).1 (hargs c).2.1 (hargs c).2.2.1 (hargs c).2.2.2),
        (h c).2.2.1.trans (Cert.Ffn.Norm.out_dg m' c (hargs c).1 (hargs c).2.2.1),
        (h c).2.2.2.1.trans (Cert.Ffn.Norm.out_sum m' c (hargs c).1 (hargs c).2.1 (hargs c).2.2.1 (hargs c).2.2.2), (h c).2.2.2.2⟩)
      (Cert.Reference5Ideal.Value.run (F := Ideal) m' g')

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, Cert.Mat.reference6_frame,
    fun m ρ _ => Cert.Kernel7.Gen.frame m ρ, fun m ρ _ => Cert.Kernel7Ideal.Gen.frame m ρ, Cert.Mat.reference7_frame,
    fun m ρ _ => Cert.Kernel8.Gen.frame m ρ, fun m ρ _ => Cert.Kernel8Ideal.Gen.frame m ρ, Cert.Mat.reference8_frame,
    fun m ρ _ => Cert.Kernel9.Gen.frame m ρ, fun m ρ _ => Cert.Kernel9Ideal.Gen.frame m ρ, Cert.Mat.reference9_frame,
    fun m ρ _ => Cert.Kernel10.Gen.frame m ρ, fun m ρ _ => Cert.Kernel10Ideal.Gen.frame m ρ, Cert.Mat.reference10_frame,
    fun m ρ _ => Cert.Kernel11.Gen.frame m ρ, fun m ρ _ => Cert.Kernel11Ideal.Gen.frame m ρ, Cert.Mat.reference11_frame,
    fun m ρ _ => Cert.Kernel12.Gen.frame m ρ, fun m ρ _ => Cert.Kernel12Ideal.Gen.frame m ρ, Cert.Mat.reference12_frame,
    fun m ρ _ => Cert.Kernel13.Gen.frame m ρ, fun m ρ _ => Cert.Kernel13Ideal.Gen.frame m ρ, Cert.Tail.reference13_frame,
    fun m ρ _ => Cert.Kernel14.Gen.frame m ρ, fun m ρ _ => Cert.Kernel14Ideal.Gen.frame m ρ, Cert.Tail.reference14_frame,
    fun m ρ _ => Cert.Kernel15.Gen.frame m ρ, fun m ρ _ => Cert.Kernel15Ideal.Gen.frame m ρ, Cert.Tail.reference15_frame,
    fun m ρ _ => Cert.Kernel16.Gen.frame m ρ, fun m ρ _ => Cert.Kernel16Ideal.Gen.frame m ρ, Cert.Tail.reference16_frame,
    Cert.Tail.Step17.frame, Cert.Tail.Step17.frame_ideal, Cert.Tail.Step17.frame_reference,
    Cert.Tail.Step18.frame, Cert.Tail.Step18.frame_ideal, Cert.Tail.Step18.frame_reference,
    Cert.Tail.Step19.frame, Cert.Tail.Step19.frame_ideal, Cert.Tail.Step19.frame_reference,
    Cert.Tail.Step20.frame, Cert.Tail.Step20.frame_ideal, Cert.Tail.Step20.frame_reference,
    Cert.Tail.Step21.frame, Cert.Tail.Step21.frame_ideal, Cert.Tail.Step21.frame_reference,
    Cert.Tail.Step22.frame, Cert.Tail.Step22.frame_ideal, Cert.Tail.Step22.frame_reference,
    Cert.Tail.Step23.frame, Cert.Tail.Step23.frame_ideal, Cert.Tail.Step23.frame_reference,
    trivial, same, trivial, same2, trivial, same3, trivial, same4, trivial, same5,
    trivial, Cert.Mat.same6, trivial, Cert.Mat.same7, trivial, Cert.Mat.same8, trivial, Cert.Mat.same9, trivial, Cert.Mat.same10, trivial, Cert.Mat.same11, trivial, Cert.Mat.same12,
    trivial, Cert.Tail.same13, trivial, Cert.Tail.same14, trivial, Cert.Tail.same15, trivial, Cert.Tail.same16,
    trivial, Cert.Tail.Step17.same, trivial, Cert.Tail.Step18.same, trivial, Cert.Tail.Step19.same,
    trivial, Cert.Tail.Step20.same, trivial, Cert.Tail.Step21.same,
    trivial, Cert.Tail.Step22.same, trivial, Cert.Tail.Step23.same⟩

end Cert.Proof

end
